-- ==== Defs.lean ====
def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_finite [hPre_ln_finite : Cert.Pre_ln_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_finite [hPre_ln_finite : Cert.Pre_ln_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2.1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_ConvActBwd (m : (ℓ : Loc Cert.ConvActBwd.nD Cert.ConvActBwd.τ Cert.ConvActBwd.sig) → Buf (Elt Bits) ℓ) : Prop :=
  True

def Pre_ConvActBwdIdeal (m : (ℓ : Loc Cert.ConvActBwdIdeal.nD Cert.ConvActBwdIdeal.τ Cert.ConvActBwdIdeal.sig) → Buf (Elt Ideal) ℓ) : Prop :=
  True

def Pre_ConvActBwdIdeal_convact_finite [hPre_convact_finite : Cert.Pre_convact_finite.Facts] (m : (ℓ : Loc Cert.ConvActBwdIdeal.nD Cert.ConvActBwdIdeal.τ Cert.ConvActBwdIdeal.sig) → Buf (Elt Ideal) ℓ) : Prop :=
  ∀ c : Dev Cert.ConvActBwdIdeal.nD,
    (Cert.Pre_convact_finite.fn (F := Ideal) (m ((c.tc : Thread Cert.ConvActBwdIdeal.nD Cert.ConvActBwdIdeal.τ).loc Cert.ConvActBwdIdeal.main_arg0)) (m ((c.tc : Thread Cert.ConvActBwdIdeal.nD Cert.ConvActBwdIdeal.τ).loc Cert.ConvActBwdIdeal.main_arg1)) (m ((c.tc : Thread Cert.ConvActBwdIdeal.nD Cert.ConvActBwdIdeal.τ).loc Cert.ConvActBwdIdeal.main_arg2))).1 = (fun _ => 1#1)
    ∧ (Cert.Pre_convact_finite.fn (F := Ideal) (m ((c.tc : Thread Cert.ConvActBwdIdeal.nD Cert.ConvActBwdIdeal.τ).loc Cert.ConvActBwdIdeal.main_arg0)) (m ((c.tc : Thread Cert.ConvActBwdIdeal.nD Cert.ConvActBwdIdeal.τ).loc Cert.ConvActBwdIdeal.main_arg1)) (m ((c.tc : Thread Cert.ConvActBwdIdeal.nD Cert.ConvActBwdIdeal.τ).loc Cert.ConvActBwdIdeal.main_arg2))).2.1 = (fun _ => 1#1)
    ∧ (Cert.Pre_convact_finite.fn (F := Ideal) (m ((c.tc : Thread Cert.ConvActBwdIdeal.nD Cert.ConvActBwdIdeal.τ).loc Cert.ConvActBwdIdeal.main_arg0)) (m ((c.tc : Thread Cert.ConvActBwdIdeal.nD Cert.ConvActBwdIdeal.τ).loc Cert.ConvActBwdIdeal.main_arg1)) (m ((c.tc : Thread Cert.ConvActBwdIdeal.nD Cert.ConvActBwdIdeal.τ).loc Cert.ConvActBwdIdeal.main_arg2))).2.2 = (fun _ => 1#1)

def Pre_ConvActBwdRefIdeal (m : (ℓ : Loc Cert.ConvActBwdRefIdeal.nD Cert.ConvActBwdRefIdeal.τ Cert.ConvActBwdRefIdeal.sig) → Buf (Elt Ideal) ℓ) : Prop :=
  True

def Pre_ConvActBwdRefIdeal_convact_finite [hPre_convact_finite : Cert.Pre_convact_finite.Facts] (m : (ℓ : Loc Cert.ConvActBwdRefIdeal.nD Cert.ConvActBwdRefIdeal.τ Cert.ConvActBwdRefIdeal.sig) → Buf (Elt Ideal) ℓ) : Prop :=
  ∀ c : Dev Cert.ConvActBwdRefIdeal.nD,
    (Cert.Pre_convact_finite.fn (F := Ideal) (m ((c.tc : Thread Cert.ConvActBwdRefIdeal.nD Cert.ConvActBwdRefIdeal.τ).loc Cert.ConvActBwdRefIdeal.main_arg0)) (m ((c.tc : Thread Cert.ConvActBwdRefIdeal.nD Cert.ConvActBwdRefIdeal.τ).loc Cert.ConvActBwdRefIdeal.main_arg1)) (m ((c.tc : Thread Cert.ConvActBwdRefIdeal.nD Cert.ConvActBwdRefIdeal.τ).loc Cert.ConvActBwdRefIdeal.main_arg2))).1 = (fun _ => 1#1)
    ∧ (Cert.Pre_convact_finite.fn (F := Ideal) (m ((c.tc : Thread Cert.ConvActBwdRefIdeal.nD Cert.ConvActBwdRefIdeal.τ).loc Cert.ConvActBwdRefIdeal.main_arg0)) (m ((c.tc : Thread Cert.ConvActBwdRefIdeal.nD Cert.ConvActBwdRefIdeal.τ).loc Cert.ConvActBwdRefIdeal.main_arg1)) (m ((c.tc : Thread Cert.ConvActBwdRefIdeal.nD Cert.ConvActBwdRefIdeal.τ).loc Cert.ConvActBwdRefIdeal.main_arg2))).2.1 = (fun _ => 1#1)
    ∧ (Cert.Pre_convact_finite.fn (F := Ideal) (m ((c.tc : Thread Cert.ConvActBwdRefIdeal.nD Cert.ConvActBwdRefIdeal.τ).loc Cert.ConvActBwdRefIdeal.main_arg0)) (m ((c.tc : Thread Cert.ConvActBwdRefIdeal.nD Cert.ConvActBwdRefIdeal.τ).loc Cert.ConvActBwdRefIdeal.main_arg1)) (m ((c.tc : Thread Cert.ConvActBwdRefIdeal.nD Cert.ConvActBwdRefIdeal.τ).loc Cert.ConvActBwdRefIdeal.main_arg2))).2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1))).2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1))).2 = (fun _ => 1#1)

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdIdeal_ffnx_finite [hPre_ffnx_finite : Cert.Pre_ffnx_finite.Facts] (m : (ℓ : Loc Cert.FfnInBwdIdeal.nD Cert.FfnInBwdIdeal.τ Cert.FfnInBwdIdeal.sig) → Buf (Elt Ideal) ℓ) : Prop :=
  ∀ c : Dev Cert.FfnInBwdIdeal.nD,
    (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.2.1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.2.2.1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.2.2.2.1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.2.2.2.2.1 = (fun _ => 1#1)
    ∧ (Cert.Pre_ffnx_finite.fn (F := Ideal) (m ((c.tc : Thread Cert.FfnInBwdIdeal.nD Cert.FfnInBwdIdeal.τ).loc Cert.FfnInBwdIdeal.main_arg0)) (m ((c.tc : Thread Cert.FfnInBwdIdeal.nD Cert.FfnInBwdIdeal.τ).loc Cert.FfnInBwdIdeal.main_arg1)) (m ((c.tc : Thread Cert.FfnInBwdIdeal.nD Cert.FfnInBwdIdeal.τ).loc Cert.FfnInBwdIdeal.main_arg2)) (m ((c.tc : Thread Cert.FfnInBwdIdeal.nD Cert.FfnInBwdIdeal.τ).loc Cert.FfnInBwdIdeal.main_arg3)) (m ((c.tc : Thread Cert.FfnInBwdIdeal.nD Cert.FfnInBwdIdeal.τ).loc Cert.FfnInBwdIdeal.main_arg4)) (m ((c.tc : Thread Cert.FfnInBwdIdeal.nD Cert.FfnInBwdIdeal.τ).loc Cert.FfnInBwdIdeal.main_arg5)) (m ((c.tc : Thread Cert.FfnInBwdIdeal.nD Cert.FfnInBwdIdeal.τ).loc Cert.FfnInBwdIdeal.main_arg6)) (m ((c.tc : Thread Cert.FfnInBwdIdeal.nD Cert.FfnInBwdIdeal.τ).loc Cert.FfnInBwdIdeal.main_arg7))).2.2.2.2.2.2 = (fun _ => 1#1)

def Pre_FfnInBwdRefIdeal (m : (ℓ : Loc Cert.FfnInBwdRefIdeal.nD Cert.FfnInBwdRefIdeal.τ Cert.FfnInBwdRefIdeal.sig) → Buf (Elt Ideal) ℓ) : Prop :=
  True

def Pre_FfnInBwdRefIdeal_ffnx_finite [hPre_ffnx_finite : Cert.Pre_ffnx_finite.Facts] (m : (ℓ : Loc Cert.FfnInBwdRefIdeal.nD Cert.FfnInBwdRefIdeal.τ Cert.FfnInBwdRefIdeal.sig) → Buf (Elt Ideal) ℓ) : Prop :=
  ∀ c : Dev Cert.FfnInBwdRefIdeal.nD,
    (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.2.1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.2.2.1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.2.2.2.1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.2.2.2.2.1 = (fun _ => 1#1)
    ∧ (Cert.Pre_ffnx_finite.fn (F := Ideal) (m ((c.tc : Thread Cert.FfnInBwdRefIdeal.nD Cert.FfnInBwdRefIdeal.τ).loc Cert.FfnInBwdRefIdeal.main_arg0)) (m ((c.tc : Thread Cert.FfnInBwdRefIdeal.nD Cert.FfnInBwdRefIdeal.τ).loc Cert.FfnInBwdRefIdeal.main_arg1)) (m ((c.tc : Thread Cert.FfnInBwdRefIdeal.nD Cert.FfnInBwdRefIdeal.τ).loc Cert.FfnInBwdRefIdeal.main_arg2)) (m ((c.tc : Thread Cert.FfnInBwdRefIdeal.nD Cert.FfnInBwdRefIdeal.τ).loc Cert.FfnInBwdRefIdeal.main_arg3)) (m ((c.tc : Thread Cert.FfnInBwdRefIdeal.nD Cert.FfnInBwdRefIdeal.τ).loc Cert.FfnInBwdRefIdeal.main_arg4)) (m ((c.tc : Thread Cert.FfnInBwdRefIdeal.nD Cert.FfnInBwdRefIdeal.τ).loc Cert.FfnInBwdRefIdeal.main_arg5)) (m ((c.tc : Thread Cert.FfnInBwdRefIdeal.nD Cert.FfnInBwdRefIdeal.τ).loc Cert.FfnInBwdRefIdeal.main_arg6)) (m ((c.tc : Thread Cert.FfnInBwdRefIdeal.nD Cert.FfnInBwdRefIdeal.τ).loc Cert.FfnInBwdRefIdeal.main_arg7))).2.2.2.2.2.2 = (fun _ => 1#1)

def Pre_FfnWBwd (m : (ℓ : Loc Cert.FfnWBwd.nD Cert.FfnWBwd.τ Cert.FfnWBwd.sig) → Buf (Elt Bits) ℓ) : Prop :=
  True

def Pre_FfnWBwdIdeal (m : (ℓ : Loc Cert.FfnWBwdIdeal.nD Cert.FfnWBwdIdeal.τ Cert.FfnWBwdIdeal.sig) → Buf (Elt Ideal) ℓ) : Prop :=
  True

def Pre_FfnWBwdIdeal_ffnw_finite [hPre_ffnw_finite : Cert.Pre_ffnw_finite.Facts] (m : (ℓ : Loc Cert.FfnWBwdIdeal.nD Cert.FfnWBwdIdeal.τ Cert.FfnWBwdIdeal.sig) → Buf (Elt Ideal) ℓ) : Prop :=
  ∀ c : Dev Cert.FfnWBwdIdeal.nD,
    (Cert.Pre_ffnw_finite.fn (F := Ideal) (m ((c.tc : Thread Cert.FfnWBwdIdeal.nD Cert.FfnWBwdIdeal.τ).loc Cert.FfnWBwdIdeal.main_arg0)) (m ((c.tc : Thread Cert.FfnWBwdIdeal.nD Cert.FfnWBwdIdeal.τ).loc Cert.FfnWBwdIdeal.main_arg1)) (m ((c.tc : Thread Cert.FfnWBwdIdeal.nD Cert.FfnWBwdIdeal.τ).loc Cert.FfnWBwdIdeal.main_arg2)) (m ((c.tc : Thread Cert.FfnWBwdIdeal.nD Cert.FfnWBwdIdeal.τ).loc Cert.FfnWBwdIdeal.main_arg3)) (m ((c.tc : Thread Cert.FfnWBwdIdeal.nD Cert.FfnWBwdIdeal.τ).loc Cert.FfnWBwdIdeal.main_arg4))).1 = (fun _ => 1#1)
    ∧ (Cert.Pre_ffnw_finite.fn (F := Ideal) (m ((c.tc : Thread Cert.FfnWBwdIdeal.nD Cert.FfnWBwdIdeal.τ).loc Cert.FfnWBwdIdeal.main_arg0)) (m ((c.tc : Thread Cert.FfnWBwdIdeal.nD Cert.FfnWBwdIdeal.τ).loc Cert.FfnWBwdIdeal.main_arg1)) (m ((c.tc : Thread Cert.FfnWBwdIdeal.nD Cert.FfnWBwdIdeal.τ).loc Cert.FfnWBwdIdeal.main_arg2)) (m ((c.tc : Thread Cert.FfnWBwdIdeal.nD Cert.FfnWBwdIdeal.τ).loc Cert.FfnWBwdIdeal.main_arg3)) (m ((c.tc : Thread Cert.FfnWBwdIdeal.nD Cert.FfnWBwdIdeal.τ).loc Cert.FfnWBwdIdeal.main_arg4))).2.1 = (fun _ => 1#1)
    ∧ (Cert.Pre_ffnw_finite.fn (F := Ideal) (m ((c.tc : Thread Cert.FfnWBwdIdeal.nD Cert.FfnWBwdIdeal.τ).loc Cert.FfnWBwdIdeal.main_arg0)) (m ((c.tc : Thread Cert.FfnWBwdIdeal.nD Cert.FfnWBwdIdeal.τ).loc Cert.FfnWBwdIdeal.main_arg1)) (m ((c.tc : Thread Cert.FfnWBwdIdeal.nD Cert.FfnWBwdIdeal.τ).loc Cert.FfnWBwdIdeal.main_arg2)) (m ((c.tc : Thread Cert.FfnWBwdIdeal.nD Cert.FfnWBwdIdeal.τ).loc Cert.FfnWBwdIdeal.main_arg3)) (m ((c.tc : Thread Cert.FfnWBwdIdeal.nD Cert.FfnWBwdIdeal.τ).loc Cert.FfnWBwdIdeal.main_arg4))).2.2.1 = (fun _ => 1#1)
    ∧ (Cert.Pre_ffnw_finite.fn (F := Ideal) (m ((c.tc : Thread Cert.FfnWBwdIdeal.nD Cert.FfnWBwdIdeal.τ).loc Cert.FfnWBwdIdeal.main_arg0)) (m ((c.tc : Thread Cert.FfnWBwdIdeal.nD Cert.FfnWBwdIdeal.τ).loc Cert.FfnWBwdIdeal.main_arg1)) (m ((c.tc : Thread Cert.FfnWBwdIdeal.nD Cert.FfnWBwdIdeal.τ).loc Cert.FfnWBwdIdeal.main_arg2)) (m ((c.tc : Thread Cert.FfnWBwdIdeal.nD Cert.FfnWBwdIdeal.τ).loc Cert.FfnWBwdIdeal.main_arg3)) (m ((c.tc : Thread Cert.FfnWBwdIdeal.nD Cert.FfnWBwdIdeal.τ).loc Cert.FfnWBwdIdeal.main_arg4))).2.2.2.1 = (fun _ => 1#1)
    ∧ (Cert.Pre_ffnw_finite.fn (F := Ideal) (m ((c.tc : Thread Cert.FfnWBwdIdeal.nD Cert.FfnWBwdIdeal.τ).loc Cert.FfnWBwdIdeal.main_arg0)) (m ((c.tc : Thread Cert.FfnWBwdIdeal.nD Cert.FfnWBwdIdeal.τ).loc Cert.FfnWBwdIdeal.main_arg1)) (m ((c.tc : Thread Cert.FfnWBwdIdeal.nD Cert.FfnWBwdIdeal.τ).loc Cert.FfnWBwdIdeal.main_arg2)) (m ((c.tc : Thread Cert.FfnWBwdIdeal.nD Cert.FfnWBwdIdeal.τ).loc Cert.FfnWBwdIdeal.main_arg3)) (m ((c.tc : Thread Cert.FfnWBwdIdeal.nD Cert.FfnWBwdIdeal.τ).loc Cert.FfnWBwdIdeal.main_arg4))).2.2.2.2 = (fun _ => 1#1)

def Pre_FfnWBwdRefIdeal (m : (ℓ : Loc Cert.FfnWBwdRefIdeal.nD Cert.FfnWBwdRefIdeal.τ Cert.FfnWBwdRefIdeal.sig) → Buf (Elt Ideal) ℓ) : Prop :=
  True

def Pre_FfnWBwdRefIdeal_ffnw_finite [hPre_ffnw_finite : Cert.Pre_ffnw_finite.Facts] (m : (ℓ : Loc Cert.FfnWBwdRefIdeal.nD Cert.FfnWBwdRefIdeal.τ Cert.FfnWBwdRefIdeal.sig) → Buf (Elt Ideal) ℓ) : Prop :=
  ∀ c : Dev Cert.FfnWBwdRefIdeal.nD,
    (Cert.Pre_ffnw_finite.fn (F := Ideal) (m ((c.tc : Thread Cert.FfnWBwdRefIdeal.nD Cert.FfnWBwdRefIdeal.τ).loc Cert.FfnWBwdRefIdeal.main_arg0)) (m ((c.tc : Thread Cert.FfnWBwdRefIdeal.nD Cert.FfnWBwdRefIdeal.τ).loc Cert.FfnWBwdRefIdeal.main_arg1)) (m ((c.tc : Thread Cert.FfnWBwdRefIdeal.nD Cert.FfnWBwdRefIdeal.τ).loc Cert.FfnWBwdRefIdeal.main_arg2)) (m ((c.tc : Thread Cert.FfnWBwdRefIdeal.nD Cert.FfnWBwdRefIdeal.τ).loc Cert.FfnWBwdRefIdeal.main_arg3)) (m ((c.tc : Thread Cert.FfnWBwdRefIdeal.nD Cert.FfnWBwdRefIdeal.τ).loc Cert.FfnWBwdRefIdeal.main_arg4))).1 = (fun _ => 1#1)
    ∧ (Cert.Pre_ffnw_finite.fn (F := Ideal) (m ((c.tc : Thread Cert.FfnWBwdRefIdeal.nD Cert.FfnWBwdRefIdeal.τ).loc Cert.FfnWBwdRefIdeal.main_arg0)) (m ((c.tc : Thread Cert.FfnWBwdRefIdeal.nD Cert.FfnWBwdRefIdeal.τ).loc Cert.FfnWBwdRefIdeal.main_arg1)) (m ((c.tc : Thread Cert.FfnWBwdRefIdeal.nD Cert.FfnWBwdRefIdeal.τ).loc Cert.FfnWBwdRefIdeal.main_arg2)) (m ((c.tc : Thread Cert.FfnWBwdRefIdeal.nD Cert.FfnWBwdRefIdeal.τ).loc Cert.FfnWBwdRefIdeal.main_arg3)) (m ((c.tc : Thread Cert.FfnWBwdRefIdeal.nD Cert.FfnWBwdRefIdeal.τ).loc Cert.FfnWBwdRefIdeal.main_arg4))).2.1 = (fun _ => 1#1)
    ∧ (Cert.Pre_ffnw_finite.fn (F := Ideal) (m ((c.tc : Thread Cert.FfnWBwdRefIdeal.nD Cert.FfnWBwdRefIdeal.τ).loc Cert.FfnWBwdRefIdeal.main_arg0)) (m ((c.tc : Thread Cert.FfnWBwdRefIdeal.nD Cert.FfnWBwdRefIdeal.τ).loc Cert.FfnWBwdRefIdeal.main_arg1)) (m ((c.tc : Thread Cert.FfnWBwdRefIdeal.nD Cert.FfnWBwdRefIdeal.τ).loc Cert.FfnWBwdRefIdeal.main_arg2)) (m ((c.tc : Thread Cert.FfnWBwdRefIdeal.nD Cert.FfnWBwdRefIdeal.τ).loc Cert.FfnWBwdRefIdeal.main_arg3)) (m ((c.tc : Thread Cert.FfnWBwdRefIdeal.nD Cert.FfnWBwdRefIdeal.τ).loc Cert.FfnWBwdRefIdeal.main_arg4))).2.2.1 = (fun _ => 1#1)
    ∧ (Cert.Pre_ffnw_finite.fn (F := Ideal) (m ((c.tc : Thread Cert.FfnWBwdRefIdeal.nD Cert.FfnWBwdRefIdeal.τ).loc Cert.FfnWBwdRefIdeal.main_arg0)) (m ((c.tc : Thread Cert.FfnWBwdRefIdeal.nD Cert.FfnWBwdRefIdeal.τ).loc Cert.FfnWBwdRefIdeal.main_arg1)) (m ((c.tc : Thread Cert.FfnWBwdRefIdeal.nD Cert.FfnWBwdRefIdeal.τ).loc Cert.FfnWBwdRefIdeal.main_arg2)) (m ((c.tc : Thread Cert.FfnWBwdRefIdeal.nD Cert.FfnWBwdRefIdeal.τ).loc Cert.FfnWBwdRefIdeal.main_arg3)) (m ((c.tc : Thread Cert.FfnWBwdRefIdeal.nD Cert.FfnWBwdRefIdeal.τ).loc Cert.FfnWBwdRefIdeal.main_arg4))).2.2.2.1 = (fun _ => 1#1)
    ∧ (Cert.Pre_ffnw_finite.fn (F := Ideal) (m ((c.tc : Thread Cert.FfnWBwdRefIdeal.nD Cert.FfnWBwdRefIdeal.τ).loc Cert.FfnWBwdRefIdeal.main_arg0)) (m ((c.tc : Thread Cert.FfnWBwdRefIdeal.nD Cert.FfnWBwdRefIdeal.τ).loc Cert.FfnWBwdRefIdeal.main_arg1)) (m ((c.tc : Thread Cert.FfnWBwdRefIdeal.nD Cert.FfnWBwdRefIdeal.τ).loc Cert.FfnWBwdRefIdeal.main_arg2)) (m ((c.tc : Thread Cert.FfnWBwdRefIdeal.nD Cert.FfnWBwdRefIdeal.τ).loc Cert.FfnWBwdRefIdeal.main_arg3)) (m ((c.tc : Thread Cert.FfnWBwdRefIdeal.nD Cert.FfnWBwdRefIdeal.τ).loc Cert.FfnWBwdRefIdeal.main_arg4))).2.2.2.2 = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_ple_finite [hPre_ple_finite : Cert.Pre_ple_finite.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.2.2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.2.2.2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.2.2.2.2.1 = (fun _ => 1#1)
    ∧ (Cert.Pre_ple_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5)) (m ((c.tc : Thread Cert.PleBwdIdeal.nD Cert.PleBwdIdeal.τ).loc Cert.PleBwdIdeal.main_arg6)) (m ((c.tc : Thread Cert.PleBwdIdeal.nD Cert.PleBwdIdeal.τ).loc Cert.PleBwdIdeal.main_arg7))).2.2.2.2.2.2.2 = (fun _ => 1#1)

def Pre_PleBwdRefIdeal (m : (ℓ : Loc Cert.PleBwdRefIdeal.nD Cert.PleBwdRefIdeal.τ Cert.PleBwdRefIdeal.sig) → Buf (Elt Ideal) ℓ) : Prop :=
  True

def Pre_PleBwdRefIdeal_ple_finite [hPre_ple_finite : Cert.Pre_ple_finite.Facts] (m : (ℓ : Loc Cert.PleBwdRefIdeal.nD Cert.PleBwdRefIdeal.τ Cert.PleBwdRefIdeal.sig) → Buf (Elt Ideal) ℓ) : Prop :=
  ∀ c : Dev Cert.PleBwdRefIdeal.nD,
    (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.2.2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.2.2.2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.2.2.2.2.1 = (fun _ => 1#1)
    ∧ (Cert.Pre_ple_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5)) (m ((c.tc : Thread Cert.PleBwdRefIdeal.nD Cert.PleBwdRefIdeal.τ).loc Cert.PleBwdRefIdeal.main_arg6)) (m ((c.tc : Thread Cert.PleBwdRefIdeal.nD Cert.PleBwdRefIdeal.τ).loc Cert.PleBwdRefIdeal.main_arg7))).2.2.2.2.2.2.2 = (fun _ => 1#1)

def Pre_RglruBwd (m : (ℓ : Loc Cert.RglruBwd.nD Cert.RglruBwd.τ Cert.RglruBwd.sig) → Buf (Elt Bits) ℓ) : Prop :=
  True

def Pre_RglruBwdIdeal (m : (ℓ : Loc Cert.RglruBwdIdeal.nD Cert.RglruBwdIdeal.τ Cert.RglruBwdIdeal.sig) → Buf (Elt Ideal) ℓ) : Prop :=
  True

def Pre_RglruBwdIdeal_rglru_finite [hPre_rglru_finite : Cert.Pre_rglru_finite.Facts] (m : (ℓ : Loc Cert.RglruBwdIdeal.nD Cert.RglruBwdIdeal.τ Cert.RglruBwdIdeal.sig) → Buf (Elt Ideal) ℓ) : Prop :=
  ∀ c : Dev Cert.RglruBwdIdeal.nD,
    (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.2.2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.2.2.2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.2.2.2.2.1 = (fun _ => 1#1)
    ∧ (Cert.Pre_rglru_finite.fn (F := Ideal) (m ((c.tc : Thread Cert.RglruBwdIdeal.nD Cert.RglruBwdIdeal.τ).loc Cert.RglruBwdIdeal.main_arg0)) (m ((c.tc : Thread Cert.RglruBwdIdeal.nD Cert.RglruBwdIdeal.τ).loc Cert.RglruBwdIdeal.main_arg1)) (m ((c.tc : Thread Cert.RglruBwdIdeal.nD Cert.RglruBwdIdeal.τ).loc Cert.RglruBwdIdeal.main_arg2)) (m ((c.tc : Thread Cert.RglruBwdIdeal.nD Cert.RglruBwdIdeal.τ).loc Cert.RglruBwdIdeal.main_arg3)) (m ((c.tc : Thread Cert.RglruBwdIdeal.nD Cert.RglruBwdIdeal.τ).loc Cert.RglruBwdIdeal.main_arg4)) (m ((c.tc : Thread Cert.RglruBwdIdeal.nD Cert.RglruBwdIdeal.τ).loc Cert.RglruBwdIdeal.main_arg5)) (m ((c.tc : Thread Cert.RglruBwdIdeal.nD Cert.RglruBwdIdeal.τ).loc Cert.RglruBwdIdeal.main_arg6)) (m ((c.tc : Thread Cert.RglruBwdIdeal.nD Cert.RglruBwdIdeal.τ).loc Cert.RglruBwdIdeal.main_arg7))).2.2.2.2.2.2.2 = (fun _ => 1#1)

def Pre_RglruBwdRefIdeal (m : (ℓ : Loc Cert.RglruBwdRefIdeal.nD Cert.RglruBwdRefIdeal.τ Cert.RglruBwdRefIdeal.sig) → Buf (Elt Ideal) ℓ) : Prop :=
  True

def Pre_RglruBwdRefIdeal_rglru_finite [hPre_rglru_finite : Cert.Pre_rglru_finite.Facts] (m : (ℓ : Loc Cert.RglruBwdRefIdeal.nD Cert.RglruBwdRefIdeal.τ Cert.RglruBwdRefIdeal.sig) → Buf (Elt Ideal) ℓ) : Prop :=
  ∀ c : Dev Cert.RglruBwdRefIdeal.nD,
    (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.2.2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.2.2.2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.2.2.2.2.1 = (fun _ => 1#1)
    ∧ (Cert.Pre_rglru_finite.fn (F := Ideal) (m ((c.tc : Thread Cert.RglruBwdRefIdeal.nD Cert.RglruBwdRefIdeal.τ).loc Cert.RglruBwdRefIdeal.main_arg0)) (m ((c.tc : Thread Cert.RglruBwdRefIdeal.nD Cert.RglruBwdRefIdeal.τ).loc Cert.RglruBwdRefIdeal.main_arg1)) (m ((c.tc : Thread Cert.RglruBwdRefIdeal.nD Cert.RglruBwdRefIdeal.τ).loc Cert.RglruBwdRefIdeal.main_arg2)) (m ((c.tc : Thread Cert.RglruBwdRefIdeal.nD Cert.RglruBwdRefIdeal.τ).loc Cert.RglruBwdRefIdeal.main_arg3)) (m ((c.tc : Thread Cert.RglruBwdRefIdeal.nD Cert.RglruBwdRefIdeal.τ).loc Cert.RglruBwdRefIdeal.main_arg4)) (m ((c.tc : Thread Cert.RglruBwdRefIdeal.nD Cert.RglruBwdRefIdeal.τ).loc Cert.RglruBwdRefIdeal.main_arg5)) (m ((c.tc : Thread Cert.RglruBwdRefIdeal.nD Cert.RglruBwdRefIdeal.τ).loc Cert.RglruBwdRefIdeal.main_arg6)) (m ((c.tc : Thread Cert.RglruBwdRefIdeal.nD Cert.RglruBwdRefIdeal.τ).loc Cert.RglruBwdRefIdeal.main_arg7))).2.2.2.2.2.2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ConvActFwd (m : (ℓ : Loc Cert.ConvActFwd.nD Cert.ConvActFwd.τ Cert.ConvActFwd.sig) → Buf (Elt Bits) ℓ) : Prop :=
  True

def Pre_ConvActFwdIdeal (m : (ℓ : Loc Cert.ConvActFwdIdeal.nD Cert.ConvActFwdIdeal.τ Cert.ConvActFwdIdeal.sig) → Buf (Elt Ideal) ℓ) : Prop :=
  True

def Pre_ConvActFwdRefIdeal (m : (ℓ : Loc Cert.ConvActFwdRefIdeal.nD Cert.ConvActFwdRefIdeal.τ Cert.ConvActFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_RglruFwd (m : (ℓ : Loc Cert.RglruFwd.nD Cert.RglruFwd.τ Cert.RglruFwd.sig) → Buf (Elt Bits) ℓ) : Prop :=
  True

def Pre_RglruFwdIdeal (m : (ℓ : Loc Cert.RglruFwdIdeal.nD Cert.RglruFwdIdeal.τ Cert.RglruFwdIdeal.sig) → Buf (Elt Ideal) ℓ) : Prop :=
  True

def Pre_RglruFwdIdeal_rgf_finite [hPre_rgf_finite : Cert.Pre_rgf_finite.Facts] (m : (ℓ : Loc Cert.RglruFwdIdeal.nD Cert.RglruFwdIdeal.τ Cert.RglruFwdIdeal.sig) → Buf (Elt Ideal) ℓ) : Prop :=
  ∀ c : Dev Cert.RglruFwdIdeal.nD,
    (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.2.1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.2.2.1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.2.2.2.1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.2.2.2.2.1 = (fun _ => 1#1)
    ∧ (Cert.Pre_rgf_finite.fn (F := Ideal) (m ((c.tc : Thread Cert.RglruFwdIdeal.nD Cert.RglruFwdIdeal.τ).loc Cert.RglruFwdIdeal.main_arg0)) (m ((c.tc : Thread Cert.RglruFwdIdeal.nD Cert.RglruFwdIdeal.τ).loc Cert.RglruFwdIdeal.main_arg1)) (m ((c.tc : Thread Cert.RglruFwdIdeal.nD Cert.RglruFwdIdeal.τ).loc Cert.RglruFwdIdeal.main_arg2)) (m ((c.tc : Thread Cert.RglruFwdIdeal.nD Cert.RglruFwdIdeal.τ).loc Cert.RglruFwdIdeal.main_arg3)) (m ((c.tc : Thread Cert.RglruFwdIdeal.nD Cert.RglruFwdIdeal.τ).loc Cert.RglruFwdIdeal.main_arg4)) (m ((c.tc : Thread Cert.RglruFwdIdeal.nD Cert.RglruFwdIdeal.τ).loc Cert.RglruFwdIdeal.main_arg5)) (m ((c.tc : Thread Cert.RglruFwdIdeal.nD Cert.RglruFwdIdeal.τ).loc Cert.RglruFwdIdeal.main_arg6))).2.2.2.2.2.2 = (fun _ => 1#1)

def Pre_RglruFwdRefIdeal (m : (ℓ : Loc Cert.RglruFwdRefIdeal.nD Cert.RglruFwdRefIdeal.τ Cert.RglruFwdRefIdeal.sig) → Buf (Elt Ideal) ℓ) : Prop :=
  True

def Pre_RglruFwdRefIdeal_rgf_finite [hPre_rgf_finite : Cert.Pre_rgf_finite.Facts] (m : (ℓ : Loc Cert.RglruFwdRefIdeal.nD Cert.RglruFwdRefIdeal.τ Cert.RglruFwdRefIdeal.sig) → Buf (Elt Ideal) ℓ) : Prop :=
  ∀ c : Dev Cert.RglruFwdRefIdeal.nD,
    (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.2.1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.2.2.1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.2.2.2.1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.2.2.2.2.1 = (fun _ => 1#1)
    ∧ (Cert.Pre_rgf_finite.fn (F := Ideal) (m ((c.tc : Thread Cert.RglruFwdRefIdeal.nD Cert.RglruFwdRefIdeal.τ).loc Cert.RglruFwdRefIdeal.main_arg0)) (m ((c.tc : Thread Cert.RglruFwdRefIdeal.nD Cert.RglruFwdRefIdeal.τ).loc Cert.RglruFwdRefIdeal.main_arg1)) (m ((c.tc : Thread Cert.RglruFwdRefIdeal.nD Cert.RglruFwdRefIdeal.τ).loc Cert.RglruFwdRefIdeal.main_arg2)) (m ((c.tc : Thread Cert.RglruFwdRefIdeal.nD Cert.RglruFwdRefIdeal.τ).loc Cert.RglruFwdRefIdeal.main_arg3)) (m ((c.tc : Thread Cert.RglruFwdRefIdeal.nD Cert.RglruFwdRefIdeal.τ).loc Cert.RglruFwdRefIdeal.main_arg4)) (m ((c.tc : Thread Cert.RglruFwdRefIdeal.nD Cert.RglruFwdRefIdeal.τ).loc Cert.RglruFwdRefIdeal.main_arg5)) (m ((c.tc : Thread Cert.RglruFwdRefIdeal.nD Cert.RglruFwdRefIdeal.τ).loc Cert.RglruFwdRefIdeal.main_arg6))).2.2.2.2.2.2 = (fun _ => 1#1)

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_ln_finite [hLnBwdIdeal : Cert.LnBwdIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_ln_finite [hLnBwdRefIdeal : Cert.LnBwdRefIdeal.Facts] [hPre_ln_finite : Cert.Pre_ln_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvActBwd [hConvActBwd : Cert.ConvActBwd.Facts] : Prop :=
  ∀ (m : (ℓ : Loc Cert.ConvActBwd.nD Cert.ConvActBwd.τ Cert.ConvActBwd.sig) → Buf (Elt Bits) ℓ) (g : Dev Cert.ConvActBwd.nD → PrngReg), Pre_ConvActBwd m →
    θ_run (Cert.ConvActBwd.defs (F := Bits)) (onTc (τ := Cert.ConvActBwd.τ) (Cert.ConvActBwd.main (F := Bits))) ⟨m, fun _ => 0, g⟩ (fun r => (∀ c : Dev Cert.ConvActBwd.nD,
      r.2.mem ((c.tc : Thread Cert.ConvActBwd.nD Cert.ConvActBwd.τ).loc Cert.ConvActBwd.main_arg0) = m ((c.tc : Thread Cert.ConvActBwd.nD Cert.ConvActBwd.τ).loc Cert.ConvActBwd.main_arg0)
      ∧ r.2.mem ((c.tc : Thread Cert.ConvActBwd.nD Cert.ConvActBwd.τ).loc Cert.ConvActBwd.main_arg1) = m ((c.tc : Thread Cert.ConvActBwd.nD Cert.ConvActBwd.τ).loc Cert.ConvActBwd.main_arg1)
      ∧ r.2.mem ((c.tc : Thread Cert.ConvActBwd.nD Cert.ConvActBwd.τ).loc Cert.ConvActBwd.main_arg2) = m ((c.tc : Thread Cert.ConvActBwd.nD Cert.ConvActBwd.τ).loc Cert.ConvActBwd.main_arg2))
      ∧ r.2.sem = fun _ => 0)

def quiescent_ConvActBwdIdeal [hConvActBwdIdeal : Cert.ConvActBwdIdeal.Facts] : Prop :=
  ∀ (m : (ℓ : Loc Cert.ConvActBwdIdeal.nD Cert.ConvActBwdIdeal.τ Cert.ConvActBwdIdeal.sig) → Buf (Elt Ideal) ℓ) (g : Dev Cert.ConvActBwdIdeal.nD → PrngReg), Pre_ConvActBwdIdeal m →
    θ_run (Cert.ConvActBwdIdeal.defs (F := Ideal)) (onTc (τ := Cert.ConvActBwdIdeal.τ) (Cert.ConvActBwdIdeal.main (F := Ideal))) ⟨m, fun _ => 0, g⟩ (fun r => (∀ c : Dev Cert.ConvActBwdIdeal.nD,
      r.2.mem ((c.tc : Thread Cert.ConvActBwdIdeal.nD Cert.ConvActBwdIdeal.τ).loc Cert.ConvActBwdIdeal.main_arg0) = m ((c.tc : Thread Cert.ConvActBwdIdeal.nD Cert.ConvActBwdIdeal.τ).loc Cert.ConvActBwdIdeal.main_arg0)
      ∧ r.2.mem ((c.tc : Thread Cert.ConvActBwdIdeal.nD Cert.ConvActBwdIdeal.τ).loc Cert.ConvActBwdIdeal.main_arg1) = m ((c.tc : Thread Cert.ConvActBwdIdeal.nD Cert.ConvActBwdIdeal.τ).loc Cert.ConvActBwdIdeal.main_arg1)
      ∧ r.2.mem ((c.tc : Thread Cert.ConvActBwdIdeal.nD Cert.ConvActBwdIdeal.τ).loc Cert.ConvActBwdIdeal.main_arg2) = m ((c.tc : Thread Cert.ConvActBwdIdeal.nD Cert.ConvActBwdIdeal.τ).loc Cert.ConvActBwdIdeal.main_arg2))
      ∧ r.2.sem = fun _ => 0)

def quiescent_ConvActBwdIdeal_pre_convact_finite [hConvActBwdIdeal : Cert.ConvActBwdIdeal.Facts] [hPre_convact_finite : Cert.Pre_convact_finite.Facts] : Prop :=
  ∀ (m : (ℓ : Loc Cert.ConvActBwdIdeal.nD Cert.ConvActBwdIdeal.τ Cert.ConvActBwdIdeal.sig) → Buf (Elt Ideal) ℓ) (g : Dev Cert.ConvActBwdIdeal.nD → PrngReg), Pre_ConvActBwdIdeal_convact_finite m →
    θ_run (Cert.ConvActBwdIdeal.defs (F := Ideal)) (onTc (τ := Cert.ConvActBwdIdeal.τ) (Cert.ConvActBwdIdeal.main (F := Ideal))) ⟨m, fun _ => 0, g⟩ (fun r => (∀ c : Dev Cert.ConvActBwdIdeal.nD,
      r.2.mem ((c.tc : Thread Cert.ConvActBwdIdeal.nD Cert.ConvActBwdIdeal.τ).loc Cert.ConvActBwdIdeal.main_arg0) = m ((c.tc : Thread Cert.ConvActBwdIdeal.nD Cert.ConvActBwdIdeal.τ).loc Cert.ConvActBwdIdeal.main_arg0)
      ∧ r.2.mem ((c.tc : Thread Cert.ConvActBwdIdeal.nD Cert.ConvActBwdIdeal.τ).loc Cert.ConvActBwdIdeal.main_arg1) = m ((c.tc : Thread Cert.ConvActBwdIdeal.nD Cert.ConvActBwdIdeal.τ).loc Cert.ConvActBwdIdeal.main_arg1)
      ∧ r.2.mem ((c.tc : Thread Cert.ConvActBwdIdeal.nD Cert.ConvActBwdIdeal.τ).loc Cert.ConvActBwdIdeal.main_arg2) = m ((c.tc : Thread Cert.ConvActBwdIdeal.nD Cert.ConvActBwdIdeal.τ).loc Cert.ConvActBwdIdeal.main_arg2))
      ∧ r.2.sem = fun _ => 0)

def quiescent_ConvActBwdRefIdeal [hConvActBwdRefIdeal : Cert.ConvActBwdRefIdeal.Facts] : Prop :=
  ∀ (m : (ℓ : Loc Cert.ConvActBwdRefIdeal.nD Cert.ConvActBwdRefIdeal.τ Cert.ConvActBwdRefIdeal.sig) → Buf (Elt Ideal) ℓ) (g : Dev Cert.ConvActBwdRefIdeal.nD → PrngReg), Pre_ConvActBwdRefIdeal m →
    θ_run (Cert.ConvActBwdRefIdeal.defs (F := Ideal)) (onTc (τ := Cert.ConvActBwdRefIdeal.τ) (Cert.ConvActBwdRefIdeal.main (F := Ideal))) ⟨m, fun _ => 0, g⟩ (fun r => (∀ c : Dev Cert.ConvActBwdRefIdeal.nD,
      r.2.mem ((c.tc : Thread Cert.ConvActBwdRefIdeal.nD Cert.ConvActBwdRefIdeal.τ).loc Cert.ConvActBwdRefIdeal.main_arg0) = m ((c.tc : Thread Cert.ConvActBwdRefIdeal.nD Cert.ConvActBwdRefIdeal.τ).loc Cert.ConvActBwdRefIdeal.main_arg0)
      ∧ r.2.mem ((c.tc : Thread Cert.ConvActBwdRefIdeal.nD Cert.ConvActBwdRefIdeal.τ).loc Cert.ConvActBwdRefIdeal.main_arg1) = m ((c.tc : Thread Cert.ConvActBwdRefIdeal.nD Cert.ConvActBwdRefIdeal.τ).loc Cert.ConvActBwdRefIdeal.main_arg1)
      ∧ r.2.mem ((c.tc : Thread Cert.ConvActBwdRefIdeal.nD Cert.ConvActBwdRefIdeal.τ).loc Cert.ConvActBwdRefIdeal.main_arg2) = m ((c.tc : Thread Cert.ConvActBwdRefIdeal.nD Cert.ConvActBwdRefIdeal.τ).loc Cert.ConvActBwdRefIdeal.main_arg2))
      ∧ r.2.sem = fun _ => 0)

def quiescent_ConvActBwdRefIdeal_pre_convact_finite [hConvActBwdRefIdeal : Cert.ConvActBwdRefIdeal.Facts] [hPre_convact_finite : Cert.Pre_convact_finite.Facts] : Prop :=
  ∀ (m : (ℓ : Loc Cert.ConvActBwdRefIdeal.nD Cert.ConvActBwdRefIdeal.τ Cert.ConvActBwdRefIdeal.sig) → Buf (Elt Ideal) ℓ) (g : Dev Cert.ConvActBwdRefIdeal.nD → PrngReg), Pre_ConvActBwdRefIdeal_convact_finite m →
    θ_run (Cert.ConvActBwdRefIdeal.defs (F := Ideal)) (onTc (τ := Cert.ConvActBwdRefIdeal.τ) (Cert.ConvActBwdRefIdeal.main (F := Ideal))) ⟨m, fun _ => 0, g⟩ (fun r => (∀ c : Dev Cert.ConvActBwdRefIdeal.nD,
      r.2.mem ((c.tc : Thread Cert.ConvActBwdRefIdeal.nD Cert.ConvActBwdRefIdeal.τ).loc Cert.ConvActBwdRefIdeal.main_arg0) = m ((c.tc : Thread Cert.ConvActBwdRefIdeal.nD Cert.ConvActBwdRefIdeal.τ).loc Cert.ConvActBwdRefIdeal.main_arg0)
      ∧ r.2.mem ((c.tc : Thread Cert.ConvActBwdRefIdeal.nD Cert.ConvActBwdRefIdeal.τ).loc Cert.ConvActBwdRefIdeal.main_arg1) = m ((c.tc : Thread Cert.ConvActBwdRefIdeal.nD Cert.ConvActBwdRefIdeal.τ).loc Cert.ConvActBwdRefIdeal.main_arg1)
      ∧ r.2.mem ((c.tc : Thread Cert.ConvActBwdRefIdeal.nD Cert.ConvActBwdRefIdeal.τ).loc Cert.ConvActBwdRefIdeal.main_arg2) = m ((c.tc : Thread Cert.ConvActBwdRefIdeal.nD Cert.ConvActBwdRefIdeal.τ).loc Cert.ConvActBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4)
      ∧ r.2.mem ((c.tc : Thread Cert.FfnInBwd.nD Cert.FfnInBwd.τ).loc Cert.FfnInBwd.main_arg5) = m ((c.tc : Thread Cert.FfnInBwd.nD Cert.FfnInBwd.τ).loc Cert.FfnInBwd.main_arg5)
      ∧ r.2.mem ((c.tc : Thread Cert.FfnInBwd.nD Cert.FfnInBwd.τ).loc Cert.FfnInBwd.main_arg6) = m ((c.tc : Thread Cert.FfnInBwd.nD Cert.FfnInBwd.τ).loc Cert.FfnInBwd.main_arg6)
      ∧ r.2.mem ((c.tc : Thread Cert.FfnInBwd.nD Cert.FfnInBwd.τ).loc Cert.FfnInBwd.main_arg7) = m ((c.tc : Thread Cert.FfnInBwd.nD Cert.FfnInBwd.τ).loc Cert.FfnInBwd.main_arg7))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
      ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6)
      ∧ r.2.mem ((c.tc : Thread Cert.FfnInBwdIdeal.nD Cert.FfnInBwdIdeal.τ).loc Cert.FfnInBwdIdeal.main_arg7) = m ((c.tc : Thread Cert.FfnInBwdIdeal.nD Cert.FfnInBwdIdeal.τ).loc Cert.FfnInBwdIdeal.main_arg7))
      ∧ r.2.sem = fun _ => 0)

def quiescent_FfnInBwdIdeal_pre_ffnx_finite [hFfnInBwdIdeal : Cert.FfnInBwdIdeal.Facts] [hPre_ffnx_finite : Cert.Pre_ffnx_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal_ffnx_finite m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
      ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
      ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6)
      ∧ r.2.mem ((c.tc : Thread Cert.FfnInBwdIdeal.nD Cert.FfnInBwdIdeal.τ).loc Cert.FfnInBwdIdeal.main_arg7) = m ((c.tc : Thread Cert.FfnInBwdIdeal.nD Cert.FfnInBwdIdeal.τ).loc Cert.FfnInBwdIdeal.main_arg7))
      ∧ r.2.sem = fun _ => 0)

def quiescent_FfnInBwdRefIdeal [hFfnInBwdRefIdeal : Cert.FfnInBwdRefIdeal.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4)
      ∧ r.2.mem ((c.tc : Thread Cert.FfnInBwdRefIdeal.nD Cert.FfnInBwdRefIdeal.τ).loc Cert.FfnInBwdRefIdeal.main_arg5) = m ((c.tc : Thread Cert.FfnInBwdRefIdeal.nD Cert.FfnInBwdRefIdeal.τ).loc Cert.FfnInBwdRefIdeal.main_arg5)
      ∧ r.2.mem ((c.tc : Thread Cert.FfnInBwdRefIdeal.nD Cert.FfnInBwdRefIdeal.τ).loc Cert.FfnInBwdRefIdeal.main_arg6) = m ((c.tc : Thread Cert.FfnInBwdRefIdeal.nD Cert.FfnInBwdRefIdeal.τ).loc Cert.FfnInBwdRefIdeal.main_arg6)
      ∧ r.2.mem ((c.tc : Thread Cert.FfnInBwdRefIdeal.nD Cert.FfnInBwdRefIdeal.τ).loc Cert.FfnInBwdRefIdeal.main_arg7) = m ((c.tc : Thread Cert.FfnInBwdRefIdeal.nD Cert.FfnInBwdRefIdeal.τ).loc Cert.FfnInBwdRefIdeal.main_arg7))
      ∧ r.2.sem = fun _ => 0)

def quiescent_FfnInBwdRefIdeal_pre_ffnx_finite [hFfnInBwdRefIdeal : Cert.FfnInBwdRefIdeal.Facts] [hPre_ffnx_finite : Cert.Pre_ffnx_finite.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal_ffnx_finite m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4)
      ∧ r.2.mem ((c.tc : Thread Cert.FfnInBwdRefIdeal.nD Cert.FfnInBwdRefIdeal.τ).loc Cert.FfnInBwdRefIdeal.main_arg5) = m ((c.tc : Thread Cert.FfnInBwdRefIdeal.nD Cert.FfnInBwdRefIdeal.τ).loc Cert.FfnInBwdRefIdeal.main_arg5)
      ∧ r.2.mem ((c.tc : Thread Cert.FfnInBwdRefIdeal.nD Cert.FfnInBwdRefIdeal.τ).loc Cert.FfnInBwdRefIdeal.main_arg6) = m ((c.tc : Thread Cert.FfnInBwdRefIdeal.nD Cert.FfnInBwdRefIdeal.τ).loc Cert.FfnInBwdRefIdeal.main_arg6)
      ∧ r.2.mem ((c.tc : Thread Cert.FfnInBwdRefIdeal.nD Cert.FfnInBwdRefIdeal.τ).loc Cert.FfnInBwdRefIdeal.main_arg7) = m ((c.tc : Thread Cert.FfnInBwdRefIdeal.nD Cert.FfnInBwdRefIdeal.τ).loc Cert.FfnInBwdRefIdeal.main_arg7))
      ∧ r.2.sem = fun _ => 0)

def quiescent_FfnWBwd [hFfnWBwd : Cert.FfnWBwd.Facts] : Prop :=
  ∀ (m : (ℓ : Loc Cert.FfnWBwd.nD Cert.FfnWBwd.τ Cert.FfnWBwd.sig) → Buf (Elt Bits) ℓ) (g : Dev Cert.FfnWBwd.nD → PrngReg), Pre_FfnWBwd m →
    θ_run (Cert.FfnWBwd.defs (F := Bits)) (onTc (τ := Cert.FfnWBwd.τ) (Cert.FfnWBwd.main (F := Bits))) ⟨m, fun _ => 0, g⟩ (fun r => (∀ c : Dev Cert.FfnWBwd.nD,
      r.2.mem ((c.tc : Thread Cert.FfnWBwd.nD Cert.FfnWBwd.τ).loc Cert.FfnWBwd.main_arg0) = m ((c.tc : Thread Cert.FfnWBwd.nD Cert.FfnWBwd.τ).loc Cert.FfnWBwd.main_arg0)
      ∧ r.2.mem ((c.tc : Thread Cert.FfnWBwd.nD Cert.FfnWBwd.τ).loc Cert.FfnWBwd.main_arg1) = m ((c.tc : Thread Cert.FfnWBwd.nD Cert.FfnWBwd.τ).loc Cert.FfnWBwd.main_arg1)
      ∧ r.2.mem ((c.tc : Thread Cert.FfnWBwd.nD Cert.FfnWBwd.τ).loc Cert.FfnWBwd.main_arg2) = m ((c.tc : Thread Cert.FfnWBwd.nD Cert.FfnWBwd.τ).loc Cert.FfnWBwd.main_arg2)
      ∧ r.2.mem ((c.tc : Thread Cert.FfnWBwd.nD Cert.FfnWBwd.τ).loc Cert.FfnWBwd.main_arg3) = m ((c.tc : Thread Cert.FfnWBwd.nD Cert.FfnWBwd.τ).loc Cert.FfnWBwd.main_arg3)
      ∧ r.2.mem ((c.tc : Thread Cert.FfnWBwd.nD Cert.FfnWBwd.τ).loc Cert.FfnWBwd.main_arg4) = m ((c.tc : Thread Cert.FfnWBwd.nD Cert.FfnWBwd.τ).loc Cert.FfnWBwd.main_arg4))
      ∧ r.2.sem = fun _ => 0)

def quiescent_FfnWBwdIdeal [hFfnWBwdIdeal : Cert.FfnWBwdIdeal.Facts] : Prop :=
  ∀ (m : (ℓ : Loc Cert.FfnWBwdIdeal.nD Cert.FfnWBwdIdeal.τ Cert.FfnWBwdIdeal.sig) → Buf (Elt Ideal) ℓ) (g : Dev Cert.FfnWBwdIdeal.nD → PrngReg), Pre_FfnWBwdIdeal m →
    θ_run (Cert.FfnWBwdIdeal.defs (F := Ideal)) (onTc (τ := Cert.FfnWBwdIdeal.τ) (Cert.FfnWBwdIdeal.main (F := Ideal))) ⟨m, fun _ => 0, g⟩ (fun r => (∀ c : Dev Cert.FfnWBwdIdeal.nD,
      r.2.mem ((c.tc : Thread Cert.FfnWBwdIdeal.nD Cert.FfnWBwdIdeal.τ).loc Cert.FfnWBwdIdeal.main_arg0) = m ((c.tc : Thread Cert.FfnWBwdIdeal.nD Cert.FfnWBwdIdeal.τ).loc Cert.FfnWBwdIdeal.main_arg0)
      ∧ r.2.mem ((c.tc : Thread Cert.FfnWBwdIdeal.nD Cert.FfnWBwdIdeal.τ).loc Cert.FfnWBwdIdeal.main_arg1) = m ((c.tc : Thread Cert.FfnWBwdIdeal.nD Cert.FfnWBwdIdeal.τ).loc Cert.FfnWBwdIdeal.main_arg1)
      ∧ r.2.mem ((c.tc : Thread Cert.FfnWBwdIdeal.nD Cert.FfnWBwdIdeal.τ).loc Cert.FfnWBwdIdeal.main_arg2) = m ((c.tc : Thread Cert.FfnWBwdIdeal.nD Cert.FfnWBwdIdeal.τ).loc Cert.FfnWBwdIdeal.main_arg2)
      ∧ r.2.mem ((c.tc : Thread Cert.FfnWBwdIdeal.nD Cert.FfnWBwdIdeal.τ).loc Cert.FfnWBwdIdeal.main_arg3) = m ((c.tc : Thread Cert.FfnWBwdIdeal.nD Cert.FfnWBwdIdeal.τ).loc Cert.FfnWBwdIdeal.main_arg3)
      ∧ r.2.mem ((c.tc : Thread Cert.FfnWBwdIdeal.nD Cert.FfnWBwdIdeal.τ).loc Cert.FfnWBwdIdeal.main_arg4) = m ((c.tc : Thread Cert.FfnWBwdIdeal.nD Cert.FfnWBwdIdeal.τ).loc Cert.FfnWBwdIdeal.main_arg4))
      ∧ r.2.sem = fun _ => 0)

def quiescent_FfnWBwdIdeal_pre_ffnw_finite [hFfnWBwdIdeal : Cert.FfnWBwdIdeal.Facts] [hPre_ffnw_finite : Cert.Pre_ffnw_finite.Facts] : Prop :=
  ∀ (m : (ℓ : Loc Cert.FfnWBwdIdeal.nD Cert.FfnWBwdIdeal.τ Cert.FfnWBwdIdeal.sig) → Buf (Elt Ideal) ℓ) (g : Dev Cert.FfnWBwdIdeal.nD → PrngReg), Pre_FfnWBwdIdeal_ffnw_finite m →
    θ_run (Cert.FfnWBwdIdeal.defs (F := Ideal)) (onTc (τ := Cert.FfnWBwdIdeal.τ) (Cert.FfnWBwdIdeal.main (F := Ideal))) ⟨m, fun _ => 0, g⟩ (fun r => (∀ c : Dev Cert.FfnWBwdIdeal.nD,
      r.2.mem ((c.tc : Thread Cert.FfnWBwdIdeal.nD Cert.FfnWBwdIdeal.τ).loc Cert.FfnWBwdIdeal.main_arg0) = m ((c.tc : Thread Cert.FfnWBwdIdeal.nD Cert.FfnWBwdIdeal.τ).loc Cert.FfnWBwdIdeal.main_arg0)
      ∧ r.2.mem ((c.tc : Thread Cert.FfnWBwdIdeal.nD Cert.FfnWBwdIdeal.τ).loc Cert.FfnWBwdIdeal.main_arg1) = m ((c.tc : Thread Cert.FfnWBwdIdeal.nD Cert.FfnWBwdIdeal.τ).loc Cert.FfnWBwdIdeal.main_arg1)
      ∧ r.2.mem ((c.tc : Thread Cert.FfnWBwdIdeal.nD Cert.FfnWBwdIdeal.τ).loc Cert.FfnWBwdIdeal.main_arg2) = m ((c.tc : Thread Cert.FfnWBwdIdeal.nD Cert.FfnWBwdIdeal.τ).loc Cert.FfnWBwdIdeal.main_arg2)
      ∧ r.2.mem ((c.tc : Thread Cert.FfnWBwdIdeal.nD Cert.FfnWBwdIdeal.τ).loc Cert.FfnWBwdIdeal.main_arg3) = m ((c.tc : Thread Cert.FfnWBwdIdeal.nD Cert.FfnWBwdIdeal.τ).loc Cert.FfnWBwdIdeal.main_arg3)
      ∧ r.2.mem ((c.tc : Thread Cert.FfnWBwdIdeal.nD Cert.FfnWBwdIdeal.τ).loc Cert.FfnWBwdIdeal.main_arg4) = m ((c.tc : Thread Cert.FfnWBwdIdeal.nD Cert.FfnWBwdIdeal.τ).loc Cert.FfnWBwdIdeal.main_arg4))
      ∧ r.2.sem = fun _ => 0)

def quiescent_FfnWBwdRefIdeal [hFfnWBwdRefIdeal : Cert.FfnWBwdRefIdeal.Facts] : Prop :=
  ∀ (m : (ℓ : Loc Cert.FfnWBwdRefIdeal.nD Cert.FfnWBwdRefIdeal.τ Cert.FfnWBwdRefIdeal.sig) → Buf (Elt Ideal) ℓ) (g : Dev Cert.FfnWBwdRefIdeal.nD → PrngReg), Pre_FfnWBwdRefIdeal m →
    θ_run (Cert.FfnWBwdRefIdeal.defs (F := Ideal)) (onTc (τ := Cert.FfnWBwdRefIdeal.τ) (Cert.FfnWBwdRefIdeal.main (F := Ideal))) ⟨m, fun _ => 0, g⟩ (fun r => (∀ c : Dev Cert.FfnWBwdRefIdeal.nD,
      r.2.mem ((c.tc : Thread Cert.FfnWBwdRefIdeal.nD Cert.FfnWBwdRefIdeal.τ).loc Cert.FfnWBwdRefIdeal.main_arg0) = m ((c.tc : Thread Cert.FfnWBwdRefIdeal.nD Cert.FfnWBwdRefIdeal.τ).loc Cert.FfnWBwdRefIdeal.main_arg0)
      ∧ r.2.mem ((c.tc : Thread Cert.FfnWBwdRefIdeal.nD Cert.FfnWBwdRefIdeal.τ).loc Cert.FfnWBwdRefIdeal.main_arg1) = m ((c.tc : Thread Cert.FfnWBwdRefIdeal.nD Cert.FfnWBwdRefIdeal.τ).loc Cert.FfnWBwdRefIdeal.main_arg1)
      ∧ r.2.mem ((c.tc : Thread Cert.FfnWBwdRefIdeal.nD Cert.FfnWBwdRefIdeal.τ).loc Cert.FfnWBwdRefIdeal.main_arg2) = m ((c.tc : Thread Cert.FfnWBwdRefIdeal.nD Cert.FfnWBwdRefIdeal.τ).loc Cert.FfnWBwdRefIdeal.main_arg2)
      ∧ r.2.mem ((c.tc : Thread Cert.FfnWBwdRefIdeal.nD Cert.FfnWBwdRefIdeal.τ).loc Cert.FfnWBwdRefIdeal.main_arg3) = m ((c.tc : Thread Cert.FfnWBwdRefIdeal.nD Cert.FfnWBwdRefIdeal.τ).loc Cert.FfnWBwdRefIdeal.main_arg3)
      ∧ r.2.mem ((c.tc : Thread Cert.FfnWBwdRefIdeal.nD Cert.FfnWBwdRefIdeal.τ).loc Cert.FfnWBwdRefIdeal.main_arg4) = m ((c.tc : Thread Cert.FfnWBwdRefIdeal.nD Cert.FfnWBwdRefIdeal.τ).loc Cert.FfnWBwdRefIdeal.main_arg4))
      ∧ r.2.sem = fun _ => 0)

def quiescent_FfnWBwdRefIdeal_pre_ffnw_finite [hFfnWBwdRefIdeal : Cert.FfnWBwdRefIdeal.Facts] [hPre_ffnw_finite : Cert.Pre_ffnw_finite.Facts] : Prop :=
  ∀ (m : (ℓ : Loc Cert.FfnWBwdRefIdeal.nD Cert.FfnWBwdRefIdeal.τ Cert.FfnWBwdRefIdeal.sig) → Buf (Elt Ideal) ℓ) (g : Dev Cert.FfnWBwdRefIdeal.nD → PrngReg), Pre_FfnWBwdRefIdeal_ffnw_finite m →
    θ_run (Cert.FfnWBwdRefIdeal.defs (F := Ideal)) (onTc (τ := Cert.FfnWBwdRefIdeal.τ) (Cert.FfnWBwdRefIdeal.main (F := Ideal))) ⟨m, fun _ => 0, g⟩ (fun r => (∀ c : Dev Cert.FfnWBwdRefIdeal.nD,
      r.2.mem ((c.tc : Thread Cert.FfnWBwdRefIdeal.nD Cert.FfnWBwdRefIdeal.τ).loc Cert.FfnWBwdRefIdeal.main_arg0) = m ((c.tc : Thread Cert.FfnWBwdRefIdeal.nD Cert.FfnWBwdRefIdeal.τ).loc Cert.FfnWBwdRefIdeal.main_arg0)
      ∧ r.2.mem ((c.tc : Thread Cert.FfnWBwdRefIdeal.nD Cert.FfnWBwdRefIdeal.τ).loc Cert.FfnWBwdRefIdeal.main_arg1) = m ((c.tc : Thread Cert.FfnWBwdRefIdeal.nD Cert.FfnWBwdRefIdeal.τ).loc Cert.FfnWBwdRefIdeal.main_arg1)
      ∧ r.2.mem ((c.tc : Thread Cert.FfnWBwdRefIdeal.nD Cert.FfnWBwdRefIdeal.τ).loc Cert.FfnWBwdRefIdeal.main_arg2) = m ((c.tc : Thread Cert.FfnWBwdRefIdeal.nD Cert.FfnWBwdRefIdeal.τ).loc Cert.FfnWBwdRefIdeal.main_arg2)
      ∧ r.2.mem ((c.tc : Thread Cert.FfnWBwdRefIdeal.nD Cert.FfnWBwdRefIdeal.τ).loc Cert.FfnWBwdRefIdeal.main_arg3) = m ((c.tc : Thread Cert.FfnWBwdRefIdeal.nD Cert.FfnWBwdRefIdeal.τ).loc Cert.FfnWBwdRefIdeal.main_arg3)
      ∧ r.2.mem ((c.tc : Thread Cert.FfnWBwdRefIdeal.nD Cert.FfnWBwdRefIdeal.τ).loc Cert.FfnWBwdRefIdeal.main_arg4) = m ((c.tc : Thread Cert.FfnWBwdRefIdeal.nD Cert.FfnWBwdRefIdeal.τ).loc Cert.FfnWBwdRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5)
      ∧ r.2.mem ((c.tc : Thread Cert.PleBwd.nD Cert.PleBwd.τ).loc Cert.PleBwd.main_arg6) = m ((c.tc : Thread Cert.PleBwd.nD Cert.PleBwd.τ).loc Cert.PleBwd.main_arg6)
      ∧ r.2.mem ((c.tc : Thread Cert.PleBwd.nD Cert.PleBwd.τ).loc Cert.PleBwd.main_arg7) = m ((c.tc : Thread Cert.PleBwd.nD Cert.PleBwd.τ).loc Cert.PleBwd.main_arg7))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
      ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
      ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7))
      ∧ r.2.sem = fun _ => 0)

def quiescent_PleBwdIdeal_pre_ple_finite [hPleBwdIdeal : Cert.PleBwdIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_ple_finite m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
      ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
      ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5)
      ∧ r.2.mem ((c.tc : Thread Cert.PleBwdRefIdeal.nD Cert.PleBwdRefIdeal.τ).loc Cert.PleBwdRefIdeal.main_arg6) = m ((c.tc : Thread Cert.PleBwdRefIdeal.nD Cert.PleBwdRefIdeal.τ).loc Cert.PleBwdRefIdeal.main_arg6)
      ∧ r.2.mem ((c.tc : Thread Cert.PleBwdRefIdeal.nD Cert.PleBwdRefIdeal.τ).loc Cert.PleBwdRefIdeal.main_arg7) = m ((c.tc : Thread Cert.PleBwdRefIdeal.nD Cert.PleBwdRefIdeal.τ).loc Cert.PleBwdRefIdeal.main_arg7))
      ∧ r.2.sem = fun _ => 0)

def quiescent_PleBwdRefIdeal_pre_ple_finite [hPleBwdRefIdeal : Cert.PleBwdRefIdeal.Facts] [hPre_ple_finite : Cert.Pre_ple_finite.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal_ple_finite m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5)
      ∧ r.2.mem ((c.tc : Thread Cert.PleBwdRefIdeal.nD Cert.PleBwdRefIdeal.τ).loc Cert.PleBwdRefIdeal.main_arg6) = m ((c.tc : Thread Cert.PleBwdRefIdeal.nD Cert.PleBwdRefIdeal.τ).loc Cert.PleBwdRefIdeal.main_arg6)
      ∧ r.2.mem ((c.tc : Thread Cert.PleBwdRefIdeal.nD Cert.PleBwdRefIdeal.τ).loc Cert.PleBwdRefIdeal.main_arg7) = m ((c.tc : Thread Cert.PleBwdRefIdeal.nD Cert.PleBwdRefIdeal.τ).loc Cert.PleBwdRefIdeal.main_arg7))
      ∧ r.2.sem = fun _ => 0)

def quiescent_RglruBwd [hRglruBwd : Cert.RglruBwd.Facts] : Prop :=
  ∀ (m : (ℓ : Loc Cert.RglruBwd.nD Cert.RglruBwd.τ Cert.RglruBwd.sig) → Buf (Elt Bits) ℓ) (g : Dev Cert.RglruBwd.nD → PrngReg), Pre_RglruBwd m →
    θ_run (Cert.RglruBwd.defs (F := Bits)) (onTc (τ := Cert.RglruBwd.τ) (Cert.RglruBwd.main (F := Bits))) ⟨m, fun _ => 0, g⟩ (fun r => (∀ c : Dev Cert.RglruBwd.nD,
      r.2.mem ((c.tc : Thread Cert.RglruBwd.nD Cert.RglruBwd.τ).loc Cert.RglruBwd.main_arg0) = m ((c.tc : Thread Cert.RglruBwd.nD Cert.RglruBwd.τ).loc Cert.RglruBwd.main_arg0)
      ∧ r.2.mem ((c.tc : Thread Cert.RglruBwd.nD Cert.RglruBwd.τ).loc Cert.RglruBwd.main_arg1) = m ((c.tc : Thread Cert.RglruBwd.nD Cert.RglruBwd.τ).loc Cert.RglruBwd.main_arg1)
      ∧ r.2.mem ((c.tc : Thread Cert.RglruBwd.nD Cert.RglruBwd.τ).loc Cert.RglruBwd.main_arg2) = m ((c.tc : Thread Cert.RglruBwd.nD Cert.RglruBwd.τ).loc Cert.RglruBwd.main_arg2)
      ∧ r.2.mem ((c.tc : Thread Cert.RglruBwd.nD Cert.RglruBwd.τ).loc Cert.RglruBwd.main_arg3) = m ((c.tc : Thread Cert.RglruBwd.nD Cert.RglruBwd.τ).loc Cert.RglruBwd.main_arg3)
      ∧ r.2.mem ((c.tc : Thread Cert.RglruBwd.nD Cert.RglruBwd.τ).loc Cert.RglruBwd.main_arg4) = m ((c.tc : Thread Cert.RglruBwd.nD Cert.RglruBwd.τ).loc Cert.RglruBwd.main_arg4)
      ∧ r.2.mem ((c.tc : Thread Cert.RglruBwd.nD Cert.RglruBwd.τ).loc Cert.RglruBwd.main_arg5) = m ((c.tc : Thread Cert.RglruBwd.nD Cert.RglruBwd.τ).loc Cert.RglruBwd.main_arg5)
      ∧ r.2.mem ((c.tc : Thread Cert.RglruBwd.nD Cert.RglruBwd.τ).loc Cert.RglruBwd.main_arg6) = m ((c.tc : Thread Cert.RglruBwd.nD Cert.RglruBwd.τ).loc Cert.RglruBwd.main_arg6)
      ∧ r.2.mem ((c.tc : Thread Cert.RglruBwd.nD Cert.RglruBwd.τ).loc Cert.RglruBwd.main_arg7) = m ((c.tc : Thread Cert.RglruBwd.nD Cert.RglruBwd.τ).loc Cert.RglruBwd.main_arg7))
      ∧ r.2.sem = fun _ => 0)

def quiescent_RglruBwdIdeal [hRglruBwdIdeal : Cert.RglruBwdIdeal.Facts] : Prop :=
  ∀ (m : (ℓ : Loc Cert.RglruBwdIdeal.nD Cert.RglruBwdIdeal.τ Cert.RglruBwdIdeal.sig) → Buf (Elt Ideal) ℓ) (g : Dev Cert.RglruBwdIdeal.nD → PrngReg), Pre_RglruBwdIdeal m →
    θ_run (Cert.RglruBwdIdeal.defs (F := Ideal)) (onTc (τ := Cert.RglruBwdIdeal.τ) (Cert.RglruBwdIdeal.main (F := Ideal))) ⟨m, fun _ => 0, g⟩ (fun r => (∀ c : Dev Cert.RglruBwdIdeal.nD,
      r.2.mem ((c.tc : Thread Cert.RglruBwdIdeal.nD Cert.RglruBwdIdeal.τ).loc Cert.RglruBwdIdeal.main_arg0) = m ((c.tc : Thread Cert.RglruBwdIdeal.nD Cert.RglruBwdIdeal.τ).loc Cert.RglruBwdIdeal.main_arg0)
      ∧ r.2.mem ((c.tc : Thread Cert.RglruBwdIdeal.nD Cert.RglruBwdIdeal.τ).loc Cert.RglruBwdIdeal.main_arg1) = m ((c.tc : Thread Cert.RglruBwdIdeal.nD Cert.RglruBwdIdeal.τ).loc Cert.RglruBwdIdeal.main_arg1)
      ∧ r.2.mem ((c.tc : Thread Cert.RglruBwdIdeal.nD Cert.RglruBwdIdeal.τ).loc Cert.RglruBwdIdeal.main_arg2) = m ((c.tc : Thread Cert.RglruBwdIdeal.nD Cert.RglruBwdIdeal.τ).loc Cert.RglruBwdIdeal.main_arg2)
      ∧ r.2.mem ((c.tc : Thread Cert.RglruBwdIdeal.nD Cert.RglruBwdIdeal.τ).loc Cert.RglruBwdIdeal.main_arg3) = m ((c.tc : Thread Cert.RglruBwdIdeal.nD Cert.RglruBwdIdeal.τ).loc Cert.RglruBwdIdeal.main_arg3)
      ∧ r.2.mem ((c.tc : Thread Cert.RglruBwdIdeal.nD Cert.RglruBwdIdeal.τ).loc Cert.RglruBwdIdeal.main_arg4) = m ((c.tc : Thread Cert.RglruBwdIdeal.nD Cert.RglruBwdIdeal.τ).loc Cert.RglruBwdIdeal.main_arg4)
      ∧ r.2.mem ((c.tc : Thread Cert.RglruBwdIdeal.nD Cert.RglruBwdIdeal.τ).loc Cert.RglruBwdIdeal.main_arg5) = m ((c.tc : Thread Cert.RglruBwdIdeal.nD Cert.RglruBwdIdeal.τ).loc Cert.RglruBwdIdeal.main_arg5)
      ∧ r.2.mem ((c.tc : Thread Cert.RglruBwdIdeal.nD Cert.RglruBwdIdeal.τ).loc Cert.RglruBwdIdeal.main_arg6) = m ((c.tc : Thread Cert.RglruBwdIdeal.nD Cert.RglruBwdIdeal.τ).loc Cert.RglruBwdIdeal.main_arg6)
      ∧ r.2.mem ((c.tc : Thread Cert.RglruBwdIdeal.nD Cert.RglruBwdIdeal.τ).loc Cert.RglruBwdIdeal.main_arg7) = m ((c.tc : Thread Cert.RglruBwdIdeal.nD Cert.RglruBwdIdeal.τ).loc Cert.RglruBwdIdeal.main_arg7))
      ∧ r.2.sem = fun _ => 0)

def quiescent_RglruBwdIdeal_pre_rglru_finite [hRglruBwdIdeal : Cert.RglruBwdIdeal.Facts] [hPre_rglru_finite : Cert.Pre_rglru_finite.Facts] : Prop :=
  ∀ (m : (ℓ : Loc Cert.RglruBwdIdeal.nD Cert.RglruBwdIdeal.τ Cert.RglruBwdIdeal.sig) → Buf (Elt Ideal) ℓ) (g : Dev Cert.RglruBwdIdeal.nD → PrngReg), Pre_RglruBwdIdeal_rglru_finite m →
    θ_run (Cert.RglruBwdIdeal.defs (F := Ideal)) (onTc (τ := Cert.RglruBwdIdeal.τ) (Cert.RglruBwdIdeal.main (F := Ideal))) ⟨m, fun _ => 0, g⟩ (fun r => (∀ c : Dev Cert.RglruBwdIdeal.nD,
      r.2.mem ((c.tc : Thread Cert.RglruBwdIdeal.nD Cert.RglruBwdIdeal.τ).loc Cert.RglruBwdIdeal.main_arg0) = m ((c.tc : Thread Cert.RglruBwdIdeal.nD Cert.RglruBwdIdeal.τ).loc Cert.RglruBwdIdeal.main_arg0)
      ∧ r.2.mem ((c.tc : Thread Cert.RglruBwdIdeal.nD Cert.RglruBwdIdeal.τ).loc Cert.RglruBwdIdeal.main_arg1) = m ((c.tc : Thread Cert.RglruBwdIdeal.nD Cert.RglruBwdIdeal.τ).loc Cert.RglruBwdIdeal.main_arg1)
      ∧ r.2.mem ((c.tc : Thread Cert.RglruBwdIdeal.nD Cert.RglruBwdIdeal.τ).loc Cert.RglruBwdIdeal.main_arg2) = m ((c.tc : Thread Cert.RglruBwdIdeal.nD Cert.RglruBwdIdeal.τ).loc Cert.RglruBwdIdeal.main_arg2)
      ∧ r.2.mem ((c.tc : Thread Cert.RglruBwdIdeal.nD Cert.RglruBwdIdeal.τ).loc Cert.RglruBwdIdeal.main_arg3) = m ((c.tc : Thread Cert.RglruBwdIdeal.nD Cert.RglruBwdIdeal.τ).loc Cert.RglruBwdIdeal.main_arg3)
      ∧ r.2.mem ((c.tc : Thread Cert.RglruBwdIdeal.nD Cert.RglruBwdIdeal.τ).loc Cert.RglruBwdIdeal.main_arg4) = m ((c.tc : Thread Cert.RglruBwdIdeal.nD Cert.RglruBwdIdeal.τ).loc Cert.RglruBwdIdeal.main_arg4)
      ∧ r.2.mem ((c.tc : Thread Cert.RglruBwdIdeal.nD Cert.RglruBwdIdeal.τ).loc Cert.RglruBwdIdeal.main_arg5) = m ((c.tc : Thread Cert.RglruBwdIdeal.nD Cert.RglruBwdIdeal.τ).loc Cert.RglruBwdIdeal.main_arg5)
      ∧ r.2.mem ((c.tc : Thread Cert.RglruBwdIdeal.nD Cert.RglruBwdIdeal.τ).loc Cert.RglruBwdIdeal.main_arg6) = m ((c.tc : Thread Cert.RglruBwdIdeal.nD Cert.RglruBwdIdeal.τ).loc Cert.RglruBwdIdeal.main_arg6)
      ∧ r.2.mem ((c.tc : Thread Cert.RglruBwdIdeal.nD Cert.RglruBwdIdeal.τ).loc Cert.RglruBwdIdeal.main_arg7) = m ((c.tc : Thread Cert.RglruBwdIdeal.nD Cert.RglruBwdIdeal.τ).loc Cert.RglruBwdIdeal.main_arg7))
      ∧ r.2.sem = fun _ => 0)

def quiescent_RglruBwdRefIdeal [hRglruBwdRefIdeal : Cert.RglruBwdRefIdeal.Facts] : Prop :=
  ∀ (m : (ℓ : Loc Cert.RglruBwdRefIdeal.nD Cert.RglruBwdRefIdeal.τ Cert.RglruBwdRefIdeal.sig) → Buf (Elt Ideal) ℓ) (g : Dev Cert.RglruBwdRefIdeal.nD → PrngReg), Pre_RglruBwdRefIdeal m →
    θ_run (Cert.RglruBwdRefIdeal.defs (F := Ideal)) (onTc (τ := Cert.RglruBwdRefIdeal.τ) (Cert.RglruBwdRefIdeal.main (F := Ideal))) ⟨m, fun _ => 0, g⟩ (fun r => (∀ c : Dev Cert.RglruBwdRefIdeal.nD,
      r.2.mem ((c.tc : Thread Cert.RglruBwdRefIdeal.nD Cert.RglruBwdRefIdeal.τ).loc Cert.RglruBwdRefIdeal.main_arg0) = m ((c.tc : Thread Cert.RglruBwdRefIdeal.nD Cert.RglruBwdRefIdeal.τ).loc Cert.RglruBwdRefIdeal.main_arg0)
      ∧ r.2.mem ((c.tc : Thread Cert.RglruBwdRefIdeal.nD Cert.RglruBwdRefIdeal.τ).loc Cert.RglruBwdRefIdeal.main_arg1) = m ((c.tc : Thread Cert.RglruBwdRefIdeal.nD Cert.RglruBwdRefIdeal.τ).loc Cert.RglruBwdRefIdeal.main_arg1)
      ∧ r.2.mem ((c.tc : Thread Cert.RglruBwdRefIdeal.nD Cert.RglruBwdRefIdeal.τ).loc Cert.RglruBwdRefIdeal.main_arg2) = m ((c.tc : Thread Cert.RglruBwdRefIdeal.nD Cert.RglruBwdRefIdeal.τ).loc Cert.RglruBwdRefIdeal.main_arg2)
      ∧ r.2.mem ((c.tc : Thread Cert.RglruBwdRefIdeal.nD Cert.RglruBwdRefIdeal.τ).loc Cert.RglruBwdRefIdeal.main_arg3) = m ((c.tc : Thread Cert.RglruBwdRefIdeal.nD Cert.RglruBwdRefIdeal.τ).loc Cert.RglruBwdRefIdeal.main_arg3)
      ∧ r.2.mem ((c.tc : Thread Cert.RglruBwdRefIdeal.nD Cert.RglruBwdRefIdeal.τ).loc Cert.RglruBwdRefIdeal.main_arg4) = m ((c.tc : Thread Cert.RglruBwdRefIdeal.nD Cert.RglruBwdRefIdeal.τ).loc Cert.RglruBwdRefIdeal.main_arg4)
      ∧ r.2.mem ((c.tc : Thread Cert.RglruBwdRefIdeal.nD Cert.RglruBwdRefIdeal.τ).loc Cert.RglruBwdRefIdeal.main_arg5) = m ((c.tc : Thread Cert.RglruBwdRefIdeal.nD Cert.RglruBwdRefIdeal.τ).loc Cert.RglruBwdRefIdeal.main_arg5)
      ∧ r.2.mem ((c.tc : Thread Cert.RglruBwdRefIdeal.nD Cert.RglruBwdRefIdeal.τ).loc Cert.RglruBwdRefIdeal.main_arg6) = m ((c.tc : Thread Cert.RglruBwdRefIdeal.nD Cert.RglruBwdRefIdeal.τ).loc Cert.RglruBwdRefIdeal.main_arg6)
      ∧ r.2.mem ((c.tc : Thread Cert.RglruBwdRefIdeal.nD Cert.RglruBwdRefIdeal.τ).loc Cert.RglruBwdRefIdeal.main_arg7) = m ((c.tc : Thread Cert.RglruBwdRefIdeal.nD Cert.RglruBwdRefIdeal.τ).loc Cert.RglruBwdRefIdeal.main_arg7))
      ∧ r.2.sem = fun _ => 0)

def quiescent_RglruBwdRefIdeal_pre_rglru_finite [hRglruBwdRefIdeal : Cert.RglruBwdRefIdeal.Facts] [hPre_rglru_finite : Cert.Pre_rglru_finite.Facts] : Prop :=
  ∀ (m : (ℓ : Loc Cert.RglruBwdRefIdeal.nD Cert.RglruBwdRefIdeal.τ Cert.RglruBwdRefIdeal.sig) → Buf (Elt Ideal) ℓ) (g : Dev Cert.RglruBwdRefIdeal.nD → PrngReg), Pre_RglruBwdRefIdeal_rglru_finite m →
    θ_run (Cert.RglruBwdRefIdeal.defs (F := Ideal)) (onTc (τ := Cert.RglruBwdRefIdeal.τ) (Cert.RglruBwdRefIdeal.main (F := Ideal))) ⟨m, fun _ => 0, g⟩ (fun r => (∀ c : Dev Cert.RglruBwdRefIdeal.nD,
      r.2.mem ((c.tc : Thread Cert.RglruBwdRefIdeal.nD Cert.RglruBwdRefIdeal.τ).loc Cert.RglruBwdRefIdeal.main_arg0) = m ((c.tc : Thread Cert.RglruBwdRefIdeal.nD Cert.RglruBwdRefIdeal.τ).loc Cert.RglruBwdRefIdeal.main_arg0)
      ∧ r.2.mem ((c.tc : Thread Cert.RglruBwdRefIdeal.nD Cert.RglruBwdRefIdeal.τ).loc Cert.RglruBwdRefIdeal.main_arg1) = m ((c.tc : Thread Cert.RglruBwdRefIdeal.nD Cert.RglruBwdRefIdeal.τ).loc Cert.RglruBwdRefIdeal.main_arg1)
      ∧ r.2.mem ((c.tc : Thread Cert.RglruBwdRefIdeal.nD Cert.RglruBwdRefIdeal.τ).loc Cert.RglruBwdRefIdeal.main_arg2) = m ((c.tc : Thread Cert.RglruBwdRefIdeal.nD Cert.RglruBwdRefIdeal.τ).loc Cert.RglruBwdRefIdeal.main_arg2)
      ∧ r.2.mem ((c.tc : Thread Cert.RglruBwdRefIdeal.nD Cert.RglruBwdRefIdeal.τ).loc Cert.RglruBwdRefIdeal.main_arg3) = m ((c.tc : Thread Cert.RglruBwdRefIdeal.nD Cert.RglruBwdRefIdeal.τ).loc Cert.RglruBwdRefIdeal.main_arg3)
      ∧ r.2.mem ((c.tc : Thread Cert.RglruBwdRefIdeal.nD Cert.RglruBwdRefIdeal.τ).loc Cert.RglruBwdRefIdeal.main_arg4) = m ((c.tc : Thread Cert.RglruBwdRefIdeal.nD Cert.RglruBwdRefIdeal.τ).loc Cert.RglruBwdRefIdeal.main_arg4)
      ∧ r.2.mem ((c.tc : Thread Cert.RglruBwdRefIdeal.nD Cert.RglruBwdRefIdeal.τ).loc Cert.RglruBwdRefIdeal.main_arg5) = m ((c.tc : Thread Cert.RglruBwdRefIdeal.nD Cert.RglruBwdRefIdeal.τ).loc Cert.RglruBwdRefIdeal.main_arg5)
      ∧ r.2.mem ((c.tc : Thread Cert.RglruBwdRefIdeal.nD Cert.RglruBwdRefIdeal.τ).loc Cert.RglruBwdRefIdeal.main_arg6) = m ((c.tc : Thread Cert.RglruBwdRefIdeal.nD Cert.RglruBwdRefIdeal.τ).loc Cert.RglruBwdRefIdeal.main_arg6)
      ∧ r.2.mem ((c.tc : Thread Cert.RglruBwdRefIdeal.nD Cert.RglruBwdRefIdeal.τ).loc Cert.RglruBwdRefIdeal.main_arg7) = m ((c.tc : Thread Cert.RglruBwdRefIdeal.nD Cert.RglruBwdRefIdeal.τ).loc Cert.RglruBwdRefIdeal.main_arg7))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ConvActFwd [hConvActFwd : Cert.ConvActFwd.Facts] : Prop :=
  ∀ (m : (ℓ : Loc Cert.ConvActFwd.nD Cert.ConvActFwd.τ Cert.ConvActFwd.sig) → Buf (Elt Bits) ℓ) (g : Dev Cert.ConvActFwd.nD → PrngReg), Pre_ConvActFwd m →
    θ_run (Cert.ConvActFwd.defs (F := Bits)) (onTc (τ := Cert.ConvActFwd.τ) (Cert.ConvActFwd.main (F := Bits))) ⟨m, fun _ => 0, g⟩ (fun r => (∀ c : Dev Cert.ConvActFwd.nD,
      r.2.mem ((c.tc : Thread Cert.ConvActFwd.nD Cert.ConvActFwd.τ).loc Cert.ConvActFwd.main_arg0) = m ((c.tc : Thread Cert.ConvActFwd.nD Cert.ConvActFwd.τ).loc Cert.ConvActFwd.main_arg0)
      ∧ r.2.mem ((c.tc : Thread Cert.ConvActFwd.nD Cert.ConvActFwd.τ).loc Cert.ConvActFwd.main_arg1) = m ((c.tc : Thread Cert.ConvActFwd.nD Cert.ConvActFwd.τ).loc Cert.ConvActFwd.main_arg1))
      ∧ r.2.sem = fun _ => 0)

def quiescent_ConvActFwdIdeal [hConvActFwdIdeal : Cert.ConvActFwdIdeal.Facts] : Prop :=
  ∀ (m : (ℓ : Loc Cert.ConvActFwdIdeal.nD Cert.ConvActFwdIdeal.τ Cert.ConvActFwdIdeal.sig) → Buf (Elt Ideal) ℓ) (g : Dev Cert.ConvActFwdIdeal.nD → PrngReg), Pre_ConvActFwdIdeal m →
    θ_run (Cert.ConvActFwdIdeal.defs (F := Ideal)) (onTc (τ := Cert.ConvActFwdIdeal.τ) (Cert.ConvActFwdIdeal.main (F := Ideal))) ⟨m, fun _ => 0, g⟩ (fun r => (∀ c : Dev Cert.ConvActFwdIdeal.nD,
      r.2.mem ((c.tc : Thread Cert.ConvActFwdIdeal.nD Cert.ConvActFwdIdeal.τ).loc Cert.ConvActFwdIdeal.main_arg0) = m ((c.tc : Thread Cert.ConvActFwdIdeal.nD Cert.ConvActFwdIdeal.τ).loc Cert.ConvActFwdIdeal.main_arg0)
      ∧ r.2.mem ((c.tc : Thread Cert.ConvActFwdIdeal.nD Cert.ConvActFwdIdeal.τ).loc Cert.ConvActFwdIdeal.main_arg1) = m ((c.tc : Thread Cert.ConvActFwdIdeal.nD Cert.ConvActFwdIdeal.τ).loc Cert.ConvActFwdIdeal.main_arg1))
      ∧ r.2.sem = fun _ => 0)

def quiescent_ConvActFwdRefIdeal [hConvActFwdRefIdeal : Cert.ConvActFwdRefIdeal.Facts] : Prop :=
  ∀ (m : (ℓ : Loc Cert.ConvActFwdRefIdeal.nD Cert.ConvActFwdRefIdeal.τ Cert.ConvActFwdRefIdeal.sig) → Buf (Elt Ideal) ℓ) (g : Dev Cert.ConvActFwdRefIdeal.nD → PrngReg), Pre_ConvActFwdRefIdeal m →
    θ_run (Cert.ConvActFwdRefIdeal.defs (F := Ideal)) (onTc (τ := Cert.ConvActFwdRefIdeal.τ) (Cert.ConvActFwdRefIdeal.main (F := Ideal))) ⟨m, fun _ => 0, g⟩ (fun r => (∀ c : Dev Cert.ConvActFwdRefIdeal.nD,
      r.2.mem ((c.tc : Thread Cert.ConvActFwdRefIdeal.nD Cert.ConvActFwdRefIdeal.τ).loc Cert.ConvActFwdRefIdeal.main_arg0) = m ((c.tc : Thread Cert.ConvActFwdRefIdeal.nD Cert.ConvActFwdRefIdeal.τ).loc Cert.ConvActFwdRefIdeal.main_arg0)
      ∧ r.2.mem ((c.tc : Thread Cert.ConvActFwdRefIdeal.nD Cert.ConvActFwdRefIdeal.τ).loc Cert.ConvActFwdRefIdeal.main_arg1) = m ((c.tc : Thread Cert.ConvActFwdRefIdeal.nD Cert.ConvActFwdRefIdeal.τ).loc Cert.ConvActFwdRefIdeal.main_arg1))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4)
      ∧ r.2.mem ((c.tc : Thread Cert.ProjLn.nD Cert.ProjLn.τ).loc Cert.ProjLn.main_arg5) = m ((c.tc : Thread Cert.ProjLn.nD Cert.ProjLn.τ).loc Cert.ProjLn.main_arg5))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
      ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4)
      ∧ r.2.mem ((c.tc : Thread Cert.ProjLnRefIdeal.nD Cert.ProjLnRefIdeal.τ).loc Cert.ProjLnRefIdeal.main_arg5) = m ((c.tc : Thread Cert.ProjLnRefIdeal.nD Cert.ProjLnRefIdeal.τ).loc Cert.ProjLnRefIdeal.main_arg5))
      ∧ r.2.sem = fun _ => 0)

def quiescent_RglruFwd [hRglruFwd : Cert.RglruFwd.Facts] : Prop :=
  ∀ (m : (ℓ : Loc Cert.RglruFwd.nD Cert.RglruFwd.τ Cert.RglruFwd.sig) → Buf (Elt Bits) ℓ) (g : Dev Cert.RglruFwd.nD → PrngReg), Pre_RglruFwd m →
    θ_run (Cert.RglruFwd.defs (F := Bits)) (onTc (τ := Cert.RglruFwd.τ) (Cert.RglruFwd.main (F := Bits))) ⟨m, fun _ => 0, g⟩ (fun r => (∀ c : Dev Cert.RglruFwd.nD,
      r.2.mem ((c.tc : Thread Cert.RglruFwd.nD Cert.RglruFwd.τ).loc Cert.RglruFwd.main_arg0) = m ((c.tc : Thread Cert.RglruFwd.nD Cert.RglruFwd.τ).loc Cert.RglruFwd.main_arg0)
      ∧ r.2.mem ((c.tc : Thread Cert.RglruFwd.nD Cert.RglruFwd.τ).loc Cert.RglruFwd.main_arg1) = m ((c.tc : Thread Cert.RglruFwd.nD Cert.RglruFwd.τ).loc Cert.RglruFwd.main_arg1)
      ∧ r.2.mem ((c.tc : Thread Cert.RglruFwd.nD Cert.RglruFwd.τ).loc Cert.RglruFwd.main_arg2) = m ((c.tc : Thread Cert.RglruFwd.nD Cert.RglruFwd.τ).loc Cert.RglruFwd.main_arg2)
      ∧ r.2.mem ((c.tc : Thread Cert.RglruFwd.nD Cert.RglruFwd.τ).loc Cert.RglruFwd.main_arg3) = m ((c.tc : Thread Cert.RglruFwd.nD Cert.RglruFwd.τ).loc Cert.RglruFwd.main_arg3)
      ∧ r.2.mem ((c.tc : Thread Cert.RglruFwd.nD Cert.RglruFwd.τ).loc Cert.RglruFwd.main_arg4) = m ((c.tc : Thread Cert.RglruFwd.nD Cert.RglruFwd.τ).loc Cert.RglruFwd.main_arg4)
      ∧ r.2.mem ((c.tc : Thread Cert.RglruFwd.nD Cert.RglruFwd.τ).loc Cert.RglruFwd.main_arg5) = m ((c.tc : Thread Cert.RglruFwd.nD Cert.RglruFwd.τ).loc Cert.RglruFwd.main_arg5)
      ∧ r.2.mem ((c.tc : Thread Cert.RglruFwd.nD Cert.RglruFwd.τ).loc Cert.RglruFwd.main_arg6) = m ((c.tc : Thread Cert.RglruFwd.nD Cert.RglruFwd.τ).loc Cert.RglruFwd.main_arg6))
      ∧ r.2.sem = fun _ => 0)

def quiescent_RglruFwdIdeal [hRglruFwdIdeal : Cert.RglruFwdIdeal.Facts] : Prop :=
  ∀ (m : (ℓ : Loc Cert.RglruFwdIdeal.nD Cert.RglruFwdIdeal.τ Cert.RglruFwdIdeal.sig) → Buf (Elt Ideal) ℓ) (g : Dev Cert.RglruFwdIdeal.nD → PrngReg), Pre_RglruFwdIdeal m →
    θ_run (Cert.RglruFwdIdeal.defs (F := Ideal)) (onTc (τ := Cert.RglruFwdIdeal.τ) (Cert.RglruFwdIdeal.main (F := Ideal))) ⟨m, fun _ => 0, g⟩ (fun r => (∀ c : Dev Cert.RglruFwdIdeal.nD,
      r.2.mem ((c.tc : Thread Cert.RglruFwdIdeal.nD Cert.RglruFwdIdeal.τ).loc Cert.RglruFwdIdeal.main_arg0) = m ((c.tc : Thread Cert.RglruFwdIdeal.nD Cert.RglruFwdIdeal.τ).loc Cert.RglruFwdIdeal.main_arg0)
      ∧ r.2.mem ((c.tc : Thread Cert.RglruFwdIdeal.nD Cert.RglruFwdIdeal.τ).loc Cert.RglruFwdIdeal.main_arg1) = m ((c.tc : Thread Cert.RglruFwdIdeal.nD Cert.RglruFwdIdeal.τ).loc Cert.RglruFwdIdeal.main_arg1)
      ∧ r.2.mem ((c.tc : Thread Cert.RglruFwdIdeal.nD Cert.RglruFwdIdeal.τ).loc Cert.RglruFwdIdeal.main_arg2) = m ((c.tc : Thread Cert.RglruFwdIdeal.nD Cert.RglruFwdIdeal.τ).loc Cert.RglruFwdIdeal.main_arg2)
      ∧ r.2.mem ((c.tc : Thread Cert.RglruFwdIdeal.nD Cert.RglruFwdIdeal.τ).loc Cert.RglruFwdIdeal.main_arg3) = m ((c.tc : Thread Cert.RglruFwdIdeal.nD Cert.RglruFwdIdeal.τ).loc Cert.RglruFwdIdeal.main_arg3)
      ∧ r.2.mem ((c.tc : Thread Cert.RglruFwdIdeal.nD Cert.RglruFwdIdeal.τ).loc Cert.RglruFwdIdeal.main_arg4) = m ((c.tc : Thread Cert.RglruFwdIdeal.nD Cert.RglruFwdIdeal.τ).loc Cert.RglruFwdIdeal.main_arg4)
      ∧ r.2.mem ((c.tc : Thread Cert.RglruFwdIdeal.nD Cert.RglruFwdIdeal.τ).loc Cert.RglruFwdIdeal.main_arg5) = m ((c.tc : Thread Cert.RglruFwdIdeal.nD Cert.RglruFwdIdeal.τ).loc Cert.RglruFwdIdeal.main_arg5)
      ∧ r.2.mem ((c.tc : Thread Cert.RglruFwdIdeal.nD Cert.RglruFwdIdeal.τ).loc Cert.RglruFwdIdeal.main_arg6) = m ((c.tc : Thread Cert.RglruFwdIdeal.nD Cert.RglruFwdIdeal.τ).loc Cert.RglruFwdIdeal.main_arg6))
      ∧ r.2.sem = fun _ => 0)

def quiescent_RglruFwdIdeal_pre_rgf_finite [hRglruFwdIdeal : Cert.RglruFwdIdeal.Facts] [hPre_rgf_finite : Cert.Pre_rgf_finite.Facts] : Prop :=
  ∀ (m : (ℓ : Loc Cert.RglruFwdIdeal.nD Cert.RglruFwdIdeal.τ Cert.RglruFwdIdeal.sig) → Buf (Elt Ideal) ℓ) (g : Dev Cert.RglruFwdIdeal.nD → PrngReg), Pre_RglruFwdIdeal_rgf_finite m →
    θ_run (Cert.RglruFwdIdeal.defs (F := Ideal)) (onTc (τ := Cert.RglruFwdIdeal.τ) (Cert.RglruFwdIdeal.main (F := Ideal))) ⟨m, fun _ => 0, g⟩ (fun r => (∀ c : Dev Cert.RglruFwdIdeal.nD,
      r.2.mem ((c.tc : Thread Cert.RglruFwdIdeal.nD Cert.RglruFwdIdeal.τ).loc Cert.RglruFwdIdeal.main_arg0) = m ((c.tc : Thread Cert.RglruFwdIdeal.nD Cert.RglruFwdIdeal.τ).loc Cert.RglruFwdIdeal.main_arg0)
      ∧ r.2.mem ((c.tc : Thread Cert.RglruFwdIdeal.nD Cert.RglruFwdIdeal.τ).loc Cert.RglruFwdIdeal.main_arg1) = m ((c.tc : Thread Cert.RglruFwdIdeal.nD Cert.RglruFwdIdeal.τ).loc Cert.RglruFwdIdeal.main_arg1)
      ∧ r.2.mem ((c.tc : Thread Cert.RglruFwdIdeal.nD Cert.RglruFwdIdeal.τ).loc Cert.RglruFwdIdeal.main_arg2) = m ((c.tc : Thread Cert.RglruFwdIdeal.nD Cert.RglruFwdIdeal.τ).loc Cert.RglruFwdIdeal.main_arg2)
      ∧ r.2.mem ((c.tc : Thread Cert.RglruFwdIdeal.nD Cert.RglruFwdIdeal.τ).loc Cert.RglruFwdIdeal.main_arg3) = m ((c.tc : Thread Cert.RglruFwdIdeal.nD Cert.RglruFwdIdeal.τ).loc Cert.RglruFwdIdeal.main_arg3)
      ∧ r.2.mem ((c.tc : Thread Cert.RglruFwdIdeal.nD Cert.RglruFwdIdeal.τ).loc Cert.RglruFwdIdeal.main_arg4) = m ((c.tc : Thread Cert.RglruFwdIdeal.nD Cert.RglruFwdIdeal.τ).loc Cert.RglruFwdIdeal.main_arg4)
      ∧ r.2.mem ((c.tc : Thread Cert.RglruFwdIdeal.nD Cert.RglruFwdIdeal.τ).loc Cert.RglruFwdIdeal.main_arg5) = m ((c.tc : Thread Cert.RglruFwdIdeal.nD Cert.RglruFwdIdeal.τ).loc Cert.RglruFwdIdeal.main_arg5)
      ∧ r.2.mem ((c.tc : Thread Cert.RglruFwdIdeal.nD Cert.RglruFwdIdeal.τ).loc Cert.RglruFwdIdeal.main_arg6) = m ((c.tc : Thread Cert.RglruFwdIdeal.nD Cert.RglruFwdIdeal.τ).loc Cert.RglruFwdIdeal.main_arg6))
      ∧ r.2.sem = fun _ => 0)

def quiescent_RglruFwdRefIdeal [hRglruFwdRefIdeal : Cert.RglruFwdRefIdeal.Facts] : Prop :=
  ∀ (m : (ℓ : Loc Cert.RglruFwdRefIdeal.nD Cert.RglruFwdRefIdeal.τ Cert.RglruFwdRefIdeal.sig) → Buf (Elt Ideal) ℓ) (g : Dev Cert.RglruFwdRefIdeal.nD → PrngReg), Pre_RglruFwdRefIdeal m →
    θ_run (Cert.RglruFwdRefIdeal.defs (F := Ideal)) (onTc (τ := Cert.RglruFwdRefIdeal.τ) (Cert.RglruFwdRefIdeal.main (F := Ideal))) ⟨m, fun _ => 0, g⟩ (fun r => (∀ c : Dev Cert.RglruFwdRefIdeal.nD,
      r.2.mem ((c.tc : Thread Cert.RglruFwdRefIdeal.nD Cert.RglruFwdRefIdeal.τ).loc Cert.RglruFwdRefIdeal.main_arg0) = m ((c.tc : Thread Cert.RglruFwdRefIdeal.nD Cert.RglruFwdRefIdeal.τ).loc Cert.RglruFwdRefIdeal.main_arg0)
      ∧ r.2.mem ((c.tc : Thread Cert.RglruFwdRefIdeal.nD Cert.RglruFwdRefIdeal.τ).loc Cert.RglruFwdRefIdeal.main_arg1) = m ((c.tc : Thread Cert.RglruFwdRefIdeal.nD Cert.RglruFwdRefIdeal.τ).loc Cert.RglruFwdRefIdeal.main_arg1)
      ∧ r.2.mem ((c.tc : Thread Cert.RglruFwdRefIdeal.nD Cert.RglruFwdRefIdeal.τ).loc Cert.RglruFwdRefIdeal.main_arg2) = m ((c.tc : Thread Cert.RglruFwdRefIdeal.nD Cert.RglruFwdRefIdeal.τ).loc Cert.RglruFwdRefIdeal.main_arg2)
      ∧ r.2.mem ((c.tc : Thread Cert.RglruFwdRefIdeal.nD Cert.RglruFwdRefIdeal.τ).loc Cert.RglruFwdRefIdeal.main_arg3) = m ((c.tc : Thread Cert.RglruFwdRefIdeal.nD Cert.RglruFwdRefIdeal.τ).loc Cert.RglruFwdRefIdeal.main_arg3)
      ∧ r.2.mem ((c.tc : Thread Cert.RglruFwdRefIdeal.nD Cert.RglruFwdRefIdeal.τ).loc Cert.RglruFwdRefIdeal.main_arg4) = m ((c.tc : Thread Cert.RglruFwdRefIdeal.nD Cert.RglruFwdRefIdeal.τ).loc Cert.RglruFwdRefIdeal.main_arg4)
      ∧ r.2.mem ((c.tc : Thread Cert.RglruFwdRefIdeal.nD Cert.RglruFwdRefIdeal.τ).loc Cert.RglruFwdRefIdeal.main_arg5) = m ((c.tc : Thread Cert.RglruFwdRefIdeal.nD Cert.RglruFwdRefIdeal.τ).loc Cert.RglruFwdRefIdeal.main_arg5)
      ∧ r.2.mem ((c.tc : Thread Cert.RglruFwdRefIdeal.nD Cert.RglruFwdRefIdeal.τ).loc Cert.RglruFwdRefIdeal.main_arg6) = m ((c.tc : Thread Cert.RglruFwdRefIdeal.nD Cert.RglruFwdRefIdeal.τ).loc Cert.RglruFwdRefIdeal.main_arg6))
      ∧ r.2.sem = fun _ => 0)

def quiescent_RglruFwdRefIdeal_pre_rgf_finite [hRglruFwdRefIdeal : Cert.RglruFwdRefIdeal.Facts] [hPre_rgf_finite : Cert.Pre_rgf_finite.Facts] : Prop :=
  ∀ (m : (ℓ : Loc Cert.RglruFwdRefIdeal.nD Cert.RglruFwdRefIdeal.τ Cert.RglruFwdRefIdeal.sig) → Buf (Elt Ideal) ℓ) (g : Dev Cert.RglruFwdRefIdeal.nD → PrngReg), Pre_RglruFwdRefIdeal_rgf_finite m →
    θ_run (Cert.RglruFwdRefIdeal.defs (F := Ideal)) (onTc (τ := Cert.RglruFwdRefIdeal.τ) (Cert.RglruFwdRefIdeal.main (F := Ideal))) ⟨m, fun _ => 0, g⟩ (fun r => (∀ c : Dev Cert.RglruFwdRefIdeal.nD,
      r.2.mem ((c.tc : Thread Cert.RglruFwdRefIdeal.nD Cert.RglruFwdRefIdeal.τ).loc Cert.RglruFwdRefIdeal.main_arg0) = m ((c.tc : Thread Cert.RglruFwdRefIdeal.nD Cert.RglruFwdRefIdeal.τ).loc Cert.RglruFwdRefIdeal.main_arg0)
      ∧ r.2.mem ((c.tc : Thread Cert.RglruFwdRefIdeal.nD Cert.RglruFwdRefIdeal.τ).loc Cert.RglruFwdRefIdeal.main_arg1) = m ((c.tc : Thread Cert.RglruFwdRefIdeal.nD Cert.RglruFwdRefIdeal.τ).loc Cert.RglruFwdRefIdeal.main_arg1)
      ∧ r.2.mem ((c.tc : Thread Cert.RglruFwdRefIdeal.nD Cert.RglruFwdRefIdeal.τ).loc Cert.RglruFwdRefIdeal.main_arg2) = m ((c.tc : Thread Cert.RglruFwdRefIdeal.nD Cert.RglruFwdRefIdeal.τ).loc Cert.RglruFwdRefIdeal.main_arg2)
      ∧ r.2.mem ((c.tc : Thread Cert.RglruFwdRefIdeal.nD Cert.RglruFwdRefIdeal.τ).loc Cert.RglruFwdRefIdeal.main_arg3) = m ((c.tc : Thread Cert.RglruFwdRefIdeal.nD Cert.RglruFwdRefIdeal.τ).loc Cert.RglruFwdRefIdeal.main_arg3)
      ∧ r.2.mem ((c.tc : Thread Cert.RglruFwdRefIdeal.nD Cert.RglruFwdRefIdeal.τ).loc Cert.RglruFwdRefIdeal.main_arg4) = m ((c.tc : Thread Cert.RglruFwdRefIdeal.nD Cert.RglruFwdRefIdeal.τ).loc Cert.RglruFwdRefIdeal.main_arg4)
      ∧ r.2.mem ((c.tc : Thread Cert.RglruFwdRefIdeal.nD Cert.RglruFwdRefIdeal.τ).loc Cert.RglruFwdRefIdeal.main_arg5) = m ((c.tc : Thread Cert.RglruFwdRefIdeal.nD Cert.RglruFwdRefIdeal.τ).loc Cert.RglruFwdRefIdeal.main_arg5)
      ∧ r.2.mem ((c.tc : Thread Cert.RglruFwdRefIdeal.nD Cert.RglruFwdRefIdeal.τ).loc Cert.RglruFwdRefIdeal.main_arg6) = m ((c.tc : Thread Cert.RglruFwdRefIdeal.nD Cert.RglruFwdRefIdeal.τ).loc Cert.RglruFwdRefIdeal.main_arg6))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1)
      ∧ r.2.mem ((c.tc : Thread Cert.MmNn.nD Cert.MmNn.τ).loc Cert.MmNn.main_arg2) = m ((c.tc : Thread Cert.MmNn.nD Cert.MmNn.τ).loc Cert.MmNn.main_arg2))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
      ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1)
      ∧ r.2.mem ((c.tc : Thread Cert.MmNnRefIdeal.nD Cert.MmNnRefIdeal.τ).loc Cert.MmNnRefIdeal.main_arg2) = m ((c.tc : Thread Cert.MmNnRefIdeal.nD Cert.MmNnRefIdeal.τ).loc Cert.MmNnRefIdeal.main_arg2))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def preserves_LnBwd_LnBwdIdeal : Prop :=
  True

def algebraic_LnBwdIdeal_LnBwdRefIdeal_pre_ln_finite [hLnBwdIdeal : Cert.LnBwdIdeal.Facts] [hLnBwdRefIdeal : Cert.LnBwdRefIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v62) = v0 c
          ∧ r.2.mem ((c.tc : Thread Cert.LnBwdRefIdeal.nD Cert.LnBwdRefIdeal.τ).loc Cert.LnBwdRefIdeal.main_v63) = v1 c
          ∧ r.2.mem ((c.tc : Thread Cert.LnBwdRefIdeal.nD Cert.LnBwdRefIdeal.τ).loc Cert.LnBwdRefIdeal.main_v64) = v2 c
          ∧ r.2.mem ((c.tc : Thread Cert.LnBwdRefIdeal.nD Cert.LnBwdRefIdeal.τ).loc Cert.LnBwdRefIdeal.main_v65) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)) (v2 : (c : Dev Cert.ConvBwdIdeal.nD) → Buf (Elt Ideal) ((c.tc : Thread Cert.ConvBwdIdeal.nD Cert.ConvBwdIdeal.τ).loc Cert.ConvBwdIdeal.main_v3_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_v3_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v81) = v0 c
          ∧ r.2.mem ((c.tc : Thread Cert.ConvBwdRefIdeal.nD Cert.ConvBwdRefIdeal.τ).loc Cert.ConvBwdRefIdeal.main_v76) = v1 c
          ∧ r.2.mem ((c.tc : Thread Cert.ConvBwdRefIdeal.nD Cert.ConvBwdRefIdeal.τ).loc Cert.ConvBwdRefIdeal.main_v82) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ConvActBwd_ConvActBwdIdeal : Prop :=
  True

def algebraic_ConvActBwdIdeal_ConvActBwdRefIdeal_pre_convact_finite [hConvActBwdIdeal : Cert.ConvActBwdIdeal.Facts] [hConvActBwdRefIdeal : Cert.ConvActBwdRefIdeal.Facts] [hPre_convact_finite : Cert.Pre_convact_finite.Facts] : Prop :=
  ∀ (m : (ℓ : Loc Cert.ConvActBwdIdeal.nD Cert.ConvActBwdIdeal.τ Cert.ConvActBwdIdeal.sig) → Buf (Elt Ideal) ℓ) (g : Dev Cert.ConvActBwdIdeal.nD → PrngReg)
    (m' : (ℓ : Loc Cert.ConvActBwdRefIdeal.nD Cert.ConvActBwdRefIdeal.τ Cert.ConvActBwdRefIdeal.sig) → Buf (Elt Ideal) ℓ) (g' : Dev Cert.ConvActBwdRefIdeal.nD → PrngReg), Pre_ConvActBwdIdeal_convact_finite m →
    (∀ c : Dev Cert.ConvActBwdIdeal.nD,
      m' ((c.tc : Thread Cert.ConvActBwdRefIdeal.nD Cert.ConvActBwdRefIdeal.τ).loc Cert.ConvActBwdRefIdeal.main_arg0) = m ((c.tc : Thread Cert.ConvActBwdIdeal.nD Cert.ConvActBwdIdeal.τ).loc Cert.ConvActBwdIdeal.main_arg0)
      ∧ m' ((c.tc : Thread Cert.ConvActBwdRefIdeal.nD Cert.ConvActBwdRefIdeal.τ).loc Cert.ConvActBwdRefIdeal.main_arg1) = m ((c.tc : Thread Cert.ConvActBwdIdeal.nD Cert.ConvActBwdIdeal.τ).loc Cert.ConvActBwdIdeal.main_arg1)
      ∧ m' ((c.tc : Thread Cert.ConvActBwdRefIdeal.nD Cert.ConvActBwdRefIdeal.τ).loc Cert.ConvActBwdRefIdeal.main_arg2) = m ((c.tc : Thread Cert.ConvActBwdIdeal.nD Cert.ConvActBwdIdeal.τ).loc Cert.ConvActBwdIdeal.main_arg2)) →
    ∃ (v0 : (c : Dev Cert.ConvActBwdIdeal.nD) → Buf (Elt Ideal) ((c.tc : Thread Cert.ConvActBwdIdeal.nD Cert.ConvActBwdIdeal.τ).loc Cert.ConvActBwdIdeal.main_v3_0)) (v1 : (c : Dev Cert.ConvActBwdIdeal.nD) → Buf (Elt Ideal) ((c.tc : Thread Cert.ConvActBwdIdeal.nD Cert.ConvActBwdIdeal.τ).loc Cert.ConvActBwdIdeal.main_v3_1)),
      θ_run (Cert.ConvActBwdIdeal.defs (F := Ideal)) (onTc (τ := Cert.ConvActBwdIdeal.τ) (Cert.ConvActBwdIdeal.main (F := Ideal))) ⟨m, fun _ => 0, g⟩ (fun r => ∀ c : Dev Cert.ConvActBwdIdeal.nD,
          r.2.mem ((c.tc : Thread Cert.ConvActBwdIdeal.nD Cert.ConvActBwdIdeal.τ).loc Cert.ConvActBwdIdeal.main_v3_0) = v0 c
          ∧ r.2.mem ((c.tc : Thread Cert.ConvActBwdIdeal.nD Cert.ConvActBwdIdeal.τ).loc Cert.ConvActBwdIdeal.main_v3_1) = v1 c
          ∧ r.2.mem ((c.tc : Thread Cert.ConvActBwdIdeal.nD Cert.ConvActBwdIdeal.τ).loc Cert.ConvActBwdIdeal.main_arg0) = m ((c.tc : Thread Cert.ConvActBwdIdeal.nD Cert.ConvActBwdIdeal.τ).loc Cert.ConvActBwdIdeal.main_arg0)
          ∧ r.2.mem ((c.tc : Thread Cert.ConvActBwdIdeal.nD Cert.ConvActBwdIdeal.τ).loc Cert.ConvActBwdIdeal.main_arg1) = m ((c.tc : Thread Cert.ConvActBwdIdeal.nD Cert.ConvActBwdIdeal.τ).loc Cert.ConvActBwdIdeal.main_arg1)
          ∧ r.2.mem ((c.tc : Thread Cert.ConvActBwdIdeal.nD Cert.ConvActBwdIdeal.τ).loc Cert.ConvActBwdIdeal.main_arg2) = m ((c.tc : Thread Cert.ConvActBwdIdeal.nD Cert.ConvActBwdIdeal.τ).loc Cert.ConvActBwdIdeal.main_arg2))
      ∧ θ_run (Cert.ConvActBwdRefIdeal.defs (F := Ideal)) (onTc (τ := Cert.ConvActBwdRefIdeal.τ) (Cert.ConvActBwdRefIdeal.main (F := Ideal))) ⟨m', fun _ => 0, g'⟩ (fun r => ∀ c : Dev Cert.ConvActBwdRefIdeal.nD,
          r.2.mem ((c.tc : Thread Cert.ConvActBwdRefIdeal.nD Cert.ConvActBwdRefIdeal.τ).loc Cert.ConvActBwdRefIdeal.main_v76) = v0 c
          ∧ r.2.mem ((c.tc : Thread Cert.ConvActBwdRefIdeal.nD Cert.ConvActBwdRefIdeal.τ).loc Cert.ConvActBwdRefIdeal.main_v71) = v1 c
          ∧ r.2.mem ((c.tc : Thread Cert.ConvActBwdRefIdeal.nD Cert.ConvActBwdRefIdeal.τ).loc Cert.ConvActBwdRefIdeal.main_arg0) = m' ((c.tc : Thread Cert.ConvActBwdRefIdeal.nD Cert.ConvActBwdRefIdeal.τ).loc Cert.ConvActBwdRefIdeal.main_arg0)
          ∧ r.2.mem ((c.tc : Thread Cert.ConvActBwdRefIdeal.nD Cert.ConvActBwdRefIdeal.τ).loc Cert.ConvActBwdRefIdeal.main_arg1) = m' ((c.tc : Thread Cert.ConvActBwdRefIdeal.nD Cert.ConvActBwdRefIdeal.τ).loc Cert.ConvActBwdRefIdeal.main_arg1)
          ∧ r.2.mem ((c.tc : Thread Cert.ConvActBwdRefIdeal.nD Cert.ConvActBwdRefIdeal.τ).loc Cert.ConvActBwdRefIdeal.main_arg2) = m' ((c.tc : Thread Cert.ConvActBwdRefIdeal.nD Cert.ConvActBwdRefIdeal.τ).loc Cert.ConvActBwdRefIdeal.main_arg2))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v5)) (v1 : (c : Dev Cert.LossHeadIdeal.nD) → Buf (Elt Ideal) ((c.tc : Thread Cert.LossHeadIdeal.nD Cert.LossHeadIdeal.τ).loc Cert.LossHeadIdeal.main_v2_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v5) = v0 c
          ∧ r.2.mem ((c.tc : Thread Cert.LossHeadIdeal.nD Cert.LossHeadIdeal.τ).loc Cert.LossHeadIdeal.main_v2_0) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_FfnInBwd_FfnInBwdIdeal : Prop :=
  True

def algebraic_FfnInBwdIdeal_FfnInBwdRefIdeal_pre_ffnx_finite [hFfnInBwdIdeal : Cert.FfnInBwdIdeal.Facts] [hFfnInBwdRefIdeal : Cert.FfnInBwdRefIdeal.Facts] [hPre_ffnx_finite : Cert.Pre_ffnx_finite.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdRefIdeal.nD Cert.FfnInBwdRefIdeal.τ Cert.FfnInBwdRefIdeal.sig) → Buf (Elt Ideal) ℓ) (g' : Dev Cert.FfnInBwdRefIdeal.nD → PrngReg), Pre_FfnInBwdIdeal_ffnx_finite m →
    (∀ c : Dev Cert.FfnInBwdIdeal.nD,
      m' ((c.tc : Thread Cert.FfnInBwdRefIdeal.nD Cert.FfnInBwdRefIdeal.τ).loc Cert.FfnInBwdRefIdeal.main_arg0) = m ((c.tc : Thread Cert.FfnInBwdIdeal.nD Cert.FfnInBwdIdeal.τ).loc Cert.FfnInBwdIdeal.main_arg0)
      ∧ m' ((c.tc : Thread Cert.FfnInBwdRefIdeal.nD Cert.FfnInBwdRefIdeal.τ).loc Cert.FfnInBwdRefIdeal.main_arg1) = m ((c.tc : Thread Cert.FfnInBwdIdeal.nD Cert.FfnInBwdIdeal.τ).loc Cert.FfnInBwdIdeal.main_arg1)
      ∧ m' ((c.tc : Thread Cert.FfnInBwdRefIdeal.nD Cert.FfnInBwdRefIdeal.τ).loc Cert.FfnInBwdRefIdeal.main_arg2) = m ((c.tc : Thread Cert.FfnInBwdIdeal.nD Cert.FfnInBwdIdeal.τ).loc Cert.FfnInBwdIdeal.main_arg2)
      ∧ m' ((c.tc : Thread Cert.FfnInBwdRefIdeal.nD Cert.FfnInBwdRefIdeal.τ).loc Cert.FfnInBwdRefIdeal.main_arg3) = m ((c.tc : Thread Cert.FfnInBwdIdeal.nD Cert.FfnInBwdIdeal.τ).loc Cert.FfnInBwdIdeal.main_arg3)
      ∧ m' ((c.tc : Thread Cert.FfnInBwdRefIdeal.nD Cert.FfnInBwdRefIdeal.τ).loc Cert.FfnInBwdRefIdeal.main_arg4) = m ((c.tc : Thread Cert.FfnInBwdIdeal.nD Cert.FfnInBwdIdeal.τ).loc Cert.FfnInBwdIdeal.main_arg4)
      ∧ m' ((c.tc : Thread Cert.FfnInBwdRefIdeal.nD Cert.FfnInBwdRefIdeal.τ).loc Cert.FfnInBwdRefIdeal.main_arg5) = m ((c.tc : Thread Cert.FfnInBwdIdeal.nD Cert.FfnInBwdIdeal.τ).loc Cert.FfnInBwdIdeal.main_arg5)
      ∧ m' ((c.tc : Thread Cert.FfnInBwdRefIdeal.nD Cert.FfnInBwdRefIdeal.τ).loc Cert.FfnInBwdRefIdeal.main_arg6) = m ((c.tc : Thread Cert.FfnInBwdIdeal.nD Cert.FfnInBwdIdeal.τ).loc Cert.FfnInBwdIdeal.main_arg6)
      ∧ m' ((c.tc : Thread Cert.FfnInBwdRefIdeal.nD Cert.FfnInBwdRefIdeal.τ).loc Cert.FfnInBwdRefIdeal.main_arg7) = m ((c.tc : Thread Cert.FfnInBwdIdeal.nD Cert.FfnInBwdIdeal.τ).loc Cert.FfnInBwdIdeal.main_arg7)) →
    ∃ (v0 : (c : Dev Cert.FfnInBwdIdeal.nD) → Buf (Elt Ideal) ((c.tc : Thread Cert.FfnInBwdIdeal.nD Cert.FfnInBwdIdeal.τ).loc Cert.FfnInBwdIdeal.main_v13_0)) (v1 : (c : Dev Cert.FfnInBwdIdeal.nD) → Buf (Elt Ideal) ((c.tc : Thread Cert.FfnInBwdIdeal.nD Cert.FfnInBwdIdeal.τ).loc Cert.FfnInBwdIdeal.main_v13_1)) (v2 : (c : Dev Cert.FfnInBwdIdeal.nD) → Buf (Elt Ideal) ((c.tc : Thread Cert.FfnInBwdIdeal.nD Cert.FfnInBwdIdeal.τ).loc Cert.FfnInBwdIdeal.main_v13_2)) (v3 : (c : Dev Cert.FfnInBwdIdeal.nD) → Buf (Elt Ideal) ((c.tc : Thread Cert.FfnInBwdIdeal.nD Cert.FfnInBwdIdeal.τ).loc Cert.FfnInBwdIdeal.main_v13_3)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v13_0) = v0 c
          ∧ r.2.mem ((c.tc : Thread Cert.FfnInBwdIdeal.nD Cert.FfnInBwdIdeal.τ).loc Cert.FfnInBwdIdeal.main_v13_1) = v1 c
          ∧ r.2.mem ((c.tc : Thread Cert.FfnInBwdIdeal.nD Cert.FfnInBwdIdeal.τ).loc Cert.FfnInBwdIdeal.main_v13_2) = v2 c
          ∧ r.2.mem ((c.tc : Thread Cert.FfnInBwdIdeal.nD Cert.FfnInBwdIdeal.τ).loc Cert.FfnInBwdIdeal.main_v13_3) = v3 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4)
          ∧ r.2.mem ((c.tc : Thread Cert.FfnInBwdIdeal.nD Cert.FfnInBwdIdeal.τ).loc Cert.FfnInBwdIdeal.main_arg5) = m ((c.tc : Thread Cert.FfnInBwdIdeal.nD Cert.FfnInBwdIdeal.τ).loc Cert.FfnInBwdIdeal.main_arg5)
          ∧ r.2.mem ((c.tc : Thread Cert.FfnInBwdIdeal.nD Cert.FfnInBwdIdeal.τ).loc Cert.FfnInBwdIdeal.main_arg6) = m ((c.tc : Thread Cert.FfnInBwdIdeal.nD Cert.FfnInBwdIdeal.τ).loc Cert.FfnInBwdIdeal.main_arg6)
          ∧ r.2.mem ((c.tc : Thread Cert.FfnInBwdIdeal.nD Cert.FfnInBwdIdeal.τ).loc Cert.FfnInBwdIdeal.main_arg7) = m ((c.tc : Thread Cert.FfnInBwdIdeal.nD Cert.FfnInBwdIdeal.τ).loc Cert.FfnInBwdIdeal.main_arg7))
      ∧ θ_run (Cert.FfnInBwdRefIdeal.defs (F := Ideal)) (onTc (τ := Cert.FfnInBwdRefIdeal.τ) (Cert.FfnInBwdRefIdeal.main (F := Ideal))) ⟨m', fun _ => 0, g'⟩ (fun r => ∀ c : Dev Cert.FfnInBwdRefIdeal.nD,
          r.2.mem ((c.tc : Thread Cert.FfnInBwdRefIdeal.nD Cert.FfnInBwdRefIdeal.τ).loc Cert.FfnInBwdRefIdeal.main_v75) = v0 c
          ∧ r.2.mem ((c.tc : Thread Cert.FfnInBwdRefIdeal.nD Cert.FfnInBwdRefIdeal.τ).loc Cert.FfnInBwdRefIdeal.main_v76) = v1 c
          ∧ r.2.mem ((c.tc : Thread Cert.FfnInBwdRefIdeal.nD Cert.FfnInBwdRefIdeal.τ).loc Cert.FfnInBwdRefIdeal.main_v77) = v2 c
          ∧ r.2.mem ((c.tc : Thread Cert.FfnInBwdRefIdeal.nD Cert.FfnInBwdRefIdeal.τ).loc Cert.FfnInBwdRefIdeal.main_v78) = v3 c
          ∧ r.2.mem ((c.tc : Thread Cert.FfnInBwdRefIdeal.nD Cert.FfnInBwdRefIdeal.τ).loc Cert.FfnInBwdRefIdeal.main_arg0) = m' ((c.tc : Thread Cert.FfnInBwdRefIdeal.nD Cert.FfnInBwdRefIdeal.τ).loc Cert.FfnInBwdRefIdeal.main_arg0)
          ∧ r.2.mem ((c.tc : Thread Cert.FfnInBwdRefIdeal.nD Cert.FfnInBwdRefIdeal.τ).loc Cert.FfnInBwdRefIdeal.main_arg1) = m' ((c.tc : Thread Cert.FfnInBwdRefIdeal.nD Cert.FfnInBwdRefIdeal.τ).loc Cert.FfnInBwdRefIdeal.main_arg1)
          ∧ r.2.mem ((c.tc : Thread Cert.FfnInBwdRefIdeal.nD Cert.FfnInBwdRefIdeal.τ).loc Cert.FfnInBwdRefIdeal.main_arg2) = m' ((c.tc : Thread Cert.FfnInBwdRefIdeal.nD Cert.FfnInBwdRefIdeal.τ).loc Cert.FfnInBwdRefIdeal.main_arg2)
          ∧ r.2.mem ((c.tc : Thread Cert.FfnInBwdRefIdeal.nD Cert.FfnInBwdRefIdeal.τ).loc Cert.FfnInBwdRefIdeal.main_arg3) = m' ((c.tc : Thread Cert.FfnInBwdRefIdeal.nD Cert.FfnInBwdRefIdeal.τ).loc Cert.FfnInBwdRefIdeal.main_arg3)
          ∧ r.2.mem ((c.tc : Thread Cert.FfnInBwdRefIdeal.nD Cert.FfnInBwdRefIdeal.τ).loc Cert.FfnInBwdRefIdeal.main_arg4) = m' ((c.tc : Thread Cert.FfnInBwdRefIdeal.nD Cert.FfnInBwdRefIdeal.τ).loc Cert.FfnInBwdRefIdeal.main_arg4)
          ∧ r.2.mem ((c.tc : Thread Cert.FfnInBwdRefIdeal.nD Cert.FfnInBwdRefIdeal.τ).loc Cert.FfnInBwdRefIdeal.main_arg5) = m' ((c.tc : Thread Cert.FfnInBwdRefIdeal.nD Cert.FfnInBwdRefIdeal.τ).loc Cert.FfnInBwdRefIdeal.main_arg5)
          ∧ r.2.mem ((c.tc : Thread Cert.FfnInBwdRefIdeal.nD Cert.FfnInBwdRefIdeal.τ).loc Cert.FfnInBwdRefIdeal.main_arg6) = m' ((c.tc : Thread Cert.FfnInBwdRefIdeal.nD Cert.FfnInBwdRefIdeal.τ).loc Cert.FfnInBwdRefIdeal.main_arg6)
          ∧ r.2.mem ((c.tc : Thread Cert.FfnInBwdRefIdeal.nD Cert.FfnInBwdRefIdeal.τ).loc Cert.FfnInBwdRefIdeal.main_arg7) = m' ((c.tc : Thread Cert.FfnInBwdRefIdeal.nD Cert.FfnInBwdRefIdeal.τ).loc Cert.FfnInBwdRefIdeal.main_arg7))

def preserves_FfnWBwd_FfnWBwdIdeal : Prop :=
  True

def algebraic_FfnWBwdIdeal_FfnWBwdRefIdeal_pre_ffnw_finite [hFfnWBwdIdeal : Cert.FfnWBwdIdeal.Facts] [hFfnWBwdRefIdeal : Cert.FfnWBwdRefIdeal.Facts] [hPre_ffnw_finite : Cert.Pre_ffnw_finite.Facts] : Prop :=
  ∀ (m : (ℓ : Loc Cert.FfnWBwdIdeal.nD Cert.FfnWBwdIdeal.τ Cert.FfnWBwdIdeal.sig) → Buf (Elt Ideal) ℓ) (g : Dev Cert.FfnWBwdIdeal.nD → PrngReg)
    (m' : (ℓ : Loc Cert.FfnWBwdRefIdeal.nD Cert.FfnWBwdRefIdeal.τ Cert.FfnWBwdRefIdeal.sig) → Buf (Elt Ideal) ℓ) (g' : Dev Cert.FfnWBwdRefIdeal.nD → PrngReg), Pre_FfnWBwdIdeal_ffnw_finite m →
    (∀ c : Dev Cert.FfnWBwdIdeal.nD,
      m' ((c.tc : Thread Cert.FfnWBwdRefIdeal.nD Cert.FfnWBwdRefIdeal.τ).loc Cert.FfnWBwdRefIdeal.main_arg0) = m ((c.tc : Thread Cert.FfnWBwdIdeal.nD Cert.FfnWBwdIdeal.τ).loc Cert.FfnWBwdIdeal.main_arg0)
      ∧ m' ((c.tc : Thread Cert.FfnWBwdRefIdeal.nD Cert.FfnWBwdRefIdeal.τ).loc Cert.FfnWBwdRefIdeal.main_arg1) = m ((c.tc : Thread Cert.FfnWBwdIdeal.nD Cert.FfnWBwdIdeal.τ).loc Cert.FfnWBwdIdeal.main_arg1)
      ∧ m' ((c.tc : Thread Cert.FfnWBwdRefIdeal.nD Cert.FfnWBwdRefIdeal.τ).loc Cert.FfnWBwdRefIdeal.main_arg2) = m ((c.tc : Thread Cert.FfnWBwdIdeal.nD Cert.FfnWBwdIdeal.τ).loc Cert.FfnWBwdIdeal.main_arg2)
      ∧ m' ((c.tc : Thread Cert.FfnWBwdRefIdeal.nD Cert.FfnWBwdRefIdeal.τ).loc Cert.FfnWBwdRefIdeal.main_arg3) = m ((c.tc : Thread Cert.FfnWBwdIdeal.nD Cert.FfnWBwdIdeal.τ).loc Cert.FfnWBwdIdeal.main_arg3)
      ∧ m' ((c.tc : Thread Cert.FfnWBwdRefIdeal.nD Cert.FfnWBwdRefIdeal.τ).loc Cert.FfnWBwdRefIdeal.main_arg4) = m ((c.tc : Thread Cert.FfnWBwdIdeal.nD Cert.FfnWBwdIdeal.τ).loc Cert.FfnWBwdIdeal.main_arg4)) →
    ∃ (v0 : (c : Dev Cert.FfnWBwdIdeal.nD) → Buf (Elt Ideal) ((c.tc : Thread Cert.FfnWBwdIdeal.nD Cert.FfnWBwdIdeal.τ).loc Cert.FfnWBwdIdeal.main_v10_0)) (v1 : (c : Dev Cert.FfnWBwdIdeal.nD) → Buf (Elt Ideal) ((c.tc : Thread Cert.FfnWBwdIdeal.nD Cert.FfnWBwdIdeal.τ).loc Cert.FfnWBwdIdeal.main_v10_1)) (v2 : (c : Dev Cert.FfnWBwdIdeal.nD) → Buf (Elt Ideal) ((c.tc : Thread Cert.FfnWBwdIdeal.nD Cert.FfnWBwdIdeal.τ).loc Cert.FfnWBwdIdeal.main_v10_2)) (v3 : (c : Dev Cert.FfnWBwdIdeal.nD) → Buf (Elt Ideal) ((c.tc : Thread Cert.FfnWBwdIdeal.nD Cert.FfnWBwdIdeal.τ).loc Cert.FfnWBwdIdeal.main_v10_3)) (v4 : (c : Dev Cert.FfnWBwdIdeal.nD) → Buf (Elt Ideal) ((c.tc : Thread Cert.FfnWBwdIdeal.nD Cert.FfnWBwdIdeal.τ).loc Cert.FfnWBwdIdeal.main_v10_4)),
      θ_run (Cert.FfnWBwdIdeal.defs (F := Ideal)) (onTc (τ := Cert.FfnWBwdIdeal.τ) (Cert.FfnWBwdIdeal.main (F := Ideal))) ⟨m, fun _ => 0, g⟩ (fun r => ∀ c : Dev Cert.FfnWBwdIdeal.nD,
          r.2.mem ((c.tc : Thread Cert.FfnWBwdIdeal.nD Cert.FfnWBwdIdeal.τ).loc Cert.FfnWBwdIdeal.main_v10_0) = v0 c
          ∧ r.2.mem ((c.tc : Thread Cert.FfnWBwdIdeal.nD Cert.FfnWBwdIdeal.τ).loc Cert.FfnWBwdIdeal.main_v10_1) = v1 c
          ∧ r.2.mem ((c.tc : Thread Cert.FfnWBwdIdeal.nD Cert.FfnWBwdIdeal.τ).loc Cert.FfnWBwdIdeal.main_v10_2) = v2 c
          ∧ r.2.mem ((c.tc : Thread Cert.FfnWBwdIdeal.nD Cert.FfnWBwdIdeal.τ).loc Cert.FfnWBwdIdeal.main_v10_3) = v3 c
          ∧ r.2.mem ((c.tc : Thread Cert.FfnWBwdIdeal.nD Cert.FfnWBwdIdeal.τ).loc Cert.FfnWBwdIdeal.main_v10_4) = v4 c
          ∧ r.2.mem ((c.tc : Thread Cert.FfnWBwdIdeal.nD Cert.FfnWBwdIdeal.τ).loc Cert.FfnWBwdIdeal.main_arg0) = m ((c.tc : Thread Cert.FfnWBwdIdeal.nD Cert.FfnWBwdIdeal.τ).loc Cert.FfnWBwdIdeal.main_arg0)
          ∧ r.2.mem ((c.tc : Thread Cert.FfnWBwdIdeal.nD Cert.FfnWBwdIdeal.τ).loc Cert.FfnWBwdIdeal.main_arg1) = m ((c.tc : Thread Cert.FfnWBwdIdeal.nD Cert.FfnWBwdIdeal.τ).loc Cert.FfnWBwdIdeal.main_arg1)
          ∧ r.2.mem ((c.tc : Thread Cert.FfnWBwdIdeal.nD Cert.FfnWBwdIdeal.τ).loc Cert.FfnWBwdIdeal.main_arg2) = m ((c.tc : Thread Cert.FfnWBwdIdeal.nD Cert.FfnWBwdIdeal.τ).loc Cert.FfnWBwdIdeal.main_arg2)
          ∧ r.2.mem ((c.tc : Thread Cert.FfnWBwdIdeal.nD Cert.FfnWBwdIdeal.τ).loc Cert.FfnWBwdIdeal.main_arg3) = m ((c.tc : Thread Cert.FfnWBwdIdeal.nD Cert.FfnWBwdIdeal.τ).loc Cert.FfnWBwdIdeal.main_arg3)
          ∧ r.2.mem ((c.tc : Thread Cert.FfnWBwdIdeal.nD Cert.FfnWBwdIdeal.τ).loc Cert.FfnWBwdIdeal.main_arg4) = m ((c.tc : Thread Cert.FfnWBwdIdeal.nD Cert.FfnWBwdIdeal.τ).loc Cert.FfnWBwdIdeal.main_arg4))
      ∧ θ_run (Cert.FfnWBwdRefIdeal.defs (F := Ideal)) (onTc (τ := Cert.FfnWBwdRefIdeal.τ) (Cert.FfnWBwdRefIdeal.main (F := Ideal))) ⟨m', fun _ => 0, g'⟩ (fun r => ∀ c : Dev Cert.FfnWBwdRefIdeal.nD,
          r.2.mem ((c.tc : Thread Cert.FfnWBwdRefIdeal.nD Cert.FfnWBwdRefIdeal.τ).loc Cert.FfnWBwdRefIdeal.main_v21) = v0 c
          ∧ r.2.mem ((c.tc : Thread Cert.FfnWBwdRefIdeal.nD Cert.FfnWBwdRefIdeal.τ).loc Cert.FfnWBwdRefIdeal.main_v24) = v1 c
          ∧ r.2.mem ((c.tc : Thread Cert.FfnWBwdRefIdeal.nD Cert.FfnWBwdRefIdeal.τ).loc Cert.FfnWBwdRefIdeal.main_v27) = v2 c
          ∧ r.2.mem ((c.tc : Thread Cert.FfnWBwdRefIdeal.nD Cert.FfnWBwdRefIdeal.τ).loc Cert.FfnWBwdRefIdeal.main_v30) = v3 c
          ∧ r.2.mem ((c.tc : Thread Cert.FfnWBwdRefIdeal.nD Cert.FfnWBwdRefIdeal.τ).loc Cert.FfnWBwdRefIdeal.main_v32) = v4 c
          ∧ r.2.mem ((c.tc : Thread Cert.FfnWBwdRefIdeal.nD Cert.FfnWBwdRefIdeal.τ).loc Cert.FfnWBwdRefIdeal.main_arg0) = m' ((c.tc : Thread Cert.FfnWBwdRefIdeal.nD Cert.FfnWBwdRefIdeal.τ).loc Cert.FfnWBwdRefIdeal.main_arg0)
          ∧ r.2.mem ((c.tc : Thread Cert.FfnWBwdRefIdeal.nD Cert.FfnWBwdRefIdeal.τ).loc Cert.FfnWBwdRefIdeal.main_arg1) = m' ((c.tc : Thread Cert.FfnWBwdRefIdeal.nD Cert.FfnWBwdRefIdeal.τ).loc Cert.FfnWBwdRefIdeal.main_arg1)
          ∧ r.2.mem ((c.tc : Thread Cert.FfnWBwdRefIdeal.nD Cert.FfnWBwdRefIdeal.τ).loc Cert.FfnWBwdRefIdeal.main_arg2) = m' ((c.tc : Thread Cert.FfnWBwdRefIdeal.nD Cert.FfnWBwdRefIdeal.τ).loc Cert.FfnWBwdRefIdeal.main_arg2)
          ∧ r.2.mem ((c.tc : Thread Cert.FfnWBwdRefIdeal.nD Cert.FfnWBwdRefIdeal.τ).loc Cert.FfnWBwdRefIdeal.main_arg3) = m' ((c.tc : Thread Cert.FfnWBwdRefIdeal.nD Cert.FfnWBwdRefIdeal.τ).loc Cert.FfnWBwdRefIdeal.main_arg3)
          ∧ r.2.mem ((c.tc : Thread Cert.FfnWBwdRefIdeal.nD Cert.FfnWBwdRefIdeal.τ).loc Cert.FfnWBwdRefIdeal.main_arg4) = m' ((c.tc : Thread Cert.FfnWBwdRefIdeal.nD Cert.FfnWBwdRefIdeal.τ).loc Cert.FfnWBwdRefIdeal.main_arg4))

def preserves_PleBwd_PleBwdIdeal : Prop :=
  True

def algebraic_PleBwdIdeal_PleBwdRefIdeal_pre_ple_finite [hPleBwdIdeal : Cert.PleBwdIdeal.Facts] [hPleBwdRefIdeal : Cert.PleBwdRefIdeal.Facts] [hPre_ple_finite : Cert.Pre_ple_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal_ple_finite m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)
      ∧ m' ((c.tc : Thread Cert.PleBwdRefIdeal.nD Cert.PleBwdRefIdeal.τ).loc Cert.PleBwdRefIdeal.main_arg6) = m ((c.tc : Thread Cert.PleBwdIdeal.nD Cert.PleBwdIdeal.τ).loc Cert.PleBwdIdeal.main_arg6)
      ∧ m' ((c.tc : Thread Cert.PleBwdRefIdeal.nD Cert.PleBwdRefIdeal.τ).loc Cert.PleBwdRefIdeal.main_arg7) = m ((c.tc : Thread Cert.PleBwdIdeal.nD Cert.PleBwdIdeal.τ).loc Cert.PleBwdIdeal.main_arg7)) →
    ∃ (v0 : (c : Dev Cert.PleBwdIdeal.nD) → Buf (Elt Ideal) ((c.tc : Thread Cert.PleBwdIdeal.nD Cert.PleBwdIdeal.τ).loc Cert.PleBwdIdeal.main_v29_0)) (v1 : (c : Dev Cert.PleBwdIdeal.nD) → Buf (Elt Ideal) ((c.tc : Thread Cert.PleBwdIdeal.nD Cert.PleBwdIdeal.τ).loc Cert.PleBwdIdeal.main_v29_1)) (v2 : (c : Dev Cert.PleBwdIdeal.nD) → Buf (Elt Ideal) ((c.tc : Thread Cert.PleBwdIdeal.nD Cert.PleBwdIdeal.τ).loc Cert.PleBwdIdeal.main_v29_2)) (v3 : (c : Dev Cert.PleBwdIdeal.nD) → Buf (Elt Ideal) ((c.tc : Thread Cert.PleBwdIdeal.nD Cert.PleBwdIdeal.τ).loc Cert.PleBwdIdeal.main_v29_3)) (v4 : (c : Dev Cert.PleBwdIdeal.nD) → Buf (Elt Ideal) ((c.tc : Thread Cert.PleBwdIdeal.nD Cert.PleBwdIdeal.τ).loc Cert.PleBwdIdeal.main_v29_4)) (v5 : (c : Dev Cert.PleBwdIdeal.nD) → Buf (Elt Ideal) ((c.tc : Thread Cert.PleBwdIdeal.nD Cert.PleBwdIdeal.τ).loc Cert.PleBwdIdeal.main_v29_5)) (v6 : (c : Dev Cert.PleBwdIdeal.nD) → Buf (Elt Ideal) ((c.tc : Thread Cert.PleBwdIdeal.nD Cert.PleBwdIdeal.τ).loc Cert.PleBwdIdeal.main_v29_6)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v29_0) = v0 c
          ∧ r.2.mem ((c.tc : Thread Cert.PleBwdIdeal.nD Cert.PleBwdIdeal.τ).loc Cert.PleBwdIdeal.main_v29_1) = v1 c
          ∧ r.2.mem ((c.tc : Thread Cert.PleBwdIdeal.nD Cert.PleBwdIdeal.τ).loc Cert.PleBwdIdeal.main_v29_2) = v2 c
          ∧ r.2.mem ((c.tc : Thread Cert.PleBwdIdeal.nD Cert.PleBwdIdeal.τ).loc Cert.PleBwdIdeal.main_v29_3) = v3 c
          ∧ r.2.mem ((c.tc : Thread Cert.PleBwdIdeal.nD Cert.PleBwdIdeal.τ).loc Cert.PleBwdIdeal.main_v29_4) = v4 c
          ∧ r.2.mem ((c.tc : Thread Cert.PleBwdIdeal.nD Cert.PleBwdIdeal.τ).loc Cert.PleBwdIdeal.main_v29_5) = v5 c
          ∧ r.2.mem ((c.tc : Thread Cert.PleBwdIdeal.nD Cert.PleBwdIdeal.τ).loc Cert.PleBwdIdeal.main_v29_6) = v6 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
          ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6)
          ∧ r.2.mem ((c.tc : Thread Cert.PleBwdIdeal.nD Cert.PleBwdIdeal.τ).loc Cert.PleBwdIdeal.main_arg7) = m ((c.tc : Thread Cert.PleBwdIdeal.nD Cert.PleBwdIdeal.τ).loc Cert.PleBwdIdeal.main_arg7))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v92) = v0 c
          ∧ r.2.mem ((c.tc : Thread Cert.PleBwdRefIdeal.nD Cert.PleBwdRefIdeal.τ).loc Cert.PleBwdRefIdeal.main_v93) = v1 c
          ∧ r.2.mem ((c.tc : Thread Cert.PleBwdRefIdeal.nD Cert.PleBwdRefIdeal.τ).loc Cert.PleBwdRefIdeal.main_v57) = v2 c
          ∧ r.2.mem ((c.tc : Thread Cert.PleBwdRefIdeal.nD Cert.PleBwdRefIdeal.τ).loc Cert.PleBwdRefIdeal.main_v94) = v3 c
          ∧ r.2.mem ((c.tc : Thread Cert.PleBwdRefIdeal.nD Cert.PleBwdRefIdeal.τ).loc Cert.PleBwdRefIdeal.main_v50) = v4 c
          ∧ r.2.mem ((c.tc : Thread Cert.PleBwdRefIdeal.nD Cert.PleBwdRefIdeal.τ).loc Cert.PleBwdRefIdeal.main_v95) = v5 c
          ∧ r.2.mem ((c.tc : Thread Cert.PleBwdRefIdeal.nD Cert.PleBwdRefIdeal.τ).loc Cert.PleBwdRefIdeal.main_v96) = v6 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5)
          ∧ r.2.mem ((c.tc : Thread Cert.PleBwdRefIdeal.nD Cert.PleBwdRefIdeal.τ).loc Cert.PleBwdRefIdeal.main_arg6) = m' ((c.tc : Thread Cert.PleBwdRefIdeal.nD Cert.PleBwdRefIdeal.τ).loc Cert.PleBwdRefIdeal.main_arg6)
          ∧ r.2.mem ((c.tc : Thread Cert.PleBwdRefIdeal.nD Cert.PleBwdRefIdeal.τ).loc Cert.PleBwdRefIdeal.main_arg7) = m' ((c.tc : Thread Cert.PleBwdRefIdeal.nD Cert.PleBwdRefIdeal.τ).loc Cert.PleBwdRefIdeal.main_arg7))

def preserves_RglruBwd_RglruBwdIdeal : Prop :=
  True

def algebraic_RglruBwdIdeal_RglruBwdRefIdeal_pre_rglru_finite [hRglruBwdIdeal : Cert.RglruBwdIdeal.Facts] [hRglruBwdRefIdeal : Cert.RglruBwdRefIdeal.Facts] [hPre_rglru_finite : Cert.Pre_rglru_finite.Facts] : Prop :=
  ∀ (m : (ℓ : Loc Cert.RglruBwdIdeal.nD Cert.RglruBwdIdeal.τ Cert.RglruBwdIdeal.sig) → Buf (Elt Ideal) ℓ) (g : Dev Cert.RglruBwdIdeal.nD → PrngReg)
    (m' : (ℓ : Loc Cert.RglruBwdRefIdeal.nD Cert.RglruBwdRefIdeal.τ Cert.RglruBwdRefIdeal.sig) → Buf (Elt Ideal) ℓ) (g' : Dev Cert.RglruBwdRefIdeal.nD → PrngReg), Pre_RglruBwdIdeal_rglru_finite m →
    (∀ c : Dev Cert.RglruBwdIdeal.nD,
      m' ((c.tc : Thread Cert.RglruBwdRefIdeal.nD Cert.RglruBwdRefIdeal.τ).loc Cert.RglruBwdRefIdeal.main_arg0) = m ((c.tc : Thread Cert.RglruBwdIdeal.nD Cert.RglruBwdIdeal.τ).loc Cert.RglruBwdIdeal.main_arg0)
      ∧ m' ((c.tc : Thread Cert.RglruBwdRefIdeal.nD Cert.RglruBwdRefIdeal.τ).loc Cert.RglruBwdRefIdeal.main_arg1) = m ((c.tc : Thread Cert.RglruBwdIdeal.nD Cert.RglruBwdIdeal.τ).loc Cert.RglruBwdIdeal.main_arg1)
      ∧ m' ((c.tc : Thread Cert.RglruBwdRefIdeal.nD Cert.RglruBwdRefIdeal.τ).loc Cert.RglruBwdRefIdeal.main_arg2) = m ((c.tc : Thread Cert.RglruBwdIdeal.nD Cert.RglruBwdIdeal.τ).loc Cert.RglruBwdIdeal.main_arg2)
      ∧ m' ((c.tc : Thread Cert.RglruBwdRefIdeal.nD Cert.RglruBwdRefIdeal.τ).loc Cert.RglruBwdRefIdeal.main_arg3) = m ((c.tc : Thread Cert.RglruBwdIdeal.nD Cert.RglruBwdIdeal.τ).loc Cert.RglruBwdIdeal.main_arg3)
      ∧ m' ((c.tc : Thread Cert.RglruBwdRefIdeal.nD Cert.RglruBwdRefIdeal.τ).loc Cert.RglruBwdRefIdeal.main_arg4) = m ((c.tc : Thread Cert.RglruBwdIdeal.nD Cert.RglruBwdIdeal.τ).loc Cert.RglruBwdIdeal.main_arg4)
      ∧ m' ((c.tc : Thread Cert.RglruBwdRefIdeal.nD Cert.RglruBwdRefIdeal.τ).loc Cert.RglruBwdRefIdeal.main_arg5) = m ((c.tc : Thread Cert.RglruBwdIdeal.nD Cert.RglruBwdIdeal.τ).loc Cert.RglruBwdIdeal.main_arg5)
      ∧ m' ((c.tc : Thread Cert.RglruBwdRefIdeal.nD Cert.RglruBwdRefIdeal.τ).loc Cert.RglruBwdRefIdeal.main_arg6) = m ((c.tc : Thread Cert.RglruBwdIdeal.nD Cert.RglruBwdIdeal.τ).loc Cert.RglruBwdIdeal.main_arg6)
      ∧ m' ((c.tc : Thread Cert.RglruBwdRefIdeal.nD Cert.RglruBwdRefIdeal.τ).loc Cert.RglruBwdRefIdeal.main_arg7) = m ((c.tc : Thread Cert.RglruBwdIdeal.nD Cert.RglruBwdIdeal.τ).loc Cert.RglruBwdIdeal.main_arg7)) →
    ∃ (v0 : (c : Dev Cert.RglruBwdIdeal.nD) → Buf (Elt Ideal) ((c.tc : Thread Cert.RglruBwdIdeal.nD Cert.RglruBwdIdeal.τ).loc Cert.RglruBwdIdeal.main_v240_0)) (v1 : (c : Dev Cert.RglruBwdIdeal.nD) → Buf (Elt Ideal) ((c.tc : Thread Cert.RglruBwdIdeal.nD Cert.RglruBwdIdeal.τ).loc Cert.RglruBwdIdeal.main_v240_1)) (v2 : (c : Dev Cert.RglruBwdIdeal.nD) → Buf (Elt Ideal) ((c.tc : Thread Cert.RglruBwdIdeal.nD Cert.RglruBwdIdeal.τ).loc Cert.RglruBwdIdeal.main_v240_4)) (v3 : (c : Dev Cert.RglruBwdIdeal.nD) → Buf (Elt Ideal) ((c.tc : Thread Cert.RglruBwdIdeal.nD Cert.RglruBwdIdeal.τ).loc Cert.RglruBwdIdeal.main_v240_5)) (v4 : (c : Dev Cert.RglruBwdIdeal.nD) → Buf (Elt Ideal) ((c.tc : Thread Cert.RglruBwdIdeal.nD Cert.RglruBwdIdeal.τ).loc Cert.RglruBwdIdeal.main_v240_6)),
      θ_run (Cert.RglruBwdIdeal.defs (F := Ideal)) (onTc (τ := Cert.RglruBwdIdeal.τ) (Cert.RglruBwdIdeal.main (F := Ideal))) ⟨m, fun _ => 0, g⟩ (fun r => ∀ c : Dev Cert.RglruBwdIdeal.nD,
          r.2.mem ((c.tc : Thread Cert.RglruBwdIdeal.nD Cert.RglruBwdIdeal.τ).loc Cert.RglruBwdIdeal.main_v240_0) = v0 c
          ∧ r.2.mem ((c.tc : Thread Cert.RglruBwdIdeal.nD Cert.RglruBwdIdeal.τ).loc Cert.RglruBwdIdeal.main_v240_1) = v1 c
          ∧ r.2.mem ((c.tc : Thread Cert.RglruBwdIdeal.nD Cert.RglruBwdIdeal.τ).loc Cert.RglruBwdIdeal.main_v240_4) = v2 c
          ∧ r.2.mem ((c.tc : Thread Cert.RglruBwdIdeal.nD Cert.RglruBwdIdeal.τ).loc Cert.RglruBwdIdeal.main_v240_5) = v3 c
          ∧ r.2.mem ((c.tc : Thread Cert.RglruBwdIdeal.nD Cert.RglruBwdIdeal.τ).loc Cert.RglruBwdIdeal.main_v240_6) = v4 c
          ∧ r.2.mem ((c.tc : Thread Cert.RglruBwdIdeal.nD Cert.RglruBwdIdeal.τ).loc Cert.RglruBwdIdeal.main_arg0) = m ((c.tc : Thread Cert.RglruBwdIdeal.nD Cert.RglruBwdIdeal.τ).loc Cert.RglruBwdIdeal.main_arg0)
          ∧ r.2.mem ((c.tc : Thread Cert.RglruBwdIdeal.nD Cert.RglruBwdIdeal.τ).loc Cert.RglruBwdIdeal.main_arg1) = m ((c.tc : Thread Cert.RglruBwdIdeal.nD Cert.RglruBwdIdeal.τ).loc Cert.RglruBwdIdeal.main_arg1)
          ∧ r.2.mem ((c.tc : Thread Cert.RglruBwdIdeal.nD Cert.RglruBwdIdeal.τ).loc Cert.RglruBwdIdeal.main_arg2) = m ((c.tc : Thread Cert.RglruBwdIdeal.nD Cert.RglruBwdIdeal.τ).loc Cert.RglruBwdIdeal.main_arg2)
          ∧ r.2.mem ((c.tc : Thread Cert.RglruBwdIdeal.nD Cert.RglruBwdIdeal.τ).loc Cert.RglruBwdIdeal.main_arg3) = m ((c.tc : Thread Cert.RglruBwdIdeal.nD Cert.RglruBwdIdeal.τ).loc Cert.RglruBwdIdeal.main_arg3)
          ∧ r.2.mem ((c.tc : Thread Cert.RglruBwdIdeal.nD Cert.RglruBwdIdeal.τ).loc Cert.RglruBwdIdeal.main_arg4) = m ((c.tc : Thread Cert.RglruBwdIdeal.nD Cert.RglruBwdIdeal.τ).loc Cert.RglruBwdIdeal.main_arg4)
          ∧ r.2.mem ((c.tc : Thread Cert.RglruBwdIdeal.nD Cert.RglruBwdIdeal.τ).loc Cert.RglruBwdIdeal.main_arg5) = m ((c.tc : Thread Cert.RglruBwdIdeal.nD Cert.RglruBwdIdeal.τ).loc Cert.RglruBwdIdeal.main_arg5)
          ∧ r.2.mem ((c.tc : Thread Cert.RglruBwdIdeal.nD Cert.RglruBwdIdeal.τ).loc Cert.RglruBwdIdeal.main_arg6) = m ((c.tc : Thread Cert.RglruBwdIdeal.nD Cert.RglruBwdIdeal.τ).loc Cert.RglruBwdIdeal.main_arg6)
          ∧ r.2.mem ((c.tc : Thread Cert.RglruBwdIdeal.nD Cert.RglruBwdIdeal.τ).loc Cert.RglruBwdIdeal.main_arg7) = m ((c.tc : Thread Cert.RglruBwdIdeal.nD Cert.RglruBwdIdeal.τ).loc Cert.RglruBwdIdeal.main_arg7))
      ∧ θ_run (Cert.RglruBwdRefIdeal.defs (F := Ideal)) (onTc (τ := Cert.RglruBwdRefIdeal.τ) (Cert.RglruBwdRefIdeal.main (F := Ideal))) ⟨m', fun _ => 0, g'⟩ (fun r => ∀ c : Dev Cert.RglruBwdRefIdeal.nD,
          r.2.mem ((c.tc : Thread Cert.RglruBwdRefIdeal.nD Cert.RglruBwdRefIdeal.τ).loc Cert.RglruBwdRefIdeal.main_v166) = v0 c
          ∧ r.2.mem ((c.tc : Thread Cert.RglruBwdRefIdeal.nD Cert.RglruBwdRefIdeal.τ).loc Cert.RglruBwdRefIdeal.main_v167) = v1 c
          ∧ r.2.mem ((c.tc : Thread Cert.RglruBwdRefIdeal.nD Cert.RglruBwdRefIdeal.τ).loc Cert.RglruBwdRefIdeal.main_v168) = v2 c
          ∧ r.2.mem ((c.tc : Thread Cert.RglruBwdRefIdeal.nD Cert.RglruBwdRefIdeal.τ).loc Cert.RglruBwdRefIdeal.main_v169) = v3 c
          ∧ r.2.mem ((c.tc : Thread Cert.RglruBwdRefIdeal.nD Cert.RglruBwdRefIdeal.τ).loc Cert.RglruBwdRefIdeal.main_v170) = v4 c
          ∧ r.2.mem ((c.tc : Thread Cert.RglruBwdRefIdeal.nD Cert.RglruBwdRefIdeal.τ).loc Cert.RglruBwdRefIdeal.main_arg0) = m' ((c.tc : Thread Cert.RglruBwdRefIdeal.nD Cert.RglruBwdRefIdeal.τ).loc Cert.RglruBwdRefIdeal.main_arg0)
          ∧ r.2.mem ((c.tc : Thread Cert.RglruBwdRefIdeal.nD Cert.RglruBwdRefIdeal.τ).loc Cert.RglruBwdRefIdeal.main_arg1) = m' ((c.tc : Thread Cert.RglruBwdRefIdeal.nD Cert.RglruBwdRefIdeal.τ).loc Cert.RglruBwdRefIdeal.main_arg1)
          ∧ r.2.mem ((c.tc : Thread Cert.RglruBwdRefIdeal.nD Cert.RglruBwdRefIdeal.τ).loc Cert.RglruBwdRefIdeal.main_arg2) = m' ((c.tc : Thread Cert.RglruBwdRefIdeal.nD Cert.RglruBwdRefIdeal.τ).loc Cert.RglruBwdRefIdeal.main_arg2)
          ∧ r.2.mem ((c.tc : Thread Cert.RglruBwdRefIdeal.nD Cert.RglruBwdRefIdeal.τ).loc Cert.RglruBwdRefIdeal.main_arg3) = m' ((c.tc : Thread Cert.RglruBwdRefIdeal.nD Cert.RglruBwdRefIdeal.τ).loc Cert.RglruBwdRefIdeal.main_arg3)
          ∧ r.2.mem ((c.tc : Thread Cert.RglruBwdRefIdeal.nD Cert.RglruBwdRefIdeal.τ).loc Cert.RglruBwdRefIdeal.main_arg4) = m' ((c.tc : Thread Cert.RglruBwdRefIdeal.nD Cert.RglruBwdRefIdeal.τ).loc Cert.RglruBwdRefIdeal.main_arg4)
          ∧ r.2.mem ((c.tc : Thread Cert.RglruBwdRefIdeal.nD Cert.RglruBwdRefIdeal.τ).loc Cert.RglruBwdRefIdeal.main_arg5) = m' ((c.tc : Thread Cert.RglruBwdRefIdeal.nD Cert.RglruBwdRefIdeal.τ).loc Cert.RglruBwdRefIdeal.main_arg5)
          ∧ r.2.mem ((c.tc : Thread Cert.RglruBwdRefIdeal.nD Cert.RglruBwdRefIdeal.τ).loc Cert.RglruBwdRefIdeal.main_arg6) = m' ((c.tc : Thread Cert.RglruBwdRefIdeal.nD Cert.RglruBwdRefIdeal.τ).loc Cert.RglruBwdRefIdeal.main_arg6)
          ∧ r.2.mem ((c.tc : Thread Cert.RglruBwdRefIdeal.nD Cert.RglruBwdRefIdeal.τ).loc Cert.RglruBwdRefIdeal.main_arg7) = m' ((c.tc : Thread Cert.RglruBwdRefIdeal.nD Cert.RglruBwdRefIdeal.τ).loc Cert.RglruBwdRefIdeal.main_arg7))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v2)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v2) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ConvActFwd_ConvActFwdIdeal : Prop :=
  True

def algebraic_ConvActFwdIdeal_ConvActFwdRefIdeal [hConvActFwdIdeal : Cert.ConvActFwdIdeal.Facts] [hConvActFwdRefIdeal : Cert.ConvActFwdRefIdeal.Facts] : Prop :=
  ∀ (m : (ℓ : Loc Cert.ConvActFwdIdeal.nD Cert.ConvActFwdIdeal.τ Cert.ConvActFwdIdeal.sig) → Buf (Elt Ideal) ℓ) (g : Dev Cert.ConvActFwdIdeal.nD → PrngReg)
    (m' : (ℓ : Loc Cert.ConvActFwdRefIdeal.nD Cert.ConvActFwdRefIdeal.τ Cert.ConvActFwdRefIdeal.sig) → Buf (Elt Ideal) ℓ) (g' : Dev Cert.ConvActFwdRefIdeal.nD → PrngReg), Pre_ConvActFwdIdeal m →
    (∀ c : Dev Cert.ConvActFwdIdeal.nD,
      m' ((c.tc : Thread Cert.ConvActFwdRefIdeal.nD Cert.ConvActFwdRefIdeal.τ).loc Cert.ConvActFwdRefIdeal.main_arg0) = m ((c.tc : Thread Cert.ConvActFwdIdeal.nD Cert.ConvActFwdIdeal.τ).loc Cert.ConvActFwdIdeal.main_arg0)
      ∧ m' ((c.tc : Thread Cert.ConvActFwdRefIdeal.nD Cert.ConvActFwdRefIdeal.τ).loc Cert.ConvActFwdRefIdeal.main_arg1) = m ((c.tc : Thread Cert.ConvActFwdIdeal.nD Cert.ConvActFwdIdeal.τ).loc Cert.ConvActFwdIdeal.main_arg1)) →
    ∃ (v0 : (c : Dev Cert.ConvActFwdIdeal.nD) → Buf (Elt Ideal) ((c.tc : Thread Cert.ConvActFwdIdeal.nD Cert.ConvActFwdIdeal.τ).loc Cert.ConvActFwdIdeal.main_v2)),
      θ_run (Cert.ConvActFwdIdeal.defs (F := Ideal)) (onTc (τ := Cert.ConvActFwdIdeal.τ) (Cert.ConvActFwdIdeal.main (F := Ideal))) ⟨m, fun _ => 0, g⟩ (fun r => ∀ c : Dev Cert.ConvActFwdIdeal.nD,
          r.2.mem ((c.tc : Thread Cert.ConvActFwdIdeal.nD Cert.ConvActFwdIdeal.τ).loc Cert.ConvActFwdIdeal.main_v2) = v0 c
          ∧ r.2.mem ((c.tc : Thread Cert.ConvActFwdIdeal.nD Cert.ConvActFwdIdeal.τ).loc Cert.ConvActFwdIdeal.main_arg0) = m ((c.tc : Thread Cert.ConvActFwdIdeal.nD Cert.ConvActFwdIdeal.τ).loc Cert.ConvActFwdIdeal.main_arg0)
          ∧ r.2.mem ((c.tc : Thread Cert.ConvActFwdIdeal.nD Cert.ConvActFwdIdeal.τ).loc Cert.ConvActFwdIdeal.main_arg1) = m ((c.tc : Thread Cert.ConvActFwdIdeal.nD Cert.ConvActFwdIdeal.τ).loc Cert.ConvActFwdIdeal.main_arg1))
      ∧ θ_run (Cert.ConvActFwdRefIdeal.defs (F := Ideal)) (onTc (τ := Cert.ConvActFwdRefIdeal.τ) (Cert.ConvActFwdRefIdeal.main (F := Ideal))) ⟨m', fun _ => 0, g'⟩ (fun r => ∀ c : Dev Cert.ConvActFwdRefIdeal.nD,
          r.2.mem ((c.tc : Thread Cert.ConvActFwdRefIdeal.nD Cert.ConvActFwdRefIdeal.τ).loc Cert.ConvActFwdRefIdeal.main_v29) = v0 c
          ∧ r.2.mem ((c.tc : Thread Cert.ConvActFwdRefIdeal.nD Cert.ConvActFwdRefIdeal.τ).loc Cert.ConvActFwdRefIdeal.main_arg0) = m' ((c.tc : Thread Cert.ConvActFwdRefIdeal.nD Cert.ConvActFwdRefIdeal.τ).loc Cert.ConvActFwdRefIdeal.main_arg0)
          ∧ r.2.mem ((c.tc : Thread Cert.ConvActFwdRefIdeal.nD Cert.ConvActFwdRefIdeal.τ).loc Cert.ConvActFwdRefIdeal.main_arg1) = m' ((c.tc : Thread Cert.ConvActFwdRefIdeal.nD Cert.ConvActFwdRefIdeal.τ).loc Cert.ConvActFwdRefIdeal.main_arg1))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v3_0)) (v1 : (c : Dev Cert.PleFwdIdeal.nD) → Buf (Elt Ideal) ((c.tc : Thread Cert.PleFwdIdeal.nD Cert.PleFwdIdeal.τ).loc Cert.PleFwdIdeal.main_v3_1)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v3_0) = v0 c
          ∧ r.2.mem ((c.tc : Thread Cert.PleFwdIdeal.nD Cert.PleFwdIdeal.τ).loc Cert.PleFwdIdeal.main_v3_1) = v1 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v12) = v0 c
          ∧ r.2.mem ((c.tc : Thread Cert.PleFwdRefIdeal.nD Cert.PleFwdRefIdeal.τ).loc Cert.PleFwdRefIdeal.main_v13) = v1 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v9) = v1 c
          ∧ r.2.mem ((c.tc : Thread Cert.FfnFwdRefIdeal.nD Cert.FfnFwdRefIdeal.τ).loc Cert.FfnFwdRefIdeal.main_v34) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)
      ∧ m' ((c.tc : Thread Cert.ProjLnRefIdeal.nD Cert.ProjLnRefIdeal.τ).loc Cert.ProjLnRefIdeal.main_arg5) = m ((c.tc : Thread Cert.ProjLnIdeal.nD Cert.ProjLnIdeal.τ).loc Cert.ProjLnIdeal.main_arg5)) →
    ∃ (v0 : (c : Dev Cert.ProjLnIdeal.nD) → Buf (Elt Ideal) ((c.tc : Thread Cert.ProjLnIdeal.nD Cert.ProjLnIdeal.τ).loc Cert.ProjLnIdeal.main_v5_0)) (v1 : (c : Dev Cert.ProjLnIdeal.nD) → Buf (Elt Ideal) ((c.tc : Thread Cert.ProjLnIdeal.nD Cert.ProjLnIdeal.τ).loc Cert.ProjLnIdeal.main_v5_1)) (v2 : (c : Dev Cert.ProjLnIdeal.nD) → Buf (Elt Ideal) ((c.tc : Thread Cert.ProjLnIdeal.nD Cert.ProjLnIdeal.τ).loc Cert.ProjLnIdeal.main_v5_2)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v5_0) = v0 c
          ∧ r.2.mem ((c.tc : Thread Cert.ProjLnIdeal.nD Cert.ProjLnIdeal.τ).loc Cert.ProjLnIdeal.main_v5_1) = v1 c
          ∧ r.2.mem ((c.tc : Thread Cert.ProjLnIdeal.nD Cert.ProjLnIdeal.τ).loc Cert.ProjLnIdeal.main_v5_2) = v2 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
          ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v28) = v0 c
          ∧ r.2.mem ((c.tc : Thread Cert.ProjLnRefIdeal.nD Cert.ProjLnRefIdeal.τ).loc Cert.ProjLnRefIdeal.main_v4) = v1 c
          ∧ r.2.mem ((c.tc : Thread Cert.ProjLnRefIdeal.nD Cert.ProjLnRefIdeal.τ).loc Cert.ProjLnRefIdeal.main_v29) = v2 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4)
          ∧ r.2.mem ((c.tc : Thread Cert.ProjLnRefIdeal.nD Cert.ProjLnRefIdeal.τ).loc Cert.ProjLnRefIdeal.main_arg5) = m' ((c.tc : Thread Cert.ProjLnRefIdeal.nD Cert.ProjLnRefIdeal.τ).loc Cert.ProjLnRefIdeal.main_arg5))

def preserves_RglruFwd_RglruFwdIdeal : Prop :=
  True

def algebraic_RglruFwdIdeal_RglruFwdRefIdeal_pre_rgf_finite [hRglruFwdIdeal : Cert.RglruFwdIdeal.Facts] [hRglruFwdRefIdeal : Cert.RglruFwdRefIdeal.Facts] [hPre_rgf_finite : Cert.Pre_rgf_finite.Facts] : Prop :=
  ∀ (m : (ℓ : Loc Cert.RglruFwdIdeal.nD Cert.RglruFwdIdeal.τ Cert.RglruFwdIdeal.sig) → Buf (Elt Ideal) ℓ) (g : Dev Cert.RglruFwdIdeal.nD → PrngReg)
    (m' : (ℓ : Loc Cert.RglruFwdRefIdeal.nD Cert.RglruFwdRefIdeal.τ Cert.RglruFwdRefIdeal.sig) → Buf (Elt Ideal) ℓ) (g' : Dev Cert.RglruFwdRefIdeal.nD → PrngReg), Pre_RglruFwdIdeal_rgf_finite m →
    (∀ c : Dev Cert.RglruFwdIdeal.nD,
      m' ((c.tc : Thread Cert.RglruFwdRefIdeal.nD Cert.RglruFwdRefIdeal.τ).loc Cert.RglruFwdRefIdeal.main_arg0) = m ((c.tc : Thread Cert.RglruFwdIdeal.nD Cert.RglruFwdIdeal.τ).loc Cert.RglruFwdIdeal.main_arg0)
      ∧ m' ((c.tc : Thread Cert.RglruFwdRefIdeal.nD Cert.RglruFwdRefIdeal.τ).loc Cert.RglruFwdRefIdeal.main_arg1) = m ((c.tc : Thread Cert.RglruFwdIdeal.nD Cert.RglruFwdIdeal.τ).loc Cert.RglruFwdIdeal.main_arg1)
      ∧ m' ((c.tc : Thread Cert.RglruFwdRefIdeal.nD Cert.RglruFwdRefIdeal.τ).loc Cert.RglruFwdRefIdeal.main_arg2) = m ((c.tc : Thread Cert.RglruFwdIdeal.nD Cert.RglruFwdIdeal.τ).loc Cert.RglruFwdIdeal.main_arg2)
      ∧ m' ((c.tc : Thread Cert.RglruFwdRefIdeal.nD Cert.RglruFwdRefIdeal.τ).loc Cert.RglruFwdRefIdeal.main_arg3) = m ((c.tc : Thread Cert.RglruFwdIdeal.nD Cert.RglruFwdIdeal.τ).loc Cert.RglruFwdIdeal.main_arg3)
      ∧ m' ((c.tc : Thread Cert.RglruFwdRefIdeal.nD Cert.RglruFwdRefIdeal.τ).loc Cert.RglruFwdRefIdeal.main_arg4) = m ((c.tc : Thread Cert.RglruFwdIdeal.nD Cert.RglruFwdIdeal.τ).loc Cert.RglruFwdIdeal.main_arg4)
      ∧ m' ((c.tc : Thread Cert.RglruFwdRefIdeal.nD Cert.RglruFwdRefIdeal.τ).loc Cert.RglruFwdRefIdeal.main_arg5) = m ((c.tc : Thread Cert.RglruFwdIdeal.nD Cert.RglruFwdIdeal.τ).loc Cert.RglruFwdIdeal.main_arg5)
      ∧ m' ((c.tc : Thread Cert.RglruFwdRefIdeal.nD Cert.RglruFwdRefIdeal.τ).loc Cert.RglruFwdRefIdeal.main_arg6) = m ((c.tc : Thread Cert.RglruFwdIdeal.nD Cert.RglruFwdIdeal.τ).loc Cert.RglruFwdIdeal.main_arg6)) →
    ∃ (v0 : (c : Dev Cert.RglruFwdIdeal.nD) → Buf (Elt Ideal) ((c.tc : Thread Cert.RglruFwdIdeal.nD Cert.RglruFwdIdeal.τ).loc Cert.RglruFwdIdeal.main_v119_0)) (v1 : (c : Dev Cert.RglruFwdIdeal.nD) → Buf (Elt Ideal) ((c.tc : Thread Cert.RglruFwdIdeal.nD Cert.RglruFwdIdeal.τ).loc Cert.RglruFwdIdeal.main_v119_1)),
      θ_run (Cert.RglruFwdIdeal.defs (F := Ideal)) (onTc (τ := Cert.RglruFwdIdeal.τ) (Cert.RglruFwdIdeal.main (F := Ideal))) ⟨m, fun _ => 0, g⟩ (fun r => ∀ c : Dev Cert.RglruFwdIdeal.nD,
          r.2.mem ((c.tc : Thread Cert.RglruFwdIdeal.nD Cert.RglruFwdIdeal.τ).loc Cert.RglruFwdIdeal.main_v119_0) = v0 c
          ∧ r.2.mem ((c.tc : Thread Cert.RglruFwdIdeal.nD Cert.RglruFwdIdeal.τ).loc Cert.RglruFwdIdeal.main_v119_1) = v1 c
          ∧ r.2.mem ((c.tc : Thread Cert.RglruFwdIdeal.nD Cert.RglruFwdIdeal.τ).loc Cert.RglruFwdIdeal.main_arg0) = m ((c.tc : Thread Cert.RglruFwdIdeal.nD Cert.RglruFwdIdeal.τ).loc Cert.RglruFwdIdeal.main_arg0)
          ∧ r.2.mem ((c.tc : Thread Cert.RglruFwdIdeal.nD Cert.RglruFwdIdeal.τ).loc Cert.RglruFwdIdeal.main_arg1) = m ((c.tc : Thread Cert.RglruFwdIdeal.nD Cert.RglruFwdIdeal.τ).loc Cert.RglruFwdIdeal.main_arg1)
          ∧ r.2.mem ((c.tc : Thread Cert.RglruFwdIdeal.nD Cert.RglruFwdIdeal.τ).loc Cert.RglruFwdIdeal.main_arg2) = m ((c.tc : Thread Cert.RglruFwdIdeal.nD Cert.RglruFwdIdeal.τ).loc Cert.RglruFwdIdeal.main_arg2)
          ∧ r.2.mem ((c.tc : Thread Cert.RglruFwdIdeal.nD Cert.RglruFwdIdeal.τ).loc Cert.RglruFwdIdeal.main_arg3) = m ((c.tc : Thread Cert.RglruFwdIdeal.nD Cert.RglruFwdIdeal.τ).loc Cert.RglruFwdIdeal.main_arg3)
          ∧ r.2.mem ((c.tc : Thread Cert.RglruFwdIdeal.nD Cert.RglruFwdIdeal.τ).loc Cert.RglruFwdIdeal.main_arg4) = m ((c.tc : Thread Cert.RglruFwdIdeal.nD Cert.RglruFwdIdeal.τ).loc Cert.RglruFwdIdeal.main_arg4)
          ∧ r.2.mem ((c.tc : Thread Cert.RglruFwdIdeal.nD Cert.RglruFwdIdeal.τ).loc Cert.RglruFwdIdeal.main_arg5) = m ((c.tc : Thread Cert.RglruFwdIdeal.nD Cert.RglruFwdIdeal.τ).loc Cert.RglruFwdIdeal.main_arg5)
          ∧ r.2.mem ((c.tc : Thread Cert.RglruFwdIdeal.nD Cert.RglruFwdIdeal.τ).loc Cert.RglruFwdIdeal.main_arg6) = m ((c.tc : Thread Cert.RglruFwdIdeal.nD Cert.RglruFwdIdeal.τ).loc Cert.RglruFwdIdeal.main_arg6))
      ∧ θ_run (Cert.RglruFwdRefIdeal.defs (F := Ideal)) (onTc (τ := Cert.RglruFwdRefIdeal.τ) (Cert.RglruFwdRefIdeal.main (F := Ideal))) ⟨m', fun _ => 0, g'⟩ (fun r => ∀ c : Dev Cert.RglruFwdRefIdeal.nD,
          r.2.mem ((c.tc : Thread Cert.RglruFwdRefIdeal.nD Cert.RglruFwdRefIdeal.τ).loc Cert.RglruFwdRefIdeal.main_v75) = v0 c
          ∧ r.2.mem ((c.tc : Thread Cert.RglruFwdRefIdeal.nD Cert.RglruFwdRefIdeal.τ).loc Cert.RglruFwdRefIdeal.main_v76) = v1 c
          ∧ r.2.mem ((c.tc : Thread Cert.RglruFwdRefIdeal.nD Cert.RglruFwdRefIdeal.τ).loc Cert.RglruFwdRefIdeal.main_arg0) = m' ((c.tc : Thread Cert.RglruFwdRefIdeal.nD Cert.RglruFwdRefIdeal.τ).loc Cert.RglruFwdRefIdeal.main_arg0)
          ∧ r.2.mem ((c.tc : Thread Cert.RglruFwdRefIdeal.nD Cert.RglruFwdRefIdeal.τ).loc Cert.RglruFwdRefIdeal.main_arg1) = m' ((c.tc : Thread Cert.RglruFwdRefIdeal.nD Cert.RglruFwdRefIdeal.τ).loc Cert.RglruFwdRefIdeal.main_arg1)
          ∧ r.2.mem ((c.tc : Thread Cert.RglruFwdRefIdeal.nD Cert.RglruFwdRefIdeal.τ).loc Cert.RglruFwdRefIdeal.main_arg2) = m' ((c.tc : Thread Cert.RglruFwdRefIdeal.nD Cert.RglruFwdRefIdeal.τ).loc Cert.RglruFwdRefIdeal.main_arg2)
          ∧ r.2.mem ((c.tc : Thread Cert.RglruFwdRefIdeal.nD Cert.RglruFwdRefIdeal.τ).loc Cert.RglruFwdRefIdeal.main_arg3) = m' ((c.tc : Thread Cert.RglruFwdRefIdeal.nD Cert.RglruFwdRefIdeal.τ).loc Cert.RglruFwdRefIdeal.main_arg3)
          ∧ r.2.mem ((c.tc : Thread Cert.RglruFwdRefIdeal.nD Cert.RglruFwdRefIdeal.τ).loc Cert.RglruFwdRefIdeal.main_arg4) = m' ((c.tc : Thread Cert.RglruFwdRefIdeal.nD Cert.RglruFwdRefIdeal.τ).loc Cert.RglruFwdRefIdeal.main_arg4)
          ∧ r.2.mem ((c.tc : Thread Cert.RglruFwdRefIdeal.nD Cert.RglruFwdRefIdeal.τ).loc Cert.RglruFwdRefIdeal.main_arg5) = m' ((c.tc : Thread Cert.RglruFwdRefIdeal.nD Cert.RglruFwdRefIdeal.τ).loc Cert.RglruFwdRefIdeal.main_arg5)
          ∧ r.2.mem ((c.tc : Thread Cert.RglruFwdRefIdeal.nD Cert.RglruFwdRefIdeal.τ).loc Cert.RglruFwdRefIdeal.main_arg6) = m' ((c.tc : Thread Cert.RglruFwdRefIdeal.nD Cert.RglruFwdRefIdeal.τ).loc Cert.RglruFwdRefIdeal.main_arg6))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)
      ∧ m' ((c.tc : Thread Cert.MmNnRefIdeal.nD Cert.MmNnRefIdeal.τ).loc Cert.MmNnRefIdeal.main_arg2) = m ((c.tc : Thread Cert.MmNnIdeal.nD Cert.MmNnIdeal.τ).loc Cert.MmNnIdeal.main_arg2)) →
    ∃ (v0 : (c : Dev Cert.MmNnIdeal.nD) → Buf (Elt Ideal) ((c.tc : Thread Cert.MmNnIdeal.nD Cert.MmNnIdeal.τ).loc Cert.MmNnIdeal.main_v2)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v2) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
          ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v4) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1)
          ∧ r.2.mem ((c.tc : Thread Cert.MmNnRefIdeal.nD Cert.MmNnRefIdeal.τ).loc Cert.MmNnRefIdeal.main_arg2) = m' ((c.tc : Thread Cert.MmNnRefIdeal.nD Cert.MmNnRefIdeal.τ).loc Cert.MmNnRefIdeal.main_arg2))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v1)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v1) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v1) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)) →
    ∃ (v0 : (c : Dev Cert.FfnBackIdeal.nD) → Buf (Elt Ideal) ((c.tc : Thread Cert.FfnBackIdeal.nD Cert.FfnBackIdeal.τ).loc Cert.FfnBackIdeal.main_v12)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v12) = v0 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v7) = v0 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v1)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v1) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def Claim : Prop :=
  ∃ (hLnBwd : Cert.LnBwd.Facts) (hLnBwdIdeal : Cert.LnBwdIdeal.Facts) (hLnBwdRefIdeal : Cert.LnBwdRefIdeal.Facts) (hConvBwd : Cert.ConvBwd.Facts) (hConvBwdIdeal : Cert.ConvBwdIdeal.Facts) (hConvBwdRefIdeal : Cert.ConvBwdRefIdeal.Facts) (hConvActBwd : Cert.ConvActBwd.Facts) (hConvActBwdIdeal : Cert.ConvActBwdIdeal.Facts) (hConvActBwdRefIdeal : Cert.ConvActBwdRefIdeal.Facts) (hLossHead : Cert.LossHead.Facts) (hLossHeadIdeal : Cert.LossHeadIdeal.Facts) (hLossHeadRefIdeal : Cert.LossHeadRefIdeal.Facts) (hFfnInBwd : Cert.FfnInBwd.Facts) (hFfnInBwdIdeal : Cert.FfnInBwdIdeal.Facts) (hFfnInBwdRefIdeal : Cert.FfnInBwdRefIdeal.Facts) (hFfnWBwd : Cert.FfnWBwd.Facts) (hFfnWBwdIdeal : Cert.FfnWBwdIdeal.Facts) (hFfnWBwdRefIdeal : Cert.FfnWBwdRefIdeal.Facts) (hPleBwd : Cert.PleBwd.Facts) (hPleBwdIdeal : Cert.PleBwdIdeal.Facts) (hPleBwdRefIdeal : Cert.PleBwdRefIdeal.Facts) (hRglruBwd : Cert.RglruBwd.Facts) (hRglruBwdIdeal : Cert.RglruBwdIdeal.Facts) (hRglruBwdRefIdeal : Cert.RglruBwdRefIdeal.Facts) (hConvFwd : Cert.ConvFwd.Facts) (hConvFwdIdeal : Cert.ConvFwdIdeal.Facts) (hConvFwdRefIdeal : Cert.ConvFwdRefIdeal.Facts) (hConvActFwd : Cert.ConvActFwd.Facts) (hConvActFwdIdeal : Cert.ConvActFwdIdeal.Facts) (hConvActFwdRefIdeal : Cert.ConvActFwdRefIdeal.Facts) (hPleFwd : Cert.PleFwd.Facts) (hPleFwdIdeal : Cert.PleFwdIdeal.Facts) (hPleFwdRefIdeal : Cert.PleFwdRefIdeal.Facts) (hFfnFwd : Cert.FfnFwd.Facts) (hFfnFwdIdeal : Cert.FfnFwdIdeal.Facts) (hFfnFwdRefIdeal : Cert.FfnFwdRefIdeal.Facts) (hProjLn : Cert.ProjLn.Facts) (hProjLnIdeal : Cert.ProjLnIdeal.Facts) (hProjLnRefIdeal : Cert.ProjLnRefIdeal.Facts) (hRglruFwd : Cert.RglruFwd.Facts) (hRglruFwdIdeal : Cert.RglruFwdIdeal.Facts) (hRglruFwdRefIdeal : Cert.RglruFwdRefIdeal.Facts) (hMmNn : Cert.MmNn.Facts) (hMmNnIdeal : Cert.MmNnIdeal.Facts) (hMmNnRefIdeal : Cert.MmNnRefIdeal.Facts) (hMmTn : Cert.MmTn.Facts) (hMmTnIdeal : Cert.MmTnIdeal.Facts) (hMmTnRefIdeal : Cert.MmTnRefIdeal.Facts) (hFfnBack : Cert.FfnBack.Facts) (hFfnBackIdeal : Cert.FfnBackIdeal.Facts) (hFfnBackRefIdeal : Cert.FfnBackRefIdeal.Facts) (hAdamW : Cert.AdamW.Facts) (hAdamWIdeal : Cert.AdamWIdeal.Facts) (hAdamWRefIdeal : Cert.AdamWRefIdeal.Facts) (hSumSlots : Cert.SumSlots.Facts) (hSumSlotsIdeal : Cert.SumSlotsIdeal.Facts) (hSumSlotsRefIdeal : Cert.SumSlotsRefIdeal.Facts) (hPre_ln_finite : Cert.Pre_ln_finite.Facts) (hPre_convact_finite : Cert.Pre_convact_finite.Facts) (hPre_loss_finite : Cert.Pre_loss_finite.Facts) (hPre_ffnx_finite : Cert.Pre_ffnx_finite.Facts) (hPre_ffnw_finite : Cert.Pre_ffnw_finite.Facts) (hPre_ple_finite : Cert.Pre_ple_finite.Facts) (hPre_rglru_finite : Cert.Pre_rglru_finite.Facts) (hPre_rgf_finite : Cert.Pre_rgf_finite.Facts),
    quiescent_LnBwd (hLnBwd := hLnBwd)
    ∧ quiescent_LnBwdIdeal (hLnBwdIdeal := hLnBwdIdeal)
    ∧ quiescent_LnBwdIdeal_pre_ln_finite (hLnBwdIdeal := hLnBwdIdeal) (hPre_ln_finite := hPre_ln_finite)
    ∧ quiescent_LnBwdRefIdeal (hLnBwdRefIdeal := hLnBwdRefIdeal)
    ∧ quiescent_LnBwdRefIdeal_pre_ln_finite (hLnBwdRefIdeal := hLnBwdRefIdeal) (hPre_ln_finite := hPre_ln_finite)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_ConvActBwd (hConvActBwd := hConvActBwd)
    ∧ quiescent_ConvActBwdIdeal (hConvActBwdIdeal := hConvActBwdIdeal)
    ∧ quiescent_ConvActBwdIdeal_pre_convact_finite (hConvActBwdIdeal := hConvActBwdIdeal) (hPre_convact_finite := hPre_convact_finite)
    ∧ quiescent_ConvActBwdRefIdeal (hConvActBwdRefIdeal := hConvActBwdRefIdeal)
    ∧ quiescent_ConvActBwdRefIdeal_pre_convact_finite (hConvActBwdRefIdeal := hConvActBwdRefIdeal) (hPre_convact_finite := hPre_convact_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_FfnInBwd (hFfnInBwd := hFfnInBwd)
    ∧ quiescent_FfnInBwdIdeal (hFfnInBwdIdeal := hFfnInBwdIdeal)
    ∧ quiescent_FfnInBwdIdeal_pre_ffnx_finite (hFfnInBwdIdeal := hFfnInBwdIdeal) (hPre_ffnx_finite := hPre_ffnx_finite)
    ∧ quiescent_FfnInBwdRefIdeal (hFfnInBwdRefIdeal := hFfnInBwdRefIdeal)
    ∧ quiescent_FfnInBwdRefIdeal_pre_ffnx_finite (hFfnInBwdRefIdeal := hFfnInBwdRefIdeal) (hPre_ffnx_finite := hPre_ffnx_finite)
    ∧ quiescent_FfnWBwd (hFfnWBwd := hFfnWBwd)
    ∧ quiescent_FfnWBwdIdeal (hFfnWBwdIdeal := hFfnWBwdIdeal)
    ∧ quiescent_FfnWBwdIdeal_pre_ffnw_finite (hFfnWBwdIdeal := hFfnWBwdIdeal) (hPre_ffnw_finite := hPre_ffnw_finite)
    ∧ quiescent_FfnWBwdRefIdeal (hFfnWBwdRefIdeal := hFfnWBwdRefIdeal)
    ∧ quiescent_FfnWBwdRefIdeal_pre_ffnw_finite (hFfnWBwdRefIdeal := hFfnWBwdRefIdeal) (hPre_ffnw_finite := hPre_ffnw_finite)
    ∧ quiescent_PleBwd (hPleBwd := hPleBwd)
    ∧ quiescent_PleBwdIdeal (hPleBwdIdeal := hPleBwdIdeal)
    ∧ quiescent_PleBwdIdeal_pre_ple_finite (hPleBwdIdeal := hPleBwdIdeal) (hPre_ple_finite := hPre_ple_finite)
    ∧ quiescent_PleBwdRefIdeal (hPleBwdRefIdeal := hPleBwdRefIdeal)
    ∧ quiescent_PleBwdRefIdeal_pre_ple_finite (hPleBwdRefIdeal := hPleBwdRefIdeal) (hPre_ple_finite := hPre_ple_finite)
    ∧ quiescent_RglruBwd (hRglruBwd := hRglruBwd)
    ∧ quiescent_RglruBwdIdeal (hRglruBwdIdeal := hRglruBwdIdeal)
    ∧ quiescent_RglruBwdIdeal_pre_rglru_finite (hRglruBwdIdeal := hRglruBwdIdeal) (hPre_rglru_finite := hPre_rglru_finite)
    ∧ quiescent_RglruBwdRefIdeal (hRglruBwdRefIdeal := hRglruBwdRefIdeal)
    ∧ quiescent_RglruBwdRefIdeal_pre_rglru_finite (hRglruBwdRefIdeal := hRglruBwdRefIdeal) (hPre_rglru_finite := hPre_rglru_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ConvActFwd (hConvActFwd := hConvActFwd)
    ∧ quiescent_ConvActFwdIdeal (hConvActFwdIdeal := hConvActFwdIdeal)
    ∧ quiescent_ConvActFwdRefIdeal (hConvActFwdRefIdeal := hConvActFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_RglruFwd (hRglruFwd := hRglruFwd)
    ∧ quiescent_RglruFwdIdeal (hRglruFwdIdeal := hRglruFwdIdeal)
    ∧ quiescent_RglruFwdIdeal_pre_rgf_finite (hRglruFwdIdeal := hRglruFwdIdeal) (hPre_rgf_finite := hPre_rgf_finite)
    ∧ quiescent_RglruFwdRefIdeal (hRglruFwdRefIdeal := hRglruFwdRefIdeal)
    ∧ quiescent_RglruFwdRefIdeal_pre_rgf_finite (hRglruFwdRefIdeal := hRglruFwdRefIdeal) (hPre_rgf_finite := hPre_rgf_finite)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ preserves_LnBwd_LnBwdIdeal
    ∧ algebraic_LnBwdIdeal_LnBwdRefIdeal_pre_ln_finite (hLnBwdIdeal := hLnBwdIdeal) (hLnBwdRefIdeal := hLnBwdRefIdeal) (hPre_ln_finite := hPre_ln_finite)
    ∧ preserves_ConvBwd_ConvBwdIdeal
    ∧ algebraic_ConvBwdIdeal_ConvBwdRefIdeal (hConvBwdIdeal := hConvBwdIdeal) (hConvBwdRefIdeal := hConvBwdRefIdeal)
    ∧ preserves_ConvActBwd_ConvActBwdIdeal
    ∧ algebraic_ConvActBwdIdeal_ConvActBwdRefIdeal_pre_convact_finite (hConvActBwdIdeal := hConvActBwdIdeal) (hConvActBwdRefIdeal := hConvActBwdRefIdeal) (hPre_convact_finite := hPre_convact_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_FfnInBwd_FfnInBwdIdeal
    ∧ algebraic_FfnInBwdIdeal_FfnInBwdRefIdeal_pre_ffnx_finite (hFfnInBwdIdeal := hFfnInBwdIdeal) (hFfnInBwdRefIdeal := hFfnInBwdRefIdeal) (hPre_ffnx_finite := hPre_ffnx_finite)
    ∧ preserves_FfnWBwd_FfnWBwdIdeal
    ∧ algebraic_FfnWBwdIdeal_FfnWBwdRefIdeal_pre_ffnw_finite (hFfnWBwdIdeal := hFfnWBwdIdeal) (hFfnWBwdRefIdeal := hFfnWBwdRefIdeal) (hPre_ffnw_finite := hPre_ffnw_finite)
    ∧ preserves_PleBwd_PleBwdIdeal
    ∧ algebraic_PleBwdIdeal_PleBwdRefIdeal_pre_ple_finite (hPleBwdIdeal := hPleBwdIdeal) (hPleBwdRefIdeal := hPleBwdRefIdeal) (hPre_ple_finite := hPre_ple_finite)
    ∧ preserves_RglruBwd_RglruBwdIdeal
    ∧ algebraic_RglruBwdIdeal_RglruBwdRefIdeal_pre_rglru_finite (hRglruBwdIdeal := hRglruBwdIdeal) (hRglruBwdRefIdeal := hRglruBwdRefIdeal) (hPre_rglru_finite := hPre_rglru_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_ConvActFwd_ConvActFwdIdeal
    ∧ algebraic_ConvActFwdIdeal_ConvActFwdRefIdeal (hConvActFwdIdeal := hConvActFwdIdeal) (hConvActFwdRefIdeal := hConvActFwdRefIdeal)
    ∧ preserves_PleFwd_PleFwdIdeal
    ∧ algebraic_PleFwdIdeal_PleFwdRefIdeal (hPleFwdIdeal := hPleFwdIdeal) (hPleFwdRefIdeal := hPleFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjLn_ProjLnIdeal
    ∧ algebraic_ProjLnIdeal_ProjLnRefIdeal (hProjLnIdeal := hProjLnIdeal) (hProjLnRefIdeal := hProjLnRefIdeal)
    ∧ preserves_RglruFwd_RglruFwdIdeal
    ∧ algebraic_RglruFwdIdeal_RglruFwdRefIdeal_pre_rgf_finite (hRglruFwdIdeal := hRglruFwdIdeal) (hRglruFwdRefIdeal := hRglruFwdRefIdeal) (hPre_rgf_finite := hPre_rgf_finite)
    ∧ preserves_MmNn_MmNnIdeal
    ∧ algebraic_MmNnIdeal_MmNnRefIdeal (hMmNnIdeal := hMmNnIdeal) (hMmNnRefIdeal := hMmNnRefIdeal)
    ∧ preserves_MmTn_MmTnIdeal
    ∧ algebraic_MmTnIdeal_MmTnRefIdeal (hMmTnIdeal := hMmTnIdeal) (hMmTnRefIdeal := hMmTnRefIdeal)
    ∧ preserves_FfnBack_FfnBackIdeal
    ∧ algebraic_FfnBackIdeal_FfnBackRefIdeal (hFfnBackIdeal := hFfnBackIdeal) (hFfnBackRefIdeal := hFfnBackRefIdeal)
    ∧ preserves_AdamW_AdamWIdeal
    ∧ algebraic_AdamWIdeal_AdamWRefIdeal (hAdamWIdeal := hAdamWIdeal) (hAdamWRefIdeal := hAdamWRefIdeal)
    ∧ preserves_SumSlots_SumSlotsIdeal
    ∧ algebraic_SumSlotsIdeal_SumSlotsRefIdeal (hSumSlotsIdeal := hSumSlotsIdeal) (hSumSlotsRefIdeal := hSumSlotsRefIdeal)
-- ==== Pre_convact_finite.lean ====
abbrev S4x2048x3072 : Shape := ⟨3, ![4, 2048, 3072]⟩
abbrev S4x3072 : Shape := ⟨2, ![4, 3072]⟩
abbrev S_ : Shape := ⟨0, ![]⟩

class Facts : Prop where
  bcast_S_S4x2048x3072 : S_.BroadcastsInDim S4x2048x3072 (![] : Fin 0 → Fin S4x2048x3072.rank)
  bcast_S_S4x3072 : S_.BroadcastsInDim S4x3072 (![] : Fin 0 → Fin S4x3072.rank)

variable [Facts]

def fn {F : FTy → Type} [FloatOps F] (main_arg0 : FVec F S4x2048x3072 .f32) (main_arg1 : FVec F S4x3072 .f32) (main_arg2 : FVec F S4x2048x3072 .f32) : IVec S4x2048x3072 1 × IVec S4x3072 1 × IVec S4x2048x3072 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_v3 : FVec F S4x3072 .f32 := Host.absf main_arg1
  let main_cst_0 : FVec F S_ .f32 := constant S_ .f32 0x7F800000#32
  let main_v4 : FVec F S4x3072 .f32 := broadcastInDim S4x3072 ![] bcast_S_S4x3072 main_cst_0
  let main_v5 : IVec S4x3072 1 := cmpf .olt main_v3 main_v4
  let main_v6 : FVec F S4x2048x3072 .f32 := Host.absf main_arg2
  let main_cst_1 : FVec F S_ .f32 := constant S_ .f32 0x7F800000#32
  let main_v7 : FVec F S4x2048x3072 .f32 := broadcastInDim S4x2048x3072 ![] bcast_S_S4x2048x3072 main_cst_1
  let main_v8 : IVec S4x2048x3072 1 := cmpf .olt main_v6 main_v7
  (main_v2, main_v5, main_v8)
-- ==== Pre_ffnw_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S8192x1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_ffnx_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn_part1 {F : FTy → Type} [FloatOps F] (main_arg7 : FVec F S8192x2816 .f32) (main_v2 : IVec S8192x1024 1) (main_v5 : IVec S1024 1) (main_v8 : IVec S1024x2816 1) (main_v11 : IVec S1024x2816 1) (main_v14 : IVec S8192x1024 1) (main_v17 : IVec S8192x2816 1) : IVec S8192x1024 1 × IVec S1024 1 × IVec S1024x2816 1 × IVec S1024x2816 1 × IVec S8192x1024 1 × IVec S8192x2816 1 × IVec S8192x2816 1 :=
  let main_v18 : FVec F S8192x2816 .f32 := Host.absf main_arg7
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S8192x1024 .f32) (main_arg6 : FVec F S8192x2816 .f32) (main_arg7 : FVec F S8192x2816 .f32) : IVec S8192x1024 1 × IVec S1024 1 × IVec S1024x2816 1 × IVec S1024x2816 1 × IVec S8192x1024 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg3
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg7 main_v2 main_v5 main_v8 main_v11 main_v14 main_v17
-- ==== Pre_ln_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_loss_finite.lean ====
abbrev S4x2048x1024 : Shape := ⟨3, ![4, 2048, 1024]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S4x2048x1024 .f32) : IVec S4x2048x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  (main_v2, main_v5)
-- ==== Pre_ple_finite.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S8192x256 : S_.BroadcastsInDim S8192x256 (![] : Fin 0 → Fin S8192x256.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S8192x1024 .f32) (main_v2 : IVec S8192x1024 1) (main_v5 : IVec S1024 1) (main_v8 : IVec S1024 1) (main_v11 : IVec S8192x256 1) (main_v14 : IVec S1024x1024 1) (main_v17 : IVec S1024 1) : IVec S8192x1024 1 × IVec S1024 1 × IVec S1024 1 × IVec S8192x256 1 × IVec S1024x1024 1 × IVec S1024 1 × IVec S256x1024 1 × IVec S8192x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024 .f32) (main_arg3 : FVec F S8192x256 .f32) (main_arg4 : FVec F S1024x1024 .f32) (main_arg5 : FVec F S1024 .f32) (main_arg6 : FVec F S256x1024 .f32) (main_arg7 : FVec F S8192x1024 .f32) : IVec S8192x1024 1 × IVec S1024 1 × IVec S1024 1 × IVec S8192x256 1 × IVec S1024x1024 1 × IVec S1024 1 × IVec S256x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_rgf_finite.lean ====
abbrev S4x2048x512 : Shape := ⟨3, ![4, 2048, 512]⟩
abbrev S8x64x64 : Shape := ⟨3, ![8, 64, 64]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  bcast_S_S8x64x64 : S_.BroadcastsInDim S8x64x64 (![] : Fin 0 → Fin S8x64x64.rank)
  bcast_S_S512 : S_.BroadcastsInDim S512 (![] : Fin 0 → Fin S512.rank)

variable [Facts]

def fn_part1 {F : FTy → Type} [FloatOps F] (main_arg6 : FVec F S512 .f32) (main_v2 : IVec S4x2048x512 1) (main_v5 : IVec S4x2048x512 1) (main_v8 : IVec S8x64x64 1) (main_v11 : IVec S512 1) (main_v14 : IVec S8x64x64 1) (main_v17 : IVec S512 1) : IVec S4x2048x512 1 × IVec S4x2048x512 1 × IVec S8x64x64 1 × IVec S512 1 × IVec S8x64x64 1 × IVec S512 1 × IVec S512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  (main_v2, main_v5, main_v8, main_v11, main_v14, main_v17, main_v20)

def fn {F : FTy → Type} [FloatOps F] (main_arg0 : FVec F S4x2048x512 .f32) (main_arg1 : FVec F S4x2048x512 .f32) (main_arg2 : FVec F S8x64x64 .f32) (main_arg3 : FVec F S512 .f32) (main_arg4 : FVec F S8x64x64 .f32) (main_arg5 : FVec F S512 .f32) (main_arg6 : FVec F S512 .f32) : IVec S4x2048x512 1 × IVec S4x2048x512 1 × IVec S8x64x64 1 × IVec S512 1 × IVec S8x64x64 1 × IVec S512 1 × IVec S512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S8x64x64 .f32 := Host.absf main_arg2
  let main_cst_1 : FVec F S_ .f32 := constant S_ .f32 0x7F800000#32
  let main_v7 : FVec F S8x64x64 .f32 := broadcastInDim S8x64x64 ![] bcast_S_S8x64x64 main_cst_1
  let main_v8 : IVec S8x64x64 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S8x64x64 .f32 := Host.absf main_arg4
  let main_cst_3 : FVec F S_ .f32 := constant S_ .f32 0x7F800000#32
  let main_v13 : FVec F S8x64x64 .f32 := broadcastInDim S8x64x64 ![] bcast_S_S8x64x64 main_cst_3
  let main_v14 : IVec S8x64x64 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_v2 main_v5 main_v8 main_v11 main_v14 main_v17
-- ==== Pre_rglru_finite.lean ====
abbrev S4x2048x512 : Shape := ⟨3, ![4, 2048, 512]⟩
abbrev S8x64x64 : Shape := ⟨3, ![8, 64, 64]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  bcast_S_S8x64x64 : S_.BroadcastsInDim S8x64x64 (![] : Fin 0 → Fin S8x64x64.rank)
  bcast_S_S512 : S_.BroadcastsInDim S512 (![] : Fin 0 → Fin S512.rank)

variable [Facts]

def fn_part1 {F : FTy → Type} [FloatOps F] (main_arg6 : FVec F S512 .f32) (main_arg7 : FVec F S4x2048x512 .f32) (main_v2 : IVec S4x2048x512 1) (main_v5 : IVec S4x2048x512 1) (main_v8 : IVec S8x64x64 1) (main_v11 : IVec S512 1) (main_v14 : IVec S8x64x64 1) (main_v17 : IVec S512 1) : IVec S4x2048x512 1 × IVec S4x2048x512 1 × IVec S8x64x64 1 × IVec S512 1 × IVec S8x64x64 1 × IVec S512 1 × IVec S512 1 × IVec S4x2048x512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S4x2048x512 .f32 := Host.absf main_arg7
  let main_cst_6 : FVec F S_ .f32 := constant S_ .f32 0x7F800000#32
  let main_v22 : FVec F S4x2048x512 .f32 := broadcastInDim S4x2048x512 ![] bcast_S_S4x2048x512 main_cst_6
  let main_v23 : IVec S4x2048x512 1 := cmpf .olt main_v21 main_v22
  (main_v2, main_v5, main_v8, main_v11, main_v14, main_v17, main_v20, main_v23)

def fn {F : FTy → Type} [FloatOps F] (main_arg0 : FVec F S4x2048x512 .f32) (main_arg1 : FVec F S4x2048x512 .f32) (main_arg2 : FVec F S8x64x64 .f32) (main_arg3 : FVec F S512 .f32) (main_arg4 : FVec F S8x64x64 .f32) (main_arg5 : FVec F S512 .f32) (main_arg6 : FVec F S512 .f32) (main_arg7 : FVec F S4x2048x512 .f32) : IVec S4x2048x512 1 × IVec S4x2048x512 1 × IVec S8x64x64 1 × IVec S512 1 × IVec S8x64x64 1 × IVec S512 1 × IVec S512 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S8x64x64 .f32 := Host.absf main_arg2
  let main_cst_1 : FVec F S_ .f32 := constant S_ .f32 0x7F800000#32
  let main_v7 : FVec F S8x64x64 .f32 := broadcastInDim S8x64x64 ![] bcast_S_S8x64x64 main_cst_1
  let main_v8 : IVec S8x64x64 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S8x64x64 .f32 := Host.absf main_arg4
  let main_cst_3 : FVec F S_ .f32 := constant S_ .f32 0x7F800000#32
  let main_v13 : FVec F S8x64x64 .f32 := broadcastInDim S8x64x64 ![] bcast_S_S8x64x64 main_cst_3
  let main_v14 : IVec S8x64x64 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_v2 main_v5 main_v8 main_v11 main_v14 main_v17
-- ==== LnBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S1x1024, .f32⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== ConvBwd.lean ====
abbrev S4x2048x512 : Shape := ⟨3, ![4, 2048, 512]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S4x2048x512, .f32⟩
  | .hbm, ⟨4, _⟩ => ⟨S8192x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S4x512, .f32⟩
  | .hbm, ⟨9, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | .local _ .vmem, ⟨14, _⟩ => ⟨S2056x128, .f32⟩
  | .local _ .vmem, ⟨15, _⟩ => ⟨S2056x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v43 : BitVec 32 := Scalar.extui v38
  let c0_i32_27 : BitVec 32 := 0#32
  let v44 : BitVec 1 := Scalar.cmpi .ne v43 c0_i32_27
  v44

def k0_cond2 (i : grid0.Coords) : BitVec 1 :=
  let arg1 : BitVec 32 := BitVec.ofNat 32 (i 1).val
  let c0_i32 : BitVec 32 := 0#32
  let v38 : BitVec 1 := Scalar.cmpi .eq arg1 c0_i32
  let v_true : BitVec 1 := 1#1
  let v45 : BitVec 1 := Scalar.xori v38 v_true
  let v46 : BitVec 32 := Scalar.extui v45
  let c0_i32_28 : BitVec 32 := 0#32
  let v47 : BitVec 1 := Scalar.cmpi .ne v46 c0_i32_28
  v47

def k0_cond3 (i : grid0.Coords) : BitVec 1 :=
  let arg1 : BitVec 32 := BitVec.ofNat 32 (i 1).val
  let c0_i32 : BitVec 32 := 0#32
  let v38 : BitVec 1 := Scalar.cmpi .eq arg1 c0_i32
  let v52 : BitVec 32 := Scalar.extui v38
  let c0_i32_31 : BitVec 32 := 0#32
  let v53 : BitVec 1 := Scalar.cmpi .ne v52 c0_i32_31
  v53

def k0_cond4 (i : grid0.Coords) : BitVec 1 :=
  let arg1 : BitVec 32 := BitVec.ofNat 32 (i 1).val
  let c0_i32 : BitVec 32 := 0#32
  let v38 : BitVec 1 := Scalar.cmpi .eq arg1 c0_i32
  let true_32 : BitVec 1 := 1#1
  let v54 : BitVec 1 := Scalar.xori v38 true_32
  let v55 : BitVec 32 := Scalar.extui v54
  let c0_i32_33 : BitVec 32 := 0#32
  let v56 : BitVec 1 := Scalar.cmpi .ne v55 c0_i32_33
  v56

def k0_cond5 (i : grid0.Coords) : BitVec 1 :=
  let arg1 : BitVec 32 := BitVec.ofNat 32 (i 1).val
  let c0_i32 : BitVec 32 := 0#32
  let v38 : BitVec 1 := Scalar.cmpi .eq arg1 c0_i32
  let v61 : BitVec 32 := Scalar.extui v38
  let c0_i32_36 : BitVec 32 := 0#32
  let v62 : BitVec 1 := Scalar.cmpi .ne v61 c0_i32_36
  v62

def k0_cond6 (i : grid0.Coords) : BitVec 1 :=
  let arg1 : BitVec 32 := BitVec.ofNat 32 (i 1).val
  let c0_i32 : BitVec 32 := 0#32
  let v38 : BitVec 1 := Scalar.cmpi .eq arg1 c0_i32
  let true_37 : BitVec 1 := 1#1
  let v63 : BitVec 1 := Scalar.xori v38 true_37
  let v64 : BitVec 32 := Scalar.extui v63
  let c0_i32_38 : BitVec 32 := 0#32
  let v65 : BitVec 1 := Scalar.cmpi .ne v64 c0_i32_38
  v65

def k0_cond7 (i : grid0.Coords) : BitVec 1 :=
  let arg1 : BitVec 32 := BitVec.ofNat 32 (i 1).val
  let c0_i32 : BitVec 32 := 0#32
  let v38 : BitVec 1 := Scalar.cmpi .eq arg1 c0_i32
  let v70 : BitVec 32 := Scalar.extui v38
  let c0_i32_42 : BitVec 32 := 0#32
  let v71 : BitVec 1 := Scalar.cmpi .ne v70 c0_i32_42
  v71

def k0_cond8 (i : grid0.Coords) : BitVec 1 :=
  let arg1 : BitVec 32 := BitVec.ofNat 32 (i 1).val
  let c0_i32 : BitVec 32 := 0#32
  let v38 : BitVec 1 := Scalar.cmpi .eq arg1 c0_i32
  let true_43 : BitVec 1 := 1#1
  let v72 : BitVec 1 := Scalar.xori v38 true_43
  let v73 : BitVec 32 := Scalar.extui v72
  let c0_i32_44 : BitVec 32 := 0#32
  let v74 : BitVec 1 := Scalar.cmpi .ne v73 c0_i32_44
  v74

def k0_cond9 (i : grid0.Coords) : BitVec 1 :=
  let arg1 : BitVec 32 := BitVec.ofNat 32 (i 1).val
  let c0_i32 : BitVec 32 := 0#32
  let v38 : BitVec 1 := Scalar.cmpi .eq arg1 c0_i32
  let v77 : BitVec 32 := Scalar.extui v38
  let c0_i32_46 : BitVec 32 := 0#32
  let v78 : BitVec 1 := Scalar.cmpi .ne v77 c0_i32_46
  v78

def k0_cond10 (i : grid0.Coords) : BitVec 1 :=
  let arg1 : BitVec 32 := BitVec.ofNat 32 (i 1).val
  let c0_i32 : BitVec 32 := 0#32
  let v38 : BitVec 1 := Scalar.cmpi .eq arg1 c0_i32
  let true_47 : BitVec 1 := 1#1
  let v79 : BitVec 1 := Scalar.xori v38 true_47
  let v80 : BitVec 32 := Scalar.extui v79
  let c0_i32_48 : BitVec 32 := 0#32
  let v81 : BitVec 1 := Scalar.cmpi .ne v80 c0_i32_48
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S4x2048x512 : Shape := ⟨3, ![4, 2048, 512]⟩
abbrev S4x512 : Shape := ⟨2, ![4, 512]⟩
abbrev S512 : Shape := ⟨1, ![512]⟩
abbrev S_ : Shape := ⟨0, ![]⟩
abbrev S4x3x512 : Shape := ⟨3, ![4, 3, 512]⟩
abbrev S4x2051x512 : Shape := ⟨3, ![4, 2051, 512]⟩
abbrev S1x512 : Shape := ⟨2, ![1, 512]⟩
abbrev S1x1x512 : Shape := ⟨3, ![1, 1, 512]⟩
abbrev S8192x512 : Shape := ⟨2, ![8192, 512]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S4x2048x512, .f32⟩
  | .hbm, ⟨4, _⟩ => ⟨S_, .f32⟩
  | .hbm, ⟨5, _⟩ => ⟨S4x3x512, .f32⟩
  | .hbm, ⟨6, _⟩ => ⟨S4x2051x512, .f32⟩
  | .hbm, ⟨7, _⟩ => ⟨S_, .f32⟩
  | .hbm, ⟨8, _⟩ => ⟨S4x3x512, .f32⟩
  | .hbm, ⟨9, _⟩ => ⟨S4x2048x512, .f32⟩
  | .hbm, ⟨10, _⟩ => ⟨S1x512, .f32⟩
  | .hbm, ⟨11, _⟩ => ⟨S512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S_, .f32⟩
  | .hbm, ⟨41, _⟩ => ⟨S512, .f32⟩
  | .hbm, ⟨42, _⟩ => ⟨S1x1x512, .f32⟩
  | .hbm, ⟨43, _⟩ => ⟨S_, .f32⟩
  | .hbm, ⟨44, _⟩ => ⟨S512, .f32⟩
  | .hbm, ⟨45, _⟩ => ⟨S4x2048x512, .f32⟩
  | .hbm, ⟨46, _⟩ => ⟨S_, .f32⟩
  | .hbm, ⟨47, _⟩ => ⟨S512, .f32⟩
  | .hbm, ⟨48, _⟩ => ⟨S1x1x512, .f32⟩
  | .hbm, ⟨49, _⟩ => ⟨S4x2048x512, .f32⟩
  | .hbm, ⟨50, _⟩ => ⟨S4x2048x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S4x512, .f32⟩
  | .hbm, ⟨56, _⟩ => ⟨S_, .f32⟩
  | .hbm, ⟨57, _⟩ => ⟨S4x2051x512, .f32⟩
  | .hbm, ⟨58, _⟩ => ⟨S4x2048x512, .f32⟩
  | .hbm, ⟨59, _⟩ => ⟨S_, .f32⟩
  | .hbm, ⟨60, _⟩ => ⟨S512, .f32⟩
  | .hbm, ⟨61, _⟩ => ⟨S1x1x512, .f32⟩
  | .hbm, ⟨62, _⟩ => ⟨S4x2048x512, .f32⟩
  | .hbm, ⟨63, _⟩ => ⟨S4x2048x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S4x512, .f32⟩
  | .hbm, ⟨69, _⟩ => ⟨S4x512, .f32⟩
  | .hbm, ⟨70, _⟩ => ⟨S_, .f32⟩
  | .hbm, ⟨71, _⟩ => ⟨S4x2051x512, .f32⟩
  | .hbm, ⟨72, _⟩ => ⟨S4x2051x512, .f32⟩
  | .hbm, ⟨73, _⟩ => ⟨S4x2048x512, .f32⟩
  | .hbm, ⟨74, _⟩ => ⟨S_, .f32⟩
  | .hbm, ⟨75, _⟩ => ⟨S512, .f32⟩
  | .hbm, ⟨76, _⟩ => ⟨S1x1x512, .f32⟩
  | .hbm, ⟨77, _⟩ => ⟨S4x2048x512, .f32⟩
  | .hbm, ⟨78, _⟩ => ⟨S4x2048x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S_, .f32⟩
  | .hbm, ⟨83, _⟩ => ⟨S4x512, .f32⟩
  | .hbm, ⟨84, _⟩ => ⟨S4x512, .f32⟩
  | .hbm, ⟨85, _⟩ => ⟨S_, .f32⟩
  | .hbm, ⟨86, _⟩ => ⟨S4x2051x512, .f32⟩
  | .hbm, ⟨87, _⟩ => ⟨S4x2051x512, .f32⟩
  | .hbm, ⟨88, _⟩ => ⟨S4x2048x512, .f32⟩
  | .hbm, ⟨89, _⟩ => ⟨S_, .f32⟩
  | .hbm, ⟨90, _⟩ => ⟨S512, .f32⟩
  | .hbm, ⟨91, _⟩ => ⟨S1x1x512, .f32⟩
  | .hbm, ⟨92, _⟩ => ⟨S4x2048x512, .f32⟩
  | .hbm, ⟨93, _⟩ => ⟨S4x2048x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S_, .f32⟩
  | .hbm, ⟨98, _⟩ => ⟨S4x512, .f32⟩
  | .hbm, ⟨99, _⟩ => ⟨S4x512, .f32⟩
  | .hbm, ⟨100, _⟩ => ⟨S_, .f32⟩
  | .hbm, ⟨101, _⟩ => ⟨S4x2051x512, .f32⟩
  | .hbm, ⟨102, _⟩ => ⟨S4x2051x512, .f32⟩
  | .hbm, ⟨103, _⟩ => ⟨S4x3x512, .f32⟩
  | .hbm, ⟨104, _⟩ => ⟨S4x2048x512, .f32⟩
  | .hbm, ⟨105, _⟩ => ⟨S8192x512, .f32⟩
  | .hbm, ⟨106, _⟩ => ⟨S1x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_16 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== ConvActBwd.lean ====
abbrev S4x2048x3072 : Shape := ⟨3, ![4, 2048, 3072]⟩
abbrev S4x3072 : Shape := ⟨2, ![4, 3072]⟩
abbrev S_ : Shape := ⟨0, ![]⟩
abbrev S1x3072 : Shape := ⟨2, ![1, 3072]⟩
abbrev S8192x3072 : Shape := ⟨2, ![8192, 3072]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S4x2048x3072, .f32⟩
  | .hbm, ⟨3, _⟩ => ⟨S_, .f32⟩
  | .hbm, ⟨4, _⟩ => ⟨S1x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S4x3072, .f32⟩
  | .hbm, ⟨9, _⟩ => ⟨S1x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | .local _ .vmem, ⟨14, _⟩ => ⟨S2056x128, .f32⟩
  | .local _ .vmem, ⟨15, _⟩ => ⟨S2056x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 4], ![false, false]⟩

def k0_cond1 (i : grid0.Coords) : BitVec 1 :=
  let arg1 : BitVec 32 := BitVec.ofNat 32 (i 1).val
  let c0_i32 : BitVec 32 := 0#32
  let v69 : BitVec 1 := Scalar.cmpi .eq arg1 c0_i32
  let v74 : BitVec 32 := Scalar.extui v69
  let c0_i32_45 : BitVec 32 := 0#32
  let v75 : BitVec 1 := Scalar.cmpi .ne v74 c0_i32_45
  v75

def k0_cond2 (i : grid0.Coords) : BitVec 1 :=
  let arg1 : BitVec 32 := BitVec.ofNat 32 (i 1).val
  let c0_i32 : BitVec 32 := 0#32
  let v69 : BitVec 1 := Scalar.cmpi .eq arg1 c0_i32
  let v_true : BitVec 1 := 1#1
  let v76 : BitVec 1 := Scalar.xori v69 v_true
  let v77 : BitVec 32 := Scalar.extui v76
  let c0_i32_46 : BitVec 32 := 0#32
  let v78 : BitVec 1 := Scalar.cmpi .ne v77 c0_i32_46
  v78

def k0_cond3 (i : grid0.Coords) : BitVec 1 :=
  let arg1 : BitVec 32 := BitVec.ofNat 32 (i 1).val
  let c0_i32 : BitVec 32 := 0#32
  let v69 : BitVec 1 := Scalar.cmpi .eq arg1 c0_i32
  let v83 : BitVec 32 := Scalar.extui v69
  let c0_i32_50 : BitVec 32 := 0#32
  let v84 : BitVec 1 := Scalar.cmpi .ne v83 c0_i32_50
  v84

def k0_cond4 (i : grid0.Coords) : BitVec 1 :=
  let arg1 : BitVec 32 := BitVec.ofNat 32 (i 1).val
  let c0_i32 : BitVec 32 := 0#32
  let v69 : BitVec 1 := Scalar.cmpi .eq arg1 c0_i32
  let true_51 : BitVec 1 := 1#1
  let v85 : BitVec 1 := Scalar.xori v69 true_51
  let v86 : BitVec 32 := Scalar.extui v85
  let c0_i32_52 : BitVec 32 := 0#32
  let v87 : BitVec 1 := Scalar.cmpi .ne v86 c0_i32_52
  v87

def k0_cond5 (i : grid0.Coords) : BitVec 1 :=
  let arg1 : BitVec 32 := BitVec.ofNat 32 (i 1).val
  let c0_i32 : BitVec 32 := 0#32
  let v69 : BitVec 1 := Scalar.cmpi .eq arg1 c0_i32
  let v92 : BitVec 32 := Scalar.extui v69
  let c0_i32_56 : BitVec 32 := 0#32
  let v93 : BitVec 1 := Scalar.cmpi .ne v92 c0_i32_56
  v93

def k0_cond6 (i : grid0.Coords) : BitVec 1 :=
  let arg1 : BitVec 32 := BitVec.ofNat 32 (i 1).val
  let c0_i32 : BitVec 32 := 0#32
  let v69 : BitVec 1 := Scalar.cmpi .eq arg1 c0_i32
  let true_57 : BitVec 1 := 1#1
  let v94 : BitVec 1 := Scalar.xori v69 true_57
  let v95 : BitVec 32 := Scalar.extui v94
  let c0_i32_58 : BitVec 32 := 0#32
  let v96 : BitVec 1 := Scalar.cmpi .ne v95 c0_i32_58
  v96

def k0_cond7 (i : grid0.Coords) : BitVec 1 :=
  let arg1 : BitVec 32 := BitVec.ofNat 32 (i 1).val
  let c0_i32 : BitVec 32 := 0#32
  let v69 : BitVec 1 := Scalar.cmpi .eq arg1 c0_i32
  let v101 : BitVec 32 := Scalar.extui v69
  let c0_i32_62 : BitVec 32 := 0#32
  let v102 : BitVec 1 := Scalar.cmpi .ne v101 c0_i32_62
  v102

def k0_cond8 (i : grid0.Coords) : BitVec 1 :=
  let arg1 : BitVec 32 := BitVec.ofNat 32 (i 1).val
  let c0_i32 : BitVec 32 := 0#32
  let v69 : BitVec 1 := Scalar.cmpi .eq arg1 c0_i32
  let true_63 : BitVec 1 := 1#1
  let v103 : BitVec 1 := Scalar.xori v69 true_63
  let v104 : BitVec 32 := Scalar.extui v103
  let c0_i32_64 : BitVec 32 := 0#32
  let v105 : BitVec 1 := Scalar.cmpi .ne v104 c0_i32_64
  v105

def k0_cond9 (i : grid0.Coords) : BitVec 1 :=
  let arg1 : BitVec 32 := BitVec.ofNat 32 (i 1).val
  let c0_i32 : BitVec 32 := 0#32
  let v69 : BitVec 1 := Scalar.cmpi .eq arg1 c0_i32
  let v108 : BitVec 32 := Scalar.extui v69
  let c0_i32_66 : BitVec 32 := 0#32
  let v109 : BitVec 1 := Scalar.cmpi .ne v108 c0_i32_66
  v109

def k0_cond10 (i : grid0.Coords) : BitVec 1 :=
  let arg1 : BitVec 32 := BitVec.ofNat 32 (i 1).val
  let c0_i32 : BitVec 32 := 0#32
  let v69 : BitVec 1 := Scalar.cmpi .eq arg1 c0_i32
  let true_67 : BitVec 1 := 1#1
  let v110 : BitVec 1 := Scalar.xori v69 true_67
  let v111 : BitVec 32 := Scalar.extui v110
  let c0_i32_68 : BitVec 32 := 0#32
  let v112 : BitVec 1 := Scalar.cmpi .ne v111 c0_i32_68
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvActBwdRefIdeal.lean ====
abbrev S4x2048x3072 : Shape := ⟨3, ![4, 2048, 3072]⟩
abbrev S4x3072 : Shape := ⟨2, ![4, 3072]⟩
abbrev S_ : Shape := ⟨0, ![]⟩
abbrev S4x3x3072 : Shape := ⟨3, ![4, 3, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S8192x3072 : Shape := ⟨2, ![8192, 3072]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S4x2048x3072, .f32⟩
  | .hbm, ⟨3, _⟩ => ⟨S_, .f32⟩
  | .hbm, ⟨4, _⟩ => ⟨S4x3x3072, .f32⟩
  | .hbm, ⟨5, _⟩ => ⟨S4x2051x3072, .f32⟩
  | .hbm, ⟨6, _⟩ => ⟨S_, .f32⟩
  | .hbm, ⟨7, _⟩ => ⟨S4x3x3072, .f32⟩
  | .hbm, ⟨8, _⟩ => ⟨S4x2048x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S4x2048x3072, .f32⟩
  | .hbm, ⟨13, _⟩ => ⟨S4x2048x3072, .f32⟩
  | .hbm, ⟨14, _⟩ => ⟨S4x2048x3072, .f32⟩
  | .hbm, ⟨15, _⟩ => ⟨S1x3072, .f32⟩
  | .hbm, ⟨16, _⟩ => ⟨S3072, .f32⟩
  | .hbm, ⟨17, _⟩ => ⟨S1x1x3072, .f32⟩
  | .hbm, ⟨18, _⟩ => ⟨S4x2048x3072, .f32⟩
  | .hbm, ⟨19, _⟩ => ⟨S4x2048x3072, .f32⟩
  | .hbm, ⟨20, _⟩ => ⟨S4x2048x3072, .f32⟩
  | .hbm, ⟨21, _⟩ => ⟨S4x2048x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S4x2048x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S_, .f32⟩
  | .hbm, ⟨41, _⟩ => ⟨S4x2048x3072, .f32⟩
  | .hbm, ⟨42, _⟩ => ⟨S4x2048x3072, .f32⟩
  | .hbm, ⟨43, _⟩ => ⟨S_, .f32⟩
  | .hbm, ⟨44, _⟩ => ⟨S4x2048x3072, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S4x2048x3072, .f32⟩
  | .hbm, ⟨49, _⟩ => ⟨S4x2048x3072, .f32⟩
  | .hbm, ⟨50, _⟩ => ⟨S4x2048x3072, .f32⟩
  | .hbm, ⟨51, _⟩ => ⟨S4x2048x3072, .f32⟩
  | .hbm, ⟨52, _⟩ => ⟨S4x2048x3072, .f32⟩
  | .hbm, ⟨53, _⟩ => ⟨S_, .f32⟩
  | .hbm, ⟨54, _⟩ => ⟨S3072, .f32⟩
  | .hbm, ⟨55, _⟩ => ⟨S1x1x3072, .f32⟩
  | .hbm, ⟨56, _⟩ => ⟨S4x2048x3072, .f32⟩
  | .hbm, ⟨57, _⟩ => ⟨S4x2048x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S_, .f32⟩
  | .hbm, ⟨62, _⟩ => ⟨S4x3072, .f32⟩
  | .hbm, ⟨63, _⟩ => ⟨S_, .f32⟩
  | .hbm, ⟨64, _⟩ => ⟨S4x2051x3072, .f32⟩
  | .hbm, ⟨65, _⟩ => ⟨S4x2048x3072, .f32⟩
  | .hbm, ⟨66, _⟩ => ⟨S_, .f32⟩
  | .hbm, ⟨67, _⟩ => ⟨S3072, .f32⟩
  | .hbm, ⟨68, _⟩ => ⟨S1x1x3072, .f32⟩
  | .hbm, ⟨69, _⟩ => ⟨S4x2048x3072, .f32⟩
  | .hbm, ⟨70, _⟩ => ⟨S4x2048x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S4x3072, .f32⟩
  | .hbm, ⟨77, _⟩ => ⟨S_, .f32⟩
  | .hbm, ⟨78, _⟩ => ⟨S4x2051x3072, .f32⟩
  | .hbm, ⟨79, _⟩ => ⟨S4x2051x3072, .f32⟩
  | .hbm, ⟨80, _⟩ => ⟨S4x2048x3072, .f32⟩
  | .hbm, ⟨81, _⟩ => ⟨S_, .f32⟩
  | .hbm, ⟨82, _⟩ => ⟨S3072, .f32⟩
  | .hbm, ⟨83, _⟩ => ⟨S1x1x3072, .f32⟩
  | .hbm, ⟨84, _⟩ => ⟨S4x2048x3072, .f32⟩
  | .hbm, ⟨85, _⟩ => ⟨S4x2048x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S_, .f32⟩
  | .hbm, ⟨90, _⟩ => ⟨S4x3072, .f32⟩
  | .hbm, ⟨91, _⟩ => ⟨S4x3072, .f32⟩
  | .hbm, ⟨92, _⟩ => ⟨S_, .f32⟩
  | .hbm, ⟨93, _⟩ => ⟨S4x2051x3072, .f32⟩
  | .hbm, ⟨94, _⟩ => ⟨S4x2051x3072, .f32⟩
  | .hbm, ⟨95, _⟩ => ⟨S4x2048x3072, .f32⟩
  | .hbm, ⟨96, _⟩ => ⟨S_, .f32⟩
  | .hbm, ⟨97, _⟩ => ⟨S3072, .f32⟩
  | .hbm, ⟨98, _⟩ => ⟨S1x1x3072, .f32⟩
  | .hbm, ⟨99, _⟩ => ⟨S4x2048x3072, .f32⟩
  | .hbm, ⟨100, _⟩ => ⟨S4x2048x3072, .f32⟩
  | .hbm, ⟨101, _⟩ => ⟨S_, .f32⟩
  | .hbm, ⟨102, _⟩ => ⟨S3072, .f32⟩
  | .hbm, ⟨103, _⟩ => ⟨S1x3072, .f32⟩
  | .hbm, ⟨104, _⟩ => ⟨S_, .f32⟩
  | .hbm, ⟨105, _⟩ => ⟨S4x3072, .f32⟩
  | .hbm, ⟨106, _⟩ => ⟨S4x3072, .f32⟩
  | .hbm, ⟨107, _⟩ => ⟨S_, .f32⟩
  | .hbm, ⟨108, _⟩ => ⟨S4x2051x3072, .f32⟩
  | .hbm, ⟨109, _⟩ => ⟨S4x2051x3072, .f32⟩
  | .hbm, ⟨110, _⟩ => ⟨S4x3x3072, .f32⟩
  | .hbm, ⟨111, _⟩ => ⟨S4x2048x3072, .f32⟩
  | .hbm, ⟨112, _⟩ => ⟨S8192x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v30_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v30_1 : Ref sig .tc := ⟨.hbm, 46, rfl⟩
abbrev main_v30_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== LossHead.lean ====
abbrev S4x2048x1024 : Shape := ⟨3, ![4, 2048, 1024]⟩
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_6 : BitVec 32 := 0#32
  let v13 : BitVec 1 := Scalar.cmpi .ne v12 c0_i32_6
  v13

def k0_cond2 (i : grid0.Coords) : BitVec 1 :=
  let arg0 : BitVec 32 := BitVec.ofNat 32 (i 0).val
  let c0_i32_7 : BitVec 32 := 0#32
  let v14 : BitVec 1 := Scalar.cmpi .sgt arg0 c0_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4x2048x1024 : Shape := ⟨3, ![4, 2048, 1024]⟩
abbrev S_ : Shape := ⟨0, ![]⟩
abbrev S4x2048 : Shape := ⟨2, ![4, 2048]⟩
abbrev S8192x1024 : Shape := ⟨2, ![8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S4x2048x1024, .f32⟩
  | .hbm, ⟨24, _⟩ => ⟨S4x2048x1024, .f32⟩
  | .hbm, ⟨25, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== FfnInBwd.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S1024x4x704 : Shape := ⟨3, ![1024, 4, 704]⟩
abbrev S4x1024x704 : Shape := ⟨3, ![4, 1024, 704]⟩
abbrev S8192x4x704 : Shape := ⟨3, ![8192, 4, 704]⟩
abbrev S4x8192x704 : Shape := ⟨3, ![4, 8192, 704]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S1024x4x704, .f32⟩
  | .hbm, ⟨9, _⟩ => ⟨S4x1024x704, .f32⟩
  | .hbm, ⟨10, _⟩ => ⟨S4x1024x704, .bf16⟩
  | .hbm, ⟨11, _⟩ => ⟨S1024x4x704, .f32⟩
  | .hbm, ⟨12, _⟩ => ⟨S4x1024x704, .f32⟩
  | .hbm, ⟨13, _⟩ => ⟨S4x1024x704, .bf16⟩
  | .hbm, ⟨14, _⟩ => ⟨S8192x4x704, .f32⟩
  | .hbm, ⟨15, _⟩ => ⟨S4x8192x704, .f32⟩
  | .hbm, ⟨16, _⟩ => ⟨S4x8192x704, .bf16⟩
  | .hbm, ⟨17, _⟩ => ⟨S8192x4x704, .f32⟩
  | .hbm, ⟨18, _⟩ => ⟨S4x8192x704, .f32⟩
  | .hbm, ⟨19, _⟩ => ⟨S4x8192x704, .bf16⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S1x1024, .f32⟩
  | .hbm, ⟨24, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v96 : BitVec 1 := Scalar.cmpi .eq arg0 c0_i32
  let v97 : BitVec 32 := Scalar.extui v96
  let c0_i32_73 : BitVec 32 := 0#32
  let v98 : BitVec 1 := Scalar.cmpi .ne v97 c0_i32_73
  v98

def k0_cond2 (i : grid0.Coords) : BitVec 1 :=
  let arg0 : BitVec 32 := BitVec.ofNat 32 (i 0).val
  let c0_i32_74 : BitVec 32 := 0#32
  let v99 : BitVec 1 := Scalar.cmpi .sgt arg0 c0_i32_74
  let v100 : BitVec 32 := Scalar.extui v99
  let c0_i32_75 : BitVec 32 := 0#32
  let v101 : BitVec 1 := Scalar.cmpi .ne v100 c0_i32_75
  v101

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInBwdRefIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x2816, .f32⟩
  | .hbm, ⟨48, _⟩ => ⟨S8192x2816, .f32⟩
  | .hbm, ⟨49, _⟩ => ⟨S2816x1024, .f32⟩
  | .hbm, ⟨50, _⟩ => ⟨S1024x2816, .f32⟩
  | .hbm, ⟨51, _⟩ => ⟨S8192x1024, .f32⟩
  | .hbm, ⟨52, _⟩ => ⟨S2816x1024, .f32⟩
  | .hbm, ⟨53, _⟩ => ⟨S1024x2816, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .bf16⟩
  | .hbm, ⟨105, _⟩ => ⟨S1x1024, .f32⟩
  | .hbm, ⟨106, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== FfnWBwd.lean ====
abbrev S8192x1024 : Shape := ⟨2, ![8192, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S1x192x1024 : Shape := ⟨3, ![1, 192, 1024]⟩
abbrev S192x1024 : Shape := ⟨2, ![192, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S1024x4x704, .f32⟩
  | .hbm, ⟨6, _⟩ => ⟨S4x1024x704, .f32⟩
  | .hbm, ⟨7, _⟩ => ⟨S4x1024x704, .bf16⟩
  | .hbm, ⟨8, _⟩ => ⟨S1024x4x704, .f32⟩
  | .hbm, ⟨9, _⟩ => ⟨S4x1024x704, .f32⟩
  | .hbm, ⟨10, _⟩ => ⟨S4x1024x704, .bf16⟩
  | .hbm, ⟨11, _⟩ => ⟨S4x704x1024, .f32⟩
  | .hbm, ⟨12, _⟩ => ⟨S4x704x1024, .bf16⟩
  | .hbm, ⟨13, _⟩ => ⟨S8192x1024, .bf16⟩
  | .hbm, ⟨14, _⟩ => ⟨S8192x1024, .bf16⟩
  | .hbm, ⟨15, _⟩ => ⟨S4x8192x704, .bf16⟩
  | .hbm, ⟨16, _⟩ => ⟨S4x8192x704, .bf16⟩
  | .hbm, ⟨17, _⟩ => ⟨S4x1024x704, .bf16⟩
  | .hbm, ⟨18, _⟩ => ⟨S4x1024x704, .bf16⟩
  | .hbm, ⟨19, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x704x1024, .bf16⟩
  | .local _ .vmem, ⟨19, _⟩ => ⟨S1x704x1024, .bf16⟩
  | .local _ .vmem, ⟨20, _⟩ => ⟨S1024x704, .f32⟩
  | .local _ .vmem, ⟨21, _⟩ => ⟨S1024x704, .f32⟩
  | .local _ .vmem, ⟨22, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v111 : BitVec 1 := Scalar.cmpi .eq arg1 c7_i32
  let v112 : BitVec 32 := Scalar.extui v111
  let c0_i32_73 : BitVec 32 := 0#32
  let v113 : BitVec 1 := Scalar.cmpi .ne v112 c0_i32_73
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnWBwdRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x704x1024 : Shape := ⟨3, ![4, 704, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S2816x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S2816x1024, .f32⟩
  | .hbm, ⟨38, _⟩ => ⟨S1024x2816, .f32⟩
  | .hbm, ⟨39, _⟩ => ⟨S2816x1024, .f32⟩
  | .hbm, ⟨40, _⟩ => ⟨S1024x2816, .f32⟩
  | .hbm, ⟨41, _⟩ => ⟨S8192x4x704, .f32⟩
  | .hbm, ⟨42, _⟩ => ⟨S4x8192x704, .f32⟩
  | .hbm, ⟨43, _⟩ => ⟨S4x8192x704, .bf16⟩
  | .hbm, ⟨44, _⟩ => ⟨S8192x4x704, .f32⟩
  | .hbm, ⟨45, _⟩ => ⟨S4x8192x704, .f32⟩
  | .hbm, ⟨46, _⟩ => ⟨S4x8192x704, .bf16⟩
  | .hbm, ⟨47, _⟩ => ⟨S1024x4x704, .f32⟩
  | .hbm, ⟨48, _⟩ => ⟨S4x1024x704, .f32⟩
  | .hbm, ⟨49, _⟩ => ⟨S4x1024x704, .bf16⟩
  | .hbm, ⟨50, _⟩ => ⟨S1024x4x704, .f32⟩
  | .hbm, ⟨51, _⟩ => ⟨S4x1024x704, .f32⟩
  | .hbm, ⟨52, _⟩ => ⟨S4x1024x704, .bf16⟩
  | .hbm, ⟨53, _⟩ => ⟨S4x704x1024, .f32⟩
  | .hbm, ⟨54, _⟩ => ⟨S4x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== PleBwd.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 49
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x1024, .bf16⟩
  | .hbm, ⟨38, _⟩ => ⟨S1024x1024, .bf16⟩
  | .hbm, ⟨39, _⟩ => ⟨S1x1024, .f32⟩
  | .hbm, ⟨40, _⟩ => ⟨S256x1024, .bf16⟩
  | .hbm, ⟨41, _⟩ => ⟨S1x1024, .f32⟩
  | .hbm, ⟨42, _⟩ => ⟨S8192x1024, .f32⟩
  | .hbm, ⟨43, _⟩ => ⟨S8192x1024, .bf16⟩
  | .hbm, ⟨44, _⟩ => ⟨S1024x1024, .f32⟩
  | .hbm, ⟨45, _⟩ => ⟨S1x1024, .f32⟩
  | .hbm, ⟨46, _⟩ => ⟨S256x1024, .f32⟩
  | .hbm, ⟨47, _⟩ => ⟨S1x1024, .f32⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S1x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_40 : BitVec 32 := 0#32
  let v84 : BitVec 1 := Scalar.cmpi .ne v83 c0_i32_40
  v84

def k0_cond2 (i : grid0.Coords) : BitVec 1 :=
  let arg0 : BitVec 32 := BitVec.ofNat 32 (i 0).val
  let c0_i32_41 : BitVec 32 := 0#32
  let v85 : BitVec 1 := Scalar.cmpi .sgt arg0 c0_i32_41
  let v86 : BitVec 32 := Scalar.extui v85
  let c0_i32_42 : BitVec 32 := 0#32
  let v87 : BitVec 1 := Scalar.cmpi .ne v86 c0_i32_42
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PleBwdRefIdeal.lean ====
abbrev S8192x1024 : Shape := ⟨2, ![8192, 1024]⟩
abbrev S1024 : Shape := ⟨1, ![1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x256, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1024x256, .f32⟩
  | .hbm, ⟨68, _⟩ => ⟨S256x1024, .f32⟩
  | .hbm, ⟨69, _⟩ => ⟨S8192x256, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S1024x1024, .f32⟩
  | .hbm, ⟨77, _⟩ => ⟨S1024x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S8192x1024, .f32⟩
  | .hbm, ⟨94, _⟩ => ⟨S_, .f32⟩
  | .hbm, ⟨95, _⟩ => ⟨S8192, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S8192x1, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192, .f32⟩
  | .hbm, ⟨114, _⟩ => ⟨S8192x1, .f32⟩
  | .hbm, ⟨115, _⟩ => ⟨S8192x1024, .f32⟩
  | .hbm, ⟨116, _⟩ => ⟨S8192x1, .f32⟩
  | .hbm, ⟨117, _⟩ => ⟨S_, .f32⟩
  | .hbm, ⟨118, _⟩ => ⟨S8192x1, .f32⟩
  | .hbm, ⟨119, _⟩ => ⟨S8192x1, .f32⟩
  | .hbm, ⟨120, _⟩ => ⟨S_, .f32⟩
  | .hbm, ⟨121, _⟩ => ⟨S8192, .f32⟩
  | .hbm, ⟨122, _⟩ => ⟨S8192x1024, .f32⟩
  | .hbm, ⟨123, _⟩ => ⟨S8192x1024, .f32⟩
  | .hbm, ⟨124, _⟩ => ⟨S8192x1024, .bf16⟩
  | .hbm, ⟨125, _⟩ => ⟨S1x1024, .f32⟩
  | .hbm, ⟨126, _⟩ => ⟨S1x1024, .f32⟩
  | .hbm, ⟨127, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_cst_21 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== RglruBwd.lean ====
abbrev S4x2048x512 : Shape := ⟨3, ![4, 2048, 512]⟩
abbrev S8x64x64 : Shape := ⟨3, ![8, 64, 64]⟩
abbrev S512 : Shape := ⟨1, ![512]⟩
abbrev S_ : Shape := ⟨0, ![]⟩
abbrev S4x128x128 : Shape := ⟨3, ![4, 128, 128]⟩
abbrev S1x64x64 : Shape := ⟨3, ![1, 64, 64]⟩
abbrev S64x64 : Shape := ⟨2, ![64, 64]⟩
abbrev S1 : Shape := ⟨1, ![1]⟩
abbrev S3 : Shape := ⟨1, ![3]⟩
abbrev S4x2048x8x64 : Shape := ⟨4, ![4, 2048, 8, 64]⟩
abbrev S8x64x4x2048 : Shape := ⟨4, ![8, 64, 4, 2048]⟩
abbrev S1x1x512 : Shape := ⟨3, ![1, 1, 512]⟩
abbrev S4x4096x512 : Shape := ⟨3, ![4, 4096, 512]⟩
abbrev S8192x512 : Shape := ⟨2, ![8192, 512]⟩
abbrev S1x512 : Shape := ⟨2, ![1, 512]⟩
abbrev S2048x128 : Shape := ⟨2, ![2048, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩

abbrev nBuf : Space → Nat
  | .hbm => 326
  | .vmem => 32
  | .smem => 0
  | _ => 0

abbrev hbmTy0_0 (i : Nat) : BufTy := match i % 128 with
  | 0 => ⟨S4x2048x512, .f32⟩
  | 1 => ⟨S4x2048x512, .f32⟩
  | 2 => ⟨S8x64x64, .f32⟩
  | 3 => ⟨S512, .f32⟩
  | 4 => ⟨S8x64x64, .f32⟩
  | 5 => ⟨S512, .f32⟩
  | 6 => ⟨S512, .f32⟩
  | 7 => ⟨S4x2048x512, .f32⟩
  | 8 => ⟨S_, .f32⟩
  | 9 => ⟨S4x128x128, .f32⟩
  | 10 => ⟨S1x64x64, .f32⟩
  | 11 => ⟨S64x64, .f32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S3, .i32⟩
  | 19 => ⟨S4x128x128, .f32⟩
  | 20 => ⟨S1x64x64, .f32⟩
  | 21 => ⟨S64x64, .f32⟩
  | 22 => ⟨S_, .i32⟩
  | 23 => ⟨S1, .i32⟩
  | 24 => ⟨S_, .i32⟩
  | 25 => ⟨S1, .i32⟩
  | 26 => ⟨S_, .i32⟩
  | 27 => ⟨S1, .i32⟩
  | 28 => ⟨S3, .i32⟩
  | 29 => ⟨S4x128x128, .f32⟩
  | 30 => ⟨S1x64x64, .f32⟩
  | 31 => ⟨S64x64, .f32⟩
  | 32 => ⟨S_, .i32⟩
  | 33 => ⟨S1, .i32⟩
  | 34 => ⟨S_, .i32⟩
  | 35 => ⟨S1, .i32⟩
  | 36 => ⟨S_, .i32⟩
  | 37 => ⟨S1, .i32⟩
  | 38 => ⟨S3, .i32⟩
  | 39 => ⟨S4x128x128, .f32⟩
  | 40 => ⟨S1x64x64, .f32⟩
  | 41 => ⟨S64x64, .f32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S3, .i32⟩
  | 49 => ⟨S4x128x128, .f32⟩
  | 50 => ⟨S1x64x64, .f32⟩
  | 51 => ⟨S64x64, .f32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S3, .i32⟩
  | 59 => ⟨S4x128x128, .f32⟩
  | 60 => ⟨S1x64x64, .f32⟩
  | 61 => ⟨S64x64, .f32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S3, .i32⟩
  | 69 => ⟨S4x128x128, .f32⟩
  | 70 => ⟨S1x64x64, .f32⟩
  | 71 => ⟨S64x64, .f32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S3, .i32⟩
  | 79 => ⟨S4x128x128, .f32⟩
  | 80 => ⟨S1x64x64, .f32⟩
  | 81 => ⟨S64x64, .f32⟩
  | 82 => ⟨S_, .i32⟩
  | 83 => ⟨S1, .i32⟩
  | 84 => ⟨S_, .i32⟩
  | 85 => ⟨S1, .i32⟩
  | 86 => ⟨S_, .i32⟩
  | 87 => ⟨S1, .i32⟩
  | 88 => ⟨S3, .i32⟩
  | 89 => ⟨S4x128x128, .f32⟩
  | 90 => ⟨S_, .f32⟩
  | 91 => ⟨S4x128x128, .f32⟩
  | 92 => ⟨S1x64x64, .f32⟩
  | 93 => ⟨S64x64, .f32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S3, .i32⟩
  | 101 => ⟨S4x128x128, .f32⟩
  | 102 => ⟨S1x64x64, .f32⟩
  | 103 => ⟨S64x64, .f32⟩
  | 104 => ⟨S_, .i32⟩
  | 105 => ⟨S1, .i32⟩
  | 106 => ⟨S_, .i32⟩
  | 107 => ⟨S1, .i32⟩
  | 108 => ⟨S_, .i32⟩
  | 109 => ⟨S1, .i32⟩
  | 110 => ⟨S3, .i32⟩
  | 111 => ⟨S4x128x128, .f32⟩
  | 112 => ⟨S1x64x64, .f32⟩
  | 113 => ⟨S64x64, .f32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S3, .i32⟩
  | 121 => ⟨S4x128x128, .f32⟩
  | 122 => ⟨S1x64x64, .f32⟩
  | 123 => ⟨S64x64, .f32⟩
  | 124 => ⟨S_, .i32⟩
  | 125 => ⟨S1, .i32⟩
  | 126 => ⟨S_, .i32⟩
  | 127 => ⟨S1, .i32⟩
  | _ => ⟨S4x2048x512, .f32⟩

abbrev hbmTy0_1 (i : Nat) : BufTy := match i % 128 with
  | 0 => ⟨S_, .i32⟩
  | 1 => ⟨S1, .i32⟩
  | 2 => ⟨S3, .i32⟩
  | 3 => ⟨S4x128x128, .f32⟩
  | 4 => ⟨S1x64x64, .f32⟩
  | 5 => ⟨S64x64, .f32⟩
  | 6 => ⟨S_, .i32⟩
  | 7 => ⟨S1, .i32⟩
  | 8 => ⟨S_, .i32⟩
  | 9 => ⟨S1, .i32⟩
  | 10 => ⟨S_, .i32⟩
  | 11 => ⟨S1, .i32⟩
  | 12 => ⟨S3, .i32⟩
  | 13 => ⟨S4x128x128, .f32⟩
  | 14 => ⟨S1x64x64, .f32⟩
  | 15 => ⟨S64x64, .f32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S3, .i32⟩
  | 23 => ⟨S4x128x128, .f32⟩
  | 24 => ⟨S1x64x64, .f32⟩
  | 25 => ⟨S64x64, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S3, .i32⟩
  | 33 => ⟨S4x128x128, .f32⟩
  | 34 => ⟨S1x64x64, .f32⟩
  | 35 => ⟨S64x64, .f32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S3, .i32⟩
  | 43 => ⟨S4x128x128, .f32⟩
  | 44 => ⟨S4x2048x8x64, .f32⟩
  | 45 => ⟨S8x64x4x2048, .f32⟩
  | 46 => ⟨S4x2048x8x64, .f32⟩
  | 47 => ⟨S4x2048x512, .f32⟩
  | 48 => ⟨S1x1x512, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S8x64x4x2048, .f32⟩
  | 60 => ⟨S4x2048x8x64, .f32⟩
  | 61 => ⟨S4x2048x512, .f32⟩
  | 62 => ⟨S1x1x512, .f32⟩
  | 63 => ⟨S4x2048x512, .f32⟩
  | 64 => ⟨S4x2048x512, .f32⟩
  | 65 => ⟨S4x2048x512, .f32⟩
  | 66 => ⟨S4x2048x512, .f32⟩
  | 67 => ⟨S_, .f32⟩
  | 68 => ⟨S4x2048x512, .f32⟩
  | 69 => ⟨S4x2048x512, .f32⟩
  | 70 => ⟨S_, .f32⟩
  | 71 => ⟨S4x2048x512, .f32⟩
  | 72 => ⟨S4x2048x512, .f32⟩
  | 73 => ⟨S_, .f32⟩
  | 74 => ⟨S4x2048x512, .f32⟩
  | 75 => ⟨S4x2048x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S1x1x512, .f32⟩
  | 92 => ⟨S4x2048x512, .f32⟩
  | 93 => ⟨S4x2048x512, .f32⟩
  | 94 => ⟨S_, .f32⟩
  | 95 => ⟨S4x2048x512, .f32⟩
  | 96 => ⟨S4x2048x512, .f32⟩
  | 97 => ⟨S4x2048x512, .f32⟩
  | 98 => ⟨S4x2048x512, .f32⟩
  | 99 => ⟨S4x2048x512, .f32⟩
  | 100 => ⟨S4x2048x512, .f32⟩
  | 101 => ⟨S4x2048x512, .f32⟩
  | 102 => ⟨S4x2048x512, .f32⟩
  | 103 => ⟨S_, .f32⟩
  | 104 => ⟨S4x2048x512, .f32⟩
  | 105 => ⟨S_, .f32⟩
  | 106 => ⟨S4x2048x512, .f32⟩
  | 107 => ⟨S4x4096x512, .f32⟩
  | 108 => ⟨S4x2048x512, .f32⟩
  | 109 => ⟨S4x2048x512, .f32⟩
  | 110 => ⟨S4x2048x512, .f32⟩
  | 111 => ⟨S4x4096x512, .f32⟩
  | 112 => ⟨S4x2048x512, .f32⟩
  | 113 => ⟨S4x2048x512, .f32⟩
  | 114 => ⟨S4x4096x512, .f32⟩
  | 115 => ⟨S4x2048x512, .f32⟩
  | 116 => ⟨S4x2048x512, .f32⟩
  | 117 => ⟨S4x2048x512, .f32⟩
  | 118 => ⟨S4x4096x512, .f32⟩
  | 119 => ⟨S4x2048x512, .f32⟩
  | 120 => ⟨S4x2048x512, .f32⟩
  | 121 => ⟨S4x4096x512, .f32⟩
  | 122 => ⟨S4x2048x512, .f32⟩
  | 123 => ⟨S4x2048x512, .f32⟩
  | 124 => ⟨S4x2048x512, .f32⟩
  | 125 => ⟨S4x4096x512, .f32⟩
  | 126 => ⟨S4x2048x512, .f32⟩
  | 127 => ⟨S4x2048x512, .f32⟩
  | _ => ⟨S4x2048x512, .f32⟩

abbrev hbmTy0_2 (i : Nat) : BufTy := match i % 128 with
  | 0 => ⟨S4x4096x512, .f32⟩
  | 1 => ⟨S4x2048x512, .f32⟩
  | 2 => ⟨S4x2048x512, .f32⟩
  | 3 => ⟨S4x2048x512, .f32⟩
  | 4 => ⟨S4x4096x512, .f32⟩
  | 5 => ⟨S4x2048x512, .f32⟩
  | 6 => ⟨S4x2048x512, .f32⟩
  | 7 => ⟨S4x4096x512, .f32⟩
  | 8 => ⟨S4x2048x512, .f32⟩
  | 9 => ⟨S4x2048x512, .f32⟩
  | 10 => ⟨S4x2048x512, .f32⟩
  | 11 => ⟨S4x4096x512, .f32⟩
  | 12 => ⟨S4x2048x512, .f32⟩
  | 13 => ⟨S4x2048x512, .f32⟩
  | 14 => ⟨S4x4096x512, .f32⟩
  | 15 => ⟨S4x2048x512, .f32⟩
  | 16 => ⟨S4x2048x512, .f32⟩
  | 17 => ⟨S4x2048x512, .f32⟩
  | 18 => ⟨S4x4096x512, .f32⟩
  | 19 => ⟨S4x2048x512, .f32⟩
  | 20 => ⟨S4x2048x512, .f32⟩
  | 21 => ⟨S4x4096x512, .f32⟩
  | 22 => ⟨S4x2048x512, .f32⟩
  | 23 => ⟨S4x2048x512, .f32⟩
  | 24 => ⟨S4x2048x512, .f32⟩
  | 25 => ⟨S4x4096x512, .f32⟩
  | 26 => ⟨S4x2048x512, .f32⟩
  | 27 => ⟨S4x2048x512, .f32⟩
  | 28 => ⟨S4x4096x512, .f32⟩
  | 29 => ⟨S4x2048x512, .f32⟩
  | 30 => ⟨S4x2048x512, .f32⟩
  | 31 => ⟨S4x2048x512, .f32⟩
  | 32 => ⟨S4x4096x512, .f32⟩
  | 33 => ⟨S4x2048x512, .f32⟩
  | 34 => ⟨S4x2048x512, .f32⟩
  | 35 => ⟨S4x4096x512, .f32⟩
  | 36 => ⟨S4x2048x512, .f32⟩
  | 37 => ⟨S4x2048x512, .f32⟩
  | 38 => ⟨S4x2048x512, .f32⟩
  | 39 => ⟨S4x4096x512, .f32⟩
  | 40 => ⟨S4x2048x512, .f32⟩
  | 41 => ⟨S4x2048x512, .f32⟩
  | 42 => ⟨S4x4096x512, .f32⟩
  | 43 => ⟨S4x2048x512, .f32⟩
  | 44 => ⟨S4x2048x512, .f32⟩
  | 45 => ⟨S4x2048x512, .f32⟩
  | 46 => ⟨S4x4096x512, .f32⟩
  | 47 => ⟨S4x2048x512, .f32⟩
  | 48 => ⟨S4x2048x512, .f32⟩
  | 49 => ⟨S4x4096x512, .f32⟩
  | 50 => ⟨S4x2048x512, .f32⟩
  | 51 => ⟨S4x2048x512, .f32⟩
  | 52 => ⟨S4x2048x512, .f32⟩
  | 53 => ⟨S4x4096x512, .f32⟩
  | 54 => ⟨S4x2048x512, .f32⟩
  | 55 => ⟨S4x2048x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S1x512, .f32⟩
  | 62 => ⟨S1x512, .f32⟩
  | 63 => ⟨S8192x512, .f32⟩
  | 64 => ⟨S8192x512, .f32⟩
  | 65 => ⟨S4x128x128, .f32⟩
  | 66 => ⟨S4x128x128, .f32⟩
  | 67 => ⟨S1x512, .f32⟩
  | 68 => ⟨S1x512, .f32⟩
  | 69 => ⟨S1x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_c_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_c_9 : Ref sig .tc := ⟨.hbm, 44, rfl⟩
abbrev main_v25 : Ref sig .tc := ⟨.hbm, 45, rfl⟩
abbrev main_c_10 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_c_12 : Ref sig .tc := ⟨.hbm, 54, rfl⟩
abbrev main_v32 : Ref sig .tc := ⟨.hbm, 55, rfl⟩
abbrev main_c_13 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_14 : Ref sig .tc := ⟨.hbm, 62, rfl⟩
abbrev main_v38 : Ref sig .tc := ⟨.hbm, 63, rfl⟩
abbrev main_c_15 : Ref sig .tc := ⟨.hbm, 64, rfl⟩
abbrev main_v39 : Ref sig .tc := ⟨.hbm, 65, rfl⟩
abbrev main_c_16 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_17 : Ref sig .tc := ⟨.hbm, 72, rfl⟩
abbrev main_v45 : Ref sig .tc := ⟨.hbm, 73, rfl⟩
abbrev main_c_18 : Ref sig .tc := ⟨.hbm, 74, rfl⟩
abbrev main_v46 : Ref sig .tc := ⟨.hbm, 75, rfl⟩
abbrev main_c_19 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_20 : Ref sig .tc := ⟨.hbm, 82, rfl⟩
abbrev main_v52 : Ref sig .tc := ⟨.hbm, 83, rfl⟩
abbrev main_c_21 : Ref sig .tc := ⟨.hbm, 84, rfl⟩
abbrev main_v53 : Ref sig .tc := ⟨.hbm, 85, rfl⟩
abbrev main_c_22 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_23 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_24 : Ref sig .tc := ⟨.hbm, 94, rfl⟩
abbrev main_v60 : Ref sig .tc := ⟨.hbm, 95, rfl⟩
abbrev main_c_25 : Ref sig .tc := ⟨.hbm, 96, rfl⟩
abbrev main_v61 : Ref sig .tc := ⟨.hbm, 97, rfl⟩
abbrev main_c_26 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_27 : Ref sig .tc := ⟨.hbm, 104, rfl⟩
abbrev main_v67 : Ref sig .tc := ⟨.hbm, 105, rfl⟩
abbrev main_c_28 : Ref sig .tc := ⟨.hbm, 106, rfl⟩
abbrev main_v68 : Ref sig .tc := ⟨.hbm, 107, rfl⟩
abbrev main_c_29 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_30 : Ref sig .tc := ⟨.hbm, 114, rfl⟩
abbrev main_v74 : Ref sig .tc := ⟨.hbm, 115, rfl⟩
abbrev main_c_31 : Ref sig .tc := ⟨.hbm, 116, rfl⟩
abbrev main_v75 : Ref sig .tc := ⟨.hbm, 117, rfl⟩
abbrev main_c_32 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_33 : Ref sig .tc := ⟨.hbm, 124, rfl⟩
abbrev main_v81 : Ref sig .tc := ⟨.hbm, 125, rfl⟩
abbrev main_c_34 : Ref sig .tc := ⟨.hbm, 126, rfl⟩
abbrev main_v82 : Ref sig .tc := ⟨.hbm, 127, rfl⟩
abbrev main_c_35 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_36 : Ref sig .tc := ⟨.hbm, 134, rfl⟩
abbrev main_v88 : Ref sig .tc := ⟨.hbm, 135, rfl⟩
abbrev main_c_37 : Ref sig .tc := ⟨.hbm, 136, rfl⟩
abbrev main_v89 : Ref sig .tc := ⟨.hbm, 137, rfl⟩
abbrev main_c_38 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_39 : Ref sig .tc := ⟨.hbm, 144, rfl⟩
abbrev main_v95 : Ref sig .tc := ⟨.hbm, 145, rfl⟩
abbrev main_c_40 : Ref sig .tc := ⟨.hbm, 146, rfl⟩
abbrev main_v96 : Ref sig .tc := ⟨.hbm, 147, rfl⟩
abbrev main_c_41 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_42 : Ref sig .tc := ⟨.hbm, 154, rfl⟩
abbrev main_v102 : Ref sig .tc := ⟨.hbm, 155, rfl⟩
abbrev main_c_43 : Ref sig .tc := ⟨.hbm, 156, rfl⟩
abbrev main_v103 : Ref sig .tc := ⟨.hbm, 157, rfl⟩
abbrev main_c_44 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_45 : Ref sig .tc := ⟨.hbm, 164, rfl⟩
abbrev main_v109 : Ref sig .tc := ⟨.hbm, 165, rfl⟩
abbrev main_c_46 : Ref sig .tc := ⟨.hbm, 166, rfl⟩
abbrev main_v110 : Ref sig .tc := ⟨.hbm, 167, rfl⟩
abbrev main_c_47 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_48 : Ref sig .tc := ⟨.hbm, 181, rfl⟩
abbrev main_v123 : Ref sig .tc := ⟨.hbm, 182, rfl⟩
abbrev main_v124 : Ref sig .tc := ⟨.hbm, 183, rfl⟩
abbrev main_cst_49 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_50 : Ref sig .tc := ⟨.hbm, 195, rfl⟩
abbrev main_v135 : Ref sig .tc := ⟨.hbm, 196, rfl⟩
abbrev main_v136 : Ref sig .tc := ⟨.hbm, 197, rfl⟩
abbrev main_cst_51 : Ref sig .tc := ⟨.hbm, 198, rfl⟩
abbrev main_v137 : Ref sig .tc := ⟨.hbm, 199, rfl⟩
abbrev main_v138 : Ref sig .tc := ⟨.hbm, 200, rfl⟩
abbrev main_cst_52 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_call0_cst : Ref sig .tc := ⟨.hbm, 205, rfl⟩
abbrev main_call0_v0 : Ref sig .tc := ⟨.hbm, 206, rfl⟩
abbrev main_call0_v1 : Ref sig .tc := ⟨.hbm, 207, rfl⟩
abbrev main_call0_v2 : Ref sig .tc := ⟨.hbm, 208, rfl⟩
abbrev main_call0_v3 : Ref sig .tc := ⟨.hbm, 209, rfl⟩
abbrev main_call0_v4 : Ref sig .tc := ⟨.hbm, 210, rfl⟩
abbrev main_call0_v5 : Ref sig .tc := ⟨.hbm, 211, rfl⟩
abbrev main_call0_v6 : Ref sig .tc := ⟨.hbm, 212, rfl⟩
abbrev main_call0_v7 : Ref sig .tc := ⟨.hbm, 213, rfl⟩
abbrev main_call0_v8 : Ref sig .tc := ⟨.hbm, 214, rfl⟩
abbrev main_call0_v9 : Ref sig .tc := ⟨.hbm, 215, rfl⟩
abbrev main_call0_v10 : Ref sig .tc := ⟨.hbm, 216, rfl⟩
abbrev main_call0_v11 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_53 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_54 : Ref sig .tc := ⟨.hbm, 231, rfl⟩
abbrev main_v154 : Ref sig .tc := ⟨.hbm, 232, rfl⟩
abbrev main_cst_55 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240_0 : Ref sig .tc := ⟨.hbm, 319, rfl⟩
abbrev main_v240_1 : Ref sig .tc := ⟨.hbm, 320, rfl⟩
abbrev main_v240_2 : Ref sig .tc := ⟨.hbm, 321, rfl⟩
abbrev main_v240_3 : Ref sig .tc := ⟨.hbm, 322, rfl⟩
abbrev main_v240_4 : Ref sig .tc := ⟨.hbm, 323, rfl⟩
abbrev main_v240_5 : Ref sig .tc := ⟨.hbm, 324, rfl⟩
abbrev main_v240_6 : Ref sig .tc := ⟨.hbm, 325, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v298 : BitVec 1 := Scalar.cmpi .eq arg1 c0_i32
  let v299 : BitVec 32 := Scalar.extui v298
  let c0_i32_108 : BitVec 32 := 0#32
  let v300 : BitVec 1 := Scalar.cmpi .ne v299 c0_i32_108
  v300

def k0_cond2 (i : grid0.Coords) : BitVec 1 :=
  let arg1 : BitVec 32 := BitVec.ofNat 32 (i 1).val
  let c0_i32 : BitVec 32 := 0#32
  let v298 : BitVec 1 := Scalar.cmpi .eq arg1 c0_i32
  let v_true : BitVec 1 := 1#1
  let v301 : BitVec 1 := Scalar.xori v298 v_true
  let v302 : BitVec 32 := Scalar.extui v301
  let c0_i32_109 : BitVec 32 := 0#32
  let v303 : BitVec 1 := Scalar.cmpi .ne v302 c0_i32_109
  v303

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== RglruBwdRefIdeal.lean ====
abbrev S4x2048x512 : Shape := ⟨3, ![4, 2048, 512]⟩
abbrev S8x64x64 : Shape := ⟨3, ![8, 64, 64]⟩
abbrev S512 : Shape := ⟨1, ![512]⟩
abbrev S4x2048x8x64 : Shape := ⟨4, ![4, 2048, 8, 64]⟩
abbrev S8x64x4x2048 : Shape := ⟨4, ![8, 64, 4, 2048]⟩
abbrev S1x1x512 : Shape := ⟨3, ![1, 1, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x512 : Shape := ⟨4, ![4, 1, 2048, 512]⟩
abbrev S4x2048x2048x512 : Shape := ⟨4, ![4, 2048, 2048, 512]⟩
abbrev S4x2048x1x512 : Shape := ⟨4, ![4, 2048, 1, 512]⟩
abbrev S8x4x2048x64 : Shape := ⟨4, ![8, 4, 2048, 64]⟩
abbrev S8192x512 : Shape := ⟨2, ![8192, 512]⟩
abbrev S1x512 : Shape := ⟨2, ![1, 512]⟩

abbrev nBuf : Space → Nat
  | .hbm => 288
  | .vmem => 0
  | .smem => 0
  | _ => 0

abbrev hbmTy0_0 (i : Nat) : BufTy := match i % 128 with
  | 0 => ⟨S4x2048x512, .f32⟩
  | 1 => ⟨S4x2048x512, .f32⟩
  | 2 => ⟨S8x64x64, .f32⟩
  | 3 => ⟨S512, .f32⟩
  | 4 => ⟨S8x64x64, .f32⟩
  | 5 => ⟨S512, .f32⟩
  | 6 => ⟨S512, .f32⟩
  | 7 => ⟨S4x2048x512, .f32⟩
  | 8 => ⟨S4x2048x8x64, .f32⟩
  | 9 => ⟨S8x64x4x2048, .f32⟩
  | 10 => ⟨S4x2048x8x64, .f32⟩
  | 11 => ⟨S4x2048x512, .f32⟩
  | 12 => ⟨S1x1x512, .f32⟩
  | 13 => ⟨S4x2048x512, .f32⟩
  | 14 => ⟨S4x2048x512, .f32⟩
  | 15 => ⟨S4x2048x512, .f32⟩
  | 16 => ⟨S4x2048x512, .f32⟩
  | 17 => ⟨S_, .f32⟩
  | 18 => ⟨S4x2048x512, .f32⟩
  | 19 => ⟨S4x2048x512, .f32⟩
  | 20 => ⟨S_, .f32⟩
  | 21 => ⟨S4x2048x512, .f32⟩
  | 22 => ⟨S4x2048x512, .f32⟩
  | 23 => ⟨S_, .f32⟩
  | 24 => ⟨S4x2048x512, .f32⟩
  | 25 => ⟨S4x2048x512, .f32⟩
  | 26 => ⟨S4x2048x512, .f32⟩
  | 27 => ⟨S8x64x4x2048, .f32⟩
  | 28 => ⟨S4x2048x8x64, .f32⟩
  | 29 => ⟨S4x2048x512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S_, .f32⟩
  | 36 => ⟨S4x2048x512, .f32⟩
  | 37 => ⟨S4x2048x512, .f32⟩
  | 38 => ⟨S_, .f32⟩
  | 39 => ⟨S4x2048x512, .f32⟩
  | 40 => ⟨S4x2048x512, .f32⟩
  | 41 => ⟨S_, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S512, .f32⟩
  | 49 => ⟨S_, .f32⟩
  | 50 => ⟨S512, .f32⟩
  | 51 => ⟨S512, .f32⟩
  | 52 => ⟨S512, .f32⟩
  | 53 => ⟨S512, .f32⟩
  | 54 => ⟨S512, .i1⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S_, .f32⟩
  | 64 => ⟨S512, .f32⟩
  | 65 => ⟨S512, .i1⟩
  | 66 => ⟨S_, .f32⟩
  | 67 => ⟨S512, .f32⟩
  | 68 => ⟨S512, .f32⟩
  | 69 => ⟨S_, .f32⟩
  | 70 => ⟨S512, .f32⟩
  | 71 => ⟨S512, .i1⟩
  | 72 => ⟨S_, .f32⟩
  | 73 => ⟨S512, .f32⟩
  | 74 => ⟨S512, .f32⟩
  | 75 => ⟨S512, .f32⟩
  | 76 => ⟨S512, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S512, .f32⟩
  | 85 => ⟨S512, .i1⟩
  | 86 => ⟨S_, .f32⟩
  | 87 => ⟨S512, .f32⟩
  | 88 => ⟨S512, .f32⟩
  | 89 => ⟨S512, .f32⟩
  | 90 => ⟨S512, .f32⟩
  | 91 => ⟨S512, .f32⟩
  | 92 => ⟨S_, .f32⟩
  | 93 => ⟨S512, .f32⟩
  | 94 => ⟨S512, .f32⟩
  | 95 => ⟨S1x1x512, .f32⟩
  | 96 => ⟨S4x2048x512, .f32⟩
  | 97 => ⟨S4x2048x512, .f32⟩
  | 98 => ⟨S_, .f32⟩
  | 99 => ⟨S4x2048x512, .f32⟩
  | 100 => ⟨S4x2048x512, .f32⟩
  | 101 => ⟨S4x2048x512, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S4x2048x512, .f32⟩
  | 109 => ⟨S4x2048x512, .f32⟩
  | 110 => ⟨S2048, .i32⟩
  | 111 => ⟨S2048x1, .i32⟩
  | 112 => ⟨S1x2048, .i32⟩
  | 113 => ⟨S2048x2048, .i32⟩
  | 114 => ⟨S2048x2048, .i32⟩
  | 115 => ⟨S2048x2048, .i1⟩
  | 116 => ⟨S1x2048x2048x1, .i1⟩
  | 117 => ⟨S4x1x2048x512, .f32⟩
  | 118 => ⟨S_, .f32⟩
  | 119 => ⟨S_, .f32⟩
  | 120 => ⟨S4x2048x2048x512, .i1⟩
  | 121 => ⟨S4x2048x2048x512, .f32⟩
  | 122 => ⟨S4x2048x2048x512, .f32⟩
  | 123 => ⟨S4x2048x2048x512, .f32⟩
  | 124 => ⟨S_, .f32⟩
  | 125 => ⟨S4x2048x2048x512, .f32⟩
  | 126 => ⟨S_, .f32⟩
  | 127 => ⟨S4x2048x512, .f32⟩
  | _ => ⟨S4x2048x512, .f32⟩

abbrev hbmTy0_1 (i : Nat) : BufTy := match i % 128 with
  | 0 => ⟨S4x2048x1x512, .f32⟩
  | 1 => ⟨S4x1x2048x512, .f32⟩
  | 2 => ⟨S4x2048x2048x512, .f32⟩
  | 3 => ⟨S4x2048x2048x512, .f32⟩
  | 4 => ⟨S4x2048x2048x512, .f32⟩
  | 5 => ⟨S_, .f32⟩
  | 6 => ⟨S_, .f32⟩
  | 7 => ⟨S4x2048x2048x512, .i1⟩
  | 8 => ⟨S4x2048x2048x512, .f32⟩
  | 9 => ⟨S4x2048x2048x512, .f32⟩
  | 10 => ⟨S_, .f32⟩
  | 11 => ⟨S4x2048x2048x512, .f32⟩
  | 12 => ⟨S4x2048x2048x512, .f32⟩
  | 13 => ⟨S_, .f32⟩
  | 14 => ⟨S_, .f32⟩
  | 15 => ⟨S4x2048x2048x512, .i1⟩
  | 16 => ⟨S4x2048x2048x512, .f32⟩
  | 17 => ⟨S4x2048x2048x512, .f32⟩
  | 18 => ⟨S_, .f32⟩
  | 19 => ⟨S4x2048x2048x512, .f32⟩
  | 20 => ⟨S4x1x2048x512, .f32⟩
  | 21 => ⟨S4x2048x2048x512, .f32⟩
  | 22 => ⟨S4x2048x2048x512, .f32⟩
  | 23 => ⟨S_, .f32⟩
  | 24 => ⟨S4x2048x512, .f32⟩
  | 25 => ⟨S4x2048x512, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S_, .f32⟩
  | 32 => ⟨S4x2048x512, .f32⟩
  | 33 => ⟨S4x2048x512, .f32⟩
  | 34 => ⟨S4x2048x512, .f32⟩
  | 35 => ⟨S_, .f32⟩
  | 36 => ⟨S4x2048x512, .f32⟩
  | 37 => ⟨S4x2048x512, .f32⟩
  | 38 => ⟨S4x2048x512, .f32⟩
  | 39 => ⟨S_, .f32⟩
  | 40 => ⟨S4x2048x512, .f32⟩
  | 41 => ⟨S4x2048x512, .f32⟩
  | 42 => ⟨S_, .f32⟩
  | 43 => ⟨S4x2048x512, .f32⟩
  | 44 => ⟨S4x2048x512, .f32⟩
  | 45 => ⟨S4x2048x512, .f32⟩
  | 46 => ⟨S_, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S4x2048x512, .f32⟩
  | 66 => ⟨S_, .f32⟩
  | 67 => ⟨S4x2048x512, .f32⟩
  | 68 => ⟨S4x2048x512, .f32⟩
  | 69 => ⟨S4x2048x512, .f32⟩
  | 70 => ⟨S4x2048x512, .f32⟩
  | 71 => ⟨S4x2048x2048x512, .f32⟩
  | 72 => ⟨S4x2048x2048x512, .f32⟩
  | 73 => ⟨S_, .f32⟩
  | 74 => ⟨S4x2048x512, .f32⟩
  | 75 => ⟨S4x1x2048x512, .f32⟩
  | 76 => ⟨S4x2048x2048x512, .f32⟩
  | 77 => ⟨S4x2048x2048x512, .f32⟩
  | 78 => ⟨S_, .f32⟩
  | 79 => ⟨S4x2048x512, .f32⟩
  | 80 => ⟨S_, .f32⟩
  | 81 => ⟨S4x2048x2048x512, .f32⟩
  | 82 => ⟨S4x2048x2048x512, .f32⟩
  | 83 => ⟨S4x2048x2048x512, .f32⟩
  | 84 => ⟨S_, .f32⟩
  | 85 => ⟨S4x2048x2048x512, .f32⟩
  | 86 => ⟨S4x2048x2048x512, .f32⟩
  | 87 => ⟨S_, .f32⟩
  | 88 => ⟨S4x2048x512, .f32⟩
  | 89 => ⟨S4x2048x1x512, .f32⟩
  | 90 => ⟨S4x2048x2048x512, .f32⟩
  | 91 => ⟨S_, .f32⟩
  | 92 => ⟨S4x2048x512, .f32⟩
  | 93 => ⟨S4x1x2048x512, .f32⟩
  | 94 => ⟨S_, .f32⟩
  | 95 => ⟨S4x2048x512, .f32⟩
  | 96 => ⟨S_, .f32⟩
  | 97 => ⟨S4x2048x512, .f32⟩
  | 98 => ⟨S4x2048x512, .f32⟩
  | 99 => ⟨S4x2048x2048x512, .f32⟩
  | 100 => ⟨S_, .f32⟩
  | 101 => ⟨S4x2048x2048x512, .f32⟩
  | 102 => ⟨S4x2048x2048x512, .f32⟩
  | 103 => ⟨S_, .f32⟩
  | 104 => ⟨S4x2048x512, .f32⟩
  | 105 => ⟨S4x1x2048x512, .f32⟩
  | 106 => ⟨S_, .f32⟩
  | 107 => ⟨S4x2048x512, .f32⟩
  | 108 => ⟨S4x2048x512, .f32⟩
  | 109 => ⟨S4x2048x512, .f32⟩
  | 110 => ⟨S4x2048x512, .f32⟩
  | 111 => ⟨S4x2048x512, .f32⟩
  | 112 => ⟨S4x2048x512, .f32⟩
  | 113 => ⟨S4x2048x512, .f32⟩
  | 114 => ⟨S4x2048x512, .f32⟩
  | 115 => ⟨S_, .f32⟩
  | 116 => ⟨S4x2048x512, .f32⟩
  | 117 => ⟨S4x2048x512, .f32⟩
  | 118 => ⟨S4x2048x512, .f32⟩
  | 119 => ⟨S4x2048x512, .f32⟩
  | 120 => ⟨S_, .f32⟩
  | 121 => ⟨S512, .f32⟩
  | 122 => ⟨S1x1x512, .f32⟩
  | 123 => ⟨S4x2048x512, .f32⟩
  | 124 => ⟨S4x2048x512, .f32⟩
  | 125 => ⟨S_, .f32⟩
  | 126 => ⟨S512, .f32⟩
  | 127 => ⟨S512, .f32⟩
  | _ => ⟨S4x2048x512, .f32⟩

abbrev hbmTy0_2 (i : Nat) : BufTy := match i % 128 with
  | 0 => ⟨S512, .f32⟩
  | 1 => ⟨S_, .f32⟩
  | 2 => ⟨S4x2048x512, .f32⟩
  | 3 => ⟨S4x2048x512, .f32⟩
  | 4 => ⟨S4x2048x512, .f32⟩
  | 5 => ⟨S_, .f32⟩
  | 6 => ⟨S512, .f32⟩
  | 7 => ⟨S1x1x512, .f32⟩
  | 8 => ⟨S_, .f32⟩
  | 9 => ⟨S512, .f32⟩
  | 10 => ⟨S4x2048x8x64, .f32⟩
  | 11 => ⟨S8x64x4x2048, .f32⟩
  | 12 => ⟨S8x4x2048x64, .f32⟩
  | 13 => ⟨S4x2048x8x64, .f32⟩
  | 14 => ⟨S4x2048x512, .f32⟩
  | 15 => ⟨S_, .f32⟩
  | 16 => ⟨S512, .f32⟩
  | 17 => ⟨S1x1x512, .f32⟩
  | 18 => ⟨S_, .f32⟩
  | 19 => ⟨S512, .f32⟩
  | 20 => ⟨S4x2048x8x64, .f32⟩
  | 21 => ⟨S8x64x4x2048, .f32⟩
  | 22 => ⟨S8x4x2048x64, .f32⟩
  | 23 => ⟨S4x2048x8x64, .f32⟩
  | 24 => ⟨S4x2048x8x64, .f32⟩
  | 25 => ⟨S4x2048x512, .f32⟩
  | 26 => ⟨S4x2048x512, .f32⟩
  | 27 => ⟨S8192x512, .f32⟩
  | 28 => ⟨S8192x512, .f32⟩
  | 29 => ⟨S1x512, .f32⟩
  | 30 => ⟨S1x512, .f32⟩
  | 31 => ⟨S1x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v34_0 : Ref sig .tc := ⟨.hbm, 62, rfl⟩
abbrev main_call0_cst_0 : Ref sig .tc := ⟨.hbm, 63, rfl⟩
abbrev main_call0_v13 : Ref sig .tc := ⟨.hbm, 64, rfl⟩
abbrev main_call0_v14 : Ref sig .tc := ⟨.hbm, 65, rfl⟩
abbrev main_call0_cst_1 : Ref sig .tc := ⟨.hbm, 66, rfl⟩
abbrev main_call0_v15 : Ref sig .tc := ⟨.hbm, 67, rfl⟩
abbrev main_call0_v16 : Ref sig .tc := ⟨.hbm, 68, rfl⟩
abbrev main_call0_cst_2 : Ref sig .tc := ⟨.hbm, 69, rfl⟩
abbrev main_call0_v17 : Ref sig .tc := ⟨.hbm, 70, rfl⟩
abbrev main_call0_v18 : Ref sig .tc := ⟨.hbm, 71, rfl⟩
abbrev main_call0_cst_3 : Ref sig .tc := ⟨.hbm, 72, rfl⟩
abbrev main_call0_v19 : Ref sig .tc := ⟨.hbm, 73, rfl⟩
abbrev main_call0_v20 : Ref sig .tc := ⟨.hbm, 74, rfl⟩
abbrev main_call0_v21 : Ref sig .tc := ⟨.hbm, 75, rfl⟩
abbrev main_v34_1 : Ref sig .tc := ⟨.hbm, 76, rfl⟩
abbrev main_call0_cst_4 : Ref sig .tc := ⟨.hbm, 77, rfl⟩
abbrev main_call0_cst_5 : Ref sig .tc := ⟨.hbm, 78, rfl⟩
abbrev main_call0_v23 : Ref sig .tc := ⟨.hbm, 79, rfl⟩
abbrev main_call0_cst_6 : Ref sig .tc := ⟨.hbm, 80, rfl⟩
abbrev main_call0_cst_7 : Ref sig .tc := ⟨.hbm, 81, rfl⟩
abbrev main_call0_v24 : Ref sig .tc := ⟨.hbm, 82, rfl⟩
abbrev main_call0_cst_8 : Ref sig .tc := ⟨.hbm, 83, rfl⟩
abbrev main_call0_v25 : Ref sig .tc := ⟨.hbm, 84, rfl⟩
abbrev main_call0_v26 : Ref sig .tc := ⟨.hbm, 85, rfl⟩
abbrev main_call0_cst_9 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_cst_10 : Ref sig .tc := ⟨.hbm, 92, rfl⟩
abbrev main_call0_v32 : Ref sig .tc := ⟨.hbm, 93, rfl⟩
abbrev main_v34_2 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst_6 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_7 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_cst_8 : Ref sig .tc := ⟨.hbm, 118, rfl⟩
abbrev main_call1_v0 : Ref sig .tc := ⟨.hbm, 119, rfl⟩
abbrev main_v56_1 : Ref sig .tc := ⟨.hbm, 120, rfl⟩
abbrev main_call1_v2 : Ref sig .tc := ⟨.hbm, 121, rfl⟩
abbrev main_call1_v3 : Ref sig .tc := ⟨.hbm, 122, rfl⟩
abbrev main_v56_0 : Ref sig .tc := ⟨.hbm, 123, rfl⟩
abbrev main_call1_cst : Ref sig .tc := ⟨.hbm, 124, rfl⟩
abbrev main_v56_2 : Ref sig .tc := ⟨.hbm, 125, rfl⟩
abbrev main_cst_9 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_cst_10 : Ref sig .tc := ⟨.hbm, 133, rfl⟩
abbrev main_call2_v0 : Ref sig .tc := ⟨.hbm, 134, rfl⟩
abbrev main_v63_1 : Ref sig .tc := ⟨.hbm, 135, rfl⟩
abbrev main_call2_v2 : Ref sig .tc := ⟨.hbm, 136, rfl⟩
abbrev main_v63_0 : Ref sig .tc := ⟨.hbm, 137, rfl⟩
abbrev main_call2_cst : Ref sig .tc := ⟨.hbm, 138, rfl⟩
abbrev main_v63_2 : Ref sig .tc := ⟨.hbm, 139, rfl⟩
abbrev main_v64 : Ref sig .tc := ⟨.hbm, 140, rfl⟩
abbrev main_cst_11 : Ref sig .tc := ⟨.hbm, 141, rfl⟩
abbrev main_call3_v0 : Ref sig .tc := ⟨.hbm, 142, rfl⟩
abbrev main_v65_1 : Ref sig .tc := ⟨.hbm, 143, rfl⟩
abbrev main_call3_v2 : Ref sig .tc := ⟨.hbm, 144, rfl⟩
abbrev main_v65_0 : Ref sig .tc := ⟨.hbm, 145, rfl⟩
abbrev main_call3_cst : Ref sig .tc := ⟨.hbm, 146, rfl⟩
abbrev main_v65_2 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_cst_12 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_13 : Ref sig .tc := ⟨.hbm, 156, rfl⟩
abbrev main_v73 : Ref sig .tc := ⟨.hbm, 157, rfl⟩
abbrev main_v74 : Ref sig .tc := ⟨.hbm, 158, rfl⟩
abbrev main_cst_14 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_15 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_cst_16 : Ref sig .tc := ⟨.hbm, 167, rfl⟩
abbrev main_v81 : Ref sig .tc := ⟨.hbm, 168, rfl⟩
abbrev main_v82 : Ref sig .tc := ⟨.hbm, 169, rfl⟩
abbrev main_cst_17 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_cst_18 : Ref sig .tc := ⟨.hbm, 174, rfl⟩
abbrev main_v86 : Ref sig .tc := ⟨.hbm, 175, rfl⟩
abbrev main_v87 : Ref sig .tc := ⟨.hbm, 176, rfl⟩
abbrev main_cst_19 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_cst_20 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_21 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_cst_22 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_23 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_24 : Ref sig .tc := ⟨.hbm, 206, rfl⟩
abbrev main_v112 : Ref sig .tc := ⟨.hbm, 207, rfl⟩
abbrev main_call4_cst : Ref sig .tc := ⟨.hbm, 208, rfl⟩
abbrev main_call4_v0 : Ref sig .tc := ⟨.hbm, 209, rfl⟩
abbrev main_v113 : Ref sig .tc := ⟨.hbm, 210, rfl⟩
abbrev main_v114 : Ref sig .tc := ⟨.hbm, 211, rfl⟩
abbrev main_call5_cst : Ref sig .tc := ⟨.hbm, 212, rfl⟩
abbrev main_call5_v0 : Ref sig .tc := ⟨.hbm, 213, rfl⟩
abbrev main_v115 : Ref sig .tc := ⟨.hbm, 214, rfl⟩
abbrev main_cst_25 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_cst_26 : Ref sig .tc := ⟨.hbm, 219, rfl⟩
abbrev main_v119 : Ref sig .tc := ⟨.hbm, 220, rfl⟩
abbrev main_v120 : Ref sig .tc := ⟨.hbm, 221, rfl⟩
abbrev main_cst_27 : Ref sig .tc := ⟨.hbm, 222, rfl⟩
abbrev main_v121 : Ref sig .tc := ⟨.hbm, 223, rfl⟩
abbrev main_cst_28 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_cst_0 : Ref sig .tc := ⟨.hbm, 231, rfl⟩
abbrev main_call6_v2 : Ref sig .tc := ⟨.hbm, 232, rfl⟩
abbrev main_v125 : Ref sig .tc := ⟨.hbm, 233, rfl⟩
abbrev main_cst_29 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_cst_30 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_cst_31 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_cst_32 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_cst_33 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_cst_34 : Ref sig .tc := ⟨.hbm, 261, rfl⟩
abbrev main_v148 : Ref sig .tc := ⟨.hbm, 262, rfl⟩
abbrev main_v149 : Ref sig .tc := ⟨.hbm, 263, rfl⟩
abbrev main_cst_35 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_cst_36 : Ref sig .tc := ⟨.hbm, 271, rfl⟩
abbrev main_v156 : Ref sig .tc := ⟨.hbm, 272, rfl⟩
abbrev main_v157 : Ref sig .tc := ⟨.hbm, 273, rfl⟩
abbrev main_cst_37 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩

abbrev nD : Nat := 1
abbrev τ : Topo := Topo.v7x

variable {F : FTy → Type} [FloatOps F]
-- ==== ConvFwd.lean ====
abbrev S4x2048x512 : Shape := ⟨3, ![4, 2048, 512]⟩
abbrev S4x512 : Shape := ⟨2, ![4, 512]⟩
abbrev S512 : Shape := ⟨1, ![512]⟩
abbrev S8192x512 : Shape := ⟨2, ![8192, 512]⟩
abbrev S1x512 : Shape := ⟨2, ![1, 512]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S8192x512, .f32⟩
  | .hbm, ⟨4, _⟩ => ⟨S1x512, .f32⟩
  | .hbm, ⟨5, _⟩ => ⟨S8192x512, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2056x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S4x2048x512 : Shape := ⟨3, ![4, 2048, 512]⟩
abbrev S4x512 : Shape := ⟨2, ![4, 512]⟩
abbrev S512 : Shape := ⟨1, ![512]⟩
abbrev S_ : Shape := ⟨0, ![]⟩
abbrev S4x2051x512 : Shape := ⟨3, ![4, 2051, 512]⟩
abbrev S1x512 : Shape := ⟨2, ![1, 512]⟩
abbrev S1x1x512 : Shape := ⟨3, ![1, 1, 512]⟩
abbrev S8192x512 : Shape := ⟨2, ![8192, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S4x2051x512, .f32⟩
  | .hbm, ⟨6, _⟩ => ⟨S4x2048x512, .f32⟩
  | .hbm, ⟨7, _⟩ => ⟨S1x512, .f32⟩
  | .hbm, ⟨8, _⟩ => ⟨S512, .f32⟩
  | .hbm, ⟨9, _⟩ => ⟨S1x1x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S1x1x512, .f32⟩
  | .hbm, ⟨34, _⟩ => ⟨S4x2048x512, .f32⟩
  | .hbm, ⟨35, _⟩ => ⟨S4x2048x512, .f32⟩
  | .hbm, ⟨36, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== ConvActFwd.lean ====
abbrev S4x2048x3072 : Shape := ⟨3, ![4, 2048, 3072]⟩
abbrev S4x3072 : Shape := ⟨2, ![4, 3072]⟩
abbrev S8192x3072 : Shape := ⟨2, ![8192, 3072]⟩
abbrev S_ : Shape := ⟨0, ![]⟩
abbrev S1x3072 : Shape := ⟨2, ![1, 3072]⟩
abbrev S2048x128 : Shape := ⟨2, ![2048, 128]⟩
abbrev S4x128 : Shape := ⟨2, ![4, 128]⟩
abbrev S1x128 : Shape := ⟨2, ![1, 128]⟩
abbrev S2056x128 : Shape := ⟨2, ![2056, 128]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S1x3072, .f32⟩
  | .hbm, ⟨5, _⟩ => ⟨S8192x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2056x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvActFwdRefIdeal.lean ====
abbrev S4x2048x3072 : Shape := ⟨3, ![4, 2048, 3072]⟩
abbrev S4x3072 : Shape := ⟨2, ![4, 3072]⟩
abbrev S_ : Shape := ⟨0, ![]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S8192x3072 : Shape := ⟨2, ![8192, 3072]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x3072, .f32⟩
  | .hbm, ⟨2, _⟩ => ⟨S_, .i32⟩
  | .hbm, ⟨3, _⟩ => ⟨S_, .f32⟩
  | .hbm, ⟨4, _⟩ => ⟨S4x2051x3072, .f32⟩
  | .hbm, ⟨5, _⟩ => ⟨S4x2048x3072, .f32⟩
  | .hbm, ⟨6, _⟩ => ⟨S1x3072, .f32⟩
  | .hbm, ⟨7, _⟩ => ⟨S3072, .f32⟩
  | .hbm, ⟨8, _⟩ => ⟨S1x1x3072, .f32⟩
  | .hbm, ⟨9, _⟩ => ⟨S4x2048x3072, .f32⟩
  | .hbm, ⟨10, _⟩ => ⟨S4x2048x3072, .f32⟩
  | .hbm, ⟨11, _⟩ => ⟨S4x2048x3072, .f32⟩
  | .hbm, ⟨12, _⟩ => ⟨S1x3072, .f32⟩
  | .hbm, ⟨13, _⟩ => ⟨S3072, .f32⟩
  | .hbm, ⟨14, _⟩ => ⟨S1x1x3072, .f32⟩
  | .hbm, ⟨15, _⟩ => ⟨S4x2048x3072, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S4x2048x3072, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S4x2048x3072, .f32⟩
  | .hbm, ⟨30, _⟩ => ⟨S4x2048x3072, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S8192x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== PleFwd.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S1024x1024, .bf16⟩
  | .hbm, ⟨6, _⟩ => ⟨S1x1024, .f32⟩
  | .hbm, ⟨7, _⟩ => ⟨S256x1024, .bf16⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleFwdRefIdeal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== FfnFwd.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S1x192x1024 : Shape := ⟨3, ![1, 192, 1024]⟩
abbrev S192x1024 : Shape := ⟨2, ![192, 1024]⟩
abbrev S1024x1 : Shape := ⟨2, ![1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v49 : BitVec 1 := Scalar.cmpi .eq arg1 c3_i32
  let v50 : BitVec 32 := Scalar.extui v49
  let c0_i32_37 : BitVec 32 := 0#32
  let v51 : BitVec 1 := Scalar.cmpi .ne v50 c0_i32_37
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== ProjLn.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjLnRefIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== RglruFwd.lean ====
abbrev S4x2048x512 : Shape := ⟨3, ![4, 2048, 512]⟩
abbrev S8x64x64 : Shape := ⟨3, ![8, 64, 64]⟩
abbrev S512 : Shape := ⟨1, ![512]⟩
abbrev S_ : Shape := ⟨0, ![]⟩
abbrev S4x128x128 : Shape := ⟨3, ![4, 128, 128]⟩
abbrev S1x64x64 : Shape := ⟨3, ![1, 64, 64]⟩
abbrev S64x64 : Shape := ⟨2, ![64, 64]⟩
abbrev S1 : Shape := ⟨1, ![1]⟩
abbrev S3 : Shape := ⟨1, ![3]⟩
abbrev S8192x512 : Shape := ⟨2, ![8192, 512]⟩
abbrev S1x512 : Shape := ⟨2, ![1, 512]⟩
abbrev S2048x128 : Shape := ⟨2, ![2048, 128]⟩
abbrev S1x128x128 : Shape := ⟨3, ![1, 128, 128]⟩
abbrev S1x128 : Shape := ⟨2, ![1, 128]⟩
abbrev S128x128 : Shape := ⟨2, ![128, 128]⟩

abbrev nBuf : Space → Nat
  | .hbm => 178
  | .vmem => 18
  | .smem => 0
  | _ => 0

abbrev hbmTy0_0 (i : Nat) : BufTy := match i % 128 with
  | 0 => ⟨S4x2048x512, .f32⟩
  | 1 => ⟨S4x2048x512, .f32⟩
  | 2 => ⟨S8x64x64, .f32⟩
  | 3 => ⟨S512, .f32⟩
  | 4 => ⟨S8x64x64, .f32⟩
  | 5 => ⟨S512, .f32⟩
  | 6 => ⟨S512, .f32⟩
  | 7 => ⟨S_, .f32⟩
  | 8 => ⟨S4x128x128, .f32⟩
  | 9 => ⟨S1x64x64, .f32⟩
  | 10 => ⟨S64x64, .f32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S3, .i32⟩
  | 18 => ⟨S4x128x128, .f32⟩
  | 19 => ⟨S1x64x64, .f32⟩
  | 20 => ⟨S64x64, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S3, .i32⟩
  | 28 => ⟨S4x128x128, .f32⟩
  | 29 => ⟨S1x64x64, .f32⟩
  | 30 => ⟨S64x64, .f32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S3, .i32⟩
  | 38 => ⟨S4x128x128, .f32⟩
  | 39 => ⟨S1x64x64, .f32⟩
  | 40 => ⟨S64x64, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S3, .i32⟩
  | 48 => ⟨S4x128x128, .f32⟩
  | 49 => ⟨S1x64x64, .f32⟩
  | 50 => ⟨S64x64, .f32⟩
  | 51 => ⟨S_, .i32⟩
  | 52 => ⟨S1, .i32⟩
  | 53 => ⟨S_, .i32⟩
  | 54 => ⟨S1, .i32⟩
  | 55 => ⟨S_, .i32⟩
  | 56 => ⟨S1, .i32⟩
  | 57 => ⟨S3, .i32⟩
  | 58 => ⟨S4x128x128, .f32⟩
  | 59 => ⟨S1x64x64, .f32⟩
  | 60 => ⟨S64x64, .f32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S3, .i32⟩
  | 68 => ⟨S4x128x128, .f32⟩
  | 69 => ⟨S1x64x64, .f32⟩
  | 70 => ⟨S64x64, .f32⟩
  | 71 => ⟨S_, .i32⟩
  | 72 => ⟨S1, .i32⟩
  | 73 => ⟨S_, .i32⟩
  | 74 => ⟨S1, .i32⟩
  | 75 => ⟨S_, .i32⟩
  | 76 => ⟨S1, .i32⟩
  | 77 => ⟨S3, .i32⟩
  | 78 => ⟨S4x128x128, .f32⟩
  | 79 => ⟨S1x64x64, .f32⟩
  | 80 => ⟨S64x64, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S3, .i32⟩
  | 88 => ⟨S4x128x128, .f32⟩
  | 89 => ⟨S_, .f32⟩
  | 90 => ⟨S4x128x128, .f32⟩
  | 91 => ⟨S1x64x64, .f32⟩
  | 92 => ⟨S64x64, .f32⟩
  | 93 => ⟨S_, .i32⟩
  | 94 => ⟨S1, .i32⟩
  | 95 => ⟨S_, .i32⟩
  | 96 => ⟨S1, .i32⟩
  | 97 => ⟨S_, .i32⟩
  | 98 => ⟨S1, .i32⟩
  | 99 => ⟨S3, .i32⟩
  | 100 => ⟨S4x128x128, .f32⟩
  | 101 => ⟨S1x64x64, .f32⟩
  | 102 => ⟨S64x64, .f32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S3, .i32⟩
  | 110 => ⟨S4x128x128, .f32⟩
  | 111 => ⟨S1x64x64, .f32⟩
  | 112 => ⟨S64x64, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S3, .i32⟩
  | 120 => ⟨S4x128x128, .f32⟩
  | 121 => ⟨S1x64x64, .f32⟩
  | 122 => ⟨S64x64, .f32⟩
  | 123 => ⟨S_, .i32⟩
  | 124 => ⟨S1, .i32⟩
  | 125 => ⟨S_, .i32⟩
  | 126 => ⟨S1, .i32⟩
  | 127 => ⟨S_, .i32⟩
  | _ => ⟨S4x2048x512, .f32⟩

abbrev hbmTy0_1 (i : Nat) : BufTy := match i % 128 with
  | 0 => ⟨S1, .i32⟩
  | 1 => ⟨S3, .i32⟩
  | 2 => ⟨S4x128x128, .f32⟩
  | 3 => ⟨S1x64x64, .f32⟩
  | 4 => ⟨S64x64, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S3, .i32⟩
  | 12 => ⟨S4x128x128, .f32⟩
  | 13 => ⟨S1x64x64, .f32⟩
  | 14 => ⟨S64x64, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S3, .i32⟩
  | 22 => ⟨S4x128x128, .f32⟩
  | 23 => ⟨S1x64x64, .f32⟩
  | 24 => ⟨S64x64, .f32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S3, .i32⟩
  | 32 => ⟨S4x128x128, .f32⟩
  | 33 => ⟨S1x64x64, .f32⟩
  | 34 => ⟨S64x64, .f32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S3, .i32⟩
  | 42 => ⟨S4x128x128, .f32⟩
  | 43 => ⟨S8192x512, .f32⟩
  | 44 => ⟨S8192x512, .f32⟩
  | 45 => ⟨S1x512, .f32⟩
  | 46 => ⟨S1x512, .f32⟩
  | 47 => ⟨S1x512, .f32⟩
  | 48 => ⟨S8192x512, .f32⟩
  | 49 => ⟨S8192x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_c_9 : Ref sig .tc := ⟨.hbm, 43, rfl⟩
abbrev main_v25 : Ref sig .tc := ⟨.hbm, 44, rfl⟩
abbrev main_c_10 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_c_13 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_14 : Ref sig .tc := ⟨.hbm, 61, rfl⟩
abbrev main_v38 : Ref sig .tc := ⟨.hbm, 62, rfl⟩
abbrev main_c_15 : Ref sig .tc := ⟨.hbm, 63, rfl⟩
abbrev main_v39 : Ref sig .tc := ⟨.hbm, 64, rfl⟩
abbrev main_c_16 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_17 : Ref sig .tc := ⟨.hbm, 71, rfl⟩
abbrev main_v45 : Ref sig .tc := ⟨.hbm, 72, rfl⟩
abbrev main_c_18 : Ref sig .tc := ⟨.hbm, 73, rfl⟩
abbrev main_v46 : Ref sig .tc := ⟨.hbm, 74, rfl⟩
abbrev main_c_19 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_20 : Ref sig .tc := ⟨.hbm, 81, rfl⟩
abbrev main_v52 : Ref sig .tc := ⟨.hbm, 82, rfl⟩
abbrev main_c_21 : Ref sig .tc := ⟨.hbm, 83, rfl⟩
abbrev main_v53 : Ref sig .tc := ⟨.hbm, 84, rfl⟩
abbrev main_c_22 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_23 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_24 : Ref sig .tc := ⟨.hbm, 93, rfl⟩
abbrev main_v60 : Ref sig .tc := ⟨.hbm, 94, rfl⟩
abbrev main_c_25 : Ref sig .tc := ⟨.hbm, 95, rfl⟩
abbrev main_v61 : Ref sig .tc := ⟨.hbm, 96, rfl⟩
abbrev main_c_26 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_27 : Ref sig .tc := ⟨.hbm, 103, rfl⟩
abbrev main_v67 : Ref sig .tc := ⟨.hbm, 104, rfl⟩
abbrev main_c_28 : Ref sig .tc := ⟨.hbm, 105, rfl⟩
abbrev main_v68 : Ref sig .tc := ⟨.hbm, 106, rfl⟩
abbrev main_c_29 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_30 : Ref sig .tc := ⟨.hbm, 113, rfl⟩
abbrev main_v74 : Ref sig .tc := ⟨.hbm, 114, rfl⟩
abbrev main_c_31 : Ref sig .tc := ⟨.hbm, 115, rfl⟩
abbrev main_v75 : Ref sig .tc := ⟨.hbm, 116, rfl⟩
abbrev main_c_32 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_33 : Ref sig .tc := ⟨.hbm, 123, rfl⟩
abbrev main_v81 : Ref sig .tc := ⟨.hbm, 124, rfl⟩
abbrev main_c_34 : Ref sig .tc := ⟨.hbm, 125, rfl⟩
abbrev main_v82 : Ref sig .tc := ⟨.hbm, 126, rfl⟩
abbrev main_c_35 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_36 : Ref sig .tc := ⟨.hbm, 133, rfl⟩
abbrev main_v88 : Ref sig .tc := ⟨.hbm, 134, rfl⟩
abbrev main_c_37 : Ref sig .tc := ⟨.hbm, 135, rfl⟩
abbrev main_v89 : Ref sig .tc := ⟨.hbm, 136, rfl⟩
abbrev main_c_38 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_39 : Ref sig .tc := ⟨.hbm, 143, rfl⟩
abbrev main_v95 : Ref sig .tc := ⟨.hbm, 144, rfl⟩
abbrev main_c_40 : Ref sig .tc := ⟨.hbm, 145, rfl⟩
abbrev main_v96 : Ref sig .tc := ⟨.hbm, 146, rfl⟩
abbrev main_c_41 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_42 : Ref sig .tc := ⟨.hbm, 153, rfl⟩
abbrev main_v102 : Ref sig .tc := ⟨.hbm, 154, rfl⟩
abbrev main_c_43 : Ref sig .tc := ⟨.hbm, 155, rfl⟩
abbrev main_v103 : Ref sig .tc := ⟨.hbm, 156, rfl⟩
abbrev main_c_44 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_45 : Ref sig .tc := ⟨.hbm, 163, rfl⟩
abbrev main_v109 : Ref sig .tc := ⟨.hbm, 164, rfl⟩
abbrev main_c_46 : Ref sig .tc := ⟨.hbm, 165, rfl⟩
abbrev main_v110 : Ref sig .tc := ⟨.hbm, 166, rfl⟩
abbrev main_c_47 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119_0 : Ref sig .tc := ⟨.hbm, 176, rfl⟩
abbrev main_v119_1 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RglruFwdRefIdeal.lean ====
abbrev S4x2048x512 : Shape := ⟨3, ![4, 2048, 512]⟩
abbrev S8x64x64 : Shape := ⟨3, ![8, 64, 64]⟩
abbrev S512 : Shape := ⟨1, ![512]⟩
abbrev S4x2048x8x64 : Shape := ⟨4, ![4, 2048, 8, 64]⟩
abbrev S8x64x4x2048 : Shape := ⟨4, ![8, 64, 4, 2048]⟩
abbrev S1x1x512 : Shape := ⟨3, ![1, 1, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x512 : Shape := ⟨4, ![4, 1, 2048, 512]⟩
abbrev S4x2048x2048x512 : Shape := ⟨4, ![4, 2048, 2048, 512]⟩
abbrev S4x2048x1x512 : Shape := ⟨4, ![4, 2048, 1, 512]⟩
abbrev S8192x512 : Shape := ⟨2, ![8192, 512]⟩

abbrev nBuf : Space → Nat
  | .hbm => 122
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S8x64x64, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S512, .f32⟩
  | .hbm, ⟨7, _⟩ => ⟨S4x2048x8x64, .f32⟩
  | .hbm, ⟨8, _⟩ => ⟨S8x64x4x2048, .f32⟩
  | .hbm, ⟨9, _⟩ => ⟨S4x2048x8x64, .f32⟩
  | .hbm, ⟨10, _⟩ => ⟨S4x2048x512, .f32⟩
  | .hbm, ⟨11, _⟩ => ⟨S1x1x512, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S_, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S8x64x4x2048, .f32⟩
  | .hbm, ⟨23, _⟩ => ⟨S4x2048x8x64, .f32⟩
  | .hbm, ⟨24, _⟩ => ⟨S4x2048x512, .f32⟩
  | .hbm, ⟨25, _⟩ => ⟨S1x1x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S_, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048x512, .f32⟩
  | .hbm, ⟨38, _⟩ => ⟨S4x2048x512, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .i1⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S1x1x512, .f32⟩
  | .hbm, ⟨55, _⟩ => ⟨S4x2048x512, .f32⟩
  | .hbm, ⟨56, _⟩ => ⟨S4x2048x512, .f32⟩
  | .hbm, ⟨57, _⟩ => ⟨S_, .f32⟩
  | .hbm, ⟨58, _⟩ => ⟨S4x2048x512, .f32⟩
  | .hbm, ⟨59, _⟩ => ⟨S4x2048x512, .f32⟩
  | .hbm, ⟨60, _⟩ => ⟨S4x2048x512, .f32⟩
  | .hbm, ⟨61, _⟩ => ⟨S4x2048x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S2048, .i32⟩
  | .hbm, ⟨66, _⟩ => ⟨S2048x1, .i32⟩
  | .hbm, ⟨67, _⟩ => ⟨S1x2048, .i32⟩
  | .hbm, ⟨68, _⟩ => ⟨S2048x2048, .i32⟩
  | .hbm, ⟨69, _⟩ => ⟨S2048x2048, .i32⟩
  | .hbm, ⟨70, _⟩ => ⟨S2048x2048, .i1⟩
  | .hbm, ⟨71, _⟩ => ⟨S1x2048x2048x1, .i1⟩
  | .hbm, ⟨72, _⟩ => ⟨S4x1x2048x512, .f32⟩
  | .hbm, ⟨73, _⟩ => ⟨S_, .f32⟩
  | .hbm, ⟨74, _⟩ => ⟨S_, .f32⟩
  | .hbm, ⟨75, _⟩ => ⟨S4x2048x2048x512, .i1⟩
  | .hbm, ⟨76, _⟩ => ⟨S4x2048x2048x512, .f32⟩
  | .hbm, ⟨77, _⟩ => ⟨S4x2048x2048x512, .f32⟩
  | .hbm, ⟨78, _⟩ => ⟨S4x2048x2048x512, .f32⟩
  | .hbm, ⟨79, _⟩ => ⟨S_, .f32⟩
  | .hbm, ⟨80, _⟩ => ⟨S4x2048x512, .f32⟩
  | .hbm, ⟨81, _⟩ => ⟨S4x2048x1x512, .f32⟩
  | .hbm, ⟨82, _⟩ => ⟨S4x1x2048x512, .f32⟩
  | .hbm, ⟨83, _⟩ => ⟨S4x2048x2048x512, .f32⟩
  | .hbm, ⟨84, _⟩ => ⟨S4x2048x2048x512, .f32⟩
  | .hbm, ⟨85, _⟩ => ⟨S4x2048x2048x512, .f32⟩
  | .hbm, ⟨86, _⟩ => ⟨S_, .f32⟩
  | .hbm, ⟨87, _⟩ => ⟨S_, .f32⟩
  | .hbm, ⟨88, _⟩ => ⟨S4x2048x2048x512, .i1⟩
  | .hbm, ⟨89, _⟩ => ⟨S4x2048x2048x512, .f32⟩
  | .hbm, ⟨90, _⟩ => ⟨S4x2048x2048x512, .f32⟩
  | .hbm, ⟨91, _⟩ => ⟨S4x2048x2048x512, .f32⟩
  | .hbm, ⟨92, _⟩ => ⟨S_, .f32⟩
  | .hbm, ⟨93, _⟩ => ⟨S_, .f32⟩
  | .hbm, ⟨94, _⟩ => ⟨S4x2048x2048x512, .i1⟩
  | .hbm, ⟨95, _⟩ => ⟨S4x2048x2048x512, .f32⟩
  | .hbm, ⟨96, _⟩ => ⟨S4x2048x2048x512, .f32⟩
  | .hbm, ⟨97, _⟩ => ⟨S4x1x2048x512, .f32⟩
  | .hbm, ⟨98, _⟩ => ⟨S4x2048x2048x512, .f32⟩
  | .hbm, ⟨99, _⟩ => ⟨S4x2048x2048x512, .f32⟩
  | .hbm, ⟨100, _⟩ => ⟨S_, .f32⟩
  | .hbm, ⟨101, _⟩ => ⟨S4x2048x512, .f32⟩
  | .hbm, ⟨102, _⟩ => ⟨S4x2048x512, .f32⟩
  | .hbm, ⟨103, _⟩ => ⟨S4x2048x512, .f32⟩
  | .hbm, ⟨104, _⟩ => ⟨S_, .f32⟩
  | .hbm, ⟨105, _⟩ => ⟨S4x2048x512, .f32⟩
  | .hbm, ⟨106, _⟩ => ⟨S4x2048x512, .f32⟩
  | .hbm, ⟨107, _⟩ => ⟨S4x2048x512, .f32⟩
  | .hbm, ⟨108, _⟩ => ⟨S_, .f32⟩
  | .hbm, ⟨109, _⟩ => ⟨S4x2048x512, .f32⟩
  | .hbm, ⟨110, _⟩ => ⟨S4x2048x512, .f32⟩
  | .hbm, ⟨111, _⟩ => ⟨S4x2048x512, .f32⟩
  | .hbm, ⟨112, _⟩ => ⟨S_, .f32⟩
  | .hbm, ⟨113, _⟩ => ⟨S4x2048x512, .f32⟩
  | .hbm, ⟨114, _⟩ => ⟨S4x2048x512, .f32⟩
  | .hbm, ⟨115, _⟩ => ⟨S_, .f32⟩
  | .hbm, ⟨116, _⟩ => ⟨S4x2048x512, .f32⟩
  | .hbm, ⟨117, _⟩ => ⟨S4x2048x512, .f32⟩
  | .hbm, ⟨118, _⟩ => ⟨S4x2048x512, .f32⟩
  | .hbm, ⟨119, _⟩ => ⟨S4x2048x512, .f32⟩
  | .hbm, ⟨120, _⟩ => ⟨S8192x512, .f32⟩
  | .hbm, ⟨121, _⟩ => ⟨S8192x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_v47 : Ref sig .tc := ⟨.hbm, 78, rfl⟩
abbrev main_cst_6 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v54 : Ref sig .tc := ⟨.hbm, 90, rfl⟩
abbrev main_v55 : Ref sig .tc := ⟨.hbm, 91, rfl⟩
abbrev main_cst_8 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_9 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_11 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_12 : Ref sig .tc := ⟨.hbm, 112, rfl⟩
abbrev main_v69 : Ref sig .tc := ⟨.hbm, 113, rfl⟩
abbrev main_v70 : Ref sig .tc := ⟨.hbm, 114, rfl⟩
abbrev main_cst_13 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩

abbrev nD : Nat := 1
abbrev τ : Topo := Topo.v7x

variable {F : FTy → Type} [FloatOps F]
-- ==== MmNn.lean ====
abbrev S8192x3072 : Shape := ⟨2, ![8192, 3072]⟩
abbrev S1024x3072 : Shape := ⟨2, ![1024, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S3072x1024, .f32⟩
  | .hbm, ⟨4, _⟩ => ⟨S3072x1024, .bf16⟩
  | .hbm, ⟨5, _⟩ => ⟨S8192x1024, .f32⟩
  | .local _ .vmem, ⟨0, _⟩ => ⟨S1024x3072, .f32⟩
  | .local _ .vmem, ⟨1, _⟩ => ⟨S1024x3072, .f32⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmNnRefIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S3072x1024, .f32⟩
  | .hbm, ⟨7, _⟩ => ⟨S8192x1024, .f32⟩
  | .hbm, ⟨8, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MmTn.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnRefIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S1024x8192, .f32⟩
  | .hbm, ⟨3, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnBack.lean ====
abbrev S8192x2816 : Shape := ⟨2, ![8192, 2816]⟩
abbrev S1024x2816 : Shape := ⟨2, ![1024, 2816]⟩
abbrev S8192x1024 : Shape := ⟨2, ![8192, 1024]⟩
abbrev S1024x4x704 : Shape := ⟨3, ![1024, 4, 704]⟩
abbrev S4x1024x704 : Shape := ⟨3, ![4, 1024, 704]⟩
abbrev S8192x4x704 : Shape := ⟨3, ![8192, 4, 704]⟩
abbrev S4x8192x704 : Shape := ⟨3, ![4, 8192, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 18
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S1024x4x704, .f32⟩
  | .hbm, ⟨6, _⟩ => ⟨S4x1024x704, .f32⟩
  | .hbm, ⟨7, _⟩ => ⟨S4x1024x704, .bf16⟩
  | .hbm, ⟨8, _⟩ => ⟨S1024x4x704, .f32⟩
  | .hbm, ⟨9, _⟩ => ⟨S4x1024x704, .f32⟩
  | .hbm, ⟨10, _⟩ => ⟨S4x1024x704, .bf16⟩
  | .hbm, ⟨11, _⟩ => ⟨S8192x4x704, .f32⟩
  | .hbm, ⟨12, _⟩ => ⟨S4x8192x704, .f32⟩
  | .hbm, ⟨13, _⟩ => ⟨S4x8192x704, .bf16⟩
  | .hbm, ⟨14, _⟩ => ⟨S8192x4x704, .f32⟩
  | .hbm, ⟨15, _⟩ => ⟨S4x8192x704, .f32⟩
  | .hbm, ⟨16, _⟩ => ⟨S4x8192x704, .bf16⟩
  | .hbm, ⟨17, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnBackRefIdeal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S2816x1024, .f32⟩
  | .hbm, ⟨12, _⟩ => ⟨S8192x1024, .f32⟩
  | .hbm, ⟨13, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== AdamW.lean ====
abbrev S22528x128 : Shape := ⟨2, ![22528, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S22528x128, .f32⟩
  | .hbm, ⟨1, _⟩ => ⟨S22528x128, .f32⟩
  | .hbm, ⟨2, _⟩ => ⟨S22528x128, .f32⟩
  | .hbm, ⟨3, _⟩ => ⟨S22528x128, .f32⟩
  | .hbm, ⟨4, _⟩ => ⟨S22528x128, .f32⟩
  | .hbm, ⟨5, _⟩ => ⟨S22528x128, .f32⟩
  | .hbm, ⟨6, _⟩ => ⟨S22528x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S22528x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S22528x128 : Shape := ⟨2, ![22528, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S22528x128, .f32⟩
  | .hbm, ⟨1, _⟩ => ⟨S22528x128, .f32⟩
  | .hbm, ⟨2, _⟩ => ⟨S22528x128, .f32⟩
  | .hbm, ⟨3, _⟩ => ⟨S22528x128, .f32⟩
  | .hbm, ⟨4, _⟩ => ⟨S_, .f32⟩
  | .hbm, ⟨5, _⟩ => ⟨S22528x128, .f32⟩
  | .hbm, ⟨6, _⟩ => ⟨S22528x128, .f32⟩
  | .hbm, ⟨7, _⟩ => ⟨S_, .f32⟩
  | .hbm, ⟨8, _⟩ => ⟨S22528x128, .f32⟩
  | .hbm, ⟨9, _⟩ => ⟨S22528x128, .f32⟩
  | .hbm, ⟨10, _⟩ => ⟨S22528x128, .f32⟩
  | .hbm, ⟨11, _⟩ => ⟨S_, .f32⟩
  | .hbm, ⟨12, _⟩ => ⟨S22528x128, .f32⟩
  | .hbm, ⟨13, _⟩ => ⟨S22528x128, .f32⟩
  | .hbm, ⟨14, _⟩ => ⟨S22528x128, .f32⟩
  | .hbm, ⟨15, _⟩ => ⟨S_, .f32⟩
  | .hbm, ⟨16, _⟩ => ⟨S22528x128, .f32⟩
  | .hbm, ⟨17, _⟩ => ⟨S22528x128, .f32⟩
  | .hbm, ⟨18, _⟩ => ⟨S22528x128, .f32⟩
  | .hbm, ⟨19, _⟩ => ⟨S_, .f32⟩
  | .hbm, ⟨20, _⟩ => ⟨S22528x128, .f32⟩
  | .hbm, ⟨21, _⟩ => ⟨S22528x128, .f32⟩
  | .hbm, ⟨22, _⟩ => ⟨S_, .f32⟩
  | .hbm, ⟨23, _⟩ => ⟨S22528x128, .f32⟩
  | .hbm, ⟨24, _⟩ => ⟨S22528x128, .f32⟩
  | .hbm, ⟨25, _⟩ => ⟨S22528x128, .f32⟩
  | .hbm, ⟨26, _⟩ => ⟨S_, .f32⟩
  | .hbm, ⟨27, _⟩ => ⟨S22528x128, .f32⟩
  | .hbm, ⟨28, _⟩ => ⟨S22528x128, .f32⟩
  | .hbm, ⟨29, _⟩ => ⟨S22528x128, .f32⟩
  | .hbm, ⟨30, _⟩ => ⟨S_, .f32⟩
  | .hbm, ⟨31, _⟩ => ⟨S22528x128, .f32⟩
  | .hbm, ⟨32, _⟩ => ⟨S22528x128, .f32⟩
  | .hbm, ⟨33, _⟩ => ⟨S22528x128, .f32⟩
  | .hbm, ⟨34, _⟩ => ⟨S_, .f32⟩
  | .hbm, ⟨35, _⟩ => ⟨S22528x128, .f32⟩
  | .hbm, ⟨36, _⟩ => ⟨S22528x128, .f32⟩
  | _, _ => ⟨S22528x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSlots.lean ====
abbrev S4x11264x128 : Shape := ⟨3, ![4, 11264, 128]⟩
abbrev S11264x128 : Shape := ⟨2, ![11264, 128]⟩
abbrev S4x256x128 : Shape := ⟨3, ![4, 256, 128]⟩
abbrev S256x128 : Shape := ⟨2, ![256, 128]⟩
abbrev S1x256x128 : Shape := ⟨3, ![1, 256, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x11264x128, .f32⟩
  | .hbm, ⟨1, _⟩ => ⟨S4x11264x128, .bf16⟩
  | .hbm, ⟨2, _⟩ => ⟨S11264x128, .f32⟩
  | .local _ .vmem, ⟨0, _⟩ => ⟨S4x256x128, .bf16⟩
  | .local _ .vmem, ⟨1, _⟩ => ⟨S4x256x128, .bf16⟩
  | .local _ .vmem, ⟨2, _⟩ => ⟨S256x128, .f32⟩
  | .local _ .vmem, ⟨3, _⟩ => ⟨S256x128, .f32⟩
  | _, _ => ⟨S4x11264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSlotsRefIdeal.lean ====
abbrev S4x11264x128 : Shape := ⟨3, ![4, 11264, 128]⟩
abbrev S_ : Shape := ⟨0, ![]⟩
abbrev S11264x128 : Shape := ⟨2, ![11264, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x11264x128, .f32⟩
  | .hbm, ⟨1, _⟩ => ⟨S_, .f32⟩
  | .hbm, ⟨2, _⟩ => ⟨S11264x128, .f32⟩
  | _, _ => ⟨S4x11264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Lift.lean ====
/- Finite extended reals: every operation of the programs below, applied to real numbers, is the same operation of the
   reals. The value proofs rewrite with these lemmas from the inside out and finish over the reals. -/
module

public import Idealize.ShloMosaic.Lib.Pipeline.ValueKit
public import Idealize.ShloMosaic.Lib.Pointwise
public import Idealize.ShloMosaic.Lib.IdealHost

@[expose] public section

set_option maxRecDepth 16384

noncomputable section

namespace Cert.Lift

open Idealize.ShloMosaic Idealize.ShloMosaic.TcCoe Idealize.SL.Sem

theorem add (a b : ℝ) : ((a : EReal) + (b : EReal)) = ((a + b : ℝ) : EReal) := (EReal.coe_add a b).symm
theorem mul (a b : ℝ) : ((a : EReal) * (b : EReal)) = ((a * b : ℝ) : EReal) := (EReal.coe_mul a b).symm
theorem sub (a b : ℝ) : ((a : EReal) - (b : EReal)) = ((a - b : ℝ) : EReal) := (EReal.coe_sub a b).symm
theorem neg (a : ℝ) : (-(a : EReal)) = ((-a : ℝ) : EReal) := (EReal.coe_neg a).symm
theorem zero : (0 : EReal) = ((0 : ℝ) : EReal) := rfl
theorem one : (1 : EReal) = ((1 : ℝ) : EReal) := rfl

theorem sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, add]

theorem div (a b : ℝ) (h : b ≠ 0) : Ideal.div (a : EReal) (b : EReal) = ((a / b : ℝ) : EReal) := by
  rw [Ideal.div_coe h, mul, mul_one_div]

theorem rsqrt (a : ℝ) (h : 0 < a) : Ideal.rsqrt (a : EReal) = (((Real.sqrt a)⁻¹ : ℝ) : EReal) := by
  rw [Ideal.rsqrt_coe, if_neg (not_lt.2 h.le), if_neg h.ne']

/-- The infinity that a precondition compares with. -/
theorem winf : Ideal.ofBits .f32 0x7F800000#32 = (⊤ : EReal) := by simp [Ideal.ofBits, Ideal.ieee]

/-- An array whose elements are all below infinity in absolute value is an array of reals. -/
theorem of_finite {s : Shape} {φ : FTy} (x b : FVec Ideal s φ) (hb : ∀ i, b i = (⊤ : EReal))
    (h : cmpf .olt (Host.absf x) b = fun _ => 1#1) (i : s.Idx) : x i = (((x i : EReal).toReal : ℝ) : EReal) := by
  have h1 : Ideal.cmp .olt (max (x i) (-(x i)) : EReal) (b i) = 1#1 := congrFun h i
  rw [hb i] at h1
  have h2 : max (x i : EReal) (-(x i)) < (⊤ : EReal) := by
    by_contra hn
    simp [Ideal.cmp, hn] at h1
  refine (EReal.coe_toReal (fun e => ?_) (fun e => ?_)).symm <;> rw [e] at h2 <;> simp at h2

/-- The f32 word of 1024. -/
theorem w1024 : Ideal.ofBits .f32 0x44800000#32 = ((1024 : ℝ) : EReal) := by
  simp [Ideal.ofBits, Ideal.ieee, -EReal.coe_mul]; norm_num

/-- The f32 word nearest to 1e-5: a positive number. -/
def eps : ℝ := 10995116 / 2 ^ 40
theorem eps_pos : 0 < eps := by unfold eps; norm_num
theorem weps : Ideal.ofBits .f32 0x3727C5AC#32 = ((eps : ℝ) : EReal) := by
  unfold eps; simp [Ideal.ofBits, Ideal.ieee, -EReal.coe_mul]; norm_num

end Cert.Lift

end
-- ==== Proof.LnReal.lean ====
/- The gradient of a layer norm over the reals, for one row of 1024 elements: the form the kernels compute and the form
   that differentiating the forward lines gives. -/
module

public import proofs.«01_k».proof.Proof.Lift

@[expose] public section

noncomputable section

namespace Cert.LN

open Cert.Lift

/-- The mean of a row. -/
def mean (r : Fin 1024 → ℝ) : ℝ := (∑ k, r k) / 1024
/-- A row less its mean. -/
def cen (r : Fin 1024 → ℝ) (j : Fin 1024) : ℝ := r j - mean r
/-- The variance of a row and the small constant. -/
def vareps (r : Fin 1024 → ℝ) : ℝ := (∑ k, cen r k * cen r k) / 1024 + eps
/-- The reciprocal standard deviation. -/
def rstd (r : Fin 1024 → ℝ) : ℝ := (Real.sqrt (vareps r))⁻¹
/-- The normalised row. -/
def xhat (r : Fin 1024 → ℝ) (j : Fin 1024) : ℝ := cen r j * rstd r
/-- The gradient of the row, for the cotangent `u` of the normalised row. -/
def dx (r u : Fin 1024 → ℝ) (j : Fin 1024) : ℝ :=
  rstd r * (u j - mean u - xhat r j * mean (fun k => u k * xhat r k))

theorem vareps_pos (r : Fin 1024 → ℝ) : 0 < vareps r :=
  add_pos_of_nonneg_of_pos (div_nonneg (Finset.sum_nonneg fun k _ => mul_self_nonneg _) (by norm_num)) eps_pos

theorem sqrt_pos (r : Fin 1024 → ℝ) : 0 < Real.sqrt (vareps r) := Real.sqrt_pos.2 (vareps_pos r)

theorem rstd_pos (r : Fin 1024 → ℝ) : 0 < rstd r := inv_pos.2 (sqrt_pos r)

/-- The square of the reciprocal standard deviation. -/
theorem rstd_sq (r : Fin 1024 → ℝ) : rstd r * rstd r = 1 / vareps r := by
  rw [rstd, ← mul_inv, Real.mul_self_sqrt (vareps_pos r).le, one_div]

/-- The elements of a row less their mean add to zero. -/
theorem sum_cen (r : Fin 1024 → ℝ) : ∑ k, cen r k = 0 := by
  simp only [cen, Finset.sum_sub_distrib, Finset.sum_const, Finset.card_univ, Fintype.card_fin, mean, nsmul_eq_mul]
  push_cast; ring

/-- The factor by which the variance's gradient enters. -/
def dvar (r u : Fin 1024 → ℝ) : ℝ := (∑ k, cen r k * u k) * (-(1 / 2) * (rstd r / vareps r)) / 1024

/-- What differentiation gives: the direct term, the variance's term, and the mean of the two with the sign turned. -/
theorem dx_eq (r u : Fin 1024 → ℝ) (j : Fin 1024) :
    (u j * rstd r + dvar r u * (2 * cen r j)) + (∑ k, -(u k * rstd r) + ∑ k, -(dvar r u * (2 * cen r k))) / 1024 = dx r u j := by
  have h0 : ∑ k, -(dvar r u * (2 * cen r k)) = 0 := by
    rw [Finset.sum_neg_distrib, ← Finset.mul_sum, ← Finset.mul_sum, sum_cen]; ring
  have h1 : ∑ k, -(u k * rstd r) = -(∑ k, u k) * rstd r := by rw [Finset.sum_neg_distrib, ← Finset.sum_mul]; ring
  have h2 : ∑ k, u k * xhat r k = (∑ k, cen r k * u k) * rstd r := by
    rw [Finset.sum_mul]; exact Finset.sum_congr rfl fun k _ => by rw [xhat]; ring
  have h3 : rstd r / vareps r = rstd r * (rstd r * rstd r) := by rw [rstd_sq]; ring
  rw [h0, h1, dx, mean, mean, h2, dvar, h3, xhat]
  ring

end Cert.LN

end
-- ==== Proof.LnKernel.lean ====
/- The layer norm's gradient kernel over finite rows: what one grid point computes, row by row. -/
module

public import proofs.«01_k».proof.Proof.LnReal
public import proofs.«01_k».proof.Proof.Gen.LnBwdIdeal.Value

@[expose] public section

set_option maxRecDepth 16384

noncomputable section

open Idealize.ShloMosaic Idealize.ShloMosaic.TcCoe Idealize.SL.Sem
open Idealize.ShloMosaic.Pipeline (Dat)

namespace Cert.LnBwdIdeal.Ln

open Cert.LnBwdIdeal Cert.LnBwdIdeal.Gen Cert.Lift Cert.LN

section rows
variable (x0 x1 : FVec Ideal S512x1024 .f32) (x2 : FVec Ideal S1x1024 .f32) (i : Fin 512)
variable (z ct g : Fin 1024 → ℝ)

theorem pay5 (h0 : ∀ k : Fin 1024, x0 (ix2 i k) = ((z k : ℝ) : EReal)) (j : Fin 1024) :
    k0_pay5 (F := Ideal) x0 (ix2 i j) = ((cen z j : ℝ) : EReal) := by
  pointwise [k0_pay5]
  simp only [h0, w1024, sum, sub, div _ _ (show (1024 : ℝ) ≠ 0 by norm_num)]
  rfl

theorem pay6 (h0 : ∀ k : Fin 1024, x0 (ix2 i k) = ((z k : ℝ) : EReal)) :
    k0_pay6 (F := Ideal) x0 (ix2 i 0) = ((rstd z : ℝ) : EReal) := by
  pointwise [k0_pay6]
  simp only [pay5 x0 i z h0, w1024, weps, mul, sum, add, div _ _ (show (1024 : ℝ) ≠ 0 by norm_num)]
  exact rsqrt _ (vareps_pos z)

theorem pay7 (h0 : ∀ k : Fin 1024, x0 (ix2 i k) = ((z k : ℝ) : EReal)) (j : Fin 1024) :
    k0_pay7 (F := Ideal) x0 (ix2 i j) = ((xhat z j : ℝ) : EReal) := by
  pointwise [k0_pay7]
  rw [pay5 x0 i z h0, pay6 x0 i z h0, mul]
  rfl

theorem pay8 (h0 : ∀ k : Fin 1024, x0 (ix2 i k) = ((z k : ℝ) : EReal)) (h1 : ∀ k : Fin 1024, x1 (ix2 i k) = ((ct k : ℝ) : EReal))
    (h2 : ∀ k : Fin 1024, x2 (ix2 0 k) = ((g k : ℝ) : EReal)) (j : Fin 1024) :
    k0_pay8 (F := Ideal) x0 x1 x2 (ix2 i j) = ((dx z (fun k => ct k * g k) j : ℝ) : EReal) := by
  pointwise [k0_pay8]
  simp only [h1, h2, pay6 x0 i z h0, pay7 x0 i z h0, w1024, mul, sum, sub, div _ _ (show (1024 : ℝ) ≠ 0 by norm_num)]
  rfl

end rows

theorem pay9 (x0 x1 : FVec Ideal S512x1024 .f32) (z ct : Fin 512 → Fin 1024 → ℝ)
    (h0 : ∀ i k, x0 (ix2 i k) = ((z i k : ℝ) : EReal)) (h1 : ∀ i k, x1 (ix2 i k) = ((ct i k : ℝ) : EReal)) (j : Fin 1024) :
    k0_pay9 (F := Ideal) x0 x1 (ix2 0 j) = ((∑ i, ct i j * xhat (z i) j : ℝ) : EReal) := by
  pointwise [k0_pay9]
  simp only [h1, fun i => pay7 x0 i (z i) (h0 i), mul, sum]

theorem pay10 (x1 : FVec Ideal S512x1024 .f32) (ct : Fin 512 → Fin 1024 → ℝ)
    (h1 : ∀ i k, x1 (ix2 i k) = ((ct i k : ℝ) : EReal)) (j : Fin 1024) :
    k0_pay1 (F := Ideal) (k0_pay10 (F := Ideal) x1) (ix2 0 j) = ((∑ i, ct i j : ℝ) : EReal) := by
  pointwise [k0_pay1, k0_pay10]
  simp only [h1, sum]

end Cert.LnBwdIdeal.Ln

end
-- ==== Proof.LnValue.lean ====
/- The four arrays the layer norm's gradient kernel leaves, for finite arguments. -/
module

public import proofs.«01_k».proof.Proof.LnKernel

@[expose] public section

set_option maxRecDepth 16384

noncomputable section

open Idealize.ShloMosaic Idealize.ShloMosaic.TcCoe Idealize.SL.Sem
open Idealize.ShloMosaic.Pipeline (Dat)

namespace Cert.LnBwdIdeal.Ln

open Cert.LnBwdIdeal Cert.LnBwdIdeal.Gen Cert.Lift Cert.LN

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

variable (c : Dev nD) (z ct : Fin 8192 → Fin 1024 → ℝ) (g : Fin 1024 → ℝ)

/-- The rows of grid point `t`. -/
def row (t : Fin cfg0.N) (i : Fin 512) : Fin 8192 := ⟨t.val * 512 + i.val, by have := t.isLt; have h : cfg0.N = 16 := N_0; omega⟩

/-- The gradient of the rows. -/
def dz : FVec Ideal S8192x1024 .f32 := fun i => ((dx (z (i 0)) (fun k => ct (i 0) k * g k) (i 1) : ℝ) : EReal)
/-- The gradient of the scale, and that of the shift. -/
def dg : FVec Ideal S1x1024 .f32 := fun i => ((∑ r, ct r (i 1) * xhat (z r) (i 1) : ℝ) : EReal)
def db : FVec Ideal S1x1024 .f32 := fun i => ((∑ r, ct r (i 1) : ℝ) : EReal)
/-- What one grid point adds to them. -/
def dgPart (t : Fin cfg0.N) : FVec Ideal S1x1024 .f32 := fun i => ((∑ r, ct (row t r) (i 1) * xhat (z (row t r)) (i 1) : ℝ) : EReal)
def dbPart (t : Fin cfg0.N) : FVec Ideal S1x1024 .f32 := fun i => ((∑ r, ct (row t r) (i 1) : ℝ) : EReal)

/-- The sum over all rows is the sum over the grid points of the sums over their rows. -/
theorem sum_rows (f : Fin 8192 → ℝ) : (∑ t : Fin cfg0.N, ((∑ r : Fin 512, f (row t r) : ℝ) : EReal)) = ((∑ r, f r : ℝ) : EReal) := by
  rw [sum, Fin.sum_univ_tiles 16 512 rfl f]
  rfl

section blocks
variable (h0 : ∀ i k, (show FVec Ideal S8192x1024 .f32 from m ((c : Thread nD τ).loc main_arg0)) (ix2 i k) = ((z i k : ℝ) : EReal))
variable (h1 : ∀ k : Fin 1024, (show FVec Ideal S1024 .f32 from m ((c : Thread nD τ).loc main_arg1)) (ix1 k) = ((g k : ℝ) : EReal))
variable (h3 : ∀ i k, (show FVec Ideal S8192x1024 .f32 from m ((c : Thread nD τ).loc main_arg3)) (ix2 i k) = ((ct i k : ℝ) : EReal))

include h0 in
theorem blk0 (t : Fin cfg0.N) (i : Fin 512) (k : Fin 1024) :
    (show FVec Ideal S512x1024 .f32 from iblk m c 0 t) (ix2 i k) = ((z (row t i) k : ℝ) : EReal) := by
  rw [← h0]; blk_ext [iblk, V, idx t, row]

include h3 in
theorem blk1 (t : Fin cfg0.N) (i : Fin 512) (k : Fin 1024) :
    (show FVec Ideal S512x1024 .f32 from iblk m c 1 t) (ix2 i k) = ((ct (row t i) k : ℝ) : EReal) := by
  rw [← h3]; blk_ext [iblk, V, idx t, row]

include h1 in
theorem blk2 (t : Fin cfg0.N) (k : Fin 1024) :
    (show FVec Ideal S1x1024 .f32 from iblk m c 2 t) (ix2 0 k) = ((g k : ℝ) : EReal) := by
  rw [← h1]; blk_simp [iblk, idx t]; entry_read; pointwise; blk_ext [idx t]

include h0 h1 h3

theorem key8 (t : Fin cfg0.N) (i : Fin 512) (j : Fin 1024) : k0_pay8 (F := Ideal) (iblk m c 0 t) (iblk m c 1 t) (iblk m c 2 t) (ix2 i j)
    = dz z ct g (ix2 (row t i) j) :=
  pay8 _ _ _ i (z (row t i)) (ct (row t i)) g (blk0 m c z h0 t _) (blk1 m c ct h3 t _) (blk2 m c g h1 t) j

/-- What both cases of the body leave in the first two outputs' blocks. -/
theorem out3 (t : Fin cfg0.N) (i : Fin 512) (j : Fin 1024) : (outsAt0 m c t.val t.isLt).1 (ix2 i j) = dz z ct g (ix2 (row t i) j) := by
  by_cases h : t.val % 16 = 0
  · rw [outsAt0_A m c t h (by have := t.isLt; have h : cfg0.N = 16 := N_0; omega)]; frame_out; exact key8 m c z ct g h0 h1 h3 t i j
  · rw [outsAt0_B m c t h (by omega)]; frame_out; exact key8 m c z ct g h0 h1 h3 t i j

theorem out4 (t : Fin cfg0.N) (i : Fin 512) (j : Fin 1024) : (outsAt0 m c t.val t.isLt).2.1 (ix2 i j) = dz z ct g (ix2 (row t i) j) := by
  by_cases h : t.val % 16 = 0
  · rw [outsAt0_A m c t h (by have := t.isLt; have h : cfg0.N = 16 := N_0; omega)]; frame_out; exact key8 m c z ct g h0 h1 h3 t i j
  · rw [outsAt0_B m c t h (by omega)]; frame_out; exact key8 m c z ct g h0 h1 h3 t i j

theorem final3 : (dats m 0 c).arrAt 3 cfg0.N = dz z ct g := by
  refine (dats m 0 c).arrAt_eq_of_covers 3 _ (by decide +kernel) fun t _ y => ?_
  have e : ((cfg0.win 3).blk t).view.emb y = (ix2 (row t (y 0)) (y 1) : S8192x1024.Idx) := by blk_ext [row, idx t]
  rw [e]
  blk_simp
  rw [after0_3]
  exact (congrArg _ (eq_ix2 y)).trans (out3 m c z ct g h0 h1 h3 t (y 0) (y 1))

theorem final4 : (dats m 0 c).arrAt 4 cfg0.N = dz z ct g := by
  refine (dats m 0 c).arrAt_eq_of_covers 4 _ (by decide +kernel) fun t _ y => ?_
  have e : ((cfg0.win 4).blk t).view.emb y = (ix2 (row t (y 0)) (y 1) : S8192x1024.Idx) := by blk_ext [row, idx t]
  rw [e]
  blk_simp
  rw [after0_4]
  exact (congrArg _ (eq_ix2 y)).trans (out4 m c z ct g h0 h1 h3 t (y 0) (y 1))

theorem part5 (t : Fin cfg0.N) (y : S1x1024.Idx) : k0_pay9 (F := Ideal) (iblk m c 0 t) (iblk m c 1 t) y = dgPart z ct t y := by
  idx_vars y
  rw [Subsingleton.elim y0 0]
  exact pay9 _ _ (fun i => z (row t i)) (fun i => ct (row t i)) (blk0 m c z h0 t) (blk1 m c ct h3 t) y1

theorem part6 (t : Fin cfg0.N) (y : S1x1024.Idx) : k0_pay1 (F := Ideal) (k0_pay10 (F := Ideal) (iblk m c 1 t)) y = dbPart ct t y := by
  idx_vars y
  rw [Subsingleton.elim y0 0]
  exact pay10 _ (fun i => ct (row t i)) (blk1 m c ct h3 t) y1

theorem final5 : (dats m 0 c).arrAt 5 cfg0.N = dg z ct := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0)
    (fun p => dgPart z ct p)
    (fun t h j => by
      rw [outsAt0_A m c t h (by have := t.isLt; have h : cfg0.N = 16 := N_0; omega)]; frame_out
      exact (part5 m c z ct g h0 h1 h3 t j).trans (zero_add _).symm)
    (fun t h j => by
      rw [outsAt0_B m c t h (by omega)]; frame_out
      exact (by pointwise [k0_pay3] : k0_pay3 (F := Ideal) _ _ _ = _).trans (congrArg _ (part5 m c z ct g h0 h1 h3 t j)))
    (le_of_eq N_0) t0_15 rfl j, zero_add]
  exact sum_rows fun r => ct r (j 1) * xhat (z r) (j 1)

theorem final6 : (dats m 0 c).arrAt 6 cfg0.N = db ct := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun p => dbPart ct p)
    (fun t h j => by
      rw [outsAt0_A m c t h (by have := t.isLt; have h : cfg0.N = 16 := N_0; omega)]; frame_out
      exact (part6 m c z ct g h0 h1 h3 t j).trans (zero_add _).symm)
    (fun t h j => by
      rw [outsAt0_B m c t h (by omega)]; frame_out
      exact (by pointwise [k0_pay4] : k0_pay4 (F := Ideal) _ _ _ = _).trans (congrArg _ (part6 m c z ct g h0 h1 h3 t j)))
    (le_of_eq N_0) t0_15 rfl j, zero_add]
  exact sum_rows fun r => ct r (j 1)

end blocks

end Cert.LnBwdIdeal.Ln

end
-- ==== Proof.LnRef.lean ====
/- The layer norm's reference over finite arguments: the values its operations take, row by row. -/
module

public import proofs.«01_k».proof.Proof.LnReal
public import proofs.«01_k».proof.Proof.Gen.LnBwdRefIdeal.Read

@[expose] public section

set_option maxRecDepth 16384

noncomputable section

open Idealize.ShloMosaic Idealize.ShloMosaic.TcCoe Idealize.SL.Sem

namespace Cert.LnBwdRefIdeal.Ln

open Cert.LnBwdRefIdeal Cert.LnBwdRefIdeal.Gen Cert.LnBwdRefIdeal.Read Cert.Lift Cert.LN

variable (x0 x3 : FVec Ideal S8192x1024 .f32) (x1 : FVec Ideal S1024 .f32)
variable (z ct : Fin 8192 → Fin 1024 → ℝ) (g : Fin 1024 → ℝ)

/-- The f32 words of 2 and of −1/2. -/
theorem w2 : Ideal.ofBits .f32 0x40000000#32 = ((2 : ℝ) : EReal) := by
  simp [Ideal.ofBits, Ideal.ieee, -EReal.coe_mul]; norm_num
theorem wnh : Ideal.ofBits .f32 0xBF000000#32 = ((-(1 / 2) : ℝ) : EReal) := by
  simp [Ideal.ofBits, Ideal.ieee, -EReal.coe_mul, -EReal.coe_neg]; norm_num

section z
variable (h0 : ∀ i k, x0 (ix2 i k) = ((z i k : ℝ) : EReal))
include h0

theorem v5 (i : Fin 8192) (j : Fin 1024) : val_main_v5 (F := Ideal) x0 (ix2 i j) = ((cen (z i) j : ℝ) : EReal) := by
  pointwise [val_main_v5, val_main_v4, val_main_v3, val_main_v2, val_main_v1, val_main_v0, val_main_cst, val_main_cst_0]
  simp only [h0, w1024, sum, sub, zero_add, div _ _ (show (1024 : ℝ) ≠ 0 by norm_num)]
  rfl

theorem v14 (i : Fin 8192) (j : Fin 1024) : val_main_v14 (F := Ideal) x0 (ix2 i j) = ((cen (z i) j : ℝ) : EReal) :=
  v5 x0 z h0 i j

theorem v16 (i : Fin 8192) : val_main_v16 (F := Ideal) x0 (ix2 i 0) = ((vareps (z i) : ℝ) : EReal) := by
  pointwise [val_main_v16, val_main_v15, val_main_v12, val_main_v11, val_main_v10, val_main_v9, val_main_v6, val_main_cst_2, val_main_cst_3, val_main_cst_4]
  simp only [v5 x0 z h0, w1024, weps, mul, sum, add, zero_add, div _ _ (show (1024 : ℝ) ≠ 0 by norm_num)]
  rfl

theorem v17 (i : Fin 8192) : val_main_v17 (F := Ideal) x0 (ix2 i 0) = ((rstd (z i) : ℝ) : EReal) := by
  pointwise [val_main_v17]
  rw [v16 x0 z h0]
  exact rsqrt _ (vareps_pos _)

theorem v22 (i : Fin 8192) (j : Fin 1024) : val_main_v22 (F := Ideal) x0 (ix2 i j) = ((xhat (z i) j : ℝ) : EReal) := by
  pointwise [val_main_v22, val_main_v21]
  rw [v14 x0 z h0, v17 x0 z h0, mul]
  rfl

variable (h3 : ∀ i k, x3 (ix2 i k) = ((ct i k : ℝ) : EReal)) (h1 : ∀ k : Fin 1024, x1 (ix1 k) = ((g k : ℝ) : EReal))

include h3 in
theorem v64 (j : Fin 1024) : val_main_v64 (F := Ideal) x0 x3 (ix2 0 j) = ((∑ i, ct i j * xhat (z i) j : ℝ) : EReal) := by
  pointwise [val_main_v64, val_main_v38, val_main_v35, val_main_v34, val_main_v33, val_main_v29, val_main_cst_8, val_main_cst_9]
  simp only [v22 x0 z h0, h3, mul, sum, zero_add, Fin.sum_univ_one, mul_comm]

include h3 h1

theorem v37 (i : Fin 8192) (j : Fin 1024) : val_main_v37 (F := Ideal) x1 x3 (ix2 i j) = ((ct i j * g j : ℝ) : EReal) := by
  pointwise [val_main_v37, val_main_v36, val_main_v29, val_main_v23]
  rw [h3, h1, mul]

theorem v49 (i : Fin 8192) : val_main_v49 (F := Ideal) x0 x1 x3 (ix2 i 0) = ((dvar (z i) (fun k => ct i k * g k) : ℝ) : EReal) := by
  pointwise [val_main_v49, val_main_v48, val_main_v44, val_main_v41, val_main_v40, val_main_v39, val_main_v20, val_main_v19, val_main_v18,
    val_main_cst_5, val_main_cst_10, val_main_cst_12]
  simp only [v14 x0 z h0, v16 x0 z h0, v17 x0 z h0, v37 x0 x3 x1 z ct g h0 h3 h1, wnh, w1024, mul, sum, zero_add, div _ _ (vareps_pos _).ne',
    div _ _ (show (1024 : ℝ) ≠ 0 by norm_num)]
  rfl

theorem v43 (i : Fin 8192) (j : Fin 1024) : val_main_v43 (F := Ideal) x0 x1 x3 (ix2 i j) = ((ct i j * g j * rstd (z i) : ℝ) : EReal) := by
  pointwise [val_main_v43, val_main_v42]
  rw [v37 x0 x3 x1 z ct g h0 h3 h1, v17 x0 z h0, mul]

theorem v52 (i : Fin 8192) (j : Fin 1024) :
    val_main_v52 (F := Ideal) x0 x1 x3 (ix2 i j) = ((dvar (z i) (fun k => ct i k * g k) * (2 * cen (z i) j) : ℝ) : EReal) := by
  pointwise [val_main_v52, val_main_v51, val_main_v50, val_main_v8, val_main_v7, val_main_cst_1, val_main_cst_13]
  simp only [v49 x0 x3 x1 z ct g h0 h3 h1, v5 x0 z h0, w2, mul, zero_add, Fin.sum_univ_one]

theorem v62 (i : Fin 8192) (j : Fin 1024) :
    val_main_v62 (F := Ideal) x0 x1 x3 (ix2 i j) = ((dx (z i) (fun k => ct i k * g k) j : ℝ) : EReal) := by
  pointwise [val_main_v62, val_main_v61, val_main_v60, val_main_v59, val_main_v58, val_main_v57, val_main_v56, val_main_v55, val_main_v54,
    val_main_v53, val_main_v47, val_main_v46, val_main_v45, val_main_cst_11, val_main_cst_14, val_main_cst_15, val_main_cst_16]
  simp only [v43 x0 x3 x1 z ct g h0 h3 h1, v52 x0 x3 x1 z ct g h0 h3 h1, w1024, neg, sum, add, zero_add, Fin.sum_univ_one,
    div _ _ (show (1024 : ℝ) ≠ 0 by norm_num)]
  exact congrArg _ (dx_eq (z i) (fun k => ct i k * g k) j)

end z

theorem v65 (h3 : ∀ i k, x3 (ix2 i k) = ((ct i k : ℝ) : EReal)) (j : Fin 1024) :
    val_main_v65 (F := Ideal) x3 (ix2 0 j) = ((∑ i, ct i j : ℝ) : EReal) := by
  pointwise [val_main_v65, val_main_v32, val_main_v31, val_main_v30, val_main_cst_6, val_main_cst_7]
  simp only [h3, sum, zero_add, Fin.sum_univ_one]

end Cert.LnBwdRefIdeal.Ln

end
-- ==== Proof.LnRuns.lean ====
/- The runs of the layer norm's gradient kernel and of its reference, for finite arguments: both end with the same four
   arrays. -/
module

public import proofs.«01_k».proof.Proof.LnValue
public import proofs.«01_k».proof.Proof.LnRef
public import proofs.«01_k».proof.Proof.Gen.Pre_ln_finite

@[expose] public section

set_option maxRecDepth 16384

noncomputable section

open Idealize.ShloMosaic Idealize.ShloMosaic.TcCoe Idealize.SL.Sem

namespace Cert.LnBwdIdeal.Ln

open Cert.LnBwdIdeal Cert.LnBwdIdeal.Gen Cert.Lift Cert.LN

/-- A matrix's and a vector's elements as reals. -/
def mat {a b : ℕ} (x : FVec Ideal ⟨2, ![a, b]⟩ .f32) (i : Fin a) (k : Fin b) : ℝ := (x (ix2 i k) : EReal).toReal
def vec {a : ℕ} (x : FVec Ideal ⟨1, ![a]⟩ .f32) (k : Fin a) : ℝ := (x (ix1 k) : EReal).toReal

/-- The three arrays of the precondition are arrays of reals. -/
structure Fin3 (z : FVec Ideal S8192x1024 .f32) (g : FVec Ideal S1024 .f32) (ct : FVec Ideal S8192x1024 .f32) : Prop where
  z : ∀ i k, z (ix2 i k) = ((mat z i k : ℝ) : EReal)
  g : ∀ k, g (ix1 k) = ((vec g k : ℝ) : EReal)
  ct : ∀ i k, ct (ix2 i k) = ((mat ct i k : ℝ) : EReal)

theorem fin3 (z : FVec Ideal S8192x1024 .f32) (g b : FVec Ideal S1024 .f32) (ct : FVec Ideal S8192x1024 .f32)
    (h : (Cert.Pre_ln_finite.fn (F := Ideal) z g b ct).1 = (fun _ => 1#1) ∧ (Cert.Pre_ln_finite.fn (F := Ideal) z g b ct).2.1 = (fun _ => 1#1)
      ∧ (Cert.Pre_ln_finite.fn (F := Ideal) z g b ct).2.2 = fun _ => 1#1) : Fin3 z g ct where
  z := fun i k => of_finite z _ (fun i => by pointwise [winf]) h.1 _
  g := fun k => of_finite g _ (fun i => by pointwise [winf]) h.2.1 _
  ct := fun i k => of_finite ct _ (fun i => by pointwise [winf]) h.2.2 _

theorem run (m : (ℓ : Loc nD τ sig) → Buf (Elt Ideal) ℓ) (ρ : Dev nD → PrngReg)
    (h : ∀ c : Dev nD, Fin3 (m ((c : Thread nD τ).loc main_arg0)) (m ((c : Thread nD τ).loc main_arg1)) (m ((c : Thread nD τ).loc main_arg3))) :
    θ_run defs (onTc (τ := τ) (main (F := Ideal))) ⟨m, fun _ => 0, ρ⟩ fun r => ∀ c : Dev nD,
      r.2.mem ((c : Thread nD τ).loc main_v1_0) = dz (mat (m ((c : Thread nD τ).loc main_arg0))) (mat (m ((c : Thread nD τ).loc main_arg3))) (vec (m ((c : Thread nD τ).loc main_arg1)))
      ∧ r.2.mem ((c : Thread nD τ).loc main_v1_1) = dz (mat (m ((c : Thread nD τ).loc main_arg0))) (mat (m ((c : Thread nD τ).loc main_arg3))) (vec (m ((c : Thread nD τ).loc main_arg1)))
      ∧ r.2.mem ((c : Thread nD τ).loc main_v1_2) = dg (mat (m ((c : Thread nD τ).loc main_arg0))) (mat (m ((c : Thread nD τ).loc main_arg3)))
      ∧ r.2.mem ((c : Thread nD τ).loc main_v1_3) = db (mat (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans (final3 m c _ _ _ (h c).z (h c).g (h c).ct),
      (hr c).2.1.trans (final4 m c _ _ _ (h c).z (h c).g (h c).ct),
      (hr c).2.2.1.trans (final5 m c _ _ _ (h c).z (h c).g (h c).ct),
      (hr c).2.2.2.1.trans (final6 m c _ _ _ (h c).z (h c).g (h c).ct), (hr c).2.2.2.2⟩)
    (Value.run_blocks m ρ)

end Cert.LnBwdIdeal.Ln

namespace Cert.LnBwdRefIdeal.Ln

open Cert.LnBwdRefIdeal Cert.LnBwdRefIdeal.Gen Cert.LnBwdRefIdeal.Read Cert.LnBwdIdeal.Ln

theorem run (m : (ℓ : Loc nD τ sig) → Buf (Elt Ideal) ℓ) (ρ : Dev nD → PrngReg)
    (h : ∀ c : Dev nD, Fin3 (m ((c : Thread nD τ).loc main_arg0)) (m ((c : Thread nD τ).loc main_arg1)) (m ((c : Thread nD τ).loc main_arg3))) :
    θ_run defs (onTc (τ := τ) (main (F := Ideal))) ⟨m, fun _ => 0, ρ⟩ fun r => ∀ c : Dev nD,
      r.2.mem ((c : Thread nD τ).loc main_v62) = dz (mat (m ((c : Thread nD τ).loc main_arg0))) (mat (m ((c : Thread nD τ).loc main_arg3))) (vec (m ((c : Thread nD τ).loc main_arg1)))
      ∧ r.2.mem ((c : Thread nD τ).loc main_v63) = dz (mat (m ((c : Thread nD τ).loc main_arg0))) (mat (m ((c : Thread nD τ).loc main_arg3))) (vec (m ((c : Thread nD τ).loc main_arg1)))
      ∧ r.2.mem ((c : Thread nD τ).loc main_v64) = dg (mat (m ((c : Thread nD τ).loc main_arg0))) (mat (m ((c : Thread nD τ).loc main_arg3)))
      ∧ r.2.mem ((c : Thread nD τ).loc main_v65) = db (mat (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => by
      have e62 : val_main_v62 (F := Ideal) (m ((c : Thread nD τ).loc main_arg0)) (m ((c : Thread nD τ).loc main_arg1)) (m ((c : Thread nD τ).loc main_arg3))
          = dz (mat (m ((c : Thread nD τ).loc main_arg0))) (mat (m ((c : Thread nD τ).loc main_arg3))) (vec (m ((c : Thread nD τ).loc main_arg1))) := by
        funext j; idx_vars j; exact v62 _ _ _ _ _ _ (h c).z (h c).ct (h c).g j0 j1
      refine ⟨(hr c).1.trans ((val_main_v62_eq m c).trans e62), (hr c).2.1.trans ((val_main_v63_eq m c).trans e62),
        (hr c).2.2.1.trans ((val_main_v64_eq _ _).trans ?_), (hr c).2.2.2.1.trans ((val_main_v65_eq _).trans ?_), (hr c).2.2.2.2⟩
      · funext j; idx_vars j; rw [Subsingleton.elim j0 0]; exact v64 _ _ _ _ (h c).z (h c).ct j1
      · funext j; idx_vars j; rw [Subsingleton.elim j0 0]; exact v65 _ _ (h c).ct j1)
    (Cert.LnBwdRefIdeal.Value.run m ρ)

end Cert.LnBwdRefIdeal.Ln

end
-- ==== Proof.Conv.lean ====
/- The causal convolution of width four along the rows of a sequence, and the sums that are its gradients, as one formula for both programs;
   and what a padded copy of a block of rows reads back at a shift. -/
module

public import proofs.«01_k».proof.Proof.Lift
public import Idealize.ShloMosaic.Lib.Pipeline.ReadBack
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.Conv

variable {C : Nat}

/-- Batch, row and channel. -/
abbrev Seq (C : Nat) : Shape := ⟨3, ![4, 2048, C]⟩
/-- Row and channel, the batches one below the other. -/
abbrev Flat (C : Nat) : Shape := ⟨2, ![8192, C]⟩

/-- The batch a row of the flat array belongs to, and the row it is there. -/
def bat (r : Fin 8192) : Fin 4 := ⟨r.val / 2048, by omega⟩
def row (r : Fin 8192) : Fin 2048 := ⟨r.val % 2048, by omega⟩

/-- The row `3 - j` before row `s`, zero before the first. -/
def before (x : (Seq C).Idx → EReal) (j : Fin 4) (b : Fin 4) (s : Fin 2048) (c : Fin C) : EReal :=
  if h : s.val + j.val < 3 then 0 else x (ix3 b ⟨s.val + j.val - 3, by omega⟩ c)

/-- The row `k` after row `s`, zero after the last. -/
def after (d : (Seq C).Idx → EReal) (k : Nat) (b : Fin 4) (s : Fin 2048) (c : Fin C) : EReal :=
  if h : s.val + k < 2048 then d (ix3 b ⟨s.val + k, h⟩ c) else 0

theorem before_last (x : (Seq C).Idx → EReal) (b : Fin 4) (s : Fin 2048) (c : Fin C) : before x 3 b s c = x (ix3 b s c) := by
  have h : ¬ s.val + (3 : Fin 4).val < 3 := by show ¬ s.val + 3 < 3; omega
  rw [before, dif_neg h]; rfl

theorem after_zero (x : (Seq C).Idx → EReal) (b : Fin 4) (s : Fin 2048) (c : Fin C) : after x 0 b s c = x (ix3 b s c) := by
  rw [after, dif_pos (by omega)]; rfl

/-- The gradient of the argument. -/
def dx (w : (⟨2, ![4, C]⟩ : Shape).Idx → EReal) (d : (Seq C).Idx → EReal) (b : Fin 4) (s : Fin 2048) (c : Fin C) : EReal :=
  w (ix2 0 c) * after d 3 b s c + w (ix2 1 c) * after d 2 b s c + w (ix2 2 c) * after d 1 b s c + w (ix2 3 c) * d (ix3 b s c)

/-- The gradient of the weights. -/
def dw (x d : (Seq C).Idx → EReal) (j : Fin 4) (c : Fin C) : EReal :=
  ∑ b, ∑ s, d (ix3 b s c) * before x j b s c

/-- The gradient of the bias. -/
def db (d : (Seq C).Idx → EReal) (c : Fin C) : EReal := ∑ b, ∑ s, d (ix3 b s c)

/-- The three gradients as arrays, that of the argument with the batches one below the other. -/
def rX (w : (⟨2, ![4, C]⟩ : Shape).Idx → EReal) (d : (Seq C).Idx → EReal) : (Flat C).Idx → EReal := fun y => dx w d (bat (y 0)) (row (y 0)) (y 1)
def rW (x d : (Seq C).Idx → EReal) : (⟨2, ![4, C]⟩ : Shape).Idx → EReal := fun y => dw x d (y 0) (y 1)
def rB (d : (Seq C).Idx → EReal) : (⟨2, ![1, C]⟩ : Shape).Idx → EReal := fun y => db d (y 1)

/-- The convolution itself. -/
def taps (x : (Seq C).Idx → EReal) (w : (⟨2, ![4, C]⟩ : Shape).Idx → EReal) (b : Fin 4) (s : Fin 2048) (c : Fin C) : EReal :=
  w (ix2 0 c) * before x 0 b s c + w (ix2 1 c) * before x 1 b s c + w (ix2 2 c) * before x 2 b s c + w (ix2 3 c) * before x 3 b s c

/-- A cotangent through `a ↦ a · logistic a`, and the cotangent of the convolution under that function. -/
def act (a g : EReal) : EReal := g * (Ideal.logistic a * (1 + a * (1 - Ideal.logistic a)))
def dAct (x : (Seq C).Idx → EReal) (w : (⟨2, ![4, C]⟩ : Shape).Idx → EReal) (g : (Seq C).Idx → EReal) : (Seq C).Idx → EReal :=
  fun y => act (taps x w (y 0) (y 1) (y 2)) (g y)

/-! ## The host's pads, slices and sums -/

theorem sum01 {n0 n1 n2 : Nat} (h : (⟨3, ![n0, n1, n2]⟩ : Shape).ReducesTo [0, 1] (⟨1, ![n2]⟩ : Shape)) (v : (⟨3, ![n0, n1, n2]⟩ : Shape).Idx → EReal)
    (init : EReal) (j : Fin n2) : Ideal.hostReduceAdd h v init (ix1 j) = init + ∑ a, ∑ b, v (ix3 a b j) := by
  show init + _ = _
  congr 1
  rw [← Fintype.sum_prod_type']
  refine Finset.sum_nbij' (fun i => ((i 0 : Fin n0), (i 1 : Fin n1))) (fun p => ix3 p.1 p.2 j) (fun _ _ => Finset.mem_univ _) ?_ ?_ (fun _ _ => rfl) ?_
  · intro p _
    refine Finset.mem_filter.mpr ⟨Finset.mem_univ _, ?_⟩
    funext a; apply Fin.ext
    match a with
    | ⟨0, _⟩ => rfl
  · intro i hi
    have e : (h.drop i) = ix1 j := (Finset.mem_filter.mp hi).2
    have e0 : i 2 = j := Fin.ext (congrArg Fin.val (congrFun e 0))
    subst e0
    funext a
    match a with
    | ⟨0, _⟩ => rfl
    | ⟨1, _⟩ => rfl
    | ⟨2, _⟩ => rfl
  · intro i hi
    have e : (h.drop i) = ix1 j := (Finset.mem_filter.mp hi).2
    have e0 : i 2 = j := Fin.ext (congrArg Fin.val (congrFun e 0))
    subst e0
    refine congrArg v ?_
    funext a
    match a with
    | ⟨0, _⟩ => rfl
    | ⟨1, _⟩ => rfl
    | ⟨2, _⟩ => rfl

/-- One row of the weights' gradient as the host sums it. -/
theorem row_sum (xx x d : (Seq C).Idx → EReal) (j : Fin 4) (hx : ∀ b s k, xx (ix3 b s k) = before x j b s k)
    (z z' : (⟨0, ![]⟩ : Shape).Idx → EReal) (hz : ∀ i, z i = 0) (hz' : ∀ i, z' i = 0)
    (h1 : (⟨3, ![1, 1, C]⟩ : Shape).ReducesTo [0, 1] (⟨1, ![C]⟩ : Shape)) (h2 : (Seq C).ReducesTo [0, 1] (⟨1, ![C]⟩ : Shape)) (hu hu')
    (hc : (⟨1, ![C]⟩ : Shape).ShapeCasts (⟨3, ![1, 1, C]⟩ : Shape)) (k : Fin C) :
    Host.reduceAdd (F := Ideal) (φ := .f32) (shapeCast (⟨3, ![1, 1, C]⟩ : Shape)
        (Host.reduceAdd (F := Ideal) (φ := .f32) (mulf (F := Ideal) (φ := .f32) xx d) z h2 hu) hc) z' h1 hu' (ix1 k) = dw x d j k := by
  refine (sum01 h1 _ _ k).trans ?_
  rw [hz', zero_add, Fin.sum_univ_one, Fin.sum_univ_one]
  refine (shapeCast_apply _ _ _ (ix1 k) (by
    rw [Shape.rowMajor_val_three, Shape.rowMajor_val_one]
    show k.val = (0 * 1 + 0) * C + k.val
    omega)).trans ((sum01 h2 _ _ k).trans ?_)
  rw [hz, zero_add]
  exact Finset.sum_congr rfl fun b _ => Finset.sum_congr rfl fun s _ => (congrArg (· * _) (hx b s k)).trans (mul_comm _ _)

/-- A sum over batches and rows, held as one row of one row and summed once more. -/
theorem sum_twice (v : (Seq C).Idx → EReal) (z : (⟨0, ![]⟩ : Shape).Idx → EReal) (hz : ∀ i, z i = 0)
    (h1 : (⟨3, ![1, 1, C]⟩ : Shape).ReducesTo [0, 1] (⟨1, ![C]⟩ : Shape)) (h2 : (Seq C).ReducesTo [0, 1] (⟨1, ![C]⟩ : Shape)) (hu)
    (hc : (⟨1, ![C]⟩ : Shape).ShapeCasts (⟨3, ![1, 1, C]⟩ : Shape)) (k : Fin C) :
    Ideal.hostReduceAdd h1 (shapeCast (⟨3, ![1, 1, C]⟩ : Shape) (Host.reduceAdd (F := Ideal) (φ := .f32) v z h2 hu) hc) 0 (ix1 k)
      = ∑ b, ∑ s, v (ix3 b s k) := by
  rw [sum01, zero_add, Fin.sum_univ_one, Fin.sum_univ_one]
  have e : shapeCast (⟨3, ![1, 1, C]⟩ : Shape) (Host.reduceAdd (F := Ideal) (φ := .f32) v z h2 hu) hc (ix3 0 0 k)
      = Host.reduceAdd (F := Ideal) (φ := .f32) v z h2 hu (ix1 k) := shapeCast_apply _ _ _ _ (by
        rw [Shape.rowMajor_val_three, Shape.rowMajor_val_one]
        show k.val = (0 * 1 + 0) * C + k.val
        omega)
  rw [e]
  refine (sum01 h2 v _ k).trans ?_
  rw [hz, zero_add]

theorem pad_rows {n C lo hi : Nat} (x : (Seq C).Idx → EReal) {u : Shape} (v : u.Idx → EReal)
    (h : (Seq C).Pads ![0, lo, 0] ![0, hi, 0] ![0, 0, 0] (⟨3, ![4, n, C]⟩ : Shape)) (hu : 0 < u.numel) (b : Fin 4) (s : Fin n) (c : Fin C) (hs : lo ≤ s.val)
    (k : Nat) (hk : s.val - lo = k) :
    pad (⟨3, ![4, n, C]⟩ : Shape) ![0, lo, 0] ![0, hi, 0] ![0, 0, 0] x v h hu (ix3 b s c)
      = if h' : k < 2048 then x (ix3 b ⟨k, h'⟩ c) else v (Shape.Idx.first hu) := by
  subst hk
  by_cases h' : s.val - lo < 2048
  · rw [dif_pos h']
    refine pad_apply_of_inside _ _ _ _ _ _ _ _ _ fun a => ?_
    match a with
    | ⟨0, _⟩ => show b.val = 0 + b.val * (0 + 1); omega
    | ⟨1, _⟩ => show s.val = lo + (s.val - lo) * (0 + 1); omega
    | ⟨2, _⟩ => show c.val = 0 + c.val * (0 + 1); omega
  · rw [dif_neg h']
    refine pad_apply_of_not_inside _ _ _ _ _ _ _ _ 1 ?_
    rintro ⟨_, _, h3⟩
    have h4 : (s.val - lo) / (0 + 1) < 2048 := h3
    omega

/-- The four padded products, summed, are the gradient of the argument. -/
theorem dx_of_pads (w : (⟨2, ![4, C]⟩ : Shape).Idx → EReal) (d p3 p2 p1 p0 : (Seq C).Idx → EReal)
    (h3 : ∀ b s k, p3 (ix3 b s k) = d (ix3 b s k) * w (ix2 3 k)) (h2 : ∀ b s k, p2 (ix3 b s k) = d (ix3 b s k) * w (ix2 2 k))
    (h1 : ∀ b s k, p1 (ix3 b s k) = d (ix3 b s k) * w (ix2 1 k)) (h0 : ∀ b s k, p0 (ix3 b s k) = d (ix3 b s k) * w (ix2 0 k))
    (z3 z2 z1 z0 : EReal) (e3 : z3 = 0) (e2 : z2 = 0) (e1 : z1 = 0) (e0 : z0 = 0) (b : Fin 4) (s : Fin 2048) (k : Fin C) :
    (if h : s.val < 2048 then p3 (ix3 b ⟨s.val, h⟩ k) else z3) + (if h : s.val + 1 < 2048 then p2 (ix3 b ⟨s.val + 1, h⟩ k) else z2)
      + (if h : s.val + 2 < 2048 then p1 (ix3 b ⟨s.val + 2, h⟩ k) else z1) + (if h : s.val + 3 < 2048 then p0 (ix3 b ⟨s.val + 3, h⟩ k) else z0)
      = dx w d b s k := by
  have q (p : (Seq C).Idx → EReal) (j : Fin 4) (o : Nat) (z : EReal) (hz : z = 0) (hp : ∀ b s k, p (ix3 b s k) = d (ix3 b s k) * w (ix2 j k)) :
      (if h : s.val + o < 2048 then p (ix3 b ⟨s.val + o, h⟩ k) else z) = w (ix2 j k) * after d o b s k := by
    unfold after
    by_cases h : s.val + o < 2048
    · rw [dif_pos h, dif_pos h, hp, mul_comm]
    · rw [dif_neg h, dif_neg h, hz, mul_zero]
  rw [q p2 2 1 z2 e2 h2, q p1 1 2 z1 e1 h1, q p0 0 3 z0 e0 h0, dif_pos s.isLt, h3, mul_comm (d _)]
  unfold dx
  abel

theorem pad_tap {C lo hi : Nat} (x : (⟨2, ![1, C]⟩ : Shape).Idx → EReal) {u : Shape} (v : u.Idx → EReal)
    (h : (⟨2, ![1, C]⟩ : Shape).Pads ![lo, 0] ![hi, 0] ![0, 0] (⟨2, ![4, C]⟩ : Shape)) (hu : 0 < u.numel) (j : Fin 4) (c : Fin C) :
    pad (⟨2, ![4, C]⟩ : Shape) ![lo, 0] ![hi, 0] ![0, 0] x v h hu (ix2 j c)
      = if j.val = lo then x (ix2 0 c) else v (Shape.Idx.first hu) := by
  by_cases h' : j.val = lo
  · rw [if_pos h']
    refine pad_apply_of_inside _ _ _ _ _ _ _ _ _ fun a => ?_
    match a with
    | ⟨0, _⟩ => show j.val = lo + 0 * (0 + 1); omega
    | ⟨1, _⟩ => show c.val = 0 + c.val * (0 + 1); omega
  · rw [if_neg h']
    refine pad_apply_of_not_inside _ _ _ _ _ _ _ _ 0 ?_
    rintro ⟨h1, _, h3⟩
    have h4 : (j.val - lo) / (0 + 1) < 1 := h3
    have h1 : lo ≤ j.val := h1
    omega

/-- Of the four padded rows one is not zero. -/
theorem taps_sum (f : Fin 4 → EReal) (z3 z2 z1 z0 : EReal) (e3 : z3 = 0) (e2 : z2 = 0) (e1 : z1 = 0) (e0 : z0 = 0) (j : Fin 4) :
    (if j.val = 3 then f 3 else z3) + (if j.val = 2 then f 2 else z2) + (if j.val = 1 then f 1 else z1) + (if j.val = 0 then f 0 else z0) = f j := by
  subst e3 e2 e1 e0
  fin_cases j <;> simp

/-- Three rows of zeros before the first, then the window of 2048 rows at `j`. -/
theorem concat_rows (z : (⟨3, ![4, 3, C]⟩ : Shape).Idx → EReal) (hz : ∀ i, z i = 0) (x : (Seq C).Idx → EReal)
    (hc : Shape.Concatenates [(⟨3, ![4, 3, C]⟩ : Shape), Seq C] (⟨3, ![4, 2051, C]⟩ : Shape) 1) (j : Fin 4) (b : Fin 4) (s : Fin 2048) (c : Fin C)
    (r : Fin 2051) (hr : r.val = s.val + j.val) :
    concatenate (⟨3, ![4, 2051, C]⟩ : Shape) 1 [⟨(⟨3, ![4, 3, C]⟩ : Shape), z⟩, ⟨Seq C, x⟩] hc (ix3 b r c) = before x j b s c := by
  rw [before]
  by_cases h : s.val + j.val < 3
  · rw [dif_pos h]
    refine Eq.trans (concatenate_pair_apply_left 1 z x hc _ rfl (ix3 b ⟨r.val, by omega⟩ c) ?_) (hz _)
    intro a; match a with
    | ⟨0, _⟩ => rfl
    | ⟨1, _⟩ => rfl
    | ⟨2, _⟩ => rfl
  · rw [dif_neg h]
    refine concatenate_pair_apply_right 1 z x hc _ rfl rfl (ix3 b ⟨s.val + j.val - 3, by omega⟩ c) ?_ (show s.val + j.val - 3 + 3 = r.val by omega)
    intro a ha; match a, ha with
    | ⟨0, _⟩, _ => rfl
    | ⟨1, _⟩, ha => exact absurd rfl ha
    | ⟨2, _⟩, _ => rfl

/-! ## The padded copies of the kernel -/

section pads
variable {sig : RefSig} {κ : Kind} {sp : Space} (v : View sig κ sp (⟨2, ![2056, 128]⟩ : Shape) .f32)
variable (P : (⟨2, ![2048, 128]⟩ : Shape).Idx → EReal) (Z : (⟨2, ![8, 128]⟩ : Shape).Idx → EReal) (hZ : ∀ i, Z i = 0)
include hZ

/-- The block above eight rows of zeros, read from row `o`. -/
theorem read_above (o : Nat) (i1 : ∀ a, (![2048, 0] : Fin 2 → Nat) a + (⟨2, ![8, 128]⟩ : Shape).size a ≤ (⟨2, ![2056, 128]⟩ : Shape).size a)
    (i2 : ∀ a, (![0, 0] : Fin 2 → Nat) a + (⟨2, ![2048, 128]⟩ : Shape).size a ≤ (⟨2, ![2056, 128]⟩ : Shape).size a)
    (i3 : ∀ a, (![o, 0] : Fin 2 → Nat) a + (⟨2, ![2048, 128]⟩ : Shape).size a ≤ (⟨2, ![2056, 128]⟩ : Shape).size a) (i : Fin 2048) (j : Fin 128) :
    View.readCov (Val := Elt Ideal) v [⟨Rect.unit ![2048, 0] (⟨2, ![8, 128]⟩ : Shape).size i1, Z⟩, ⟨Rect.unit ![0, 0] (⟨2, ![2048, 128]⟩ : Shape).size i2, P⟩]
      (Rect.unit (s := (⟨2, ![2056, 128]⟩ : Shape)) ![o, 0] (⟨2, ![2048, 128]⟩ : Shape).size i3).toLoadRect (ix2 i j)
      = if h : i.val + o < 2048 then P (ix2 ⟨i.val + o, h⟩ j) else 0 := by
  have ho : o + 2048 ≤ 2056 := i3 0
  rw [View.readCov_eq_canon']
  have e0 : (((Rect.unit (s := (⟨2, ![2056, 128]⟩ : Shape)) ![o, 0] (⟨2, ![2048, 128]⟩ : Shape).size i3).idx (ix2 i j)) 0).val = o + i.val := Rect.idx_unit_val ..
  have e1 : (((Rect.unit (s := (⟨2, ![2056, 128]⟩ : Shape)) ![o, 0] (⟨2, ![2048, 128]⟩ : Shape).size i3).idx (ix2 i j)) 1).val = j.val :=
    (Rect.idx_unit_val ..).trans (Nat.zero_add _)
  refine View.canon_eq_of_allAt _ _ _ ?_ (View.allAt_cons_unit _ _ i1 _ _ ?_ (View.allAt_cons_unit _ _ i2 _ _ ?_ (View.allAt_nil _ _)))
  · by_cases h : i.val + o < 2048
    · refine ⟨⟨Rect.unit ![0, 0] (⟨2, ![2048, 128]⟩ : Shape).size i2, P⟩, List.mem_cons_of_mem _ (List.mem_cons_self ..), (Rect.mem_set_unit (inb := i2)).mpr fun a => ?_⟩
      match a with
      | ⟨0, _⟩ => exact ⟨Nat.zero_le _, lt_of_eq_of_lt e0 (by show o + i.val < 0 + 2048; omega)⟩
      | ⟨1, _⟩ => exact ⟨Nat.zero_le _, lt_of_eq_of_lt e1 (by show j.val < 0 + 128; omega)⟩
    · refine ⟨⟨Rect.unit ![2048, 0] (⟨2, ![8, 128]⟩ : Shape).size i1, Z⟩, List.mem_cons_self .., (Rect.mem_set_unit (inb := i1)).mpr fun a => ?_⟩
      match a with
      | ⟨0, _⟩ => exact ⟨le_of_le_of_eq (by show 2048 ≤ o + i.val; omega) e0.symm, lt_of_eq_of_lt e0 (by show o + i.val < 2048 + 8; omega)⟩
      | ⟨1, _⟩ => exact ⟨Nat.zero_le _, lt_of_eq_of_lt e1 (by show j.val < 0 + 128; omega)⟩
  · intro x hx
    have h0 : _ = 2048 + (x 0).val := hx 0
    have h0' := e0.symm.trans h0
    rw [dif_neg (by omega)]
    exact hZ x
  · intro x hx
    have h0 : _ = 0 + (x 0).val := hx 0
    have h1 : _ = 0 + (x 1).val := hx 1
    have h0' := e0.symm.trans h0
    have h1' := e1.symm.trans h1
    have hx0 : (x 0).val < 2048 := (x 0).isLt
    rw [dif_pos (by omega)]
    refine congrArg P ?_
    funext a; apply Fin.ext
    match a with
    | ⟨0, _⟩ => show (x 0).val = i.val + o; omega
    | ⟨1, _⟩ => show (x 1).val = j.val; omega

/-- The block below eight rows of zeros, read from row `o`. -/
theorem read_below (o : Nat) (i1 : ∀ a, (![8, 0] : Fin 2 → Nat) a + (⟨2, ![2048, 128]⟩ : Shape).size a ≤ (⟨2, ![2056, 128]⟩ : Shape).size a)
    (i2 : ∀ a, (![0, 0] : Fin 2 → Nat) a + (⟨2, ![8, 128]⟩ : Shape).size a ≤ (⟨2, ![2056, 128]⟩ : Shape).size a)
    (i3 : ∀ a, (![o, 0] : Fin 2 → Nat) a + (⟨2, ![2048, 128]⟩ : Shape).size a ≤ (⟨2, ![2056, 128]⟩ : Shape).size a) (i : Fin 2048) (j : Fin 128) :
    View.readCov (Val := Elt Ideal) v [⟨Rect.unit ![8, 0] (⟨2, ![2048, 128]⟩ : Shape).size i1, P⟩, ⟨Rect.unit ![0, 0] (⟨2, ![8, 128]⟩ : Shape).size i2, Z⟩]
      (Rect.unit (s := (⟨2, ![2056, 128]⟩ : Shape)) ![o, 0] (⟨2, ![2048, 128]⟩ : Shape).size i3).toLoadRect (ix2 i j)
      = if h : i.val + o < 8 then 0 else P (ix2 ⟨i.val + o - 8, by have := i3 0; have : o + 2048 ≤ 2056 := this; omega⟩ j) := by
  have ho : o + 2048 ≤ 2056 := i3 0
  rw [View.readCov_eq_canon']
  have e0 : (((Rect.unit (s := (⟨2, ![2056, 128]⟩ : Shape)) ![o, 0] (⟨2, ![2048, 128]⟩ : Shape).size i3).idx (ix2 i j)) 0).val = o + i.val := Rect.idx_unit_val ..
  have e1 : (((Rect.unit (s := (⟨2, ![2056, 128]⟩ : Shape)) ![o, 0] (⟨2, ![2048, 128]⟩ : Shape).size i3).idx (ix2 i j)) 1).val = j.val :=
    (Rect.idx_unit_val ..).trans (Nat.zero_add _)
  refine View.canon_eq_of_allAt _ _ _ ?_ (View.allAt_cons_unit _ _ i1 _ _ ?_ (View.allAt_cons_unit _ _ i2 _ _ ?_ (View.allAt_nil _ _)))
  · by_cases h : i.val + o < 8
    · refine ⟨⟨Rect.unit ![0, 0] (⟨2, ![8, 128]⟩ : Shape).size i2, Z⟩, List.mem_cons_of_mem _ (List.mem_cons_self ..), (Rect.mem_set_unit (inb := i2)).mpr fun a => ?_⟩
      match a with
      | ⟨0, _⟩ => exact ⟨Nat.zero_le _, lt_of_eq_of_lt e0 (by show o + i.val < 0 + 8; omega)⟩
      | ⟨1, _⟩ => exact ⟨Nat.zero_le _, lt_of_eq_of_lt e1 (by show j.val < 0 + 128; omega)⟩
    · refine ⟨⟨Rect.unit ![8, 0] (⟨2, ![2048, 128]⟩ : Shape).size i1, P⟩, List.mem_cons_self .., (Rect.mem_set_unit (inb := i1)).mpr fun a => ?_⟩
      match a with
      | ⟨0, _⟩ => exact ⟨le_of_le_of_eq (by show 8 ≤ o + i.val; omega) e0.symm, lt_of_eq_of_lt e0 (by show o + i.val < 8 + 2048; omega)⟩
      | ⟨1, _⟩ => exact ⟨Nat.zero_le _, lt_of_eq_of_lt e1 (by show j.val < 0 + 128; omega)⟩
  · intro x hx
    have h0 : _ = 8 + (x 0).val := hx 0
    have h1 : _ = 0 + (x 1).val := hx 1
    have h0' := e0.symm.trans h0
    have h1' := e1.symm.trans h1
    rw [dif_neg (by omega)]
    refine congrArg P ?_
    funext a; apply Fin.ext
    match a with
    | ⟨0, _⟩ => show (x 0).val = i.val + o - 8; omega
    | ⟨1, _⟩ => show (x 1).val = j.val; omega
  · intro x hx
    have h0 : _ = 0 + (x 0).val := hx 0
    have h0' := e0.symm.trans h0
    have hx0 : (x 0).val < 8 := (x 0).isLt
    rw [dif_pos (by omega)]
    exact hZ x

variable {C : Nat} (D : (Seq C).Idx → EReal) (b : Fin 4) (e : Fin C) (k : Fin 128) (hP : ∀ i, P (ix2 i k) = D (ix3 b i e))
include hP

/-- The rows below a row, read from the padded copy of a batch. -/
theorem read_after (o : Nat) (i1 : ∀ a, (![2048, 0] : Fin 2 → Nat) a + (⟨2, ![8, 128]⟩ : Shape).size a ≤ (⟨2, ![2056, 128]⟩ : Shape).size a)
    (i2 : ∀ a, (![0, 0] : Fin 2 → Nat) a + (⟨2, ![2048, 128]⟩ : Shape).size a ≤ (⟨2, ![2056, 128]⟩ : Shape).size a)
    (i3 : ∀ a, (![o, 0] : Fin 2 → Nat) a + (⟨2, ![2048, 128]⟩ : Shape).size a ≤ (⟨2, ![2056, 128]⟩ : Shape).size a) (i : Fin 2048) :
    View.readCov (Val := Elt Ideal) v [⟨Rect.unit ![2048, 0] (⟨2, ![8, 128]⟩ : Shape).size i1, Z⟩, ⟨Rect.unit ![0, 0] (⟨2, ![2048, 128]⟩ : Shape).size i2, P⟩]
      (Rect.unit (s := (⟨2, ![2056, 128]⟩ : Shape)) ![o, 0] (⟨2, ![2048, 128]⟩ : Shape).size i3).toLoadRect (ix2 i k)
      = after D o b i e := by
  rw [read_above v P Z hZ o i1 i2 i3 i k]
  unfold after
  by_cases h : i.val + o < 2048
  · rw [dif_pos h, dif_pos h]; exact hP _
  · rw [dif_neg h, dif_neg h]

/-- The rows above a row, read from the padded copy of a batch. -/
theorem read_before (j : Fin 4) (o : Nat) (ho : o = 5 + j.val)
    (i1 : ∀ a, (![8, 0] : Fin 2 → Nat) a + (⟨2, ![2048, 128]⟩ : Shape).size a ≤ (⟨2, ![2056, 128]⟩ : Shape).size a)
    (i2 : ∀ a, (![0, 0] : Fin 2 → Nat) a + (⟨2, ![8, 128]⟩ : Shape).size a ≤ (⟨2, ![2056, 128]⟩ : Shape).size a)
    (i3 : ∀ a, (![o, 0] : Fin 2 → Nat) a + (⟨2, ![2048, 128]⟩ : Shape).size a ≤ (⟨2, ![2056, 128]⟩ : Shape).size a) (i : Fin 2048) :
    View.readCov (Val := Elt Ideal) v [⟨Rect.unit ![8, 0] (⟨2, ![2048, 128]⟩ : Shape).size i1, P⟩, ⟨Rect.unit ![0, 0] (⟨2, ![8, 128]⟩ : Shape).size i2, Z⟩]
      (Rect.unit (s := (⟨2, ![2056, 128]⟩ : Shape)) ![o, 0] (⟨2, ![2048, 128]⟩ : Shape).size i3).toLoadRect (ix2 i k)
      = before D j b i e := by
  rw [read_below v P Z hZ o i1 i2 i3 i k]
  subst ho
  unfold before
  by_cases h : i.val + j.val < 3
  · rw [dif_pos (by omega), dif_pos h]
  · rw [dif_neg (by omega), dif_neg h]
    refine (hP _).trans (congrArg (fun s => D (ix3 b s e)) (Fin.ext ?_))
    show i.val + (5 + j.val) - 8 = i.val + j.val - 3; omega

end pads

/-- The row of a block of four that a stored row is. -/
theorem place {j : Fin 4} {k : Fin 128} {x : (⟨2, ![1, 128]⟩ : Shape).Idx} (o : Fin 4) (h0 : j.val = o.val + (x 0).val) (h1 : k.val = (x 1).val) :
    j = o ∧ x = ix2 0 k := by
  have hx : (x 0).val < 1 := (x 0).isLt
  refine ⟨Fin.ext (by omega), ?_⟩
  funext a; apply Fin.ext
  match a with
  | ⟨0, _⟩ => show (x 0).val = 0; omega
  | ⟨1, _⟩ => exact h1.symm

theorem ld_row (x : (⟨2, ![4, 128]⟩ : Shape).Idx → EReal) (o : Fin 4) (inb) (k : Fin 128) :
    View.ld (Val := Elt Ideal) (e' := .f32) x (Rect.unit (s := (⟨2, ![4, 128]⟩ : Shape)) ![o.val, 0] ![1, 128] inb) (ix2 0 k) = x (ix2 o k) := by
  refine congrArg x ?_
  funext a; apply Fin.ext
  match a with
  | ⟨0, _⟩ => show o.val + 1 * 0 = o.val; omega
  | ⟨1, _⟩ => show 0 + 1 * k.val = k.val; omega

end Cert.Conv

end
-- ==== Proof.ConvValue.lean ====
/- The three arrays the convolution's gradient kernel leaves. -/
module

public import proofs.«01_k».proof.Proof.Conv
public import proofs.«01_k».proof.Proof.Gen.ConvBwdIdeal.Value

@[expose] public section

set_option maxRecDepth 16384

noncomputable section

open Idealize.ShloMosaic Idealize.ShloMosaic.TcCoe Idealize.SL.Sem
open Idealize.ShloMosaic.Pipeline (Dat)

namespace Cert.ConvBwdIdeal.Cv

open Cert.ConvBwdIdeal Cert.ConvBwdIdeal.Gen Cert.Conv

variable (m : (ℓ : Loc nD τ sig) → Buf (Elt Ideal) ℓ)

theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] ∧ win0_5.index t = ![0, t.val / 4] ∧ win0_6.index t = ![0, t.val / 4] :=
  (by decide +kernel : ∀ t : Fin grid0.N, _)

variable (c : Dev nD)

/-- The batch and the channels of a grid point. -/
def bt (t : Fin cfg0.N) : Fin 4 := ⟨t.val % 4, by omega⟩
def ch (t : Fin cfg0.N) (k : Fin 128) : Fin 512 := ⟨t.val / 4 * 128 + k.val, by have := t.isLt; have h : cfg0.N = 16 := N_0; omega⟩

/-- The arguments: the convolved array, the weights and the cotangent. -/
abbrev aX : (Seq 512).Idx → EReal := (show FVec Ideal S4x2048x512 .f32 from m ((c : Thread nD τ).loc main_arg0))
abbrev aW : (⟨2, ![4, 512]⟩ : Shape).Idx → EReal := (show FVec Ideal S4x512 .f32 from m ((c : Thread nD τ).loc main_arg1))
abbrev aD : (Seq 512).Idx → EReal := (show FVec Ideal S4x2048x512 .f32 from m ((c : Thread nD τ).loc main_arg3))

theorem blk0 (t : Fin cfg0.N) (i : Fin 2048) (k : Fin 128) :
    (show FVec Ideal S2048x128 .f32 from iblk m c 0 t) (ix2 i k) = aX m c (ix3 (bt t) i (ch t k)) := by
  blk_simp [iblk, idx t]; entry_read; pointwise; blk_ext [idx t, bt, ch]

theorem blk1 (t : Fin cfg0.N) (j : Fin 4) (k : Fin 128) :
    (show FVec Ideal S4x128 .f32 from iblk m c 1 t) (ix2 j k) = aW m c (ix2 j (ch t k)) := by
  blk_ext [iblk, V, idx t, ch]

theorem blk3 (t : Fin cfg0.N) (i : Fin 2048) (k : Fin 128) :
    (show FVec Ideal S2048x128 .f32 from iblk m c 3 t) (ix2 i k) = aD m c (ix3 (bt t) i (ch t k)) := by
  blk_simp [iblk, idx t]; entry_read; pointwise; blk_ext [idx t, bt, ch]

theorem pay9_at (x : FVec Ideal S2048x128 .f32) (i : Fin 2048) (k : Fin 128) : k0_pay9 (F := Ideal) x (ix2 i k) = x (ix2 i k) := by
  pointwise [k0_pay9, k0_pay8]
theorem pay7_at (x : FVec Ideal S2048x128 .f32) (i : Fin 2048) (k : Fin 128) : k0_pay7 (F := Ideal) x (ix2 i k) = x (ix2 i k) := by
  pointwise [k0_pay7]
theorem pay6_at (i : S8x128.Idx) : k0_pay6 (F := Ideal) i = 0 := by pointwise [k0_pay6]
theorem pay10_at (i : S8x128.Idx) : k0_pay10 (F := Ideal) i = 0 := by pointwise [k0_pay10]

/-- The cotangent's rows below a row, in the padded copy. -/
theorem pay9_blk (t : Fin cfg0.N) (k : Fin 128) (i : Fin 2048) : k0_pay9 (F := Ideal) (iblk m c 3 t) (ix2 i k) = aD m c (ix3 (bt t) i (ch t k)) :=
  (pay9_at _ i k).trans (blk3 m c t i k)

/-- The block of the argument's gradient. -/
theorem key4 (t : Fin cfg0.N) (i : Fin 2048) (k : Fin 128) (a3 a2 a1 : FVec Ideal S2048x128 .f32)
    (h3 : a3 (ix2 i k) = after (aD m c) 3 (bt t) i (ch t k)) (h2 : a2 (ix2 i k) = after (aD m c) 2 (bt t) i (ch t k))
    (h1 : a1 (ix2 i k) = after (aD m c) 1 (bt t) i (ch t k)) :
    k0_pay12 (F := Ideal)
      (k0_pay11 (View.ld (iblk m c 1 t) (Rect.unit ![0, 0] ![1, 128] inb_S4x128_S1x128_0_0)) a3
        (View.ld (iblk m c 1 t) (Rect.unit ![1, 0] ![1, 128] inb_S4x128_S1x128_1_0)) a2)
      (View.ld (iblk m c 1 t) (Rect.unit ![2, 0] ![1, 128] inb_S4x128_S1x128_2_0)) a1
      (View.ld (iblk m c 1 t) (Rect.unit ![3, 0] ![1, 128] inb_S4x128_S1x128_3_0)) (k0_pay9 (iblk m c 3 t)) (ix2 i k)
      = dx (aW m c) (aD m c) (bt t) i (ch t k) := by
  have w := fun j => blk1 m c t j k
  pointwise [k0_pay11, k0_pay12]
  exact congrArg₂ (· + ·) (congrArg₂ (· + ·) (congrArg₂ (· + ·) (congrArg₂ (· * ·) (w 0) h3) (congrArg₂ (· * ·) (w 1) h2)) (congrArg₂ (· * ·) (w 2) h1))
    (congrArg₂ (· * ·) (w 3) (pay9_blk m c t k i))

theorem out4 (t : Fin cfg0.N) (i : Fin 2048) (k : Fin 128) : (outsAt0 m c t.val t.isLt).1 (ix2 i k) = dx (aW m c) (aD m c) (bt t) i (ch t k) := by
  by_cases h : t.val % 4 = 0
  · rw [outsAt0_A m c t h (by omega) h (by omega) h (by omega) h (by omega) h (by omega)]
    frame_open
    simp (disch := decide) only [↓ View.readCov_skip, ↓ View.readCov_cons_toLoadRect, ↓ View.readCov_fill]
    frame_out
    exact key4 m c t i k _ _ _ (read_after _ _ _ pay10_at _ _ _ _ (pay9_blk m c t k) 3 _ _ _ i)
      (read_after _ _ _ pay10_at _ _ _ _ (pay9_blk m c t k) 2 _ _ _ i) (read_after _ _ _ pay10_at _ _ _ _ (pay9_blk m c t k) 1 _ _ _ i)
  · rw [outsAt0_B m c t h (by omega) h (by omega) h (by omega) h (by omega) h (by omega)]
    frame_open
    simp (disch := decide) only [↓ View.readCov_skip, ↓ View.readCov_cons_toLoadRect, ↓ View.readCov_fill]
    frame_out
    exact key4 m c t i k _ _ _ (read_after _ _ _ pay10_at _ _ _ _ (pay9_blk m c t k) 3 _ _ _ i)
      (read_after _ _ _ pay10_at _ _ _ _ (pay9_blk m c t k) 2 _ _ _ i) (read_after _ _ _ pay10_at _ _ _ _ (pay9_blk m c t k) 1 _ _ _ i)

/-- What a grid point adds to the weights' gradient, and to the bias's. -/
def wPart (t : Fin cfg0.N) : FVec Ideal S4x128 .f32 :=
  fun y => ∑ i, aD m c (ix3 (bt t) i (ch t (y 1))) * before (aX m c) (y 0) (bt t) i (ch t (y 1))
def bPart (t : Fin cfg0.N) : FVec Ideal S1x128 .f32 := fun y => ∑ i, aD m c (ix3 (bt t) i (ch t (y 1)))

theorem sum_at (d x : FVec Ideal S2048x128 .f32) (k : Fin 128) :
    k0_pay2 (F := Ideal) d x (ix2 0 k) = ∑ i, d (ix2 i k) * x (ix2 i k) := by pointwise [k0_pay2]

theorem add_at (d x : FVec Ideal S1x128 .f32) (k : Fin 128) :
    k0_pay1 (F := Ideal) d x (ix2 0 k) = x (ix2 0 k) + d (ix2 0 k) := by pointwise [k0_pay1]

theorem pay8_at (t : Fin cfg0.N) (i : Fin 2048) (k : Fin 128) : k0_pay8 (F := Ideal) (iblk m c 3 t) (ix2 i k) = aD m c (ix3 (bt t) i (ch t k)) := by
  refine Eq.trans ?_ (blk3 m c t i k); pointwise [k0_pay8]

/-- One row of the weights' gradient. -/
theorem part_at (t : Fin cfg0.N) (j : Fin 4) (x : FVec Ideal S2048x128 .f32) (hx : ∀ i k, x (ix2 i k) = before (aX m c) j (bt t) i (ch t k)) (k : Fin 128) :
    k0_pay2 (F := Ideal) (k0_pay8 (iblk m c 3 t)) x (ix2 0 k) = wPart m c t (ix2 j k) := by
  rw [sum_at]
  exact Finset.sum_congr rfl fun i _ => congrArg₂ (· * ·) (pay8_at m c t i k) (hx i k)

theorem tap (t : Fin cfg0.N) (v : View sig .tc .vmem S2056x128 .f32) (j : Fin 4) (o : Nat) (ho : o = 5 + j.val) (inb) (i : Fin 2048) (k : Fin 128) :
    v.readCov (Val := Elt Ideal) [⟨Rect.unit ![8, 0] ![2048, 128] inb_S2056x128_S2048x128_8_0, k0_pay7 (F := Ideal) (iblk m c 0 t)⟩,
      ⟨Rect.unit ![0, 0] ![8, 128] inb_S2056x128_S8x128_0_0, k0_pay6 (F := Ideal)⟩]
      (Rect.unit (s := S2056x128) ![o, 0] ![2048, 128] inb).toLoadRect (ix2 i k) = before (aX m c) j (bt t) i (ch t k) :=
  read_before _ _ _ pay6_at _ _ _ _ (fun i => (pay7_at _ i k).trans (blk0 m c t i k)) j o ho _ _ _ i

theorem tap3 (t : Fin cfg0.N) (i : Fin 2048) (k : Fin 128) : k0_pay7 (F := Ideal) (iblk m c 0 t) (ix2 i k) = before (aX m c) 3 (bt t) i (ch t k) := by
  rw [before_last, pay7_at]; exact blk0 m c t i k

theorem out5_A (t : Fin cfg0.N) (h : t.val % 4 = 0) (j : Fin 4) (k : Fin 128) : (outsAt0 m c t.val t.isLt).2.1 (ix2 j k) = wPart m c t (ix2 j k) := by
  rw [outsAt0_A m c t h (by omega) h (by omega) h (by omega) h (by omega) h (by omega)]
  frame_open
  simp (disch := decide) only [↓ View.readCov_skip, ↓ View.readCov_cons_toLoadRect, ↓ View.readCov_fill]
  frame_out
  canon_tiles x h
  · obtain ⟨rfl, rfl⟩ := place 3 h0 h1
    exact part_at m c t 3 _ (tap3 m c t) k
  · obtain ⟨rfl, rfl⟩ := place 2 h0 h1
    exact part_at m c t 2 _ (tap m c t _ 2 7 rfl _) k
  · obtain ⟨rfl, rfl⟩ := place 1 h0 h1
    exact part_at m c t 1 _ (tap m c t _ 1 6 rfl _) k
  · obtain ⟨rfl, rfl⟩ := place 0 (h0.trans (Nat.zero_add _).symm) h1
    exact part_at m c t 0 _ (tap m c t _ 0 5 rfl _) k

theorem out5_B (t : Fin cfg0.N) (h : ¬t.val % 4 = 0) (j : Fin 4) (k : Fin 128) : (outsAt0 m c t.val t.isLt).2.1 (ix2 j k)
    = (outsAt0 m c (t.val - 1) (Nat.lt_of_le_of_lt (Nat.sub_le _ _) t.isLt)).2.1 (ix2 j k) + wPart m c t (ix2 j k) := by
  rw [outsAt0_B m c t h (by omega) h (by omega) h (by omega) h (by omega) h (by omega)]
  frame_open
  simp (disch := decide) only [↓ View.readCov_skip, ↓ View.readCov_cons_toLoadRect, ↓ View.readCov_fill]
  frame_out
  canon_tiles x h
  · obtain ⟨rfl, rfl⟩ := place 3 h0 h1
    exact (add_at _ _ k).trans (congrArg₂ (· + ·) (ld_row _ 3 _ k) (part_at m c t 3 _ (tap3 m c t) k))
  · obtain ⟨rfl, rfl⟩ := place 2 h0 h1
    exact (add_at _ _ k).trans (congrArg₂ (· + ·) (ld_row _ 2 _ k) (part_at m c t 2 _ (tap m c t _ 2 7 rfl _) k))
  · obtain ⟨rfl, rfl⟩ := place 1 h0 h1
    exact (add_at _ _ k).trans (congrArg₂ (· + ·) (ld_row _ 1 _ k) (part_at m c t 1 _ (tap m c t _ 1 6 rfl _) k))
  · obtain ⟨rfl, rfl⟩ := place 0 (h0.trans (Nat.zero_add _).symm) h1
    exact (add_at _ _ k).trans (congrArg₂ (· + ·) (ld_row _ 0 _ k) (part_at m c t 0 _ (tap m c t _ 0 5 rfl _) k))

theorem bsum_at (t : Fin cfg0.N) (k : Fin 128) : k0_pay4 (F := Ideal) (k0_pay8 (iblk m c 3 t)) (ix2 0 k) = bPart m c t (ix2 0 k) := by
  refine Eq.trans ?_ (Finset.sum_congr rfl fun i _ => pay8_at m c t i k)
  pointwise [k0_pay4]

theorem out6_A (t : Fin cfg0.N) (h : t.val % 4 = 0) (k : Fin 128) : (outsAt0 m c t.val t.isLt).2.2 (ix2 0 k) = bPart m c t (ix2 0 k) := by
  rw [outsAt0_A m c t h (by omega) h (by omega) h (by omega) h (by omega) h (by omega)]
  frame_open
  frame_out
  exact bsum_at m c t k

theorem out6_B (t : Fin cfg0.N) (h : ¬t.val % 4 = 0) (k : Fin 128) : (outsAt0 m c t.val t.isLt).2.2 (ix2 0 k)
    = (outsAt0 m c (t.val - 1) (Nat.lt_of_le_of_lt (Nat.sub_le _ _) t.isLt)).2.2 (ix2 0 k) + bPart m c t (ix2 0 k) := by
  rw [outsAt0_B m c t h (by omega) h (by omega) h (by omega) h (by omega) h (by omega)]
  frame_open
  frame_out
  exact (add_at _ _ k).trans (congrArg (_ + ·) (bsum_at m c t k))

theorem final4 : (dats m 0 c).arrAt 4 cfg0.N = rX (aW m c) (aD m c) := by
  refine (dats m 0 c).arrAt_eq_of_covers 4 _ (by decide +kernel) fun t _ y => ?_
  have e : ((cfg0.win 4).blk t).view.emb y = (ix2 ⟨(bt t).val * 2048 + (y 0).val, by have := (bt t).isLt; have h : (y 0).val < 2048 := (y 0).isLt; omega⟩ (ch t (y 1)) : S8192x512.Idx) := by
    blk_ext [bt, ch, idx t]
  rw [e]
  blk_simp
  rw [after0_4]
  refine (congrArg _ (eq_ix2 y)).trans ((out4 m c t (y 0) (y 1)).trans ?_)
  have hy : (y 0).val < 2048 := (y 0).isLt
  refine congrArg₂ (fun b s => dx (aW m c) (aD m c) b s (ch t (y 1))) (Fin.ext ?_) (Fin.ext ?_)
  · show (bt t).val = ((bt t).val * 2048 + (y 0).val) / 2048; omega
  · show (y 0).val = ((bt t).val * 2048 + (y 0).val) % 2048; omega

/-- The sum over the points of a group of channels is the sum over the batches. -/
theorem sum_batches (t : Fin cfg0.N) (f : Fin 4 → Fin 512 → EReal) (k : Fin 128) (hl : ∀ s : Fin 4, 4 * (t.val / 4) + s.val < cfg0.N) :
    ∑ s : Fin 4, f (bt ⟨4 * (t.val / 4) + s.val, hl s⟩) (ch ⟨4 * (t.val / 4) + s.val, hl s⟩ k) = ∑ b, f b (ch t k) := by
  refine Finset.sum_congr rfl fun s _ => congrArg₂ f (Fin.ext ?_) (Fin.ext ?_)
  · show (4 * (t.val / 4) + s.val) % 4 = s.val; omega
  · show (4 * (t.val / 4) + s.val) / 4 * 128 + k.val = t.val / 4 * 128 + k.val; omega

theorem final5 : (dats m 0 c).arrAt 5 cfg0.N = rW (aX m c) (aD m c) := by
  refine (dats m 0 c).arrAt_eq_of_covers 5 _ (by decide +kernel) fun t hf y => ?_
  have e : ((cfg0.win 5).blk t).view.emb y = (ix2 (y 0) (ch t (y 1)) : S4x512.Idx) := by blk_ext [ch, idx t]
  rw [e]
  blk_simp
  rw [after0_5, Pipeline.eq_sum_fin_of_reset_step_apply_of_flush (fun n h => (outsAt0 m c n h).2.1) 4 (fun _ => 0) (fun p => wPart m c p)
    (fun t h j => by rw [zero_add]; exact (congrArg _ (eq_ix2 j)).trans ((out5_A m c t h (j 0) (j 1)).trans (congrArg _ (eq_ix2 j).symm)))
    (fun t h j => by rw [eq_ix2 j]; exact out5_B m c t h (j 0) (j 1))
    t ((flush0_5 t).mp hf) y, zero_add]
  exact sum_batches t (fun b k => ∑ i, aD m c (ix3 b i k) * before (aX m c) (y 0) b i k) (y 1) _

theorem final6 : (dats m 0 c).arrAt 6 cfg0.N = rB (aD m c) := by
  refine (dats m 0 c).arrAt_eq_of_covers 6 _ (by decide +kernel) fun t hf y => ?_
  have e : ((cfg0.win 6).blk t).view.emb y = (ix2 0 (ch t (y 1)) : S1x512.Idx) := by blk_ext [ch, idx t]
  rw [e]
  blk_simp
  have ey : y = ix2 0 (y 1) := by idx_vars y; rw [Subsingleton.elim y0 0]; rfl
  rw [after0_6, Pipeline.eq_sum_fin_of_reset_step_apply_of_flush (fun n h => (outsAt0 m c n h).2.2) 4 (fun _ => 0) (fun p => bPart m c p)
    (fun t h j => by
      have ej : j = ix2 0 (j 1) := by idx_vars j; rw [Subsingleton.elim j0 0]; rfl
      rw [zero_add, ej]; exact out6_A m c t h (j 1))
    (fun t h j => by
      have ej : j = ix2 0 (j 1) := by idx_vars j; rw [Subsingleton.elim j0 0]; rfl
      rw [ej]; exact out6_B m c t h (j 1))
    t ((flush0_6 t).mp hf) y, zero_add]
  exact sum_batches t (fun b k => ∑ i, aD m c (ix3 b i k)) (y 1) _

end Cert.ConvBwdIdeal.Cv

end
-- ==== Proof.ConvRef.lean ====
/- The three arrays of the convolution's reference. -/
module

public import proofs.«01_k».proof.Proof.Conv
public import proofs.«01_k».proof.Proof.Gen.ConvBwdRefIdeal.Read

@[expose] public section

set_option maxRecDepth 16384

noncomputable section

open Idealize.ShloMosaic Idealize.ShloMosaic.TcCoe Idealize.SL.Sem

namespace Cert.ConvBwdRefIdeal.Cv

open Cert.ConvBwdRefIdeal Cert.ConvBwdRefIdeal.Gen Cert.ConvBwdRefIdeal.Read Cert.Conv

variable (x d : FVec Ideal S4x2048x512 .f32) (w : FVec Ideal S4x512 .f32)

theorem z0 (i : S4x3x512.Idx) : val_main_v0 (F := Ideal) i = 0 := by pointwise [val_main_v0, val_main_cst]
theorem z2 (i : S4x3x512.Idx) : val_main_v2 (F := Ideal) i = 0 := by pointwise [val_main_v2, val_main_cst_0]

/-- The shifted arguments. -/
theorem v3 (b : Fin 4) (s : Fin 2048) (k : Fin 512) : val_main_v3 (F := Ideal) x (ix3 b s k) = before x 0 b s k := by
  pointwise [val_main_v3]; exact concat_rows _ z0 x _ 0 b s k _ rfl
theorem v9 (b : Fin 4) (s : Fin 2048) (k : Fin 512) : val_main_v9 (F := Ideal) x (ix3 b s k) = before x 1 b s k := by
  pointwise [val_main_v9]; exact concat_rows _ z0 x _ 1 b s k _ (Nat.add_comm _ _)
theorem v16 (b : Fin 4) (s : Fin 2048) (k : Fin 512) : val_main_v16 (F := Ideal) x (ix3 b s k) = before x 2 b s k := by
  pointwise [val_main_v16]; exact concat_rows _ z0 x _ 2 b s k _ (Nat.add_comm _ _)
theorem v23 (b : Fin 4) (s : Fin 2048) (k : Fin 512) : val_main_v23 (F := Ideal) x (ix3 b s k) = before x 3 b s k := by
  pointwise [val_main_v23]; exact concat_rows _ z0 x _ 3 b s k _ (Nat.add_comm _ _)

theorem v33 (b : Fin 4) (s : Fin 2048) (k : Fin 512) : val_main_v33 (F := Ideal) d (ix3 b s k) = d (ix3 b s k) := by
  pointwise [val_main_v33]

/-- A weight times the cotangent, row by row. -/
theorem v41 (b : Fin 4) (s : Fin 2048) (k : Fin 512) : val_main_v41 (F := Ideal) w d (ix3 b s k) = d (ix3 b s k) * w (ix2 3 k) := by
  pointwise [val_main_v41, val_main_v40, val_main_v26, val_main_v25, val_main_v24, val_main_v33]
theorem v50 (b : Fin 4) (s : Fin 2048) (k : Fin 512) : val_main_v50 (F := Ideal) w d (ix3 b s k) = d (ix3 b s k) * w (ix2 2 k) := by
  pointwise [val_main_v50, val_main_v49, val_main_v19, val_main_v18, val_main_v17, val_main_v33]
theorem v61 (b : Fin 4) (s : Fin 2048) (k : Fin 512) : val_main_v61 (F := Ideal) w d (ix3 b s k) = d (ix3 b s k) * w (ix2 1 k) := by
  pointwise [val_main_v61, val_main_v60, val_main_v12, val_main_v11, val_main_v10, val_main_v33]
theorem v72 (b : Fin 4) (s : Fin 2048) (k : Fin 512) : val_main_v72 (F := Ideal) w d (ix3 b s k) = d (ix3 b s k) * w (ix2 0 k) := by
  pointwise [val_main_v72, val_main_v71, val_main_v6, val_main_v5, val_main_v4, val_main_v33]

theorem v78 (b : Fin 4) (s : Fin 2048) (k : Fin 512) (h : s.val + 3 < 2051) :
    val_main_v78 (F := Ideal) w d (ix3 b ⟨s.val + 3, h⟩ k) = dx w d b s k := by
  have hs := s.isLt
  rw [val_main_v78_apply, val_main_v67_apply, val_main_v56_apply, val_main_v45, val_main_v55, val_main_v66, val_main_v77,
    pad_rows _ _ _ _ b _ k (by show 3 ≤ s.val + 3; omega) s.val (by show s.val + 3 - 3 = s.val; omega),
    pad_rows _ _ _ _ b _ k (by show 2 ≤ s.val + 3; omega) (s.val + 1) (by show s.val + 3 - 2 = s.val + 1; omega),
    pad_rows _ _ _ _ b _ k (by show 1 ≤ s.val + 3; omega) (s.val + 2) (by show s.val + 3 - 1 = s.val + 2; omega),
    pad_rows _ _ _ _ b _ k (Nat.zero_le _) (s.val + 3) (by show s.val + 3 - 0 = s.val + 3; omega)]
  exact dx_of_pads w d _ _ _ _ (v41 d w) (v50 d w) (v61 d w) (v72 d w) _ _ _ _ (by pointwise [val_main_cst_6]) (by pointwise [val_main_cst_10])
    (by pointwise [val_main_cst_14]) (by pointwise [val_main_cst_18]) b s k

theorem v81 (r : Fin 8192) (k : Fin 512) : val_main_v81 (F := Ideal) w d (ix2 r k) = dx w d (bat r) (row r) k := by
  rw [← v78 d w (bat r) (row r) k (by have := (row r).isLt; omega)]
  pointwise [val_main_v81, val_main_v80]
  blk_ext [bat, row]

theorem cst_zero (i : S_.Idx) : constant (F := Ideal) S_ .f32 0x00000000#32 i = 0 := by pointwise

theorem v82 (k : Fin 512) : val_main_v82 (F := Ideal) d (ix2 0 k) = db d k := by
  pointwise [val_main_v82, val_main_v36, val_main_v35, val_main_v34, val_main_cst_2, val_main_cst_1]
  exact sum_twice _ _ cst_zero _ _ _ _ k

theorem v43 (k : Fin 512) : val_main_v43 (F := Ideal) x d (ix2 0 k) = dw x d 3 k := by
  pointwise [val_main_v43, val_main_v42, val_main_v39, val_main_v38, val_main_v37, val_main_v33, val_main_cst_4, val_main_cst_3]
  refine (sum_twice _ _ cst_zero _ _ _ _ k).trans (Finset.sum_congr rfl fun b _ => Finset.sum_congr rfl fun s _ => ?_)
  exact (congrArg (· * _) (v23 x b s k)).trans (mul_comm _ _)

theorem v52 (k : Fin 512) : val_main_v52 (F := Ideal) x d (ix2 0 k) = dw x d 2 k := by
  pointwise [val_main_v52, val_main_v51, val_main_v48, val_main_v47, val_main_v46, val_main_v33, val_main_cst_8, val_main_cst_7]
  refine (sum_twice _ _ cst_zero _ _ _ _ k).trans (Finset.sum_congr rfl fun b _ => Finset.sum_congr rfl fun s _ => ?_)
  exact (congrArg (· * _) (v16 x b s k)).trans (mul_comm _ _)

theorem v63 (k : Fin 512) : val_main_v63 (F := Ideal) x d (ix2 0 k) = dw x d 1 k := by
  pointwise [val_main_v63, val_main_v62, val_main_v59, val_main_v58, val_main_v57, val_main_v33, val_main_cst_12, val_main_cst_11]
  refine (sum_twice _ _ cst_zero _ _ _ _ k).trans (Finset.sum_congr rfl fun b _ => Finset.sum_congr rfl fun s _ => ?_)
  exact (congrArg (· * _) (v9 x b s k)).trans (mul_comm _ _)

theorem v74 (k : Fin 512) : val_main_v74 (F := Ideal) x d (ix2 0 k) = dw x d 0 k := by
  pointwise [val_main_v74, val_main_v73, val_main_v70, val_main_v69, val_main_v68, val_main_v33, val_main_cst_16, val_main_cst_15]
  refine (sum_twice _ _ cst_zero _ _ _ _ k).trans (Finset.sum_congr rfl fun b _ => Finset.sum_congr rfl fun s _ => ?_)
  exact (congrArg (· * _) (v3 x b s k)).trans (mul_comm _ _)

theorem v76 (j : Fin 4) (k : Fin 512) : val_main_v76 (F := Ideal) x d (ix2 j k) = dw x d j k := by
  rw [val_main_v76_apply, val_main_v65_apply, val_main_v54_apply, val_main_v44, val_main_v53, val_main_v64, val_main_v75,
    pad_tap, pad_tap, pad_tap, pad_tap, v43, v52, v63, v74]
  exact taps_sum (fun j => dw x d j k) _ _ _ _ (by pointwise [val_main_cst_5]) (by pointwise [val_main_cst_9])
    (by pointwise [val_main_cst_13]) (by pointwise [val_main_cst_17]) j

end Cert.ConvBwdRefIdeal.Cv

end
-- ==== Proof.ConvRuns.lean ====
/- The runs of the convolution's gradient kernel and of its reference: both end with the same three arrays. -/
module

public import proofs.«01_k».proof.Proof.ConvValue
public import proofs.«01_k».proof.Proof.ConvRef
public import proofs.«01_k».proof.Proof.Gen.ConvBwdRefIdeal.Run

@[expose] public section

set_option maxRecDepth 16384

noncomputable section

open Idealize.ShloMosaic Idealize.ShloMosaic.TcCoe Idealize.SL.Sem

namespace Cert.ConvBwdIdeal.Cv

open Cert.ConvBwdIdeal Cert.ConvBwdIdeal.Gen Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = rX (C := 512) (m ((c : Thread nD τ).loc main_arg1)) (m ((c : Thread nD τ).loc main_arg3))
      ∧ r.2.mem ((c : Thread nD τ).loc main_v3_1) = rW (C := 512) (m ((c : Thread nD τ).loc main_arg0)) (m ((c : Thread nD τ).loc main_arg3))
      ∧ r.2.mem ((c : Thread nD τ).loc main_v3_2) = rB (C := 512) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans (final4 m c), (hr c).2.1.trans (final5 m c), (hr c).2.2.1.trans (final6 m c), (hr c).2.2.2⟩)
    (Value.run_blocks m ρ)

end Cert.ConvBwdIdeal.Cv

namespace Cert.ConvBwdRefIdeal.Cv

open Cert.ConvBwdRefIdeal Cert.ConvBwdRefIdeal.Gen Cert.ConvBwdRefIdeal.Read Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v81) = rX (C := 512) (m ((c : Thread nD τ).loc main_arg1)) (m ((c : Thread nD τ).loc main_arg3))
      ∧ r.2.mem ((c : Thread nD τ).loc main_v76) = rW (C := 512) (m ((c : Thread nD τ).loc main_arg0)) (m ((c : Thread nD τ).loc main_arg3))
      ∧ r.2.mem ((c : Thread nD τ).loc main_v82) = rB (C := 512) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => by
      refine ⟨(hr c).1.trans ((val_main_v81_eq _ _).trans ?_), (hr c).2.1.trans ((val_main_v76_eq _ _).trans ?_),
        (hr c).2.2.1.trans ((val_main_v82_eq _).trans ?_), (hr c).2.2.2⟩
      · funext j; rw [eq_ix2 j]; exact v81 _ _ (j 0) (j 1)
      · funext j; rw [eq_ix2 j]; exact v76 _ _ (j 0) (j 1)
      · funext j; idx_vars j; rw [Subsingleton.elim j0 0]; exact v82 _ j1)
    (Cert.ConvBwdRefIdeal.Value.run m ρ)

end Cert.ConvBwdRefIdeal.Cv

end
-- ==== Proof.ConvActValue.lean ====
/- The two arrays of the results that the activated convolution's gradient kernel leaves. -/
module

public import proofs.«01_k».proof.Proof.ConvValue
public import proofs.«01_k».proof.Proof.Gen.ConvActBwdIdeal.Value

@[expose] public section

set_option maxRecDepth 16384

noncomputable section

open Idealize.ShloMosaic Idealize.ShloMosaic.TcCoe Idealize.SL.Sem
open Idealize.ShloMosaic.Pipeline (Dat)

namespace Cert.ConvActBwdIdeal.Cv

open Cert.ConvActBwdIdeal Cert.ConvActBwdIdeal.Gen Cert.Conv

variable (m : (ℓ : Loc nD τ sig) → Buf (Elt Ideal) ℓ)

theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] ∧ win0_5.index t = ![0, t.val / 4] ∧ win0_6.index t = ![0, t.val / 4] :=
  (by decide +kernel : ∀ t : Fin grid0.N, _)

variable (c : Dev nD)

/-- The batch and the channels of a grid point. -/
def bt (t : Fin cfg0.N) : Fin 4 := ⟨t.val % 4, by omega⟩
def ch (t : Fin cfg0.N) (k : Fin 128) : Fin 3072 := ⟨t.val / 4 * 128 + k.val, by have := t.isLt; have h : cfg0.N = 96 := N_0; omega⟩

/-- The arguments: the convolved array, the weights and the cotangent; and the cotangent under the activation. -/
abbrev aX : (Seq 3072).Idx → EReal := (show FVec Ideal S4x2048x3072 .f32 from m ((c : Thread nD τ).loc main_arg0))
abbrev aW : (⟨2, ![4, 3072]⟩ : Shape).Idx → EReal := (show FVec Ideal S4x3072 .f32 from m ((c : Thread nD τ).loc main_arg1))
abbrev aG : (Seq 3072).Idx → EReal := (show FVec Ideal S4x2048x3072 .f32 from m ((c : Thread nD τ).loc main_arg2))
abbrev aD : (Seq 3072).Idx → EReal := dAct (aX m c) (aW m c) (aG m c)

theorem blk0 (t : Fin cfg0.N) (i : Fin 2048) (k : Fin 128) :
    (show FVec Ideal S2048x128 .f32 from iblk m c 0 t) (ix2 i k) = aX m c (ix3 (bt t) i (ch t k)) := by
  blk_simp [iblk, idx t]; entry_read; pointwise; blk_ext [idx t, bt, ch]

theorem blk1 (t : Fin cfg0.N) (j : Fin 4) (k : Fin 128) :
    (show FVec Ideal S4x128 .f32 from iblk m c 1 t) (ix2 j k) = aW m c (ix2 j (ch t k)) := by
  blk_ext [iblk, V, idx t, ch]

theorem blk2 (t : Fin cfg0.N) (k : Fin 128) : (show FVec Ideal S1x128 .f32 from iblk m c 2 t) (ix2 0 k) = 0 := by
  blk_simp [iblk, idx t]; entry_read; pointwise

theorem blk3 (t : Fin cfg0.N) (i : Fin 2048) (k : Fin 128) :
    (show FVec Ideal S2048x128 .f32 from iblk m c 3 t) (ix2 i k) = aG m c (ix3 (bt t) i (ch t k)) := by
  blk_simp [iblk, idx t]; entry_read; pointwise; blk_ext [idx t, bt, ch]

theorem pay7_blk (t : Fin cfg0.N) (k : Fin 128) (i : Fin 2048) : k0_pay7 (F := Ideal) (iblk m c 0 t) (ix2 i k) = aX m c (ix3 (bt t) i (ch t k)) :=
  (Cert.ConvBwdIdeal.Cv.pay7_at _ i k).trans (blk0 m c t i k)

/-- The rows above a row of the argument, in the padded copy. -/
theorem tap (t : Fin cfg0.N) (v : View sig .tc .vmem S2056x128 .f32) (j : Fin 4) (o : Nat) (ho : o = 5 + j.val) (inb) (i : Fin 2048) (k : Fin 128) :
    v.readCov (Val := Elt Ideal) [⟨Rect.unit ![8, 0] ![2048, 128] inb_S2056x128_S2048x128_8_0, k0_pay7 (F := Ideal) (iblk m c 0 t)⟩,
      ⟨Rect.unit ![0, 0] ![8, 128] inb_S2056x128_S8x128_0_0, k0_pay6 (F := Ideal)⟩]
      (Rect.unit (s := S2056x128) ![o, 0] ![2048, 128] inb).toLoadRect (ix2 i k) = before (aX m c) j (bt t) i (ch t k) :=
  read_before _ _ _ Cert.ConvBwdIdeal.Cv.pay6_at _ _ _ _ (pay7_blk m c t k) j o ho _ _ _ i

theorem tap3 (t : Fin cfg0.N) (i : Fin 2048) (k : Fin 128) : k0_pay7 (F := Ideal) (iblk m c 0 t) (ix2 i k) = before (aX m c) 3 (bt t) i (ch t k) := by
  rw [before_last]; exact pay7_blk m c t k i

/-- The cotangent under the activation, of a grid point. -/
def bD (t : Fin cfg0.N) (a0 a1 a2 a3 : FVec Ideal S2048x128 .f32) : FVec Ideal S2048x128 .f32 :=
  k0_pay10 (F := Ideal) (k0_pay8 (iblk m c 3 t))
    (k0_pay9 (View.ld (iblk m c 1 t) (Rect.unit ![0, 0] ![1, 128] inb_S4x128_S1x128_0_0)) a0
      (View.ld (iblk m c 1 t) (Rect.unit ![1, 0] ![1, 128] inb_S4x128_S1x128_1_0)) a1
      (View.ld (iblk m c 1 t) (Rect.unit ![2, 0] ![1, 128] inb_S4x128_S1x128_2_0)) a2
      (View.ld (iblk m c 1 t) (Rect.unit ![3, 0] ![1, 128] inb_S4x128_S1x128_3_0)) a3)
    (iblk m c 2 t)

theorem bD_at (t : Fin cfg0.N) (i : Fin 2048) (k : Fin 128) (a0 a1 a2 a3 : FVec Ideal S2048x128 .f32)
    (h0 : a0 (ix2 i k) = before (aX m c) 0 (bt t) i (ch t k)) (h1 : a1 (ix2 i k) = before (aX m c) 1 (bt t) i (ch t k))
    (h2 : a2 (ix2 i k) = before (aX m c) 2 (bt t) i (ch t k)) (h3 : a3 (ix2 i k) = before (aX m c) 3 (bt t) i (ch t k)) :
    bD m c t a0 a1 a2 a3 (ix2 i k) = aD m c (ix3 (bt t) i (ch t k)) := by
  have w := fun j => blk1 m c t j k
  have g := blk3 m c t i k
  have z := blk2 m c t k
  pointwise [bD, k0_pay10, k0_pay9, k0_pay8]
  have e := (congrArg₂ (· + ·) (congrArg₂ (· + ·) (congrArg₂ (· + ·) (congrArg₂ (· + ·) (congrArg₂ (· * ·) (w 0) h0) (congrArg₂ (· * ·) (w 1) h1))
    (congrArg₂ (· * ·) (w 2) h2)) (congrArg₂ (· * ·) (w 3) h3)) z).trans (add_zero _)
  exact congrArg₂ act e g

theorem pay11_blk (t : Fin cfg0.N) (k : Fin 128) (a0 a1 a2 a3 : FVec Ideal S2048x128 .f32)
    (h0 : ∀ i, a0 (ix2 i k) = before (aX m c) 0 (bt t) i (ch t k)) (h1 : ∀ i, a1 (ix2 i k) = before (aX m c) 1 (bt t) i (ch t k))
    (h2 : ∀ i, a2 (ix2 i k) = before (aX m c) 2 (bt t) i (ch t k)) (h3 : ∀ i, a3 (ix2 i k) = before (aX m c) 3 (bt t) i (ch t k)) (i : Fin 2048) :
    k0_pay11 (F := Ideal) (k0_pay8 (iblk m c 3 t))
    (k0_pay9 (View.ld (iblk m c 1 t) (Rect.unit ![0, 0] ![1, 128] inb_S4x128_S1x128_0_0)) a0
      (View.ld (iblk m c 1 t) (Rect.unit ![1, 0] ![1, 128] inb_S4x128_S1x128_1_0)) a1
      (View.ld (iblk m c 1 t) (Rect.unit ![2, 0] ![1, 128] inb_S4x128_S1x128_2_0)) a2
      (View.ld (iblk m c 1 t) (Rect.unit ![3, 0] ![1, 128] inb_S4x128_S1x128_3_0)) a3)
    (iblk m c 2 t) (ix2 i k) = aD m c (ix3 (bt t) i (ch t k)) := by
  refine Eq.trans ?_ (bD_at m c t i k a0 a1 a2 a3 (h0 i) (h1 i) (h2 i) (h3 i))
  pointwise [bD, k0_pay11]

/-- The block of the argument's gradient. -/
theorem key4 (t : Fin cfg0.N) (i : Fin 2048) (k : Fin 128) (a3 a2 a1 a0 : FVec Ideal S2048x128 .f32)
    (h3 : a3 (ix2 i k) = after (aD m c) 3 (bt t) i (ch t k)) (h2 : a2 (ix2 i k) = after (aD m c) 2 (bt t) i (ch t k))
    (h1 : a1 (ix2 i k) = after (aD m c) 1 (bt t) i (ch t k)) (h0 : a0 (ix2 i k) = aD m c (ix3 (bt t) i (ch t k))) :
    k0_pay14 (F := Ideal)
      (k0_pay13 (View.ld (iblk m c 1 t) (Rect.unit ![0, 0] ![1, 128] inb_S4x128_S1x128_0_0)) a3
        (View.ld (iblk m c 1 t) (Rect.unit ![1, 0] ![1, 128] inb_S4x128_S1x128_1_0)) a2
        (View.ld (iblk m c 1 t) (Rect.unit ![2, 0] ![1, 128] inb_S4x128_S1x128_2_0)) a1)
      (View.ld (iblk m c 1 t) (Rect.unit ![3, 0] ![1, 128] inb_S4x128_S1x128_3_0)) a0 (ix2 i k)
      = dx (aW m c) (aD m c) (bt t) i (ch t k) := by
  have w := fun j => blk1 m c t j k
  pointwise [k0_pay13, k0_pay14]
  exact congrArg₂ (· + ·) (congrArg₂ (· + ·) (congrArg₂ (· + ·) (congrArg₂ (· * ·) (w 0) h3) (congrArg₂ (· * ·) (w 1) h2)) (congrArg₂ (· * ·) (w 2) h1))
    (congrArg₂ (· * ·) (w 3) h0)

theorem out4 (t : Fin cfg0.N) (i : Fin 2048) (k : Fin 128) : (outsAt0 m c t.val t.isLt).1 (ix2 i k) = dx (aW m c) (aD m c) (bt t) i (ch t k) := by
  have p := fun (v : View sig .tc .vmem S2056x128 .f32) => pay11_blk m c t k _ _ _ _ (fun i => tap m c t v 0 5 rfl inb_S2056x128_S2048x128_5_0 i k)
    (fun i => tap m c t v 1 6 rfl inb_S2056x128_S2048x128_6_0 i k) (fun i => tap m c t v 2 7 rfl inb_S2056x128_S2048x128_7_0 i k) (fun i => tap3 m c t i k)
  by_cases h : t.val % 4 = 0
  · rw [outsAt0_A m c t h (by omega) h (by omega) h (by omega) h (by omega) h (by omega)]
    frame_open
    simp (disch := decide) only [↓ View.readCov_skip, ↓ View.readCov_cons_toLoadRect, ↓ View.readCov_fill]
    frame_out
    exact key4 m c t i k _ _ _ _ (read_after _ _ _ Cert.ConvBwdIdeal.Cv.pay10_at _ _ _ _ (p _) 3 _ _ _ i) (read_after _ _ _ Cert.ConvBwdIdeal.Cv.pay10_at _ _ _ _ (p _) 2 _ _ _ i)
      (read_after _ _ _ Cert.ConvBwdIdeal.Cv.pay10_at _ _ _ _ (p _) 1 _ _ _ i) (p _ i)
  · rw [outsAt0_B m c t h (by omega) h (by omega) h (by omega) h (by omega) h (by omega)]
    frame_open
    simp (disch := decide) only [↓ View.readCov_skip, ↓ View.readCov_cons_toLoadRect, ↓ View.readCov_fill]
    frame_out
    exact key4 m c t i k _ _ _ _ (read_after _ _ _ Cert.ConvBwdIdeal.Cv.pay10_at _ _ _ _ (p _) 3 _ _ _ i) (read_after _ _ _ Cert.ConvBwdIdeal.Cv.pay10_at _ _ _ _ (p _) 2 _ _ _ i)
      (read_after _ _ _ Cert.ConvBwdIdeal.Cv.pay10_at _ _ _ _ (p _) 1 _ _ _ i) (p _ i)

/-- What a grid point adds to the weights' gradient. -/
def wPart (t : Fin cfg0.N) : FVec Ideal S4x128 .f32 :=
  fun y => ∑ i, aD m c (ix3 (bt t) i (ch t (y 1))) * before (aX m c) (y 0) (bt t) i (ch t (y 1))

/-- One row of it. -/
theorem part_at (t : Fin cfg0.N) (j : Fin 4) (a0 a1 a2 a3 x : FVec Ideal S2048x128 .f32)
    (h0 : ∀ i k, a0 (ix2 i k) = before (aX m c) 0 (bt t) i (ch t k)) (h1 : ∀ i k, a1 (ix2 i k) = before (aX m c) 1 (bt t) i (ch t k))
    (h2 : ∀ i k, a2 (ix2 i k) = before (aX m c) 2 (bt t) i (ch t k)) (h3 : ∀ i k, a3 (ix2 i k) = before (aX m c) 3 (bt t) i (ch t k))
    (hx : ∀ i k, x (ix2 i k) = before (aX m c) j (bt t) i (ch t k)) (k : Fin 128) :
    k0_pay2 (F := Ideal) (bD m c t a0 a1 a2 a3) x (ix2 0 k) = wPart m c t (ix2 j k) :=
  (Cert.ConvBwdIdeal.Cv.sum_at _ _ k).trans (Finset.sum_congr rfl fun i _ => congrArg₂ (· * ·) (bD_at m c t i k _ _ _ _ (h0 i k) (h1 i k) (h2 i k) (h3 i k)) (hx i k))

theorem out5_A (t : Fin cfg0.N) (h : t.val % 4 = 0) (j : Fin 4) (k : Fin 128) : (outsAt0 m c t.val t.isLt).2.1 (ix2 j k) = wPart m c t (ix2 j k) := by
  have q := fun j x hx k => part_at m c t j _ _ _ _ x (fun i k => tap m c t (View.whole cc0_scratch0) 0 5 rfl inb_S2056x128_S2048x128_5_0 i k)
    (fun i k => tap m c t (View.whole cc0_scratch0) 1 6 rfl inb_S2056x128_S2048x128_6_0 i k)
    (fun i k => tap m c t (View.whole cc0_scratch0) 2 7 rfl inb_S2056x128_S2048x128_7_0 i k) (fun i k => tap3 m c t i k) hx k
  rw [outsAt0_A m c t h (by omega) h (by omega) h (by omega) h (by omega) h (by omega)]
  frame_open
  simp (disch := decide) only [↓ View.readCov_skip, ↓ View.readCov_cons_toLoadRect, ↓ View.readCov_fill]
  frame_out
  canon_tiles x h
  · obtain ⟨rfl, rfl⟩ := place 3 h0 h1
    exact q 3 _ (tap3 m c t) k
  · obtain ⟨rfl, rfl⟩ := place 2 h0 h1
    exact q 2 _ (tap m c t _ 2 7 rfl _) k
  · obtain ⟨rfl, rfl⟩ := place 1 h0 h1
    exact q 1 _ (tap m c t _ 1 6 rfl _) k
  · obtain ⟨rfl, rfl⟩ := place 0 (h0.trans (Nat.zero_add _).symm) h1
    exact q 0 _ (tap m c t _ 0 5 rfl _) k

theorem out5_B (t : Fin cfg0.N) (h : ¬t.val % 4 = 0) (j : Fin 4) (k : Fin 128) : (outsAt0 m c t.val t.isLt).2.1 (ix2 j k)
    = (outsAt0 m c (t.val - 1) (Nat.lt_of_le_of_lt (Nat.sub_le _ _) t.isLt)).2.1 (ix2 j k) + wPart m c t (ix2 j k) := by
  have q := fun j x hx k => part_at m c t j _ _ _ _ x (fun i k => tap m c t (View.whole cc0_scratch0) 0 5 rfl inb_S2056x128_S2048x128_5_0 i k)
    (fun i k => tap m c t (View.whole cc0_scratch0) 1 6 rfl inb_S2056x128_S2048x128_6_0 i k)
    (fun i k => tap m c t (View.whole cc0_scratch0) 2 7 rfl inb_S2056x128_S2048x128_7_0 i k) (fun i k => tap3 m c t i k) hx k
  rw [outsAt0_B m c t h (by omega) h (by omega) h (by omega) h (by omega) h (by omega)]
  frame_open
  simp (disch := decide) only [↓ View.readCov_skip, ↓ View.readCov_cons_toLoadRect, ↓ View.readCov_fill]
  frame_out
  canon_tiles x h
  · obtain ⟨rfl, rfl⟩ := place 3 h0 h1
    exact (Cert.ConvBwdIdeal.Cv.add_at _ _ k).trans (congrArg₂ (· + ·) (ld_row _ 3 _ k) (q 3 _ (tap3 m c t) k))
  · obtain ⟨rfl, rfl⟩ := place 2 h0 h1
    exact (Cert.ConvBwdIdeal.Cv.add_at _ _ k).trans (congrArg₂ (· + ·) (ld_row _ 2 _ k) (q 2 _ (tap m c t _ 2 7 rfl _) k))
  · obtain ⟨rfl, rfl⟩ := place 1 h0 h1
    exact (Cert.ConvBwdIdeal.Cv.add_at _ _ k).trans (congrArg₂ (· + ·) (ld_row _ 1 _ k) (q 1 _ (tap m c t _ 1 6 rfl _) k))
  · obtain ⟨rfl, rfl⟩ := place 0 (h0.trans (Nat.zero_add _).symm) h1
    exact (Cert.ConvBwdIdeal.Cv.add_at _ _ k).trans (congrArg₂ (· + ·) (ld_row _ 0 _ k) (q 0 _ (tap m c t _ 0 5 rfl _) k))

theorem final4 : (dats m 0 c).arrAt 4 cfg0.N = rX (aW m c) (aD m c) := by
  refine (dats m 0 c).arrAt_eq_of_covers 4 _ (by decide +kernel) fun t _ y => ?_
  have e : ((cfg0.win 4).blk t).view.emb y = (ix2 ⟨(bt t).val * 2048 + (y 0).val, by have := (bt t).isLt; have h : (y 0).val < 2048 := (y 0).isLt; omega⟩ (ch t (y 1)) : S8192x3072.Idx) := by
    blk_ext [bt, ch, idx t]
  rw [e]
  blk_simp
  rw [after0_4]
  refine (congrArg _ (eq_ix2 y)).trans ((out4 m c t (y 0) (y 1)).trans ?_)
  have hy : (y 0).val < 2048 := (y 0).isLt
  refine congrArg₂ (fun b s => dx (aW m c) (aD m c) b s (ch t (y 1))) (Fin.ext ?_) (Fin.ext ?_)
  · show (bt t).val = ((bt t).val * 2048 + (y 0).val) / 2048; omega
  · show (y 0).val = ((bt t).val * 2048 + (y 0).val) % 2048; omega

/-- The sum over the points of a group of channels is the sum over the batches. -/
theorem sum_batches (t : Fin cfg0.N) (f : Fin 4 → Fin 3072 → EReal) (k : Fin 128) (hl : ∀ s : Fin 4, 4 * (t.val / 4) + s.val < cfg0.N) :
    ∑ s : Fin 4, f (bt ⟨4 * (t.val / 4) + s.val, hl s⟩) (ch ⟨4 * (t.val / 4) + s.val, hl s⟩ k) = ∑ b, f b (ch t k) := by
  refine Finset.sum_congr rfl fun s _ => congrArg₂ f (Fin.ext ?_) (Fin.ext ?_)
  · show (4 * (t.val / 4) + s.val) % 4 = s.val; omega
  · show (4 * (t.val / 4) + s.val) / 4 * 128 + k.val = t.val / 4 * 128 + k.val; omega

theorem final5 : (dats m 0 c).arrAt 5 cfg0.N = rW (aX m c) (aD m c) := by
  refine (dats m 0 c).arrAt_eq_of_covers 5 _ (by decide +kernel) fun t hf y => ?_
  have e : ((cfg0.win 5).blk t).view.emb y = (ix2 (y 0) (ch t (y 1)) : S4x3072.Idx) := by blk_ext [ch, idx t]
  rw [e]
  blk_simp
  rw [after0_5, Pipeline.eq_sum_fin_of_reset_step_apply_of_flush (fun n h => (outsAt0 m c n h).2.1) 4 (fun _ => 0) (fun p => wPart m c p)
    (fun t h j => by rw [zero_add]; exact (congrArg _ (eq_ix2 j)).trans ((out5_A m c t h (j 0) (j 1)).trans (congrArg _ (eq_ix2 j).symm)))
    (fun t h j => by rw [eq_ix2 j]; exact out5_B m c t h (j 0) (j 1))
    t ((flush0_5 t).mp hf) y, zero_add]
  exact sum_batches t (fun b k => ∑ i, aD m c (ix3 b i k) * before (aX m c) (y 0) b i k) (y 1) _

end Cert.ConvActBwdIdeal.Cv

end
-- ==== Proof.ConvActRef.lean ====
/- The reference of the activated convolution's gradient: what each of its host operations holds, read index by index. -/
module

public import proofs.«01_k».proof.Proof.Conv
public import proofs.«01_k».proof.Proof.Lift
public import proofs.«01_k».proof.Proof.Gen.ConvActBwdRefIdeal.Run
public import proofs.«01_k».proof.Proof.Gen.ConvActBwdRefIdeal.Read

@[expose] public section

set_option maxRecDepth 16384

noncomputable section

open Idealize.ShloMosaic Idealize.ShloMosaic.TcCoe Idealize.SL.Sem

namespace Cert.ConvActBwdRefIdeal.Cv

open Cert.ConvActBwdRefIdeal Cert.ConvActBwdRefIdeal.Gen Cert.ConvActBwdRefIdeal.Read Cert.Conv

variable (x g : FVec Ideal S4x2048x3072 .f32) (w : FVec Ideal S4x3072 .f32)

theorem z0 (i : S4x3x3072.Idx) : val_main_v0 (F := Ideal) i = 0 := by pointwise [val_main_v0, val_main_cst]
theorem cst_zero (i : S_.Idx) : constant (F := Ideal) S_ .f32 0x00000000#32 i = 0 := by pointwise

/-- The shifted arguments. -/
theorem v3 (b : Fin 4) (s : Fin 2048) (k : Fin 3072) : val_main_v3 (F := Ideal) x (ix3 b s k) = before x 0 b s k := by
  pointwise [val_main_v3]; exact concat_rows _ z0 x _ 0 b s k _ rfl
theorem v9 (b : Fin 4) (s : Fin 2048) (k : Fin 3072) : val_main_v9 (F := Ideal) x (ix3 b s k) = before x 1 b s k := by
  pointwise [val_main_v9]; exact concat_rows _ z0 x _ 1 b s k _ (Nat.add_comm _ _)
theorem v16 (b : Fin 4) (s : Fin 2048) (k : Fin 3072) : val_main_v16 (F := Ideal) x (ix3 b s k) = before x 2 b s k := by
  pointwise [val_main_v16]; exact concat_rows _ z0 x _ 2 b s k _ (Nat.add_comm _ _)
theorem v23 (b : Fin 4) (s : Fin 2048) (k : Fin 3072) : val_main_v23 (F := Ideal) x (ix3 b s k) = before x 3 b s k := by
  pointwise [val_main_v23]; exact concat_rows _ z0 x _ 3 b s k _ (Nat.add_comm _ _)

/-- The convolution. -/
theorem v29 (b : Fin 4) (s : Fin 2048) (k : Fin 3072) : val_main_v29 (F := Ideal) x w (ix3 b s k) = taps x w b s k := by
  rw [val_main_v29_apply, val_main_v22_apply, val_main_v15_apply, val_main_v8_apply, val_main_v14_apply, val_main_v21_apply, val_main_v28_apply, v3, v9, v16, v23]
  have e7 : val_main_v7 (F := Ideal) w (ix3 b s k) = w (ix2 0 k) := by pointwise [val_main_v7, val_main_v6, val_main_v5, val_main_v4]
  have e13 : val_main_v13 (F := Ideal) w (ix3 b s k) = w (ix2 1 k) := by pointwise [val_main_v13, val_main_v12, val_main_v11, val_main_v10]
  have e20 : val_main_v20 (F := Ideal) w (ix3 b s k) = w (ix2 2 k) := by pointwise [val_main_v20, val_main_v19, val_main_v18, val_main_v17]
  have e27 : val_main_v27 (F := Ideal) w (ix3 b s k) = w (ix2 3 k) := by pointwise [val_main_v27, val_main_v26, val_main_v25, val_main_v24]
  rw [e7, e13, e20, e27]
  unfold taps
  rw [mul_comm (w (ix2 0 k)), mul_comm (w (ix2 1 k)), mul_comm (w (ix2 2 k)), mul_comm (w (ix2 3 k))]
  rfl

/-- The cotangent of the convolution under the activation. -/
abbrev D : FVec Ideal S4x2048x3072 .f32 := val_main_v31 (F := Ideal) x w g

theorem w1 (i : S4x2048x3072.Idx) : val_main_call0_v2 (F := Ideal) i = 1 := by pointwise [val_main_call0_v2, val_main_call0_cst]

theorem v31_at (b : Fin 4) (s : Fin 2048) (k : Fin 3072) :
    D x g w (ix3 b s k) = g (ix3 b s k) * Ideal.div 1 (1 + Ideal.exp (-taps x w b s k))
      + taps x w b s k * g (ix3 b s k) * (Ideal.div 1 (1 + Ideal.exp (-taps x w b s k)) * (1 - Ideal.div 1 (1 + Ideal.exp (-taps x w b s k)))) := by
  have hs : val_main_v30_2 (F := Ideal) x w (ix3 b s k) = Ideal.div 1 (1 + Ideal.exp (-taps x w b s k)) := by
    rw [← v29 x w b s k]
    pointwise [val_main_v30_2, val_main_call0_v4, val_main_call0_cst_0, val_main_call0_v3, val_main_call0_v2, val_main_call0_cst, val_main_call0_v1, val_main_call0_v0]
  rw [← hs, ← v29 x w b s k]
  pointwise [D, val_main_v31, val_main_call1_v1, val_main_call1_v2, val_main_call1_v0, val_main_v30_1, val_main_call0_v7, val_main_call0_v6, val_main_call0_cst_1]

theorem act_real (a g : ℝ) : (g : EReal) * Ideal.div 1 (1 + Ideal.exp (-(a : EReal)))
    + (a : EReal) * g * (Ideal.div 1 (1 + Ideal.exp (-(a : EReal))) * (1 - Ideal.div 1 (1 + Ideal.exp (-(a : EReal))))) = act a g := by
  have h : (1 + Real.exp (-a)) ≠ 0 := by positivity
  unfold act
  rw [Ideal.logistic_coe]
  simp only [Lift.neg, Ideal.exp_coe, Lift.one, Lift.add, Lift.div _ _ h, Lift.sub, Lift.mul]
  congr 1
  ring

theorem before_real (hx : ∀ i, x i = (((x i : EReal).toReal : ℝ) : EReal)) (j : Fin 4) (b : Fin 4) (s : Fin 2048) (k : Fin 3072) :
    ∃ r : ℝ, before x j b s k = r := by
  unfold before; split
  · exact ⟨0, rfl⟩
  · exact ⟨_, hx _⟩

theorem v31 (hx : ∀ i, x i = (((x i : EReal).toReal : ℝ) : EReal)) (hw : ∀ i, w i = (((w i : EReal).toReal : ℝ) : EReal))
    (hg : ∀ i, g i = (((g i : EReal).toReal : ℝ) : EReal)) : D x g w = dAct x w g := by
  funext y
  idx_vars y
  refine (v31_at x g w y0 y1 y2).trans ?_
  revert y0 y1 y2
  intro (b : Fin 4) (s : Fin 2048) (k : Fin 3072)
  obtain ⟨r0, e0⟩ := before_real x hx 0 b s k
  obtain ⟨r1, e1⟩ := before_real x hx 1 b s k
  obtain ⟨r2, e2⟩ := before_real x hx 2 b s k
  obtain ⟨r3, e3⟩ := before_real x hx 3 b s k
  have e : ∃ r : ℝ, taps x w b s k = r := by
    unfold taps
    rw [hw, hw (ix2 1 k), hw (ix2 2 k), hw (ix2 3 k), e0, e1, e2, e3]
    simp only [Lift.mul, Lift.add]
    exact ⟨_, rfl⟩
  obtain ⟨r, e⟩ := e
  show _ = act (taps x w b s k) (g (ix3 b s k))
  rw [e, hg]
  exact act_real r _

/-- A weight times the cotangent, row by row. -/
theorem v36 (b : Fin 4) (s : Fin 2048) (k : Fin 3072) : val_main_v36 (F := Ideal) x w g (ix3 b s k) = D x g w (ix3 b s k) * w (ix2 3 k) := by
  pointwise [val_main_v36, val_main_v35, val_main_v26, val_main_v25, val_main_v24]
theorem v45 (b : Fin 4) (s : Fin 2048) (k : Fin 3072) : val_main_v45 (F := Ideal) x w g (ix3 b s k) = D x g w (ix3 b s k) * w (ix2 2 k) := by
  pointwise [val_main_v45, val_main_v44, val_main_v19, val_main_v18, val_main_v17]
theorem v56 (b : Fin 4) (s : Fin 2048) (k : Fin 3072) : val_main_v56 (F := Ideal) x w g (ix3 b s k) = D x g w (ix3 b s k) * w (ix2 1 k) := by
  pointwise [val_main_v56, val_main_v55, val_main_v12, val_main_v11, val_main_v10]
theorem v67 (b : Fin 4) (s : Fin 2048) (k : Fin 3072) : val_main_v67 (F := Ideal) x w g (ix3 b s k) = D x g w (ix3 b s k) * w (ix2 0 k) := by
  pointwise [val_main_v67, val_main_v66, val_main_v6, val_main_v5, val_main_v4]

theorem v75 (b : Fin 4) (s : Fin 2048) (k : Fin 3072) (h : s.val + 3 < 2051) :
    val_main_v73 (F := Ideal) x w g (ix3 b ⟨s.val + 3, h⟩ k) = dx w (D x g w) b s k := by
  have hs := s.isLt
  rw [val_main_v73_apply, val_main_v62_apply, val_main_v51_apply, val_main_v40, val_main_v50, val_main_v61, val_main_v72,
    pad_rows _ _ _ _ b _ k (by show 3 ≤ s.val + 3; omega) s.val (by show s.val + 3 - 3 = s.val; omega),
    pad_rows _ _ _ _ b _ k (by show 2 ≤ s.val + 3; omega) (s.val + 1) (by show s.val + 3 - 2 = s.val + 1; omega),
    pad_rows _ _ _ _ b _ k (by show 1 ≤ s.val + 3; omega) (s.val + 2) (by show s.val + 3 - 1 = s.val + 2; omega),
    pad_rows _ _ _ _ b _ k (Nat.zero_le _) (s.val + 3) (by show s.val + 3 - 0 = s.val + 3; omega)]
  exact dx_of_pads w _ _ _ _ _ (v36 x g w) (v45 x g w) (v56 x g w) (v67 x g w) _ _ _ _ (cst_zero _) (cst_zero _) (cst_zero _) (cst_zero _) b s k

theorem v76 (r : Fin 8192) (k : Fin 3072) : val_main_v76 (F := Ideal) x w g (ix2 r k) = dx w (D x g w) (bat r) (row r) k := by
  rw [← v75 x g w (bat r) (row r) k (by have := (row r).isLt; omega)]
  pointwise [val_main_v76, val_main_v75]
  blk_ext [bat, row]

/-- The four rows of the weights' gradient. -/
theorem v38 (k : Fin 3072) : val_main_v38 (F := Ideal) x w g (ix2 0 k) = dw x (D x g w) 3 k := by
  rw [val_main_v38_apply, show idx_main_v38 (ix2 0 k) = ix1 k by blk_ext]
  exact row_sum _ x (D x g w) 3 (v23 x) _ _ cst_zero cst_zero _ _ _ _ _ k
theorem v47 (k : Fin 3072) : val_main_v47 (F := Ideal) x w g (ix2 0 k) = dw x (D x g w) 2 k := by
  rw [val_main_v47_apply, show idx_main_v47 (ix2 0 k) = ix1 k by blk_ext]
  exact row_sum _ x (D x g w) 2 (v16 x) _ _ cst_zero cst_zero _ _ _ _ _ k
theorem v58 (k : Fin 3072) : val_main_v58 (F := Ideal) x w g (ix2 0 k) = dw x (D x g w) 1 k := by
  rw [val_main_v58_apply, show idx_main_v58 (ix2 0 k) = ix1 k by blk_ext]
  exact row_sum _ x (D x g w) 1 (v9 x) _ _ cst_zero cst_zero _ _ _ _ _ k
theorem v69 (k : Fin 3072) : val_main_v69 (F := Ideal) x w g (ix2 0 k) = dw x (D x g w) 0 k := by
  rw [val_main_v69_apply, show idx_main_v69 (ix2 0 k) = ix1 k by blk_ext]
  exact row_sum _ x (D x g w) 0 (v3 x) _ _ cst_zero cst_zero _ _ _ _ _ k

theorem v71 (j : Fin 4) (k : Fin 3072) : val_main_v71 (F := Ideal) x w g (ix2 j k) = dw x (D x g w) j k := by
  rw [val_main_v71_apply, val_main_v60_apply, val_main_v49_apply, val_main_v39, val_main_v48, val_main_v59, val_main_v70,
    pad_tap, pad_tap, pad_tap, pad_tap, v38, v47, v58, v69]
  exact taps_sum (fun j => dw x (D x g w) j k) _ _ _ _ (cst_zero _) (cst_zero _) (cst_zero _) (cst_zero _) j

end Cert.ConvActBwdRefIdeal.Cv

end
-- ==== Proof.ConvActRuns.lean ====
/- The runs of the activated convolution's gradient kernel and of its reference: both end with the same two arrays. -/
module

public import proofs.«01_k».proof.Proof.ConvActValue
public import proofs.«01_k».proof.Proof.ConvActRef
public import proofs.«01_k».proof.Proof.Gen.ConvActBwdRefIdeal.Run
public import proofs.«01_k».proof.Proof.Gen.Pre_convact_finite

@[expose] public section

set_option maxRecDepth 16384

noncomputable section

open Idealize.ShloMosaic Idealize.ShloMosaic.TcCoe Idealize.SL.Sem

namespace Cert.ConvActBwdIdeal.Cv

open Cert.ConvActBwdIdeal Cert.ConvActBwdIdeal.Gen Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = rX (C := 3072) (m ((c : Thread nD τ).loc main_arg1)) (dAct (C := 3072) (m ((c : Thread nD τ).loc main_arg0)) (m ((c : Thread nD τ).loc main_arg1)) (m ((c : Thread nD τ).loc main_arg2)))
      ∧ r.2.mem ((c : Thread nD τ).loc main_v3_1) = rW (C := 3072) (m ((c : Thread nD τ).loc main_arg0)) (dAct (C := 3072) (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (final4 m c), (hr c).2.1.trans (final5 m c), (hr c).2.2.2⟩)
    (Value.run_blocks m ρ)

end Cert.ConvActBwdIdeal.Cv

namespace Cert.ConvActBwdRefIdeal.Cv

open Cert.ConvActBwdRefIdeal Cert.ConvActBwdRefIdeal.Gen Cert.ConvActBwdRefIdeal.Read Cert.Conv

/-- The three arrays of the precondition are arrays of reals. -/
structure Reals (x : FVec Ideal S4x2048x3072 .f32) (w : FVec Ideal S4x3072 .f32) (g : FVec Ideal S4x2048x3072 .f32) : Prop where
  x : ∀ i, x i = (((x i : EReal).toReal : ℝ) : EReal)
  w : ∀ i, w i = (((w i : EReal).toReal : ℝ) : EReal)
  g : ∀ i, g i = (((g i : EReal).toReal : ℝ) : EReal)

theorem reals (x : FVec Ideal S4x2048x3072 .f32) (w : FVec Ideal S4x3072 .f32) (g : FVec Ideal S4x2048x3072 .f32)
    (h : (Cert.Pre_convact_finite.fn (F := Ideal) x w g).1 = (fun _ => 1#1) ∧ (Cert.Pre_convact_finite.fn (F := Ideal) x w g).2.1 = (fun _ => 1#1)
      ∧ (Cert.Pre_convact_finite.fn (F := Ideal) x w g).2.2 = fun _ => 1#1) : Reals x w g where
  x := Lift.of_finite x _ (fun i => by pointwise [Lift.winf]) h.1
  w := Lift.of_finite w _ (fun i => by pointwise [Lift.winf]) h.2.1
  g := Lift.of_finite g _ (fun i => by pointwise [Lift.winf]) h.2.2

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c : Thread nD τ).loc main_v76) = rX (C := 3072) (m ((c : Thread nD τ).loc main_arg1)) (dAct (C := 3072) (m ((c : Thread nD τ).loc main_arg0)) (m ((c : Thread nD τ).loc main_arg1)) (m ((c : Thread nD τ).loc main_arg2)))
      ∧ r.2.mem ((c : Thread nD τ).loc main_v71) = rW (C := 3072) (m ((c : Thread nD τ).loc main_arg0)) (dAct (C := 3072) (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => by
      have e := v31 _ _ _ (h c).x (h c).w (h c).g
      refine ⟨(hr c).1.trans ((val_main_v76_eq m c).trans ?_), (hr c).2.1.trans ((val_main_v71_eq m c).trans ?_), (hr c).2.2⟩
      · funext j; rw [eq_ix2 j]; exact (v76 _ _ _ (j 0) (j 1)).trans (by rw [e]; rfl)
      · funext j; rw [eq_ix2 j]; exact (v71 _ _ _ (j 0) (j 1)).trans (by rw [e]; rfl))
    (Cert.ConvActBwdRefIdeal.Value.run m ρ)

end Cert.ConvActBwdRefIdeal.Cv

end
-- ==== Proof.LossValue.lean ====
/- The loss and its gradient: the two arrays the kernel leaves, and those of its reference, over the reals. -/
module

public import proofs.«01_k».proof.Proof.Conv
public import proofs.«01_k».proof.Proof.Lift
public import Idealize.ShloMosaic.Lib.Claim
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Gen.Pre_loss_finite

@[expose] public section

set_option maxRecDepth 16384

noncomputable section

open Idealize.ShloMosaic Idealize.ShloMosaic.TcCoe Idealize.SL.Sem
open Idealize.ShloMosaic.Pipeline (Dat)

namespace Cert.Loss

open Cert.Lift Cert.Conv

/-- The number an extended real is. -/
abbrev num (x : EReal) : ℝ := x.toReal

/-- The error at an index, the loss, and its gradient with the batches one below the other. -/
def err (y t : (Seq 1024).Idx → EReal) (b : Fin 4) (s : Fin 2048) (k : Fin 1024) : ℝ := num (y (ix3 b s k)) - num (t (ix3 b s k))
def loss (y t : (Seq 1024).Idx → EReal) : ℝ := (1 / 2 * ∑ b, ∑ s, ∑ k, err y t b s k ^ 2) / 1024
def rLoss (y t : (Seq 1024).Idx → EReal) : (⟨0, ![]⟩ : Shape).Idx → EReal := fun _ => ((loss y t : ℝ) : EReal)
def rGrad (y t : (Seq 1024).Idx → EReal) : (Flat 1024).Idx → EReal := fun j => ((err y t (bat (j 0)) (row (j 0)) (j 1) / 1024 : ℝ) : EReal)

structure Reals (y t : (Seq 1024).Idx → EReal) : Prop where
  y : ∀ i, y i = ((num (y i) : ℝ) : EReal)
  t : ∀ i, t i = ((num (t i) : ℝ) : EReal)

theorem err_eq (y t : (Seq 1024).Idx → EReal) (h : Reals y t) (b : Fin 4) (s : Fin 2048) (k : Fin 1024) :
    y (ix3 b s k) - t (ix3 b s k) = ((err y t b s k : ℝ) : EReal) := by
  rw [h.y, h.t, sub]; rfl

theorem sum_all {n0 n1 : Nat} (h : (⟨2, ![n0, n1]⟩ : Shape).ReducesTo [0, 1] (⟨0, ![]⟩ : Shape)) (v : (⟨2, ![n0, n1]⟩ : Shape).Idx → EReal)
    (init : EReal) (j : (⟨0, ![]⟩ : Shape).Idx) : Ideal.hostReduceAdd h v init j = init + ∑ a, ∑ b, v (ix2 a b) := by
  show init + _ = _
  congr 1
  rw [← Fintype.sum_prod_type']
  refine Finset.sum_nbij' (fun i => ((i 0 : Fin n0), (i 1 : Fin n1))) (fun p => ix2 p.1 p.2) (fun _ _ => Finset.mem_univ _) ?_ ?_ (fun _ _ => rfl) ?_
  · intro p _
    exact Finset.mem_filter.mpr ⟨Finset.mem_univ _, funext fun a => a.elim0⟩
  · intro i _
    exact (eq_ix2 i).symm
  · intro i _
    exact congrArg v (eq_ix2 i)

/-- A sum over `m * n` numbers, in `m` groups of `n`. -/
theorem sum_split {m n N : ℕ} (h : m * n = N) (f : Fin N → ℝ) :
    ∑ r, f r = ∑ a : Fin m, ∑ b : Fin n, f ⟨a.val * n + b.val, by
      have ha := a.isLt; have hb := b.isLt; subst h; exact Nat.lt_of_lt_of_le (Nat.add_lt_add_left hb _) (by rw [← Nat.succ_mul]; exact Nat.mul_le_mul_right n ha)⟩ := by
  subst h
  rw [← Fintype.sum_prod_type']
  refine (Fintype.sum_equiv finProdFinEquiv _ _ fun p => congrArg f (Fin.ext ?_)).symm
  show p.1.val * n + p.2.val = p.2.val + n * p.1.val
  rw [Nat.mul_comm, Nat.add_comm]

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num

end Cert.Loss

namespace Cert.LossHeadIdeal.Ls

open Cert.LossHeadIdeal Cert.LossHeadIdeal.Gen Cert.Conv Cert.Lift Cert.Loss

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

variable (c : Dev nD)

abbrev aY : (Seq 1024).Idx → EReal := (show FVec Ideal S4x2048x1024 .f32 from m ((c : Thread nD τ).loc main_arg0))
abbrev aT : (Seq 1024).Idx → EReal := (show FVec Ideal S4x2048x1024 .f32 from m ((c : Thread nD τ).loc main_arg1))

/-- The last grid point. -/
def last : Fin cfg0.N := ⟨15, by rw [show cfg0.N = 16 from N_0]; decide⟩

/-- The row of a grid point's block in the whole array. -/
def rw' (t : Fin cfg0.N) (i : Fin 512) : Fin 8192 := ⟨t.val * 512 + i.val, by have := t.isLt; have h : cfg0.N = 16 := N_0; omega⟩

theorem v0_eq : V m c main_v0 = shapeCast S8192x1024 (show FVec Ideal S4x2048x1024 .f32 from aY m c) shapeCasts_S4x2048x1024_S8192x1024 := by
  show StableHlo.after hostOps0 (fun b => m (c, b)) (Proc.tc.devRef main_v0) = _
  after_results; try rfl
theorem v1_eq : V m c main_v1 = shapeCast S8192x1024 (show FVec Ideal S4x2048x1024 .f32 from aT m c) shapeCasts_S4x2048x1024_S8192x1024 := by
  show StableHlo.after hostOps0 (fun b => m (c, b)) (Proc.tc.devRef main_v1) = _
  after_results; try rfl

theorem blk0 (t : Fin cfg0.N) (i : Fin 512) (k : Fin 1024) :
    (show FVec Ideal S512x1024 .f32 from iblk m c 0 t) (ix2 i k) = aY m c (ix3 (bat (rw' t i)) (row (rw' t i)) k) := by
  show V m c main_v0 ((win0_0.blk t).view.emb (ix2 i k)) = _
  rw [v0_eq, show (win0_0.blk t).view.emb (ix2 i k) = (ix2 (rw' t i) k : S8192x1024.Idx) by blk_ext [idx t, rw']]
  pointwise; blk_ext [bat, row]

theorem blk1 (t : Fin cfg0.N) (i : Fin 512) (k : Fin 1024) :
    (show FVec Ideal S512x1024 .f32 from iblk m c 1 t) (ix2 i k) = aT m c (ix3 (bat (rw' t i)) (row (rw' t i)) k) := by
  show V m c main_v1 ((win0_1.blk t).view.emb (ix2 i k)) = _
  rw [v1_eq, show (win0_1.blk t).view.emb (ix2 i k) = (ix2 (rw' t i) k : S8192x1024.Idx) by blk_ext [idx t, rw']]
  pointwise; blk_ext [bat, row]

variable (h : Reals (aY m c) (aT m c))
include h

theorem pay1_at (t : Fin cfg0.N) (i : Fin 512) (k : Fin 1024) :
    k0_pay1 (F := Ideal) (iblk m c 0 t) (iblk m c 1 t) (ix2 i k) = ((err (aY m c) (aT m c) (bat (rw' t i)) (row (rw' t i)) k : ℝ) : EReal) := by
  rw [← err_eq _ _ h, ← blk0 m c t i k, ← blk1 m c t i k]
  pointwise [k0_pay1]

theorem pay2_at (t : Fin cfg0.N) (i : Fin 512) (k : Fin 1024) :
    k0_pay2 (F := Ideal) (iblk m c 0 t) (iblk m c 1 t) (ix2 i k) = ((err (aY m c) (aT m c) (bat (rw' t i)) (row (rw' t i)) k / 1024 : ℝ) : EReal) := by
  have e := pay1_at m c h t i k
  pointwise [k0_pay2]
  rw [e, inv1024, mul, mul_one_div]

/-- What a grid point adds to the sums of squares. -/
def part (t : Fin cfg0.N) : FVec Ideal S1x1024 .f32 :=
  fun y => ((∑ i, err (aY m c) (aT m c) (bat (rw' t i)) (row (rw' t i)) (y 1) ^ 2 : ℝ) : EReal)

theorem pay3_at (t : Fin cfg0.N) (k : Fin 1024) : k0_pay3 (F := Ideal) (iblk m c 0 t) (iblk m c 1 t) (ix2 0 k) = part m c t (ix2 0 k) := by
  pointwise [k0_pay3]
  refine (Finset.sum_congr rfl fun i _ => ?_).trans (sum _ fun i => err (aY m c) (aT m c) (bat (rw' t i)) (row (rw' t i)) k ^ 2)
  rw [pay1_at m c h t i k, mul, sq]

theorem final2 : (dats m 0 c).arrAt 2 cfg0.N = rGrad (aY m c) (aT m c) := by
  refine (dats m 0 c).arrAt_eq_of_covers 2 _ (by decide +kernel) fun t _ y => ?_
  have e : ((cfg0.win 2).blk t).view.emb y = (ix2 (rw' t (y 0)) (y 1) : S8192x1024.Idx) := by blk_ext [rw', idx t]
  rw [e]
  blk_simp
  rw [after0_2]
  refine (congrArg _ (eq_ix2 y)).trans ?_
  by_cases h0 : t.val % 16 = 0
  · rw [outsAt0_A m c t h0 (by have := lt_of_lt_of_eq t.isLt N_0; omega)]; frame_out
    exact pay2_at m c h t (y 0) (y 1)
  · rw [outsAt0_B m c t h0 (by omega)]; frame_out
    exact pay2_at m c h t (y 0) (y 1)

theorem final3 : (dats m 0 c).arrAt 3 cfg0.N = fun y => ((∑ r, err (aY m c) (aT m c) (bat r) (row r) (y 1) ^ 2 : ℝ) : EReal) := by
  refine (dats m 0 c).arrAt_eq_of_after_last 3 last (by decide +kernel) _ fun j => ?_
  have ej : ∀ j : S1x1024.Idx, j = ix2 0 (j 1) := fun j => by idx_vars j; rw [Subsingleton.elim j0 0]; rfl
  blk_simp
  rw [after0_3, Pipeline.eq_sum_fin_of_reset_step_apply_last (fun n h => (outsAt0 m c n h).2) 16 (fun _ => 0)
    (fun p => part m c p)
    (fun t h0 j => by
      rw [outsAt0_A m c t h0 (by have := lt_of_lt_of_eq t.isLt N_0; omega)]; frame_out
      rw [ej j, zero_add]
      exact pay3_at m c h t (j 1))
    (fun t h0 j => by
      rw [outsAt0_B m c t h0 (by omega)]; frame_out
      rw [ej j]
      exact (by pointwise [k0_pay4] : k0_pay4 (F := Ideal) _ _ _ (ix2 0 (j 1)) = _).trans (congrArg (_ + ·) (pay3_at m c h t (j 1))))
    (le_of_eq N_0) last rfl j, zero_add]
  refine (sum _ _).trans (congrArg _ ?_)
  exact (sum_split (m := 16) (n := 512) rfl fun r => err (aY m c) (aT m c) (bat r) (row r) (j 1) ^ 2).symm

theorem total : (∑ k : Fin 1024, ∑ r, err (aY m c) (aT m c) (bat r) (row r) k ^ 2) = ∑ b, ∑ s, ∑ k, err (aY m c) (aT m c) b s k ^ 2 := by
  rw [Finset.sum_comm, sum_split (m := 4) (n := 2048) rfl]
  refine Finset.sum_congr rfl fun b _ => Finset.sum_congr rfl fun s _ => Finset.sum_congr rfl fun k _ => ?_
  have h1 := b.isLt
  have h2 := s.isLt
  refine congrArg₂ (fun b s => err (aY m c) (aT m c) b s k ^ 2) (Fin.ext ?_) (Fin.ext ?_)
  · show (b.val * 2048 + s.val) / 2048 = b.val; omega
  · show (b.val * 2048 + s.val) % 2048 = s.val; omega

end Cert.LossHeadIdeal.Ls

end
-- ==== Proof.LossRuns.lean ====
/- The runs of the loss kernel and of its reference: both end with the same loss and the same gradient. -/
module

public import proofs.«01_k».proof.Proof.LossValue

@[expose] public section

set_option maxRecDepth 16384

noncomputable section

open Idealize.ShloMosaic Idealize.ShloMosaic.TcCoe Idealize.SL.Sem

namespace Cert.LossHeadIdeal.Ls

open Cert.LossHeadIdeal Cert.LossHeadIdeal.Gen Cert.Conv Cert.Lift Cert.Loss

/-- The loss as the host makes it of the sums of squares. -/
def ofSums (q : FVec Ideal S1x1024 .f32) : FVec Ideal S_ .f32 :=
  Host.divf (mulf (constant S_ .f32 0x3F000000#32) (Host.reduceAdd q (constant S_ .f32 0x00000000#32) reducesTo_S1x1024_S_d0_1 h_S_)) (constant S_ .f32 0x44800000#32)

theorem ofSums_at (q : FVec Ideal S1x1024 .f32) (f : Fin 1024 → ℝ) (hq : ∀ k, q (ix2 0 k) = ((f k : ℝ) : EReal)) (j : S_.Idx) :
    ofSums q j = (((1 / 2 * ∑ k, f k) / 1024 : ℝ) : EReal) := by
  have e : Host.reduceAdd q (constant (F := Ideal) S_ .f32 0x00000000#32) reducesTo_S1x1024_S_d0_1 h_S_ j = ((∑ k, f k : ℝ) : EReal) := by
    refine (sum_all _ q _ j).trans ?_
    rw [Fin.sum_univ_one, ← sum, Finset.sum_congr rfl fun k _ => hq k]
    refine Eq.trans ?_ (zero_add _)
    congr 1
    pointwise
  show Ideal.div (Ideal.ofBits .f32 0x3F000000#32 * Host.reduceAdd q (constant (F := Ideal) S_ .f32 0x00000000#32) reducesTo_S1x1024_S_d0_1 h_S_ j) (Ideal.ofBits .f32 0x44800000#32) = _
  rw [e, half, w1024, mul, div _ _ (by norm_num)]

theorem run (m : (ℓ : Loc nD τ sig) → Buf (Elt Ideal) ℓ) (ρ : Dev nD → PrngReg)
    (h : ∀ c : Dev nD, Reals (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v5) = rLoss (m ((c : Thread nD τ).loc main_arg0)) (m ((c : Thread nD τ).loc main_arg1))
      ∧ r.2.mem ((c : Thread nD τ).loc main_v2_0) = rGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r hr c => ?_) (θ_run_and (run_main m ρ) (unchanged m ρ))
  obtain ⟨hr, hk⟩ := hr
  refine ⟨((hr c).2 main_v5 (by decide)).trans ?_, ((hr c).1 2).trans (final2 m c (h c)), hk c⟩
  have e : Pipeline.afterTail₀ cfgs (dats m) 0 (V0 m) [hostOps1] c main_v5 = ofSums ((dats m 0 c).arrAt 3 cfg0.N) := by
    show StableHlo.after hostOps1 _ (Proc.tc.devRef main_v5) = _
    after_results
    exact congrArg ofSums (Pipeline.withArrays_arr spec0 (by decide) c _ _ 3)
  rw [e]
  funext j
  refine (ofSums_at _ (fun k => ∑ r, err (aY m c) (aT m c) (bat r) (row r) k ^ 2) (fun k => by rw [final3 m c (h c)]; rfl) j).trans ?_
  rw [total m c (h c)]
  rfl

end Cert.LossHeadIdeal.Ls

namespace Cert.LossHeadRefIdeal.Ls

open Cert.LossHeadRefIdeal Cert.LossHeadRefIdeal.Gen Cert.LossHeadRefIdeal.Read Cert.Conv Cert.Lift Cert.Loss

variable (y t : FVec Ideal S4x2048x1024 .f32) (h : Reals y t)
include h

theorem v8 (j : S_.Idx) : val_main_v8 (F := Ideal) y t j = rLoss y t j := by
  have e4 (b : Fin 4) (s : Fin 2048) : val_main_v6 (F := Ideal) y t (ix2 b s) = (((∑ k, err y t b s k ^ 2) / 1024 : ℝ) : EReal) := by
    pointwise [val_main_v6, val_main_v4, val_main_v1, val_main_v0, val_main_cst_0, val_main_v5, val_main_cst_1]
    rw [w1024, ← div _ _ (by norm_num), ← sum]
    refine congrArg (Ideal.div · _) (Finset.sum_congr rfl fun k _ => ?_)
    rw [err_eq y t h, mul, sq]
  have e7 : val_main_v7 (F := Ideal) y t j = ((∑ b, ∑ s, (∑ k, err y t b s k ^ 2) / 1024 : ℝ) : EReal) := by
    refine (sum_all _ _ _ j).trans ?_
    simp only [e4, sum]
    refine Eq.trans ?_ (zero_add _)
    congr 1
    pointwise [val_main_cst_2]
  show Ideal.ofBits .f32 0x3F000000#32 * val_main_v7 (F := Ideal) y t j = _
  rw [e7, half, mul]
  show _ = ((loss y t : ℝ) : EReal)
  unfold loss
  simp only [← Finset.sum_div]
  rw [mul_div_assoc]

theorem v15 (r : Fin 8192) (k : Fin 1024) : val_main_v15 (F := Ideal) y t (ix2 r k) = ((err y t (bat r) (row r) k / 1024 : ℝ) : EReal) := by
  have e (b : Fin 4) (s : Fin 2048) (k : Fin 1024) : val_main_v14 (F := Ideal) y t (ix3 b s k) = ((err y t b s k / 1024 : ℝ) : EReal) := by
    pointwise [val_main_v14, val_main_v13, val_main_v12, val_main_v11, val_main_cst_6, val_main_v10, val_main_v9, val_main_cst_4, val_main_cst_5,
      val_main_v3, val_main_v2, val_main_cst, val_main_v0]
    rw [err_eq y t h, half, two, w1024]
    simp only [one, mul]
    rw [div _ _ (by norm_num), mul]
    congr 1
    ring
  rw [← e]
  pointwise [val_main_v15]
  blk_ext [bat, row]

end Cert.LossHeadRefIdeal.Ls

namespace Cert.LossHeadRefIdeal.Ls

open Cert.LossHeadRefIdeal Cert.LossHeadRefIdeal.Gen Cert.LossHeadRefIdeal.Read Cert.Conv Cert.Lift Cert.Loss

theorem reals (y t : FVec Ideal S4x2048x1024 .f32)
    (h : (Cert.Pre_loss_finite.fn (F := Ideal) y t).1 = (fun _ => 1#1) ∧ (Cert.Pre_loss_finite.fn (F := Ideal) y t).2 = fun _ => 1#1) : Reals y t where
  y := of_finite y _ (fun i => by pointwise [winf]) h.1
  t := of_finite t _ (fun i => by pointwise [winf]) h.2

theorem run (m : (ℓ : Loc nD τ sig) → Buf (Elt Ideal) ℓ) (ρ : Dev nD → PrngReg)
    (h : ∀ c : Dev nD, Reals (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v8) = rLoss (m ((c : Thread nD τ).loc main_arg0)) (m ((c : Thread nD τ).loc main_arg1))
      ∧ r.2.mem ((c : Thread nD τ).loc main_v15) = rGrad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => by
      refine ⟨(hr c).1.trans ((val_main_v8_eq _ _).trans ?_), (hr c).2.1.trans ((val_main_v15_eq _ _).trans ?_), (hr c).2.2⟩
      · funext j; exact v8 _ _ (h c) j
      · funext j; rw [eq_ix2 j]; exact v15 _ _ (h c) (j 0) (j 1))
    (Cert.LossHeadRefIdeal.Value.run m ρ)

end Cert.LossHeadRefIdeal.Ls

end
-- ==== Proof.FfnInRef.lean ====
/- The reference of the feed-forward's input gradient: the layer norm's gradient at the cotangent that the products and
   the residual make. -/
module

public import proofs.«01_k».proof.Proof.LnRuns
public import proofs.«01_k».proof.Proof.Gen.FfnInBwdRefIdeal.Run
public import proofs.«01_k».proof.Proof.Gen.FfnInBwdRefIdeal.Read
public import proofs.«01_k».proof.Proof.Gen.Pre_ffnx_finite

@[expose] public section

set_option maxRecDepth 16384

noncomputable section

open Idealize.ShloMosaic Idealize.ShloMosaic.TcCoe Idealize.SL.Sem

namespace Cert.FfnInBwdRefIdeal.Fx

open Cert.FfnInBwdRefIdeal Cert.FfnInBwdRefIdeal.Gen Cert.FfnInBwdRefIdeal.Read Cert.Lift Cert.LN Cert.LnBwdIdeal.Ln

theorem e8 (z : FVec Ideal S8192x1024 .f32) : val_main_v8 (F := Ideal) z = Cert.LnBwdRefIdeal.Read.val_main_v8 (F := Ideal) z := rfl
theorem e14 (z : FVec Ideal S8192x1024 .f32) : val_main_v14 (F := Ideal) z = Cert.LnBwdRefIdeal.Read.val_main_v14 (F := Ideal) z := rfl
theorem e17 (z : FVec Ideal S8192x1024 .f32) : val_main_v17 (F := Ideal) z = Cert.LnBwdRefIdeal.Read.val_main_v17 (F := Ideal) z := rfl
theorem e20 (z : FVec Ideal S8192x1024 .f32) : val_main_v20 (F := Ideal) z = Cert.LnBwdRefIdeal.Read.val_main_v20 (F := Ideal) z := rfl
theorem e22 (z : FVec Ideal S8192x1024 .f32) : val_main_v22 (F := Ideal) z = Cert.LnBwdRefIdeal.Read.val_main_v22 (F := Ideal) z := rfl
theorem h29 (z : FVec Ideal S8192x1024 .f32) : Cert.LnBwdRefIdeal.Read.val_main_v29 (F := Ideal) z = z := by
  funext i; idx_vars i; pointwise [Cert.LnBwdRefIdeal.Read.val_main_v29]

variable (z : FVec Ideal S8192x1024 .f32) (g b : FVec Ideal S1024 .f32) (wg wu : FVec Ideal S1024x2816 .f32) (ct : FVec Ideal S8192x1024 .f32) (dg du : FVec Ideal S8192x2816 .f32)

theorem e50 : val_main_v50 (F := Ideal) g wg wu ct dg du = Cert.LnBwdRefIdeal.Read.val_main_v37 (F := Ideal) g (val_main_v42 (F := Ideal) wg wu ct dg du) := by
  rw [Cert.LnBwdRefIdeal.Read.val_main_v37, h29]; rfl

theorem e56 : val_main_v56 (F := Ideal) z g wg wu ct dg du = Cert.LnBwdRefIdeal.Read.val_main_v43 (F := Ideal) z g (val_main_v42 (F := Ideal) wg wu ct dg du) := by
  rw [val_main_v56, val_main_v55, e50, e17]; rfl

theorem e65 : val_main_v65 (F := Ideal) z g wg wu ct dg du = Cert.LnBwdRefIdeal.Read.val_main_v52 (F := Ideal) z g (val_main_v42 (F := Ideal) wg wu ct dg du) := by
  rw [val_main_v65, val_main_v64, val_main_v63, val_main_v62, val_main_v57, val_main_v54, val_main_v53, val_main_v52, e8, e14, e20, e50]; rfl

theorem e75 : val_main_v75 (F := Ideal) z g wg wu ct dg du = Cert.LnBwdRefIdeal.Read.val_main_v62 (F := Ideal) z g (val_main_v42 (F := Ideal) wg wu ct dg du) := by
  rw [val_main_v75, val_main_v74, val_main_v73, val_main_v72, val_main_v70, val_main_v69, val_main_v68, val_main_v67, val_main_v66, val_main_v60, val_main_v59, val_main_v58, e56, e65]; rfl

theorem e77 : val_main_v77 (F := Ideal) z wg wu ct dg du = Cert.LnBwdRefIdeal.Read.val_main_v64 (F := Ideal) z (val_main_v42 (F := Ideal) wg wu ct dg du) := by
  rw [Cert.LnBwdRefIdeal.Read.val_main_v64, Cert.LnBwdRefIdeal.Read.val_main_v38, Cert.LnBwdRefIdeal.Read.val_main_v35, Cert.LnBwdRefIdeal.Read.val_main_v34, Cert.LnBwdRefIdeal.Read.val_main_v33, h29, ← e22]; rfl

theorem e78 : val_main_v78 (F := Ideal) wg wu ct dg du = Cert.LnBwdRefIdeal.Read.val_main_v65 (F := Ideal) (val_main_v42 (F := Ideal) wg wu ct dg du) := rfl

/-- The f32 word of the residual's factor. -/
def alpha : ℝ := 11863283 / 8388608
theorem walpha : Ideal.ofBits .f32 0x3FB504F3#32 = ((alpha : ℝ) : EReal) := by
  simp [alpha, Ideal.ofBits, Ideal.ieee, -EReal.coe_mul]; norm_num

/-- The layer norm's cotangent. -/
def cot (wg wu : Fin 1024 → Fin 2816 → ℝ) (ct : Fin 8192 → Fin 1024 → ℝ) (dg du : Fin 8192 → Fin 2816 → ℝ) (i : Fin 8192) (j : Fin 1024) : ℝ :=
  alpha * ct i j + ∑ k, (dg i k * wg j k + du i k * wu j k)

/-- The arrays of the precondition are arrays of reals. -/
structure Reals (z : FVec Ideal S8192x1024 .f32) (g : FVec Ideal S1024 .f32) (wg wu : FVec Ideal S1024x2816 .f32) (ct : FVec Ideal S8192x1024 .f32)
    (dg du : FVec Ideal S8192x2816 .f32) : Prop where
  z : ∀ i k, z (ix2 i k) = ((mat z i k : ℝ) : EReal)
  g : ∀ k, g (ix1 k) = ((vec g k : ℝ) : EReal)
  wg : ∀ i k, wg (ix2 i k) = ((mat wg i k : ℝ) : EReal)
  wu : ∀ i k, wu (ix2 i k) = ((mat wu i k : ℝ) : EReal)
  ct : ∀ i k, ct (ix2 i k) = ((mat ct i k : ℝ) : EReal)
  dg : ∀ i k, dg (ix2 i k) = ((mat dg i k : ℝ) : EReal)
  du : ∀ i k, du (ix2 i k) = ((mat du i k : ℝ) : EReal)

theorem reals
    (h : (Cert.Pre_ffnx_finite.fn (F := Ideal) z g b wg wu ct dg du).1 = (fun _ => 1#1)
      ∧ (Cert.Pre_ffnx_finite.fn (F := Ideal) z g b wg wu ct dg du).2.1 = (fun _ => 1#1)
      ∧ (Cert.Pre_ffnx_finite.fn (F := Ideal) z g b wg wu ct dg du).2.2.1 = (fun _ => 1#1)
      ∧ (Cert.Pre_ffnx_finite.fn (F := Ideal) z g b wg wu ct dg du).2.2.2.1 = (fun _ => 1#1)
      ∧ (Cert.Pre_ffnx_finite.fn (F := Ideal) z g b wg wu ct dg du).2.2.2.2.1 = (fun _ => 1#1)
      ∧ (Cert.Pre_ffnx_finite.fn (F := Ideal) z g b wg wu ct dg du).2.2.2.2.2.1 = (fun _ => 1#1)
      ∧ (Cert.Pre_ffnx_finite.fn (F := Ideal) z g b wg wu ct dg du).2.2.2.2.2.2 = fun _ => 1#1) : Reals z g wg wu ct dg du where
  z := fun i k => of_finite z _ (fun i => by pointwise [winf]) h.1 _
  g := fun k => of_finite g _ (fun i => by pointwise [winf]) h.2.1 _
  wg := fun i k => of_finite wg _ (fun i => by pointwise [winf]) h.2.2.1 _
  wu := fun i k => of_finite wu _ (fun i => by pointwise [winf]) h.2.2.2.1 _
  ct := fun i k => of_finite ct _ (fun i => by pointwise [winf]) h.2.2.2.2.1 _
  dg := fun i k => of_finite dg _ (fun i => by pointwise [winf]) h.2.2.2.2.2.1 _
  du := fun i k => of_finite du _ (fun i => by pointwise [winf]) h.2.2.2.2.2.2 _

variable {z g wg wu ct dg du}

theorem v42 (h : Reals z g wg wu ct dg du) (i : Fin 8192) (j : Fin 1024) :
    val_main_v42 (F := Ideal) wg wu ct dg du (ix2 i j) = ((cot (mat wg) (mat wu) (mat ct) (mat dg) (mat du) i j : ℝ) : EReal) := by
  pointwise [val_main_v42, val_main_v41, val_main_v40, val_main_v39, val_main_v38, val_main_v35, val_main_cst_7]
  simp only [h.wg, h.wu, h.ct, h.dg, h.du, walpha, mul, sum, add]
  refine congrArg _ ?_
  rw [cot, Finset.sum_add_distrib]; ring

section
variable (h : Reals z g wg wu ct dg du)
include h

theorem d75 : val_main_v75 (F := Ideal) z g wg wu ct dg du = dz (mat z) (cot (mat wg) (mat wu) (mat ct) (mat dg) (mat du)) (vec g) := by
  funext j; idx_vars j; rw [e75]
  exact Cert.LnBwdRefIdeal.Ln.v62 _ _ _ _ _ _ h.z (v42 h) h.g j0 j1

theorem d77 : val_main_v77 (F := Ideal) z wg wu ct dg du = Cert.LnBwdIdeal.Ln.dg (mat z) (cot (mat wg) (mat wu) (mat ct) (mat dg) (mat du)) := by
  funext j; idx_vars j; rw [Subsingleton.elim j0 0, e77]
  exact Cert.LnBwdRefIdeal.Ln.v64 _ _ _ _ h.z (v42 h) j1

theorem d78 : val_main_v78 (F := Ideal) wg wu ct dg du = db (cot (mat wg) (mat wu) (mat ct) (mat dg) (mat du)) := by
  funext j; idx_vars j; rw [Subsingleton.elim j0 0, e78]
  exact Cert.LnBwdRefIdeal.Ln.v65 _ _ (v42 h) j1

end

end Cert.FfnInBwdRefIdeal.Fx

end
-- ==== Proof.FfnInValue.lean ====
/- The arrays the feed-forward's input gradient kernel leaves, for finite arguments: the layer norm's gradient at the
   cotangent that the products and the residual make. -/
module

public import proofs.«01_k».proof.Proof.Gen.FfnInBwdIdeal.Value
public import proofs.«01_k».proof.Proof.FfnInRef

@[expose] public section

set_option maxRecDepth 16384

noncomputable section

open Idealize.ShloMosaic Idealize.ShloMosaic.TcCoe Idealize.SL.Sem
open Idealize.ShloMosaic.Pipeline (Dat)

namespace Cert.FfnInBwdIdeal.Fx

open Cert.FfnInBwdIdeal Cert.FfnInBwdIdeal.Gen Cert.Lift Cert.LN Cert.FfnInBwdRefIdeal.Fx
open Cert.LnBwdIdeal.Ln (mat vec dz db sum_rows)

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- Row `i` of grid point `t`, and column `k` of slab `s`. -/
def row (t : Fin cfg0.N) (i : Fin 512) : Fin 8192 := ⟨t.val * 512 + i.val, by have := lt_of_lt_of_eq t.isLt N_0; omega⟩
def col (s : Fin 4) (k : Fin 704) : Fin 2816 := ⟨s.val * 704 + k.val, by omega⟩

abbrev aZ : FVec Ideal S8192x1024 .f32 := m ((c : Thread nD τ).loc main_arg0)
abbrev aG : FVec Ideal S1024 .f32 := m ((c : Thread nD τ).loc main_arg1)
abbrev aWg : FVec Ideal S1024x2816 .f32 := m ((c : Thread nD τ).loc main_arg3)
abbrev aWu : FVec Ideal S1024x2816 .f32 := m ((c : Thread nD τ).loc main_arg4)
abbrev aCt : FVec Ideal S8192x1024 .f32 := m ((c : Thread nD τ).loc main_arg5)
abbrev aDg : FVec Ideal S8192x2816 .f32 := m ((c : Thread nD τ).loc main_arg6)
abbrev aDu : FVec Ideal S8192x2816 .f32 := m ((c : Thread nD τ).loc main_arg7)

theorem blk4 (t : Fin cfg0.N) (i : Fin 512) (k : Fin 1024) :
    (show FVec Ideal S512x1024 .f32 from iblk m c 4 t) (ix2 i k) = aCt m c (ix2 (row t i) k) := by
  blk_ext [iblk, V, idx t, row]
theorem blk5 (t : Fin cfg0.N) (i : Fin 512) (k : Fin 1024) :
    (show FVec Ideal S512x1024 .f32 from iblk m c 5 t) (ix2 i k) = aZ m c (ix2 (row t i) k) := by
  blk_ext [iblk, V, idx t, row]
theorem blk6 (t : Fin cfg0.N) (k : Fin 1024) :
    (show FVec Ideal S1x1024 .f32 from iblk m c 6 t) (ix2 0 k) = aG m c (ix1 k) := by
  blk_simp [iblk, idx t]; entry_read; pointwise; blk_ext [idx t]
theorem blk0 (t : Fin cfg0.N) (s : Fin 4) (i : Fin 512) (k : Fin 704) :
    (show FVec Ideal S4x512x704 .bf16 from iblk m c 0 t) (ix3 s i k) = aDg m c (ix2 (row t i) (col s k)) := by
  blk_simp [iblk, idx t]; entry_read; pointwise; blk_ext [idx t, row, col]
theorem blk1 (t : Fin cfg0.N) (s : Fin 4) (i : Fin 512) (k : Fin 704) :
    (show FVec Ideal S4x512x704 .bf16 from iblk m c 1 t) (ix3 s i k) = aDu m c (ix2 (row t i) (col s k)) := by
  blk_simp [iblk, idx t]; entry_read; pointwise; blk_ext [idx t, row, col]
theorem blk2 (t : Fin cfg0.N) (s : Fin 4) (i : Fin 1024) (k : Fin 704) :
    (show FVec Ideal S4x1024x704 .bf16 from iblk m c 2 t) (ix3 s i k) = aWg m c (ix2 i (col s k)) := by
  blk_simp [iblk, idx t]; entry_read; pointwise; blk_ext [idx t, row, col]
theorem blk3 (t : Fin cfg0.N) (s : Fin 4) (i : Fin 1024) (k : Fin 704) :
    (show FVec Ideal S4x1024x704 .bf16 from iblk m c 3 t) (ix3 s i k) = aWu m c (ix2 i (col s k)) := by
  blk_simp [iblk, idx t]; entry_read; pointwise; blk_ext [idx t, row, col]

/-- Slab `s` of a window of four, as the body loads it. -/
theorem inbA : ∀ (s : Fin 4) (a : Fin 3), (![s.val, 0, 0] : Fin 3 → ℕ) a + (![1, 512, 704] : Fin 3 → ℕ) a ≤ S4x512x704.size a := by decide +kernel
def slabA (x : Vec Ideal S4x512x704 .bf16) (s : Fin 4) : FVec Ideal S1x512x704 .bf16 :=
  fun y => x ((Rect.unit (s := S4x512x704) ![s.val, 0, 0] ![1, 512, 704] (inbA s)).idx y)
theorem slabA_at (x : FVec Ideal S4x512x704 .bf16) (s : Fin 4) (i : Fin 512) (k : Fin 704) : slabA x s (ix3 0 i k) = x (ix3 s i k) := by
  refine congrArg x (funext fun a => Fin.ext ((Rect.idx_unit_val _ _ _ _ a).trans ?_))
  fin_cases a
  · exact Nat.add_zero _
  · exact Nat.zero_add _
  · exact Nat.zero_add _
/-- Slab `s` of a window of four of the weights, as the body loads it. -/
theorem inbB : ∀ (s : Fin 4) (a : Fin 3), (![s.val, 0, 0] : Fin 3 → ℕ) a + (![1, 1024, 704] : Fin 3 → ℕ) a ≤ S4x1024x704.size a := by decide +kernel
def slabB (x : Vec Ideal S4x1024x704 .bf16) (s : Fin 4) : FVec Ideal S1x1024x704 .bf16 :=
  fun y => x ((Rect.unit (s := S4x1024x704) ![s.val, 0, 0] ![1, 1024, 704] (inbB s)).idx y)
theorem slabB_at (x : FVec Ideal S4x1024x704 .bf16) (s : Fin 4) (i : Fin 1024) (k : Fin 704) : slabB x s (ix3 0 i k) = x (ix3 s i k) := by
  refine congrArg x (funext fun a => Fin.ext ((Rect.idx_unit_val _ _ _ _ a).trans ?_))
  fin_cases a
  · exact Nat.add_zero _
  · exact Nat.zero_add _
  · exact Nat.zero_add _

/-- The cotangent a grid point makes from its four slabs of each product's factors and its rows. -/
def made (a b : Fin 4 → FVec Ideal S1x512x704 .bf16) (c d : Fin 4 → FVec Ideal S1x1024x704 .bf16) (x4 : FVec Ideal S512x1024 .f32) : FVec Ideal S512x1024 .f32 :=
  k0_pay4 (F := Ideal) (k0_pay3 (F := Ideal) x4 (a 0) (c 0) (b 0) (d 0) (a 1) (c 1) (b 1) (d 1)) (a 2) (c 2) (b 2) (d 2) (a 3) (c 3) (b 3) (d 3)

theorem made_at (a b : Fin 4 → FVec Ideal S1x512x704 .bf16) (c d : Fin 4 → FVec Ideal S1x1024x704 .bf16) (x4 : FVec Ideal S512x1024 .f32)
    (wg wu : Fin 1024 → Fin 2816 → ℝ) (ct : Fin 1024 → ℝ) (dg du : Fin 2816 → ℝ) (i : Fin 512)
    (h0 : ∀ s k, a s (ix3 0 i k) = ((dg (col s k) : ℝ) : EReal)) (h1 : ∀ s k, b s (ix3 0 i k) = ((du (col s k) : ℝ) : EReal))
    (h2 : ∀ s j k, c s (ix3 0 j k) = ((wg j (col s k) : ℝ) : EReal)) (h3 : ∀ s j k, d s (ix3 0 j k) = ((wu j (col s k) : ℝ) : EReal))
    (h4 : ∀ j, x4 (ix2 i j) = ((ct j : ℝ) : EReal)) (j : Fin 1024) :
    made a b c d x4 (ix2 i j) = ((alpha * ct j + ∑ k, (dg k * wg j k + du k * wu j k) : ℝ) : EReal) := by
  rw [Fin.sum_univ_tiles 4 704 rfl, Fin.sum_univ_four]
  pointwise [made, k0_pay3, k0_pay4]
  simp only [h0, h1, h2, h3, h4, walpha, mul, sum, add, zero_add]
  refine congrArg _ ?_
  simp only [Finset.sum_add_distrib]
  show _ = alpha * ct j + ((∑ k, dg (col 0 k) * wg j (col 0 k) + ∑ k, du (col 0 k) * wu j (col 0 k))
    + (∑ k, dg (col 1 k) * wg j (col 1 k) + ∑ k, du (col 1 k) * wu j (col 1 k))
    + (∑ k, dg (col 2 k) * wg j (col 2 k) + ∑ k, du (col 2 k) * wu j (col 2 k))
    + (∑ k, dg (col 3 k) * wg j (col 3 k) + ∑ k, du (col 3 k) * wu j (col 3 k)))
  ring

/-- The cotangent of grid point `t`. -/
def cotK (t : Fin cfg0.N) : FVec Ideal S512x1024 .f32 :=
  made (slabA (iblk m c 0 t)) (slabA (iblk m c 1 t)) (slabB (iblk m c 2 t)) (slabB (iblk m c 3 t)) (iblk m c 4 t)

/-- The cotangent over all rows. -/
def ctR : Fin 8192 → Fin 1024 → ℝ := cot (mat (aWg m c)) (mat (aWu m c)) (mat (aCt m c)) (mat (aDg m c)) (mat (aDu m c))

theorem key (h : Reals (aZ m c) (aG m c) (aWg m c) (aWu m c) (aCt m c) (aDg m c) (aDu m c)) (t : Fin cfg0.N) (i : Fin 512) (j : Fin 1024) :
   cotK m c t (ix2 i j) = ((ctR m c (row t i) j : ℝ) : EReal) :=
  made_at _ _ _ _ _ (mat (aWg m c)) (mat (aWu m c)) (mat (aCt m c) (row t i)) (mat (aDg m c) (row t i)) (mat (aDu m c) (row t i)) i
    (fun s k => (slabA_at _ s i k).trans <| (blk0 m c t s i k).trans (h.dg _ _)) (fun s k => (slabA_at _ s i k).trans <| (blk1 m c t s i k).trans (h.du _ _))
    (fun s j k => (slabB_at _ s j k).trans <| (blk2 m c t s j k).trans (h.wg _ _)) (fun s j k => (slabB_at _ s j k).trans <| (blk3 m c t s j k).trans (h.wu _ _))
    (fun j => (blk4 m c t i j).trans (h.ct _ _)) j

section reuse
variable (x4 x5 : FVec Ideal S512x1024 .f32) (x6 : FVec Ideal S1x1024 .f32)
theorem r10 : k0_pay10 (F := Ideal) x4 x5 (k0_pay5 (F := Ideal) x6) (k0_pay6 (F := Ideal) x5) = Cert.LnBwdIdeal.Gen.k0_pay8 (F := Ideal) x5 x4 x6 := rfl
theorem r13 : k0_pay13 (F := Ideal) x4 x5 (k0_pay5 (F := Ideal) x6) (k0_pay6 (F := Ideal) x5) = Cert.LnBwdIdeal.Gen.k0_pay8 (F := Ideal) x5 x4 x6 := rfl
theorem r11 : k0_pay11 (F := Ideal) x4 x5 (k0_pay6 (F := Ideal) x5) = Cert.LnBwdIdeal.Gen.k0_pay9 (F := Ideal) x5 x4 := rfl
theorem r12 : k0_pay12 (F := Ideal) x4 = Cert.LnBwdIdeal.Gen.k0_pay1 (F := Ideal) (Cert.LnBwdIdeal.Gen.k0_pay10 (F := Ideal) x4) := rfl
theorem add1 (a b : FVec Ideal S1x1024 .f32) (j : S1x1024.Idx) : k0_pay1 (F := Ideal) a b j = b j + a j := by pointwise [k0_pay1]
theorem add2 (a b : FVec Ideal S1x1024 .f32) (j : S1x1024.Idx) : k0_pay2 (F := Ideal) a b j = b j + a j := by pointwise [k0_pay2]
end reuse

section outs
variable (h : Reals (aZ m c) (aG m c) (aWg m c) (aWu m c) (aCt m c) (aDg m c) (aDu m c))
include h

theorem key8 (t : Fin cfg0.N) (i : Fin 512) (j : Fin 1024) : Cert.LnBwdIdeal.Gen.k0_pay8 (F := Ideal) (iblk m c 5 t) (cotK m c t) (iblk m c 6 t) (ix2 i j)
    = dz (mat (aZ m c)) (ctR m c) (vec (aG m c)) (ix2 (row t i) j) :=
  Cert.LnBwdIdeal.Ln.pay8 _ _ _ i (mat (aZ m c) (row t i)) ((ctR m c) (row t i)) (vec (aG m c)) (fun k => (blk5 m c t i k).trans (h.z _ _))
    (key m c h t i) (fun k => (blk6 m c t k).trans (h.g _)) j

theorem out7 (t : Fin cfg0.N) (i : Fin 512) (j : Fin 1024) : (outsAt0 m c t.val t.isLt).1 (ix2 i j) = dz (mat (aZ m c)) (ctR m c) (vec (aG m c)) (ix2 (row t i) j) := by
  by_cases h0 : t.val % 16 = 0
  · rw [outsAt0_A m c t h0 (by have := lt_of_lt_of_eq t.isLt N_0; omega)]; frame_out; exact (congrFun (r10 _ _ _) _).trans (key8 m c h t i j)
  · rw [outsAt0_B m c t h0 (by omega)]; frame_out; exact (congrFun (r10 _ _ _) _).trans (key8 m c h t i j)

theorem out8 (t : Fin cfg0.N) (i : Fin 512) (j : Fin 1024) : (outsAt0 m c t.val t.isLt).2.1 (ix2 i j) = dz (mat (aZ m c)) (ctR m c) (vec (aG m c)) (ix2 (row t i) j) := by
  by_cases h0 : t.val % 16 = 0
  · rw [outsAt0_A m c t h0 (by have := lt_of_lt_of_eq t.isLt N_0; omega)]; frame_out; exact (congrFun (r13 _ _ _) _).trans (key8 m c h t i j)
  · rw [outsAt0_B m c t h0 (by omega)]; frame_out; exact (congrFun (r13 _ _ _) _).trans (key8 m c h t i j)

theorem final7 : (dats m 0 c).arrAt 7 cfg0.N = dz (mat (aZ m c)) (ctR m c) (vec (aG m c)) := by
  refine (dats m 0 c).arrAt_eq_of_covers 7 _ (by decide +kernel) fun t _ y => ?_
  have e : ((cfg0.win 7).blk t).view.emb y = (ix2 (row t (y 0)) (y 1) : S8192x1024.Idx) := by blk_ext [row, idx t]
  rw [e]
  blk_simp
  rw [after0_7]
  exact (congrArg _ (eq_ix2 y)).trans (out7 m c h t (y 0) (y 1))

theorem final8 : (dats m 0 c).arrAt 8 cfg0.N = dz (mat (aZ m c)) (ctR m c) (vec (aG m c)) := by
  refine (dats m 0 c).arrAt_eq_of_covers 8 _ (by decide +kernel) fun t _ y => ?_
  have e : ((cfg0.win 8).blk t).view.emb y = (ix2 (row t (y 0)) (y 1) : S8192x1024.Idx) := by blk_ext [row, idx t]
  rw [e]
  blk_simp
  rw [after0_8]
  exact (congrArg _ (eq_ix2 y)).trans (out8 m c h t (y 0) (y 1))

theorem part9 (t : Fin cfg0.N) (y : S1x1024.Idx) : k0_pay11 (F := Ideal) (cotK m c t) (iblk m c 5 t) (k0_pay6 (F := Ideal) (iblk m c 5 t)) y
    = ((∑ r, (ctR m c) (row t r) (y 1) * xhat (mat (aZ m c) (row t r)) (y 1) : ℝ) : EReal) := by
  idx_vars y
  rw [Subsingleton.elim y0 0, r11]
  exact Cert.LnBwdIdeal.Ln.pay9 _ _ (fun i => mat (aZ m c) (row t i)) (fun i => (ctR m c) (row t i)) (fun i k => (blk5 m c t i k).trans (h.z _ _)) (key m c h t) y1

theorem part10 (t : Fin cfg0.N) (y : S1x1024.Idx) : k0_pay12 (F := Ideal) (cotK m c t) y = ((∑ r, (ctR m c) (row t r) (y 1) : ℝ) : EReal) := by
  idx_vars y
  rw [Subsingleton.elim y0 0, r12]
  exact Cert.LnBwdIdeal.Ln.pay10 _ (fun i => (ctR m c) (row t i)) (key m c h t) y1

theorem final9 : (dats m 0 c).arrAt 9 cfg0.N = Cert.LnBwdIdeal.Ln.dg (mat (aZ m c)) (ctR m c) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun p j => ((∑ r, (ctR m c) (row p r) (j 1) * xhat (mat (aZ m c) (row p r)) (j 1) : ℝ) : EReal))
    (fun t h0 j => by
      rw [outsAt0_A m c t h0 (by have := lt_of_lt_of_eq t.isLt N_0; omega)]; frame_out
      exact (part9 m c h t j).trans (zero_add _).symm)
    (fun t h0 j => by
      rw [outsAt0_B m c t h0 (by omega)]; frame_out
      exact (add1 _ _ _).trans (congrArg _ (part9 m c h t j)))
    (le_of_eq N_0) t0_15 rfl j, zero_add]
  exact sum_rows fun r => (ctR m c) r (j 1) * xhat (mat (aZ m c) r) (j 1)

theorem final10 : (dats m 0 c).arrAt 10 cfg0.N = db (ctR m c) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0)
    (fun p j => ((∑ r, (ctR m c) (row p r) (j 1) : ℝ) : EReal))
    (fun t h0 j => by
      rw [outsAt0_A m c t h0 (by have := lt_of_lt_of_eq t.isLt N_0; omega)]; frame_out
      exact (part10 m c h t j).trans (zero_add _).symm)
    (fun t h0 j => by
      rw [outsAt0_B m c t h0 (by omega)]; frame_out
      exact (add2 _ _ _).trans (congrArg _ (part10 m c h t j)))
    (le_of_eq N_0) t0_15 rfl j, zero_add]
  exact sum_rows fun r => (ctR m c) r (j 1)

end outs

end Cert.FfnInBwdIdeal.Fx

end
-- ==== Proof.FfnInRuns.lean ====
/- The runs of the feed-forward's input gradient kernel and of its reference, for finite arguments: both end with the same
   four arrays. -/
module

public import proofs.«01_k».proof.Proof.FfnInValue

@[expose] public section

set_option maxRecDepth 16384

noncomputable section

open Idealize.ShloMosaic Idealize.ShloMosaic.TcCoe Idealize.SL.Sem

namespace Cert.FfnInBwdIdeal.Fx

open Cert.FfnInBwdIdeal Cert.FfnInBwdIdeal.Gen Cert.FfnInBwdRefIdeal.Fx Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v13_0) = dz (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7)))) (vec (m ((c : Thread nD τ).loc main_arg1)))
      ∧ r.2.mem ((c : Thread nD τ).loc main_v13_1) = dz (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7)))) (vec (m ((c : Thread nD τ).loc main_arg1)))
      ∧ r.2.mem ((c : Thread nD τ).loc main_v13_2) = Cert.LnBwdIdeal.Ln.dg (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7))))
      ∧ r.2.mem ((c : Thread nD τ).loc main_v13_3) = db (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans (final7 m c (h c)), (hr c).2.1.trans (final8 m c (h c)),
      (hr c).2.2.1.trans (final9 m c (h c)), (hr c).2.2.2.1.trans (final10 m c (h c)), (hr c).2.2.2.2⟩)
    (Value.run_blocks m ρ)

end Cert.FfnInBwdIdeal.Fx

namespace Cert.FfnInBwdRefIdeal.Fx

open Cert.FfnInBwdRefIdeal Cert.FfnInBwdRefIdeal.Gen Cert.FfnInBwdRefIdeal.Read Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v75) = dz (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7)))) (vec (m ((c : Thread nD τ).loc main_arg1)))
      ∧ r.2.mem ((c : Thread nD τ).loc main_v76) = dz (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7)))) (vec (m ((c : Thread nD τ).loc main_arg1)))
      ∧ r.2.mem ((c : Thread nD τ).loc main_v77) = Cert.LnBwdIdeal.Ln.dg (mat (m ((c : Thread nD τ).loc main_arg0))) (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7))))
      ∧ r.2.mem ((c : Thread nD τ).loc main_v78) = db (cot (mat (m ((c : Thread nD τ).loc main_arg3))) (mat (m ((c : Thread nD τ).loc main_arg4))) (mat (m ((c : Thread nD τ).loc main_arg5))) (mat (m ((c : Thread nD τ).loc main_arg6))) (mat (m ((c : Thread nD τ).loc main_arg7))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans ((val_main_v75_eq m c).trans (d75 (h c))),
      (hr c).2.1.trans ((val_main_v76_eq m c).trans (d75 (h c))), (hr c).2.2.1.trans ((val_main_v77_eq _ _ _ _ _ _).trans (d77 (h c))),
      (hr c).2.2.2.1.trans ((val_main_v78_eq _ _ _ _ _).trans (d78 (h c))), (hr c).2.2.2.2⟩)
    (Cert.FfnInBwdRefIdeal.Value.run m ρ)

end Cert.FfnInBwdRefIdeal.Fx

end
-- ==== Proof.FfnWRef.lean ====
/- The reference of the gated feed-forward's gradient: the gradients of its two products and of its three weights. -/
module

public import proofs.«01_k».proof.Proof.LnRuns
public import proofs.«01_k».proof.Proof.Gen.FfnWBwdRefIdeal.Run
public import proofs.«01_k».proof.Proof.Gen.FfnWBwdRefIdeal.Read
public import proofs.«01_k».proof.Proof.Gen.Pre_ffnw_finite

@[expose] public section

set_option maxRecDepth 16384

noncomputable section

open Idealize.ShloMosaic Idealize.ShloMosaic.TcCoe Idealize.SL.Sem

namespace Cert.FfnWBwdRefIdeal.Fw

open Cert.FfnWBwdRefIdeal Cert.FfnWBwdRefIdeal.Gen Cert.FfnWBwdRefIdeal.Read Cert.Lift Cert.LN Cert.LnBwdIdeal.Ln

section cells
variable {ι κ : Type} (X Ct : ι → Fin 1024 → ℝ) (Wg Wu : Fin 1024 → κ → ℝ) (Wd : κ → Fin 1024 → ℝ)

/-- A product with a weight, the gate's sigmoid, and the cotangent behind the last product. -/
def pr (W : Fin 1024 → κ → ℝ) (i : ι) (j : κ) : ℝ := ∑ k, X i k * W k j
def sg (i : ι) (j : κ) : ℝ := (1 + Real.exp (-pr X Wg i j))⁻¹
def back (i : ι) (j : κ) : ℝ := ∑ k, Ct i k * (1 / 2) * Wd j k
/-- The gradients of the two products' results. -/
def dGate (i : ι) (j : κ) : ℝ := back Ct Wd i j * pr X Wu i j * (sg X Wg i j * (1 + pr X Wg i j * (1 - sg X Wg i j)))
def dUp (i : ι) (j : κ) : ℝ := back Ct Wd i j * (pr X Wg i j * sg X Wg i j)
def hid (i : ι) (j : κ) : ℝ := pr X Wg i j * sg X Wg i j * pr X Wu i j
end cells

section spec
variable (X Ct : Fin 8192 → Fin 1024 → ℝ) (Wg Wu : Fin 1024 → Fin 2816 → ℝ) (Wd : Fin 2816 → Fin 1024 → ℝ)

/-- Column `k` of slab `s`. -/
def col (s : Fin 4) (k : Fin 704) : Fin 2816 := ⟨s.val * 704 + k.val, by omega⟩
/-- The results, slab by slab: a gradient of a product's result, of its weight, and of the last product's weight. -/
def rows (d : Fin 8192 → Fin 2816 → ℝ) : FVec Ideal S4x8192x704 .bf16 := fun y => ((d (y 1) (col (y 0) (y 2)) : ℝ) : EReal)
def dw (d : Fin 8192 → Fin 2816 → ℝ) : FVec Ideal S4x1024x704 .bf16 := fun y => ((∑ r, X r (y 1) * d r (col (y 0) (y 2)) : ℝ) : EReal)
def dwd : FVec Ideal S4x704x1024 .bf16 := fun y => ((∑ r, hid X Wg Wu r (col (y 0) (y 1)) * (Ct r (y 2) * (1 / 2)) : ℝ) : EReal)

end spec

/-- The f32 word of a half. -/
theorem whalf : Ideal.ofBits .f32 0x3F000000#32 = ((1 / 2 : ℝ) : EReal) := by
  simp [Ideal.ofBits, Ideal.ieee, -EReal.coe_mul]; norm_num

variable (x : FVec Ideal S8192x1024 .f32) (wg wu : FVec Ideal S1024x2816 .f32) (wd : FVec Ideal S2816x1024 .f32) (ct : FVec Ideal S8192x1024 .f32)

/-- The arrays of the precondition are arrays of reals. -/
structure Reals : Prop where
  x : ∀ i k, x (ix2 i k) = ((mat x i k : ℝ) : EReal)
  wg : ∀ i k, wg (ix2 i k) = ((mat wg i k : ℝ) : EReal)
  wu : ∀ i k, wu (ix2 i k) = ((mat wu i k : ℝ) : EReal)
  wd : ∀ i k, wd (ix2 i k) = ((mat wd i k : ℝ) : EReal)
  ct : ∀ i k, ct (ix2 i k) = ((mat ct i k : ℝ) : EReal)

theorem reals (h : (Cert.Pre_ffnw_finite.fn (F := Ideal) x wg wu wd ct).1 = (fun _ => 1#1) ∧ (Cert.Pre_ffnw_finite.fn (F := Ideal) x wg wu wd ct).2.1 = (fun _ => 1#1) ∧ (Cert.Pre_ffnw_finite.fn (F := Ideal) x wg wu wd ct).2.2.1 = (fun _ => 1#1) ∧ (Cert.Pre_ffnw_finite.fn (F := Ideal) x wg wu wd ct).2.2.2.1 = (fun _ => 1#1) ∧ (Cert.Pre_ffnw_finite.fn (F := Ideal) x wg wu wd ct).2.2.2.2 = (fun _ => 1#1)) : Reals x wg wu wd ct where
  x := fun i k => of_finite x _ (fun i => by pointwise [winf]) h.1 _
  wg := fun i k => of_finite wg _ (fun i => by pointwise [winf]) h.2.1 _
  wu := fun i k => of_finite wu _ (fun i => by pointwise [winf]) h.2.2.1 _
  wd := fun i k => of_finite wd _ (fun i => by pointwise [winf]) h.2.2.2.1 _
  ct := fun i k => of_finite ct _ (fun i => by pointwise [winf]) h.2.2.2.2 _

variable {x wg wu wd ct}

section
variable (h : Reals x wg wu wd ct)
include h

theorem v0 (i : Fin 8192) (j : Fin 2816) : val_main_v0 (F := Ideal) x wg (ix2 i j) = ((pr (mat x) (mat wg) i j : ℝ) : EReal) := by
  pointwise [val_main_v0]
  simp only [h.x, h.wg, mul, sum]; rfl
theorem v1 (i : Fin 8192) (j : Fin 2816) : val_main_v1 (F := Ideal) x wu (ix2 i j) = ((pr (mat x) (mat wu) i j : ℝ) : EReal) := by
  pointwise [val_main_v1]
  simp only [h.x, h.wu, mul, sum]; rfl
theorem v2 (i : Fin 8192) (j : Fin 2816) : val_main_v2_2 (F := Ideal) x wg (ix2 i j) = ((sg (mat x) (mat wg) i j : ℝ) : EReal) := by
  pointwise [val_main_v2_2, val_main_call0_v4, val_main_call0_v3, val_main_call0_v2, val_main_call0_v1, val_main_call0_v0, val_main_call0_cst, val_main_call0_cst_0]
  rw [v0 h]
  exact Ideal.logistic_coe _
theorem v11 (i : Fin 8192) (j : Fin 2816) : val_main_v11 (F := Ideal) wd ct (ix2 i j) = ((back (mat ct) (mat wd) i j : ℝ) : EReal) := by
  pointwise [val_main_v11, val_main_v8, val_main_v7, val_main_cst_0]
  simp only [h.ct, h.wd, whalf, mul, sum, mul_comm (1 / 2 : ℝ)]; rfl
theorem v14 (i : Fin 8192) (j : Fin 2816) : val_main_v14 (F := Ideal) x wg wu wd ct (ix2 i j) = ((dGate (mat x) (mat ct) (mat wg) (mat wu) (mat wd) i j : ℝ) : EReal) := by
  pointwise [val_main_v14, val_main_call1_v2, val_main_call1_v1, val_main_call1_v0, val_main_v13, val_main_v2_1, val_main_call0_v7, val_main_call0_v6, val_main_call0_cst_1]
  simp only [v0 h, v1 h, v2 h, v11 h, one, mul, sub, add]
  refine congrArg _ ?_
  rw [dGate]; ring
theorem v12 (i : Fin 8192) (j : Fin 2816) : val_main_v12 (F := Ideal) x wg wd ct (ix2 i j) = ((dUp (mat x) (mat ct) (mat wg) (mat wd) i j : ℝ) : EReal) := by
  pointwise [val_main_v12, val_main_v2_0]
  simp only [v0 h, v2 h, v11 h, mul]
  refine congrArg _ ?_
  rw [dUp]; ring
theorem v3 (i : Fin 8192) (j : Fin 2816) : val_main_v3 (F := Ideal) x wg wu (ix2 i j) = ((hid (mat x) (mat wg) (mat wu) i j : ℝ) : EReal) := by
  pointwise [val_main_v3, val_main_v2_0]
  simp only [v0 h, v1 h, v2 h, mul]
  rfl

theorem d21 : val_main_v21 (F := Ideal) x wg wu wd ct = rows (dGate (mat x) (mat ct) (mat wg) (mat wu) (mat wd)) := by
  funext y; idx_vars y
  pointwise [val_main_v21, val_main_v20, val_main_v19]
  exact v14 h _ _
theorem d24 : val_main_v24 (F := Ideal) x wg wd ct = rows (dUp (mat x) (mat ct) (mat wg) (mat wd)) := by
  funext y; idx_vars y
  pointwise [val_main_v24, val_main_v23, val_main_v22]
  exact v12 h _ _
theorem d27 : val_main_v27 (F := Ideal) x wg wu wd ct = dw (mat x) (dGate (mat x) (mat ct) (mat wg) (mat wu) (mat wd)) := by
  funext y; idx_vars y
  pointwise [val_main_v27, val_main_v26, val_main_v25, val_main_v16, val_main_v15]
  simp only [v14 h, h.x, mul, sum, mul_comm (dGate _ _ _ _ _ _ _)]; rfl
theorem d30 : val_main_v30 (F := Ideal) x wg wd ct = dw (mat x) (dUp (mat x) (mat ct) (mat wg) (mat wd)) := by
  funext y; idx_vars y
  pointwise [val_main_v30, val_main_v29, val_main_v28, val_main_v18, val_main_v17]
  simp only [v12 h, h.x, mul, sum, mul_comm (dUp _ _ _ _ _ _)]; rfl
theorem d32 : val_main_v32 (F := Ideal) x wg wu ct = dwd (mat x) (mat ct) (mat wg) (mat wu) := by
  funext y; idx_vars y
  pointwise [val_main_v32, val_main_v31, val_main_v10, val_main_v9, val_main_v8, val_main_v7, val_main_cst_0]
  simp only [v3 h, h.ct, whalf, mul, sum, mul_comm (1 / 2 : ℝ), mul_comm _ (hid _ _ _ _ _)]; rfl

end

end Cert.FfnWBwdRefIdeal.Fw

end
-- ==== Proof.FfnWCell.lean ====
/- One grid point of the feed-forward's weight gradient kernel: the pieces its three column ranges store, for blocks of
   reals. -/
module

public import proofs.«01_k».proof.Proof.Gen.FfnWBwdIdeal.Value
public import proofs.«01_k».proof.Proof.FfnWRef

@[expose] public section

set_option maxRecDepth 16384

noncomputable section

open Idealize.ShloMosaic Idealize.ShloMosaic.TcCoe Idealize.SL.Sem

namespace Cert.FfnWBwdIdeal.Fw

open Cert.FfnWBwdIdeal Cert.FfnWBwdIdeal.Gen Cert.Lift Cert.FfnWBwdRefIdeal.Fw

/-- The bf16 word of a half. -/
theorem wbhalf : Ideal.ofBits .bf16 0x3F00#16 = ((1 / 2 : ℝ) : EReal) := by
  simp [Ideal.ofBits, Ideal.ieee, -EReal.coe_mul]; norm_num

variable {X Ct : Fin 1024 → Fin 1024 → ℝ} {x0 x1 : FVec Ideal S1024x1024 .bf16}

/-- The row blocks are arrays of reals. -/
structure Blocks (X Ct : Fin 1024 → Fin 1024 → ℝ) (x0 x1 : FVec Ideal S1024x1024 .bf16) : Prop where
  x : ∀ r k, x0 (ix2 r k) = ((X r k : ℝ) : EReal)
  ct : ∀ r k, x1 (ix2 r k) = ((Ct r k : ℝ) : EReal)

theorem xcast (H : Blocks X Ct x0 x1) (r k : Fin 1024) : k0_pay25 (F := Ideal) x0 (ix2 r k) = ((X r k : ℝ) : EReal) := by
  pointwise [k0_pay25]; exact H.x r k
theorem chalf (H : Blocks X Ct x0 x1) (r k : Fin 1024) : k0_pay26 (F := Ideal) x1 (ix2 r k) = ((Ct r k * (1 / 2) : ℝ) : EReal) := by
  pointwise [k0_pay26]; rw [H.ct, wbhalf, mul]

/-- One cell of the gradient of the gate's product, over its product `g`, the other product `u` and the cotangent `d`. -/
theorem cell (g u d : ℝ) : (d : EReal) * u * (Ideal.logistic g * (1 + g * (1 - Ideal.logistic g)))
    = ((d * u * ((1 + Real.exp (-g))⁻¹ * (1 + g * (1 - (1 + Real.exp (-g))⁻¹))) : ℝ) : EReal) := by
  have e : Ideal.logistic (g : EReal) = (((1 + Real.exp (-g))⁻¹ : ℝ) : EReal) := Ideal.logistic_coe g
  rw [e, ← EReal.coe_one, sub, mul, mul, add, mul, mul]

/-- What a range of columns computes at each cell: the three products, the activated gate, the two gradients, and the
    parts of the three weight gradients. -/
structure Cells {n : ℕ} (X Ct : Fin 1024 → Fin 1024 → ℝ) (G U : Fin 1024 → Fin n → ℝ) (D : Fin n → Fin 1024 → ℝ)
    (g u d s du dg wg wu : Fin 1024 → Fin n → EReal) (wd : Fin n → Fin 1024 → EReal) : Prop where
  hg : ∀ r j, g r j = ∑ k, (X r k : EReal) * (G k j : EReal)
  hu : ∀ r j, u r j = ∑ k, (X r k : EReal) * (U k j : EReal)
  hd : ∀ r j, d r j = ∑ k, ((Ct r k * (1 / 2) : ℝ) : EReal) * (D j k : EReal)
  hs : ∀ r j, s r j = g r j * Ideal.logistic (g r j)
  hdu : ∀ r j, du r j = d r j * s r j
  hdg : ∀ r j, dg r j = d r j * u r j * (Ideal.logistic (g r j) * (1 + g r j * (1 - Ideal.logistic (g r j))))
  hwg : ∀ k j, wg k j = ∑ r, (X r k : EReal) * dg r j
  hwu : ∀ k j, wu k j = ∑ r, (X r k : EReal) * du r j
  hwd : ∀ j k, wd j k = ∑ r, s r j * u r j * ((Ct r k * (1 / 2) : ℝ) : EReal)

namespace Cells
variable {n : ℕ} {G U : Fin 1024 → Fin n → ℝ} {D : Fin n → Fin 1024 → ℝ} {g u d s du dg wg wu : Fin 1024 → Fin n → EReal}
  {wd : Fin n → Fin 1024 → EReal} (H : Cells X Ct G U D g u d s du dg wg wu wd)
include H

theorem g_real (r : Fin 1024) (j : Fin n) : g r j = ((pr X G r j : ℝ) : EReal) := by
  rw [H.hg]; simp only [mul, sum]; rfl
theorem u_real (r : Fin 1024) (j : Fin n) : u r j = ((pr X U r j : ℝ) : EReal) := by
  rw [H.hu]; simp only [mul, sum]; rfl
theorem d_real (r : Fin 1024) (j : Fin n) : d r j = ((back Ct D r j : ℝ) : EReal) := by
  rw [H.hd]; simp only [mul, sum]; rfl
theorem s_real (r : Fin 1024) (j : Fin n) : s r j = ((pr X G r j * sg X G r j : ℝ) : EReal) := by
  rw [H.hs, H.g_real, ← mul]; exact congrArg _ (Ideal.logistic_coe _)
theorem du_real (r : Fin 1024) (j : Fin n) : du r j = ((dUp X Ct G D r j : ℝ) : EReal) := by
  rw [H.hdu, H.d_real, H.s_real, mul]; rfl
theorem dg_real (r : Fin 1024) (j : Fin n) : dg r j = ((dGate X Ct G U D r j : ℝ) : EReal) := by
  rw [H.hdg, H.d_real, H.u_real, H.g_real]; exact cell _ _ _
theorem wg_real (k : Fin 1024) (j : Fin n) : wg k j = ((∑ r, X r k * dGate X Ct G U D r j : ℝ) : EReal) := by
  rw [H.hwg]; simp only [H.dg_real, mul, sum]
theorem wu_real (k : Fin 1024) (j : Fin n) : wu k j = ((∑ r, X r k * dUp X Ct G D r j : ℝ) : EReal) := by
  rw [H.hwu]; simp only [H.du_real, mul, sum]
theorem wd_real (j : Fin n) (k : Fin 1024) : wd j k = ((∑ r, hid X G U r j * (Ct r k * (1 / 2)) : ℝ) : EReal) := by
  rw [H.hwd]; simp only [H.s_real, H.u_real, mul, sum]; rfl

end Cells

/-- The weights' columns of a range are arrays of reals. -/
structure Columns {n : ℕ} (G U : Fin 1024 → Fin n → ℝ) (D : Fin n → Fin 1024 → ℝ) (a u : FVec Ideal ⟨3, ![1, 1024, n]⟩ .bf16)
    (d : FVec Ideal ⟨3, ![1, n, 1024]⟩ .bf16) : Prop where
  g : ∀ k j, a (ix3 0 k j) = ((G k j : ℝ) : EReal)
  u : ∀ k j, u (ix3 0 k j) = ((U k j : ℝ) : EReal)
  d : ∀ j k, d (ix3 0 j k) = ((D j k : ℝ) : EReal)

theorem wide {G U : Fin 1024 → Fin 256 → ℝ} {D : Fin 256 → Fin 1024 → ℝ} {a u : FVec Ideal S1x1024x256 .bf16} {d : FVec Ideal S1x256x1024 .bf16}
    (H : Blocks X Ct x0 x1) (h : Columns G U D a u d) :
    Cells X Ct G U D (fun r j => k0_pay30 (F := Ideal) x0 a (ix2 r j)) (fun r j => k0_pay31 (F := Ideal) x0 u (ix2 r j))
      (fun r j => k0_pay32 (F := Ideal) x1 d (ix2 r j)) (fun r j => k0_pay47 (F := Ideal) (k0_pay30 x0 a) (ix2 r j))
      (fun r j => k0_pay48 (F := Ideal) (k0_pay30 x0 a) (k0_pay32 x1 d) (ix2 r j))
      (fun r j => k0_pay51 (F := Ideal) (k0_pay30 x0 a) (k0_pay46 (k0_pay30 x0 a)) (k0_pay49 (k0_pay31 x0 u) (k0_pay32 x1 d)) k0_pay50 (ix2 r j))
      (fun k j => k0_pay54 (F := Ideal) (k0_pay25 x0) (k0_pay30 x0 a) (k0_pay46 (k0_pay30 x0 a)) (k0_pay49 (k0_pay31 x0 u) (k0_pay32 x1 d)) k0_pay50 (ix2 k j))
      (fun k j => k0_pay55 (F := Ideal) (k0_pay25 x0) (k0_pay48 (k0_pay30 x0 a) (k0_pay32 x1 d)) (ix2 k j))
      (fun j k => k0_pay56 (F := Ideal) (k0_pay26 x1) (k0_pay31 x0 u) (k0_pay47 (k0_pay30 x0 a)) (ix2 j k)) where
  hg r j := by pointwise [k0_pay30]; simp only [xcast H, h.g]
  hu r j := by pointwise [k0_pay31]; simp only [xcast H, h.u]
  hd r j := by pointwise [k0_pay32]; simp only [chalf H, h.d]
  hs r j := by pointwise [k0_pay47, k0_pay46]
  hdu r j := by pointwise [k0_pay48]
  hdg r j := by pointwise [k0_pay51, k0_pay46, k0_pay49, k0_pay50]
  hwg k j := by pointwise [k0_pay54]; simp only [xcast H]
  hwu k j := by pointwise [k0_pay55]; simp only [xcast H]
  hwd j k := by pointwise [k0_pay56]; simp only [chalf H]

theorem narrow {G U : Fin 1024 → Fin 192 → ℝ} {D : Fin 192 → Fin 1024 → ℝ} {a u : FVec Ideal S1x1024x192 .bf16} {d : FVec Ideal S1x192x1024 .bf16}
    (H : Blocks X Ct x0 x1) (h : Columns G U D a u d) :
    Cells X Ct G U D (fun r j => k0_pay43 (F := Ideal) (k0_pay25 x0) a (ix2 r j)) (fun r j => k0_pay44 (F := Ideal) (k0_pay25 x0) u (ix2 r j))
      (fun r j => k0_pay45 (F := Ideal) (k0_pay26 x1) d (ix2 r j)) (fun r j => k0_pay58 (F := Ideal) (k0_pay43 (k0_pay25 x0) a) (ix2 r j))
      (fun r j => k0_pay59 (F := Ideal) (k0_pay43 (k0_pay25 x0) a) (k0_pay45 (k0_pay26 x1) d) (ix2 r j))
      (fun r j => k0_pay60 (F := Ideal) (k0_pay43 (k0_pay25 x0) a) (k0_pay44 (k0_pay25 x0) u) (k0_pay45 (k0_pay26 x1) d) (ix2 r j))
      (fun k j => k0_pay1 (F := Ideal) (k0_pay25 x0) (k0_pay60 (k0_pay43 (k0_pay25 x0) a) (k0_pay44 (k0_pay25 x0) u) (k0_pay45 (k0_pay26 x1) d))
        (constant S1024x192 .f32 0#32) (ix2 k j))
      (fun k j => k0_pay2 (F := Ideal) (k0_pay25 x0) (k0_pay59 (k0_pay43 (k0_pay25 x0) a) (k0_pay45 (k0_pay26 x1) d)) (ix2 k j))
      (fun j k => k0_pay3 (F := Ideal) (k0_pay26 x1) (k0_pay44 (k0_pay25 x0) u) (k0_pay58 (k0_pay43 (k0_pay25 x0) a)) (ix2 j k)) where
  hg r j := by pointwise [k0_pay43]; simp only [xcast H, h.g]
  hu r j := by pointwise [k0_pay44]; simp only [xcast H, h.u]
  hd r j := by pointwise [k0_pay45]; simp only [chalf H, h.d]
  hs r j := by pointwise [k0_pay58, k0_pay57]
  hdu r j := by pointwise [k0_pay59]
  hdg r j := by pointwise [k0_pay60, k0_pay57]
  hwg k j := by pointwise [k0_pay1]; simp only [xcast H]
  hwu k j := by pointwise [k0_pay2]; simp only [xcast H]
  hwd j k := by pointwise [k0_pay3]; simp only [chalf H]

end Cert.FfnWBwdIdeal.Fw
end
-- ==== Proof.FfnWValue.lean ====
/- The arrays the feed-forward's weight gradient kernel leaves, for finite arguments. -/
module

public import proofs.«01_k».proof.Proof.FfnWCell

@[expose] public section

set_option maxRecDepth 16384

noncomputable section

open Idealize.ShloMosaic Idealize.ShloMosaic.TcCoe Idealize.SL.Sem
open Idealize.ShloMosaic.Pipeline (Dat)

namespace Cert.FfnWBwdIdeal.Fw

open Cert.FfnWBwdIdeal Cert.FfnWBwdIdeal.Gen Cert.Lift Cert.LN Cert.FfnWBwdRefIdeal.Fw
open Cert.LnBwdIdeal.Ln (mat)

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![t.val / 8, 0, 0]
    ∧ win0_3.index t = ![t.val / 8, 0, 0] ∧ win0_4.index t = ![t.val / 8, 0, 0] ∧ win0_5.index t = ![t.val / 8, t.val % 8, 0]
    ∧ win0_6.index t = ![t.val / 8, t.val % 8, 0] ∧ win0_7.index t = ![t.val / 8, 0, 0] ∧ win0_8.index t = ![t.val / 8, 0, 0]
    ∧ win0_9.index t = ![t.val / 8, 0, 0] :=
  (by decide +kernel : ∀ t : Fin grid0.N, _)

/-- The slab of grid point `t`, and its row `i`. -/
def slab (t : Fin cfg0.N) : Fin 4 := ⟨t.val / 8, by have := lt_of_lt_of_eq t.isLt N_0; omega⟩
def row (t : Fin cfg0.N) (i : Fin 1024) : Fin 8192 := ⟨t.val % 8 * 1024 + i.val, by have := Nat.mod_lt t.val (by norm_num : 0 < 8); omega⟩

abbrev aX : FVec Ideal S8192x1024 .f32 := m ((c : Thread nD τ).loc main_arg0)
abbrev aWg : FVec Ideal S1024x2816 .f32 := m ((c : Thread nD τ).loc main_arg1)
abbrev aWu : FVec Ideal S1024x2816 .f32 := m ((c : Thread nD τ).loc main_arg2)
abbrev aWd : FVec Ideal S2816x1024 .f32 := m ((c : Thread nD τ).loc main_arg3)
abbrev aCt : FVec Ideal S8192x1024 .f32 := m ((c : Thread nD τ).loc main_arg4)

theorem blk0 (t : Fin cfg0.N) (i : Fin 1024) (k : Fin 1024) :
    (show FVec Ideal S1024x1024 .bf16 from iblk m c 0 t) (ix2 i k) = aX m c (ix2 (row t i) k) := by
  blk_simp [iblk, idx t]; entry_read; pointwise; blk_ext [idx t, row]
theorem blk1 (t : Fin cfg0.N) (i : Fin 1024) (k : Fin 1024) :
    (show FVec Ideal S1024x1024 .bf16 from iblk m c 1 t) (ix2 i k) = aCt m c (ix2 (row t i) k) := by
  blk_simp [iblk, idx t]; entry_read; pointwise; blk_ext [idx t, row]
theorem blk2 (t : Fin cfg0.N) (i : Fin 1024) (k : Fin 704) :
    (show FVec Ideal S1x1024x704 .bf16 from iblk m c 2 t) (ix3 0 i k) = aWg m c (ix2 i (col (slab t) k)) := by
  blk_simp [iblk, idx t]; entry_read; pointwise; blk_ext [idx t, slab, col]
theorem blk3 (t : Fin cfg0.N) (i : Fin 1024) (k : Fin 704) :
    (show FVec Ideal S1x1024x704 .bf16 from iblk m c 3 t) (ix3 0 i k) = aWu m c (ix2 i (col (slab t) k)) := by
  blk_simp [iblk, idx t]; entry_read; pointwise; blk_ext [idx t, slab, col]
theorem blk4 (t : Fin cfg0.N) (k : Fin 704) (i : Fin 1024) :
    (show FVec Ideal S1x704x1024 .bf16 from iblk m c 4 t) (ix3 0 k i) = aWd m c (ix2 (col (slab t) k) i) := by
  blk_simp [iblk, idx t]; entry_read; pointwise; blk_ext [idx t, slab, col]

/-- Columns (rows of the last weight) `o … o + n` of a weight's slab. -/
def cols {o n : ℕ} (x : FVec Ideal S1x1024x704 .bf16) (p : ∀ a, (![0, 0, o] : Fin 3 → ℕ) a + (![1, 1024, n] : Fin 3 → ℕ) a ≤ S1x1024x704.size a) :
    FVec Ideal ⟨3, ![1, 1024, n]⟩ .bf16 := fun y => x ((Rect.unit (s := S1x1024x704) ![0, 0, o] ![1, 1024, n] p).idx y)
def rws {o n : ℕ} (x : FVec Ideal S1x704x1024 .bf16) (p : ∀ a, (![0, o, 0] : Fin 3 → ℕ) a + (![1, n, 1024] : Fin 3 → ℕ) a ≤ S1x704x1024.size a) :
    FVec Ideal ⟨3, ![1, n, 1024]⟩ .bf16 := fun y => x ((Rect.unit (s := S1x704x1024) ![0, o, 0] ![1, n, 1024] p).idx y)

/-- Column `o + j` of a slab. -/
def at' {o n : ℕ} (p : o + n ≤ 704) (j : Fin n) : Fin 704 := ⟨o + j.val, by omega⟩

theorem cols_at {o n : ℕ} (p : o + n ≤ 704) (x : FVec Ideal S1x1024x704 .bf16) (q) (k : Fin 1024) (j : Fin n) :
    cols (o := o) (n := n) x q (ix3 0 k j) = x (ix3 0 k (at' p j)) := by
  refine congrArg x (funext fun a => Fin.ext ((Rect.idx_unit_val _ _ _ _ a).trans ?_))
  fin_cases a
  · exact Nat.zero_add _
  · exact Nat.zero_add _
  · rfl
theorem rws_at {o n : ℕ} (p : o + n ≤ 704) (x : FVec Ideal S1x704x1024 .bf16) (q) (k : Fin 1024) (j : Fin n) :
    rws (o := o) (n := n) x q (ix3 0 j k) = x (ix3 0 (at' p j) k) := by
  refine congrArg x (funext fun a => Fin.ext ((Rect.idx_unit_val _ _ _ _ a).trans ?_))
  fin_cases a
  · exact Nat.zero_add _
  · rfl
  · exact Nat.zero_add _

/-- The reals of grid point `t`: its rows of the two arrays, and the columns of its slab. -/
def tX (t : Fin cfg0.N) : Fin 1024 → Fin 1024 → ℝ := fun r k => mat (aX m c) (row t r) k
def tC (t : Fin cfg0.N) : Fin 1024 → Fin 1024 → ℝ := fun r k => mat (aCt m c) (row t r) k
def tG (t : Fin cfg0.N) : Fin 1024 → Fin 704 → ℝ := fun k q => mat (aWg m c) k (col (slab t) q)
def tU (t : Fin cfg0.N) : Fin 1024 → Fin 704 → ℝ := fun k q => mat (aWu m c) k (col (slab t) q)
def tD (t : Fin cfg0.N) : Fin 704 → Fin 1024 → ℝ := fun q k => mat (aWd m c) (col (slab t) q) k

section
variable (h : Reals (aX m c) (aWg m c) (aWu m c) (aWd m c) (aCt m c))
include h

theorem blocks (t : Fin cfg0.N) : Blocks (tX m c t) (tC m c t) (iblk m c 0 t) (iblk m c 1 t) where
  x r k := (blk0 m c t r k).trans (h.x _ _)
  ct r k := (blk1 m c t r k).trans (h.ct _ _)
theorem columns (t : Fin cfg0.N) {o n : ℕ} (p : o + n ≤ 704) (q1) (q2) :
    Columns (fun k j => tG m c t k (at' p j)) (fun k j => tU m c t k (at' p j)) (fun j k => tD m c t (at' p j) k)
      (cols (o := o) (n := n) (iblk m c 2 t) q1) (cols (o := o) (n := n) (iblk m c 3 t) q1) (rws (o := o) (n := n) (iblk m c 4 t) q2) where
  g k j := (cols_at p _ _ k j).trans ((blk2 m c t k _).trans (h.wg _ _))
  u k j := (cols_at p _ _ k j).trans ((blk3 m c t k _).trans (h.wu _ _))
  d j k := (rws_at p _ _ k j).trans ((blk4 m c t _ k).trans (h.wd _ _))

/-- The three ranges of columns of grid point `t`. -/
abbrev first (t : Fin cfg0.N) := wide (blocks m c h t) (columns m c h t (o := 0) (n := 256) (by norm_num) inb_S1x1024x704_S1x1024x256_0_0_0 inb_S1x704x1024_S1x256x1024_0_0_0)
abbrev second (t : Fin cfg0.N) := wide (blocks m c h t) (columns m c h t (o := 256) (n := 256) (by norm_num) inb_S1x1024x704_S1x1024x256_0_0_256 inb_S1x704x1024_S1x256x1024_0_256_0)
abbrev third (t : Fin cfg0.N) := narrow (blocks m c h t) (columns m c h t (o := 512) (n := 192) (by norm_num) inb_S1x1024x704_S1x1024x192_0_0_512 inb_S1x704x1024_S1x192x1024_0_512_0)

end

theorem s52 (a b d e) (r : Fin 1024) (j : Fin 256) : k0_pay52 (F := Ideal) a b d e (ix3 0 r j) = k0_pay51 a b d e (ix2 r j) := by pointwise [k0_pay52]
theorem s61 (a b d) (r : Fin 1024) (j : Fin 192) : k0_pay61 (F := Ideal) a b d (ix3 0 r j) = k0_pay60 a b d (ix2 r j) := by pointwise [k0_pay61]

/-- The cell `y` lies in the box at `o` of size `n`. -/
def In {S : Shape} (y : S.Idx) (o n : Fin S.rank → ℕ) : Prop := ∀ a, o a ≤ (y a).val ∧ (y a).val < o a + n a

/-- An array stored in three boxes has at a cell the value that every box holding the cell has there. -/
theorem canon_boxes {S : Shape} {e : EltTy} {o1 n1 o2 n2 o3 n3 : Fin S.rank → ℕ} (i1 : ∀ a, o1 a + n1 a ≤ S.size a) (i2 : ∀ a, o2 a + n2 a ≤ S.size a)
    (i3 : ∀ a, o3 a + n3 a ≤ S.size a) (w1 : (⟨S.rank, n1⟩ : Shape).Idx → Elt Ideal e) (w2 : (⟨S.rank, n2⟩ : Shape).Idx → Elt Ideal e)
    (w3 : (⟨S.rank, n3⟩ : Shape).Idx → Elt Ideal e) (y : S.Idx) (v : Elt Ideal e) (cover : In y o1 n1 ∨ In y o2 n2 ∨ In y o3 n3)
    (h1 : ∀ x : (⟨S.rank, n1⟩ : Shape).Idx, (∀ a, (y a : ℕ) = o1 a + x a) → w1 x = v) (h2 : ∀ x : (⟨S.rank, n2⟩ : Shape).Idx, (∀ a, (y a : ℕ) = o2 a + x a) → w2 x = v)
    (h3 : ∀ x : (⟨S.rank, n3⟩ : Shape).Idx, (∀ a, (y a : ℕ) = o3 a + x a) → w3 x = v) :
    View.canon (Val := Elt Ideal) [⟨Rect.unit o3 n3 i3, w3⟩, ⟨Rect.unit o2 n2 i2, w2⟩, ⟨Rect.unit o1 n1 i1, w1⟩] y = v := by
  refine View.canon_eq_of_allAt _ _ _ ?_ (View.allAt_cons_unit _ _ i3 _ _ h3 (View.allAt_cons_unit _ _ i2 _ _ h2 (View.allAt_cons_unit _ _ i1 _ _ h1 (View.allAt_nil _ _))))
  rcases cover with g | g | g
  · exact ⟨_, List.mem_cons_of_mem _ (List.mem_cons_of_mem _ (List.mem_cons_self ..)), (Rect.mem_set_unit (inb := i1)).mpr g⟩
  · exact ⟨_, List.mem_cons_of_mem _ (List.mem_cons_self ..), (Rect.mem_set_unit (inb := i2)).mpr g⟩
  · exact ⟨_, List.mem_cons_self .., (Rect.mem_set_unit (inb := i3)).mpr g⟩

theorem ranges (q : Fin 704) : q.val < 256 ∨ (256 ≤ q.val ∧ q.val < 512) ∨ 512 ≤ q.val := by omega

/-- The columns of a block stored in three ranges; of an array; and the rows of an array. -/
theorem columns3 {e : EltTy} (i1) (i2) (i3) (w1 : S1x1024x256.Idx → Elt Ideal e) (w2 : S1x1024x256.Idx → Elt Ideal e) (w3 : S1x1024x192.Idx → Elt Ideal e)
    (V : Fin 704 → Elt Ideal e) (r : Fin 1024) (q : Fin 704) (h1 : ∀ j, w1 (ix3 0 r j) = V (at' (o := 0) (by norm_num) j))
    (h2 : ∀ j, w2 (ix3 0 r j) = V (at' (o := 256) (by norm_num) j)) (h3 : ∀ j, w3 (ix3 0 r j) = V (at' (o := 512) (by norm_num) j)) :
    View.canon (Val := Elt Ideal) (s := S1x1024x704) [⟨Rect.unit ![0, 0, 512] ![1, 1024, 192] i3, w3⟩, ⟨Rect.unit ![0, 0, 256] ![1, 1024, 256] i2, w2⟩,
      ⟨Rect.unit ![0, 0, 0] ![1, 1024, 256] i1, w1⟩] (ix3 0 r q) = V q := by
  refine canon_boxes (S := S1x1024x704) i1 i2 i3 w1 w2 w3 _ _ ?_ (fun x g => ?_) (fun x g => ?_) (fun x g => ?_)
  · have := r.isLt; have := q.isLt
    rcases ranges q with g | g | g
    · exact .inl fun a => by fin_cases a <;> exact ⟨by simp, by simp; try omega⟩
    · exact .inr (.inl fun a => by fin_cases a <;> exact ⟨by simp; try omega, by simp; try omega⟩)
    · exact .inr (.inr fun a => by fin_cases a <;> exact ⟨by simp; try omega, by simp; try omega⟩)
  all_goals
    obtain ⟨r', rfl⟩ : ∃ j, x = ix3 0 r j := ⟨x 2, funext fun a => by
      fin_cases a
      · exact Subsingleton.elim (α := Fin 1) _ _
      · exact Fin.ext ((Nat.zero_add _).symm.trans (g 1).symm)
      · rfl⟩
  · exact (h1 _).trans (congrArg V (Fin.ext (g 2).symm))
  · exact (h2 _).trans (congrArg V (Fin.ext (g 2).symm))
  · exact (h3 _).trans (congrArg V (Fin.ext (g 2).symm))

theorem columns2 {e : EltTy} (i1) (i2) (i3) (w1 : S1024x256.Idx → Elt Ideal e) (w2 : S1024x256.Idx → Elt Ideal e) (w3 : S1024x192.Idx → Elt Ideal e)
    (V : Fin 704 → Elt Ideal e) (r : Fin 1024) (q : Fin 704) (h1 : ∀ j, w1 (ix2 r j) = V (at' (o := 0) (by norm_num) j))
    (h2 : ∀ j, w2 (ix2 r j) = V (at' (o := 256) (by norm_num) j)) (h3 : ∀ j, w3 (ix2 r j) = V (at' (o := 512) (by norm_num) j)) :
    View.canon (Val := Elt Ideal) (s := S1024x704) [⟨Rect.unit ![0, 512] ![1024, 192] i3, w3⟩, ⟨Rect.unit ![0, 256] ![1024, 256] i2, w2⟩,
      ⟨Rect.unit ![0, 0] ![1024, 256] i1, w1⟩] (ix2 r q) = V q := by
  refine canon_boxes (S := S1024x704) i1 i2 i3 w1 w2 w3 _ _ ?_ (fun x g => ?_) (fun x g => ?_) (fun x g => ?_)
  · have := r.isLt; have := q.isLt
    rcases ranges q with g | g | g
    · exact .inl fun a => by fin_cases a <;> exact ⟨by simp, by simp; try omega⟩
    · exact .inr (.inl fun a => by fin_cases a <;> exact ⟨by simp; try omega, by simp; try omega⟩)
    · exact .inr (.inr fun a => by fin_cases a <;> exact ⟨by simp; try omega, by simp; try omega⟩)
  all_goals
    obtain ⟨j, rfl⟩ : ∃ j, x = ix2 r j := ⟨x 1, funext fun a => by
      fin_cases a
      · exact Fin.ext ((Nat.zero_add _).symm.trans (g 0).symm)
      · rfl⟩
  · exact (h1 _).trans (congrArg V (Fin.ext (g 1).symm))
  · exact (h2 _).trans (congrArg V (Fin.ext (g 1).symm))
  · exact (h3 _).trans (congrArg V (Fin.ext (g 1).symm))
theorem rows2 {e : EltTy} (i1) (i2) (i3) (w1 : S256x1024.Idx → Elt Ideal e) (w2 : S256x1024.Idx → Elt Ideal e) (w3 : S192x1024.Idx → Elt Ideal e)
    (V : Fin 704 → Elt Ideal e) (q : Fin 704) (r : Fin 1024) (h1 : ∀ j, w1 (ix2 j r) = V (at' (o := 0) (by norm_num) j))
    (h2 : ∀ j, w2 (ix2 j r) = V (at' (o := 256) (by norm_num) j)) (h3 : ∀ j, w3 (ix2 j r) = V (at' (o := 512) (by norm_num) j)) :
    View.canon (Val := Elt Ideal) (s := S704x1024) [⟨Rect.unit ![512, 0] ![192, 1024] i3, w3⟩, ⟨Rect.unit ![256, 0] ![256, 1024] i2, w2⟩,
      ⟨Rect.unit ![0, 0] ![256, 1024] i1, w1⟩] (ix2 q r) = V q := by
  refine canon_boxes (S := S704x1024) i1 i2 i3 w1 w2 w3 _ _ ?_ (fun x g => ?_) (fun x g => ?_) (fun x g => ?_)
  · have := r.isLt; have := q.isLt
    rcases ranges q with g | g | g
    · exact .inl fun a => by fin_cases a <;> exact ⟨by simp, by simp; try omega⟩
    · exact .inr (.inl fun a => by fin_cases a <;> exact ⟨by simp; try omega, by simp; try omega⟩)
    · exact .inr (.inr fun a => by fin_cases a <;> exact ⟨by simp; try omega, by simp; try omega⟩)
  all_goals
    obtain ⟨j, rfl⟩ : ∃ j, x = ix2 j r := ⟨x 0, funext fun a => by
      fin_cases a
      · rfl
      · exact Fin.ext ((Nat.zero_add _).symm.trans (g 1).symm)⟩
  · exact (h1 _).trans (congrArg V (Fin.ext (g 0).symm))
  · exact (h2 _).trans (congrArg V (Fin.ext (g 0).symm))
  · exact (h3 _).trans (congrArg V (Fin.ext (g 0).symm))

/-- A range of an array. -/
theorem ld_cols {o n : ℕ} (p : o + n ≤ 704) (x : S1024x704.Idx → EReal) (q) (k : Fin 1024) (j : Fin n) :
    View.ld (Val := Elt Ideal) (e' := .f32) x (Rect.unit (s := S1024x704) ![0, o] ![1024, n] q) (ix2 k j) = x (ix2 k (at' p j)) := by
  refine congrArg x (funext fun a => Fin.ext ((Rect.idx_unit_val _ _ _ _ a).trans ?_))
  fin_cases a
  · exact Nat.zero_add _
  · rfl
theorem ld_rows {o n : ℕ} (p : o + n ≤ 704) (x : S704x1024.Idx → EReal) (q) (j : Fin n) (k : Fin 1024) :
    View.ld (Val := Elt Ideal) (e' := .f32) x (Rect.unit (s := S704x1024) ![o, 0] ![n, 1024] q) (ix2 j k) = x (ix2 (at' p j) k) := by
  refine congrArg x (funext fun a => Fin.ext ((Rect.idx_unit_val _ _ _ _ a).trans ?_))
  fin_cases a
  · rfl
  · exact Nat.zero_add _
theorem all_cols (i) (r : Fin 1024) (q : Fin 704) : (Rect.unit (s := S1024x704) ![0, 0] ![1024, 704] i).toLoadRect.idx (ix2 r q) = ix2 r q :=
  funext fun a => Fin.ext ((Rect.idx_unit_val _ _ _ _ a).trans (by fin_cases a <;> exact Nat.zero_add _))
theorem all_rows (i) (q : Fin 704) (r : Fin 1024) : (Rect.unit (s := S704x1024) ![0, 0] ![704, 1024] i).toLoadRect.idx (ix2 q r) = ix2 q r :=
  funext fun a => Fin.ext ((Rect.idx_unit_val _ _ _ _ a).trans (by fin_cases a <;> exact Nat.zero_add _))

/-! The stores only reshape; the sums add what was there. -/
theorem s53 (a) (r : Fin 1024) (j : Fin 256) : k0_pay53 (F := Ideal) a (ix3 0 r j) = a (ix2 r j) := by pointwise [k0_pay53]
theorem s62 (a b) (r : Fin 1024) (j : Fin 192) : k0_pay62 (F := Ideal) a b (ix3 0 r j) = k0_pay59 a b (ix2 r j) := by pointwise [k0_pay62]
theorem s4 (a) (y) : k0_pay4 (F := Ideal) a y = a y := by pointwise [k0_pay4]
theorem s6 (a) (y) : k0_pay6 (F := Ideal) a y = a y := by pointwise [k0_pay6]
theorem s10 (a b d) (y) : k0_pay10 (F := Ideal) a b d y = k0_pay1 a b d y := by pointwise [k0_pay10]
theorem s11 (a b) (y) : k0_pay11 (F := Ideal) a b y = k0_pay2 a b y := by pointwise [k0_pay11]
theorem s12 (a b d) (y) : k0_pay12 (F := Ideal) a b d y = k0_pay3 a b d y := by pointwise [k0_pay12]
theorem s19 (a b) (y) : k0_pay19 (F := Ideal) a b y = b y + a y := by pointwise [k0_pay19]
theorem s21 (a b) (y) : k0_pay21 (F := Ideal) a b y = b y + a y := by pointwise [k0_pay21]
theorem s13 (a b d e) (y) : k0_pay13 (F := Ideal) a b d e y = e y + k0_pay1 a b d y := by pointwise [k0_pay13]
theorem s14 (a b e) (y) : k0_pay14 (F := Ideal) a b e y = e y + k0_pay2 a b y := by pointwise [k0_pay14]
theorem s15 (a b d e) (y) : k0_pay15 (F := Ideal) a b d e y = e y + k0_pay3 a b d y := by pointwise [k0_pay15]
theorem s16 (a) (r : Fin 1024) (q : Fin 704) : k0_pay16 (F := Ideal) a (ix3 0 r q) = a (ix2 r q) := by pointwise [k0_pay16]
theorem s18 (a) (q : Fin 704) (r : Fin 1024) : k0_pay18 (F := Ideal) a (ix3 0 q r) = a (ix2 q r) := by pointwise [k0_pay18]

/-- What grid point `t` writes of the two gradients' rows and adds to the three weight gradients. -/
def tDg (t : Fin cfg0.N) (r : Fin 1024) (q : Fin 704) : ℝ := dGate (tX m c t) (tC m c t) (tG m c t) (tU m c t) (tD m c t) r q
def tDu (t : Fin cfg0.N) (r : Fin 1024) (q : Fin 704) : ℝ := dUp (tX m c t) (tC m c t) (tG m c t) (tD m c t) r q
def tWg (t : Fin cfg0.N) (k : Fin 1024) (q : Fin 704) : EReal := ((∑ r, tX m c t r k * tDg m c t r q : ℝ) : EReal)
def tWu (t : Fin cfg0.N) (k : Fin 1024) (q : Fin 704) : EReal := ((∑ r, tX m c t r k * tDu m c t r q : ℝ) : EReal)
def tWd (t : Fin cfg0.N) (q : Fin 704) (k : Fin 1024) : EReal := ((∑ r, hid (tX m c t) (tG m c t) (tU m c t) r q * (tC m c t r k * (1 / 2)) : ℝ) : EReal)

/-- The grid point before. -/
abbrev before (t : Fin cfg0.N) : t.val - 1 < cfg0.N := Nat.lt_of_le_of_lt (Nat.sub_le _ _) t.isLt

section
variable (h : Reals (aX m c) (aWg m c) (aWu m c) (aWd m c) (aCt m c))
include h

theorem out5 (t : Fin cfg0.N) (r : Fin 1024) (q : Fin 704) : (outsAt0 m c t.val t.isLt).1 (ix3 0 r q) = ((tDg m c t r q : ℝ) : EReal) := by
  by_cases h0 : t.val % 8 = 0
  on_goal 2 => by_cases h7 : t.val % 8 = 7
  · rw [outsAt0_A m c t h0 (by omega) (by omega)]; frame_out
    refine columns3 (e := .bf16) _ _ _ _ _ _ (fun q => ((tDg m c t r q : ℝ) : EReal)) r q (fun j => ?_) (fun j => ?_) (fun j => ?_)
    exacts [(s52 _ _ _ _ r j).trans ((first m c h t).dg_real r j), (s52 _ _ _ _ r j).trans ((second m c h t).dg_real r j), (s61 _ _ _ r j).trans ((third m c h t).dg_real r j)]
  · rw [outsAt0_C m c t h0 (by omega) h7]; frame_out
    refine columns3 (e := .bf16) _ _ _ _ _ _ (fun q => ((tDg m c t r q : ℝ) : EReal)) r q (fun j => ?_) (fun j => ?_) (fun j => ?_)
    exacts [(s52 _ _ _ _ r j).trans ((first m c h t).dg_real r j), (s52 _ _ _ _ r j).trans ((second m c h t).dg_real r j), (s61 _ _ _ r j).trans ((third m c h t).dg_real r j)]
  · rw [outsAt0_B m c t h0 (by omega) h7]; frame_out
    refine columns3 (e := .bf16) _ _ _ _ _ _ (fun q => ((tDg m c t r q : ℝ) : EReal)) r q (fun j => ?_) (fun j => ?_) (fun j => ?_)
    exacts [(s52 _ _ _ _ r j).trans ((first m c h t).dg_real r j), (s52 _ _ _ _ r j).trans ((second m c h t).dg_real r j), (s61 _ _ _ r j).trans ((third m c h t).dg_real r j)]

theorem out6 (t : Fin cfg0.N) (r : Fin 1024) (q : Fin 704) : (outsAt0 m c t.val t.isLt).2.1 (ix3 0 r q) = ((tDu m c t r q : ℝ) : EReal) := by
  by_cases h0 : t.val % 8 = 0
  on_goal 2 => by_cases h7 : t.val % 8 = 7
  · rw [outsAt0_A m c t h0 (by omega) (by omega)]; frame_out
    refine columns3 (e := .bf16) _ _ _ _ _ _ (fun q => ((tDu m c t r q : ℝ) : EReal)) r q (fun j => ?_) (fun j => ?_) (fun j => ?_)
    exacts [(s53 _ r j).trans ((first m c h t).du_real r j), (s53 _ r j).trans ((second m c h t).du_real r j), (s62 _ _ r j).trans ((third m c h t).du_real r j)]
  · rw [outsAt0_C m c t h0 (by omega) h7]; frame_out
    refine columns3 (e := .bf16) _ _ _ _ _ _ (fun q => ((tDu m c t r q : ℝ) : EReal)) r q (fun j => ?_) (fun j => ?_) (fun j => ?_)
    exacts [(s53 _ r j).trans ((first m c h t).du_real r j), (s53 _ r j).trans ((second m c h t).du_real r j), (s62 _ _ r j).trans ((third m c h t).du_real r j)]
  · rw [outsAt0_B m c t h0 (by omega) h7]; frame_out
    refine columns3 (e := .bf16) _ _ _ _ _ _ (fun q => ((tDu m c t r q : ℝ) : EReal)) r q (fun j => ?_) (fun j => ?_) (fun j => ?_)
    exacts [(s53 _ r j).trans ((first m c h t).du_real r j), (s53 _ r j).trans ((second m c h t).du_real r j), (s62 _ _ r j).trans ((third m c h t).du_real r j)]

theorem acc0_A (t : Fin cfg0.N) (h0 : t.val % 8 = 0) (k : Fin 1024) (q : Fin 704) : (outsAt0 m c t.val t.isLt).2.2.2.2.2.1 (ix2 k q) = tWg m c t k q := by
  rw [outsAt0_A m c t h0 (by omega) (by omega)]; frame_out
  refine columns2 (e := .f32) _ _ _ _ _ _ (fun q => tWg m c t k q) k q (fun j => ?_) (fun j => ?_) (fun j => ?_)
  exacts [(s4 _ _).trans ((first m c h t).wg_real k j), (s4 _ _).trans ((second m c h t).wg_real k j), (s10 _ _ _ _).trans ((third m c h t).wg_real k j)]
theorem acc0_B (t : Fin cfg0.N) (h0 : ¬t.val % 8 = 0) (k : Fin 1024) (q : Fin 704) : (outsAt0 m c t.val t.isLt).2.2.2.2.2.1 (ix2 k q)
    = (outsAt0 m c (t.val - 1) (before t)).2.2.2.2.2.1 (ix2 k q) + tWg m c t k q := by
  by_cases h7 : t.val % 8 = 7
  · rw [outsAt0_C m c t h0 (by omega) h7]; frame_out
    refine columns2 (e := .f32) _ _ _ _ _ _ (fun q => (outsAt0 m c (t.val - 1) (before t)).2.2.2.2.2.1 (ix2 k q) + tWg m c t k q) k q (fun j => ?_) (fun j => ?_) (fun j => ?_)
    exacts [(s19 _ _ _).trans (congrArg₂ (· + ·) ((ld_cols _ _ _ k j).trans (congrFun (Memref.IsWhole.read_unread _ _) _)) ((first m c h t).wg_real k j)), (s19 _ _ _).trans (congrArg₂ (· + ·) ((ld_cols _ _ _ k j).trans (congrFun (Memref.IsWhole.read_unread _ _) _)) ((second m c h t).wg_real k j)),
      (s13 _ _ _ _ _).trans (congrArg₂ (· + ·) ((ld_cols _ _ _ k j).trans (congrFun (Memref.IsWhole.read_unread _ _) _)) ((third m c h t).wg_real k j))]
  · rw [outsAt0_B m c t h0 (by omega) h7]; frame_out
    refine columns2 (e := .f32) _ _ _ _ _ _ (fun q => (outsAt0 m c (t.val - 1) (before t)).2.2.2.2.2.1 (ix2 k q) + tWg m c t k q) k q (fun j => ?_) (fun j => ?_) (fun j => ?_)
    exacts [(s19 _ _ _).trans (congrArg₂ (· + ·) ((ld_cols _ _ _ k j).trans (congrFun (Memref.IsWhole.read_unread _ _) _)) ((first m c h t).wg_real k j)), (s19 _ _ _).trans (congrArg₂ (· + ·) ((ld_cols _ _ _ k j).trans (congrFun (Memref.IsWhole.read_unread _ _) _)) ((second m c h t).wg_real k j)),
      (s13 _ _ _ _ _).trans (congrArg₂ (· + ·) ((ld_cols _ _ _ k j).trans (congrFun (Memref.IsWhole.read_unread _ _) _)) ((third m c h t).wg_real k j))]

theorem acc1_A (t : Fin cfg0.N) (h0 : t.val % 8 = 0) (k : Fin 1024) (q : Fin 704) : (outsAt0 m c t.val t.isLt).2.2.2.2.2.2.1 (ix2 k q) = tWu m c t k q := by
  rw [outsAt0_A m c t h0 (by omega) (by omega)]; frame_out
  refine columns2 (e := .f32) _ _ _ _ _ _ (fun q => tWu m c t k q) k q (fun j => ?_) (fun j => ?_) (fun j => ?_)
  exacts [(s4 _ _).trans ((first m c h t).wu_real k j), (s4 _ _).trans ((second m c h t).wu_real k j), (s11 _ _ _).trans ((third m c h t).wu_real k j)]
theorem acc1_B (t : Fin cfg0.N) (h0 : ¬t.val % 8 = 0) (k : Fin 1024) (q : Fin 704) : (outsAt0 m c t.val t.isLt).2.2.2.2.2.2.1 (ix2 k q)
    = (outsAt0 m c (t.val - 1) (before t)).2.2.2.2.2.2.1 (ix2 k q) + tWu m c t k q := by
  by_cases h7 : t.val % 8 = 7
  · rw [outsAt0_C m c t h0 (by omega) h7]; frame_out
    refine columns2 (e := .f32) _ _ _ _ _ _ (fun q => (outsAt0 m c (t.val - 1) (before t)).2.2.2.2.2.2.1 (ix2 k q) + tWu m c t k q) k q (fun j => ?_) (fun j => ?_) (fun j => ?_)
    exacts [(s19 _ _ _).trans (congrArg₂ (· + ·) ((ld_cols _ _ _ k j).trans (congrFun (Memref.IsWhole.read_unread _ _) _)) ((first m c h t).wu_real k j)), (s19 _ _ _).trans (congrArg₂ (· + ·) ((ld_cols _ _ _ k j).trans (congrFun (Memref.IsWhole.read_unread _ _) _)) ((second m c h t).wu_real k j)),
      (s14 _ _ _ _).trans (congrArg₂ (· + ·) ((ld_cols _ _ _ k j).trans (congrFun (Memref.IsWhole.read_unread _ _) _)) ((third m c h t).wu_real k j))]
  · rw [outsAt0_B m c t h0 (by omega) h7]; frame_out
    refine columns2 (e := .f32) _ _ _ _ _ _ (fun q => (outsAt0 m c (t.val - 1) (before t)).2.2.2.2.2.2.1 (ix2 k q) + tWu m c t k q) k q (fun j => ?_) (fun j => ?_) (fun j => ?_)
    exacts [(s19 _ _ _).trans (congrArg₂ (· + ·) ((ld_cols _ _ _ k j).trans (congrFun (Memref.IsWhole.read_unread _ _) _)) ((first m c h t).wu_real k j)), (s19 _ _ _).trans (congrArg₂ (· + ·) ((ld_cols _ _ _ k j).trans (congrFun (Memref.IsWhole.read_unread _ _) _)) ((second m c h t).wu_real k j)),
      (s14 _ _ _ _).trans (congrArg₂ (· + ·) ((ld_cols _ _ _ k j).trans (congrFun (Memref.IsWhole.read_unread _ _) _)) ((third m c h t).wu_real k j))]

theorem acc2_A (t : Fin cfg0.N) (h0 : t.val % 8 = 0) (q : Fin 704) (k : Fin 1024) : (outsAt0 m c t.val t.isLt).2.2.2.2.2.2.2 (ix2 q k) = tWd m c t q k := by
  rw [outsAt0_A m c t h0 (by omega) (by omega)]; frame_out
  refine rows2 (e := .f32) _ _ _ _ _ _ (fun q => tWd m c t q k) q k (fun j => ?_) (fun j => ?_) (fun j => ?_)
  exacts [(s6 _ _).trans ((first m c h t).wd_real j k), (s6 _ _).trans ((second m c h t).wd_real j k), (s12 _ _ _ _).trans ((third m c h t).wd_real j k)]
theorem acc2_B (t : Fin cfg0.N) (h0 : ¬t.val % 8 = 0) (q : Fin 704) (k : Fin 1024) : (outsAt0 m c t.val t.isLt).2.2.2.2.2.2.2 (ix2 q k)
    = (outsAt0 m c (t.val - 1) (before t)).2.2.2.2.2.2.2 (ix2 q k) + tWd m c t q k := by
  by_cases h7 : t.val % 8 = 7
  · rw [outsAt0_C m c t h0 (by omega) h7]; frame_out
    refine rows2 (e := .f32) _ _ _ _ _ _ (fun q => (outsAt0 m c (t.val - 1) (before t)).2.2.2.2.2.2.2 (ix2 q k) + tWd m c t q k) q k (fun j => ?_) (fun j => ?_) (fun j => ?_)
    exacts [(s21 _ _ _).trans (congrArg₂ (· + ·) ((ld_rows _ _ _ j k).trans (congrFun (Memref.IsWhole.read_unread _ _) _)) ((first m c h t).wd_real j k)), (s21 _ _ _).trans (congrArg₂ (· + ·) ((ld_rows _ _ _ j k).trans (congrFun (Memref.IsWhole.read_unread _ _) _)) ((second m c h t).wd_real j k)),
      (s15 _ _ _ _ _).trans (congrArg₂ (· + ·) ((ld_rows _ _ _ j k).trans (congrFun (Memref.IsWhole.read_unread _ _) _)) ((third m c h t).wd_real j k))]
  · rw [outsAt0_B m c t h0 (by omega) h7]; frame_out
    refine rows2 (e := .f32) _ _ _ _ _ _ (fun q => (outsAt0 m c (t.val - 1) (before t)).2.2.2.2.2.2.2 (ix2 q k) + tWd m c t q k) q k (fun j => ?_) (fun j => ?_) (fun j => ?_)
    exacts [(s21 _ _ _).trans (congrArg₂ (· + ·) ((ld_rows _ _ _ j k).trans (congrFun (Memref.IsWhole.read_unread _ _) _)) ((first m c h t).wd_real j k)), (s21 _ _ _).trans (congrArg₂ (· + ·) ((ld_rows _ _ _ j k).trans (congrFun (Memref.IsWhole.read_unread _ _) _)) ((second m c h t).wd_real j k)),
      (s15 _ _ _ _ _).trans (congrArg₂ (· + ·) ((ld_rows _ _ _ j k).trans (congrFun (Memref.IsWhole.read_unread _ _) _)) ((third m c h t).wd_real j k))]

end

/-! The last grid point of a slab writes the accumulators. -/
theorem out7 (t : Fin cfg0.N) (h7 : t.val % 8 = 7) (r : Fin 1024) (q : Fin 704) :
    (outsAt0 m c t.val t.isLt).2.2.1 (ix3 0 r q) = (outsAt0 m c t.val t.isLt).2.2.2.2.2.1 (ix2 r q) := by
  rw [outsAt0_C m c t (by omega) (by omega) h7]; frame_out
  exact (s16 _ r q).trans ((congrFun (View.readCov_eq_canon' _ _ _) _).trans (congrArg _ (all_cols _ r q)))
theorem out8 (t : Fin cfg0.N) (h7 : t.val % 8 = 7) (r : Fin 1024) (q : Fin 704) :
    (outsAt0 m c t.val t.isLt).2.2.2.1 (ix3 0 r q) = (outsAt0 m c t.val t.isLt).2.2.2.2.2.2.1 (ix2 r q) := by
  rw [outsAt0_C m c t (by omega) (by omega) h7]; frame_out
  exact (s16 _ r q).trans ((congrFun (View.readCov_eq_canon' _ _ _) _).trans (congrArg _ (all_cols _ r q)))
theorem out9 (t : Fin cfg0.N) (h7 : t.val % 8 = 7) (q : Fin 704) (r : Fin 1024) :
    (outsAt0 m c t.val t.isLt).2.2.2.2.1 (ix3 0 q r) = (outsAt0 m c t.val t.isLt).2.2.2.2.2.2.2 (ix2 q r) := by
  rw [outsAt0_C m c t (by omega) (by omega) h7]; frame_out
  exact (s18 _ q r).trans ((congrFun (View.readCov_eq_canon' _ _ _) _).trans (congrArg _ (all_rows _ q r)))

/-- The eight grid points of a slab add up all rows. -/
theorem sum_slab (t : Fin cfg0.N) (f : Fin 4 → Fin 8192 → ℝ) (hl : ∀ s : Fin 8, 8 * (t.val / 8) + s.val < cfg0.N) :
    ∑ s : Fin 8, ((∑ r, f (slab ⟨8 * (t.val / 8) + s.val, hl s⟩) (row ⟨8 * (t.val / 8) + s.val, hl s⟩ r) : ℝ) : EReal) = ((∑ r, f (slab t) r : ℝ) : EReal) := by
  rw [sum, Fin.sum_univ_tiles 8 1024 rfl]
  refine congrArg _ (Finset.sum_congr rfl fun s _ => Finset.sum_congr rfl fun r _ => congrArg₂ f (Fin.ext ?_) (Fin.ext ?_))
  · show (8 * (t.val / 8) + s.val) / 8 = t.val / 8; omega
  · show (8 * (t.val / 8) + s.val) % 8 * 1024 + r.val = s.val * 1024 + r.val; omega

/-- The arguments as reals. -/
abbrev X := mat (aX m c)
abbrev Ct := mat (aCt m c)
abbrev Wg := mat (aWg m c)
abbrev Wu := mat (aWu m c)
abbrev Wd := mat (aWd m c)

section
variable (h : Reals (aX m c) (aWg m c) (aWu m c) (aWd m c) (aCt m c))
include h

theorem final5 : (dats m 0 c).arrAt 5 cfg0.N = rows (dGate (X m c) (Ct m c) (Wg m c) (Wu m c) (Wd m c)) := by
  refine (dats m 0 c).arrAt_eq_of_covers 5 _ (by decide +kernel) fun t _ y => ?_
  have e : ((cfg0.win 5).blk t).view.emb y = (ix3 (slab t) (row t (y 1)) (y 2) : S4x8192x704.Idx) := by blk_ext [row, slab, idx t]
  rw [e]
  blk_simp
  rw [after0_5]
  idx_vars y
  rw [Subsingleton.elim y0 0]
  exact out5 m c h t y1 y2
theorem final6 : (dats m 0 c).arrAt 6 cfg0.N = rows (dUp (X m c) (Ct m c) (Wg m c) (Wd m c)) := by
  refine (dats m 0 c).arrAt_eq_of_covers 6 _ (by decide +kernel) fun t _ y => ?_
  have e : ((cfg0.win 6).blk t).view.emb y = (ix3 (slab t) (row t (y 1)) (y 2) : S4x8192x704.Idx) := by blk_ext [row, slab, idx t]
  rw [e]
  blk_simp
  rw [after0_6]
  idx_vars y
  rw [Subsingleton.elim y0 0]
  exact out6 m c h t y1 y2
theorem final7 : (dats m 0 c).arrAt 7 cfg0.N = dw (X m c) (dGate (X m c) (Ct m c) (Wg m c) (Wu m c) (Wd m c)) := by
  refine (dats m 0 c).arrAt_eq_of_covers 7 _ (by decide +kernel) fun t hf y => ?_
  have e : ((cfg0.win 7).blk t).view.emb y = (ix3 (slab t) (y 1) (y 2) : S4x1024x704.Idx) := by blk_ext [slab, idx t]
  have h7 := (flush0_7 t).mp hf
  rw [e]
  blk_simp
  rw [after0_7]
  idx_vars y
  rw [Subsingleton.elim y0 0]
  refine (out7 m c t h7 y1 y2).trans ?_
  rw [Pipeline.eq_sum_fin_of_reset_step_apply_of_flush (fun n h => (outsAt0 m c n h).2.2.2.2.2.1) 8 (fun _ => 0) (fun p j => tWg m c p (j 0) (j 1))
    (fun t h0 j => by rw [zero_add, eq_ix2 j]; exact acc0_A m c h t h0 _ _)
    (fun t h0 j => by rw [eq_ix2 j]; exact acc0_B m c h t h0 _ _) t h7, zero_add]
  exact sum_slab t (fun s r => X m c r y1 * dGate (X m c) (Ct m c) (Wg m c) (Wu m c) (Wd m c) r (col s y2)) _
theorem final8 : (dats m 0 c).arrAt 8 cfg0.N = dw (X m c) (dUp (X m c) (Ct m c) (Wg m c) (Wd m c)) := by
  refine (dats m 0 c).arrAt_eq_of_covers 8 _ (by decide +kernel) fun t hf y => ?_
  have e : ((cfg0.win 8).blk t).view.emb y = (ix3 (slab t) (y 1) (y 2) : S4x1024x704.Idx) := by blk_ext [slab, idx t]
  have h7 := (flush0_8 t).mp hf
  rw [e]
  blk_simp
  rw [after0_8]
  idx_vars y
  rw [Subsingleton.elim y0 0]
  refine (out8 m c t h7 y1 y2).trans ?_
  rw [Pipeline.eq_sum_fin_of_reset_step_apply_of_flush (fun n h => (outsAt0 m c n h).2.2.2.2.2.2.1) 8 (fun _ => 0) (fun p j => tWu m c p (j 0) (j 1))
    (fun t h0 j => by rw [zero_add, eq_ix2 j]; exact acc1_A m c h t h0 _ _)
    (fun t h0 j => by rw [eq_ix2 j]; exact acc1_B m c h t h0 _ _) t h7, zero_add]
  exact sum_slab t (fun s r => X m c r y1 * dUp (X m c) (Ct m c) (Wg m c) (Wd m c) r (col s y2)) _
theorem final9 : (dats m 0 c).arrAt 9 cfg0.N = dwd (X m c) (Ct m c) (Wg m c) (Wu m c) := by
  refine (dats m 0 c).arrAt_eq_of_covers 9 _ (by decide +kernel) fun t hf y => ?_
  have e : ((cfg0.win 9).blk t).view.emb y = (ix3 (slab t) (y 1) (y 2) : S4x704x1024.Idx) := by blk_ext [slab, idx t]
  have h7 := (flush0_9 t).mp hf
  rw [e]
  blk_simp
  rw [after0_9]
  idx_vars y
  rw [Subsingleton.elim y0 0]
  refine (out9 m c t h7 y1 y2).trans ?_
  rw [Pipeline.eq_sum_fin_of_reset_step_apply_of_flush (fun n h => (outsAt0 m c n h).2.2.2.2.2.2.2) 8 (fun _ => 0) (fun p j => tWd m c p (j 0) (j 1))
    (fun t h0 j => by rw [zero_add, eq_ix2 j]; exact acc2_A m c h t h0 _ _)
    (fun t h0 j => by rw [eq_ix2 j]; exact acc2_B m c h t h0 _ _) t h7, zero_add]
  exact sum_slab t (fun s r => hid (X m c) (Wg m c) (Wu m c) r (col s y1) * (Ct m c r y2 * (1 / 2))) _

end

end Cert.FfnWBwdIdeal.Fw
end
-- ==== Proof.FfnWRuns.lean ====
/- The runs of the gated feed-forward's weight gradient kernel and of its reference, for finite arguments: both end with
   the same five arrays. -/
module

public import proofs.«01_k».proof.Proof.FfnWValue

@[expose] public section

set_option maxRecDepth 16384

noncomputable section

open Idealize.ShloMosaic Idealize.ShloMosaic.TcCoe Idealize.SL.Sem

namespace Cert.FfnWBwdIdeal.Fw

open Cert.FfnWBwdIdeal Cert.FfnWBwdIdeal.Gen Cert.FfnWBwdRefIdeal.Fw Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v10_0) = rows (dGate (mat (m ((c : Thread nD τ).loc main_arg0))) (mat (m ((c : Thread nD τ).loc main_arg4))) (mat (m ((c : Thread nD τ).loc main_arg1))) (mat (m ((c : Thread nD τ).loc main_arg2))) (mat (m ((c : Thread nD τ).loc main_arg3))))
      ∧ r.2.mem ((c : Thread nD τ).loc main_v10_1) = rows (dUp (mat (m ((c : Thread nD τ).loc main_arg0))) (mat (m ((c : Thread nD τ).loc main_arg4))) (mat (m ((c : Thread nD τ).loc main_arg1))) (mat (m ((c : Thread nD τ).loc main_arg3))))
      ∧ r.2.mem ((c : Thread nD τ).loc main_v10_2) = dw (mat (m ((c : Thread nD τ).loc main_arg0))) (dGate (mat (m ((c : Thread nD τ).loc main_arg0))) (mat (m ((c : Thread nD τ).loc main_arg4))) (mat (m ((c : Thread nD τ).loc main_arg1))) (mat (m ((c : Thread nD τ).loc main_arg2))) (mat (m ((c : Thread nD τ).loc main_arg3))))
      ∧ r.2.mem ((c : Thread nD τ).loc main_v10_3) = dw (mat (m ((c : Thread nD τ).loc main_arg0))) (dUp (mat (m ((c : Thread nD τ).loc main_arg0))) (mat (m ((c : Thread nD τ).loc main_arg4))) (mat (m ((c : Thread nD τ).loc main_arg1))) (mat (m ((c : Thread nD τ).loc main_arg3))))
      ∧ r.2.mem ((c : Thread nD τ).loc main_v10_4) = dwd (mat (m ((c : Thread nD τ).loc main_arg0))) (mat (m ((c : Thread nD τ).loc main_arg4))) (mat (m ((c : Thread nD τ).loc main_arg1))) (mat (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans (final5 m c (h c)),
      (hr c).2.1.trans (final6 m c (h c)),
      (hr c).2.2.1.trans (final7 m c (h c)),
      (hr c).2.2.2.1.trans (final8 m c (h c)),
      (hr c).2.2.2.2.1.trans (final9 m c (h c)),
      (hr c).2.2.2.2.2⟩)
    (Value.run_blocks m ρ)

end Cert.FfnWBwdIdeal.Fw

namespace Cert.FfnWBwdRefIdeal.Fw

open Cert.FfnWBwdRefIdeal Cert.FfnWBwdRefIdeal.Gen Cert.FfnWBwdRefIdeal.Read Cert.FfnWBwdRefIdeal.Fw Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4))) :
    θ_run defs (onTc (τ := τ) (main (F := Ideal))) ⟨m, fun _ => 0, ρ⟩ fun r => ∀ c : Dev nD,
      r.2.mem ((c : Thread nD τ).loc main_v21) = rows (dGate (mat (m ((c : Thread nD τ).loc main_arg0))) (mat (m ((c : Thread nD τ).loc main_arg4))) (mat (m ((c : Thread nD τ).loc main_arg1))) (mat (m ((c : Thread nD τ).loc main_arg2))) (mat (m ((c : Thread nD τ).loc main_arg3))))
      ∧ r.2.mem ((c : Thread nD τ).loc main_v24) = rows (dUp (mat (m ((c : Thread nD τ).loc main_arg0))) (mat (m ((c : Thread nD τ).loc main_arg4))) (mat (m ((c : Thread nD τ).loc main_arg1))) (mat (m ((c : Thread nD τ).loc main_arg3))))
      ∧ r.2.mem ((c : Thread nD τ).loc main_v27) = dw (mat (m ((c : Thread nD τ).loc main_arg0))) (dGate (mat (m ((c : Thread nD τ).loc main_arg0))) (mat (m ((c : Thread nD τ).loc main_arg4))) (mat (m ((c : Thread nD τ).loc main_arg1))) (mat (m ((c : Thread nD τ).loc main_arg2))) (mat (m ((c : Thread nD τ).loc main_arg3))))
      ∧ r.2.mem ((c : Thread nD τ).loc main_v30) = dw (mat (m ((c : Thread nD τ).loc main_arg0))) (dUp (mat (m ((c : Thread nD τ).loc main_arg0))) (mat (m ((c : Thread nD τ).loc main_arg4))) (mat (m ((c : Thread nD τ).loc main_arg1))) (mat (m ((c : Thread nD τ).loc main_arg3))))
      ∧ r.2.mem ((c : Thread nD τ).loc main_v32) = dwd (mat (m ((c : Thread nD τ).loc main_arg0))) (mat (m ((c : Thread nD τ).loc main_arg4))) (mat (m ((c : Thread nD τ).loc main_arg1))) (mat (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans ((val_main_v21_eq _ _ _ _ _ ).trans (d21 (h c))),
      (hr c).2.1.trans ((val_main_v24_eq _ _ _ _ ).trans (d24 (h c))),
      (hr c).2.2.1.trans ((val_main_v27_eq _ _ _ _ _ ).trans (d27 (h c))),
      (hr c).2.2.2.1.trans ((val_main_v30_eq _ _ _ _ ).trans (d30 (h c))),
      (hr c).2.2.2.2.1.trans ((val_main_v32_eq _ _ _ _ ).trans (d32 (h c))),
      (hr c).2.2.2.2.2⟩)
    (Cert.FfnWBwdRefIdeal.Value.run m ρ)

end Cert.FfnWBwdRefIdeal.Fw

end
-- ==== Proof.PleRef.lean ====
/- The reference of the gated embedding's gradient: the gate's derivative and its products, and the layer norm's gradient
   at the cotangent that comes back through them. -/
module

public import proofs.«01_k».proof.Proof.LnRuns
public import proofs.«01_k».proof.Proof.Gen.PleBwdRefIdeal.Run
public import proofs.«01_k».proof.Proof.Gen.PleBwdRefIdeal.Read
public import proofs.«01_k».proof.Proof.Gen.Pre_ple_finite

@[expose] public section

set_option maxRecDepth 16384

noncomputable section

open Idealize.ShloMosaic Idealize.ShloMosaic.TcCoe Idealize.SL.Sem

namespace Cert.PleBwdRefIdeal.Pl

open Cert.PleBwdRefIdeal Cert.PleBwdRefIdeal.Gen Cert.PleBwdRefIdeal.Read Cert.Lift Cert.LN Cert.LnBwdIdeal.Ln

theorem e8 (z : FVec Ideal S8192x1024 .f32) : val_main_v8 (F := Ideal) z = Cert.LnBwdRefIdeal.Read.val_main_v8 (F := Ideal) z := rfl
theorem e14 (z : FVec Ideal S8192x1024 .f32) : val_main_v14 (F := Ideal) z = Cert.LnBwdRefIdeal.Read.val_main_v14 (F := Ideal) z := rfl
theorem e17 (z : FVec Ideal S8192x1024 .f32) : val_main_v17 (F := Ideal) z = Cert.LnBwdRefIdeal.Read.val_main_v17 (F := Ideal) z := rfl
theorem e20 (z : FVec Ideal S8192x1024 .f32) : val_main_v20 (F := Ideal) z = Cert.LnBwdRefIdeal.Read.val_main_v20 (F := Ideal) z := rfl
theorem e22 (z : FVec Ideal S8192x1024 .f32) : val_main_v22 (F := Ideal) z = Cert.LnBwdRefIdeal.Read.val_main_v22 (F := Ideal) z := rfl
theorem h29 (z : FVec Ideal S8192x1024 .f32) : Cert.LnBwdRefIdeal.Read.val_main_v29 (F := Ideal) z = z := by
  funext i; idx_vars i; pointwise [Cert.LnBwdRefIdeal.Read.val_main_v29]

variable (z : FVec Ideal S8192x1024 .f32) (g b : FVec Ideal S1024 .f32) (p : FVec Ideal S8192x256 .f32) (wg : FVec Ideal S1024x1024 .f32)
  (bg : FVec Ideal S1024 .f32) (wp : FVec Ideal S256x1024 .f32) (ct : FVec Ideal S8192x1024 .f32)

theorem e67 : val_main_v67 (F := Ideal) z g b p wg bg wp ct = Cert.LnBwdRefIdeal.Read.val_main_v37 (F := Ideal) g (val_main_v59 (F := Ideal) z g b p wg bg wp ct) := by
  rw [Cert.LnBwdRefIdeal.Read.val_main_v37, h29]; rfl

theorem e73 : val_main_v73 (F := Ideal) z g b p wg bg wp ct = Cert.LnBwdRefIdeal.Read.val_main_v43 (F := Ideal) z g (val_main_v59 (F := Ideal) z g b p wg bg wp ct) := by
  rw [val_main_v73, val_main_v72, e67, e17]; rfl

theorem e82 : val_main_v82 (F := Ideal) z g b p wg bg wp ct = Cert.LnBwdRefIdeal.Read.val_main_v52 (F := Ideal) z g (val_main_v59 (F := Ideal) z g b p wg bg wp ct) := by
  rw [val_main_v82, val_main_v81, val_main_v80, val_main_v79, val_main_v74, val_main_v71, val_main_v70, val_main_v69, e8, e14, e20, e67]; rfl

theorem e92 : val_main_v92 (F := Ideal) z g b p wg bg wp ct = Cert.LnBwdRefIdeal.Read.val_main_v62 (F := Ideal) z g (val_main_v59 (F := Ideal) z g b p wg bg wp ct) := by
  rw [val_main_v92, val_main_v91, val_main_v90, val_main_v89, val_main_v87, val_main_v86, val_main_v85, val_main_v84, val_main_v83, val_main_v77, val_main_v76, val_main_v75, e73, e82]; rfl

theorem e95 : val_main_v95 (F := Ideal) z g b p wg bg wp ct = Cert.LnBwdRefIdeal.Read.val_main_v64 (F := Ideal) z (val_main_v59 (F := Ideal) z g b p wg bg wp ct) := by
  rw [Cert.LnBwdRefIdeal.Read.val_main_v64, Cert.LnBwdRefIdeal.Read.val_main_v38, Cert.LnBwdRefIdeal.Read.val_main_v35, Cert.LnBwdRefIdeal.Read.val_main_v34, Cert.LnBwdRefIdeal.Read.val_main_v33, h29,
    val_main_v95, val_main_v68, val_main_v65, val_main_v64, val_main_v63, e22]; rfl

theorem e96 : val_main_v96 (F := Ideal) z g b p wg bg wp ct = Cert.LnBwdRefIdeal.Read.val_main_v65 (F := Ideal) (val_main_v59 (F := Ideal) z g b p wg bg wp ct) := by
  rw [val_main_v96, val_main_v62, val_main_v61, val_main_v60]; rfl

/-! ## The values over the reals -/

section spec
variable (Z Ct : Fin 8192 → Fin 1024 → ℝ) (G B Bg : Fin 1024 → ℝ) (P : Fin 8192 → Fin 256 → ℝ) (Wg : Fin 1024 → Fin 1024 → ℝ) (Wp : Fin 256 → Fin 1024 → ℝ)

/-- The layer norm's output, the gate, and the projected embedding. -/
def xn (i : Fin 8192) (j : Fin 1024) : ℝ := xhat (Z i) j * G j + B j
def gate (i : Fin 8192) (j : Fin 1024) : ℝ := (1 + Real.exp (-((∑ k, xn Z G B i k * Wg k j) + Bg j)))⁻¹
def emb (i : Fin 8192) (j : Fin 1024) : ℝ := ∑ k, P i k * Wp k j
/-- The gradient of the gate's argument, of the projected embedding, and of the layer norm's output. -/
def da (i : Fin 8192) (j : Fin 1024) : ℝ := Ct i j * emb P Wp i j * gate Z G B Bg Wg i j * (1 - gate Z G B Bg Wg i j)
def de (i : Fin 8192) (j : Fin 1024) : ℝ := Ct i j * gate Z G B Bg Wg i j
def cot (i : Fin 8192) (j : Fin 1024) : ℝ := Ct i j + ∑ k, da Z Ct G B Bg P Wg Wp i k * Wg j k
/-- The gradients of the gate's weights and bias, and of the embedding's projection. -/
def dwg : FVec Ideal S1024x1024 .f32 := fun y => ((∑ r, xn Z G B r (y 0) * da Z Ct G B Bg P Wg Wp r (y 1) : ℝ) : EReal)
def dbg : FVec Ideal S1x1024 .f32 := fun y => ((∑ r, da Z Ct G B Bg P Wg Wp r (y 1) : ℝ) : EReal)
def dwp : FVec Ideal S256x1024 .f32 := fun y => ((∑ r, P r (y 0) * de Z Ct G B Bg Wg r (y 1) : ℝ) : EReal)

end spec

/-- The arrays of the precondition are arrays of reals. -/
structure Reals : Prop where
  z : ∀ i k, z (ix2 i k) = ((mat z i k : ℝ) : EReal)
  g : ∀ k, g (ix1 k) = ((vec g k : ℝ) : EReal)
  b : ∀ k, b (ix1 k) = ((vec b k : ℝ) : EReal)
  p : ∀ i k, p (ix2 i k) = ((mat p i k : ℝ) : EReal)
  wg : ∀ i k, wg (ix2 i k) = ((mat wg i k : ℝ) : EReal)
  bg : ∀ k, bg (ix1 k) = ((vec bg k : ℝ) : EReal)
  wp : ∀ i k, wp (ix2 i k) = ((mat wp i k : ℝ) : EReal)
  ct : ∀ i k, ct (ix2 i k) = ((mat ct i k : ℝ) : EReal)

theorem reals (h : (Cert.Pre_ple_finite.fn (F := Ideal) z g b p wg bg wp ct).1 = (fun _ => 1#1) ∧ (Cert.Pre_ple_finite.fn (F := Ideal) z g b p wg bg wp ct).2.1 = (fun _ => 1#1) ∧ (Cert.Pre_ple_finite.fn (F := Ideal) z g b p wg bg wp ct).2.2.1 = (fun _ => 1#1) ∧ (Cert.Pre_ple_finite.fn (F := Ideal) z g b p wg bg wp ct).2.2.2.1 = (fun _ => 1#1) ∧ (Cert.Pre_ple_finite.fn (F := Ideal) z g b p wg bg wp ct).2.2.2.2.1 = (fun _ => 1#1) ∧ (Cert.Pre_ple_finite.fn (F := Ideal) z g b p wg bg wp ct).2.2.2.2.2.1 = (fun _ => 1#1) ∧ (Cert.Pre_ple_finite.fn (F := Ideal) z g b p wg bg wp ct).2.2.2.2.2.2.1 = (fun _ => 1#1) ∧ (Cert.Pre_ple_finite.fn (F := Ideal) z g b p wg bg wp ct).2.2.2.2.2.2.2 = (fun _ => 1#1)) : Reals z g b p wg bg wp ct where
  z := fun i k => of_finite z _ (fun i => by pointwise [winf]) h.1 _
  g := fun k => of_finite g _ (fun i => by pointwise [winf]) h.2.1 _
  b := fun k => of_finite b _ (fun i => by pointwise [winf]) h.2.2.1 _
  p := fun i k => of_finite p _ (fun i => by pointwise [winf]) h.2.2.2.1 _
  wg := fun i k => of_finite wg _ (fun i => by pointwise [winf]) h.2.2.2.2.1 _
  bg := fun k => of_finite bg _ (fun i => by pointwise [winf]) h.2.2.2.2.2.1 _
  wp := fun i k => of_finite wp _ (fun i => by pointwise [winf]) h.2.2.2.2.2.2.1 _
  ct := fun i k => of_finite ct _ (fun i => by pointwise [winf]) h.2.2.2.2.2.2.2 _

variable {z g b p wg bg wp ct}

section
variable (h : Reals z g b p wg bg wp ct)
include h

theorem v28 (i : Fin 8192) (j : Fin 1024) : val_main_v28 (F := Ideal) z g b (ix2 i j) = ((xn (mat z) (vec g) (vec b) i j : ℝ) : EReal) := by
  pointwise [val_main_v28, val_main_v27, val_main_v26, val_main_v25, val_main_v24, val_main_v23]
  rw [e22, Cert.LnBwdRefIdeal.Ln.v22 _ _ h.z, h.g, h.b, mul, add]; rfl

theorem v38 (i : Fin 8192) (j : Fin 1024) : val_main_v38 (F := Ideal) z g b wg bg (ix2 i j) = ((gate (mat z) (vec g) (vec b) (vec bg) (mat wg) i j : ℝ) : EReal) := by
  pointwise [val_main_v38, val_main_v37, val_main_v36, val_main_v35, val_main_v34, val_main_v33, val_main_v32, val_main_v31, val_main_v30, val_main_v29, val_main_cst_6, val_main_cst_7]
  simp only [v28 h, h.wg, h.bg, mul, sum, add]
  exact Ideal.logistic_coe _

theorem v42 (i : Fin 8192) (j : Fin 1024) : val_main_v42 (F := Ideal) p wp (ix2 i j) = ((emb (mat p) (mat wp) i j : ℝ) : EReal) := by
  pointwise [val_main_v42]
  simp only [h.p, h.wp, mul, sum]; rfl

theorem v47 (i : Fin 8192) (j : Fin 1024) : val_main_v47 (F := Ideal) z g b wg bg ct (ix2 i j) = ((de (mat z) (mat ct) (vec g) (vec b) (vec bg) (mat wg) i j : ℝ) : EReal) := by
  pointwise [val_main_v47, val_main_v46]
  rw [v38 h, h.ct, mul, mul_comm]; rfl

theorem v52 (i : Fin 8192) (j : Fin 1024) : val_main_v52 (F := Ideal) z g b p wg bg wp ct (ix2 i j) = ((da (mat z) (mat ct) (vec g) (vec b) (vec bg) (mat p) (mat wg) (mat wp) i j : ℝ) : EReal) := by
  pointwise [val_main_v52, val_main_v48, val_main_v46, val_main_v41, val_main_v40, val_main_v39, val_main_cst_8]
  rw [v38 h, v42 h, h.ct, one, sub, mul, mul, mul, da]
  exact congrArg _ (by ring)

theorem v59 (i : Fin 8192) (j : Fin 1024) : val_main_v59 (F := Ideal) z g b p wg bg wp ct (ix2 i j) = ((cot (mat z) (mat ct) (vec g) (vec b) (vec bg) (mat p) (mat wg) (mat wp) i j : ℝ) : EReal) := by
  pointwise [val_main_v59, val_main_v58, val_main_v45]
  simp only [v52 h, h.ct, h.wg, mul, sum, add]; rfl

theorem d92 : val_main_v92 (F := Ideal) z g b p wg bg wp ct = dz (mat z) (cot (mat z) (mat ct) (vec g) (vec b) (vec bg) (mat p) (mat wg) (mat wp)) (vec g) := by
  funext j; idx_vars j; rw [e92]
  exact Cert.LnBwdRefIdeal.Ln.v62 _ _ _ _ _ _ h.z (v59 h) h.g j0 j1

theorem d95 : val_main_v95 (F := Ideal) z g b p wg bg wp ct = dg (mat z) (cot (mat z) (mat ct) (vec g) (vec b) (vec bg) (mat p) (mat wg) (mat wp)) := by
  funext j; idx_vars j; rw [Subsingleton.elim j0 0, e95]
  exact Cert.LnBwdRefIdeal.Ln.v64 _ _ _ _ h.z (v59 h) j1

theorem d96 : val_main_v96 (F := Ideal) z g b p wg bg wp ct = db (cot (mat z) (mat ct) (vec g) (vec b) (vec bg) (mat p) (mat wg) (mat wp)) := by
  funext j; idx_vars j; rw [Subsingleton.elim j0 0, e96]
  exact Cert.LnBwdRefIdeal.Ln.v65 _ _ (v59 h) j1

theorem d57 : val_main_v57 (F := Ideal) z g b p wg bg wp ct = dwg (mat z) (mat ct) (vec g) (vec b) (vec bg) (mat p) (mat wg) (mat wp) := by
  funext j; idx_vars j
  pointwise [val_main_v57, val_main_v56]
  simp only [v52 h, v28 h, mul, sum, mul_comm (da _ _ _ _ _ _ _ _ _ _)]; rfl

theorem d94 : val_main_v94 (F := Ideal) z g b p wg bg wp ct = dbg (mat z) (mat ct) (vec g) (vec b) (vec bg) (mat p) (mat wg) (mat wp) := by
  funext j; idx_vars j
  pointwise [val_main_v94, val_main_v55, val_main_v54, val_main_v53, val_main_cst_9, val_main_cst_10]
  simp only [v52 h, sum, zero_add, Fin.sum_univ_one]; rfl

theorem d50 : val_main_v50 (F := Ideal) z g b p wg bg ct = dwp (mat z) (mat ct) (vec g) (vec b) (vec bg) (mat p) (mat wg) := by
  funext j; idx_vars j
  pointwise [val_main_v50, val_main_v49]
  simp only [v47 h, h.p, mul, sum, mul_comm (de _ _ _ _ _ _ _ _)]; rfl

end

end Cert.PleBwdRefIdeal.Pl

end
-- ==== Proof.PleValue.lean ====
/- The arrays the gated embedding's gradient kernel leaves, for finite arguments. -/
module

public import proofs.«01_k».proof.Proof.Gen.PleBwdIdeal.Value
public import proofs.«01_k».proof.Proof.PleRef

@[expose] public section

set_option maxRecDepth 16384

noncomputable section

open Idealize.ShloMosaic Idealize.ShloMosaic.TcCoe Idealize.SL.Sem
open Idealize.ShloMosaic.Pipeline (Dat)

namespace Cert.PleBwdIdeal.Pl

open Cert.PleBwdIdeal Cert.PleBwdIdeal.Gen Cert.Lift Cert.LN Cert.PleBwdRefIdeal.Pl
open Cert.LnBwdIdeal.Ln (mat vec dz db sum_rows)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![0, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- Row `i` of grid point `t`. -/
def row (t : Fin cfg0.N) (i : Fin 512) : Fin 8192 := ⟨t.val * 512 + i.val, by have := lt_of_lt_of_eq t.isLt N_0; omega⟩

abbrev aZ : FVec Ideal S8192x1024 .f32 := m ((c : Thread nD τ).loc main_arg0)
abbrev aG : FVec Ideal S1024 .f32 := m ((c : Thread nD τ).loc main_arg1)
abbrev aB : FVec Ideal S1024 .f32 := m ((c : Thread nD τ).loc main_arg2)
abbrev aP : FVec Ideal S8192x256 .f32 := m ((c : Thread nD τ).loc main_arg3)
abbrev aWg : FVec Ideal S1024x1024 .f32 := m ((c : Thread nD τ).loc main_arg4)
abbrev aBg : FVec Ideal S1024 .f32 := m ((c : Thread nD τ).loc main_arg5)
abbrev aWp : FVec Ideal S256x1024 .f32 := m ((c : Thread nD τ).loc main_arg6)
abbrev aCt : FVec Ideal S8192x1024 .f32 := m ((c : Thread nD τ).loc main_arg7)

section body
variable (x0 x2 : FVec Ideal S512x1024 .f32) (x1 : FVec Ideal S512x256 .f32) (x3 x4 : FVec Ideal S1024x1024 .bf16) (x5 : FVec Ideal S1x1024 .f32) (x6 : FVec Ideal S256x1024 .bf16)
variable (i : Fin 512) (x ct bg : Fin 1024 → ℝ) (p : Fin 256 → ℝ) (wg : Fin 1024 → Fin 1024 → ℝ) (wp : Fin 256 → Fin 1024 → ℝ)
variable (h0 : ∀ k, x0 (ix2 i k) = ((x k : ℝ) : EReal)) (h1 : ∀ k, x1 (ix2 i k) = ((p k : ℝ) : EReal)) (h2 : ∀ k, x2 (ix2 i k) = ((ct k : ℝ) : EReal))
variable (h3 : ∀ k j, x3 (ix2 k j) = ((wg k j : ℝ) : EReal)) (h4 : ∀ k j, x4 (ix2 k j) = ((wg j k : ℝ) : EReal)) (h5 : ∀ k, x5 (ix2 0 k) = ((bg k : ℝ) : EReal))
variable (h6 : ∀ k j, x6 (ix2 k j) = ((wp k j : ℝ) : EReal))

/-- The gate of one row, and the gradient of its argument. -/
def gt (j : Fin 1024) : ℝ := (1 + Real.exp (-((∑ k, x k * wg k j) + bg j)))⁻¹
def ga (j : Fin 1024) : ℝ := ct j * (∑ k, p k * wp k j) * gt x bg wg j * (1 - gt x bg wg j)

include h0 h3 h5

theorem pay8 (j : Fin 1024) : k0_pay8 (F := Ideal) x0 x3 x5 (ix2 i j) = ((gt x bg wg j : ℝ) : EReal) := by
  pointwise [k0_pay8, k0_pay7]
  simp only [h0, h3, h5, mul, sum, add, zero_add]
  exact Ideal.logistic_coe _

include h2
theorem pay10 (j : Fin 1024) : k0_pay10 (F := Ideal) x0 x2 x3 x5 (ix2 i j) = ((ct j * gt x bg wg j : ℝ) : EReal) := by
  pointwise [k0_pay10]
  rw [pay8 x0 x3 x5 i x bg wg h0 h3 h5, h2, mul]

include h1 h6
theorem pay9 (j : Fin 1024) : k0_pay9 (F := Ideal) x0 x2 x3 x5 x1 x6 (ix2 i j) = ((ga x ct bg p wg wp j : ℝ) : EReal) := by
  pointwise [k0_pay9]
  simp only [pay8 x0 x3 x5 i x bg wg h0 h3 h5, h1, h2, h6, one, mul, sum, sub, zero_add]
  rfl

include h4
theorem pay11 (j : Fin 1024) : k0_pay11 (F := Ideal) x0 x2 x3 x5 x1 x6 x4 (ix2 i j) = ((ct j + ∑ k, ga x ct bg p wg wp k * wg j k : ℝ) : EReal) := by
  pointwise [k0_pay11]
  simp only [pay9 x0 x2 x1 x3 x5 x6 i x ct bg p wg wp h0 h1 h2 h3 h5 h6, h2, h4, mul, sum, add, zero_add]

end body

section reuse
variable (x4 x5 : FVec Ideal S512x1024 .f32) (x6 : FVec Ideal S1x1024 .f32)
theorem r17 : k0_pay17 (F := Ideal) x4 x5 (k0_pay12 (F := Ideal) x6) (k0_pay13 (F := Ideal) x5) = Cert.LnBwdIdeal.Gen.k0_pay8 (F := Ideal) x5 x4 x6 := rfl
theorem r20 : k0_pay20 (F := Ideal) x4 x5 (k0_pay12 (F := Ideal) x6) (k0_pay13 (F := Ideal) x5) = Cert.LnBwdIdeal.Gen.k0_pay8 (F := Ideal) x5 x4 x6 := rfl
theorem r18 : k0_pay18 (F := Ideal) x4 x5 (k0_pay13 (F := Ideal) x5) = Cert.LnBwdIdeal.Gen.k0_pay9 (F := Ideal) x5 x4 := rfl
theorem r19 : k0_pay19 (F := Ideal) x4 = Cert.LnBwdIdeal.Gen.k0_pay1 (F := Ideal) (Cert.LnBwdIdeal.Gen.k0_pay10 (F := Ideal) x4) := rfl
theorem add2 (a b : FVec Ideal S1024x1024 .f32) (j : S1024x1024.Idx) : k0_pay2 (F := Ideal) a b j = b j + a j := by pointwise [k0_pay2]
theorem add3 (a b : FVec Ideal S1x1024 .f32) (j : S1x1024.Idx) : k0_pay3 (F := Ideal) a b j = b j + a j := by pointwise [k0_pay3]
theorem add4 (a : FVec Ideal S512x1024 .f32) (p : FVec Ideal S512x256 .f32) (b : FVec Ideal S256x1024 .f32) (j : S256x1024.Idx) :
    k0_pay4 (F := Ideal) a p b j = b j + k0_pay1 (F := Ideal) a p j := by pointwise [k0_pay4]
theorem add5 (a b : FVec Ideal S1x1024 .f32) (j : S1x1024.Idx) : k0_pay5 (F := Ideal) a b j = b j + a j := by pointwise [k0_pay5]
theorem add6 (a b : FVec Ideal S1x1024 .f32) (j : S1x1024.Idx) : k0_pay6 (F := Ideal) a b j = b j + a j := by pointwise [k0_pay6]
end reuse

/-- The layer norm's output as the host leaves it. -/
theorem xhost : V m c main_v23 = Cert.PleBwdRefIdeal.Read.val_main_v28 (F := Ideal) (aZ m c) (aG m c) (aB m c) := by
  show StableHlo.after hostOps0 (fun b => m (c, b)) (Proc.tc.devRef main_v23) = _
  after_results; try rfl

section outs
variable (h : Reals (aZ m c) (aG m c) (aB m c) (aP m c) (aWg m c) (aBg m c) (aWp m c) (aCt m c))
include h

theorem blk0 (t : Fin cfg0.N) (i : Fin 512) (k : Fin 1024) :
    (show FVec Ideal S512x1024 .f32 from iblk m c 0 t) (ix2 i k) = ((xn (mat (aZ m c)) (vec (aG m c)) (vec (aB m c)) (row t i) k : ℝ) : EReal) := by
  rw [← v28 h]
  show V m c main_v23 ((win0_0.blk t).view.emb (ix2 i k)) = _
  rw [xhost]; blk_ext [idx t, row]
theorem blk1 (t : Fin cfg0.N) (i : Fin 512) (k : Fin 256) :
    (show FVec Ideal S512x256 .f32 from iblk m c 1 t) (ix2 i k) = ((mat (aP m c) (row t i) k : ℝ) : EReal) := by
  rw [← h.p]; blk_ext [iblk, V, idx t, row]
theorem blk2 (t : Fin cfg0.N) (i : Fin 512) (k : Fin 1024) :
    (show FVec Ideal S512x1024 .f32 from iblk m c 2 t) (ix2 i k) = ((mat (aCt m c) (row t i) k : ℝ) : EReal) := by
  rw [← h.ct]; blk_ext [iblk, V, idx t, row]
theorem blk7 (t : Fin cfg0.N) (i : Fin 512) (k : Fin 1024) :
    (show FVec Ideal S512x1024 .f32 from iblk m c 7 t) (ix2 i k) = ((mat (aZ m c) (row t i) k : ℝ) : EReal) := by
  rw [← h.z]; blk_ext [iblk, V, idx t, row]
theorem blk3 (t : Fin cfg0.N) (i : Fin 1024) (k : Fin 1024) :
    (show FVec Ideal S1024x1024 .bf16 from iblk m c 3 t) (ix2 i k) = ((mat (aWg m c) i k : ℝ) : EReal) := by
  rw [← h.wg]; blk_simp [iblk, idx t]; entry_read; pointwise; blk_ext [idx t]
theorem blk4 (t : Fin cfg0.N) (i : Fin 1024) (k : Fin 1024) :
    (show FVec Ideal S1024x1024 .bf16 from iblk m c 4 t) (ix2 i k) = ((mat (aWg m c) k i : ℝ) : EReal) := by
  rw [← h.wg]; blk_simp [iblk, idx t]; entry_read; pointwise; blk_ext [idx t]
theorem blk5 (t : Fin cfg0.N) (k : Fin 1024) :
    (show FVec Ideal S1x1024 .f32 from iblk m c 5 t) (ix2 0 k) = ((vec (aBg m c) k : ℝ) : EReal) := by
  rw [← h.bg]; blk_simp [iblk, idx t]; entry_read; pointwise; blk_ext [idx t]
theorem blk6 (t : Fin cfg0.N) (i : Fin 256) (k : Fin 1024) :
    (show FVec Ideal S256x1024 .bf16 from iblk m c 6 t) (ix2 i k) = ((mat (aWp m c) i k : ℝ) : EReal) := by
  rw [← h.wp]; blk_simp [iblk, idx t]; entry_read; pointwise; blk_ext [idx t]
theorem blk8 (t : Fin cfg0.N) (k : Fin 1024) :
    (show FVec Ideal S1x1024 .f32 from iblk m c 8 t) (ix2 0 k) = ((vec (aG m c) k : ℝ) : EReal) := by
  rw [← h.g]; blk_simp [iblk, idx t]; entry_read; pointwise; blk_ext [idx t]
end outs

/-- Over all rows: the gradient of the gate's argument, of the projected embedding, and the layer norm's cotangent. -/
def daR : Fin 8192 → Fin 1024 → ℝ := da (mat (aZ m c)) (mat (aCt m c)) (vec (aG m c)) (vec (aB m c)) (vec (aBg m c)) (mat (aP m c)) (mat (aWg m c)) (mat (aWp m c))
def deR : Fin 8192 → Fin 1024 → ℝ := de (mat (aZ m c)) (mat (aCt m c)) (vec (aG m c)) (vec (aB m c)) (vec (aBg m c)) (mat (aWg m c))
def ctR : Fin 8192 → Fin 1024 → ℝ := cot (mat (aZ m c)) (mat (aCt m c)) (vec (aG m c)) (vec (aB m c)) (vec (aBg m c)) (mat (aP m c)) (mat (aWg m c)) (mat (aWp m c))

/-- What a grid point makes of them. -/
def daK (t : Fin cfg0.N) : FVec Ideal S512x1024 .f32 := k0_pay9 (F := Ideal) (iblk m c 0 t) (iblk m c 2 t) (iblk m c 3 t) (iblk m c 5 t) (iblk m c 1 t) (iblk m c 6 t)
def deK (t : Fin cfg0.N) : FVec Ideal S512x1024 .f32 := k0_pay10 (F := Ideal) (iblk m c 0 t) (iblk m c 2 t) (iblk m c 3 t) (iblk m c 5 t)
def ctK (t : Fin cfg0.N) : FVec Ideal S512x1024 .f32 := k0_pay11 (F := Ideal) (iblk m c 0 t) (iblk m c 2 t) (iblk m c 3 t) (iblk m c 5 t) (iblk m c 1 t) (iblk m c 6 t) (iblk m c 4 t)

section outs
variable (h : Reals (aZ m c) (aG m c) (aB m c) (aP m c) (aWg m c) (aBg m c) (aWp m c) (aCt m c))
include h

theorem daK_at (t : Fin cfg0.N) (i : Fin 512) (j : Fin 1024) : daK m c t (ix2 i j) = ((daR m c (row t i) j : ℝ) : EReal) :=
  pay9 _ _ _ _ _ _ i _ _ _ _ _ _ (blk0 m c h t i) (blk1 m c h t i) (blk2 m c h t i) (blk3 m c h t) (blk5 m c h t) (blk6 m c h t) j
theorem deK_at (t : Fin cfg0.N) (i : Fin 512) (j : Fin 1024) : deK m c t (ix2 i j) = ((deR m c (row t i) j : ℝ) : EReal) :=
  pay10 _ _ _ _ i _ _ _ _ (blk0 m c h t i) (blk2 m c h t i) (blk3 m c h t) (blk5 m c h t) j
theorem ctK_at (t : Fin cfg0.N) (i : Fin 512) (j : Fin 1024) : ctK m c t (ix2 i j) = ((ctR m c (row t i) j : ℝ) : EReal) :=
  pay11 _ _ _ _ _ _ _ i _ _ _ _ _ _ (blk0 m c h t i) (blk1 m c h t i) (blk2 m c h t i) (blk3 m c h t) (blk4 m c h t) (blk5 m c h t) (blk6 m c h t) j

theorem key8 (t : Fin cfg0.N) (i : Fin 512) (j : Fin 1024) : Cert.LnBwdIdeal.Gen.k0_pay8 (F := Ideal) (iblk m c 7 t) (ctK m c t) (iblk m c 8 t) (ix2 i j)
    = dz (mat (aZ m c)) (ctR m c) (vec (aG m c)) (ix2 (row t i) j) :=
  Cert.LnBwdIdeal.Ln.pay8 _ _ _ i (mat (aZ m c) (row t i)) (ctR m c (row t i)) (vec (aG m c)) (blk7 m c h t i) (ctK_at m c h t i) (blk8 m c h t) j

theorem out9 (t : Fin cfg0.N) (i : Fin 512) (j : Fin 1024) : (outsAt0 m c t.val t.isLt).1 (ix2 i j) = dz (mat (aZ m c)) (ctR m c) (vec (aG m c)) (ix2 (row t i) j) := by
  by_cases h0 : t.val % 16 = 0
  · rw [outsAt0_A m c t h0 (by have := lt_of_lt_of_eq t.isLt N_0; omega)]; frame_out; exact (congrFun (r17 _ _ _) _).trans (key8 m c h t i j)
  · rw [outsAt0_B m c t h0 (by omega)]; frame_out; exact (congrFun (r17 _ _ _) _).trans (key8 m c h t i j)

theorem final9 : (dats m 0 c).arrAt 9 cfg0.N = dz (mat (aZ m c)) (ctR m c) (vec (aG m c)) := by
  refine (dats m 0 c).arrAt_eq_of_covers 9 _ (by decide +kernel) fun t _ y => ?_
  have e : ((cfg0.win 9).blk t).view.emb y = (ix2 (row t (y 0)) (y 1) : S8192x1024.Idx) := by blk_ext [row, idx t]
  rw [e]
  blk_simp
  rw [after0_9]
  exact (congrArg _ (eq_ix2 y)).trans (out9 m c h t (y 0) (y 1))

theorem out10 (t : Fin cfg0.N) (i : Fin 512) (j : Fin 1024) : (outsAt0 m c t.val t.isLt).2.1 (ix2 i j) = dz (mat (aZ m c)) (ctR m c) (vec (aG m c)) (ix2 (row t i) j) := by
  by_cases h0 : t.val % 16 = 0
  · rw [outsAt0_A m c t h0 (by have := lt_of_lt_of_eq t.isLt N_0; omega)]; frame_out; exact (congrFun (r20 _ _ _) _).trans (key8 m c h t i j)
  · rw [outsAt0_B m c t h0 (by omega)]; frame_out; exact (congrFun (r20 _ _ _) _).trans (key8 m c h t i j)

theorem final10 : (dats m 0 c).arrAt 10 cfg0.N = dz (mat (aZ m c)) (ctR m c) (vec (aG m c)) := by
  refine (dats m 0 c).arrAt_eq_of_covers 10 _ (by decide +kernel) fun t _ y => ?_
  have e : ((cfg0.win 10).blk t).view.emb y = (ix2 (row t (y 0)) (y 1) : S8192x1024.Idx) := by blk_ext [row, idx t]
  rw [e]
  blk_simp
  rw [after0_10]
  exact (congrArg _ (eq_ix2 y)).trans (out10 m c h t (y 0) (y 1))

theorem part11 (t : Fin cfg0.N) (y : S1024x1024.Idx) : k0_pay21 (F := Ideal) (k0_pay7 (F := Ideal) (iblk m c 0 t)) (daK m c t) y = ((∑ r, xn (mat (aZ m c)) (vec (aG m c)) (vec (aB m c)) (row t r) (y 0) * daR m c (row t r) (y 1) : ℝ) : EReal) := by
  idx_vars y
  have e := daK_at m c h t
  have e0 := blk0 m c h t
  pointwise [k0_pay21, k0_pay7]
  simp only [e, e0, mul, sum, zero_add]

theorem final11 : (dats m 0 c).arrAt 11 cfg0.N = dwg (mat (aZ m c)) (mat (aCt m c)) (vec (aG m c)) (vec (aB m c)) (vec (aBg m c)) (mat (aP m c)) (mat (aWg m c)) (mat (aWp m c)) := by
  refine (dats m 0 c).arrAt_eq_of_after_last 11 t0_15 (by decide +kernel) _ fun j => ?_
  blk_simp
  rw [after0_11, Pipeline.eq_sum_fin_of_reset_step_apply_last (fun n h => (outsAt0 m c n h).2.2.1) 16 (fun _ => 0)
    (fun p j => ((∑ r, xn (mat (aZ m c)) (vec (aG m c)) (vec (aB m c)) (row p r) (j 0) * daR m c (row p r) (j 1) : ℝ) : EReal))
    (fun t h0 j => by
      rw [outsAt0_A m c t h0 (by have := lt_of_lt_of_eq t.isLt N_0; omega)]; frame_out
      exact (part11 m c h t j).trans (zero_add _).symm)
    (fun t h0 j => by
      rw [outsAt0_B m c t h0 (by omega)]; frame_out
      exact (add2 _ _ _).trans (congrArg _ (part11 m c h t j)))
    (le_of_eq N_0) t0_15 rfl j, zero_add]
  exact sum_rows fun r => xn (mat (aZ m c)) (vec (aG m c)) (vec (aB m c)) r (j 0) * daR m c r (j 1)

theorem part12 (t : Fin cfg0.N) (y : S1x1024.Idx) : k0_pay22 (F := Ideal) (daK m c t) y = ((∑ r, daR m c (row t r) (y 1) : ℝ) : EReal) := by
  idx_vars y
  have e := daK_at m c h t
  pointwise [k0_pay22]
  simp only [e, sum, zero_add]

theorem final12 : (dats m 0 c).arrAt 12 cfg0.N = dbg (mat (aZ m c)) (mat (aCt m c)) (vec (aG m c)) (vec (aB m c)) (vec (aBg m c)) (mat (aP m c)) (mat (aWg m c)) (mat (aWp m c)) := by
  refine (dats m 0 c).arrAt_eq_of_after_last 12 t0_15 (by decide +kernel) _ fun j => ?_
  blk_simp
  rw [after0_12, Pipeline.eq_sum_fin_of_reset_step_apply_last (fun n h => (outsAt0 m c n h).2.2.2.1) 16 (fun _ => 0)
    (fun p j => ((∑ r, daR m c (row p r) (j 1) : ℝ) : EReal))
    (fun t h0 j => by
      rw [outsAt0_A m c t h0 (by have := lt_of_lt_of_eq t.isLt N_0; omega)]; frame_out
      exact (part12 m c h t j).trans (zero_add _).symm)
    (fun t h0 j => by
      rw [outsAt0_B m c t h0 (by omega)]; frame_out
      exact (add3 _ _ _).trans (congrArg _ (part12 m c h t j)))
    (le_of_eq N_0) t0_15 rfl j, zero_add]
  exact sum_rows fun r => daR m c r (j 1)

theorem part13 (t : Fin cfg0.N) (y : S256x1024.Idx) : k0_pay1 (F := Ideal) (deK m c t) (iblk m c 1 t) y = ((∑ r, mat (aP m c) (row t r) (y 0) * deR m c (row t r) (y 1) : ℝ) : EReal) := by
  idx_vars y
  have e := deK_at m c h t
  have e0 := blk1 m c h t
  pointwise [k0_pay1]
  simp only [e, e0, mul, sum, zero_add]

theorem final13 : (dats m 0 c).arrAt 13 cfg0.N = dwp (mat (aZ m c)) (mat (aCt m c)) (vec (aG m c)) (vec (aB m c)) (vec (aBg m c)) (mat (aP m c)) (mat (aWg m c)) := by
  refine (dats m 0 c).arrAt_eq_of_after_last 13 t0_15 (by decide +kernel) _ fun j => ?_
  blk_simp
  rw [after0_13, Pipeline.eq_sum_fin_of_reset_step_apply_last (fun n h => (outsAt0 m c n h).2.2.2.2.1) 16 (fun _ => 0)
    (fun p j => ((∑ r, mat (aP m c) (row p r) (j 0) * deR m c (row p r) (j 1) : ℝ) : EReal))
    (fun t h0 j => by
      rw [outsAt0_A m c t h0 (by have := lt_of_lt_of_eq t.isLt N_0; omega)]; frame_out
      exact (part13 m c h t j).trans (zero_add _).symm)
    (fun t h0 j => by
      rw [outsAt0_B m c t h0 (by omega)]; frame_out
      exact (add4 _ _ _ _).trans (congrArg _ (part13 m c h t j)))
    (le_of_eq N_0) t0_15 rfl j, zero_add]
  exact sum_rows fun r => mat (aP m c) r (j 0) * deR m c r (j 1)

theorem part14 (t : Fin cfg0.N) (y : S1x1024.Idx) : k0_pay18 (F := Ideal) (ctK m c t) (iblk m c 7 t) (k0_pay13 (F := Ideal) (iblk m c 7 t)) y = ((∑ r, ctR m c (row t r) (y 1) * xhat (mat (aZ m c) (row t r)) (y 1) : ℝ) : EReal) := by
  idx_vars y
  rw [Subsingleton.elim y0 0, r18]
  exact Cert.LnBwdIdeal.Ln.pay9 _ _ (fun i => mat (aZ m c) (row t i)) (fun i => ctR m c (row t i)) (blk7 m c h t) (ctK_at m c h t) y1

theorem final14 : (dats m 0 c).arrAt 14 cfg0.N = Cert.LnBwdIdeal.Ln.dg (mat (aZ m c)) (ctR m c) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0)
    (fun p j => ((∑ r, ctR m c (row p r) (j 1) * xhat (mat (aZ m c) (row p r)) (j 1) : ℝ) : EReal))
    (fun t h0 j => by
      rw [outsAt0_A m c t h0 (by have := lt_of_lt_of_eq t.isLt N_0; omega)]; frame_out
      exact (part14 m c h t j).trans (zero_add _).symm)
    (fun t h0 j => by
      rw [outsAt0_B m c t h0 (by omega)]; frame_out
      exact (add5 _ _ _).trans (congrArg _ (part14 m c h t j)))
    (le_of_eq N_0) t0_15 rfl j, zero_add]
  exact sum_rows fun r => ctR m c r (j 1) * xhat (mat (aZ m c) r) (j 1)

theorem part15 (t : Fin cfg0.N) (y : S1x1024.Idx) : k0_pay19 (F := Ideal) (ctK m c t) y = ((∑ r, ctR m c (row t r) (y 1) : ℝ) : EReal) := by
  idx_vars y
  rw [Subsingleton.elim y0 0, r19]
  exact Cert.LnBwdIdeal.Ln.pay10 _ (fun i => ctR m c (row t i)) (ctK_at m c h t) y1

theorem final15 : (dats m 0 c).arrAt 15 cfg0.N = db (ctR m c) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0)
    (fun p j => ((∑ r, ctR m c (row p r) (j 1) : ℝ) : EReal))
    (fun t h0 j => by
      rw [outsAt0_A m c t h0 (by have := lt_of_lt_of_eq t.isLt N_0; omega)]; frame_out
      exact (part15 m c h t j).trans (zero_add _).symm)
    (fun t h0 j => by
      rw [outsAt0_B m c t h0 (by omega)]; frame_out
      exact (add6 _ _ _).trans (congrArg _ (part15 m c h t j)))
    (le_of_eq N_0) t0_15 rfl j, zero_add]
  exact sum_rows fun r => ctR m c r (j 1)

end outs

end Cert.PleBwdIdeal.Pl

end
-- ==== Proof.PleRuns.lean ====
/- The runs of the gated embedding's gradient kernel and of its reference, for finite arguments: both end with the same
   seven arrays. -/
module

public import proofs.«01_k».proof.Proof.PleValue

@[expose] public section

set_option maxRecDepth 16384

noncomputable section

open Idealize.ShloMosaic Idealize.ShloMosaic.TcCoe Idealize.SL.Sem

namespace Cert.PleBwdIdeal.Pl

open Cert.PleBwdIdeal Cert.PleBwdIdeal.Gen Cert.PleBwdRefIdeal.Pl Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v29_0) = dz (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))) (vec (m ((c : Thread nD τ).loc main_arg1)))
      ∧ r.2.mem ((c : Thread nD τ).loc main_v29_1) = dz (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))) (vec (m ((c : Thread nD τ).loc main_arg1)))
      ∧ r.2.mem ((c : Thread nD τ).loc main_v29_2) = dwg (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))
      ∧ r.2.mem ((c : Thread nD τ).loc main_v29_3) = dbg (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))
      ∧ r.2.mem ((c : Thread nD τ).loc main_v29_4) = dwp (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4)))
      ∧ r.2.mem ((c : Thread nD τ).loc main_v29_5) = Cert.LnBwdIdeal.Ln.dg (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6))))
      ∧ r.2.mem ((c : Thread nD τ).loc main_v29_6) = db (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans (final9 m c (h c)),
      (hr c).2.1.trans (final10 m c (h c)),
      (hr c).2.2.1.trans (final11 m c (h c)),
      (hr c).2.2.2.1.trans (final12 m c (h c)),
      (hr c).2.2.2.2.1.trans (final13 m c (h c)),
      (hr c).2.2.2.2.2.1.trans (final14 m c (h c)),
      (hr c).2.2.2.2.2.2.1.trans (final15 m c (h c)),
      (hr c).2.2.2.2.2.2.2⟩)
    (Value.run_blocks m ρ)

end Cert.PleBwdIdeal.Pl

namespace Cert.PleBwdRefIdeal.Pl

open Cert.PleBwdRefIdeal Cert.PleBwdRefIdeal.Gen Cert.PleBwdRefIdeal.Read Cert.PleBwdRefIdeal.Pl Cert.LnBwdIdeal.Ln

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v92) = dz (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))) (vec (m ((c : Thread nD τ).loc main_arg1)))
      ∧ r.2.mem ((c : Thread nD τ).loc main_v93) = dz (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))) (vec (m ((c : Thread nD τ).loc main_arg1)))
      ∧ r.2.mem ((c : Thread nD τ).loc main_v57) = dwg (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))
      ∧ r.2.mem ((c : Thread nD τ).loc main_v94) = dbg (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6)))
      ∧ r.2.mem ((c : Thread nD τ).loc main_v50) = dwp (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4)))
      ∧ r.2.mem ((c : Thread nD τ).loc main_v95) = Cert.LnBwdIdeal.Ln.dg (mat (m ((c : Thread nD τ).loc main_arg0))) (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6))))
      ∧ r.2.mem ((c : Thread nD τ).loc main_v96) = db (cot (mat (m ((c : Thread nD τ).loc main_arg0))) (mat (m ((c : Thread nD τ).loc main_arg7))) (vec (m ((c : Thread nD τ).loc main_arg1))) (vec (m ((c : Thread nD τ).loc main_arg2))) (vec (m ((c : Thread nD τ).loc main_arg5))) (mat (m ((c : Thread nD τ).loc main_arg3))) (mat (m ((c : Thread nD τ).loc main_arg4))) (mat (m ((c : Thread nD τ).loc main_arg6))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans ((val_main_v92_eq m c).trans (d92 (h c))),
      (hr c).2.1.trans ((val_main_v93_eq m c).trans (d92 (h c))),
      (hr c).2.2.1.trans ((val_main_v57_eq m c).trans (d57 (h c))),
      (hr c).2.2.2.1.trans ((val_main_v94_eq m c).trans (d94 (h c))),
      (hr c).2.2.2.2.1.trans ((val_main_v50_eq _ _ _ _ _ _ _).trans (d50 (h c))),
      (hr c).2.2.2.2.2.1.trans ((val_main_v95_eq m c).trans (d95 (h c))),
      (hr c).2.2.2.2.2.2.1.trans ((val_main_v96_eq m c).trans (d96 (h c))),
      (hr c).2.2.2.2.2.2.2⟩)
    (Cert.PleBwdRefIdeal.Value.run m ρ)

end Cert.PleBwdRefIdeal.Pl

end
-- ==== Proof.RgReal.lean ====
/-
  A linear recurrence, its adjoint, and two ways of computing them: by doubling, and by the products of the decays.
-/
module

public import Mathlib.Analysis.SpecialFunctions.Log.Basic
public import Mathlib.Algebra.BigOperators.Intervals
public import Mathlib.Analysis.Complex.Trigonometric

noncomputable section

open scoped BigOperators

@[expose] public section

namespace Cert.Rg

/-- The recurrence h(n+1) = u(n+1) + a(n+1) h(n) from h(0) = u(0). -/
def hs (a u : ℕ → ℝ) : ℕ → ℝ
  | 0 => u 0
  | n + 1 => u (n + 1) + a (n + 1) * hs a u n

/-- Its adjoint over the first `N` steps: l(t) = v(t) + a(t+1) l(t+1) from l(N-1) = v(N-1). -/
def adj (N : ℕ) (a v : ℕ → ℝ) (t : ℕ) : ℝ := hs (fun n => a (N - n)) (fun n => v (N - 1 - n)) (N - 1 - t)

theorem adj_last (N : ℕ) (a v : ℕ → ℝ) : adj N a v (N - 1) = v (N - 1) := by simp [adj, hs]

theorem adj_step (N : ℕ) (a v : ℕ → ℝ) (t : ℕ) (h : t + 1 < N) : adj N a v t = v t + a (t + 1) * adj N a v (t + 1) := by
  have e : N - 1 - t = (N - 1 - (t + 1)) + 1 := by omega
  rw [adj, e, hs, ← adj]
  congr 2
  · congr 1; omega
  · congr 1; omega

theorem hs_unique (N : ℕ) (a u f : ℕ → ℝ) (h0 : f 0 = u 0) (hn : ∀ n, n + 1 < N → f (n + 1) = u (n + 1) + a (n + 1) * f n) :
    ∀ n, n < N → f n = hs a u n
  | 0, _ => h0
  | n + 1, h => by rw [hn n h, hs, hs_unique N a u f h0 hn n (by omega)]

theorem adj_unique (N : ℕ) (a v f : ℕ → ℝ) (h0 : f (N - 1) = v (N - 1)) (hn : ∀ t, t + 1 < N → f t = v t + a (t + 1) * f (t + 1))
    (t : ℕ) (ht : t < N) : f t = adj N a v t := by
  have := hs_unique N (fun n => a (N - n)) (fun n => v (N - 1 - n)) (fun n => f (N - 1 - n)) h0 (fun n hlt => by
    have e1 : N - (n + 1) = N - 1 - (n + 1) + 1 := by omega
    have e2 : N - 1 - n = N - 1 - (n + 1) + 1 := by omega
    show f (N - 1 - (n + 1)) = v (N - 1 - (n + 1)) + a (N - (n + 1)) * f (N - 1 - n)
    rw [e1, e2]; exact hn _ (by omega)) (N - 1 - t) (by omega)
  have e : N - 1 - (N - 1 - t) = t := by omega
  simp only [e] at this
  exact this

/-! ## Doubling -/

/-- The sum of the next `d` inputs, each with the product of the decays before it, and the product of the next `d` decays. -/
def part (al v : ℕ → ℝ) (d n : ℕ) : ℝ := ∑ j ∈ Finset.range d, (∏ i ∈ Finset.range j, al (n + i)) * v (n + j)
def prods (al : ℕ → ℝ) (d n : ℕ) : ℝ := ∏ i ∈ Finset.range d, al (n + i)

theorem part_add (al v : ℕ → ℝ) (d e n : ℕ) : part al v (d + e) n = part al v d n + prods al d n * part al v e (n + d) := by
  simp only [part, prods, Finset.sum_range_add, Finset.prod_range_add, Finset.mul_sum, mul_assoc, Nat.add_assoc]

theorem prods_add (al : ℕ → ℝ) (d e n : ℕ) : prods al (d + e) n = prods al d n * prods al e (n + d) := by
  simp only [prods, Finset.prod_range_add, Nat.add_assoc]

theorem part_one (al v : ℕ → ℝ) (n : ℕ) : part al v 1 n = v n := by simp [part]
theorem prods_one (al : ℕ → ℝ) (n : ℕ) : prods al 1 n = al n := by simp [prods]

theorem part_zero {al v : ℕ → ℝ} {N : ℕ} (hv : ∀ n, N ≤ n → v n = 0) (d n : ℕ) (hn : N ≤ n) : part al v d n = 0 :=
  Finset.sum_eq_zero fun j _ => by rw [hv _ (by omega), mul_zero]

theorem prods_id {al : ℕ → ℝ} {N : ℕ} (ha : ∀ n, N ≤ n → al n = 1) (d n : ℕ) (hn : N ≤ n) : prods al d n = 1 :=
  Finset.prod_eq_one fun j _ => ha _ (by omega)

theorem part_rec {al v : ℕ → ℝ} {N : ℕ} (hv : ∀ n, N ≤ n → v n = 0) (hN : 0 < N) (n : ℕ) :
    part al v N n = v n + al n * part al v N (n + 1) := by
  obtain ⟨M, rfl⟩ : ∃ M, N = 1 + M := ⟨N - 1, by omega⟩
  rw [part_add, part_one, prods_one, Nat.add_comm 1 M, part_add al v M 1 (n + 1), part_one, hv (n + 1 + M) (by omega), mul_zero, add_zero]

/-- The doubled sums over the whole length are the adjoint. -/
theorem part_adj {N : ℕ} (hN : 0 < N) {al v a : ℕ → ℝ} (hv : ∀ n, N ≤ n → v n = 0) (ha : ∀ n, n + 1 < N → al n = a (n + 1)) (t : ℕ) (ht : t < N) :
    part al v N t = adj N a v t := by
  refine adj_unique N a v _ ?_ (fun t h => ?_) t ht
  · rw [part_rec hv hN, part_zero hv _ _ (by omega : N ≤ N - 1 + 1), mul_zero, add_zero]
  · rw [part_rec hv hN, ha t h]

/-- … and, run backwards, the recurrence. -/
theorem part_hs {N : ℕ} (hN : 0 < N) {al v a u : ℕ → ℝ} (hv0 : ∀ n, N ≤ n → v n = 0) (hv : ∀ n, n < N → v n = u (N - 1 - n))
    (ha : ∀ n, n < N → al n = a (N - 1 - n)) (t : ℕ) (ht : t < N) : part al v N (N - 1 - t) = hs a u t := by
  refine hs_unique N a u (fun t => part al v N (N - 1 - t)) ?_ (fun n h => ?_) t ht
  · show part al v N (N - 1 - 0) = _
    rw [part_rec hv0 hN, part_zero hv0 _ _ (by omega : N ≤ N - 1 - 0 + 1), mul_zero, add_zero, hv _ (by omega)]
    congr 1; omega
  · show part al v N (N - 1 - (n + 1)) = _ + _ * part al v N (N - 1 - n)
    have e : N - 1 - (n + 1) + 1 = N - 1 - n := by omega
    have e' : N - 1 - (N - 1 - (n + 1)) = n + 1 := by omega
    rw [part_rec hv0 hN, e, hv _ (by omega), ha _ (by omega), e']

/-! ## The products of the decays -/

/-- The sum of the logarithms up to a step, and the decay from one step to another. -/
def lsum (la : ℕ → ℝ) (t : ℕ) : ℝ := ∑ k ∈ Finset.range (t + 1), la k
def dec (la : ℕ → ℝ) (t s : ℕ) : ℝ := if s ≤ t then Real.exp (lsum la t - lsum la s) else 0

theorem lsum_succ (la : ℕ → ℝ) (t : ℕ) : lsum la (t + 1) = lsum la t + la (t + 1) := Finset.sum_range_succ _ _

theorem dec_self (la : ℕ → ℝ) (t : ℕ) : dec la t t = 1 := by simp [dec]
theorem dec_above (la : ℕ → ℝ) {t s : ℕ} (h : t < s) : dec la t s = 0 := if_neg (by omega)
theorem dec_up (la : ℕ → ℝ) {t s : ℕ} (h : s ≤ t) : dec la (t + 1) s = Real.exp (la (t + 1)) * dec la t s := by
  rw [dec, dec, if_pos (by omega), if_pos h, ← Real.exp_add, lsum_succ]; congr 1; ring
theorem dec_down (la : ℕ → ℝ) {t s : ℕ} (h : s < t) : dec la t s = Real.exp (la (s + 1)) * dec la t (s + 1) := by
  rw [dec, dec, if_pos (by omega), if_pos (by omega), ← Real.exp_add, lsum_succ]; congr 1; ring

theorem lsum_masked (la : ℕ → ℝ) {N t : ℕ} (h : t < N) : (∑ k ∈ Finset.range N, if k ≤ t then la k else 0) = lsum la t := by
  rw [lsum, ← Finset.sum_subset (Finset.range_subset_range.2 (by omega : t + 1 ≤ N)) (f := fun k => if k ≤ t then la k else 0)
    (fun k _ hk => if_neg (by simpa using hk))]
  exact Finset.sum_congr rfl fun k hk => if_pos (by simpa [Nat.lt_succ_iff] using hk)

/-- The inputs, each with the decay from its step, sum to the recurrence. -/
theorem dec_hs (la u : ℕ → ℝ) {N : ℕ} (t : ℕ) (ht : t < N) :
    ∑ s ∈ Finset.range N, dec la t s * u s = hs (fun n => Real.exp (la n)) u t := by
  have cut : ∀ t, t < N → ∑ s ∈ Finset.range N, dec la t s * u s = ∑ s ∈ Finset.range (t + 1), dec la t s * u s := fun t ht =>
    (Finset.sum_subset (Finset.range_subset_range.2 (by omega : t + 1 ≤ N)) fun s _ hs => by
      rw [dec_above la (by simpa [Nat.lt_succ_iff] using hs), zero_mul]).symm
  rw [cut t ht]
  refine hs_unique N (fun n => Real.exp (la n)) u (fun t => ∑ s ∈ Finset.range (t + 1), dec la t s * u s) (by simp [dec_self]) (fun n _ => ?_) t ht
  show ∑ s ∈ Finset.range (n + 1 + 1), _ = _ + _ * ∑ s ∈ Finset.range (n + 1), _
  rw [Finset.sum_range_succ, dec_self, one_mul, add_comm, Finset.mul_sum]
  congr 1
  exact Finset.sum_congr rfl fun s hs => by rw [dec_up la (by simpa [Nat.lt_succ_iff] using hs), mul_assoc]

/-- The cotangents, each with the decay to its step, sum to the adjoint. -/
theorem dec_adj (la v : ℕ → ℝ) {N : ℕ} (s : ℕ) (hs : s < N) :
    ∑ t ∈ Finset.range N, dec la t s * v t = adj N (fun n => Real.exp (la n)) v s := by
  have cut : ∀ s, s < N → ∑ t ∈ Finset.range N, dec la t s * v t = ∑ t ∈ Finset.Ico s N, dec la t s * v t := fun s hs => by
    rw [Finset.range_eq_Ico]
    exact (Finset.sum_subset (Finset.Ico_subset_Ico (Nat.zero_le s) le_rfl) fun t h h' => by
      rw [dec_above la (by simp only [Finset.mem_Ico] at h h'; omega), zero_mul]).symm
  rw [cut s hs]
  refine adj_unique N (fun n => Real.exp (la n)) v (fun s => ∑ t ∈ Finset.Ico s N, dec la t s * v t) ?_ (fun s h => ?_) s hs
  · have e : Finset.Ico (N - 1) N = {N - 1} := by ext x; simp only [Finset.mem_Ico, Finset.mem_singleton]; omega
    show ∑ t ∈ Finset.Ico (N - 1) N, _ = _
    rw [e, Finset.sum_singleton, dec_self, one_mul]
  · show ∑ t ∈ Finset.Ico s N, _ = _ + _ * ∑ t ∈ Finset.Ico (s + 1) N, _
    rw [Finset.sum_eq_sum_Ico_succ_bot (by omega), dec_self, one_mul, Finset.mul_sum]
    congr 1
    exact Finset.sum_congr rfl fun t ht => by rw [dec_down la (by simp only [Finset.mem_Ico] at ht; omega), mul_assoc]

/-- The step before. -/
def before (h : ℕ → ℝ) (t : ℕ) : ℝ := if t = 0 then 0 else h (t - 1)

/-- The gradient of the logarithm of a decay: every later product of the sums, less every later product of the inputs. -/
theorem dlog_sum {N : ℕ} (a u v : ℕ → ℝ) (r : ℕ) (hr : r < N) :
    ∑ t ∈ Finset.range N, (if r ≤ t then v t * hs a u t - u t * adj N a v t else 0) = adj N a v r * before (hs a u) r * a r := by
  have key : ∀ k r, r + k + 1 = N → ∑ t ∈ Finset.Ico r N, (v t * hs a u t - u t * adj N a v t) = adj N a v r * (hs a u r - u r) := by
    intro k
    induction k with
    | zero =>
      intro r e
      have e1 : Finset.Ico r N = {r} := by ext x; simp only [Finset.mem_Ico, Finset.mem_singleton]; omega
      have e2 : r = N - 1 := by omega
      rw [e1, Finset.sum_singleton, e2, adj_last]; ring
    | succ k ih =>
      intro r e
      rw [Finset.sum_eq_sum_Ico_succ_bot (by omega), ih (r + 1) (by omega), adj_step N a v r (by omega), hs]; ring
  have cut : ∑ t ∈ Finset.range N, (if r ≤ t then v t * hs a u t - u t * adj N a v t else 0) = ∑ t ∈ Finset.Ico r N, (v t * hs a u t - u t * adj N a v t) := by
    rw [Finset.range_eq_Ico, ← Finset.sum_subset (Finset.Ico_subset_Ico (Nat.zero_le r) le_rfl) (fun t h h' => if_neg (by simp only [Finset.mem_Ico] at h h'; omega))]
    exact Finset.sum_congr rfl fun t ht => if_pos (Finset.mem_Ico.1 ht).1
  rw [cut, key (N - 1 - r) r (by omega)]
  cases r with
  | zero => simp [hs, before]
  | succ r => rw [before, if_neg (by omega), hs]; simp only [Nat.add_sub_cancel]; ring

/-! ## The gate of the input -/

theorem tanh_exp (x : ℝ) : Real.tanh x = (Real.exp (2 * x) - 1) / (Real.exp (2 * x) + 1) := by
  have h : Real.exp (2 * x) = Real.exp x * Real.exp x := by rw [← Real.exp_add]; ring_nf
  have hp := Real.exp_pos x
  rw [Real.tanh_eq_sinh_div_cosh, Real.sinh_eq, Real.cosh_eq, Real.exp_neg, h]
  field_simp

theorem tanh_mul (x : ℝ) : (0 - Real.tanh x) * (Real.exp (2 * x) + 1) = 1 - Real.exp (2 * x) := by
  rw [tanh_exp]
  have := (Real.exp_pos (2 * x))
  field_simp; ring

/-- The derivative of the gate of the input, from the hyperbolic tangent and from the exponential. -/
theorem dgate (x q : ℝ) : 2 * ((0 - Real.tanh x) * q * Real.exp (2 * x)) + (0 - q * (Real.exp (2 * x) + 1)) * ((1 + Real.tanh x) * (1 - Real.tanh x))
    = 2 * (-q * Real.exp (2 * x)) := by
  rw [tanh_exp]
  have := (Real.exp_pos (2 * x))
  field_simp; ring

theorem one_sub_exp_pos {x : ℝ} (h : x < 0) : 0 < 1 - Real.exp (2 * x) := by
  have : Real.exp (2 * x) < 1 := by rw [← Real.exp_zero]; exact Real.exp_lt_exp.2 (by linarith)
  linarith

end Cert.Rg

end
-- ==== Proof.RgSpec.lean ====
/- The gated linear recurrence's gradient over the reals, one column of one batch at a time: the gates from their arguments,
   the recurrence, its adjoint, and every gradient the adjoint gives. -/
module

public import proofs.«01_k».proof.Proof.Lift
public import proofs.«01_k».proof.Proof.RgReal

@[expose] public section

set_option maxRecDepth 16384

noncomputable section

open Idealize.ShloMosaic Idealize.ShloMosaic.TcCoe Idealize.SL.Sem

namespace Cert.Rg

open Cert.Lift

/-! ## Further operations on finite extended reals -/

theorem exp (a : ℝ) : Ideal.exp (a : EReal) = ((Real.exp a : ℝ) : EReal) := rfl
theorem tanh (a : ℝ) : Ideal.tanh (a : EReal) = ((Real.tanh a : ℝ) : EReal) := rfl
theorem sqrt (a : ℝ) (h : 0 ≤ a) : Ideal.sqrt (a : EReal) = ((Real.sqrt a : ℝ) : EReal) := by
  rw [Ideal.sqrt_coe, if_neg (not_lt.2 h)]
theorem expm1 (a : ℝ) : Ideal.expm1 (a : EReal) = ((Real.exp a - 1 : ℝ) : EReal) := by
  rw [Ideal.expm1, exp, one, sub]
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]
theorem log1p (a : ℝ) (h : 0 ≤ a) : Ideal.log1p (a : EReal) = ((Real.log (1 + a) : ℝ) : EReal) := by
  rw [Ideal.log1p, one, add, Ideal.log_coe, if_neg (by linarith)]
theorem une_self (a : EReal) : Ideal.cmp .une a a = 0#1 := by simp [Ideal.cmp]
theorem one_self (a : EReal) : Ideal.cmp .one a a = 0#1 := by simp [Ideal.cmp]
theorem oeq_top (a : ℝ) : Ideal.cmp .oeq (a : EReal) ⊤ = 0#1 := by simp [Ideal.cmp]

/-- The constants of the smooth gate, and the small ones. -/
def gk : ℝ := 12003091 / 2 ^ 28
def gs : ℝ := 13386282 / 2 ^ 24
theorem wgk : Ideal.ofBits .f32 0x3D372713#32 = ((gk : ℝ) : EReal) := by unfold gk; simp [Ideal.ofBits, Ideal.ieee, -EReal.coe_mul]; norm_num
theorem wgs : Ideal.ofBits .f32 0x3F4C422A#32 = ((gs : ℝ) : EReal) := by unfold gs; simp [Ideal.ofBits, Ideal.ieee, -EReal.coe_mul]; norm_num
theorem whalf : Ideal.ofBits .f32 0x3F000000#32 = ((1 / 2 : ℝ) : EReal) := by simp [Ideal.ofBits, Ideal.ieee, -EReal.coe_mul]; norm_num
theorem wtwo : Ideal.ofBits .f32 0x40000000#32 = ((2 : ℝ) : EReal) := by simp [Ideal.ofBits, Ideal.ieee, -EReal.coe_mul]; norm_num
theorem wthree : Ideal.ofBits .f32 0x40400000#32 = ((3 : ℝ) : EReal) := by simp [Ideal.ofBits, Ideal.ieee, -EReal.coe_mul]; norm_num
theorem weight : Ideal.ofBits .f32 0xC1000000#32 = ((-8 : ℝ) : EReal) := by simp [Ideal.ofBits, Ideal.ieee, -EReal.coe_mul]; norm_num

/-! ## The gates of one element -/

def sg (p : ℝ) : ℝ := (1 + Real.exp (-p))⁻¹
/-- The softened maximum of a number with zero, and its derivative, as both programs write them. -/
def spl (z : ℝ) : ℝ := max z 0 + Real.log (1 + Real.exp (-(max z (-z))))
def spd (z : ℝ) : ℝ := Real.exp (z - spl z)
/-- The smooth gate's factor, its derivative. -/
def gt (y : ℝ) : ℝ := Real.tanh (gs * (y + gk * (y * y * y)))
def gh (y : ℝ) : ℝ := 1 / 2 * (1 + gt y)
def gd (y q : ℝ) : ℝ :=
  q * gh y + gs * (1 / 2 * (y * q) * ((1 + gt y) * (1 - gt y))) + gk * (gs * (1 / 2 * (y * q) * ((1 + gt y) * (1 - gt y)))) * (3 * (y * y))

theorem sg_pos (p : ℝ) : 0 < sg p := inv_pos.2 (by have := Real.exp_pos (-p); linarith)
theorem spl_pos (z : ℝ) : 0 < spl z := by
  have h : 0 < Real.log (1 + Real.exp (-(max z (-z)))) := Real.log_pos (by have := Real.exp_pos (-(max z (-z))); linarith)
  have := le_max_right z 0
  rw [spl]; linarith

/-! ## One column -/

/-- What a column of one batch is made of: the gates' arguments, the input, the second gate's argument, the cotangent, and the decay's parameter. -/
structure Col where
  pr : ℕ → ℝ
  px : ℕ → ℝ
  x : ℕ → ℝ
  y : ℕ → ℝ
  ct : ℕ → ℝ
  l : ℝ

namespace Col

variable (c : Col)

def r (t : ℕ) : ℝ := sg (c.pr t)
def i (t : ℕ) : ℝ := sg (c.px t)
def la (t : ℕ) : ℝ := -8 * c.r t * spl (-c.l)
def a (t : ℕ) : ℝ := Real.exp (c.la t)
def m (t : ℕ) : ℝ := Real.sqrt (1 - Real.exp (2 * c.la t))
def u (t : ℕ) : ℝ := c.m t * (c.i t * c.x t)
def h : ℕ → ℝ := hs c.a c.u
def dh (t : ℕ) : ℝ := c.ct t * (c.y t * gh (c.y t))
def lam : ℕ → ℝ := adj 2048 c.a c.dh
/-- The gradients of the second gate, of the decay's logarithm, of the two gates' arguments, of the input beside them, and of the parameter. -/
def dy (t : ℕ) : ℝ := gd (c.y t) (c.h t * c.ct t)
def dla (t : ℕ) : ℝ := c.lam t * before c.h t * c.a t + 2 * (-(c.lam t * (c.i t * c.x t) * (1 / 2 / c.m t)) * Real.exp (2 * c.la t))
def dpx (t : ℕ) : ℝ := c.m t * c.lam t * c.x t * (c.i t * (1 - c.i t))
def dpr (t : ℕ) : ℝ := -8 * (c.dla t * spl (-c.l)) * (c.r t * (1 - c.r t))
def dx (t : ℕ) : ℝ := c.i t * (c.m t * c.lam t)
def dl (t : ℕ) : ℝ := -8 * c.r t * c.dla t

theorem la_neg (t : ℕ) : c.la t < 0 := by
  have h1 := sg_pos (c.pr t)
  have h2 := mul_pos h1 (spl_pos (-c.l))
  rw [la, r]; nlinarith
theorem m_arg (t : ℕ) : 0 < 1 - Real.exp (2 * c.la t) := one_sub_exp_pos (c.la_neg t)
theorem m_pos (t : ℕ) : 0 < c.m t := Real.sqrt_pos.2 (c.m_arg t)

end Col

/-- A column's numbers as a sequence, zero past its end. -/
def sq (f : Fin 2048 → ℝ) (n : ℕ) : ℝ := if h : n < 2048 then f ⟨n, h⟩ else 0
theorem sq_val (f : Fin 2048 → ℝ) (t : Fin 2048) : sq f t.val = f t := dif_pos t.isLt
theorem sq_end (f : Fin 2048 → ℝ) (n : ℕ) (h : 2048 ≤ n) : sq f n = 0 := dif_neg (by omega)

/-! ## The whole arrays -/

section whole
variable (X Y C : Fin 4 → Fin 2048 → Fin 512 → ℝ) (WA WX : Fin 8 → Fin 64 → Fin 64 → ℝ) (BA BX L : Fin 512 → ℝ)

/-- The block a channel lies in, its place in the block, and the channel at a place of a block. -/
def blk (c : Fin 512) : Fin 8 := ⟨c.val / 64, by omega⟩
def plc (c : Fin 512) : Fin 64 := ⟨c.val % 64, by omega⟩
def chn (g : Fin 8) (i : Fin 64) : Fin 512 := ⟨g.val * 64 + i.val, by omega⟩

/-- A gate's argument: the block's product, and the bias. -/
def pre (W : Fin 8 → Fin 64 → Fin 64 → ℝ) (B : Fin 512 → ℝ) (b : Fin 4) (c : Fin 512) (t : Fin 2048) : ℝ :=
  (∑ i : Fin 64, W (blk c) i (plc c) * X b t (chn (blk c) i)) + B c

def col (b : Fin 4) (c : Fin 512) : Col where
  pr := sq (pre X WA BA b c)
  px := sq (pre X WX BX b c)
  x := sq fun t => X b t c
  y := sq fun t => Y b t c
  ct := sq fun t => C b t c
  l := L c

def DX (b : Fin 4) (t : Fin 2048) (c : Fin 512) : ℝ :=
  (col X Y C WA WX BA BX L b c).dx t.val + ((∑ j : Fin 64, (col X Y C WA WX BA BX L b (chn (blk c) j)).dpx t.val * WX (blk c) (plc c) j)
    + ∑ j : Fin 64, (col X Y C WA WX BA BX L b (chn (blk c) j)).dpr t.val * WA (blk c) (plc c) j)
def DY (b : Fin 4) (t : Fin 2048) (c : Fin 512) : ℝ := (col X Y C WA WX BA BX L b c).dy t.val
def DBA : (⟨2, ![1, 512]⟩ : Shape).Idx → EReal := fun q => ((∑ b : Fin 4, ∑ t : Fin 2048, (col X Y C WA WX BA BX L b (q 1)).dpr t.val : ℝ) : EReal)
def DBX : (⟨2, ![1, 512]⟩ : Shape).Idx → EReal := fun q => ((∑ b : Fin 4, ∑ t : Fin 2048, (col X Y C WA WX BA BX L b (q 1)).dpx t.val : ℝ) : EReal)
def DL : (⟨2, ![1, 512]⟩ : Shape).Idx → EReal := fun q =>
  ((-((∑ b : Fin 4, ∑ t : Fin 2048, (col X Y C WA WX BA BX L b (q 1)).dl t.val) * spd (-L (q 1))) : ℝ) : EReal)

/-- Batches and rows held as one axis. -/
def rows (f : Fin 4 → Fin 2048 → Fin 512 → ℝ) : (⟨2, ![8192, 512]⟩ : Shape).Idx → EReal := fun q =>
  ((f ⟨(q 0).val / 2048, by have := (q 0).isLt; change (q 0).val < 8192 at this; omega⟩ ⟨(q 0).val % 2048, by omega⟩ (q 1) : ℝ) : EReal)

end whole

end Cert.Rg

end
-- ==== Proof.RgScan.lean ====
/- The doubling levels of the adjoint recurrence, as the kernel writes them with rotations and selects. -/
module

public import proofs.«01_k».proof.Proof.Gen.RglruBwdIdeal.Skeleton
public import Idealize.ShloMosaic.Lib.WordCmp
public import proofs.«01_k».proof.Proof.Lift
public import proofs.«01_k».proof.Proof.RgReal

@[expose] public section

set_option maxRecDepth 16384

noncomputable section

open Idealize.ShloMosaic Idealize.ShloMosaic.TcCoe Idealize.SL.Sem Idealize.ShloMosaic.WordCmp

namespace Cert.RglruBwdIdeal.Rg

open Cert.RglruBwdIdeal Cert.RglruBwdIdeal.Gen Cert.Lift Cert.Rg

/-- The rows below a bound, the rows brought from further down, and one level of the doubling. -/
def msk (k : BitVec 32) : IVec S2048x128 1 := cmpi .slt (iota .tc S2048x128 32 [0] iota_S2048x128_d0_w32) (broadcast S2048x128 k)
def rot (k : BitVec 32) (x : FVec Ideal S2048x128 .f32) : FVec Ideal S2048x128 .f32 := dynamicRotate 0 k none x rotates_S2048x128_d0
def fill (w : BitVec 32) : FVec Ideal S2048x128 .f32 := broadcast S2048x128 (Scalar.ofBits (F := Ideal) .f32 w)
def lv (k : BitVec 32) (A v : FVec Ideal S2048x128 .f32) : FVec Ideal S2048x128 .f32 := addf v (mulf A (select (msk k) (rot k v) (fill 0x00000000#32)))
def lq (k : BitVec 32) (A : FVec Ideal S2048x128 .f32) : FVec Ideal S2048x128 .f32 := mulf A (select (msk k) (rot k A) (fill 0x3F800000#32))

theorem brought (d : ℕ) (hd : d < 2048) (hd0 : 0 < d) (k : BitVec 32) (hk : k = BitVec.ofNat 32 (2048 - d)) (x : FVec Ideal S2048x128 .f32) (w : BitVec 32)
    (t : Fin 2048) (j : Fin 128) :
    select (msk k) (rot k x) (fill w) (ix2 t j) = if h : t.val + d < 2048 then x (ix2 ⟨t.val + d, h⟩ j) else Ideal.ofBits .f32 w := by
  subst hk
  pointwise [msk, rot, fill]
  rw [Scalar.select, cmpi_slt_ofNat (by omega) (by omega)]
  by_cases h : t.val + d < 2048
  · rw [dif_pos h, decide_eq_true (by omega : t.val < 2048 - d)]
    refine (if_pos rfl).trans ?_
    congr 2
    refine Fin.ext ?_
    show (t.val + 2048 - (BitVec.ofNat 32 (2048 - d)).toNat % 2048) % 2048 = t.val + d
    rw [BitVec.toNat_ofNat]; omega
  · rw [dif_neg h, decide_eq_false (by omega : ¬t.val < 2048 - d)]
    exact if_neg (by decide)

/-- After levels reaching `d` rows, the two arrays hold the sums and the products of `d` rows. -/
structure Inv (al v : Fin 128 → ℕ → ℝ) (d : ℕ) (A V : FVec Ideal S2048x128 .f32) : Prop where
  sums : ∀ (t : Fin 2048) (j : Fin 128), V (ix2 t j) = ((part (al j) (v j) d t.val : ℝ) : EReal)
  prods : ∀ (t : Fin 2048) (j : Fin 128), A (ix2 t j) = ((prods (al j) d t.val : ℝ) : EReal)

/-- The sequences end after 2048 rows: no input, and a decay of one. -/
structure Ends (al v : Fin 128 → ℕ → ℝ) : Prop where
  v : ∀ j n, 2048 ≤ n → v j n = 0
  al : ∀ j n, 2048 ≤ n → al j n = 1

theorem Inv.level {al v : Fin 128 → ℕ → ℝ} (he : Ends al v) {d : ℕ} {A V : FVec Ideal S2048x128 .f32} (h : Inv al v d A V) (hd : d < 2048) (hd0 : 0 < d)
    (k : BitVec 32) (hk : k = BitVec.ofNat 32 (2048 - d)) : Inv al v (d + d) (lq k A) (lv k A V) := by
  refine ⟨fun t j => ?_, fun t j => ?_⟩
  · show V (ix2 t j) + A (ix2 t j) * select (msk k) (rot k V) (fill 0x00000000#32) (ix2 t j) = _
    rw [brought d hd hd0 k hk, h.sums, h.prods, part_add]
    by_cases hlt : t.val + d < 2048
    · rw [dif_pos hlt, h.sums, mul, add]
    · rw [dif_neg hlt, part_zero (he.v j) d (t.val + d) (by omega), Ideal.ofBits_zero_f32, zero, mul, add]
  · show A (ix2 t j) * select (msk k) (rot k A) (fill 0x3F800000#32) (ix2 t j) = _
    rw [brought d hd hd0 k hk, h.prods, prods_add]
    by_cases hlt : t.val + d < 2048
    · rw [dif_pos hlt, h.prods, mul]
    · rw [dif_neg hlt, prods_id (he.al j) d (t.val + d) (by omega), Ideal.ofBits_one_f32, one, mul]

variable (a dh : FVec Ideal S2048x128 .f32)

/-- The decays moved up by one row, and the levels. -/
def A0 : FVec Ideal S2048x128 .f32 := select (msk 2047#32) (rot 2047#32 a) (fill 0x00000000#32)
def A1 : FVec Ideal S2048x128 .f32 := lq 2047#32 (A0 a)
def A2 : FVec Ideal S2048x128 .f32 := lq 2046#32 (A1 a)
def A3 : FVec Ideal S2048x128 .f32 := lq 2044#32 (A2 a)
def A4 : FVec Ideal S2048x128 .f32 := lq 2040#32 (A3 a)
def A5 : FVec Ideal S2048x128 .f32 := lq 2032#32 (A4 a)
def A6 : FVec Ideal S2048x128 .f32 := lq 2016#32 (A5 a)
def A7 : FVec Ideal S2048x128 .f32 := lq 1984#32 (A6 a)
def A8 : FVec Ideal S2048x128 .f32 := lq 1920#32 (A7 a)
def A9 : FVec Ideal S2048x128 .f32 := lq 1792#32 (A8 a)
def A10 : FVec Ideal S2048x128 .f32 := lq 1536#32 (A9 a)
def V1 : FVec Ideal S2048x128 .f32 := lv 2047#32 (A0 a) dh
def V2 : FVec Ideal S2048x128 .f32 := lv 2046#32 (A1 a) (V1 a dh)
def V3 : FVec Ideal S2048x128 .f32 := lv 2044#32 (A2 a) (V2 a dh)
def V4 : FVec Ideal S2048x128 .f32 := lv 2040#32 (A3 a) (V3 a dh)
def V5 : FVec Ideal S2048x128 .f32 := lv 2032#32 (A4 a) (V4 a dh)
def V6 : FVec Ideal S2048x128 .f32 := lv 2016#32 (A5 a) (V5 a dh)
def V7 : FVec Ideal S2048x128 .f32 := lv 1984#32 (A6 a) (V6 a dh)
def V8 : FVec Ideal S2048x128 .f32 := lv 1920#32 (A7 a) (V7 a dh)
def V9 : FVec Ideal S2048x128 .f32 := lv 1792#32 (A8 a) (V8 a dh)
def V10 : FVec Ideal S2048x128 .f32 := lv 1536#32 (A9 a) (V9 a dh)
def V11 : FVec Ideal S2048x128 .f32 := lv 1024#32 (A10 a) (V10 a dh)

/-- The kernel's levels are these. -/
theorem levels : k0_pay59 (F := Ideal) (iota .tc S2048x128 32 [0] iota_S2048x128_d0_w32)
    (k0_pay56 (iota .tc S2048x128 32 [0] iota_S2048x128_d0_w32) (k0_pay46 dh k0_pay38 (rot 2047#32 a)) (k0_pay47 k0_pay38 (rot 2047#32 a)) k0_pay48 (k0_pay49 dh k0_pay38 (rot 2047#32 a)))
    (k0_pay57 (iota .tc S2048x128 32 [0] iota_S2048x128_d0_w32) (k0_pay47 k0_pay38 (rot 2047#32 a)) k0_pay48)
    (k0_pay58 (iota .tc S2048x128 32 [0] iota_S2048x128_d0_w32)) 1920#32 = V11 a dh := rfl

/-- The kernel's doubled sums are the adjoint of the recurrence, down each column. -/
theorem v11 {a dh : FVec Ideal S2048x128 .f32} (ra rd : Fin 128 → ℕ → ℝ) (ha : ∀ (t : Fin 2048) j, a (ix2 t j) = ((ra j t.val : ℝ) : EReal))
    (hd : ∀ (t : Fin 2048) j, dh (ix2 t j) = ((rd j t.val : ℝ) : EReal)) (h0 : ∀ j n, 2048 ≤ n → rd j n = 0) (t : Fin 2048) (j : Fin 128) :
    V11 a dh (ix2 t j) = ((adj 2048 (ra j) (rd j) t.val : ℝ) : EReal) := by
  have he : Ends (fun j n => if n < 2047 then ra j (n + 1) else if n < 2048 then 0 else 1) rd :=
    ⟨h0, fun j n hn => by show (if n < 2047 then _ else _) = _; rw [if_neg (by omega), if_neg (by omega)]⟩
  have i0 : Inv (fun j n => if n < 2047 then ra j (n + 1) else if n < 2048 then 0 else 1) rd 1 (A0 a) dh := by
    refine ⟨fun t j => by rw [hd, part_one], fun t j => ?_⟩
    rw [A0, brought 1 (by omega) (by omega) 2047#32 rfl, prods_one]
    by_cases h : t.val + 1 < 2048
    · rw [dif_pos h, if_pos (by omega), ha]
    · rw [dif_neg h, if_neg (by omega), if_pos t.isLt, Ideal.ofBits_zero_f32]; rfl
  have i1 := i0.level he (by omega) (by omega) 2047#32 rfl
  have i2 := i1.level he (by omega) (by omega) 2046#32 rfl
  have i3 := i2.level he (by omega) (by omega) 2044#32 rfl
  have i4 := i3.level he (by omega) (by omega) 2040#32 rfl
  have i5 := i4.level he (by omega) (by omega) 2032#32 rfl
  have i6 := i5.level he (by omega) (by omega) 2016#32 rfl
  have i7 := i6.level he (by omega) (by omega) 1984#32 rfl
  have i8 := i7.level he (by omega) (by omega) 1920#32 rfl
  have i9 := i8.level he (by omega) (by omega) 1792#32 rfl
  have i10 := i9.level he (by omega) (by omega) 1536#32 rfl
  have i11 := i10.level he (by omega) (by omega) 1024#32 rfl
  rw [← part_adj (al := fun n => if n < 2047 then ra j (n + 1) else if n < 2048 then 0 else 1) (by omega) (h0 j) (fun n hn => if_pos (by omega)) t.val t.isLt]
  exact i11.sums t j

end Cert.RglruBwdIdeal.Rg

end
-- ==== Proof.RgKernel.lean ====
/- What one grid point of the recurrence's gradient computes from its block: the specification's columns, for real blocks. -/
module

public import proofs.«01_k».proof.Proof.Gen.RglruBwdIdeal.Skeleton
public import proofs.«01_k».proof.Proof.RgSpec
public import proofs.«01_k».proof.Proof.RgScan

@[expose] public section

set_option maxRecDepth 16384

noncomputable section

open Idealize.ShloMosaic Idealize.ShloMosaic.TcCoe Idealize.SL.Sem Idealize.ShloMosaic.WordCmp

namespace Cert.RglruBwdIdeal.Rg

open Cert.RglruBwdIdeal Cert.RglruBwdIdeal.Gen Cert.Lift Cert.Rg

/-- The arrays one grid point reads: the input, the second gate's argument, the recurrence's values, the cotangent, the two weight slabs, the two
    biases, the decay's parameter, and the zero. -/
structure Block where
  x : FVec Ideal S2048x128 .f32
  y : FVec Ideal S2048x128 .f32
  h : FVec Ideal S2048x128 .f32
  ct : FVec Ideal S2048x128 .f32
  wa : FVec Ideal S1x128x128 .f32
  wx : FVec Ideal S1x128x128 .f32
  ba : FVec Ideal S1x128 .f32
  bx : FVec Ideal S1x128 .f32
  l : FVec Ideal S1x128 .f32
  z : Ideal .f32

/-- The block's columns over the reals. -/
structure Holds (B : Block) (k : Fin 128 → Col) (va vx : Fin 128 → Fin 128 → ℝ) : Prop where
  x : ∀ (t : Fin 2048) j, B.x (ix2 t j) = (((k j).x t.val : ℝ) : EReal)
  y : ∀ (t : Fin 2048) j, B.y (ix2 t j) = (((k j).y t.val : ℝ) : EReal)
  h : ∀ (t : Fin 2048) j, B.h (ix2 t j) = (((k j).h t.val : ℝ) : EReal)
  ct : ∀ (t : Fin 2048) j, B.ct (ix2 t j) = (((k j).ct t.val : ℝ) : EReal)
  last : ∀ j n, 2048 ≤ n → (k j).ct n = 0
  wa : ∀ i j, B.wa (ix3 0 i j) = ((va i j : ℝ) : EReal)
  wx : ∀ i j, B.wx (ix3 0 i j) = ((vx i j : ℝ) : EReal)
  z : B.z = 0
  l : ∀ j, B.l (ix2 0 j) = (((k j).l : ℝ) : EReal)
  pr : ∀ (t : Fin 2048) j, (∑ i, (((k i).x t.val : ℝ) : EReal) * ((va i j : ℝ) : EReal)) + B.ba (ix2 0 j) = (((k j).pr t.val : ℝ) : EReal)
  px : ∀ (t : Fin 2048) j, (∑ i, (((k i).x t.val : ℝ) : EReal) * ((vx i j : ℝ) : EReal)) + B.bx (ix2 0 j) = (((k j).px t.val : ℝ) : EReal)

namespace Block
variable (B : Block)

def n : FVec Ideal S1x128 .f32 := k0_pay24 (F := Ideal) B.l
def n0 : FVec Ideal S1x128 .f32 := k0_pay25 (F := Ideal) B.l
def r8 : FVec Ideal S2048x128 .f32 := k0_pay23 (F := Ideal) B.x B.wa B.ba
def d : FVec Ideal S2048x128 .f32 := k0_pay15 (F := Ideal) (k0_pay9 B.ct) (k0_pay13 B.y)
/-- The adjoint recurrence. -/
def lam : FVec Ideal S2048x128 .f32 :=
  k0_pay59 (F := Ideal) (iota Kind.tc S2048x128 32 [0] iota_S2048x128_d0_w32)
    (k0_pay56 (iota Kind.tc S2048x128 32 [0] iota_S2048x128_d0_w32) (k0_pay46 B.d k0_pay38 (k0_pay39 B.r8 B.n B.z B.n0)) (k0_pay47 k0_pay38 (k0_pay39 B.r8 B.n B.z B.n0)) k0_pay48
      (k0_pay49 B.d k0_pay38 (k0_pay39 B.r8 B.n B.z B.n0)))
    (k0_pay57 (iota Kind.tc S2048x128 32 [0] iota_S2048x128_d0_w32) (k0_pay47 k0_pay38 (k0_pay39 B.r8 B.n B.z B.n0)) k0_pay48)
    (k0_pay58 (iota Kind.tc S2048x128 32 [0] iota_S2048x128_d0_w32)) 1920#32
def sp : FVec Ideal S1x128 .f32 := k0_pay26 (F := Ideal) B.n B.z B.n0
def ix : FVec Ideal S2048x128 .f32 := k0_pay37 (F := Ideal) (k0_pay16 B.x) (k0_pay21 B.x B.wx B.bx)
def dla : FVec Ideal S2048x128 .f32 :=
  k0_pay63 (F := Ideal) (k0_pay29 B.r8 B.n B.z B.n0) (k0_pay31 B.r8 B.n B.z B.n0) (k0_pay32 B.r8 B.n B.z B.n0) (k0_pay33 B.r8 B.n B.z B.n0)
    (k0_pay34 B.r8 B.n B.z B.n0) (k0_pay36 B.r8 B.n B.z B.n0) B.ix B.lam (k0_pay60 (iota Kind.tc S2048x128 32 [0] iota_S2048x128_d0_w32)) (k0_pay61 (k0_pay8 B.h)) B.z
def dpr : FVec Ideal S2048x128 .f32 :=
  k0_pay68 (F := Ideal) (k0_pay20 B.x B.wa B.ba) B.sp (k0_pay29 B.r8 B.n B.z B.n0) (k0_pay31 B.r8 B.n B.z B.n0) (k0_pay32 B.r8 B.n B.z B.n0) (k0_pay33 B.r8 B.n B.z B.n0)
    (k0_pay34 B.r8 B.n B.z B.n0) (k0_pay36 B.r8 B.n B.z B.n0) B.ix B.lam (k0_pay60 (iota Kind.tc S2048x128 32 [0] iota_S2048x128_d0_w32)) (k0_pay61 (k0_pay8 B.h)) B.z
def dpx : FVec Ideal S2048x128 .f32 := k0_pay65 (F := Ideal) (k0_pay16 B.x) (k0_pay22 B.x B.wx B.bx) (k0_pay35 B.r8 B.n B.z B.n0) B.lam

/-- What the grid point leaves, and what it adds to the three sums. -/
def dx : FVec Ideal S2048x128 .f32 :=
  k0_pay71 (F := Ideal) (k0_pay16 B.x) (k0_pay17 B.wa) (k0_pay18 B.wx) (k0_pay20 B.x B.wa B.ba) (k0_pay21 B.x B.wx B.bx) (k0_pay22 B.x B.wx B.bx) B.sp
    (k0_pay29 B.r8 B.n B.z B.n0) (k0_pay31 B.r8 B.n B.z B.n0) (k0_pay32 B.r8 B.n B.z B.n0) (k0_pay33 B.r8 B.n B.z B.n0) (k0_pay34 B.r8 B.n B.z B.n0)
    (k0_pay35 B.r8 B.n B.z B.n0) (k0_pay36 B.r8 B.n B.z B.n0) B.ix B.lam (k0_pay60 (iota Kind.tc S2048x128 32 [0] iota_S2048x128_d0_w32)) (k0_pay61 (k0_pay8 B.h)) B.z
def dy : FVec Ideal S2048x128 .f32 := k0_pay14 (F := Ideal) B.h B.ct B.y
def dba : FVec Ideal S1x128 .f32 :=
  k0_pay69 (F := Ideal) (k0_pay20 B.x B.wa B.ba) B.sp (k0_pay29 B.r8 B.n B.z B.n0) (k0_pay31 B.r8 B.n B.z B.n0) (k0_pay32 B.r8 B.n B.z B.n0) (k0_pay33 B.r8 B.n B.z B.n0)
    (k0_pay34 B.r8 B.n B.z B.n0) (k0_pay36 B.r8 B.n B.z B.n0) B.ix B.lam (k0_pay60 (iota Kind.tc S2048x128 32 [0] iota_S2048x128_d0_w32)) (k0_pay61 (k0_pay8 B.h)) B.z
def dbx : FVec Ideal S1x128 .f32 := k0_pay66 (F := Ideal) (k0_pay16 B.x) (k0_pay22 B.x B.wx B.bx) (k0_pay35 B.r8 B.n B.z B.n0) B.lam
def dl : FVec Ideal S1x128 .f32 :=
  k0_pay64 (F := Ideal) B.r8 (k0_pay27 B.n B.z B.n0) (k0_pay29 B.r8 B.n B.z B.n0) (k0_pay31 B.r8 B.n B.z B.n0) (k0_pay32 B.r8 B.n B.z B.n0) (k0_pay33 B.r8 B.n B.z B.n0)
    (k0_pay34 B.r8 B.n B.z B.n0) (k0_pay36 B.r8 B.n B.z B.n0) B.ix B.lam (k0_pay60 (iota Kind.tc S2048x128 32 [0] iota_S2048x128_d0_w32)) (k0_pay61 (k0_pay8 B.h)) B.z

end Block

section
variable {B : Block} {k : Fin 128 → Col} {wa wx : Fin 128 → Fin 128 → ℝ} (h : Holds B k wa wx)
include h

theorem p19 (t : Fin 2048) (j : Fin 128) : k0_pay19 (F := Ideal) B.x B.wa B.ba (ix2 t j) = (((k j).r t.val : ℝ) : EReal) := by
  pointwise [k0_pay19, k0_pay16, k0_pay17]
  simp only [h.x, h.wa, zero_add]
  rw [h.pr]; exact Ideal.logistic_coe _
theorem p21 (t : Fin 2048) (j : Fin 128) : k0_pay21 (F := Ideal) B.x B.wx B.bx (ix2 t j) = (((k j).i t.val : ℝ) : EReal) := by
  pointwise [k0_pay21, k0_pay16, k0_pay18]
  simp only [h.x, h.wx, zero_add]
  rw [h.px]; exact Ideal.logistic_coe _
theorem p20 (t : Fin 2048) (j : Fin 128) : k0_pay20 (F := Ideal) B.x B.wa B.ba (ix2 t j) = (((k j).r t.val * (1 - (k j).r t.val) : ℝ) : EReal) := by
  pointwise [k0_pay20]
  rw [p19 h, one, sub, mul]
theorem p22 (t : Fin 2048) (j : Fin 128) : k0_pay22 (F := Ideal) B.x B.wx B.bx (ix2 t j) = (((k j).i t.val * (1 - (k j).i t.val) : ℝ) : EReal) := by
  pointwise [k0_pay22]
  rw [p21 h, one, sub, mul]
theorem pr8 (t : Fin 2048) (j : Fin 128) : B.r8 (ix2 t j) = ((-8 * (k j).r t.val : ℝ) : EReal) := by
  pointwise [Block.r8, k0_pay23]
  rw [p19 h, weight, mul]
theorem pn (j : Fin 128) : B.n (ix2 0 j) = ((-(k j).l : ℝ) : EReal) := by
  pointwise [Block.n, k0_pay24]
  rw [h.l, zero, sub, zero_sub]
theorem pn0 (j : Fin 128) : B.n0 (ix2 0 j) = ((max (-(k j).l) 0 : ℝ) : EReal) := by
  have e := pn h; simp only [Block.n] at e
  pointwise [Block.n0, k0_pay25]
  rw [e, zero, max_coe]
theorem psp (j : Fin 128) : B.sp (ix2 0 j) = ((spl (-(k j).l) : ℝ) : EReal) := by
  pointwise [Block.sp, k0_pay26]
  rw [pn h, pn0 h, h.z, sub_zero, if_neg (not_not.2 rfl),
    show FloatOps.absf (F := Ideal) (φ := .f32) (((-(k j).l : ℝ) : EReal)) = max (((-(k j).l : ℝ) : EReal)) (-(((-(k j).l : ℝ) : EReal))) from rfl,
    neg, max_coe, zero, sub, zero_sub, Rg.exp, Rg.log1p _ (Real.exp_pos _).le, add]; rfl
theorem psd (j : Fin 128) : k0_pay27 (F := Ideal) B.n B.z B.n0 (ix2 0 j) = ((spd (-(k j).l) : ℝ) : EReal) := by
  have e := psp h; simp only [Block.sp] at e
  pointwise [k0_pay27]
  rw [e, pn h, winf, if_neg (EReal.coe_ne_top _), if_neg (EReal.coe_ne_top _), sub, Rg.exp]; rfl
theorem pla (t : Fin 2048) (j : Fin 128) : k0_pay28 (F := Ideal) B.r8 B.n B.z B.n0 (ix2 t j) = (((k j).la t.val : ℝ) : EReal) := by
  have e := psp h; simp only [Block.sp] at e
  pointwise [k0_pay28]
  rw [e, pr8 h, mul]; rfl
theorem pa (t : Fin 2048) (j : Fin 128) : k0_pay29 (F := Ideal) B.r8 B.n B.z B.n0 (ix2 t j) = (((k j).a t.val : ℝ) : EReal) := by
  pointwise [k0_pay29]
  rw [pla h]; rfl
theorem p30 (t : Fin 2048) (j : Fin 128) : k0_pay30 (F := Ideal) B.r8 B.n B.z B.n0 (ix2 t j) = ((Real.tanh ((k j).la t.val) : ℝ) : EReal) := by
  pointwise [k0_pay30]
  rw [pla h]; rfl
theorem p31 (t : Fin 2048) (j : Fin 128) : k0_pay31 (F := Ideal) B.r8 B.n B.z B.n0 (ix2 t j) = (((1 + Real.tanh ((k j).la t.val)) * (1 - Real.tanh ((k j).la t.val)) : ℝ) : EReal) := by
  pointwise [k0_pay31]
  rw [p30 h, one, add, sub, mul]
theorem p32 (t : Fin 2048) (j : Fin 128) : k0_pay32 (F := Ideal) B.r8 B.n B.z B.n0 (ix2 t j) = ((0 - Real.tanh ((k j).la t.val) : ℝ) : EReal) := by
  pointwise [k0_pay32]
  rw [p30 h, zero, sub]
theorem p33 (t : Fin 2048) (j : Fin 128) : k0_pay33 (F := Ideal) B.r8 B.n B.z B.n0 (ix2 t j) = ((Real.exp (2 * (k j).la t.val) : ℝ) : EReal) := by
  pointwise [k0_pay33]
  rw [pla h, wtwo, mul]; rfl
theorem p34 (t : Fin 2048) (j : Fin 128) : k0_pay34 (F := Ideal) B.r8 B.n B.z B.n0 (ix2 t j) = ((Real.exp (2 * (k j).la t.val) + 1 : ℝ) : EReal) := by
  pointwise [k0_pay34]
  rw [p33 h, one, add]
theorem pm (t : Fin 2048) (j : Fin 128) : k0_pay35 (F := Ideal) B.r8 B.n B.z B.n0 (ix2 t j) = (((k j).m t.val : ℝ) : EReal) := by
  pointwise [k0_pay35]
  rw [p32 h, p34 h, mul, tanh_mul, Rg.sqrt _ ((k j).m_arg _).le]; rfl
theorem p36 (t : Fin 2048) (j : Fin 128) : k0_pay36 (F := Ideal) B.r8 B.n B.z B.n0 (ix2 t j) = ((1 / 2 / (k j).m t.val : ℝ) : EReal) := by
  pointwise [k0_pay36]
  rw [pm h, whalf]; exact div _ _ ((k j).m_pos _).ne'
theorem pix (t : Fin 2048) (j : Fin 128) : B.ix (ix2 t j) = (((k j).i t.val * (k j).x t.val : ℝ) : EReal) := by
  pointwise [Block.ix, k0_pay37, k0_pay16]
  rw [p21 h, h.x, mul]
theorem p11 (t : Fin 2048) (j : Fin 128) : k0_pay11 (F := Ideal) B.y (ix2 t j) = ((gt ((k j).y t.val) : ℝ) : EReal) := by
  pointwise [k0_pay11, k0_pay10]
  simp only [h.y, wgk, wgs, mul, add, mul_left_comm]
  rw [Rg.tanh, gt]
  exact congrArg _ (by ring_nf)
theorem p12 (t : Fin 2048) (j : Fin 128) : k0_pay12 (F := Ideal) B.y (ix2 t j) = ((gh ((k j).y t.val) : ℝ) : EReal) := by
  pointwise [k0_pay12]
  rw [p11 h, one, whalf, add, mul]; rfl
theorem pd (t : Fin 2048) (j : Fin 128) : B.d (ix2 t j) = (((k j).dh t.val : ℝ) : EReal) := by
  pointwise [Block.d, k0_pay15, k0_pay9, k0_pay13, k0_pay10]
  rw [p12 h, h.y, h.ct, mul, mul]; rfl

theorem plam (t : Fin 2048) (j : Fin 128) : B.lam (ix2 t j) = (((k j).lam t.val : ℝ) : EReal) :=
  (congrFun (levels _ _) _).trans (v11 (fun j => (k j).a) (fun j => (k j).dh) (pa h) (pd h) (fun j n hn => by rw [Col.dh, h.last j n hn, zero_mul]) t j)

theorem pdy (t : Fin 2048) (j : Fin 128) : B.dy (ix2 t j) = (((k j).dy t.val : ℝ) : EReal) := by
  pointwise [Block.dy, k0_pay14, k0_pay8, k0_pay9, k0_pay10]
  rw [p11 h, p12 h, h.y, h.ct, h.h, whalf, wthree, wgk, wgs, one]
  simp only [mul, add, sub]
  exact congrArg _ (by rw [Col.dy, gd]; ring)

theorem pdla (t : Fin 2048) (j : Fin 128) : B.dla (ix2 t j) = (((k j).dla t.val : ℝ) : EReal) := by
  have hp : Scalar.select (IntOp.cmpi .sge (BitVec.ofNat 32 t.val) 1#32) (B.h (ix2 ⟨(t.val + 2048 - 1) % 2048, Nat.mod_lt _ (by norm_num)⟩ j)) (0 : EReal)
      = ((before (k j).h t.val : ℝ) : EReal) := by
    rw [h.h, show (1#32 : BitVec 32) = BitVec.ofNat 32 1 from rfl, cmpi_sge_ofNat (by omega) (by omega), before]
    by_cases h0 : t.val = 0
    · rw [if_pos h0, decide_eq_false (by omega)]; rfl
    · rw [if_neg h0, decide_eq_true (by omega)]
      exact congrArg (fun n => (((k j).h n : ℝ) : EReal)) (show (t.val + 2048 - 1) % 2048 = t.val - 1 by omega)
  pointwise [Block.dla, k0_pay63, k0_pay60, k0_pay61, k0_pay8]
  rw [p32 h, p33 h, p34 h, p31 h, p36 h, plam h, pix h, pa h, wtwo, h.z, hp, zero]
  simp only [mul, sub, add]
  refine congrArg _ ?_
  rw [dgate, Col.dla, add_comm]

theorem pdpr (t : Fin 2048) (j : Fin 128) : B.dpr (ix2 t j) = (((k j).dpr t.val : ℝ) : EReal) := by
  have e := pdla h; simp only [Block.dla] at e
  pointwise [Block.dpr, k0_pay68]
  rw [e, p20 h, psp h, weight, mul, mul, mul]; rfl

theorem pdpx (t : Fin 2048) (j : Fin 128) : B.dpx (ix2 t j) = (((k j).dpx t.val : ℝ) : EReal) := by
  pointwise [Block.dpx, k0_pay65, k0_pay62, k0_pay16]
  rw [pm h, plam h, p22 h, h.x, mul, mul, mul]; rfl

theorem pdx (t : Fin 2048) (j : Fin 128) : B.dx (ix2 t j) = (((k j).dx t.val + ((∑ i, (k i).dpx t.val * wx j i) + ∑ i, (k i).dpr t.val * wa j i) : ℝ) : EReal) := by
  have e := pdpx h; simp only [Block.dpx] at e
  have e' := pdpr h; simp only [Block.dpr] at e'
  pointwise [Block.dx, k0_pay71, k0_pay62, k0_pay17, k0_pay18]
  simp only [e, e', h.wa, h.wx, p21 h, pm h, plam h, mul, sum, add, zero_add, add_assoc]; rfl

theorem pdba (j : Fin 128) : B.dba (ix2 0 j) = ((∑ t : Fin 2048, (k j).dpr t.val : ℝ) : EReal) := by
  have e := pdpr h; simp only [Block.dpr] at e
  pointwise [Block.dba, k0_pay69]
  simp only [e, sum, zero_add]

theorem pdbx (j : Fin 128) : B.dbx (ix2 0 j) = ((∑ t : Fin 2048, (k j).dpx t.val : ℝ) : EReal) := by
  have e := pdpx h; simp only [Block.dpx] at e
  pointwise [Block.dbx, k0_pay66]
  simp only [e, sum, zero_add]

theorem pdl (j : Fin 128) : B.dl (ix2 0 j) = ((-((∑ t : Fin 2048, (k j).dl t.val) * spd (-(k j).l)) : ℝ) : EReal) := by
  have e := pdla h; simp only [Block.dla] at e
  pointwise [Block.dl, k0_pay64]
  simp only [e, pr8 h, psd h, mul, sum, zero_add]
  rw [zero, sub, zero_sub]; rfl

end

end Cert.RglruBwdIdeal.Rg

end
-- ==== Proof.RgRef.lean ====
/- The reference of the recurrence's gradient read over the reals: the gates, the sums with their decays, and the derivative
   of each line, as the columns of the specification. -/
module

public import proofs.«01_k».proof.Proof.RgSpec
public import proofs.«01_k».proof.Proof.Conv
public import Idealize.ShloMosaic.Lib.WordCmp
public import proofs.«01_k».proof.Proof.Gen.RglruBwdRefIdeal.Run
public import proofs.«01_k».proof.Proof.Gen.RglruBwdRefIdeal.Read
public import proofs.«01_k».proof.Proof.Gen.Pre_rglru_finite

@[expose] public section

set_option maxRecDepth 16384

noncomputable section

open Idealize.ShloMosaic Idealize.ShloMosaic.TcCoe Idealize.SL.Sem Idealize.ShloMosaic.WordCmp

namespace Cert.RglruBwdRefIdeal.Rg

open Cert.RglruBwdRefIdeal Cert.RglruBwdRefIdeal.Gen Cert.RglruBwdRefIdeal.Read Cert.Lift Cert.Rg Cert.Conv

def ten {n0 n1 n2 : Nat} (x : FVec Ideal ⟨3, ![n0, n1, n2]⟩ .f32) (i : Fin n0) (j : Fin n1) (k : Fin n2) : ℝ := EReal.toReal (x (ix3 i j k))
def row {n0 : Nat} (x : FVec Ideal ⟨1, ![n0]⟩ .f32) (i : Fin n0) : ℝ := EReal.toReal (x (ix1 i))

variable (x0 x1 : FVec Ideal S4x2048x512 .f32) (x2 : FVec Ideal S8x64x64 .f32) (x3 : FVec Ideal S512 .f32) (x4 : FVec Ideal S8x64x64 .f32)
  (x5 x6 : FVec Ideal S512 .f32) (x7 : FVec Ideal S4x2048x512 .f32)

/-- The arrays of the precondition are arrays of reals. -/
structure Reals : Prop where
  x : ∀ b t k, x0 (ix3 b t k) = ((ten x0 b t k : ℝ) : EReal)
  y : ∀ b t k, x1 (ix3 b t k) = ((ten x1 b t k : ℝ) : EReal)
  wa : ∀ g i j, x2 (ix3 g i j) = ((ten x2 g i j : ℝ) : EReal)
  ba : ∀ k, x3 (ix1 k) = ((row x3 k : ℝ) : EReal)
  wx : ∀ g i j, x4 (ix3 g i j) = ((ten x4 g i j : ℝ) : EReal)
  bx : ∀ k, x5 (ix1 k) = ((row x5 k : ℝ) : EReal)
  l : ∀ k, x6 (ix1 k) = ((row x6 k : ℝ) : EReal)
  ct : ∀ b t k, x7 (ix3 b t k) = ((ten x7 b t k : ℝ) : EReal)

/-- The column of a batch and a channel. -/
def cl (b : Fin 4) (c : Fin 512) : Col := col (ten x0) (ten x1) (ten x7) (ten x2) (ten x4) (row x3) (row x5) (row x6) b c

variable {x0 x1 x2 x3 x4 x5 x6 x7}

section
variable (h : Reals x0 x1 x2 x3 x4 x5 x6 x7)
include h

theorem hx (b : Fin 4) (t : Fin 2048) (c : Fin 512) : x0 (ix3 b t c) = (((cl x0 x1 x2 x3 x4 x5 x6 x7 b c).x t.val : ℝ) : EReal) := (h.x b t c).trans (congrArg _ (sq_val (fun t => ten x0 b t c) t).symm)
theorem hy (b : Fin 4) (t : Fin 2048) (c : Fin 512) : x1 (ix3 b t c) = (((cl x0 x1 x2 x3 x4 x5 x6 x7 b c).y t.val : ℝ) : EReal) := (h.y b t c).trans (congrArg _ (sq_val (fun t => ten x1 b t c) t).symm)
theorem hct (b : Fin 4) (t : Fin 2048) (c : Fin 512) : x7 (ix3 b t c) = (((cl x0 x1 x2 x3 x4 x5 x6 x7 b c).ct t.val : ℝ) : EReal) := (h.ct b t c).trans (congrArg _ (sq_val (fun t => ten x7 b t c) t).symm)

theorem w6 (b : Fin 4) (t : Fin 2048) (c : Fin 512) : val_main_v6 (F := Ideal) x0 x2 x3 (ix3 b t c) = (((cl x0 x1 x2 x3 x4 x5 x6 x7 b c).pr t.val : ℝ) : EReal) := by
  rw [show (cl x0 x1 x2 x3 x4 x5 x6 x7 b c).pr t.val = _ from sq_val _ t, pre]
  pointwise [val_main_v6, val_main_v5, val_main_v4, val_main_v3, val_main_v2, val_main_v1, val_main_v0]
  simp only [h.x, h.wa, h.ba, mul, sum, add]; rfl

theorem w21 (b : Fin 4) (t : Fin 2048) (c : Fin 512) : val_main_v21 (F := Ideal) x0 x4 x5 (ix3 b t c) = (((cl x0 x1 x2 x3 x4 x5 x6 x7 b c).px t.val : ℝ) : EReal) := by
  rw [show (cl x0 x1 x2 x3 x4 x5 x6 x7 b c).px t.val = _ from sq_val _ t, pre]
  pointwise [val_main_v21, val_main_v20, val_main_v19, val_main_v18, val_main_v17, val_main_v16, val_main_v0]
  simp only [h.x, h.wx, h.bx, mul, sum, add]; rfl

theorem w12 (b : Fin 4) (t : Fin 2048) (c : Fin 512) : val_main_v12 (F := Ideal) x0 x2 x3 (ix3 b t c) = (((cl x0 x1 x2 x3 x4 x5 x6 x7 b c).r t.val : ℝ) : EReal) := by
  pointwise [val_main_v12, val_main_v11, val_main_v10, val_main_v9, val_main_v8, val_main_v7, val_main_cst, val_main_cst_0]
  rw [w6 h]; exact Ideal.logistic_coe _

theorem w27 (b : Fin 4) (t : Fin 2048) (c : Fin 512) : val_main_v27 (F := Ideal) x0 x4 x5 (ix3 b t c) = (((cl x0 x1 x2 x3 x4 x5 x6 x7 b c).i t.val : ℝ) : EReal) := by
  pointwise [val_main_v27, val_main_v26, val_main_v25, val_main_v24, val_main_v23, val_main_v22, val_main_cst_2, val_main_cst_3]
  rw [w21 h]; exact Ideal.logistic_coe _

theorem w15 (b : Fin 4) (t : Fin 2048) (c : Fin 512) : val_main_v15 (F := Ideal) x0 x2 x3 (ix3 b t c) = (((cl x0 x1 x2 x3 x4 x5 x6 x7 b c).r t.val * (1 - (cl x0 x1 x2 x3 x4 x5 x6 x7 b c).r t.val) : ℝ) : EReal) := by
  pointwise [val_main_v15, val_main_v14, val_main_v13, val_main_cst_1]
  rw [w12 h, one, sub, mul]

theorem w30 (b : Fin 4) (t : Fin 2048) (c : Fin 512) : val_main_v30 (F := Ideal) x0 x4 x5 (ix3 b t c) = (((cl x0 x1 x2 x3 x4 x5 x6 x7 b c).i t.val * (1 - (cl x0 x1 x2 x3 x4 x5 x6 x7 b c).i t.val) : ℝ) : EReal) := by
  pointwise [val_main_v30, val_main_v29, val_main_v28, val_main_cst_4]
  rw [w27 h, one, sub, mul]

theorem w32 (b : Fin 4) (t : Fin 2048) (c : Fin 512) : val_main_v32 (F := Ideal) x0 x2 x3 (ix3 b t c) = ((-8 * (cl x0 x1 x2 x3 x4 x5 x6 x7 b c).r t.val : ℝ) : EReal) := by
  pointwise [val_main_v32, val_main_v31, val_main_cst_5]
  rw [w12 h, weight, mul]

theorem w33 (c : Fin 512) : val_main_v33 (F := Ideal) x6 (ix1 c) = ((-row x6 c : ℝ) : EReal) := by
  pointwise [val_main_v33]
  rw [h.l, neg]

theorem w34 (c : Fin 512) : val_main_v34_0 (F := Ideal) x6 (ix1 c) = ((spl (-row x6 c) : ℝ) : EReal) := by
  pointwise [val_main_v34_0, val_main_call0_v4, val_main_call0_v6, val_main_call0_v11, val_main_call0_v3, val_main_call0_v1, val_main_call0_v0, val_main_call0_v10, val_main_call0_v9, val_main_call0_v8, val_main_call0_v7, val_main_call0_v2, val_main_call0_cst]
  rw [w33 h, if_neg (not_not.2 rfl), show FloatOps.absf (F := Ideal) (φ := .f32) (((-row x6 c : ℝ) : EReal)) = max (((-row x6 c : ℝ) : EReal)) (-(((-row x6 c : ℝ) : EReal))) from rfl,
    zero, neg, max_coe, max_coe, neg, exp, log1p _ (Real.exp_pos _).le, add]; rfl

theorem w35 (c : Fin 512) : val_main_v34_1 (F := Ideal) x6 (ix1 c) = ((spd (-row x6 c) : ℝ) : EReal) := by
  pointwise [val_main_v34_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3]
  rw [w33 h, w34 h, winf, if_neg (EReal.coe_ne_top _), if_neg (EReal.coe_ne_top _), sub, exp]; rfl

theorem w37 (b : Fin 4) (t : Fin 2048) (c : Fin 512) : val_main_v37 (F := Ideal) x0 x2 x3 x6 (ix3 b t c) = (((cl x0 x1 x2 x3 x4 x5 x6 x7 b c).la t.val : ℝ) : EReal) := by
  pointwise [val_main_v37, val_main_v36, val_main_v35]
  rw [w32 h, w34 h, mul]; rfl

theorem w41 (b : Fin 4) (t : Fin 2048) (c : Fin 512) : val_main_v41 (F := Ideal) x0 x2 x3 x6 (ix3 b t c) = ((Real.exp (2 * (cl x0 x1 x2 x3 x4 x5 x6 x7 b c).la t.val) : ℝ) : EReal) := by
  pointwise [val_main_v41, val_main_v39, val_main_v38, val_main_cst_6]
  rw [w37 h, wtwo, mul]; rfl

theorem w43 (b : Fin 4) (t : Fin 2048) (c : Fin 512) : val_main_v43 (F := Ideal) x0 x2 x3 x6 (ix3 b t c) = (((cl x0 x1 x2 x3 x4 x5 x6 x7 b c).m t.val : ℝ) : EReal) := by
  pointwise [val_main_v43, val_main_v42, val_main_v40, val_main_v39, val_main_v38, val_main_cst_6]
  have hm := (cl x0 x1 x2 x3 x4 x5 x6 x7 b c).m_arg t.val
  rw [w37 h, wtwo, mul, exp, one, sub, neg, Rg.sqrt _ (by linarith), Col.m, neg_sub]

theorem w45 (b : Fin 4) (t : Fin 2048) (c : Fin 512) : val_main_v45 (F := Ideal) x0 x2 x3 x6 (ix3 b t c) = ((1 / 2 / (cl x0 x1 x2 x3 x4 x5 x6 x7 b c).m t.val : ℝ) : EReal) := by
  pointwise [val_main_v45, val_main_v44, val_main_cst_7]
  rw [w43 h, whalf]; exact div _ _ ((cl x0 x1 x2 x3 x4 x5 x6 x7 b c).m_pos _).ne'

theorem w46 (b : Fin 4) (t : Fin 2048) (c : Fin 512) : val_main_v46 (F := Ideal) x0 x4 x5 (ix3 b t c) = (((cl x0 x1 x2 x3 x4 x5 x6 x7 b c).i t.val * (cl x0 x1 x2 x3 x4 x5 x6 x7 b c).x t.val : ℝ) : EReal) := by
  pointwise [val_main_v46]
  rw [w27 h, hx h, mul]

theorem w47 (b : Fin 4) (t : Fin 2048) (c : Fin 512) : val_main_v47 (F := Ideal) x0 x2 x3 x4 x5 x6 (ix3 b t c) = (((cl x0 x1 x2 x3 x4 x5 x6 x7 b c).u t.val : ℝ) : EReal) := by
  pointwise [val_main_v47]
  rw [w46 h, w43 h, mul]; rfl

omit h in
theorem w53 (t s : Fin 2048) : val_main_v53 (F := Ideal) (ix2 t s) = BitVec.ofBool (decide (s.val ≤ t.val)) := by
  pointwise [val_main_v53, val_main_v52, val_main_v51, val_main_v50, val_main_v49, val_main_v48]
  exact cmpi_sge_ofNat (by omega) (by omega)

omit h in
/-- The mask over a sum, and over an element. -/
theorem masked (t s : Fin 2048) (a b : EReal) : Scalar.select (val_main_v53 (F := Ideal) (ix2 t s)) a b = if s.val ≤ t.val then a else b := by
  rw [w53]
  by_cases hd : s.val ≤ t.val
  · rw [decide_eq_true hd, if_pos hd]; rfl
  · rw [decide_eq_false hd, if_neg hd]; rfl

omit h in
theorem lift_if (p : Prop) [Decidable p] (a b : ℝ) : (if p then (a : EReal) else (b : EReal)) = ((if p then a else b : ℝ) : EReal) := by split <;> rfl

omit h in
theorem z0 : (id (constant (F := Ideal) S_ FTy.f32 0#32) ix0 : EReal) = ((0 : ℝ) : EReal) := Ideal.ofBits_zero_f32

theorem w57 (b : Fin 4) (t : Fin 2048) (c : Fin 512) : val_main_v57 (F := Ideal) x0 x2 x3 x6 (ix3 b t c) = ((lsum (cl x0 x1 x2 x3 x4 x5 x6 x7 b c).la t.val : ℝ) : EReal) := by
  pointwise [val_main_v57, val_main_v56_0, val_main_v56_1, val_main_call1_v2, val_main_call1_v3, val_main_call1_v0, val_main_v54, val_main_v55, val_main_cst_8, val_main_cst_9]
  simp only [masked, w37 h]
  change (∑ x : Fin 2048, (if x.val ≤ t.val then (((cl x0 x1 x2 x3 x4 x5 x6 x7 b c).la x.val : ℝ) : EReal) else Ideal.ofBits .f32 0#32)) = _
  rw [Ideal.ofBits_zero_f32]
  simp only [zero, lift_if, sum]
  rw [← lsum_masked _ t.isLt, ← Fin.sum_univ_eq_sum_range (fun k => if k ≤ t.val then (cl x0 x1 x2 x3 x4 x5 x6 x7 b c).la k else 0)]

theorem w64 (b : Fin 4) (t s : Fin 2048) (c : Fin 512) : val_main_v64 (F := Ideal) x0 x2 x3 x6 (ix4 b t s c) = ((Real.exp (if s.val ≤ t.val then lsum (cl x0 x1 x2 x3 x4 x5 x6 x7 b c).la t.val - lsum (cl x0 x1 x2 x3 x4 x5 x6 x7 b c).la s.val else 0) : ℝ) : EReal) := by
  pointwise [val_main_v64, val_main_v63_0, val_main_v63_1, val_main_call2_v2, val_main_call2_v0, val_main_v62, val_main_v61, val_main_v60, val_main_v59, val_main_v58, val_main_v54, val_main_cst_10]
  rw [masked, w57 h, w57 h, sub, z0, lift_if, exp]

theorem w65 (b : Fin 4) (t s : Fin 2048) (c : Fin 512) : val_main_v65_0 (F := Ideal) x0 x2 x3 x6 (ix4 b t s c) = ((dec (cl x0 x1 x2 x3 x4 x5 x6 x7 b c).la t.val s.val : ℝ) : EReal) := by
  pointwise [val_main_v65_0, val_main_v65_1, val_main_call3_v2, val_main_call3_v0, val_main_v54, val_main_cst_11]
  rw [masked, w64 h, z0, lift_if, dec]
  split <;> rfl

theorem w69 (b : Fin 4) (t : Fin 2048) (c : Fin 512) : val_main_v69 (F := Ideal) x0 x2 x3 x4 x5 x6 (ix3 b t c) = (((cl x0 x1 x2 x3 x4 x5 x6 x7 b c).h t.val : ℝ) : EReal) := by
  pointwise [val_main_v69, val_main_v68, val_main_v67, val_main_v66, val_main_cst_12]
  simp only [w65 h, w47 h, mul, sum]
  rw [Fin.sum_univ_eq_sum_range (fun s => dec (cl x0 x1 x2 x3 x4 x5 x6 x7 b c).la t.val s * (cl x0 x1 x2 x3 x4 x5 x6 x7 b c).u s), dec_hs _ _ _ t.isLt]; rfl

theorem w80 (b : Fin 4) (t : Fin 2048) (c : Fin 512) : val_main_v80 (F := Ideal) x1 (ix3 b t c) = ((gt ((cl x0 x1 x2 x3 x4 x5 x6 x7 b c).y t.val) : ℝ) : EReal) := by
  pointwise [val_main_v80, val_main_v79, val_main_v78, val_main_v77, val_main_v76, val_main_v75, val_main_v71, val_main_v70, val_main_cst_14, val_main_cst_15]
  simp only [hy h, wgk, wgs, mul, add]; rfl

theorem w89 (b : Fin 4) (t : Fin 2048) (c : Fin 512) : val_main_v89 (F := Ideal) x1 (ix3 b t c) = ((gh ((cl x0 x1 x2 x3 x4 x5 x6 x7 b c).y t.val) : ℝ) : EReal) := by
  pointwise [val_main_v89, val_main_v88, val_main_v87, val_main_v86, val_main_cst_18, val_main_cst_19]
  rw [w80 h, one, whalf, add, mul]; rfl

theorem w92 (b : Fin 4) (t : Fin 2048) (c : Fin 512) : val_main_v92 (F := Ideal) x0 x2 x3 x4 x5 x6 x7 (ix3 b t c) = (((cl x0 x1 x2 x3 x4 x5 x6 x7 b c).h t.val * (cl x0 x1 x2 x3 x4 x5 x6 x7 b c).ct t.val : ℝ) : EReal) := by
  pointwise [val_main_v92]
  rw [w69 h, hct h, mul]

theorem w93 (b : Fin 4) (t : Fin 2048) (c : Fin 512) : val_main_v93 (F := Ideal) x1 x7 (ix3 b t c) = (((cl x0 x1 x2 x3 x4 x5 x6 x7 b c).dh t.val : ℝ) : EReal) := by
  pointwise [val_main_v93, val_main_v90]
  rw [w89 h, hct h, hy h, mul, mul]; rfl

theorem w105 (b : Fin 4) (t : Fin 2048) (c : Fin 512) : val_main_v105 (F := Ideal) x0 x1 x2 x3 x4 x5 x6 x7 (ix3 b t c) = (((cl x0 x1 x2 x3 x4 x5 x6 x7 b c).dy t.val : ℝ) : EReal) := by
  pointwise [val_main_v105, val_main_v104, val_main_v103, val_main_v102, val_main_v101, val_main_v100, val_main_v99, val_main_v98, val_main_v97, val_main_v96, val_main_v95, val_main_v94, val_main_v85, val_main_v84, val_main_v83, val_main_v82, val_main_v81, val_main_v74, val_main_v73, val_main_v72, val_main_cst_13, val_main_cst_16, val_main_cst_17, val_main_cst_20, val_main_cst_21, val_main_cst_22]
  simp only [w92 h, w89 h, w80 h, hy h, wgk, wgs, whalf, wthree, one, mul, add, sub]; rfl

theorem w112 (b : Fin 4) (t : Fin 2048) (c : Fin 512) : val_main_v112 (F := Ideal) x0 x1 x2 x3 x6 x7 (ix3 b t c) = (((cl x0 x1 x2 x3 x4 x5 x6 x7 b c).lam t.val : ℝ) : EReal) := by
  pointwise [val_main_v112, val_main_v109, val_main_v108, val_main_v107, val_main_v106, val_main_cst_23, val_main_cst_24]
  simp only [Fin.sum_univ_one, w65 h, w93 h, mul, sum]
  rw [Fin.sum_univ_eq_sum_range (fun s => dec (cl x0 x1 x2 x3 x4 x5 x6 x7 b c).la s t.val * (cl x0 x1 x2 x3 x4 x5 x6 x7 b c).dh s), dec_adj _ _ _ t.isLt]; rfl

theorem w115 (b : Fin 4) (t s : Fin 2048) (c : Fin 512) : val_main_v115 (F := Ideal) x0 x1 x2 x3 x4 x5 x6 x7 (ix4 b t s c) = (((cl x0 x1 x2 x3 x4 x5 x6 x7 b c).dh t.val * (dec (cl x0 x1 x2 x3 x4 x5 x6 x7 b c).la t.val s.val * (cl x0 x1 x2 x3 x4 x5 x6 x7 b c).u s.val) : ℝ) : EReal) := by
  pointwise [val_main_v115, val_main_call5_v0, val_main_call5_cst, val_main_v114, val_main_v113, val_main_call4_v0, val_main_call4_cst, val_main_v65_1, val_main_v63_1, val_main_v54, val_main_v111, val_main_v110, val_main_v106, val_main_v66]
  rw [masked, masked, w93 h, w47 h, w64 h, mul, mul, zero, lift_if, lift_if, dec]
  split
  · exact congrArg _ (by ring)
  · simp

theorem w122 (b : Fin 4) (t : Fin 2048) (c : Fin 512) : val_main_v122 (F := Ideal) x0 x1 x2 x3 x4 x5 x6 x7 (ix3 b t c) = (((cl x0 x1 x2 x3 x4 x5 x6 x7 b c).dh t.val * (cl x0 x1 x2 x3 x4 x5 x6 x7 b c).h t.val : ℝ) : EReal) := by
  pointwise [val_main_v122, val_main_v117, val_main_v116, val_main_cst_25, val_main_cst_28]
  simp only [Fin.sum_univ_one, w115 h, sum]
  rw [← Finset.mul_sum, Fin.sum_univ_eq_sum_range (fun s => dec (cl x0 x1 x2 x3 x4 x5 x6 x7 b c).la t.val s * (cl x0 x1 x2 x3 x4 x5 x6 x7 b c).u s), dec_hs _ _ _ t.isLt]; rfl

theorem w121 (b : Fin 4) (t : Fin 2048) (c : Fin 512) : val_main_v121 (F := Ideal) x0 x1 x2 x3 x4 x5 x6 x7 (ix3 b t c) = ((-((cl x0 x1 x2 x3 x4 x5 x6 x7 b c).u t.val * (cl x0 x1 x2 x3 x4 x5 x6 x7 b c).lam t.val) : ℝ) : EReal) := by
  pointwise [val_main_v121, val_main_v120, val_main_v119, val_main_v118, val_main_cst_26, val_main_cst_27]
  simp only [Fin.sum_univ_one, w115 h, neg, sum]
  rw [Fin.sum_univ_eq_sum_range (fun s => -((cl x0 x1 x2 x3 x4 x5 x6 x7 b c).dh s * (dec (cl x0 x1 x2 x3 x4 x5 x6 x7 b c).la s t.val * (cl x0 x1 x2 x3 x4 x5 x6 x7 b c).u t.val))), Finset.sum_neg_distrib,
    Finset.sum_congr rfl fun s _ => (by ring : (cl x0 x1 x2 x3 x4 x5 x6 x7 b c).dh s * (dec (cl x0 x1 x2 x3 x4 x5 x6 x7 b c).la s t.val * (cl x0 x1 x2 x3 x4 x5 x6 x7 b c).u t.val) = (cl x0 x1 x2 x3 x4 x5 x6 x7 b c).u t.val * (dec (cl x0 x1 x2 x3 x4 x5 x6 x7 b c).la s t.val * (cl x0 x1 x2 x3 x4 x5 x6 x7 b c).dh s)),
    ← Finset.mul_sum, dec_adj _ _ _ t.isLt]; rfl

theorem w126 (b : Fin 4) (t : Fin 2048) (c : Fin 512) : val_main_v126 (F := Ideal) x0 x1 x2 x3 x4 x5 x6 x7 (ix3 b t c) = (((cl x0 x1 x2 x3 x4 x5 x6 x7 b c).lam t.val * before (cl x0 x1 x2 x3 x4 x5 x6 x7 b c).h t.val * (cl x0 x1 x2 x3 x4 x5 x6 x7 b c).a t.val : ℝ) : EReal) := by
  pointwise [val_main_v126, val_main_v125, val_main_v124, val_main_v123, val_main_v56_1, val_main_v54, val_main_call6_v2, val_main_call6_v1, val_main_call6_v0, val_main_call6_cst, val_main_call6_cst_0, val_main_cst_29]
  simp only [Fin.sum_univ_one, masked, w121 h, w122 h, add, zero, lift_if, sum]
  refine congrArg _ (Eq.trans ?_ (dlog_sum (cl x0 x1 x2 x3 x4 x5 x6 x7 b c).a (cl x0 x1 x2 x3 x4 x5 x6 x7 b c).u (cl x0 x1 x2 x3 x4 x5 x6 x7 b c).dh t.val t.isLt))
  rw [← Fin.sum_univ_eq_sum_range (fun s => if t.val ≤ s then (cl x0 x1 x2 x3 x4 x5 x6 x7 b c).dh s * hs (cl x0 x1 x2 x3 x4 x5 x6 x7 b c).a (cl x0 x1 x2 x3 x4 x5 x6 x7 b c).u s - (cl x0 x1 x2 x3 x4 x5 x6 x7 b c).u s * adj 2048 (cl x0 x1 x2 x3 x4 x5 x6 x7 b c).a (cl x0 x1 x2 x3 x4 x5 x6 x7 b c).dh s else 0)]
  refine Finset.sum_congr rfl fun s _ => ?_
  split
  · exact neg_add_eq_sub _ _
  · rfl

theorem w136 (b : Fin 4) (t : Fin 2048) (c : Fin 512) : val_main_v136 (F := Ideal) x0 x1 x2 x3 x4 x5 x6 x7 (ix3 b t c) = (((cl x0 x1 x2 x3 x4 x5 x6 x7 b c).dla t.val : ℝ) : EReal) := by
  pointwise [val_main_v136, val_main_v135, val_main_v134, val_main_v133, val_main_v132, val_main_v131, val_main_v128, val_main_cst_30]
  rw [w126 h, w112 h, w46 h, w45 h, w41 h, wtwo]
  simp only [mul, neg, add]; rfl

theorem w127 (b : Fin 4) (t : Fin 2048) (c : Fin 512) : val_main_v127 (F := Ideal) x0 x1 x2 x3 x6 x7 (ix3 b t c) = (((cl x0 x1 x2 x3 x4 x5 x6 x7 b c).m t.val * (cl x0 x1 x2 x3 x4 x5 x6 x7 b c).lam t.val : ℝ) : EReal) := by
  pointwise [val_main_v127]
  rw [w43 h, w112 h, mul]

theorem w147 (b : Fin 4) (t : Fin 2048) (c : Fin 512) : val_main_v147 (F := Ideal) x0 x1 x2 x3 x4 x5 x6 x7 (ix3 b t c) = (((cl x0 x1 x2 x3 x4 x5 x6 x7 b c).dpx t.val : ℝ) : EReal) := by
  pointwise [val_main_v147, val_main_v130]
  rw [w127 h, w30 h, hx h, mul, mul]; rfl

theorem w155 (b : Fin 4) (t : Fin 2048) (c : Fin 512) : val_main_v155 (F := Ideal) x0 x1 x2 x3 x4 x5 x6 x7 (ix3 b t c) = (((cl x0 x1 x2 x3 x4 x5 x6 x7 b c).dpr t.val : ℝ) : EReal) := by
  pointwise [val_main_v155, val_main_v146, val_main_v145, val_main_v141, val_main_v140, val_main_v35, val_main_cst_33]
  rw [w136 h, w15 h, w34 h, weight, mul, mul, mul]; rfl

theorem w165 (b : Fin 4) (t : Fin 2048) (c : Fin 512) : val_main_v165 (F := Ideal) x0 x1 x2 x3 x4 x5 x6 x7 (ix3 b t c)
    = ((DX (ten x0) (ten x1) (ten x7) (ten x2) (ten x4) (row x3) (row x5) (row x6) b t c : ℝ) : EReal) := by
  pointwise [val_main_v165, val_main_v164, val_main_v163, val_main_v162, val_main_v161, val_main_v160, val_main_v159, val_main_v154, val_main_v153, val_main_v152, val_main_v151, val_main_v129]
  simp only [w27 h, w127 h, w147 h, w155 h, h.wa, h.wx, mul, sum, add]; rfl

theorem d166 : val_main_v166 (F := Ideal) x0 x1 x2 x3 x4 x5 x6 x7 = rows (DX (ten x0) (ten x1) (ten x7) (ten x2) (ten x4) (row x3) (row x5) (row x6)) := by
  funext q; idx_vars q
  pointwise [val_main_v166]
  rw [w165 h]; rfl

theorem d167 : val_main_v167 (F := Ideal) x0 x1 x2 x3 x4 x5 x6 x7 = rows (DY (ten x0) (ten x1) (ten x7) (ten x2) (ten x4) (row x3) (row x5) (row x6)) := by
  funext q; idx_vars q
  pointwise [val_main_v167]
  rw [w105 h]; rfl

theorem d168 : val_main_v168 (F := Ideal) x0 x1 x2 x3 x4 x5 x6 x7 = DBA (ten x0) (ten x1) (ten x7) (ten x2) (ten x4) (row x3) (row x5) (row x6) := by
  funext q; idx_vars q
  pointwise [val_main_v168, val_main_v158, val_main_v157, val_main_v156, val_main_cst_36, val_main_cst_37]
  refine (sum_twice _ _ (fun _ => Ideal.ofBits_zero_f32) _ _ _ _ q1).trans ?_
  simp only [w155 h, sum]; rfl

theorem d169 : val_main_v169 (F := Ideal) x0 x1 x2 x3 x4 x5 x6 x7 = DBX (ten x0) (ten x1) (ten x7) (ten x2) (ten x4) (row x3) (row x5) (row x6) := by
  funext q; idx_vars q
  pointwise [val_main_v169, val_main_v150, val_main_v149, val_main_v148, val_main_cst_34, val_main_cst_35]
  refine (sum_twice _ _ (fun _ => Ideal.ofBits_zero_f32) _ _ _ _ q1).trans ?_
  simp only [w147 h, sum]; rfl

theorem d170 : val_main_v170 (F := Ideal) x0 x1 x2 x3 x4 x5 x6 x7 = DL (ten x0) (ten x1) (ten x7) (ten x2) (ten x4) (row x3) (row x5) (row x6) := by
  funext q; idx_vars q
  pointwise [val_main_v170, val_main_v144, val_main_v143, val_main_v142, val_main_v139, val_main_v138, val_main_v137, val_main_cst_31, val_main_cst_32]
  rw [w35 h]
  refine (congrArg (fun e : EReal => -(e * _)) (sum_twice _ _ (fun _ => Ideal.ofBits_zero_f32) _ _ _ _ q1)).trans ?_
  refine (congrArg (fun e : EReal => -(e * _)) (Finset.sum_congr rfl fun b _ => Finset.sum_congr rfl fun t _ =>
    show FloatOps.mulf (F := Ideal) (φ := .f32) (val_main_v32 (F := Ideal) x0 x2 x3 (ix3 b t q1)) (val_main_v136 (F := Ideal) x0 x1 x2 x3 x4 x5 x6 x7 (ix3 b t q1)) = (((cl x0 x1 x2 x3 x4 x5 x6 x7 b q1).dl t.val : ℝ) : EReal) from ?_)).trans ?_
  · rw [w32 h, w136 h]; exact mul _ _
  · simp only [sum, mul, neg]; rfl

end

end Cert.RglruBwdRefIdeal.Rg

end
-- ==== Proof.RgHost.lean ====
module

public import proofs.«01_k».proof.Proof.RgKernel
public import proofs.«01_k».proof.Proof.RgRef
public import Idealize.ShloMosaic.Lib.StableHlo.RunRead
public import Idealize.ShloMosaic.Lib.Routing.OpsSet
public import proofs.«01_k».proof.Proof.Gen.RglruBwdIdeal.Value

@[expose] public section

set_option maxRecDepth 16384

noncomputable section

open Idealize.ShloMosaic Idealize.ShloMosaic.TcCoe Idealize.SL.Sem Idealize.ShloMosaic.Routing

namespace Cert.RglruBwdIdeal.Rg

open Cert.RglruBwdIdeal Cert.RglruBwdIdeal.Gen Cert.Lift Cert.Rg

/-! ## The weights laid out as slabs of 128 columns -/

/-- Where an update lands, read off the three start words. -/
theorem land (k : S64x64.Idx) (idx : IVec S3 32) (a : Fin 4) (i j : Fin 128) :
    scatter_S4x128x128_S3_S64x64_01_0_012_0.resultIdx? k idx = some (ix3 a i j)
      ↔ (idx (ix1 0)).toInt = (a.val : ℤ) ∧ (idx (ix1 1)).toInt + ((k 0).val : ℤ) = (i.val : ℤ)
        ∧ (idx (ix1 2)).toInt + ((k 1).val : ℤ) = (j.val : ℤ) := by
  rw [resultIdx?_eq_some]
  have hs (b : Fin 3) : scatter_S4x128x128_S3_S64x64_01_0_012_0.start k idx b = (idx (ix1 b)).toInt := by
    unfold ScatterDims.start
    rw [dif_pos (by fin_cases b <;> decide)]
    refine congrArg (fun q => (idx q).toInt) (funext fun q => ?_)
    fin_cases q; fin_cases b <;> rfl
  have h0 : scatter_S4x128x128_S3_S64x64_01_0_012_0.window k (0 : Fin 3) = 0 := rfl
  have h1 : scatter_S4x128x128_S3_S64x64_01_0_012_0.window k (1 : Fin 3) = (k 0).val := rfl
  have h2 : scatter_S4x128x128_S3_S64x64_01_0_012_0.window k (2 : Fin 3) = (k 1).val := rfl
  constructor
  · intro h
    have e0 := h (0 : Fin 3); have e1 := h (1 : Fin 3); have e2 := h (2 : Fin 3)
    rw [hs, h0] at e0; rw [hs, h1] at e1; rw [hs, h2] at e2
    exact ⟨by simpa using e0, e1, e2⟩
  · rintro ⟨e0, e1, e2⟩ b
    rw [hs]
    fin_cases b
    · show _ + ((scatter_S4x128x128_S3_S64x64_01_0_012_0.window k (0 : Fin 3) : ℕ) : ℤ) = _
      rw [h0]; simpa using e0
    · exact e1
    · exact e2

/-- The first `k` blocks of `W` stand on the diagonals of the slabs, two to a slab; everything else is zero. -/
def Fil (W : ℕ → ℕ → ℕ → EReal) (k : ℕ) (x : S4x128x128.Idx → EReal) : Prop :=
  ∀ (a : Fin 4) (i j : Fin 128), x (ix3 a i j)
    = if i.val / 64 = j.val / 64 ∧ 2 * a.val + i.val / 64 < k then W (2 * a.val + i.val / 64) (i.val % 64) (j.val % 64) else 0

/-- Setting block `k` at its place takes the first `k` blocks to the first `k + 1`. -/
theorem Fil.step {W : ℕ → ℕ → ℕ → EReal} {k : ℕ} {x : S4x128x128.Idx → EReal} (idx : IVec S3 32) (u : S64x64.Idx → EReal)
    (h0 : (idx (ix1 0)).toInt = ((k / 2 : ℕ) : ℤ)) (h1 : (idx (ix1 1)).toInt = ((64 * (k % 2) : ℕ) : ℤ))
    (h2 : (idx (ix1 2)).toInt = ((64 * (k % 2) : ℕ) : ℤ)) (hu : ∀ p q : Fin 64, u (ix2 p q) = W k p.val q.val) (h : Fil W k x) :
    Fil W (k + 1) (Host.scatter scatter_S4x128x128_S3_S64x64_01_0_012_0 (fun _ b => b) x idx u) := by
  intro a i j
  by_cases e : 2 * a.val + i.val / 64 = k ∧ i.val / 64 = j.val / 64
  · rw [if_pos ⟨e.2, by omega⟩, e.1]
    refine scatter_set_hit _ _ _ _ _ _ (fun q hq => ?_) (ix2 ⟨i.val % 64, Nat.mod_lt _ (by omega)⟩ ⟨j.val % 64, Nat.mod_lt _ (by omega)⟩) ?_
    · obtain ⟨g0, g1, g2⟩ := (land q idx a i j).1 hq
      rw [h1] at g1; rw [h2] at g2
      have b0 := (q 0).isLt; have b1 := (q 1).isLt
      change (q 0).val < 64 at b0; change (q 1).val < 64 at b1
      have : q = ix2 (q 0) (q 1) := by funext b; fin_cases b <;> rfl
      rw [this]
      refine (hu (q 0) (q 1)).trans (congrArg₂ (W k) ?_ ?_) <;> omega
    · rw [land, h0, h1, h2]
      have := i.isLt
      exact ⟨by omega, by show _ + ((i.val % 64 : ℕ) : ℤ) = _; omega, by show _ + ((j.val % 64 : ℕ) : ℤ) = _; omega⟩
  · rw [scatter_set_miss _ _ _ _ _ fun q hq => ?_, h a i j]
    · refine if_congr ?_ rfl rfl
      constructor <;> rintro ⟨p, r⟩ <;> exact ⟨p, by omega⟩
    · obtain ⟨g0, g1, g2⟩ := (land q idx a i j).1 hq
      rw [h0] at g0; rw [h1] at g1; rw [h2] at g2
      have b0 := (q 0).isLt; have b1 := (q 1).isLt
      change (q 0).val < 64 at b0; change (q 1).val < 64 at b1
      have := i.isLt; have := j.isLt
      exact e (by omega)

/-- Three words laid end to end, read one by one. -/
theorem words (x y z : S1.Idx → BitVec 32) (b : Fin 3) :
    concatenate S3 0 [⟨S1, x⟩, ⟨S1, y⟩, ⟨S1, z⟩] concatenates_S1_S1_S1_S3_d0 (ix1 b) = ![x (ix1 0), y (ix1 0), z (ix1 0)] b := by
  fin_cases b
  · show concatenate S3 0 [⟨S1, x⟩, ⟨S1, y⟩, ⟨S1, z⟩] concatenates_S1_S1_S1_S3_d0 (ix1 0) = x (ix1 0); pointwise
  · show concatenate S3 0 [⟨S1, x⟩, ⟨S1, y⟩, ⟨S1, z⟩] concatenates_S1_S1_S1_S3_d0 (ix1 1) = y (ix1 0); pointwise
  · show concatenate S3 0 [⟨S1, x⟩, ⟨S1, y⟩, ⟨S1, z⟩] concatenates_S1_S1_S1_S3_d0 (ix1 2) = z (ix1 0); pointwise

/-- Nothing set yet. -/
theorem Fil.nil (W : ℕ → ℕ → ℕ → EReal) {x : S4x128x128.Idx → EReal} (hx : ∀ i, x i = 0) : Fil W 0 x := fun a i j => by
  rw [hx, if_neg (by omega)]

variable (m : (ℓ : Loc nD τ sig) → Buf (Elt Ideal) ℓ) (c : Dev nD)

/-- Block `k` of the recurrence's and of the input's gate weights, any `k`, `p`, `q` brought into range. -/
def blkOf (w : S8x64x64.Idx → EReal) (k p q : ℕ) : EReal := w (ix3 ⟨k % 8, by omega⟩ ⟨p % 64, by omega⟩ ⟨q % 64, by omega⟩)

/-- The region finds both weights laid out as slabs. -/
theorem slabs : Fil (blkOf (m ((c : Thread nD τ).loc main_arg2))) 8 (V m c main_v56)
    ∧ Fil (blkOf (m ((c : Thread nD τ).loc main_arg4))) 8 (V m c main_v113) := by
  constructor
  all_goals
    after_reads_simp
    refine .step _ _ ?_ ?_ ?_ ?_ <| .step _ _ ?_ ?_ ?_ ?_ <| .step _ _ ?_ ?_ ?_ ?_ <| .step _ _ ?_ ?_ ?_ ?_ <|
      .step _ _ ?_ ?_ ?_ ?_ <| .step _ _ ?_ ?_ ?_ ?_ <| .step _ _ ?_ ?_ ?_ ?_ <| .step _ _ ?_ ?_ ?_ ?_ <| .nil _ ?_
  any_goals first
    | (refine (congrArg BitVec.toInt (words _ _ _ _)).trans ?_
       dsimp only [Matrix.cons_val_zero, Matrix.cons_val_one, Matrix.cons_val]
       after_reads_simp
       rfl)
    | (intro p q; pointwise; blk_ext [blkOf])
    | exact fun i => Ideal.ofBits_zero_f32

/-! ## The states, by doubling -/

abbrev Arr := FVec Ideal S4x2048x512 .f32

/-- What the column held `2048 - k` places before, the value `z` before the start. -/
def shift (k : ℕ) (hk : S4x4096x512.Slices ![0, k, 0] S4x2048x512) (z x : Arr) : Arr :=
  extractStridedSlice S4x2048x512 ![0, k, 0] (concatenate S4x4096x512 1 [⟨S4x2048x512, z⟩, ⟨S4x2048x512, x⟩] concatenates_S4x2048x512_S4x2048x512_S4x4096x512_d1) hk

/-- One level: decays and sums of twice as many places. -/
def Doubles (k : ℕ) (hk : S4x4096x512.Slices ![0, k, 0] S4x2048x512) (z o a v a' v' : Arr) : Prop :=
  a' = mulf a (shift k hk o a) ∧ v' = addf v (mulf a (shift k hk z v))

/-- A claim on what the region finds follows if it holds after the last operations, whatever the ones before them left. -/
theorem after_cut (n : ℕ) (P : (∀ b : Ref sig .tc, Buf (Elt Ideal) ((c : Thread nD τ).loc b)) → Prop)
    (h : ∀ U : Idealize.ShloMosaic.Valuation τ sig (Elt Ideal), P fun b => StableHlo.after (hostOps0_2.drop n) U b) : P (fun b => V m c b) := by
  have e : (List.flatten [hostOps0, hostOps0_1, hostOps0_2] : List (HloOp τ sig (Elt Ideal))) = (hostOps0 ++ hostOps0_1 ++ hostOps0_2.take n) ++ hostOps0_2.drop n := by
    rw [List.append_assoc, List.take_append_drop]; simp only [List.flatten_cons, List.flatten_nil, List.append_nil, List.append_assoc]
  show P fun b => StableHlo.after (List.flatten [hostOps0, hostOps0_1, hostOps0_2]) (fun b => m (c, b)) b
  rw [e]
  simp only [StableHlo.after_append]
  exact h _

/-- One column's decays and inputs, last place first, with nothing past the start. -/
def alOf (k : Col) (n : ℕ) : ℝ := if n < 2048 then k.a (2047 - n) else 1
def vOf (k : Col) (n : ℕ) : ℝ := if n < 2048 then k.u (2047 - n) else 0

/-- The arrays hold, for every place, the decay over and the sum of the `d` places up to it. -/
def Sums (k : Fin 4 → Fin 512 → Col) (d : ℕ) (A X : Arr) : Prop := ∀ (b : Fin 4) (t : Fin 2048) (j : Fin 512),
  A (ix3 b t j) = ((prods (alOf (k b j)) d (2047 - t.val) : ℝ) : EReal) ∧ X (ix3 b t j) = ((part (alOf (k b j)) (vOf (k b j)) d (2047 - t.val) : ℝ) : EReal)

/-- What a column held before, read at one place. -/
theorem shift_at (k : ℕ) (hk : S4x4096x512.Slices ![0, k, 0] S4x2048x512) (z x : Arr) (b : Fin 4) (t : Fin 2048) (j : Fin 512) (h : k ≤ 2048) :
    shift k hk z x (ix3 b t j) = if e : 2048 ≤ k + t.val then x (ix3 b ⟨k + t.val - 2048, by omega⟩ j) else z (ix3 b ⟨(k + t.val) % 2048, by omega⟩ j) := by
  unfold shift
  pointwise
  by_cases e : k + t.val < 2048
  · rw [dif_pos e, dif_neg (by omega)]; exact congrArg (fun n => z (ix3 b n j)) (Fin.ext (Nat.mod_eq_of_lt e).symm)
  · rw [dif_neg e, dif_pos (by omega)]

/-- One level doubles the places summed. -/
theorem Sums.twice {κ : Fin 4 → Fin 512 → Col} {d k : ℕ} {hk : S4x4096x512.Slices ![0, k, 0] S4x2048x512} {z o A X A' X' : Arr} (h : Sums κ d A X)
    (hz : ∀ i, z i = 0) (ho : ∀ i, o i = 1) (hd : d + k = 2048) (hd0 : 0 < d) (q : Doubles k hk z o A X A' X') : Sums κ (d + d) A' X' := by
  intro b t j
  obtain ⟨qa, qx⟩ := q
  have sa : shift k hk o A (ix3 b t j) = ((prods (alOf (κ b j)) d (2047 - t.val + d) : ℝ) : EReal) := by
    rw [shift_at k hk o A b t j (by omega)]
    split
    · rw [(h b _ j).1]; exact congrArg (fun n => ((prods (alOf (κ b j)) d n : ℝ) : EReal)) (show 2047 - (k + t.val - 2048) = _ by omega)
    · rw [ho, prods_id (al := alOf (κ b j)) (N := 2048) (fun n hn => if_neg (by omega)) _ _ (by omega)]; rfl
  have sx : shift k hk z X (ix3 b t j) = ((part (alOf (κ b j)) (vOf (κ b j)) d (2047 - t.val + d) : ℝ) : EReal) := by
    rw [shift_at k hk z X b t j (by omega)]
    split
    · rw [(h b _ j).2]; exact congrArg (fun n => ((part (alOf (κ b j)) (vOf (κ b j)) d n : ℝ) : EReal)) (show 2047 - (k + t.val - 2048) = _ by omega)
    · rw [hz, part_zero (v := vOf (κ b j)) (N := 2048) (fun n hn => if_neg (by omega)) _ _ (by omega)]; rfl
  constructor
  · rw [qa]; pointwise; rw [sa, (h b t j).1, mul, ← prods_add]
  · rw [qx]; pointwise; rw [sx, (h b t j).1, (h b t j).2, mul, add, ← part_add]

theorem zeros (i : S4x2048x512.Idx) : @Eq EReal (V m c main_v154 i) 0 := by
  refine after_cut m c 12 (fun U => @Eq EReal (U main_v154 i) 0) fun U => ?_
  after_reads_simp
  exact Ideal.ofBits_zero_f32

theorem ones (i : S4x2048x512.Idx) : @Eq EReal (V m c main_v155 i) 1 := by
  refine after_cut m c 14 (fun U => @Eq EReal (U main_v155 i) 1) fun U => ?_
  after_reads_simp
  exact Ideal.ofBits_one_f32

/-- The gated inputs and the decays are what the reference's lines make of the arguments. -/
theorem gates : @Eq Arr (V m c main_v152) (Cert.RglruBwdRefIdeal.Read.val_main_v47 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)))
    ∧ @Eq Arr (V m c main_v153) (Host.exp (Cert.RglruBwdRefIdeal.Read.val_main_v37 (F := Ideal) (m ((c : Thread nD τ).loc main_arg0)) (m ((c : Thread nD τ).loc main_arg2)) (m ((c : Thread nD τ).loc main_arg3)) (m ((c : Thread nD τ).loc main_arg6)))) := by
  constructor
  all_goals
    after_reads_simp
    rfl

/-- Eleven levels sum all 2048 places. -/
theorem sums {κ : Fin 4 → Fin 512 → Col} (h : Sums κ 1 (V m c main_v153) (V m c main_v152)) :
    ∃ A, Sums κ 2048 A (V m c main_v229) := by
  have hz := zeros m c
  have ho := ones m c
  refine ⟨_, ((((((((((h.twice hz ho rfl (by omega)
    (after_cut m c 16 (fun U => Doubles 2047 slices_S4x4096x512_S4x2048x512_0_2047_0 (U main_v154) (U main_v155) (U main_v153) (U main_v152) (U main_v162) (U main_v159)) ?_)).twice hz ho rfl (by omega)
    (after_cut m c 23 (fun U => Doubles 2046 slices_S4x4096x512_S4x2048x512_0_2046_0 (U main_v154) (U main_v155) (U main_v162) (U main_v159) (U main_v169) (U main_v166)) ?_)).twice hz ho rfl (by omega)
    (after_cut m c 30 (fun U => Doubles 2044 slices_S4x4096x512_S4x2048x512_0_2044_0 (U main_v154) (U main_v155) (U main_v169) (U main_v166) (U main_v176) (U main_v173)) ?_)).twice hz ho rfl (by omega)
    (after_cut m c 37 (fun U => Doubles 2040 slices_S4x4096x512_S4x2048x512_0_2040_0 (U main_v154) (U main_v155) (U main_v176) (U main_v173) (U main_v183) (U main_v180)) ?_)).twice hz ho rfl (by omega)
    (after_cut m c 44 (fun U => Doubles 2032 slices_S4x4096x512_S4x2048x512_0_2032_0 (U main_v154) (U main_v155) (U main_v183) (U main_v180) (U main_v190) (U main_v187)) ?_)).twice hz ho rfl (by omega)
    (after_cut m c 51 (fun U => Doubles 2016 slices_S4x4096x512_S4x2048x512_0_2016_0 (U main_v154) (U main_v155) (U main_v190) (U main_v187) (U main_v197) (U main_v194)) ?_)).twice hz ho rfl (by omega)
    (after_cut m c 58 (fun U => Doubles 1984 slices_S4x4096x512_S4x2048x512_0_1984_0 (U main_v154) (U main_v155) (U main_v197) (U main_v194) (U main_v204) (U main_v201)) ?_)).twice hz ho rfl (by omega)
    (after_cut m c 65 (fun U => Doubles 1920 slices_S4x4096x512_S4x2048x512_0_1920_0 (U main_v154) (U main_v155) (U main_v204) (U main_v201) (U main_v211) (U main_v208)) ?_)).twice hz ho rfl (by omega)
    (after_cut m c 72 (fun U => Doubles 1792 slices_S4x4096x512_S4x2048x512_0_1792_0 (U main_v154) (U main_v155) (U main_v211) (U main_v208) (U main_v218) (U main_v215)) ?_)).twice hz ho rfl (by omega)
    (after_cut m c 79 (fun U => Doubles 1536 slices_S4x4096x512_S4x2048x512_0_1536_0 (U main_v154) (U main_v155) (U main_v218) (U main_v215) (U main_v225) (U main_v222)) ?_)).twice hz ho rfl (by omega)
    (after_cut m c 86 (fun U => Doubles 1024 slices_S4x4096x512_S4x2048x512_0_1024_0 (U main_v154) (U main_v155) (U main_v225) (U main_v222) (U main_v232) (U main_v229)) ?_)⟩
  all_goals
    intro U
    constructor
    all_goals
      after_reads_simp
      rfl

/-- The arguments, in order, and the column of the specification they give at each row and channel. -/
def Given : Prop := Cert.RglruBwdRefIdeal.Rg.Reals (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
def kol (b : Fin 4) (j : Fin 512) : Col := Cert.RglruBwdRefIdeal.Rg.cl (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) b j

variable {m c}

/-- The region finds the recurrence's states. -/
theorem states (h : Given m c) (b : Fin 4) (t : Fin 2048) (j : Fin 512) :
    @Eq EReal (V m c main_v229 (ix3 b t j)) (((kol m c b j).h t.val : ℝ) : EReal) := by
  obtain ⟨A, hs⟩ := sums m c (κ := kol m c) (by
    intro b t j
    rw [(gates m c).1, (gates m c).2]
    have e : 2047 - (2047 - t.val) = t.val := by omega
    constructor
    · rw [prods_one, alOf, if_pos (by omega), e]
      pointwise
      rw [Cert.RglruBwdRefIdeal.Rg.w37 h, exp]; rfl
    · rw [part_one, vOf, if_pos (by omega), e]
      exact Cert.RglruBwdRefIdeal.Rg.w47 h b t j)
  rw [(hs b t j).2]
  exact congrArg _ (part_hs (N := 2048) (by omega) (fun n hn => if_neg (by omega)) (fun n hn => if_pos hn) (fun n hn => if_pos hn) t.val t.isLt)

end Cert.RglruBwdIdeal.Rg
end
-- ==== Proof.RgValue.lean ====
/- What each grid point of the recurrence's gradient kernel is given, for finite arguments. -/
module

public import proofs.«01_k».proof.Proof.RgHost

@[expose] public section

set_option maxRecDepth 16384

noncomputable section

open Idealize.ShloMosaic Idealize.ShloMosaic.TcCoe Idealize.SL.Sem
open Idealize.ShloMosaic.Pipeline (Dat)

namespace Cert.RglruBwdIdeal.Rg

open Cert.RglruBwdIdeal Cert.RglruBwdIdeal.Gen Cert.Lift Cert.Rg
open Cert.RglruBwdRefIdeal.Rg (ten row)

variable (m : (ℓ : Loc nD τ sig) → Buf (Elt Ideal) ℓ) (c : Dev nD)

theorem idx : ∀ t : Fin cfg0.N, win0_0.index t = ![t.val % 4, t.val / 4] ∧ win0_1.index t = ![t.val % 4, t.val / 4] ∧ win0_2.index t = ![t.val % 4, t.val / 4]
    ∧ win0_3.index t = ![t.val % 4, t.val / 4] ∧ win0_4.index t = ![t.val / 4, 0, 0] ∧ win0_5.index t = ![t.val / 4, 0, 0] ∧ win0_6.index t = ![0, t.val / 4]
    ∧ win0_7.index t = ![0, t.val / 4] ∧ win0_8.index t = ![0, t.val / 4] ∧ win0_9.index t = ![t.val % 4, t.val / 4] ∧ win0_10.index t = ![t.val % 4, t.val / 4]
    ∧ win0_13.index t = ![0, t.val / 4] ∧ win0_14.index t = ![0, t.val / 4] ∧ win0_15.index t = ![0, t.val / 4] :=
  (by decide +kernel : ∀ t : Fin grid0.N, _)

/-- The batch and the slab of a grid point, and the channel at a place of the slab. -/
def bat (t : Fin cfg0.N) : Fin 4 := ⟨t.val % 4, by omega⟩
def slb (t : Fin cfg0.N) : Fin 4 := ⟨t.val / 4, by have := lt_of_lt_of_eq t.isLt N_0; omega⟩
def ch (t : Fin cfg0.N) (j : Fin 128) : Fin 512 := ⟨t.val / 4 * 128 + j.val, by have := lt_of_lt_of_eq t.isLt N_0; omega⟩
def at8 (b : Fin 4) (i : Fin 2048) : Fin 8192 := ⟨b.val * 2048 + i.val, by omega⟩

abbrev aX : FVec Ideal S4x2048x512 .f32 := m ((c : Thread nD τ).loc main_arg0)
abbrev aY : FVec Ideal S4x2048x512 .f32 := m ((c : Thread nD τ).loc main_arg1)
abbrev aWa : FVec Ideal S8x64x64 .f32 := m ((c : Thread nD τ).loc main_arg2)
abbrev aBa : FVec Ideal S512 .f32 := m ((c : Thread nD τ).loc main_arg3)
abbrev aWx : FVec Ideal S8x64x64 .f32 := m ((c : Thread nD τ).loc main_arg4)
abbrev aBx : FVec Ideal S512 .f32 := m ((c : Thread nD τ).loc main_arg5)
abbrev aL : FVec Ideal S512 .f32 := m ((c : Thread nD τ).loc main_arg6)
abbrev aC : FVec Ideal S4x2048x512 .f32 := m ((c : Thread nD τ).loc main_arg7)

/-! ## What a grid point is given -/

/-- Where a grid point's cells stand in the arrays it reads. -/
theorem emb0 (x : FVec Ideal S8192x512 .f32) (t : Fin cfg0.N) (i : Fin 2048) (j : Fin 128) :
    x ((win0_0.blk t).view.emb (ix2 i j)) = x (ix2 (at8 (bat t) i) (ch t j)) := by blk_ext [idx t, bat, at8, ch]
theorem emb1 (x : FVec Ideal S8192x512 .f32) (t : Fin cfg0.N) (i : Fin 2048) (j : Fin 128) :
    x ((win0_1.blk t).view.emb (ix2 i j)) = x (ix2 (at8 (bat t) i) (ch t j)) := by blk_ext [idx t, bat, at8, ch]
theorem emb2 (x : FVec Ideal S8192x512 .f32) (t : Fin cfg0.N) (i : Fin 2048) (j : Fin 128) :
    x ((win0_2.blk t).view.emb (ix2 i j)) = x (ix2 (at8 (bat t) i) (ch t j)) := by blk_ext [idx t, bat, at8, ch]
theorem emb3 (x : FVec Ideal S8192x512 .f32) (t : Fin cfg0.N) (i : Fin 2048) (j : Fin 128) :
    x ((win0_3.blk t).view.emb (ix2 i j)) = x (ix2 (at8 (bat t) i) (ch t j)) := by blk_ext [idx t, bat, at8, ch]
theorem emb4 (x : FVec Ideal S4x128x128 .f32) (t : Fin cfg0.N) (i j : Fin 128) :
    x ((win0_4.blk t).view.emb (ix3 0 i j)) = x (ix3 (slb t) i j) := by blk_ext [idx t, slb]
theorem emb5 (x : FVec Ideal S4x128x128 .f32) (t : Fin cfg0.N) (i j : Fin 128) :
    x ((win0_5.blk t).view.emb (ix3 0 i j)) = x (ix3 (slb t) i j) := by blk_ext [idx t, slb]
theorem emb6 (x : FVec Ideal S1x512 .f32) (t : Fin cfg0.N) (j : Fin 128) :
    x ((win0_6.blk t).view.emb (ix2 0 j)) = x (ix2 0 (ch t j)) := by blk_ext [idx t, ch]
theorem emb7 (x : FVec Ideal S1x512 .f32) (t : Fin cfg0.N) (j : Fin 128) :
    x ((win0_7.blk t).view.emb (ix2 0 j)) = x (ix2 0 (ch t j)) := by blk_ext [idx t, ch]
theorem emb8 (x : FVec Ideal S1x512 .f32) (t : Fin cfg0.N) (j : Fin 128) :
    x ((win0_8.blk t).view.emb (ix2 0 j)) = x (ix2 0 (ch t j)) := by blk_ext [idx t, ch]

/-- Batches and rows on one axis; and a bias as one row. -/
theorem flat (x : Arr) (b : Fin 4) (i : Fin 2048) (k : Fin 512) : shapeCast S8192x512 x shapeCasts_S4x2048x512_S8192x512 (ix2 (at8 b i) k) = x (ix3 b i k) := by
  pointwise
  blk_ext [at8]
theorem one_row (x : FVec Ideal S512 .f32) (k : Fin 512) : broadcastInDim S1x512 ![1] bcast_S512_S1x512_1 x (ix2 0 k) = x (ix1 k) := by
  pointwise

/-- The arrays the region finds. -/
theorem in0 : @Eq (FVec Ideal S8192x512 .f32) (V m c main_v233) (shapeCast S8192x512 (aX m c) shapeCasts_S4x2048x512_S8192x512) := by after_reads_simp; rfl
theorem in1 : @Eq (FVec Ideal S8192x512 .f32) (V m c main_v234) (shapeCast S8192x512 (aY m c) shapeCasts_S4x2048x512_S8192x512) := by after_reads_simp; rfl
theorem in3 : @Eq (FVec Ideal S8192x512 .f32) (V m c main_v236) (shapeCast S8192x512 (aC m c) shapeCasts_S4x2048x512_S8192x512) := by after_reads_simp; rfl
theorem in6 : @Eq (FVec Ideal S1x512 .f32) (V m c main_v237) (broadcastInDim S1x512 ![1] bcast_S512_S1x512_1 (aBa m c)) := by after_reads_simp
theorem in7 : @Eq (FVec Ideal S1x512 .f32) (V m c main_v238) (broadcastInDim S1x512 ![1] bcast_S512_S1x512_1 (aBx m c)) := by after_reads_simp
theorem in8 : @Eq (FVec Ideal S1x512 .f32) (V m c main_v239) (broadcastInDim S1x512 ![1] bcast_S512_S1x512_1 (aL m c)) := by after_reads_simp
theorem in2 : @Eq (FVec Ideal S8192x512 .f32) (V m c main_v235) (shapeCast S8192x512 (show Arr from V m c main_v229) shapeCasts_S4x2048x512_S8192x512) := by
  refine after_cut m c 93 (fun U => @Eq (FVec Ideal S8192x512 .f32) (U main_v235) (shapeCast S8192x512 (show Arr from U main_v229) shapeCasts_S4x2048x512_S8192x512)) fun U => ?_
  after_reads_simp
  rfl

/-- The grid point's block. -/
def B (t : Fin cfg0.N) : Block where
  x := iblk m c 0 t
  y := iblk m c 1 t
  h := iblk m c 2 t
  ct := iblk m c 3 t
  wa := iblk m c 4 t
  wx := iblk m c 5 t
  ba := iblk m c 6 t
  bx := iblk m c 7 t
  l := iblk m c 8 t
  z := FloatOps.ofBits FTy.f32 0#32

theorem blk0 (t : Fin cfg0.N) (i : Fin 2048) (j : Fin 128) :
    (B m c t).x (ix2 i j) = aX m c (ix3 (bat t) i (ch t j)) :=
  (emb0 (V m c main_v233) t i j).trans ((congrFun (in0 m c) _).trans (flat _ _ _ _))
theorem blk1 (t : Fin cfg0.N) (i : Fin 2048) (j : Fin 128) :
    (B m c t).y (ix2 i j) = aY m c (ix3 (bat t) i (ch t j)) :=
  (emb1 (V m c main_v234) t i j).trans ((congrFun (in1 m c) _).trans (flat _ _ _ _))
theorem blk3 (t : Fin cfg0.N) (i : Fin 2048) (j : Fin 128) :
    (B m c t).ct (ix2 i j) = aC m c (ix3 (bat t) i (ch t j)) :=
  (emb3 (V m c main_v236) t i j).trans ((congrFun (in3 m c) _).trans (flat _ _ _ _))
theorem blk6 (t : Fin cfg0.N) (j : Fin 128) :
    (B m c t).ba (ix2 0 j) = aBa m c (ix1 (ch t j)) :=
  (emb6 (V m c main_v237) t j).trans ((congrFun (in6 m c) _).trans (one_row _ _))
theorem blk7 (t : Fin cfg0.N) (j : Fin 128) :
    (B m c t).bx (ix2 0 j) = aBx m c (ix1 (ch t j)) :=
  (emb7 (V m c main_v238) t j).trans ((congrFun (in7 m c) _).trans (one_row _ _))
theorem blk8 (t : Fin cfg0.N) (j : Fin 128) :
    (B m c t).l (ix2 0 j) = aL m c (ix1 (ch t j)) :=
  (emb8 (V m c main_v239) t j).trans ((congrFun (in8 m c) _).trans (one_row _ _))
theorem blk2 (h : Given m c) (t : Fin cfg0.N) (i : Fin 2048) (j : Fin 128) :
    (B m c t).h (ix2 i j) = (((kol m c (bat t) (ch t j)).h i.val : ℝ) : EReal) :=
  (emb2 (V m c main_v235) t i j).trans ((congrFun (in2 m c) _).trans ((flat _ _ _ _).trans (states h _ _ _)))

/-- A slab's weights over the reals. -/
def wsl (w : FVec Ideal S8x64x64 .f32) (t : Fin cfg0.N) (i j : Fin 128) : ℝ :=
  if i.val / 64 = j.val / 64 then ten w (blk (ch t j)) ⟨i.val % 64, by omega⟩ (plc (ch t j)) else 0

theorem slab_at {w : FVec Ideal S8x64x64 .f32} (hw : ∀ g i j, w (ix3 g i j) = ((ten w g i j : ℝ) : EReal)) {x : S4x128x128.Idx → EReal} (h : Fil (blkOf w) 8 x)
    (t : Fin cfg0.N) (i j : Fin 128) : x (ix3 (slb t) i j) = ((wsl w t i j : ℝ) : EReal) := by
  rw [h, wsl]
  have := (slb t).isLt
  by_cases e : i.val / 64 = j.val / 64
  · rw [if_pos ⟨e, by omega⟩, if_pos e, ← hw, blkOf]
    blk_ext [slb, blk, plc, ch]
  · rw [if_neg fun q => e q.1, if_neg e]; exact zero

theorem slabs4 : Fil (blkOf (m ((c : Thread nD τ).loc main_arg2))) 8 (V m c main_v56) := And.left (slabs m c)
theorem at4 (h : Given m c) (t : Fin cfg0.N) (i j : Fin 128) : @Eq EReal (V m c main_v56 (ix3 (slb t) i j)) ((wsl (aWa m c) t i j : ℝ) : EReal) := by
  have e := slabs4 m c
  revert e
  generalize V m c main_v56 = x
  intro e
  exact slab_at (w := aWa m c) h.wa e t i j
theorem read4 (U : ∀ b : Ref sig .tc, Buf (Elt Ideal) ((c : Thread nD τ).loc b)) (t : Fin cfg0.N) (i j : Fin 128) :
    (((cfg0.win 4).blk t).view.read (Elt Ideal) (U (Pipeline.arrRef spec0 4))) (ix3 0 i j) = U main_v56 ((win0_4.blk t).view.emb (ix3 0 i j)) := rfl
theorem own4 (t : Fin cfg0.N) : (B m c t).wa = (iblk m c 4 t : FVec Ideal S1x128x128 .f32) := by dsimp only [B]
theorem of4 (t : Fin cfg0.N) (i j : Fin 128) : @Eq EReal ((B m c t).wa (ix3 0 i j)) (V m c main_v56 ((win0_4.blk t).view.emb (ix3 0 i j))) := by
  rw [own4]
  unfold iblk
  exact read4 c (V m c) t i j
theorem blk4 (h : Given m c) (t : Fin cfg0.N) (i j : Fin 128) :
    (B m c t).wa (ix3 0 i j) = ((wsl (aWa m c) t i j : ℝ) : EReal) := by
  rw [of4]
  have e := at4 m c h t i j
  revert e
  generalize V m c main_v56 = x
  intro e
  exact (emb4 x t i j).trans e

theorem slabs5 : Fil (blkOf (m ((c : Thread nD τ).loc main_arg4))) 8 (V m c main_v113) := And.right (slabs m c)
theorem at5 (h : Given m c) (t : Fin cfg0.N) (i j : Fin 128) : @Eq EReal (V m c main_v113 (ix3 (slb t) i j)) ((wsl (aWx m c) t i j : ℝ) : EReal) := by
  have e := slabs5 m c
  revert e
  generalize V m c main_v113 = x
  intro e
  exact slab_at (w := aWx m c) h.wx e t i j
theorem read5 (U : ∀ b : Ref sig .tc, Buf (Elt Ideal) ((c : Thread nD τ).loc b)) (t : Fin cfg0.N) (i j : Fin 128) :
    (((cfg0.win 5).blk t).view.read (Elt Ideal) (U (Pipeline.arrRef spec0 5))) (ix3 0 i j) = U main_v113 ((win0_5.blk t).view.emb (ix3 0 i j)) := rfl
theorem own5 (t : Fin cfg0.N) : (B m c t).wx = (iblk m c 5 t : FVec Ideal S1x128x128 .f32) := by dsimp only [B]
theorem of5 (t : Fin cfg0.N) (i j : Fin 128) : @Eq EReal ((B m c t).wx (ix3 0 i j)) (V m c main_v113 ((win0_5.blk t).view.emb (ix3 0 i j))) := by
  rw [own5]
  unfold iblk
  exact read5 c (V m c) t i j
theorem blk5 (h : Given m c) (t : Fin cfg0.N) (i j : Fin 128) :
    (B m c t).wx (ix3 0 i j) = ((wsl (aWx m c) t i j : ℝ) : EReal) := by
  rw [of5]
  have e := at5 m c h t i j
  revert e
  generalize V m c main_v113 = x
  intro e
  exact (emb5 x t i j).trans e

/-- A sum over a slab whose terms vanish outside one block. -/
theorem diag (f : Fin 128 → ℝ) (j : Fin 128) (w : Fin 64 → ℝ) :
    ∑ i : Fin 128, f i * (if i.val / 64 = j.val / 64 then w ⟨i.val % 64, by omega⟩ else 0) = ∑ i : Fin 64, f ⟨j.val / 64 * 64 + i.val, by omega⟩ * w i := by
  rw [Fin.sum_univ_tiles 2 64 rfl, Fin.sum_univ_two]
  have h0 (i : Fin 64) : (0 * 64 + i.val) / 64 = 0 := by omega
  have h1 (i : Fin 64) : (1 * 64 + i.val) / 64 = 1 := by omega
  have e0 (i : Fin 64) : (⟨(0 * 64 + i.val) % 64, by omega⟩ : Fin 64) = i := Fin.ext (by show (0 * 64 + i.val) % 64 = _; omega)
  have e1 (i : Fin 64) : (⟨(1 * 64 + i.val) % 64, by omega⟩ : Fin 64) = i := Fin.ext (by show (1 * 64 + i.val) % 64 = _; omega)
  rcases (by omega : j.val / 64 = 0 ∨ j.val / 64 = 1) with e | e
  · simp only [e, Fin.val_zero, Fin.val_one, h0, h1, e0, if_true, one_ne_zero, if_false, mul_zero, Finset.sum_const_zero, add_zero]
  · simp only [e, Fin.val_zero, Fin.val_one, h0, h1, e1, if_true, zero_ne_one, if_false, mul_zero, Finset.sum_const_zero, zero_add]

/-- A gate's argument from its slab. -/
theorem gate_arg (x : FVec Ideal S4x2048x512 .f32) (w : FVec Ideal S8x64x64 .f32) (B : Fin 512 → ℝ) (t : Fin cfg0.N) (i : Fin 2048) (j : Fin 128) :
    (∑ k : Fin 128, ten x (bat t) i (ch t k) * wsl w t k j) + B (ch t j) = pre (ten x) (ten w) B (bat t) (ch t j) i := by
  unfold wsl
  rw [diag (fun k => ten x (bat t) i (ch t k)) j fun k => ten w (blk (ch t j)) k (plc (ch t j)), pre]
  refine congrArg (· + _) (Finset.sum_congr rfl fun k _ => ?_)
  rw [mul_comm]
  refine congrArg (fun q => _ * ten x (bat t) i q) (Fin.ext ?_)
  show t.val / 4 * 128 + (j.val / 64 * 64 + k.val) = (t.val / 4 * 128 + j.val) / 64 * 64 + k.val
  omega

/-- The gradient sent back through a slab. -/
theorem gate_back (f : Fin 512 → ℝ) (w : FVec Ideal S8x64x64 .f32) (t : Fin cfg0.N) (j : Fin 128) :
    ∑ k : Fin 128, f (ch t k) * wsl w t j k = ∑ k : Fin 64, f (chn (blk (ch t j)) k) * ten w (blk (ch t j)) (plc (ch t j)) k := by
  have e (k : Fin 128) : wsl w t j k = if k.val / 64 = j.val / 64 then ten w (blk (ch t j)) (plc (ch t j)) ⟨k.val % 64, by omega⟩ else 0 := by
    unfold wsl
    by_cases q : j.val / 64 = k.val / 64
    · rw [if_pos q, if_pos q.symm]
      have a : blk (ch t k) = blk (ch t j) := Fin.ext (by show (t.val / 4 * 128 + k.val) / 64 = (t.val / 4 * 128 + j.val) / 64; omega)
      have b : plc (ch t k) = ⟨k.val % 64, by omega⟩ := Fin.ext (by show (t.val / 4 * 128 + k.val) % 64 = k.val % 64; omega)
      have d : (⟨j.val % 64, by omega⟩ : Fin 64) = plc (ch t j) := Fin.ext (by show j.val % 64 = (t.val / 4 * 128 + j.val) % 64; omega)
      rw [a, b, d]
    · rw [if_neg q, if_neg fun r => q r.symm]
  simp only [e]
  rw [diag (fun k => f (ch t k)) j fun k => ten w (blk (ch t j)) (plc (ch t j)) k]
  refine Finset.sum_congr rfl fun k _ => congrArg (fun q => f q * _) (Fin.ext ?_)
  show t.val / 4 * 128 + (j.val / 64 * 64 + k.val) = (t.val / 4 * 128 + j.val) / 64 * 64 + k.val
  omega

/-- A column's numbers are the arguments'. -/
theorem kol_x (b : Fin 4) (i : Fin 2048) (k : Fin 512) : ten (aX m c) b i k = (kol m c b k).x i.val := (sq_val (fun r => ten (aX m c) b r k) i).symm
theorem kol_y (b : Fin 4) (i : Fin 2048) (k : Fin 512) : ten (aY m c) b i k = (kol m c b k).y i.val := (sq_val (fun r => ten (aY m c) b r k) i).symm
theorem kol_ct (b : Fin 4) (i : Fin 2048) (k : Fin 512) : ten (aC m c) b i k = (kol m c b k).ct i.val := (sq_val (fun r => ten (aC m c) b r k) i).symm

section outs
variable (h : Given m c)
include h

omit h in
theorem pr_of (h : Given m c) (t : Fin cfg0.N) (i : Fin 2048) (j : Fin 128) (b : EReal) (hb : b = ((row (aBa m c) (ch t j) : ℝ) : EReal)) :
    (∑ k, (((kol m c (bat t) (ch t k)).x i.val : ℝ) : EReal) * ((wsl (aWa m c) t k j : ℝ) : EReal)) + b = (((kol m c (bat t) (ch t j)).pr i.val : ℝ) : EReal) := by
  simp only [hb, mul, sum, add]
  refine congrArg _ (Eq.trans ?_ (sq_val _ i).symm)
  exact Eq.trans (congrArg (· + _) (Finset.sum_congr rfl fun k _ => congrArg (· * _) (sq_val (fun r => ten (aX m c) (bat t) r (ch t k)) i))) (gate_arg (aX m c) (aWa m c) (row (aBa m c)) t i j)

omit h in
theorem px_of (h : Given m c) (t : Fin cfg0.N) (i : Fin 2048) (j : Fin 128) (b : EReal) (hb : b = ((row (aBx m c) (ch t j) : ℝ) : EReal)) :
    (∑ k, (((kol m c (bat t) (ch t k)).x i.val : ℝ) : EReal) * ((wsl (aWx m c) t k j : ℝ) : EReal)) + b = (((kol m c (bat t) (ch t j)).px i.val : ℝ) : EReal) := by
  simp only [hb, mul, sum, add]
  refine congrArg _ (Eq.trans ?_ (sq_val _ i).symm)
  exact Eq.trans (congrArg (· + _) (Finset.sum_congr rfl fun k _ => congrArg (· * _) (sq_val (fun r => ten (aX m c) (bat t) r (ch t k)) i))) (gate_arg (aX m c) (aWx m c) (row (aBx m c)) t i j)

theorem holds (t : Fin cfg0.N) : Holds (B m c t) (fun j => kol m c (bat t) (ch t j)) (wsl (aWa m c) t) (wsl (aWx m c) t) where
  x i j := (blk0 m c t i j).trans ((h.x _ _ _).trans (congrArg _ (kol_x m c _ _ _)))
  y i j := (blk1 m c t i j).trans ((h.y _ _ _).trans (congrArg _ (kol_y m c _ _ _)))
  h i j := blk2 m c h t i j
  ct i j := (blk3 m c t i j).trans ((h.ct _ _ _).trans (congrArg _ (kol_ct m c _ _ _)))
  last j n hn := sq_end (fun r => ten (aC m c) (bat t) r (ch t j)) n hn
  wa i j := blk4 m c h t i j
  wx i j := blk5 m c h t i j
  z := Ideal.ofBits_zero_f32
  l j := (blk8 m c t j).trans (h.l _)
  pr i j := pr_of m c h t i j _ ((blk6 m c t j).trans (h.ba _))
  px i j := px_of m c h t i j _ ((blk7 m c t j).trans (h.bx _))

end outs

end Cert.RglruBwdIdeal.Rg
end
-- ==== Proof.RgOuts.lean ====
/- What the grid points leave, put together. -/
module

public import proofs.«01_k».proof.Proof.RgValue

@[expose] public section

set_option maxRecDepth 16384

noncomputable section

open Idealize.ShloMosaic Idealize.ShloMosaic.TcCoe Idealize.SL.Sem
open Idealize.ShloMosaic.Pipeline (Dat)

namespace Cert.RglruBwdIdeal.Rg

open Cert.RglruBwdIdeal Cert.RglruBwdIdeal.Gen Cert.Lift Cert.Rg
open Cert.RglruBwdRefIdeal.Rg (ten row)

variable (m : (ℓ : Loc nD τ sig) → Buf (Elt Ideal) ℓ) (c : Dev nD)

section outs
variable (h : Given m c)
include h

/-! ## What a grid point leaves -/

omit h in
theorem own9 (t : Fin cfg0.N) : (outsAt0 m c t.val t.isLt).1 = (B m c t).dx := by
  by_cases h0 : t.val % 4 = 0
  · rw [outsAt0_A m c t h0 (by have := lt_of_lt_of_eq t.isLt N_0; omega)]; frame_out; dsimp only [Block.dx, Block.dy, Block.dba, Block.dbx, Block.dl, Block.n, Block.n0, Block.r8, Block.d, Block.lam, Block.sp, Block.ix, Block.dla, Block.dpr, Block.dpx, B]
  · rw [outsAt0_B m c t h0 (by omega)]; frame_out; dsimp only [Block.dx, Block.dy, Block.dba, Block.dbx, Block.dl, Block.n, Block.n0, Block.r8, Block.d, Block.lam, Block.sp, Block.ix, Block.dla, Block.dpr, Block.dpx, B]
omit h in
theorem own10 (t : Fin cfg0.N) : (outsAt0 m c t.val t.isLt).2.1 = (B m c t).dy := by
  by_cases h0 : t.val % 4 = 0
  · rw [outsAt0_A m c t h0 (by have := lt_of_lt_of_eq t.isLt N_0; omega)]; frame_out; dsimp only [Block.dx, Block.dy, Block.dba, Block.dbx, Block.dl, Block.n, Block.n0, Block.r8, Block.d, Block.lam, Block.sp, Block.ix, Block.dla, Block.dpr, Block.dpx, B]
  · rw [outsAt0_B m c t h0 (by omega)]; frame_out; dsimp only [Block.dx, Block.dy, Block.dba, Block.dbx, Block.dl, Block.n, Block.n0, Block.r8, Block.d, Block.lam, Block.sp, Block.ix, Block.dla, Block.dpr, Block.dpx, B]
omit h in
theorem start13 (t : Fin cfg0.N) (h0 : t.val % 4 = 0) : (outsAt0 m c t.val t.isLt).2.2.2.2.1 = (B m c t).dba := by
  rw [outsAt0_A m c t h0 (by have := lt_of_lt_of_eq t.isLt N_0; omega)]; frame_out; dsimp only [Block.dx, Block.dy, Block.dba, Block.dbx, Block.dl, Block.n, Block.n0, Block.r8, Block.d, Block.lam, Block.sp, Block.ix, Block.dla, Block.dpr, Block.dpx, B]
omit h in
theorem next13 (t : Fin cfg0.N) (h0 : ¬ t.val % 4 = 0) : (outsAt0 m c t.val t.isLt).2.2.2.2.1 = k0_pay5 (F := Ideal) (B m c t).dba (outsAt0 m c (t.val - 1) (Nat.lt_of_le_of_lt (Nat.sub_le _ _) t.isLt)).2.2.2.2.1 := by
  rw [outsAt0_B m c t h0 (by omega)]; frame_out; dsimp only [Block.dx, Block.dy, Block.dba, Block.dbx, Block.dl, Block.n, Block.n0, Block.r8, Block.d, Block.lam, Block.sp, Block.ix, Block.dla, Block.dpr, Block.dpx, B]
omit h in
theorem start14 (t : Fin cfg0.N) (h0 : t.val % 4 = 0) : (outsAt0 m c t.val t.isLt).2.2.2.2.2.1 = (B m c t).dbx := by
  rw [outsAt0_A m c t h0 (by have := lt_of_lt_of_eq t.isLt N_0; omega)]; frame_out; dsimp only [Block.dx, Block.dy, Block.dba, Block.dbx, Block.dl, Block.n, Block.n0, Block.r8, Block.d, Block.lam, Block.sp, Block.ix, Block.dla, Block.dpr, Block.dpx, B]
omit h in
theorem next14 (t : Fin cfg0.N) (h0 : ¬ t.val % 4 = 0) : (outsAt0 m c t.val t.isLt).2.2.2.2.2.1 = k0_pay6 (F := Ideal) (B m c t).dbx (outsAt0 m c (t.val - 1) (Nat.lt_of_le_of_lt (Nat.sub_le _ _) t.isLt)).2.2.2.2.2.1 := by
  rw [outsAt0_B m c t h0 (by omega)]; frame_out; dsimp only [Block.dx, Block.dy, Block.dba, Block.dbx, Block.dl, Block.n, Block.n0, Block.r8, Block.d, Block.lam, Block.sp, Block.ix, Block.dla, Block.dpr, Block.dpx, B]
omit h in
theorem start15 (t : Fin cfg0.N) (h0 : t.val % 4 = 0) : (outsAt0 m c t.val t.isLt).2.2.2.2.2.2 = (B m c t).dl := by
  rw [outsAt0_A m c t h0 (by have := lt_of_lt_of_eq t.isLt N_0; omega)]; frame_out; dsimp only [Block.dx, Block.dy, Block.dba, Block.dbx, Block.dl, Block.n, Block.n0, Block.r8, Block.d, Block.lam, Block.sp, Block.ix, Block.dla, Block.dpr, Block.dpx, B]
omit h in
theorem next15 (t : Fin cfg0.N) (h0 : ¬ t.val % 4 = 0) : (outsAt0 m c t.val t.isLt).2.2.2.2.2.2 = k0_pay7 (F := Ideal) (B m c t).dl (outsAt0 m c (t.val - 1) (Nat.lt_of_le_of_lt (Nat.sub_le _ _) t.isLt)).2.2.2.2.2.2 := by
  rw [outsAt0_B m c t h0 (by omega)]; frame_out; dsimp only [Block.dx, Block.dy, Block.dba, Block.dbx, Block.dl, Block.n, Block.n0, Block.r8, Block.d, Block.lam, Block.sp, Block.ix, Block.dla, Block.dpr, Block.dpx, B]

theorem out9 (t : Fin cfg0.N) (i : Fin 2048) (j : Fin 128) : (outsAt0 m c t.val t.isLt).1 (ix2 i j) = ((DX (ten (aX m c)) (ten (aY m c)) (ten (aC m c)) (ten (aWa m c)) (ten (aWx m c)) (row (aBa m c)) (row (aBx m c)) (row (aL m c)) (bat t) i (ch t j) : ℝ) : EReal) := by
  rw [own9]
  refine (pdx (holds m c h t) i j).trans ?_
  rw [gate_back (fun k => (kol m c (bat t) k).dpx i.val) (aWx m c) t j, gate_back (fun k => (kol m c (bat t) k).dpr i.val) (aWa m c) t j]; rfl

theorem out10 (t : Fin cfg0.N) (i : Fin 2048) (j : Fin 128) : (outsAt0 m c t.val t.isLt).2.1 (ix2 i j) = ((DY (ten (aX m c)) (ten (aY m c)) (ten (aC m c)) (ten (aWa m c)) (ten (aWx m c)) (row (aBa m c)) (row (aBx m c)) (row (aL m c)) (bat t) i (ch t j) : ℝ) : EReal) := by
  rw [own10]
  exact pdy (holds m c h t) i j

omit h in
theorem rows_at (f : Fin 4 → Fin 2048 → Fin 512 → ℝ) (b : Fin 4) (i : Fin 2048) (k : Fin 512) : rows f (ix2 (at8 b i) k) = ((f b i k : ℝ) : EReal) := by
  unfold rows
  refine congrArg (fun q : ℝ => (q : EReal)) ?_
  have e0 : (⟨(at8 b i).val / 2048, by have := (at8 b i).isLt; omega⟩ : Fin 4) = b := Fin.ext (by show (b.val * 2048 + i.val) / 2048 = _; omega)
  have e1 : (⟨(at8 b i).val % 2048, by omega⟩ : Fin 2048) = i := Fin.ext (by show (b.val * 2048 + i.val) % 2048 = _; omega)
  exact congr (congrArg₂ f e0 e1) rfl

theorem final9 : (dats m 0 c).arrAt 9 cfg0.N = rows (DX (ten (aX m c)) (ten (aY m c)) (ten (aC m c)) (ten (aWa m c)) (ten (aWx m c)) (row (aBa m c)) (row (aBx m c)) (row (aL m c))) := by
  refine (dats m 0 c).arrAt_eq_of_covers 9 _ (by decide +kernel) fun t _ y => ?_
  have e : ((cfg0.win 9).blk t).view.emb y = (ix2 (at8 (bat t) (y 0)) (ch t (y 1)) : S8192x512.Idx) := by blk_ext [at8, bat, ch, idx t]
  rw [e]
  blk_simp
  rw [after0_9]
  exact (congrArg _ (eq_ix2 y)).trans ((out9 m c h t (y 0) (y 1)).trans (rows_at _ _ _ _).symm)

theorem final10 : (dats m 0 c).arrAt 10 cfg0.N = rows (DY (ten (aX m c)) (ten (aY m c)) (ten (aC m c)) (ten (aWa m c)) (ten (aWx m c)) (row (aBa m c)) (row (aBx m c)) (row (aL m c))) := by
  refine (dats m 0 c).arrAt_eq_of_covers 10 _ (by decide +kernel) fun t _ y => ?_
  have e : ((cfg0.win 10).blk t).view.emb y = (ix2 (at8 (bat t) (y 0)) (ch t (y 1)) : S8192x512.Idx) := by blk_ext [at8, bat, ch, idx t]
  rw [e]
  blk_simp
  rw [after0_10]
  exact (congrArg _ (eq_ix2 y)).trans ((out10 m c h t (y 0) (y 1)).trans (rows_at _ _ _ _).symm)

omit h in
theorem add5 (a b : FVec Ideal S1x128 .f32) (j : S1x128.Idx) : k0_pay5 (F := Ideal) a b j = b j + a j := by pointwise [k0_pay5]
omit h in
theorem add6 (a b : FVec Ideal S1x128 .f32) (j : S1x128.Idx) : k0_pay6 (F := Ideal) a b j = b j + a j := by pointwise [k0_pay6]
omit h in
theorem add7 (a b : FVec Ideal S1x128 .f32) (j : S1x128.Idx) : k0_pay7 (F := Ideal) a b j = b j + a j := by pointwise [k0_pay7]

omit h in
/-- A slab's four points add up over the batches. -/
theorem over (t : Fin cfg0.N) (f : Fin 4 → Fin 512 → ℝ) (j : Fin 128) (q : ∀ s : Fin 4, 4 * (t.val / 4) + s.val < cfg0.N) :
    (∑ s : Fin 4, ((f (bat ⟨4 * (t.val / 4) + s.val, q s⟩) (ch ⟨4 * (t.val / 4) + s.val, q s⟩ j) : ℝ) : EReal)) = ((∑ b : Fin 4, f b (ch t j) : ℝ) : EReal) := by
  rw [← sum]
  refine Finset.sum_congr rfl fun s _ => congrArg (fun r : ℝ => (r : EReal)) (congrArg₂ f (Fin.ext ?_) (Fin.ext ?_))
  · show (4 * (t.val / 4) + s.val) % 4 = s.val; omega
  · show (4 * (t.val / 4) + s.val) / 4 * 128 + j.val = t.val / 4 * 128 + j.val; omega

theorem final13 : (dats m 0 c).arrAt 13 cfg0.N = DBA (ten (aX m c)) (ten (aY m c)) (ten (aC m c)) (ten (aWa m c)) (ten (aWx m c)) (row (aBa m c)) (row (aBx m c)) (row (aL m c)) := by
  refine (dats m 0 c).arrAt_eq_of_covers 13 _ (by decide +kernel) fun t hf y => ?_
  have e : ((cfg0.win 13).blk t).view.emb y = (ix2 0 (ch t (y 1)) : S1x512.Idx) := by blk_ext [ch, idx t]
  have hl := (flush0_13 t).mp hf
  rw [e]
  blk_simp
  rw [after0_13, Pipeline.eq_sum_fin_of_reset_step_apply_of_flush (fun n h => (outsAt0 m c n h).2.2.2.2.1) 4 (fun _ => 0)
    (fun p j => (((fun (b : Fin 4) (k : Fin 512) => ∑ i : Fin 2048, (kol m c b k).dpr i.val) (bat p) (ch p (j 1)) : ℝ) : EReal))
    (fun t h0 j => by
      idx_vars j; rw [Subsingleton.elim j0 0, zero_add, start13 m c t h0]
      exact pdba (holds m c h t) j1)
    (fun t h0 j => by
      idx_vars j; rw [Subsingleton.elim j0 0, next13 m c t h0]
      exact (add5 _ _ _).trans (congrArg _ (pdba (holds m c h t) j1)))
    t hl y, zero_add, over t (fun (b : Fin 4) (k : Fin 512) => ∑ i : Fin 2048, (kol m c b k).dpr i.val) (y 1)]
  exact congrArg (fun r : ℝ => (r : EReal)) (rfl)

theorem final14 : (dats m 0 c).arrAt 14 cfg0.N = DBX (ten (aX m c)) (ten (aY m c)) (ten (aC m c)) (ten (aWa m c)) (ten (aWx m c)) (row (aBa m c)) (row (aBx m c)) (row (aL m c)) := by
  refine (dats m 0 c).arrAt_eq_of_covers 14 _ (by decide +kernel) fun t hf y => ?_
  have e : ((cfg0.win 14).blk t).view.emb y = (ix2 0 (ch t (y 1)) : S1x512.Idx) := by blk_ext [ch, idx t]
  have hl := (flush0_14 t).mp hf
  rw [e]
  blk_simp
  rw [after0_14, Pipeline.eq_sum_fin_of_reset_step_apply_of_flush (fun n h => (outsAt0 m c n h).2.2.2.2.2.1) 4 (fun _ => 0)
    (fun p j => (((fun (b : Fin 4) (k : Fin 512) => ∑ i : Fin 2048, (kol m c b k).dpx i.val) (bat p) (ch p (j 1)) : ℝ) : EReal))
    (fun t h0 j => by
      idx_vars j; rw [Subsingleton.elim j0 0, zero_add, start14 m c t h0]
      exact pdbx (holds m c h t) j1)
    (fun t h0 j => by
      idx_vars j; rw [Subsingleton.elim j0 0, next14 m c t h0]
      exact (add6 _ _ _).trans (congrArg _ (pdbx (holds m c h t) j1)))
    t hl y, zero_add, over t (fun (b : Fin 4) (k : Fin 512) => ∑ i : Fin 2048, (kol m c b k).dpx i.val) (y 1)]
  exact congrArg (fun r : ℝ => (r : EReal)) (rfl)

theorem final15 : (dats m 0 c).arrAt 15 cfg0.N = DL (ten (aX m c)) (ten (aY m c)) (ten (aC m c)) (ten (aWa m c)) (ten (aWx m c)) (row (aBa m c)) (row (aBx m c)) (row (aL m c)) := by
  refine (dats m 0 c).arrAt_eq_of_covers 15 _ (by decide +kernel) fun t hf y => ?_
  have e : ((cfg0.win 15).blk t).view.emb y = (ix2 0 (ch t (y 1)) : S1x512.Idx) := by blk_ext [ch, idx t]
  have hl := (flush0_15 t).mp hf
  rw [e]
  blk_simp
  rw [after0_15, Pipeline.eq_sum_fin_of_reset_step_apply_of_flush (fun n h => (outsAt0 m c n h).2.2.2.2.2.2) 4 (fun _ => 0)
    (fun p j => (((fun (b : Fin 4) (k : Fin 512) => -((∑ i : Fin 2048, (kol m c b k).dl i.val) * spd (-(kol m c b k).l))) (bat p) (ch p (j 1)) : ℝ) : EReal))
    (fun t h0 j => by
      idx_vars j; rw [Subsingleton.elim j0 0, zero_add, start15 m c t h0]
      exact pdl (holds m c h t) j1)
    (fun t h0 j => by
      idx_vars j; rw [Subsingleton.elim j0 0, next15 m c t h0]
      exact (add7 _ _ _).trans (congrArg _ (pdl (holds m c h t) j1)))
    t hl y, zero_add, over t (fun (b : Fin 4) (k : Fin 512) => -((∑ i : Fin 2048, (kol m c b k).dl i.val) * spd (-(kol m c b k).l))) (y 1)]
  exact congrArg (fun r : ℝ => (r : EReal)) (by rw [Finset.sum_neg_distrib, Finset.sum_mul]; rfl)

end outs

end Cert.RglruBwdIdeal.Rg
end
-- ==== Proof.RgRuns.lean ====
/- The runs of the recurrence's gradient kernel and of its reference, for finite arguments: both end with the same five
   arrays. -/
module

public import proofs.«01_k».proof.Proof.RgOuts

@[expose] public section

set_option maxRecDepth 16384

noncomputable section

open Idealize.ShloMosaic Idealize.ShloMosaic.TcCoe Idealize.SL.Sem

namespace Cert.RglruBwdRefIdeal.Rg

open Cert.RglruBwdRefIdeal Cert.RglruBwdRefIdeal.Gen Cert.Lift

theorem reals (x0 x1 : FVec Ideal S4x2048x512 .f32) (x2 : FVec Ideal S8x64x64 .f32) (x3 : FVec Ideal S512 .f32) (x4 : FVec Ideal S8x64x64 .f32)
    (x5 x6 : FVec Ideal S512 .f32) (x7 : FVec Ideal S4x2048x512 .f32) (h : (Cert.Pre_rglru_finite.fn (F := Ideal) x0 x1 x2 x3 x4 x5 x6 x7).1 = (fun _ => 1#1) ∧ (Cert.Pre_rglru_finite.fn (F := Ideal) x0 x1 x2 x3 x4 x5 x6 x7).2.1 = (fun _ => 1#1) ∧ (Cert.Pre_rglru_finite.fn (F := Ideal) x0 x1 x2 x3 x4 x5 x6 x7).2.2.1 = (fun _ => 1#1) ∧ (Cert.Pre_rglru_finite.fn (F := Ideal) x0 x1 x2 x3 x4 x5 x6 x7).2.2.2.1 = (fun _ => 1#1) ∧ (Cert.Pre_rglru_finite.fn (F := Ideal) x0 x1 x2 x3 x4 x5 x6 x7).2.2.2.2.1 = (fun _ => 1#1) ∧ (Cert.Pre_rglru_finite.fn (F := Ideal) x0 x1 x2 x3 x4 x5 x6 x7).2.2.2.2.2.1 = (fun _ => 1#1) ∧ (Cert.Pre_rglru_finite.fn (F := Ideal) x0 x1 x2 x3 x4 x5 x6 x7).2.2.2.2.2.2.1 = (fun _ => 1#1) ∧ (Cert.Pre_rglru_finite.fn (F := Ideal) x0 x1 x2 x3 x4 x5 x6 x7).2.2.2.2.2.2.2 = (fun _ => 1#1)) : Reals x0 x1 x2 x3 x4 x5 x6 x7 where
  x := fun b t k => of_finite x0 _ (fun i => by pointwise [winf]) h.1 _
  y := fun b t k => of_finite x1 _ (fun i => by pointwise [winf]) h.2.1 _
  wa := fun b t k => of_finite x2 _ (fun i => by pointwise [winf]) h.2.2.1 _
  ba := fun k => of_finite x3 _ (fun i => by pointwise [winf]) h.2.2.2.1 _
  wx := fun b t k => of_finite x4 _ (fun i => by pointwise [winf]) h.2.2.2.2.1 _
  bx := fun k => of_finite x5 _ (fun i => by pointwise [winf]) h.2.2.2.2.2.1 _
  l := fun k => of_finite x6 _ (fun i => by pointwise [winf]) h.2.2.2.2.2.2.1 _
  ct := fun b t k => of_finite x7 _ (fun i => by pointwise [winf]) h.2.2.2.2.2.2.2 _

end Cert.RglruBwdRefIdeal.Rg

namespace Cert.RglruBwdIdeal.Rg

open Cert.RglruBwdIdeal Cert.RglruBwdIdeal.Gen Cert.RglruBwdRefIdeal.Rg Cert.Rg

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v240_0) = rows (DX (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6))))
      ∧ r.2.mem ((c : Thread nD τ).loc main_v240_1) = rows (DY (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6))))
      ∧ r.2.mem ((c : Thread nD τ).loc main_v240_4) = DBA (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_v240_5) = DBX (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_v240_6) = DL (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans (final9 m c (h c)),
      (hr c).2.1.trans (final10 m c (h c)),
      (hr c).2.2.2.2.1.trans (final13 m c (h c)),
      (hr c).2.2.2.2.2.1.trans (final14 m c (h c)),
      (hr c).2.2.2.2.2.2.1.trans (final15 m c (h c)),
      (hr c).2.2.2.2.2.2.2⟩)
    (Value.run_blocks m ρ)

end Cert.RglruBwdIdeal.Rg

namespace Cert.RglruBwdRefIdeal.Rg

open Cert.RglruBwdRefIdeal Cert.RglruBwdRefIdeal.Gen Cert.RglruBwdRefIdeal.Read Cert.RglruBwdRefIdeal.Rg Cert.Rg

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    θ_run defs (onTc (τ := τ) (main (F := Ideal))) ⟨m, fun _ => 0, ρ⟩ fun r => ∀ c : Dev nD,
      r.2.mem ((c : Thread nD τ).loc main_v166) = rows (DX (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6))))
      ∧ r.2.mem ((c : Thread nD τ).loc main_v167) = rows (DY (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6))))
      ∧ r.2.mem ((c : Thread nD τ).loc main_v168) = DBA (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_v169) = DBX (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_v170) = DL (ten (m ((c : Thread nD τ).loc main_arg0))) (ten (m ((c : Thread nD τ).loc main_arg1))) (ten (m ((c : Thread nD τ).loc main_arg7))) (ten (m ((c : Thread nD τ).loc main_arg2))) (ten (m ((c : Thread nD τ).loc main_arg4))) (row (m ((c : Thread nD τ).loc main_arg3))) (row (m ((c : Thread nD τ).loc main_arg5))) (row (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans ((val_main_v166_eq _).trans (d166 (h c))),
      (hr c).2.1.trans ((val_main_v167_eq _).trans (d167 (h c))),
      (hr c).2.2.1.trans ((val_main_v168_eq _).trans (d168 (h c))),
      (hr c).2.2.2.1.trans ((val_main_v169_eq _).trans (d169 (h c))),
      (hr c).2.2.2.2.1.trans ((val_main_v170_eq _).trans (d170 (h c))),
      (hr c).2.2.2.2.2⟩)
    (Cert.RglruBwdRefIdeal.Value.run m ρ)

end Cert.RglruBwdRefIdeal.Rg

end
-- ==== Proof.ConvFwd.lean ====
/- The short convolution: the array its kernel and its reference leave. -/
module

public import proofs.«01_k».proof.Proof.Conv
public import proofs.«01_k».proof.Proof.Gen.ConvFwdIdeal.Value
public import proofs.«01_k».proof.Proof.Gen.ConvFwdRefIdeal.Run
public import proofs.«01_k».proof.Proof.Gen.ConvFwdRefIdeal.Read

@[expose] public section

set_option maxRecDepth 16384

noncomputable section

open Idealize.ShloMosaic Idealize.ShloMosaic.TcCoe Idealize.SL.Sem
open Idealize.ShloMosaic.Pipeline (Dat)

namespace Cert.Conv

variable {C : Nat}

/-- The convolution with its shift, the batches one below the other. -/
def fwd (x : (Seq C).Idx → EReal) (w : (⟨2, ![4, C]⟩ : Shape).Idx → EReal) (b : (⟨1, ![C]⟩ : Shape).Idx → EReal) : (Flat C).Idx → EReal :=
  fun y => taps x w (bat (y 0)) (row (y 0)) (y 1) + b (ix1 (y 1))

/-- Rows of an array padded with three rows of zeros above. -/
theorem pad_above {u : Shape} (v : u.Idx → EReal) (hu : 0 < u.numel) (hv : v (Shape.Idx.first hu) = 0) (x : (Seq C).Idx → EReal)
    (hp : (Seq C).Pads ![0, 3, 0] ![0, 0, 0] ![0, 0, 0] (⟨3, ![4, 2051, C]⟩ : Shape)) (j : Fin 4) (b : Fin 4) (s : Fin 2048) (c : Fin C)
    (r : Fin 2051) (hr : r.val = s.val + j.val) :
    pad (⟨3, ![4, 2051, C]⟩ : Shape) ![0, 3, 0] ![0, 0, 0] ![0, 0, 0] x v hp hu (ix3 b r c) = before x j b s c := by
  rw [before]
  by_cases h : s.val + j.val < 3
  · rw [dif_pos h]
    refine (pad_apply_of_not_inside _ _ _ x v hp hu _ 1 fun hin => ?_).trans hv
    have h3 : 3 ≤ r.val := hin.1
    omega
  · rw [dif_neg h]
    refine pad_apply_of_inside _ _ _ x v hp hu _ (ix3 b ⟨s.val + j.val - 3, by omega⟩ c) fun a => ?_
    fin_cases a
    · show b.val = 0 + b.val * 1; omega
    · show r.val = 3 + (s.val + j.val - 3) * 1; omega
    · show c.val = 0 + c.val * 1; omega

end Cert.Conv

namespace Cert.ConvFwdIdeal.Cv

open Cert.ConvFwdIdeal Cert.ConvFwdIdeal.Gen Cert.Conv

variable (m : (ℓ : Loc nD τ sig) → Buf (Elt Ideal) ℓ)

theorem idx : ∀ t : Fin cfg0.N, win0_0.index t = ![t.val / 4, t.val % 4] ∧ win0_1.index t = ![0, t.val % 4] ∧ win0_2.index t = ![0, t.val % 4]
    ∧ win0_3.index t = ![t.val / 4, t.val % 4] :=
  (by decide +kernel : ∀ t : Fin grid0.N, _)

variable (c : Dev nD)

/-- The batch and the channels of a grid point. -/
def bt (t : Fin cfg0.N) : Fin 4 := ⟨t.val / 4, by have := lt_of_lt_of_eq t.isLt N_0; omega⟩
def ch (t : Fin cfg0.N) (k : Fin 128) : Fin 512 := ⟨t.val % 4 * 128 + k.val, by omega⟩

abbrev aX : (Seq 512).Idx → EReal := (show FVec Ideal S4x2048x512 .f32 from m ((c : Thread nD τ).loc main_arg0))
abbrev aW : (⟨2, ![4, 512]⟩ : Shape).Idx → EReal := (show FVec Ideal S4x512 .f32 from m ((c : Thread nD τ).loc main_arg1))
abbrev aB : (⟨1, ![512]⟩ : Shape).Idx → EReal := (show FVec Ideal S512 .f32 from m ((c : Thread nD τ).loc main_arg2))

theorem blk0 (t : Fin cfg0.N) (i : Fin 2048) (k : Fin 128) :
    (show FVec Ideal S2048x128 .f32 from iblk m c 0 t) (ix2 i k) = aX m c (ix3 (bt t) i (ch t k)) := by
  blk_simp [iblk, idx t]; entry_read; pointwise; blk_ext [idx t, bt, ch]

theorem blk1 (t : Fin cfg0.N) (j : Fin 4) (k : Fin 128) :
    (show FVec Ideal S4x128 .f32 from iblk m c 1 t) (ix2 j k) = aW m c (ix2 j (ch t k)) := by
  blk_ext [iblk, V, idx t, ch]

theorem blk2 (t : Fin cfg0.N) (k : Fin 128) : (show FVec Ideal S1x128 .f32 from iblk m c 2 t) (ix2 0 k) = aB m c (ix1 (ch t k)) := by
  blk_simp [iblk, idx t]; entry_read; pointwise; blk_ext [idx t, ch]

theorem pay3_at (x : FVec Ideal S2048x128 .f32) (i : Fin 2048) (k : Fin 128) : k0_pay3 (F := Ideal) x (ix2 i k) = x (ix2 i k) := by
  pointwise [k0_pay3]
theorem pay2_at (i : S8x128.Idx) : k0_pay2 (F := Ideal) i = 0 := by pointwise [k0_pay2]

/-- The rows above a row of the argument, in the padded copy. -/
theorem tap (t : Fin cfg0.N) (v : View sig .tc .vmem S2056x128 .f32) (j : Fin 4) (o : Nat) (ho : o = 5 + j.val) (inb) (i : Fin 2048) (k : Fin 128) :
    v.readCov (Val := Elt Ideal) [⟨Rect.unit ![8, 0] ![2048, 128] inb_S2056x128_S2048x128_8_0, k0_pay3 (F := Ideal) (iblk m c 0 t)⟩,
      ⟨Rect.unit ![0, 0] ![8, 128] inb_S2056x128_S8x128_0_0, k0_pay2 (F := Ideal)⟩]
      (Rect.unit (s := S2056x128) ![o, 0] ![2048, 128] inb).toLoadRect (ix2 i k) = before (aX m c) j (bt t) i (ch t k) :=
  read_before _ _ _ pay2_at _ _ _ _ (fun i => (pay3_at _ i k).trans (blk0 m c t i k)) j o ho _ _ _ i

theorem tap3 (t : Fin cfg0.N) (i : Fin 2048) (k : Fin 128) : k0_pay3 (F := Ideal) (iblk m c 0 t) (ix2 i k) = before (aX m c) 3 (bt t) i (ch t k) := by
  rw [before_last, pay3_at]; exact blk0 m c t i k

theorem key (t : Fin cfg0.N) (i : Fin 2048) (k : Fin 128) (a0 a1 a2 a3 : FVec Ideal S2048x128 .f32)
    (h0 : a0 (ix2 i k) = before (aX m c) 0 (bt t) i (ch t k)) (h1 : a1 (ix2 i k) = before (aX m c) 1 (bt t) i (ch t k))
    (h2 : a2 (ix2 i k) = before (aX m c) 2 (bt t) i (ch t k)) (h3 : a3 (ix2 i k) = before (aX m c) 3 (bt t) i (ch t k)) :
    k0_pay1 (F := Ideal)
      (k0_pay4 (View.ld (iblk m c 1 t) (Rect.unit ![0, 0] ![1, 128] inb_S4x128_S1x128_0_0)) a0
        (View.ld (iblk m c 1 t) (Rect.unit ![1, 0] ![1, 128] inb_S4x128_S1x128_1_0)) a1
        (View.ld (iblk m c 1 t) (Rect.unit ![2, 0] ![1, 128] inb_S4x128_S1x128_2_0)) a2
        (View.ld (iblk m c 1 t) (Rect.unit ![3, 0] ![1, 128] inb_S4x128_S1x128_3_0)) a3)
      (k0_pay5 (iblk m c 2 t)) (ix2 i k) = taps (aX m c) (aW m c) (bt t) i (ch t k) + aB m c (ix1 (ch t k)) := by
  have w := fun j => blk1 m c t j k
  have z := blk2 m c t k
  pointwise [k0_pay1, k0_pay4, k0_pay5]
  have e := congrArg₂ (· + ·) (congrArg₂ (· + ·) (congrArg₂ (· + ·) (congrArg₂ (· + ·) (congrArg₂ (· * ·) (w 0) h0) (congrArg₂ (· * ·) (w 1) h1))
    (congrArg₂ (· * ·) (w 2) h2)) (congrArg₂ (· * ·) (w 3) h3)) z
  exact e

theorem out3 (t : Fin cfg0.N) (i : Fin 2048) (k : Fin 128) : outsAt0 m c t (ix2 i k) = taps (aX m c) (aW m c) (bt t) i (ch t k) + aB m c (ix1 (ch t k)) := by
  unfold outsAt0
  frame_open
  simp (disch := decide) only [↓ View.readCov_skip, ↓ View.readCov_cons_toLoadRect, ↓ View.readCov_fill]
  frame_out
  exact key m c t i k _ _ _ _ (tap m c t _ 0 5 rfl _ i k) (tap m c t _ 1 6 rfl _ i k) (tap m c t _ 2 7 rfl _ i k) (tap3 m c t i k)

theorem final3 : (dats m 0 c).arrAt 3 cfg0.N = fwd (C := 512) (aX m c) (aW m c) (aB m c) := by
  refine (dats m 0 c).arrAt_eq_of_covers 3 _ (by decide +kernel) fun t _ y => ?_
  have e : ((cfg0.win 3).blk t).view.emb y = (ix2 ⟨(bt t).val * 2048 + (y 0).val, by have := (bt t).isLt; have h : (y 0).val < 2048 := (y 0).isLt; omega⟩ (ch t (y 1)) : S8192x512.Idx) := by
    blk_ext [bt, ch, idx t]
  rw [e]
  blk_simp
  rw [after0_3]
  refine (congrArg _ (eq_ix2 y)).trans ((out3 m c t (y 0) (y 1)).trans ?_)
  have hy : (y 0).val < 2048 := (y 0).isLt
  refine congrArg₂ (fun b s => taps (aX m c) (aW m c) b s (ch t (y 1)) + aB m c (ix1 (ch t (y 1)))) (Fin.ext ?_) (Fin.ext ?_)
  · show (bt t).val = ((bt t).val * 2048 + (y 0).val) / 2048; omega
  · show (y 0).val = ((bt t).val * 2048 + (y 0).val) % 2048; omega

end Cert.ConvFwdIdeal.Cv

namespace Cert.ConvFwdRefIdeal.Cv

open Cert.ConvFwdRefIdeal Cert.ConvFwdRefIdeal.Gen Cert.ConvFwdRefIdeal.Read Cert.Conv

variable (x : FVec Ideal S4x2048x512 .f32) (w : FVec Ideal S4x512 .f32) (b : FVec Ideal S512 .f32)

theorem z0 (i : S_.Idx) : val_main_call0_v0 (F := Ideal) i = 0 := by
  pointwise [val_main_call0_v0, val_main_c]
  show (((0#32 : BitVec 32).toInt : ℝ) : EReal) = 0
  simp
theorem v1 (b : Fin 4) (s : Fin 2048) (k : Fin 512) : val_main_v1 (F := Ideal) x (ix3 b s k) = before x 0 b s k := by
  pointwise [val_main_v1]; exact pad_above _ _ (z0 _) x _ 0 b s k _ rfl
theorem v7 (b : Fin 4) (s : Fin 2048) (k : Fin 512) : val_main_v7 (F := Ideal) x (ix3 b s k) = before x 1 b s k := by
  pointwise [val_main_v7]; exact pad_above _ _ (z0 _) x _ 1 b s k _ (Nat.add_comm _ _)
theorem v14 (b : Fin 4) (s : Fin 2048) (k : Fin 512) : val_main_v14 (F := Ideal) x (ix3 b s k) = before x 2 b s k := by
  pointwise [val_main_v14]; exact pad_above _ _ (z0 _) x _ 2 b s k _ (Nat.add_comm _ _)
theorem v21 (b : Fin 4) (s : Fin 2048) (k : Fin 512) : val_main_v21 (F := Ideal) x (ix3 b s k) = before x 3 b s k := by
  pointwise [val_main_v21]; exact pad_above _ _ (z0 _) x _ 3 b s k _ (Nat.add_comm _ _)

/-- The convolution. -/
theorem v27 (b : Fin 4) (s : Fin 2048) (k : Fin 512) : val_main_v27 (F := Ideal) x w (ix3 b s k) = taps x w b s k := by
  rw [val_main_v27_apply, val_main_v20_apply, val_main_v13_apply, val_main_v6_apply, val_main_v12_apply, val_main_v19_apply, val_main_v26_apply, v1, v7, v14, v21]
  have e6 : val_main_v5 (F := Ideal) w (ix3 b s k) = w (ix2 0 k) := by pointwise [val_main_v5, val_main_v4, val_main_v3, val_main_v2]
  have e12 : val_main_v11 (F := Ideal) w (ix3 b s k) = w (ix2 1 k) := by pointwise [val_main_v11, val_main_v10, val_main_v9, val_main_v8]
  have e19 : val_main_v18 (F := Ideal) w (ix3 b s k) = w (ix2 2 k) := by pointwise [val_main_v18, val_main_v17, val_main_v16, val_main_v15]
  have e26 : val_main_v25 (F := Ideal) w (ix3 b s k) = w (ix2 3 k) := by pointwise [val_main_v25, val_main_v24, val_main_v23, val_main_v22]
  rw [e6, e12, e19, e26]
  unfold taps
  rw [mul_comm (w (ix2 0 k)), mul_comm (w (ix2 1 k)), mul_comm (w (ix2 2 k)), mul_comm (w (ix2 3 k))]
  rfl

theorem v31 : val_main_v31 (F := Ideal) x w b = fwd (C := 512) x w b := by
  funext y
  rw [eq_ix2 y]
  show _ = taps x w (bat (y 0)) (row (y 0)) (y 1) + b (ix1 (y 1))
  rw [← v27 x w (bat (y 0)) (row (y 0)) (y 1)]
  have e : val_main_v31 (F := Ideal) x w b (ix2 (y 0) (y 1)) = val_main_v30 (F := Ideal) x w b (ix3 (bat (y 0)) (row (y 0)) (y 1)) := by
    pointwise [val_main_v31]
    blk_ext [bat, row]
  rw [e]
  pointwise [val_main_v30, val_main_v29, val_main_v28]

end Cert.ConvFwdRefIdeal.Cv

end
-- ==== Proof.ConvFwdRuns.lean ====
/- The runs of the convolution's kernel and of its reference: both end with the same array. -/
module

public import proofs.«01_k».proof.Proof.ConvFwd

@[expose] public section

set_option maxRecDepth 16384

noncomputable section

open Idealize.ShloMosaic Idealize.ShloMosaic.TcCoe Idealize.SL.Sem

namespace Cert.ConvFwdIdeal.Cv

open Cert.ConvFwdIdeal Cert.ConvFwdIdeal.Gen Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = fwd (C := 512) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (final3 m c),
      (hr c).2⟩)
    (Value.run_blocks m ρ)

end Cert.ConvFwdIdeal.Cv

namespace Cert.ConvFwdRefIdeal.Cv

open Cert.ConvFwdRefIdeal Cert.ConvFwdRefIdeal.Gen Cert.ConvFwdRefIdeal.Read Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v31) = fwd (C := 512) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans ((val_main_v31_eq _ _ _).trans (v31 _ _ _)),
      (hr c).2⟩)
    (Cert.ConvFwdRefIdeal.Value.run m ρ)

end Cert.ConvFwdRefIdeal.Cv

end
-- ==== Proof.ConvActFwd.lean ====
/- The short convolution under its activation: the array its kernel and its reference leave. -/
module

public import proofs.«01_k».proof.Proof.ConvFwd
public import proofs.«01_k».proof.Proof.Gen.ConvActFwdIdeal.Value
public import proofs.«01_k».proof.Proof.Gen.ConvActFwdRefIdeal.Run
public import proofs.«01_k».proof.Proof.Gen.ConvActFwdRefIdeal.Read

@[expose] public section

set_option maxRecDepth 16384

noncomputable section

open Idealize.ShloMosaic Idealize.ShloMosaic.TcCoe Idealize.SL.Sem
open Idealize.ShloMosaic.Pipeline (Dat)

namespace Cert.Conv

variable {C : Nat}

/-- The convolution under `a ↦ a · logistic a`, the batches one below the other. -/
def fwdA (x : (Seq C).Idx → EReal) (w : (⟨2, ![4, C]⟩ : Shape).Idx → EReal) : (Flat C).Idx → EReal :=
  fun y => taps x w (bat (y 0)) (row (y 0)) (y 1) * Ideal.logistic (taps x w (bat (y 0)) (row (y 0)) (y 1))

end Cert.Conv

namespace Cert.ConvActFwdIdeal.Cv

open Cert.ConvActFwdIdeal Cert.ConvActFwdIdeal.Gen Cert.Conv

variable (m : (ℓ : Loc nD τ sig) → Buf (Elt Ideal) ℓ)

theorem idx : ∀ t : Fin cfg0.N, win0_0.index t = ![t.val / 24, t.val % 24] ∧ win0_1.index t = ![0, t.val % 24] ∧ win0_2.index t = ![0, t.val % 24]
    ∧ win0_3.index t = ![t.val / 24, t.val % 24] :=
  (by decide +kernel : ∀ t : Fin grid0.N, _)

variable (c : Dev nD)

/-- The batch and the channels of a grid point. -/
def bt (t : Fin cfg0.N) : Fin 4 := ⟨t.val / 24, by have := lt_of_lt_of_eq t.isLt N_0; omega⟩
def ch (t : Fin cfg0.N) (k : Fin 128) : Fin 3072 := ⟨t.val % 24 * 128 + k.val, by omega⟩

abbrev aX : (Seq 3072).Idx → EReal := (show FVec Ideal S4x2048x3072 .f32 from m ((c : Thread nD τ).loc main_arg0))
abbrev aW : (⟨2, ![4, 3072]⟩ : Shape).Idx → EReal := (show FVec Ideal S4x3072 .f32 from m ((c : Thread nD τ).loc main_arg1))

theorem blk0 (t : Fin cfg0.N) (i : Fin 2048) (k : Fin 128) :
    (show FVec Ideal S2048x128 .f32 from iblk m c 0 t) (ix2 i k) = aX m c (ix3 (bt t) i (ch t k)) := by
  blk_simp [iblk, idx t]; entry_read; pointwise; blk_ext [idx t, bt, ch]

theorem blk1 (t : Fin cfg0.N) (j : Fin 4) (k : Fin 128) :
    (show FVec Ideal S4x128 .f32 from iblk m c 1 t) (ix2 j k) = aW m c (ix2 j (ch t k)) := by
  blk_ext [iblk, V, idx t, ch]

theorem blk2 (t : Fin cfg0.N) (k : Fin 128) : (show FVec Ideal S1x128 .f32 from iblk m c 2 t) (ix2 0 k) = 0 := by
  blk_simp [iblk, idx t]; entry_read; pointwise

theorem pay3_at (x : FVec Ideal S2048x128 .f32) (i : Fin 2048) (k : Fin 128) : k0_pay3 (F := Ideal) x (ix2 i k) = x (ix2 i k) := by
  pointwise [k0_pay3]
theorem pay2_at (i : S8x128.Idx) : k0_pay2 (F := Ideal) i = 0 := by pointwise [k0_pay2]

/-- The rows above a row of the argument, in the padded copy. -/
theorem tap (t : Fin cfg0.N) (v : View sig .tc .vmem S2056x128 .f32) (j : Fin 4) (o : Nat) (ho : o = 5 + j.val) (inb) (i : Fin 2048) (k : Fin 128) :
    v.readCov (Val := Elt Ideal) [⟨Rect.unit ![8, 0] ![2048, 128] inb_S2056x128_S2048x128_8_0, k0_pay3 (F := Ideal) (iblk m c 0 t)⟩,
      ⟨Rect.unit ![0, 0] ![8, 128] inb_S2056x128_S8x128_0_0, k0_pay2 (F := Ideal)⟩]
      (Rect.unit (s := S2056x128) ![o, 0] ![2048, 128] inb).toLoadRect (ix2 i k) = before (aX m c) j (bt t) i (ch t k) :=
  read_before _ _ _ pay2_at _ _ _ _ (fun i => (pay3_at _ i k).trans (blk0 m c t i k)) j o ho _ _ _ i

theorem tap3 (t : Fin cfg0.N) (i : Fin 2048) (k : Fin 128) : k0_pay3 (F := Ideal) (iblk m c 0 t) (ix2 i k) = before (aX m c) 3 (bt t) i (ch t k) := by
  rw [before_last, pay3_at]; exact blk0 m c t i k

theorem key (t : Fin cfg0.N) (i : Fin 2048) (k : Fin 128) (a0 a1 a2 a3 : FVec Ideal S2048x128 .f32)
    (h0 : a0 (ix2 i k) = before (aX m c) 0 (bt t) i (ch t k)) (h1 : a1 (ix2 i k) = before (aX m c) 1 (bt t) i (ch t k))
    (h2 : a2 (ix2 i k) = before (aX m c) 2 (bt t) i (ch t k)) (h3 : a3 (ix2 i k) = before (aX m c) 3 (bt t) i (ch t k)) :
    k0_pay1 (F := Ideal)
      (k0_pay4 (View.ld (iblk m c 1 t) (Rect.unit ![0, 0] ![1, 128] inb_S4x128_S1x128_0_0)) a0
        (View.ld (iblk m c 1 t) (Rect.unit ![1, 0] ![1, 128] inb_S4x128_S1x128_1_0)) a1
        (View.ld (iblk m c 1 t) (Rect.unit ![2, 0] ![1, 128] inb_S4x128_S1x128_2_0)) a2
        (View.ld (iblk m c 1 t) (Rect.unit ![3, 0] ![1, 128] inb_S4x128_S1x128_3_0)) a3)
      (k0_pay5 (iblk m c 2 t)) (ix2 i k) = taps (aX m c) (aW m c) (bt t) i (ch t k) * Ideal.logistic (taps (aX m c) (aW m c) (bt t) i (ch t k)) := by
  have w := fun j => blk1 m c t j k
  have z := blk2 m c t k
  pointwise [k0_pay1, k0_pay4, k0_pay5]
  have e := congrArg₂ (· + ·) (congrArg₂ (· + ·) (congrArg₂ (· + ·) (congrArg₂ (· + ·) (congrArg₂ (· * ·) (w 0) h0) (congrArg₂ (· * ·) (w 1) h1))
    (congrArg₂ (· * ·) (w 2) h2)) (congrArg₂ (· * ·) (w 3) h3)) z
  exact (congrArg (fun a : EReal => a * Ideal.logistic a) e).trans (by rw [add_zero]; rfl)

theorem out3 (t : Fin cfg0.N) (i : Fin 2048) (k : Fin 128) : outsAt0 m c t (ix2 i k) = taps (aX m c) (aW m c) (bt t) i (ch t k) * Ideal.logistic (taps (aX m c) (aW m c) (bt t) i (ch t k)) := by
  unfold outsAt0
  frame_open
  simp (disch := decide) only [↓ View.readCov_skip, ↓ View.readCov_cons_toLoadRect, ↓ View.readCov_fill]
  frame_out
  exact key m c t i k _ _ _ _ (tap m c t _ 0 5 rfl _ i k) (tap m c t _ 1 6 rfl _ i k) (tap m c t _ 2 7 rfl _ i k) (tap3 m c t i k)

theorem final3 : (dats m 0 c).arrAt 3 cfg0.N = fwdA (C := 3072) (aX m c) (aW m c) := by
  refine (dats m 0 c).arrAt_eq_of_covers 3 _ (by decide +kernel) fun t _ y => ?_
  have e : ((cfg0.win 3).blk t).view.emb y = (ix2 ⟨(bt t).val * 2048 + (y 0).val, by have := (bt t).isLt; have h : (y 0).val < 2048 := (y 0).isLt; omega⟩ (ch t (y 1)) : S8192x3072.Idx) := by
    blk_ext [bt, ch, idx t]
  rw [e]
  blk_simp
  rw [after0_3]
  refine (congrArg _ (eq_ix2 y)).trans ((out3 m c t (y 0) (y 1)).trans ?_)
  have hy : (y 0).val < 2048 := (y 0).isLt
  refine congrArg₂ (fun b s => taps (aX m c) (aW m c) b s (ch t (y 1)) * Ideal.logistic (taps (aX m c) (aW m c) b s (ch t (y 1)))) (Fin.ext ?_) (Fin.ext ?_)
  · show (bt t).val = ((bt t).val * 2048 + (y 0).val) / 2048; omega
  · show (y 0).val = ((bt t).val * 2048 + (y 0).val) % 2048; omega

end Cert.ConvActFwdIdeal.Cv

namespace Cert.ConvActFwdRefIdeal.Cv

open Cert.ConvActFwdRefIdeal Cert.ConvActFwdRefIdeal.Gen Cert.ConvActFwdRefIdeal.Read Cert.Conv

variable (x : FVec Ideal S4x2048x3072 .f32) (w : FVec Ideal S4x3072 .f32)

theorem z0 (i : S_.Idx) : val_main_call0_v0 (F := Ideal) i = 0 := by
  pointwise [val_main_call0_v0, val_main_c]
  show (((0#32 : BitVec 32).toInt : ℝ) : EReal) = 0
  simp
theorem v1 (b : Fin 4) (s : Fin 2048) (k : Fin 3072) : val_main_v1 (F := Ideal) x (ix3 b s k) = before x 0 b s k := by
  pointwise [val_main_v1]; exact pad_above _ _ (z0 _) x _ 0 b s k _ rfl
theorem v7 (b : Fin 4) (s : Fin 2048) (k : Fin 3072) : val_main_v7 (F := Ideal) x (ix3 b s k) = before x 1 b s k := by
  pointwise [val_main_v7]; exact pad_above _ _ (z0 _) x _ 1 b s k _ (Nat.add_comm _ _)
theorem v14 (b : Fin 4) (s : Fin 2048) (k : Fin 3072) : val_main_v14 (F := Ideal) x (ix3 b s k) = before x 2 b s k := by
  pointwise [val_main_v14]; exact pad_above _ _ (z0 _) x _ 2 b s k _ (Nat.add_comm _ _)
theorem v21 (b : Fin 4) (s : Fin 2048) (k : Fin 3072) : val_main_v21 (F := Ideal) x (ix3 b s k) = before x 3 b s k := by
  pointwise [val_main_v21]; exact pad_above _ _ (z0 _) x _ 3 b s k _ (Nat.add_comm _ _)

/-- The convolution. -/
theorem v27 (b : Fin 4) (s : Fin 2048) (k : Fin 3072) : val_main_v27 (F := Ideal) x w (ix3 b s k) = taps x w b s k := by
  rw [val_main_v27_apply, val_main_v20_apply, val_main_v13_apply, val_main_v6_apply, val_main_v12_apply, val_main_v19_apply, val_main_v26_apply, v1, v7, v14, v21]
  have e6 : val_main_v5 (F := Ideal) w (ix3 b s k) = w (ix2 0 k) := by pointwise [val_main_v5, val_main_v4, val_main_v3, val_main_v2]
  have e12 : val_main_v11 (F := Ideal) w (ix3 b s k) = w (ix2 1 k) := by pointwise [val_main_v11, val_main_v10, val_main_v9, val_main_v8]
  have e19 : val_main_v18 (F := Ideal) w (ix3 b s k) = w (ix2 2 k) := by pointwise [val_main_v18, val_main_v17, val_main_v16, val_main_v15]
  have e26 : val_main_v25 (F := Ideal) w (ix3 b s k) = w (ix2 3 k) := by pointwise [val_main_v25, val_main_v24, val_main_v23, val_main_v22]
  rw [e6, e12, e19, e26]
  unfold taps
  rw [mul_comm (w (ix2 0 k)), mul_comm (w (ix2 1 k)), mul_comm (w (ix2 2 k)), mul_comm (w (ix2 3 k))]
  rfl

theorem v29 : val_main_v29 (F := Ideal) x w = fwdA (C := 3072) x w := by
  funext y
  rw [eq_ix2 y]
  show _ = taps x w (bat (y 0)) (row (y 0)) (y 1) * Ideal.logistic (taps x w (bat (y 0)) (row (y 0)) (y 1))
  rw [← v27 x w (bat (y 0)) (row (y 0)) (y 1)]
  have e : val_main_v29 (F := Ideal) x w (ix2 (y 0) (y 1)) = val_main_v28 (F := Ideal) x w (ix3 (bat (y 0)) (row (y 0)) (y 1)) := by
    pointwise [val_main_v29]
    blk_ext [bat, row]
  rw [e]
  pointwise [val_main_v28, val_main_call1_v5, val_main_call1_v4, val_main_call1_v3, val_main_call1_v2, val_main_call1_v1, val_main_call1_v0, val_main_call1_cst, val_main_call1_cst_0, Ideal.logistic]

end Cert.ConvActFwdRefIdeal.Cv

end
-- ==== Proof.ConvActFwdRuns.lean ====
/- The runs of the activated convolution's kernel and of its reference: both end with the same array. -/
module

public import proofs.«01_k».proof.Proof.ConvActFwd

@[expose] public section

set_option maxRecDepth 16384

noncomputable section

open Idealize.ShloMosaic Idealize.ShloMosaic.TcCoe Idealize.SL.Sem

namespace Cert.ConvActFwdIdeal.Cv

open Cert.ConvActFwdIdeal Cert.ConvActFwdIdeal.Gen Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = fwdA (C := 3072) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans (final3 m c),
      (hr c).2⟩)
    (Value.run_blocks m ρ)

end Cert.ConvActFwdIdeal.Cv

namespace Cert.ConvActFwdRefIdeal.Cv

open Cert.ConvActFwdRefIdeal Cert.ConvActFwdRefIdeal.Gen Cert.ConvActFwdRefIdeal.Read Cert.Conv

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v29) = fwdA (C := 3072) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans ((val_main_v29_eq _ _).trans (v29 _ _)),
      (hr c).2⟩)
    (Cert.ConvActFwdRefIdeal.Value.run m ρ)

end Cert.ConvActFwdRefIdeal.Cv

end
-- ==== Proof.PleFwd.lean ====
/- The gated embedding: the arrays its kernel and its reference leave. -/
module

public import proofs.«01_k».proof.Proof.Lift
public import proofs.«01_k».proof.Proof.Gen.PleFwdIdeal.Value
public import proofs.«01_k».proof.Proof.Gen.PleFwdRefIdeal.Run
public import proofs.«01_k».proof.Proof.Gen.PleFwdRefIdeal.Read

@[expose] public section

set_option maxRecDepth 16384

noncomputable section

open Idealize.ShloMosaic Idealize.ShloMosaic.TcCoe Idealize.SL.Sem
open Idealize.ShloMosaic.Pipeline (Dat)

namespace Cert.Emb

/-- The embedding added to the residual stream under its gate. -/
def emb (x : (⟨2, ![8192, 1024]⟩ : Shape).Idx → EReal) (p : (⟨2, ![8192, 256]⟩ : Shape).Idx → EReal) (wg : (⟨2, ![1024, 1024]⟩ : Shape).Idx → EReal)
    (bg : (⟨1, ![1024]⟩ : Shape).Idx → EReal) (wp : (⟨2, ![256, 1024]⟩ : Shape).Idx → EReal) : (⟨2, ![8192, 1024]⟩ : Shape).Idx → EReal := fun y =>
  x y + Ideal.logistic ((∑ k, x (ix2 (y 0) k) * wg (ix2 k (y 1))) + bg (ix1 (y 1))) * ∑ k, p (ix2 (y 0) k) * wp (ix2 k (y 1))

end Cert.Emb

namespace Cert.PleFwdRefIdeal.Pl

open Cert.PleFwdRefIdeal Cert.PleFwdRefIdeal.Gen Cert.PleFwdRefIdeal.Read Cert.Emb

variable (x : FVec Ideal S8192x1024 .f32) (p : FVec Ideal S8192x256 .f32) (wg : FVec Ideal S1024x1024 .f32) (bg : FVec Ideal S1024 .f32) (wp : FVec Ideal S256x1024 .f32)

theorem v12 : val_main_v12 (F := Ideal) x p wg bg wp = emb x p wg bg wp := by
  funext y
  idx_vars y
  pointwise [val_main_v12, val_main_v11, val_main_v10, val_main_v9, val_main_v8, val_main_v7, val_main_v6, val_main_v5, val_main_v4, val_main_v3, val_main_v2, val_main_v1, val_main_v0, val_main_cst, val_main_cst_0, emb, Ideal.logistic]

end Cert.PleFwdRefIdeal.Pl

namespace Cert.PleFwdIdeal.Pl

open Cert.PleFwdIdeal Cert.PleFwdIdeal.Gen Cert.Emb

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

/-- Row `i` of grid point `t`. -/
def row (t : Fin cfg0.N) (i : Fin 512) : Fin 8192 := ⟨t.val * 512 + i.val, by have := lt_of_lt_of_eq t.isLt N_0; omega⟩

abbrev aX : FVec Ideal S8192x1024 .f32 := m ((c : Thread nD τ).loc main_arg0)
abbrev aP : FVec Ideal S8192x256 .f32 := m ((c : Thread nD τ).loc main_arg1)
abbrev aWg : FVec Ideal S1024x1024 .f32 := m ((c : Thread nD τ).loc main_arg2)
abbrev aBg : FVec Ideal S1024 .f32 := m ((c : Thread nD τ).loc main_arg3)
abbrev aWp : FVec Ideal S256x1024 .f32 := m ((c : Thread nD τ).loc main_arg4)

theorem blk0 (t : Fin cfg0.N) (i : Fin 512) (k : Fin 1024) : (show FVec Ideal S512x1024 .f32 from iblk m c 0 t) (ix2 i k) = aX m c (ix2 (row t i) k) := by
  blk_ext [iblk, V, idx t, row]
theorem blk1 (t : Fin cfg0.N) (i : Fin 512) (k : Fin 256) : (show FVec Ideal S512x256 .f32 from iblk m c 1 t) (ix2 i k) = aP m c (ix2 (row t i) k) := by
  blk_ext [iblk, V, idx t, row]
theorem blk2 (t : Fin cfg0.N) (i : Fin 1024) (k : Fin 1024) : (show FVec Ideal S1024x1024 .bf16 from iblk m c 2 t) (ix2 i k) = aWg m c (ix2 i k) := by
  blk_simp [iblk, idx t]; entry_read; pointwise; blk_ext [idx t]
theorem blk3 (t : Fin cfg0.N) (k : Fin 1024) : (show FVec Ideal S1x1024 .f32 from iblk m c 3 t) (ix2 0 k) = aBg m c (ix1 k) := by
  blk_simp [iblk, idx t]; entry_read; pointwise; blk_ext [idx t]
theorem blk4 (t : Fin cfg0.N) (i : Fin 256) (k : Fin 1024) : (show FVec Ideal S256x1024 .bf16 from iblk m c 4 t) (ix2 i k) = aWp m c (ix2 i k) := by
  blk_simp [iblk, idx t]; entry_read; pointwise; blk_ext [idx t]

theorem key (t : Fin cfg0.N) (i : Fin 512) (j : Fin 1024) :
    k0_pay1 (F := Ideal) (iblk m c 0 t) (iblk m c 2 t) (iblk m c 3 t) (iblk m c 1 t) (iblk m c 4 t) (ix2 i j)
      = emb (aX m c) (aP m c) (aWg m c) (aBg m c) (aWp m c) (ix2 (row t i) j) := by
  have e0 := blk0 m c t
  have e1 := blk1 m c t
  have e2 := blk2 m c t
  have e3 := blk3 m c t
  have e4 := blk4 m c t
  pointwise [k0_pay1]
  simp only [e0, e1, e2, e3, e4, zero_add]
  rfl

theorem final5 : (dats m 0 c).arrAt 5 cfg0.N = emb (aX m c) (aP m c) (aWg m c) (aBg m c) (aWp m c) := by
  refine (dats m 0 c).arrAt_eq_of_covers 5 _ (by decide +kernel) fun t _ y => ?_
  have e : ((cfg0.win 5).blk t).view.emb y = (ix2 (row t (y 0)) (y 1) : S8192x1024.Idx) := by blk_ext [row, idx t]
  rw [e]
  blk_simp
  rw [after0_5]
  frame_out
  exact (congrArg _ (eq_ix2 y)).trans (key m c t (y 0) (y 1))

theorem final6 : (dats m 0 c).arrAt 6 cfg0.N = emb (aX m c) (aP m c) (aWg m c) (aBg m c) (aWp m c) := by
  refine (dats m 0 c).arrAt_eq_of_covers 6 _ (by decide +kernel) fun t _ y => ?_
  have e : ((cfg0.win 6).blk t).view.emb y = (ix2 (row t (y 0)) (y 1) : S8192x1024.Idx) := by blk_ext [row, idx t]
  rw [e]
  blk_simp
  rw [after0_6]
  frame_out
  exact (congrArg _ (eq_ix2 y)).trans (key m c t (y 0) (y 1))

end Cert.PleFwdIdeal.Pl

end
-- ==== Proof.PleFwdRuns.lean ====
/- The runs of the gated embedding's kernel and of its reference: both end with the same two arrays. -/
module

public import proofs.«01_k».proof.Proof.PleFwd

@[expose] public section

set_option maxRecDepth 16384

noncomputable section

open Idealize.ShloMosaic Idealize.ShloMosaic.TcCoe Idealize.SL.Sem

namespace Cert.PleFwdIdeal.Pl

open Cert.PleFwdIdeal Cert.PleFwdIdeal.Gen Cert.Emb

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = emb (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = emb (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans (final5 m c),
      (hr c).2.1.trans (final6 m c),
      (hr c).2.2⟩)
    (Value.run_blocks m ρ)

end Cert.PleFwdIdeal.Pl

namespace Cert.PleFwdRefIdeal.Pl

open Cert.PleFwdRefIdeal Cert.PleFwdRefIdeal.Gen Cert.PleFwdRefIdeal.Read Cert.Emb

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = emb (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13) = emb (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans ((val_main_v12_eq _ _ _ _ _).trans (v12 _ _ _ _ _)),
      (hr c).2.1.trans ((val_main_v13_eq _ _ _ _ _).trans (v12 _ _ _ _ _)),
      (hr c).2.2⟩)
    (Cert.PleFwdRefIdeal.Value.run m ρ)

end Cert.PleFwdRefIdeal.Pl

end
-- ==== Proof.NormFwd.lean ====
/- The layer norm of a row, as both the kernels and the references write it. -/
module

public import proofs.«01_k».proof.Proof.Lift

@[expose] public section

set_option maxRecDepth 16384

noncomputable section

open Idealize.ShloMosaic Idealize.ShloMosaic.TcCoe Idealize.SL.Sem
open Idealize.ShloMosaic.Pipeline (Dat)

namespace Cert.Norm

/-- A row less its mean. -/
def cenE (z : Fin 1024 → EReal) (j : Fin 1024) : EReal := z j - Ideal.div (∑ k, z k) (Ideal.ofBits .f32 0x44800000#32)
/-- One over the root of a row's variance. -/
def rsE (z : Fin 1024 → EReal) : EReal :=
  Ideal.rsqrt (Ideal.div (∑ k, cenE z k * cenE z k) (Ideal.ofBits .f32 0x44800000#32) + Ideal.ofBits .f32 0x3727C5AC#32)
/-- The norm of a row, scaled and shifted. -/
def normE (z g b : Fin 1024 → EReal) (j : Fin 1024) : EReal := cenE z j * rsE z * g j + b j

/-- The norm of every row of an array. -/
def normA (z : (⟨2, ![8192, 1024]⟩ : Shape).Idx → EReal) (g b : (⟨1, ![1024]⟩ : Shape).Idx → EReal) : (⟨2, ![8192, 1024]⟩ : Shape).Idx → EReal := fun y =>
  normE (fun k => z (ix2 (y 0) k)) (fun k => g (ix1 k)) (fun k => b (ix1 k)) (y 1)

end Cert.Norm

end
-- ==== Proof.FfnFwd.lean ====
/- The gated feed-forward with its residual and its norm: the arrays its kernel and its reference leave. -/
module

public import proofs.«01_k».proof.Proof.NormFwd
public import proofs.«01_k».proof.Proof.Gen.FfnFwdIdeal.Value
public import proofs.«01_k».proof.Proof.Gen.FfnFwdRefIdeal.Run
public import proofs.«01_k».proof.Proof.Gen.FfnFwdRefIdeal.Read

@[expose] public section

set_option maxRecDepth 16384

noncomputable section

open Idealize.ShloMosaic Idealize.ShloMosaic.TcCoe Idealize.SL.Sem
open Idealize.ShloMosaic.Pipeline (Dat)

namespace Cert.Ffn

/-- One hidden unit of a row: the gate under its activation times the other half. -/
def unit (x g u : Fin 1024 → EReal) : EReal := (∑ k, x k * g k) * Ideal.logistic (∑ k, x k * g k) * ∑ k, x k * u k

/-- The residual stream and half the feed-forward. -/
def sumF (x : (⟨2, ![8192, 1024]⟩ : Shape).Idx → EReal) (wg wu : (⟨2, ![1024, 2816]⟩ : Shape).Idx → EReal) (wd : (⟨2, ![2816, 1024]⟩ : Shape).Idx → EReal) :
    (⟨2, ![8192, 1024]⟩ : Shape).Idx → EReal := fun y =>
  Ideal.ofBits .f32 0x3FB504F3#32 * x y + Ideal.ofBits .f32 0x3F000000#32
    * ∑ q, unit (fun k => x (ix2 (y 0) k)) (fun k => wg (ix2 k q)) (fun k => wu (ix2 k q)) * wd (ix2 q (y 1))

end Cert.Ffn

namespace Cert.FfnFwdRefIdeal.Ff

open Cert.FfnFwdRefIdeal Cert.FfnFwdRefIdeal.Gen Cert.FfnFwdRefIdeal.Read Cert.Norm Cert.Ffn

variable (x : FVec Ideal S8192x1024 .f32) (wg wu : FVec Ideal S1024x2816 .f32) (wd : FVec Ideal S2816x1024 .f32) (g b : FVec Ideal S1024 .f32)

theorem v9 : val_main_v9 (F := Ideal) x wg wu wd = sumF x wg wu wd := by
  funext y
  idx_vars y
  pointwise [val_main_v9, val_main_v8, val_main_v7, val_main_v6, val_main_v5, val_main_v4, val_main_v3, val_main_call0_v5, val_main_call0_v4, val_main_call0_v3, val_main_call0_v2, val_main_call0_v1, val_main_call0_v0, val_main_call0_cst, val_main_call0_cst_0, val_main_v2, val_main_v1, val_main_v0, val_main_cst, val_main_cst_0, sumF, unit, Ideal.logistic]

theorem v15 (i : Fin 8192) (j : Fin 1024) : val_main_v15 (F := Ideal) x wg wu wd (ix2 i j) = cenE (fun k => sumF x wg wu wd (ix2 i k)) j := by
  pointwise [val_main_v15, val_main_v14, val_main_v13, val_main_v12, val_main_v11, val_main_v10, val_main_cst_1, val_main_cst_2]
  simp only [v9, zero_add]
  rfl
theorem v22 (i : Fin 8192) (j : Fin 1024) : val_main_v22 (F := Ideal) x wg wu wd (ix2 i j) = cenE (fun k => sumF x wg wu wd (ix2 i k)) j :=
  v15 x wg wu wd i j
theorem v25 (i : Fin 8192) : val_main_v25 (F := Ideal) x wg wu wd (ix2 i 0) = rsE (fun k => sumF x wg wu wd (ix2 i k)) := by
  pointwise [val_main_v25, val_main_v24, val_main_v23, val_main_v20, val_main_v19, val_main_v18, val_main_v17, val_main_v16, val_main_cst_3, val_main_cst_4, val_main_cst_5]
  simp only [v15, zero_add]
  rfl

theorem v33 : val_main_v33 (F := Ideal) x wg wu wd g b = normA (sumF x wg wu wd) g b := by
  funext y
  idx_vars y
  have e := v22 x wg wu wd y0 y1
  have e' := v25 x wg wu wd y0
  pointwise [val_main_v33, val_main_v32, val_main_v31, val_main_v30, val_main_v29, val_main_v28, val_main_v27, val_main_v26]
  exact congrArg₂ (· + ·) (congrArg₂ (· * ·) (congrArg₂ (· * ·) e e') rfl) rfl

end Cert.FfnFwdRefIdeal.Ff

namespace Cert.FfnFwdIdeal.Ff

open Cert.FfnFwdIdeal Cert.FfnFwdIdeal.Gen Cert.Norm Cert.Ffn

/-- A slab's columns in the three ranges the body takes. -/
theorem ranges (f : Fin 704 → EReal) : ∑ q, f q = (∑ q : Fin 256, f ⟨0 + q.val, by omega⟩) + (∑ q : Fin 256, f ⟨256 + q.val, by omega⟩) + ∑ q : Fin 192, f ⟨512 + q.val, by omega⟩ := by
  refine (Fin.sum_univ_add (a := 512) (b := 192) f).trans (congrArg₂ (· + ·) ((Fin.sum_univ_add (a := 256) (b := 256) _).trans (congrArg₂ (· + ·) ?_ ?_)) ?_)
  · exact Finset.sum_congr rfl fun q _ => congrArg f (Fin.ext (Nat.zero_add _).symm)
  · exact Finset.sum_congr rfl fun q _ => congrArg f (Fin.ext rfl)
  · exact Finset.sum_congr rfl fun q _ => congrArg f (Fin.ext rfl)

theorem ld_cols {o n : ℕ} (p : o + n ≤ 704) (x : FVec Ideal S1x1024x704 .bf16) (q) (k : Fin 1024) (j : Fin n) :
    x ((Rect.unit (s := S1x1024x704) ![0, 0, o] ![1, 1024, n] q).idx (ix3 0 k j)) = x (ix3 0 k ⟨o + j.val, by omega⟩) := by
  refine congrArg x (funext fun a => Fin.ext ((Rect.idx_unit_val _ _ _ _ a).trans ?_))
  fin_cases a
  · exact Nat.zero_add _
  · exact Nat.zero_add _
  · rfl
theorem ld_rows {o n : ℕ} (p : o + n ≤ 704) (x : FVec Ideal S1x704x1024 .bf16) (q) (k : Fin 1024) (j : Fin n) :
    x ((Rect.unit (s := S1x704x1024) ![0, o, 0] ![1, n, 1024] q).idx (ix3 0 j k)) = x (ix3 0 ⟨o + j.val, by omega⟩ k) := by
  refine congrArg x (funext fun a => Fin.ext ((Rect.idx_unit_val _ _ _ _ a).trans ?_))
  fin_cases a
  · exact Nat.zero_add _
  · rfl
  · exact Nat.zero_add _

/-- A range of columns of the weights, as a body's step reads it. -/
structure Part (n o : ℕ) (p : o + n ≤ 704) (G U : Fin 1024 → Fin 704 → EReal) (D : Fin 704 → Fin 1024 → EReal) (g u : (⟨3, ![1, 1024, n]⟩ : Shape).Idx → EReal)
    (d : (⟨3, ![1, n, 1024]⟩ : Shape).Idx → EReal) : Prop where
  g : ∀ k (q : Fin n), g (ix3 0 k q) = G k ⟨o + q.val, by omega⟩
  u : ∀ k (q : Fin n), u (ix3 0 k q) = U k ⟨o + q.val, by omega⟩
  d : ∀ (q : Fin n) j, d (ix3 0 q j) = D ⟨o + q.val, by omega⟩ j

theorem part (x : FVec Ideal S1024x1024 .f32) (g0 u0 g1 u1 : FVec Ideal S1x1024x256 .bf16) (d0 d1 : FVec Ideal S1x256x1024 .bf16) (g2 u2 : FVec Ideal S1x1024x192 .bf16)
    (d2 : FVec Ideal S1x192x1024 .bf16) (X : Fin 1024 → EReal) (G U : Fin 1024 → Fin 704 → EReal) (D : Fin 704 → Fin 1024 → EReal) (i j : Fin 1024)
    (hx : ∀ k, x (ix2 i k) = X k) (h0 : Part 256 0 (by omega) G U D g0 u0 d0) (h1 : Part 256 256 (by omega) G U D g1 u1 d1) (h2 : Part 192 512 (by omega) G U D g2 u2 d2) :
    k0_pay1 (F := Ideal) (k0_pay8 x g1) (k0_pay9 x u1) (k0_pay10 x g0 u0 d0) (k0_pay11 x g2) (k0_pay12 x u2) (k0_pay13 x g1) d1 d2 (ix2 i j)
      = ∑ q, unit X (fun k => G k q) (fun k => U k q) * D q j := by
  pointwise [k0_pay1, k0_pay8, k0_pay9, k0_pay10, k0_pay11, k0_pay12, k0_pay13, k0_pay7]
  simp only [hx, h0.g, h0.u, h0.d, h1.g, h1.u, h1.d, h2.g, h2.u, h2.d, zero_add]
  rw [ranges]
  rfl

theorem p2 (a1 a2 a3 a4 a5 a6 a7 a8) (y : S1024x1024.Idx) : k0_pay2 (F := Ideal) a1 a2 a3 a4 a5 a6 a7 a8 y = k0_pay1 (F := Ideal) a1 a2 a3 a4 a5 a6 a7 a8 y := by pointwise [k0_pay2]
theorem p3 (a1 a2 a3 a4 a5 a6 a7 a8 a9) (y : S1024x1024.Idx) : k0_pay3 (F := Ideal) a1 a2 a3 a4 a5 a6 a7 a8 a9 y = a9 y + k0_pay1 (F := Ideal) a1 a2 a3 a4 a5 a6 a7 a8 y := by pointwise [k0_pay3]

section rows
variable (x a : FVec Ideal S1024x1024 .f32) (g b : FVec Ideal S1x1024 .f32) (i : Fin 1024) (Z : Fin 1024 → EReal)
variable (h : ∀ j, k0_pay4 (F := Ideal) x a (ix2 i j) = Z j)
include h
theorem pay5 (j : Fin 1024) : k0_pay5 (F := Ideal) x a g b (ix2 i j) = normE Z (fun k => g (ix2 0 k)) (fun k => b (ix2 0 k)) j := by
  pointwise [k0_pay5]
  simp only [h, zero_add]
  rfl
end rows

variable (m : (ℓ : Loc nD τ sig) → Buf (Elt Ideal) ℓ) (c : Dev nD)

theorem idx : ∀ t : Fin cfg0.N, win0_0.index t = ![t.val / 4, 0] ∧ win0_1.index t = ![t.val % 4, 0, 0] ∧ win0_2.index t = ![t.val % 4, 0, 0] ∧ win0_3.index t = ![t.val % 4, 0, 0]
    ∧ win0_4.index t = ![0, 0] ∧ win0_5.index t = ![0, 0] ∧ win0_6.index t = ![t.val / 4, 0] ∧ win0_7.index t = ![t.val / 4, 0] ∧ win0_8.index t = ![t.val / 4, 0] :=
  (by decide +kernel : ∀ t : Fin grid0.N, _)

/-- Row `i` of grid point `t`, its slab of columns, and a column of a slab. -/
def row (t : Fin cfg0.N) (i : Fin 1024) : Fin 8192 := ⟨t.val / 4 * 1024 + i.val, by have := lt_of_lt_of_eq t.isLt N_0; omega⟩
def slab (t : Fin cfg0.N) : Fin 4 := ⟨t.val % 4, by omega⟩
def col (s : Fin 4) (k : Fin 704) : Fin 2816 := ⟨s.val * 704 + k.val, by omega⟩

abbrev aX : FVec Ideal S8192x1024 .f32 := m ((c : Thread nD τ).loc main_arg0)
abbrev aWg : FVec Ideal S1024x2816 .f32 := m ((c : Thread nD τ).loc main_arg1)
abbrev aWu : FVec Ideal S1024x2816 .f32 := m ((c : Thread nD τ).loc main_arg2)
abbrev aWd : FVec Ideal S2816x1024 .f32 := m ((c : Thread nD τ).loc main_arg3)
abbrev aG : FVec Ideal S1024 .f32 := m ((c : Thread nD τ).loc main_arg4)
abbrev aB : FVec Ideal S1024 .f32 := m ((c : Thread nD τ).loc main_arg5)

theorem blk0 (t : Fin cfg0.N) (i : Fin 1024) (k : Fin 1024) : (show FVec Ideal S1024x1024 .f32 from iblk m c 0 t) (ix2 i k) = aX m c (ix2 (row t i) k) := by
  blk_ext [iblk, V, idx t, row]
theorem blk1 (t : Fin cfg0.N) (i : Fin 1024) (k : Fin 704) : (show FVec Ideal S1x1024x704 .bf16 from iblk m c 1 t) (ix3 0 i k) = aWg m c (ix2 i (col (slab t) k)) := by
  blk_simp [iblk, idx t]; entry_read; pointwise; blk_ext [idx t, slab, col]
theorem blk2 (t : Fin cfg0.N) (i : Fin 1024) (k : Fin 704) : (show FVec Ideal S1x1024x704 .bf16 from iblk m c 2 t) (ix3 0 i k) = aWu m c (ix2 i (col (slab t) k)) := by
  blk_simp [iblk, idx t]; entry_read; pointwise; blk_ext [idx t, slab, col]
theorem blk3 (t : Fin cfg0.N) (k : Fin 704) (i : Fin 1024) : (show FVec Ideal S1x704x1024 .bf16 from iblk m c 3 t) (ix3 0 k i) = aWd m c (ix2 (col (slab t) k) i) := by
  blk_simp [iblk, idx t]; entry_read; pointwise; blk_ext [idx t, slab, col]
theorem blk4 (t : Fin cfg0.N) (k : Fin 1024) : (show FVec Ideal S1x1024 .f32 from iblk m c 4 t) (ix2 0 k) = aG m c (ix1 k) := by
  blk_simp [iblk, idx t]; entry_read; pointwise; blk_ext [idx t]
theorem blk5 (t : Fin cfg0.N) (k : Fin 1024) : (show FVec Ideal S1x1024 .f32 from iblk m c 5 t) (ix2 0 k) = aB m c (ix1 k) := by
  blk_simp [iblk, idx t]; entry_read; pointwise; blk_ext [idx t]

/-- The product of one hidden unit with the output's weight. -/
def term (r : Fin 8192) (j : Fin 1024) (q : Fin 2816) : EReal :=
  unit (fun k => aX m c (ix2 r k)) (fun k => aWg m c (ix2 k q)) (fun k => aWu m c (ix2 k q)) * aWd m c (ix2 q j)

/-- A grid point's share of the sum. -/
def share (t : Fin cfg0.N) (i j : Fin 1024) : EReal := ∑ q, term m c (row t i) j (col (slab t) q)

theorem range (t : Fin cfg0.N) {n o : ℕ} (p : o + n ≤ 704) (q1) (q2) :
    Part n o p (fun k q => aWg m c (ix2 k (col (slab t) q))) (fun k q => aWu m c (ix2 k (col (slab t) q))) (fun q j => aWd m c (ix2 (col (slab t) q) j))
      (View.ld (show Vec Ideal S1x1024x704 .bf16 from iblk m c 1 t) (Rect.unit (s := S1x1024x704) ![0, 0, o] ![1, 1024, n] q1))
      (View.ld (show Vec Ideal S1x1024x704 .bf16 from iblk m c 2 t) (Rect.unit (s := S1x1024x704) ![0, 0, o] ![1, 1024, n] q1))
      (View.ld (show Vec Ideal S1x704x1024 .bf16 from iblk m c 3 t) (Rect.unit (s := S1x704x1024) ![0, o, 0] ![1, n, 1024] q2)) where
  g k j := (ld_cols p _ _ k j).trans (blk1 m c t k _)
  u k j := (ld_cols p _ _ k j).trans (blk2 m c t k _)
  d j k := (ld_rows p _ _ k j).trans (blk3 m c t _ k)

theorem here (t : Fin cfg0.N) (i j : Fin 1024) :
    k0_pay1 (F := Ideal)
      (k0_pay8 (iblk m c 0 t) (View.ld (iblk m c 1 t) (Rect.unit ![0, 0, 256] ![1, 1024, 256] inb_S1x1024x704_S1x1024x256_0_0_256)))
      (k0_pay9 (iblk m c 0 t) (View.ld (iblk m c 2 t) (Rect.unit ![0, 0, 256] ![1, 1024, 256] inb_S1x1024x704_S1x1024x256_0_0_256)))
      (k0_pay10 (iblk m c 0 t) (View.ld (iblk m c 1 t) (Rect.unit ![0, 0, 0] ![1, 1024, 256] inb_S1x1024x704_S1x1024x256_0_0_0))
        (View.ld (iblk m c 2 t) (Rect.unit ![0, 0, 0] ![1, 1024, 256] inb_S1x1024x704_S1x1024x256_0_0_0))
        (View.ld (iblk m c 3 t) (Rect.unit ![0, 0, 0] ![1, 256, 1024] inb_S1x704x1024_S1x256x1024_0_0_0)))
      (k0_pay11 (iblk m c 0 t) (View.ld (iblk m c 1 t) (Rect.unit ![0, 0, 512] ![1, 1024, 192] inb_S1x1024x704_S1x1024x192_0_0_512)))
      (k0_pay12 (iblk m c 0 t) (View.ld (iblk m c 2 t) (Rect.unit ![0, 0, 512] ![1, 1024, 192] inb_S1x1024x704_S1x1024x192_0_0_512)))
      (k0_pay13 (iblk m c 0 t) (View.ld (iblk m c 1 t) (Rect.unit ![0, 0, 256] ![1, 1024, 256] inb_S1x1024x704_S1x1024x256_0_0_256)))
      (View.ld (iblk m c 3 t) (Rect.unit ![0, 256, 0] ![1, 256, 1024] inb_S1x704x1024_S1x256x1024_0_256_0))
      (View.ld (iblk m c 3 t) (Rect.unit ![0, 512, 0] ![1, 192, 1024] inb_S1x704x1024_S1x192x1024_0_512_0)) (ix2 i j) = share m c t i j :=
  part _ _ _ _ _ _ _ _ _ _ (fun k => aX m c (ix2 (row t i) k)) (fun k q => aWg m c (ix2 k (col (slab t) q))) (fun k q => aWu m c (ix2 k (col (slab t) q)))
    (fun q j => aWd m c (ix2 (col (slab t) q) j)) i j (blk0 m c t i) (range m c t (by omega) inb_S1x1024x704_S1x1024x256_0_0_0 inb_S1x704x1024_S1x256x1024_0_0_0)
    (range m c t (by omega) inb_S1x1024x704_S1x1024x256_0_0_256 inb_S1x704x1024_S1x256x1024_0_256_0)
    (range m c t (by omega) inb_S1x1024x704_S1x1024x192_0_0_512 inb_S1x704x1024_S1x192x1024_0_512_0)

theorem before (t : Fin cfg0.N) : t.val - 1 < cfg0.N := by have := t.isLt; omega

theorem acc_A (t : Fin cfg0.N) (h0 : t.val % 4 = 0) (i j : Fin 1024) : (outsAt0 m c t.val t.isLt).2.2.2 (ix2 i j) = share m c t i j := by
  rw [outsAt0_A m c t h0 (by omega) (by omega)]; frame_out
  exact (p2 _ _ _ _ _ _ _ _ _).trans (here m c t i j)
theorem acc_B (t : Fin cfg0.N) (h0 : ¬t.val % 4 = 0) (i j : Fin 1024) :
    (outsAt0 m c t.val t.isLt).2.2.2 (ix2 i j) = (outsAt0 m c (t.val - 1) (before t)).2.2.2 (ix2 i j) + share m c t i j := by
  by_cases h3 : t.val % 4 = 3
  · rw [outsAt0_C m c t h0 (by omega) h3]; frame_out
    exact (p3 _ _ _ _ _ _ _ _ _ _).trans (congrArg₂ (· + ·) (congrFun (Memref.IsWhole.read_unread _ _) _) (here m c t i j))
  · rw [outsAt0_B m c t h0 (by omega) h3]; frame_out
    exact (p3 _ _ _ _ _ _ _ _ _ _).trans (congrArg₂ (· + ·) (congrFun (Memref.IsWhole.read_unread _ _) _) (here m c t i j))

theorem acc (t : Fin cfg0.N) (h3 : t.val % 4 = 3) (i j : Fin 1024) : (outsAt0 m c t.val t.isLt).2.2.2 (ix2 i j) = ∑ q, term m c (row t i) j q := by
  rw [Pipeline.eq_sum_fin_of_reset_step_apply_of_flush (fun n h => (outsAt0 m c n h).2.2.2) 4 (fun _ => 0) (fun p j => share m c p (j 0) (j 1))
    (fun t h0 j => by rw [zero_add, eq_ix2 j]; exact acc_A m c t h0 _ _)
    (fun t h0 j => by rw [eq_ix2 j]; exact acc_B m c t h0 _ _) t h3, zero_add]
  rw [Fin.sum_univ_tiles 4 704 rfl]
  refine Finset.sum_congr rfl fun s _ => Finset.sum_congr rfl fun q _ => congrArg₂ (fun r q => term m c r j q) (Fin.ext ?_) (Fin.ext ?_)
  · show (4 * (t.val / 4) + s.val) / 4 * 1024 + i.val = t.val / 4 * 1024 + i.val; omega
  · show (4 * (t.val / 4) + s.val) % 4 * 704 + q.val = s.val * 704 + q.val; omega

abbrev sumA := sumF (aX m c) (aWg m c) (aWu m c) (aWd m c)

theorem pay4 (t : Fin cfg0.N) (h3 : t.val % 4 = 3) (a : FVec Ideal S1024x1024 .f32) (i : Fin 1024)
    (h : ∀ j, a (ix2 i j) = (outsAt0 m c t.val t.isLt).2.2.2 (ix2 i j)) (j : Fin 1024) :
    k0_pay4 (F := Ideal) (iblk m c 0 t) a (ix2 i j) = sumA m c (ix2 (row t i) j) := by
  have e := blk0 m c t i j
  have e' := (h j).trans (acc m c t h3 i j)
  pointwise [k0_pay4]
  exact congrArg₂ (· + ·) (congrArg₂ (· * ·) rfl e) (congrArg₂ (· * ·) rfl e')

theorem out6 (t : Fin cfg0.N) (h3 : t.val % 4 = 3) (i j : Fin 1024) : (outsAt0 m c t.val t.isLt).1 (ix2 i j) = normA (sumA m c) (aG m c) (aB m c) (ix2 (row t i) j) := by
  have h0 : ¬t.val % 4 = 0 := by omega
  rw [outsAt0_C m c t h0 (by omega) h3]; frame_out
  refine (pay5 _ _ _ _ i _ (pay4 m c t h3 _ i (fun j => ((p3 _ _ _ _ _ _ _ _ _ _).trans (congrArg₂ (· + ·) (congrFun (Memref.IsWhole.read_unread _ _) _) (here m c t i j))).trans (acc_B m c t h0 i j).symm)) j).trans ?_
  exact congrArg₂ (fun g b => normE _ g b j) (funext fun k => blk4 m c t k) (funext fun k => blk5 m c t k)
theorem out7 (t : Fin cfg0.N) (h3 : t.val % 4 = 3) (i j : Fin 1024) : (outsAt0 m c t.val t.isLt).2.1 (ix2 i j) = sumA m c (ix2 (row t i) j) := by
  have h0 : ¬t.val % 4 = 0 := by omega
  rw [outsAt0_C m c t h0 (by omega) h3]; frame_out
  exact pay4 m c t h3 _ i (fun j => ((p3 _ _ _ _ _ _ _ _ _ _).trans (congrArg₂ (· + ·) (congrFun (Memref.IsWhole.read_unread _ _) _) (here m c t i j))).trans (acc_B m c t h0 i j).symm) j
theorem out8 (t : Fin cfg0.N) (h3 : t.val % 4 = 3) (i j : Fin 1024) : (outsAt0 m c t.val t.isLt).2.2.1 (ix2 i j) = normA (sumA m c) (aG m c) (aB m c) (ix2 (row t i) j) := by
  have h0 : ¬t.val % 4 = 0 := by omega
  rw [outsAt0_C m c t h0 (by omega) h3]; frame_out
  refine (pay5 _ _ _ _ i _ (pay4 m c t h3 _ i (fun j => ((p3 _ _ _ _ _ _ _ _ _ _).trans (congrArg₂ (· + ·) (congrFun (Memref.IsWhole.read_unread _ _) _) (here m c t i j))).trans (acc_B m c t h0 i j).symm)) j).trans ?_
  exact congrArg₂ (fun g b => normE _ g b j) (funext fun k => blk4 m c t k) (funext fun k => blk5 m c t k)
theorem final6 : (dats m 0 c).arrAt 6 cfg0.N = normA (sumA m c) (aG m c) (aB m c) := by
  refine (dats m 0 c).arrAt_eq_of_covers 6 _ (by decide +kernel) fun t hf y => ?_
  have e : ((cfg0.win 6).blk t).view.emb y = (ix2 (row t (y 0)) (y 1) : S8192x1024.Idx) := by blk_ext [row, idx t]
  have h3 := (flush0_6 t).mp hf
  rw [e]
  blk_simp
  rw [after0_6]
  exact (congrArg _ (eq_ix2 y)).trans (out6 m c t h3 (y 0) (y 1))
theorem final7 : (dats m 0 c).arrAt 7 cfg0.N = sumA m c := by
  refine (dats m 0 c).arrAt_eq_of_covers 7 _ (by decide +kernel) fun t hf y => ?_
  have e : ((cfg0.win 7).blk t).view.emb y = (ix2 (row t (y 0)) (y 1) : S8192x1024.Idx) := by blk_ext [row, idx t]
  have h3 := (flush0_7 t).mp hf
  rw [e]
  blk_simp
  rw [after0_7]
  exact (congrArg _ (eq_ix2 y)).trans (out7 m c t h3 (y 0) (y 1))
theorem final8 : (dats m 0 c).arrAt 8 cfg0.N = normA (sumA m c) (aG m c) (aB m c) := by
  refine (dats m 0 c).arrAt_eq_of_covers 8 _ (by decide +kernel) fun t hf y => ?_
  have e : ((cfg0.win 8).blk t).view.emb y = (ix2 (row t (y 0)) (y 1) : S8192x1024.Idx) := by blk_ext [row, idx t]
  have h3 := (flush0_8 t).mp hf
  rw [e]
  blk_simp
  rw [after0_8]
  exact (congrArg _ (eq_ix2 y)).trans (out8 m c t h3 (y 0) (y 1))

end Cert.FfnFwdIdeal.Ff

end
-- ==== Proof.FfnFwdRuns.lean ====
/- The runs of the feed-forward's kernel and of its reference: both end with the same three arrays. -/
module

public import proofs.«01_k».proof.Proof.FfnFwd

@[expose] public section

set_option maxRecDepth 16384

noncomputable section

open Idealize.ShloMosaic Idealize.ShloMosaic.TcCoe Idealize.SL.Sem

namespace Cert.FfnFwdIdeal.Ff

open Cert.FfnFwdIdeal Cert.FfnFwdIdeal.Gen Cert.Norm Cert.Ffn

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v10_0) = normA (sumF (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_v10_1) = sumF (m ((c : Thread nD τ).loc main_arg0)) (m ((c : Thread nD τ).loc main_arg1)) (m ((c : Thread nD τ).loc main_arg2)) (m ((c : Thread nD τ).loc main_arg3))
      ∧ r.2.mem ((c : Thread nD τ).loc main_v10_2) = normA (sumF (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr c).1.trans (final6 m c),
      (hr c).2.1.trans (final7 m c),
      (hr c).2.2.1.trans (final8 m c),
      (hr c).2.2.2⟩)
    (Value.run_blocks m ρ)

end Cert.FfnFwdIdeal.Ff

namespace Cert.FfnFwdRefIdeal.Ff

open Cert.FfnFwdRefIdeal Cert.FfnFwdRefIdeal.Gen Cert.FfnFwdRefIdeal.Read Cert.Norm Cert.Ffn

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v33) = normA (sumF (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_v9) = sumF (m ((c : Thread nD τ).loc main_arg0)) (m ((c : Thread nD τ).loc main_arg1)) (m ((c : Thread nD τ).loc main_arg2)) (m ((c : Thread nD τ).loc main_arg3))
      ∧ r.2.mem ((c : Thread nD τ).loc main_v34) = normA (sumF (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr c).1.trans ((val_main_v33_eq _ _).trans (v33 _ _ _ _ _ _)),
      (hr c).2.1.trans ((val_main_v9_eq _ _ _ _).trans (v9 _ _ _ _)),
      (hr c).2.2.1.trans ((val_main_v34_eq _ _).trans (v33 _ _ _ _ _ _)),
      (hr c).2.2.2⟩)
    (Cert.FfnFwdRefIdeal.Value.run m ρ)

end Cert.FfnFwdRefIdeal.Ff

end
-- ==== Proof.ProjLn.lean ====
/- The output projection with its residual and its norm: the arrays its kernel and its reference leave. -/
module

public import proofs.«01_k».proof.Proof.NormFwd
public import proofs.«01_k».proof.Proof.Gen.ProjLnIdeal.Value
public import proofs.«01_k».proof.Proof.Gen.ProjLnRefIdeal.Run
public import proofs.«01_k».proof.Proof.Gen.ProjLnRefIdeal.Read

@[expose] public section

set_option maxRecDepth 16384

noncomputable section

open Idealize.ShloMosaic Idealize.ShloMosaic.TcCoe Idealize.SL.Sem
open Idealize.ShloMosaic.Pipeline (Dat)

namespace Cert.Proj

/-- The residual stream and the two halves' products with the weight. -/
def sumE (ya yb : (⟨2, ![8192, 512]⟩ : Shape).Idx → EReal) (w : (⟨2, ![1024, 1024]⟩ : Shape).Idx → EReal) (x : (⟨2, ![8192, 1024]⟩ : Shape).Idx → EReal) :
    (⟨2, ![8192, 1024]⟩ : Shape).Idx → EReal := fun y =>
  Ideal.ofBits .f32 0x3FB504F3#32 * x y + (∑ k : Fin 512, ya (ix2 (y 0) k) * w (ix2 ⟨k.val, by omega⟩ (y 1)))
    + ∑ k : Fin 512, yb (ix2 (y 0) k) * w (ix2 ⟨512 + k.val, by omega⟩ (y 1))

end Cert.Proj

namespace Cert.ProjLnRefIdeal.Pj

open Cert.ProjLnRefIdeal Cert.ProjLnRefIdeal.Gen Cert.ProjLnRefIdeal.Read Cert.Norm Cert.Proj

variable (ya yb : FVec Ideal S8192x512 .f32) (w : FVec Ideal S1024x1024 .f32) (x : FVec Ideal S8192x1024 .f32) (g b : FVec Ideal S1024 .f32)

theorem left (hc) (i : Fin 8192) (k : Fin 512) :
    concatenate S8192x1024 1 [⟨S8192x512, ya⟩, ⟨S8192x512, yb⟩] hc (ix2 i ⟨k.val, by omega⟩) = ya (ix2 i k) := by
  refine concatenate_pair_apply_left 1 ya yb hc _ rfl (ix2 i k) ?_
  intro a; match a with
  | ⟨0, _⟩ => rfl
  | ⟨1, _⟩ => rfl
theorem right (hc) (i : Fin 8192) (k : Fin 512) :
    concatenate S8192x1024 1 [⟨S8192x512, ya⟩, ⟨S8192x512, yb⟩] hc (ix2 i ⟨512 + k.val, by omega⟩) = yb (ix2 i k) := by
  refine concatenate_pair_apply_right 1 ya yb hc _ rfl rfl (ix2 i k) ?_ (Nat.add_comm _ _)
  intro a ha; match a, ha with
  | ⟨0, _⟩, _ => rfl
  | ⟨1, _⟩, ha => exact absurd rfl ha

theorem halves (f : Fin 1024 → EReal) : ∑ k, f k = (∑ k : Fin 512, f ⟨k.val, by omega⟩) + ∑ k : Fin 512, f ⟨512 + k.val, by omega⟩ := by
  rw [Fin.sum_univ_tiles 2 512 rfl, Fin.sum_univ_two]
  refine congrArg₂ (· + ·) (Finset.sum_congr rfl fun k _ => congrArg f (Fin.ext ?_)) (Finset.sum_congr rfl fun k _ => congrArg f (Fin.ext ?_))
  · show 0 * 512 + k.val = k.val; omega
  · show 1 * 512 + k.val = 512 + k.val; omega

theorem v4 : val_main_v4 (F := Ideal) ya yb w x = sumE ya yb w x := by
  funext y
  idx_vars y
  pointwise [val_main_v4, val_main_v3, val_main_v1, val_main_v0, val_main_cst]
  unfold sumE
  rw [add_assoc, halves]
  refine congrArg₂ (· + ·) rfl (congrArg₂ (· + ·) (Finset.sum_congr rfl fun k _ => ?_) (Finset.sum_congr rfl fun k _ => ?_))
  · exact congrArg₂ (· * ·) (left ya yb _ _ k) rfl
  · exact congrArg₂ (· * ·) (right ya yb _ _ k) rfl

theorem v10 (i : Fin 8192) (j : Fin 1024) : val_main_v10 (F := Ideal) ya yb w x (ix2 i j) = cenE (fun k => sumE ya yb w x (ix2 i k)) j := by
  pointwise [val_main_v10, val_main_v9, val_main_v8, val_main_v7, val_main_v6, val_main_v5, val_main_cst_0, val_main_cst_1]
  simp only [v4, zero_add]
  rfl
theorem v17 (i : Fin 8192) (j : Fin 1024) : val_main_v17 (F := Ideal) ya yb w x (ix2 i j) = cenE (fun k => sumE ya yb w x (ix2 i k)) j :=
  v10 ya yb w x i j
theorem v20 (i : Fin 8192) : val_main_v20 (F := Ideal) ya yb w x (ix2 i 0) = rsE (fun k => sumE ya yb w x (ix2 i k)) := by
  pointwise [val_main_v20, val_main_v19, val_main_v18, val_main_v15, val_main_v14, val_main_v13, val_main_v12, val_main_v11, val_main_cst_2, val_main_cst_3, val_main_cst_4]
  simp only [v10, zero_add]
  rfl

theorem v28 : val_main_v28 (F := Ideal) ya yb w x g b = normA (sumE ya yb w x) g b := by
  funext y
  idx_vars y
  have e := v17 ya yb w x y0 y1
  have e' := v20 ya yb w x y0
  pointwise [val_main_v28, val_main_v27, val_main_v26, val_main_v25, val_main_v24, val_main_v23, val_main_v22, val_main_v21]
  exact congrArg₂ (· + ·) (congrArg₂ (· * ·) (congrArg₂ (· * ·) e e') rfl) rfl

end Cert.ProjLnRefIdeal.Pj

namespace Cert.ProjLnIdeal.Pj

open Cert.ProjLnIdeal Cert.ProjLnIdeal.Gen Cert.Norm Cert.Proj

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ win0_8.index t = ![t.val, 0]
    ∧ win0_9.index t = ![t.val, 0] :=
  (by decide +kernel : ∀ t : Fin grid0.N, _)

/-- Row `i` of grid point `t`. -/
def row (t : Fin cfg0.N) (i : Fin 256) : Fin 8192 := ⟨t.val * 256 + i.val, by have := lt_of_lt_of_eq t.isLt N_0; omega⟩

abbrev aYa : FVec Ideal S8192x512 .f32 := m ((c : Thread nD τ).loc main_arg0)
abbrev aYb : FVec Ideal S8192x512 .f32 := m ((c : Thread nD τ).loc main_arg1)
abbrev aW : FVec Ideal S1024x1024 .f32 := m ((c : Thread nD τ).loc main_arg2)
abbrev aX : FVec Ideal S8192x1024 .f32 := m ((c : Thread nD τ).loc main_arg3)
abbrev aG : FVec Ideal S1024 .f32 := m ((c : Thread nD τ).loc main_arg4)
abbrev aB : FVec Ideal S1024 .f32 := m ((c : Thread nD τ).loc main_arg5)

theorem blk0 (t : Fin cfg0.N) (i : Fin 256) (k : Fin 512) : (show FVec Ideal S256x512 .f32 from iblk m c 0 t) (ix2 i k) = aYa m c (ix2 (row t i) k) := by
  blk_ext [iblk, V, idx t, row]
theorem blk1 (t : Fin cfg0.N) (i : Fin 256) (k : Fin 512) : (show FVec Ideal S256x512 .f32 from iblk m c 1 t) (ix2 i k) = aYb m c (ix2 (row t i) k) := by
  blk_ext [iblk, V, idx t, row]
theorem blk2 (t : Fin cfg0.N) (i : Fin 512) (k : Fin 1024) : (show FVec Ideal S512x1024 .bf16 from iblk m c 2 t) (ix2 i k) = aW m c (ix2 ⟨i.val, by omega⟩ k) := by
  blk_simp [iblk, idx t]; entry_read; pointwise; blk_ext [idx t]
theorem blk3 (t : Fin cfg0.N) (i : Fin 512) (k : Fin 1024) : (show FVec Ideal S512x1024 .bf16 from iblk m c 3 t) (ix2 i k) = aW m c (ix2 ⟨512 + i.val, by omega⟩ k) := by
  blk_simp [iblk, idx t]; entry_read; pointwise; blk_ext [idx t]
theorem blk4 (t : Fin cfg0.N) (i : Fin 256) (k : Fin 1024) : (show FVec Ideal S256x1024 .f32 from iblk m c 4 t) (ix2 i k) = aX m c (ix2 (row t i) k) := by
  blk_ext [iblk, V, idx t, row]
theorem blk5 (t : Fin cfg0.N) (k : Fin 1024) : (show FVec Ideal S1x1024 .f32 from iblk m c 5 t) (ix2 0 k) = aG m c (ix1 k) := by
  blk_simp [iblk, idx t]; entry_read; pointwise; blk_ext [idx t]
theorem blk6 (t : Fin cfg0.N) (k : Fin 1024) : (show FVec Ideal S1x1024 .f32 from iblk m c 6 t) (ix2 0 k) = aB m c (ix1 k) := by
  blk_simp [iblk, idx t]; entry_read; pointwise; blk_ext [idx t]

/-- The sum of the arguments. -/
abbrev sumA := sumE (aYa m c) (aYb m c) (aW m c) (aX m c)

theorem pay3 (t : Fin cfg0.N) (i : Fin 256) (j : Fin 1024) :
    k0_pay3 (F := Ideal) (iblk m c 4 t) (iblk m c 0 t) (iblk m c 2 t) (iblk m c 1 t) (iblk m c 3 t) (ix2 i j) = sumA m c (ix2 (row t i) j) := by
  have e0 := blk0 m c t
  have e1 := blk1 m c t
  have e2 := blk2 m c t
  have e3 := blk3 m c t
  have e4 := blk4 m c t
  pointwise [k0_pay3]
  simp only [e0, e1, e2, e3, e4, zero_add]
  rfl
theorem pay6 (t : Fin cfg0.N) (i : Fin 256) (j : Fin 1024) :
    k0_pay6 (F := Ideal) (iblk m c 4 t) (iblk m c 0 t) (iblk m c 2 t) (iblk m c 1 t) (iblk m c 3 t) (ix2 i j) = cenE (fun k => sumA m c (ix2 (row t i) k)) j := by
  have e := pay3 m c t
  pointwise [k0_pay6]
  simp only [e, zero_add]
  rfl
theorem pay7 (t : Fin cfg0.N) (i : Fin 256) :
    k0_pay7 (F := Ideal) (iblk m c 4 t) (iblk m c 0 t) (iblk m c 2 t) (iblk m c 1 t) (iblk m c 3 t) (ix2 i 0) = rsE (fun k => sumA m c (ix2 (row t i) k)) := by
  have e := pay6 m c t
  pointwise [k0_pay7]
  simp only [e, zero_add]
  rfl
theorem pay1 (t : Fin cfg0.N) (i : Fin 256) (j : Fin 1024) :
    k0_pay1 (F := Ideal) (k0_pay4 (F := Ideal) (iblk m c 5 t)) (k0_pay5 (F := Ideal) (iblk m c 6 t))
      (k0_pay6 (F := Ideal) (iblk m c 4 t) (iblk m c 0 t) (iblk m c 2 t) (iblk m c 1 t) (iblk m c 3 t))
      (k0_pay7 (F := Ideal) (iblk m c 4 t) (iblk m c 0 t) (iblk m c 2 t) (iblk m c 1 t) (iblk m c 3 t)) (ix2 i j)
      = normA (sumA m c) (aG m c) (aB m c) (ix2 (row t i) j) := by
  have e6 := pay6 m c t i j
  have e7 := pay7 m c t i
  have e := blk5 m c t j
  have e' := blk6 m c t j
  pointwise [k0_pay1, k0_pay4, k0_pay5]
  exact congrArg₂ (· + ·) (congrArg₂ (· * ·) (congrArg₂ (· * ·) e6 e7) e) e'

theorem final7 : (dats m 0 c).arrAt 7 cfg0.N = normA (sumA m c) (aG m c) (aB m c) := by
  refine (dats m 0 c).arrAt_eq_of_covers 7 _ (by decide +kernel) fun t _ y => ?_
  have e : ((cfg0.win 7).blk t).view.emb y = (ix2 (row t (y 0)) (y 1) : S8192x1024.Idx) := by blk_ext [row, idx t]
  rw [e]
  blk_simp
  rw [after0_7]
  unfold_out out0_7
  frame_out
  exact (congrArg _ (eq_ix2 y)).trans (pay1 m c t (y 0) (y 1))

theorem final8 : (dats m 0 c).arrAt 8 cfg0.N = sumA m c := by
  refine (dats m 0 c).arrAt_eq_of_covers 8 _ (by decide +kernel) fun t _ y => ?_
  have e : ((cfg0.win 8).blk t).view.emb y = (ix2 (row t (y 0)) (y 1) : S8192x1024.Idx) := by blk_ext [row, idx t]
  rw [e]
  blk_simp
  rw [after0_8]
  unfold_out out0_8
  frame_out
  exact (congrArg _ (eq_ix2 y)).trans (pay3 m c t (y 0) (y 1))

theorem final9 : (dats m 0 c).arrAt 9 cfg0.N = normA (sumA m c) (aG m c) (aB m c) := by
  refine (dats m 0 c).arrAt_eq_of_covers 9 _ (by decide +kernel) fun t _ y => ?_
  have e : ((cfg0.win 9).blk t).view.emb y = (ix2 (row t (y 0)) (y 1) : S8192x1024.Idx) := by blk_ext [row, idx t]
  rw [e]
  blk_simp
  rw [after0_9]
  unfold_out out0_9
  frame_out
  exact (congrArg _ (eq_ix2 y)).trans (pay1 m c t (y 0) (y 1))

end Cert.ProjLnIdeal.Pj

end
-- ==== Proof.ProjLnRuns.lean ====
/- The runs of the output projection's kernel and of its reference: both end with the same three arrays. -/
module

public import proofs.«01_k».proof.Proof.ProjLn

@[expose] public section

set_option maxRecDepth 16384

noncomputable section

open Idealize.ShloMosaic Idealize.ShloMosaic.TcCoe Idealize.SL.Sem

namespace Cert.ProjLnIdeal.Pj

open Cert.ProjLnIdeal Cert.ProjLnIdeal.Gen Cert.Norm Cert.Proj

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5_0) = normA (sumE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_v5_1) = sumE (m ((c : Thread nD τ).loc main_arg0)) (m ((c : Thread nD τ).loc main_arg1)) (m ((c : Thread nD τ).loc main_arg2)) (m ((c : Thread nD τ).loc main_arg3))
      ∧ r.2.mem ((c : Thread nD τ).loc main_v5_2) = normA (sumE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr c).1.trans (final7 m c),
      (hr c).2.1.trans (final8 m c),
      (hr c).2.2.1.trans (final9 m c),
      (hr c).2.2.2⟩)
    (Value.run_blocks m ρ)

end Cert.ProjLnIdeal.Pj

namespace Cert.ProjLnRefIdeal.Pj

open Cert.ProjLnRefIdeal Cert.ProjLnRefIdeal.Gen Cert.ProjLnRefIdeal.Read Cert.Norm Cert.Proj

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v28) = normA (sumE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_v4) = sumE (m ((c : Thread nD τ).loc main_arg0)) (m ((c : Thread nD τ).loc main_arg1)) (m ((c : Thread nD τ).loc main_arg2)) (m ((c : Thread nD τ).loc main_arg3))
      ∧ r.2.mem ((c : Thread nD τ).loc main_v29) = normA (sumE (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr c).1.trans ((val_main_v28_eq _ _).trans (v28 _ _ _ _ _ _)),
      (hr c).2.1.trans ((val_main_v4_eq _ _ _ _).trans (v4 _ _ _ _)),
      (hr c).2.2.1.trans ((val_main_v29_eq _ _).trans (v28 _ _ _ _ _ _)),
      (hr c).2.2.2⟩)
    (Cert.ProjLnRefIdeal.Value.run m ρ)

end Cert.ProjLnRefIdeal.Pj

end
-- ==== Proof.RgfScan.lean ====
/- The doubling levels of the recurrence itself: each brings rows from further up. -/
module

public import proofs.«01_k».proof.Proof.RgScan

@[expose] public section

set_option maxRecDepth 16384

noncomputable section

open Idealize.ShloMosaic Idealize.ShloMosaic.TcCoe Idealize.SL.Sem Idealize.ShloMosaic.WordCmp

namespace Cert.Rgf

open Cert.RglruBwdIdeal Cert.RglruBwdIdeal.Gen Cert.RglruBwdIdeal.Rg Cert.Lift Cert.Rg

/-- The rows from a bound on, and one level of the doubling. -/
def msg (k : BitVec 32) : IVec S2048x128 1 := cmpi .sge (iota .tc S2048x128 32 [0] iota_S2048x128_d0_w32) (broadcast S2048x128 k)
def gv (k : BitVec 32) (A v : FVec Ideal S2048x128 .f32) : FVec Ideal S2048x128 .f32 := addf v (mulf A (select (msg k) (rot k v) (fill 0x00000000#32)))
def gq (k : BitVec 32) (A : FVec Ideal S2048x128 .f32) : FVec Ideal S2048x128 .f32 := mulf A (select (msg k) (rot k A) (fill 0x3F800000#32))

theorem above (d : ℕ) (hd : d < 2048) (k : BitVec 32) (hk : k = BitVec.ofNat 32 d) (x : FVec Ideal S2048x128 .f32) (w : BitVec 32)
    (t : Fin 2048) (j : Fin 128) :
    select (msg k) (rot k x) (fill w) (ix2 t j) = if h : d ≤ t.val then x (ix2 ⟨t.val - d, by omega⟩ j) else Ideal.ofBits .f32 w := by
  subst hk
  pointwise [msg, rot, fill]
  rw [Scalar.select, cmpi_sge_ofNat (by omega) (by omega)]
  by_cases h : d ≤ t.val
  · rw [dif_pos h, decide_eq_true h]
    refine (if_pos rfl).trans ?_
    congr 2
    refine Fin.ext ?_
    show (t.val + 2048 - (BitVec.ofNat 32 d).toNat % 2048) % 2048 = t.val - d
    rw [BitVec.toNat_ofNat]; omega
  · rw [dif_neg h, decide_eq_false h]
    exact if_neg (by decide)

/-- After levels reaching `d` rows, the two arrays hold the sums and the products of `d` rows, counted from the last. -/
structure Up (al v : Fin 128 → ℕ → ℝ) (d : ℕ) (A V : FVec Ideal S2048x128 .f32) : Prop where
  sums : ∀ (t : Fin 2048) (j : Fin 128), V (ix2 t j) = ((part (al j) (v j) d (2047 - t.val) : ℝ) : EReal)
  prods : ∀ (t : Fin 2048) (j : Fin 128), A (ix2 t j) = ((prods (al j) d (2047 - t.val) : ℝ) : EReal)

theorem Up.level {al v : Fin 128 → ℕ → ℝ} (he : Ends al v) {d : ℕ} {A V : FVec Ideal S2048x128 .f32} (h : Up al v d A V) (hd : d < 2048)
    (k : BitVec 32) (hk : k = BitVec.ofNat 32 d) : Up al v (d + d) (gq k A) (gv k A V) := by
  refine ⟨fun t j => ?_, fun t j => ?_⟩
  · show V (ix2 t j) + A (ix2 t j) * select (msg k) (rot k V) (fill 0x00000000#32) (ix2 t j) = _
    rw [above d hd k hk, h.sums, h.prods, part_add]
    by_cases hlt : d ≤ t.val
    · rw [dif_pos hlt, h.sums, mul, add, show 2047 - (t.val - d) = 2047 - t.val + d by omega]
    · rw [dif_neg hlt, part_zero (he.v j) d (2047 - t.val + d) (by omega), Ideal.ofBits_zero_f32, zero, mul, add]
  · show A (ix2 t j) * select (msg k) (rot k A) (fill 0x3F800000#32) (ix2 t j) = _
    rw [above d hd k hk, h.prods, prods_add]
    by_cases hlt : d ≤ t.val
    · rw [dif_pos hlt, h.prods, mul, show 2047 - (t.val - d) = 2047 - t.val + d by omega]
    · rw [dif_neg hlt, prods_id (he.al j) d (2047 - t.val + d) (by omega), Ideal.ofBits_one_f32, one, mul]

variable (a u : FVec Ideal S2048x128 .f32)

/-- The levels. -/
def P1 : FVec Ideal S2048x128 .f32 := gq 1#32 a
def P2 : FVec Ideal S2048x128 .f32 := gq 2#32 (P1 a)
def P3 : FVec Ideal S2048x128 .f32 := gq 4#32 (P2 a)
def P4 : FVec Ideal S2048x128 .f32 := gq 8#32 (P3 a)
def P5 : FVec Ideal S2048x128 .f32 := gq 16#32 (P4 a)
def P6 : FVec Ideal S2048x128 .f32 := gq 32#32 (P5 a)
def P7 : FVec Ideal S2048x128 .f32 := gq 64#32 (P6 a)
def P8 : FVec Ideal S2048x128 .f32 := gq 128#32 (P7 a)
def P9 : FVec Ideal S2048x128 .f32 := gq 256#32 (P8 a)
def P10 : FVec Ideal S2048x128 .f32 := gq 512#32 (P9 a)
def U1 : FVec Ideal S2048x128 .f32 := gv 1#32 a u
def U2 : FVec Ideal S2048x128 .f32 := gv 2#32 (P1 a) (U1 a u)
def U3 : FVec Ideal S2048x128 .f32 := gv 4#32 (P2 a) (U2 a u)
def U4 : FVec Ideal S2048x128 .f32 := gv 8#32 (P3 a) (U3 a u)
def U5 : FVec Ideal S2048x128 .f32 := gv 16#32 (P4 a) (U4 a u)
def U6 : FVec Ideal S2048x128 .f32 := gv 32#32 (P5 a) (U5 a u)
def U7 : FVec Ideal S2048x128 .f32 := gv 64#32 (P6 a) (U6 a u)
def U8 : FVec Ideal S2048x128 .f32 := gv 128#32 (P7 a) (U7 a u)
def U9 : FVec Ideal S2048x128 .f32 := gv 256#32 (P8 a) (U8 a u)
def U10 : FVec Ideal S2048x128 .f32 := gv 512#32 (P9 a) (U9 a u)
def U11 : FVec Ideal S2048x128 .f32 := gv 1024#32 (P10 a) (U10 a u)

/-- The doubled sums are the recurrence, down each column. -/
theorem u11 {a u : FVec Ideal S2048x128 .f32} (ra ru : Fin 128 → ℕ → ℝ) (ha : ∀ (t : Fin 2048) j, a (ix2 t j) = ((ra j t.val : ℝ) : EReal))
    (hu : ∀ (t : Fin 2048) j, u (ix2 t j) = ((ru j t.val : ℝ) : EReal)) (t : Fin 2048) (j : Fin 128) :
    U11 a u (ix2 t j) = ((hs (ra j) (ru j) t.val : ℝ) : EReal) := by
  have he : Ends (fun j n => if n < 2048 then ra j (2047 - n) else 1) (fun j n => if n < 2048 then ru j (2047 - n) else 0) :=
    ⟨fun j n hn => if_neg (by omega), fun j n hn => if_neg (by omega)⟩
  have i0 : Up (fun j n => if n < 2048 then ra j (2047 - n) else 1) (fun j n => if n < 2048 then ru j (2047 - n) else 0) 1 a u := by
    refine ⟨fun t j => ?_, fun t j => ?_⟩
    · rw [hu, part_one, if_pos (by omega), show 2047 - (2047 - t.val) = t.val by omega]
    · rw [ha, prods_one, if_pos (by omega), show 2047 - (2047 - t.val) = t.val by omega]
  have i1 := i0.level he (by omega) 1#32 rfl
  have i2 := i1.level he (by omega) 2#32 rfl
  have i3 := i2.level he (by omega) 4#32 rfl
  have i4 := i3.level he (by omega) 8#32 rfl
  have i5 := i4.level he (by omega) 16#32 rfl
  have i6 := i5.level he (by omega) 32#32 rfl
  have i7 := i6.level he (by omega) 64#32 rfl
  have i8 := i7.level he (by omega) 128#32 rfl
  have i9 := i8.level he (by omega) 256#32 rfl
  have i10 := i9.level he (by omega) 512#32 rfl
  have i11 := i10.level he (by omega) 1024#32 rfl
  rw [← part_hs (N := 2048) (al := fun n => if n < 2048 then ra j (2047 - n) else 1) (v := fun n => if n < 2048 then ru j (2047 - n) else 0)
    (by omega) (fun n hn => if_neg (by omega)) (fun n hn => if_pos hn) (fun n hn => if_pos hn) t.val t.isLt]
  exact i11.sums t j

end Cert.Rgf

end
-- ==== Proof.RgfKernel.lean ====
/- What one grid point of the recurrence computes from its block: the specification's states, for real blocks. -/
module

public import proofs.«01_k».proof.Proof.Gen.RglruFwdIdeal.Skeleton
public import proofs.«01_k».proof.Proof.RgSpec
public import proofs.«01_k».proof.Proof.RgfScan

@[expose] public section

set_option maxRecDepth 16384

noncomputable section

open Idealize.ShloMosaic Idealize.ShloMosaic.TcCoe Idealize.SL.Sem Idealize.ShloMosaic.WordCmp

namespace Cert.RglruFwdIdeal.Rgf

open Cert.RglruFwdIdeal Cert.RglruFwdIdeal.Gen Cert.Lift Cert.Rg Cert.Rgf

/-- The arrays one grid point reads: the input, the second gate's argument, the two weight slabs, the two biases and the decay's parameter. -/
structure Block where
  x : FVec Ideal S2048x128 .f32
  y : FVec Ideal S2048x128 .f32
  wa : FVec Ideal S1x128x128 .f32
  wx : FVec Ideal S1x128x128 .f32
  ba : FVec Ideal S1x128 .f32
  bx : FVec Ideal S1x128 .f32
  l : FVec Ideal S1x128 .f32

/-- The block's columns over the reals. -/
structure Holds (B : Block) (k : Fin 128 → Col) (va vx : Fin 128 → Fin 128 → ℝ) : Prop where
  x : ∀ (t : Fin 2048) j, B.x (ix2 t j) = (((k j).x t.val : ℝ) : EReal)
  y : ∀ (t : Fin 2048) j, B.y (ix2 t j) = (((k j).y t.val : ℝ) : EReal)
  wa : ∀ i j, B.wa (ix3 0 i j) = ((va i j : ℝ) : EReal)
  wx : ∀ i j, B.wx (ix3 0 i j) = ((vx i j : ℝ) : EReal)
  l : ∀ j, B.l (ix2 0 j) = (((k j).l : ℝ) : EReal)
  pr : ∀ (t : Fin 2048) j, (∑ i, (((k i).x t.val : ℝ) : EReal) * ((va i j : ℝ) : EReal)) + B.ba (ix2 0 j) = (((k j).pr t.val : ℝ) : EReal)
  px : ∀ (t : Fin 2048) j, (∑ i, (((k i).x t.val : ℝ) : EReal) * ((vx i j : ℝ) : EReal)) + B.bx (ix2 0 j) = (((k j).px t.val : ℝ) : EReal)

namespace Block
variable (B : Block)

/-- The logarithm of the decay, the decay, and what enters the recurrence at each row. -/
def la : FVec Ideal S2048x128 .f32 := k0_pay12 (F := Ideal) (k0_pay5 B.x B.wa B.ba) (k0_pay7 B.l) (k0_pay9 (F := Ideal) B.l) (k0_pay10 B.l) (k0_pay11 B.l)
def a : FVec Ideal S2048x128 .f32 := k0_pay13 (F := Ideal) (k0_pay5 B.x B.wa B.ba) (k0_pay7 B.l) (k0_pay9 (F := Ideal) B.l) (k0_pay10 B.l) (k0_pay11 B.l)
def u : FVec Ideal S2048x128 .f32 :=
  mulf (sqrt (mulf (subf (broadcast S2048x128 (Scalar.ofBits .f32 0x00000000#32)) (tanh B.la))
    (addf (exp (mulf (broadcast S2048x128 (Scalar.ofBits .f32 0x40000000#32)) B.la)) (broadcast S2048x128 (Scalar.ofBits .f32 0x3F800000#32)))))
    (mulf (k0_pay4 B.x B.wx B.bx) (k0_pay3 B.x))

/-- The values the grid point has after six levels. -/
def io : IVec S2048x128 32 := iota .tc S2048x128 32 [0] iota_S2048x128_d0_w32
def v2 : FVec Ideal S2048x128 .f32 := k0_pay17 (F := Ideal) (k0_pay3 B.x) (k0_pay4 B.x B.wx B.bx) (k0_pay5 B.x B.wa B.ba) (k0_pay7 B.l) (k0_pay9 (F := Ideal) B.l) (k0_pay10 B.l) (k0_pay11 B.l)
def v2r : FVec Ideal S2048x128 .f32 := k0_pay20 (F := Ideal) (k0_pay3 B.x) (k0_pay4 B.x B.wx B.bx) (k0_pay5 B.x B.wa B.ba) (k0_pay7 B.l) (k0_pay9 (F := Ideal) B.l) (k0_pay10 B.l) (k0_pay11 B.l)
def a2 : FVec Ideal S2048x128 .f32 := k0_pay18 (F := Ideal) (k0_pay5 B.x B.wa B.ba) (k0_pay7 B.l) (k0_pay9 (F := Ideal) B.l) (k0_pay10 B.l) (k0_pay11 B.l)
def v6 : FVec Ideal S2048x128 .f32 := k0_pay27 (F := Ideal) io B.v2 B.a2 k0_pay19 B.v2r
def a6 : FVec Ideal S2048x128 .f32 := k0_pay28 (F := Ideal) io B.a2 k0_pay19

/-- The two arrays it leaves. -/
def hh : FVec Ideal S2048x128 .f32 := k0_pay1 (F := Ideal) io (k0_pay34 io B.v6 B.a6 64#32) (k0_pay35 io B.a6 64#32) (k0_pay37 io B.v6 B.a6 64#32) (k0_pay38 io B.a6 64#32)
def yy : FVec Ideal S2048x128 .f32 := k0_pay2 (F := Ideal) io (k0_pay34 io B.v6 B.a6 64#32) (k0_pay35 io B.a6 64#32) (k0_pay37 io B.v6 B.a6 64#32) (k0_pay38 io B.a6 64#32) B.y

/-- The levels are the doubling's. -/
theorem levels : B.hh = U11 B.a B.u := rfl

end Block

section
variable {B : Block} {k : Fin 128 → Col} {wa wx : Fin 128 → Fin 128 → ℝ} (h : Holds B k wa wx)
include h

theorem p4 (t : Fin 2048) (j : Fin 128) : k0_pay4 (F := Ideal) B.x B.wx B.bx (ix2 t j) = (((k j).i t.val : ℝ) : EReal) := by
  pointwise [k0_pay4, k0_pay3]
  simp only [h.x, h.wx, zero_add]
  rw [h.px]; exact Ideal.logistic_coe _
theorem p5 (t : Fin 2048) (j : Fin 128) : k0_pay5 (F := Ideal) B.x B.wa B.ba (ix2 t j) = ((-8 * (k j).r t.val : ℝ) : EReal) := by
  pointwise [k0_pay5, k0_pay3]
  simp only [h.x, h.wa, zero_add]
  rw [h.pr, weight, ← mul]; exact congrArg _ (Ideal.logistic_coe _)
theorem p6 (j : Fin 128) : k0_pay6 (F := Ideal) B.l (ix2 0 j) = ((-(k j).l : ℝ) : EReal) := by
  pointwise [k0_pay6]
  rw [h.l, zero, sub, zero_sub]
theorem p7 (j : Fin 128) : k0_pay7 (F := Ideal) B.l (ix2 0 j) = ((max (-(k j).l) 0 : ℝ) : EReal) := by
  pointwise [k0_pay7]
  rw [p6 h, zero, max_coe]
theorem p8 (j : Fin 128) : k0_pay8 (F := Ideal) B.l (ix2 0 j) = ((-(k j).l : ℝ) : EReal) := by
  pointwise [k0_pay8]
  exact p6 h j
theorem p11 (j : Fin 128) : k0_pay11 (F := Ideal) B.l (ix2 0 j) = ((-max (-(k j).l) (k j).l : ℝ) : EReal) := by
  pointwise [k0_pay11]
  rw [p8 h, show FloatOps.absf (F := Ideal) (φ := .f32) (((-(k j).l : ℝ) : EReal)) = max (((-(k j).l : ℝ) : EReal)) (-(((-(k j).l : ℝ) : EReal))) from rfl,
    neg, max_coe, zero, sub, zero_sub, neg_neg]
theorem pla (t : Fin 2048) (j : Fin 128) : B.la (ix2 t j) = (((k j).la t.val : ℝ) : EReal) := by
  pointwise [Block.la, k0_pay12, k0_pay9]
  rw [if_neg (not_not.2 rfl), p5 h, p7 h, p11 h, Rg.exp, Rg.log1p _ (Real.exp_pos _).le, add, mul]
  rw [Col.la, spl, neg_neg]
theorem pa (t : Fin 2048) (j : Fin 128) : B.a (ix2 t j) = (((k j).a t.val : ℝ) : EReal) := by
  have e := pla h; simp only [Block.la] at e
  pointwise [Block.a, k0_pay13]
  rw [e]; rfl
theorem pu (t : Fin 2048) (j : Fin 128) : B.u (ix2 t j) = (((k j).u t.val : ℝ) : EReal) := by
  pointwise [Block.u, k0_pay3]
  rw [pla h, p4 h, h.x, zero, one, wtwo, Rg.tanh, sub, mul, Rg.exp, add, mul, tanh_mul, Rg.sqrt _ ((k j).m_arg _).le, mul, mul]; rfl
theorem ph (t : Fin 2048) (j : Fin 128) : B.hh (ix2 t j) = (((k j).h t.val : ℝ) : EReal) := by
  rw [B.levels]
  exact u11 (fun j => (k j).a) (fun j => (k j).u) (pa h) (pu h) t j
theorem py (t : Fin 2048) (j : Fin 128) : B.yy (ix2 t j) = (((k j).h t.val * ((k j).y t.val * gh ((k j).y t.val)) : ℝ) : EReal) := by
  have e := ph h; simp only [Block.hh] at e
  pointwise [Block.yy, k0_pay2]
  rw [e]
  simp only [h.y, wgk, wgs, one, whalf, mul, add, mul_left_comm, Rg.tanh]
  refine congrArg _ ?_
  rw [gh, gt, mul_assoc ((k j).y t.val) ((k j).y t.val)]
  ring

end

end Cert.RglruFwdIdeal.Rgf

end
-- ==== Proof.RgfRef.lean ====
/- The recurrence's reference: its states are those its gradient's reference recomputes. -/
module

public import proofs.«01_k».proof.Proof.RgRef
public import proofs.«01_k».proof.Proof.Gen.RglruFwdRefIdeal.Run
public import proofs.«01_k».proof.Proof.Gen.RglruFwdRefIdeal.Read
public import proofs.«01_k».proof.Proof.Gen.Pre_rgf_finite

@[expose] public section

set_option maxRecDepth 16384

noncomputable section

open Idealize.ShloMosaic Idealize.ShloMosaic.TcCoe Idealize.SL.Sem

namespace Cert.RglruFwdRefIdeal.Rgf

open Cert.RglruFwdRefIdeal Cert.RglruFwdRefIdeal.Gen Cert.RglruFwdRefIdeal.Read Cert.Lift Cert.Rg
open Cert.RglruBwdRefIdeal.Rg (ten row Reals cl w69 w89 hy)

variable (x0 x1 : FVec Ideal S4x2048x512 .f32) (x2 : FVec Ideal S8x64x64 .f32) (x3 : FVec Ideal S512 .f32) (x4 : FVec Ideal S8x64x64 .f32)
  (x5 x6 : FVec Ideal S512 .f32)

/-- Both references compute the states, and the second gate, the same way. -/
theorem states : val_main_v60 (F := Ideal) x0 x2 x3 x4 x5 x6 = Cert.RglruBwdRefIdeal.Read.val_main_v69 (F := Ideal) x0 x2 x3 x4 x5 x6 := rfl
theorem second : val_main_v72 (F := Ideal) x1 = Cert.RglruBwdRefIdeal.Read.val_main_v89 (F := Ideal) x1 := rfl

variable {x0 x1 x2 x3 x4 x5 x6}

/-- The states, and the states by the second gate, over the reals. -/
def HH (x0 x1 : FVec Ideal S4x2048x512 .f32) (x2 : FVec Ideal S8x64x64 .f32) (x3 : FVec Ideal S512 .f32) (x4 : FVec Ideal S8x64x64 .f32)
    (x5 x6 : FVec Ideal S512 .f32) (b : Fin 4) (t : Fin 2048) (c : Fin 512) : ℝ := (cl x0 x1 x2 x3 x4 x5 x6 x0 b c).h t.val
def YY (x0 x1 : FVec Ideal S4x2048x512 .f32) (x2 : FVec Ideal S8x64x64 .f32) (x3 : FVec Ideal S512 .f32) (x4 : FVec Ideal S8x64x64 .f32)
    (x5 x6 : FVec Ideal S512 .f32) (b : Fin 4) (t : Fin 2048) (c : Fin 512) : ℝ :=
  (cl x0 x1 x2 x3 x4 x5 x6 x0 b c).h t.val * ((cl x0 x1 x2 x3 x4 x5 x6 x0 b c).y t.val * gh ((cl x0 x1 x2 x3 x4 x5 x6 x0 b c).y t.val))

section
variable (h : Reals x0 x1 x2 x3 x4 x5 x6 x0)
include h

theorem f75 : val_main_v75 (F := Ideal) x0 x1 x2 x3 x4 x5 x6 = rows (YY x0 x1 x2 x3 x4 x5 x6) := by
  funext q; idx_vars q
  pointwise [val_main_v75, val_main_v74, val_main_v73]
  rw [states, second, w69 h, w89 h, hy h, mul, mul]; rfl

theorem f76 : val_main_v76 (F := Ideal) x0 x2 x3 x4 x5 x6 = rows (HH x0 x1 x2 x3 x4 x5 x6) := by
  funext q; idx_vars q
  pointwise [val_main_v76]
  rw [states, w69 h]; rfl

end

end Cert.RglruFwdRefIdeal.Rgf

end
-- ==== Proof.RgfValue.lean ====
/- The recurrence's kernel over its grid: the states and the states by the second gate. -/
module

public import proofs.«01_k».proof.Proof.Gen.RglruFwdIdeal.Value
public import proofs.«01_k».proof.Proof.RgValue
public import proofs.«01_k».proof.Proof.RgOuts
public import proofs.«01_k».proof.Proof.RgfKernel
public import proofs.«01_k».proof.Proof.RgfRef

@[expose] public section

set_option maxRecDepth 16384

noncomputable section

open Idealize.ShloMosaic Idealize.ShloMosaic.TcCoe Idealize.SL.Sem
open Idealize.ShloMosaic.Pipeline (Dat)

namespace Cert.RglruFwdIdeal.Rgf

open Cert.RglruFwdIdeal Cert.RglruFwdIdeal.Gen Cert.RglruFwdIdeal.Value Cert.Lift Cert.Rg
open Cert.RglruBwdRefIdeal.Rg (ten row cl Reals)
open Cert.RglruBwdIdeal.Rg (bat slb ch at8 Fil blkOf words wsl slab_at gate_arg flat one_row rows_at)
open Cert.RglruFwdRefIdeal.Rgf (HH YY)

variable (m : (ℓ : Loc nD τ sig) → Buf (Elt Ideal) ℓ) (c : Dev nD)

theorem idx : ∀ t : Fin cfg0.N, win0_0.index t = ![t.val / 4, t.val % 4] ∧ win0_1.index t = ![t.val / 4, t.val % 4]
    ∧ win0_2.index t = ![t.val % 4, 0, 0] ∧ win0_3.index t = ![t.val % 4, 0, 0] ∧ win0_4.index t = ![0, t.val % 4] ∧ win0_5.index t = ![0, t.val % 4]
    ∧ win0_6.index t = ![0, t.val % 4] ∧ win0_7.index t = ![t.val / 4, t.val % 4] ∧ win0_8.index t = ![t.val / 4, t.val % 4] := by
  decide +kernel

/-- The grid point of the gradient's kernel that holds the same batch and group. -/
def sw (t : Fin cfg0.N) : Fin Cert.RglruBwdIdeal.cfg0.N := ⟨t.val % 4 * 4 + t.val / 4, by
  have := lt_of_lt_of_eq t.isLt N_0
  exact lt_of_lt_of_eq (by omega : _ < 16) Cert.RglruBwdIdeal.Gen.N_0.symm⟩

theorem bat_val (t : Fin cfg0.N) : (bat (sw t)).val = t.val / 4 := by
  have := lt_of_lt_of_eq t.isLt N_0
  show (t.val % 4 * 4 + t.val / 4) % 4 = _; omega
theorem slb_val (t : Fin cfg0.N) : (slb (sw t)).val = t.val % 4 := by
  have := lt_of_lt_of_eq t.isLt N_0
  show (t.val % 4 * 4 + t.val / 4) / 4 = _; omega
theorem ch_val (t : Fin cfg0.N) (j : Fin 128) : (ch (sw t) j).val = t.val % 4 * 128 + j.val := by
  have := lt_of_lt_of_eq t.isLt N_0
  show (t.val % 4 * 4 + t.val / 4) / 4 * 128 + j.val = _; omega
theorem at_val (t : Fin cfg0.N) (i : Fin 2048) : (at8 (bat (sw t)) i).val = t.val / 4 * 2048 + i.val := by
  show (bat (sw t)).val * 2048 + i.val = _; rw [bat_val]

abbrev aX : FVec Ideal S4x2048x512 .f32 := m ((c : Thread nD τ).loc main_arg0)
abbrev aY : FVec Ideal S4x2048x512 .f32 := m ((c : Thread nD τ).loc main_arg1)
abbrev aWa : FVec Ideal S8x64x64 .f32 := m ((c : Thread nD τ).loc main_arg2)
abbrev aBa : FVec Ideal S512 .f32 := m ((c : Thread nD τ).loc main_arg3)
abbrev aWx : FVec Ideal S8x64x64 .f32 := m ((c : Thread nD τ).loc main_arg4)
abbrev aBx : FVec Ideal S512 .f32 := m ((c : Thread nD τ).loc main_arg5)
abbrev aL : FVec Ideal S512 .f32 := m ((c : Thread nD τ).loc main_arg6)

/-- What the arguments are taken to be, and the column of a batch and a channel. -/
def Given : Prop := Reals (aX m c) (aY m c) (aWa m c) (aBa m c) (aWx m c) (aBx m c) (aL m c) (aX m c)
def kol (b : Fin 4) (j : Fin 512) : Col := cl (aX m c) (aY m c) (aWa m c) (aBa m c) (aWx m c) (aBx m c) (aL m c) (aX m c) b j

/-! ## What a grid point is given -/

theorem emb0 (x : FVec Ideal S8192x512 .f32) (t : Fin cfg0.N) (i : Fin 2048) (j : Fin 128) :
    x ((win0_0.blk t).view.emb (ix2 i j)) = x (ix2 (at8 (bat (sw t)) i) (ch (sw t) j)) := by blk_ext [idx t, at_val t, ch_val t]
theorem emb1 (x : FVec Ideal S8192x512 .f32) (t : Fin cfg0.N) (i : Fin 2048) (j : Fin 128) :
    x ((win0_1.blk t).view.emb (ix2 i j)) = x (ix2 (at8 (bat (sw t)) i) (ch (sw t) j)) := by blk_ext [idx t, at_val t, ch_val t]
theorem emb2 (x : FVec Ideal S4x128x128 .f32) (t : Fin cfg0.N) (i j : Fin 128) :
    x ((win0_2.blk t).view.emb (ix3 0 i j)) = x (ix3 (slb (sw t)) i j) := by blk_ext [idx t, slb_val t]
theorem emb3 (x : FVec Ideal S4x128x128 .f32) (t : Fin cfg0.N) (i j : Fin 128) :
    x ((win0_3.blk t).view.emb (ix3 0 i j)) = x (ix3 (slb (sw t)) i j) := by blk_ext [idx t, slb_val t]
theorem emb4 (x : FVec Ideal S1x512 .f32) (t : Fin cfg0.N) (j : Fin 128) :
    x ((win0_4.blk t).view.emb (ix2 0 j)) = x (ix2 0 (ch (sw t) j)) := by blk_ext [idx t, ch_val t]
theorem emb5 (x : FVec Ideal S1x512 .f32) (t : Fin cfg0.N) (j : Fin 128) :
    x ((win0_5.blk t).view.emb (ix2 0 j)) = x (ix2 0 (ch (sw t) j)) := by blk_ext [idx t, ch_val t]
theorem emb6 (x : FVec Ideal S1x512 .f32) (t : Fin cfg0.N) (j : Fin 128) :
    x ((win0_6.blk t).view.emb (ix2 0 j)) = x (ix2 0 (ch (sw t) j)) := by blk_ext [idx t, ch_val t]

/-- The arrays the region finds. -/
theorem in0 : @Eq (FVec Ideal S8192x512 .f32) (V m c main_v114) (shapeCast S8192x512 (aX m c) shapeCasts_S4x2048x512_S8192x512) := by after_reads_simp; rfl
theorem in1 : @Eq (FVec Ideal S8192x512 .f32) (V m c main_v115) (shapeCast S8192x512 (aY m c) shapeCasts_S4x2048x512_S8192x512) := by after_reads_simp; rfl
theorem in4 : @Eq (FVec Ideal S1x512 .f32) (V m c main_v116) (broadcastInDim S1x512 ![1] bcast_S512_S1x512_1 (aBa m c)) := by after_reads_simp
theorem in5 : @Eq (FVec Ideal S1x512 .f32) (V m c main_v117) (broadcastInDim S1x512 ![1] bcast_S512_S1x512_1 (aBx m c)) := by after_reads_simp
theorem in6 : @Eq (FVec Ideal S1x512 .f32) (V m c main_v118) (broadcastInDim S1x512 ![1] bcast_S512_S1x512_1 (aL m c)) := by after_reads_simp

/-- Both weights stand laid out as slabs. -/
theorem slabs : Fil (blkOf (aWa m c)) 8 (V m c main_v56) ∧ Fil (blkOf (aWx m c)) 8 (V m c main_v113) := by
  constructor
  all_goals
    after_reads_simp
    refine .step _ _ ?_ ?_ ?_ ?_ <| .step _ _ ?_ ?_ ?_ ?_ <| .step _ _ ?_ ?_ ?_ ?_ <| .step _ _ ?_ ?_ ?_ ?_ <|
      .step _ _ ?_ ?_ ?_ ?_ <| .step _ _ ?_ ?_ ?_ ?_ <| .step _ _ ?_ ?_ ?_ ?_ <| .step _ _ ?_ ?_ ?_ ?_ <| .nil _ ?_
  any_goals first
    | (refine (congrArg BitVec.toInt (words _ _ _ _)).trans ?_
       dsimp only [Matrix.cons_val_zero, Matrix.cons_val_one, Matrix.cons_val]
       after_reads_simp
       rfl)
    | (intro p q; pointwise; blk_ext [blkOf])
    | exact fun i => Ideal.ofBits_zero_f32

/-- The grid point's block. -/
def B (t : Fin cfg0.N) : Block where
  x := iblk m c 0 t
  y := iblk m c 1 t
  wa := iblk m c 2 t
  wx := iblk m c 3 t
  ba := iblk m c 4 t
  bx := iblk m c 5 t
  l := iblk m c 6 t

theorem blk0 (t : Fin cfg0.N) (i : Fin 2048) (j : Fin 128) : (B m c t).x (ix2 i j) = aX m c (ix3 (bat (sw t)) i (ch (sw t) j)) :=
  (emb0 (V m c main_v114) t i j).trans ((congrFun (in0 m c) _).trans (flat _ _ _ _))
theorem blk1 (t : Fin cfg0.N) (i : Fin 2048) (j : Fin 128) : (B m c t).y (ix2 i j) = aY m c (ix3 (bat (sw t)) i (ch (sw t) j)) :=
  (emb1 (V m c main_v115) t i j).trans ((congrFun (in1 m c) _).trans (flat _ _ _ _))
theorem blk4 (t : Fin cfg0.N) (j : Fin 128) : (B m c t).ba (ix2 0 j) = aBa m c (ix1 (ch (sw t) j)) :=
  (emb4 (V m c main_v116) t j).trans ((congrFun (in4 m c) _).trans (one_row _ _))
theorem blk5 (t : Fin cfg0.N) (j : Fin 128) : (B m c t).bx (ix2 0 j) = aBx m c (ix1 (ch (sw t) j)) :=
  (emb5 (V m c main_v117) t j).trans ((congrFun (in5 m c) _).trans (one_row _ _))
theorem blk6 (t : Fin cfg0.N) (j : Fin 128) : (B m c t).l (ix2 0 j) = aL m c (ix1 (ch (sw t) j)) :=
  (emb6 (V m c main_v118) t j).trans ((congrFun (in6 m c) _).trans (one_row _ _))

/-- A slab the region finds, at a grid point. -/
theorem slab {w : FVec Ideal S8x64x64 .f32} (hw : ∀ g i j, w (ix3 g i j) = ((ten w g i j : ℝ) : EReal)) (x : FVec Ideal S4x128x128 .f32)
    (e : Fil (blkOf w) 8 x) (t : Fin cfg0.N) (i j : Fin 128) : x (ix3 (slb (sw t)) i j) = ((wsl w (sw t) i j : ℝ) : EReal) := slab_at hw e (sw t) i j
theorem read2 (U : ∀ b : Ref sig .tc, Buf (Elt Ideal) ((c : Thread nD τ).loc b)) (t : Fin cfg0.N) (i j : Fin 128) :
    (((cfg0.win 2).blk t).view.read (Elt Ideal) (U (Pipeline.arrRef spec0 2))) (ix3 0 i j) = U main_v56 ((win0_2.blk t).view.emb (ix3 0 i j)) := rfl
theorem read3 (U : ∀ b : Ref sig .tc, Buf (Elt Ideal) ((c : Thread nD τ).loc b)) (t : Fin cfg0.N) (i j : Fin 128) :
    (((cfg0.win 3).blk t).view.read (Elt Ideal) (U (Pipeline.arrRef spec0 3))) (ix3 0 i j) = U main_v113 ((win0_3.blk t).view.emb (ix3 0 i j)) := rfl
theorem own2 (t : Fin cfg0.N) : (B m c t).wa = (iblk m c 2 t : FVec Ideal S1x128x128 .f32) := by dsimp only [B]
theorem own3 (t : Fin cfg0.N) : (B m c t).wx = (iblk m c 3 t : FVec Ideal S1x128x128 .f32) := by dsimp only [B]
theorem of2 (t : Fin cfg0.N) (i j : Fin 128) : @Eq EReal ((B m c t).wa (ix3 0 i j)) (V m c main_v56 ((win0_2.blk t).view.emb (ix3 0 i j))) := by
  rw [own2]; unfold iblk; exact read2 c (V m c) t i j
theorem of3 (t : Fin cfg0.N) (i j : Fin 128) : @Eq EReal ((B m c t).wx (ix3 0 i j)) (V m c main_v113 ((win0_3.blk t).view.emb (ix3 0 i j))) := by
  rw [own3]; unfold iblk; exact read3 c (V m c) t i j
theorem blk2 (h : Given m c) (t : Fin cfg0.N) (i j : Fin 128) : (B m c t).wa (ix3 0 i j) = ((wsl (aWa m c) (sw t) i j : ℝ) : EReal) := by
  rw [of2]
  have e := (slabs m c).1
  revert e
  generalize V m c main_v56 = x
  intro e
  exact (emb2 x t i j).trans (slab (w := aWa m c) h.wa x e t i j)
theorem blk3 (h : Given m c) (t : Fin cfg0.N) (i j : Fin 128) : (B m c t).wx (ix3 0 i j) = ((wsl (aWx m c) (sw t) i j : ℝ) : EReal) := by
  rw [of3]
  have e := (slabs m c).2
  revert e
  generalize V m c main_v113 = x
  intro e
  exact (emb3 x t i j).trans (slab (w := aWx m c) h.wx x e t i j)

/-- A gate's argument, from the slab. -/
theorem gate (w : FVec Ideal S8x64x64 .f32) (v : Fin 512 → ℝ) (t : Fin cfg0.N) (i : Fin 2048) (j : Fin 128) (b : EReal) (hb : b = ((v (ch (sw t) j) : ℝ) : EReal)) :
    (∑ k, (((kol m c (bat (sw t)) (ch (sw t) k)).x i.val : ℝ) : EReal) * ((wsl w (sw t) k j : ℝ) : EReal)) + b
      = ((sq (pre (ten (aX m c)) (ten w) v (bat (sw t)) (ch (sw t) j)) i.val : ℝ) : EReal) := by
  simp only [hb, mul, sum, add]
  refine congrArg _ (Eq.trans ?_ (sq_val _ i).symm)
  exact Eq.trans (congrArg (· + _) (Finset.sum_congr rfl fun k _ => congrArg (· * _) (sq_val (fun r => ten (aX m c) (bat (sw t)) r (ch (sw t) k)) i)))
    (gate_arg (aX m c) w v (sw t) i j)

section outs
variable (h : Given m c)
include h

theorem holds (t : Fin cfg0.N) : Holds (B m c t) (fun j => kol m c (bat (sw t)) (ch (sw t) j)) (wsl (aWa m c) (sw t)) (wsl (aWx m c) (sw t)) where
  x i j := (blk0 m c t i j).trans ((h.x _ _ _).trans (congrArg _ (sq_val (fun r => ten (aX m c) (bat (sw t)) r (ch (sw t) j)) i).symm))
  y i j := (blk1 m c t i j).trans ((h.y _ _ _).trans (congrArg _ (sq_val (fun r => ten (aY m c) (bat (sw t)) r (ch (sw t) j)) i).symm))
  wa i j := blk2 m c h t i j
  wx i j := blk3 m c h t i j
  l j := (blk6 m c t j).trans (h.l _)
  pr i j := gate m c (aWa m c) (row (aBa m c)) t i j _ ((blk4 m c t j).trans (h.ba _))
  px i j := gate m c (aWx m c) (row (aBx m c)) t i j _ ((blk5 m c t j).trans (h.bx _))

/-! ## What the grid points leave, put together -/

omit h in
theorem own7 (t : Fin cfg0.N) : out0_7 (F := Ideal) (iblk m c 0 t) (iblk m c 1 t) (iblk m c 2 t) (iblk m c 3 t) (iblk m c 4 t) (iblk m c 5 t) (iblk m c 6 t) = (B m c t).yy := by
  unfold_out out0_7
  frame_out; dsimp only [Block.yy, Block.v6, Block.a6, Block.v2, Block.v2r, Block.a2, Block.io, B]
omit h in
theorem own8 (t : Fin cfg0.N) : out0_8 (F := Ideal) (iblk m c 0 t) (iblk m c 1 t) (iblk m c 2 t) (iblk m c 3 t) (iblk m c 4 t) (iblk m c 5 t) (iblk m c 6 t) = (B m c t).hh := by
  unfold_out out0_8
  frame_out; dsimp only [Block.hh, Block.v6, Block.a6, Block.v2, Block.v2r, Block.a2, Block.io, B]

theorem final7 : (dats m 0 c).arrAt 7 cfg0.N = rows (YY (aX m c) (aY m c) (aWa m c) (aBa m c) (aWx m c) (aBx m c) (aL m c)) := by
  refine (dats m 0 c).arrAt_eq_of_covers 7 _ (by decide +kernel) fun t _ y => ?_
  have e : ((cfg0.win 7).blk t).view.emb y = (ix2 (at8 (bat (sw t)) (y 0)) (ch (sw t) (y 1)) : S8192x512.Idx) := by
    blk_ext [idx t]
    · exact (at_val t (y 0)).symm
    · exact (ch_val t (y 1)).symm
  rw [e]
  blk_simp
  rw [after0_7, own7]
  exact (congrArg _ (eq_ix2 y)).trans ((py (holds m c h t) (y 0) (y 1)).trans (rows_at (YY (aX m c) (aY m c) (aWa m c) (aBa m c) (aWx m c) (aBx m c) (aL m c)) _ _ _).symm)

theorem final8 : (dats m 0 c).arrAt 8 cfg0.N = rows (HH (aX m c) (aY m c) (aWa m c) (aBa m c) (aWx m c) (aBx m c) (aL m c)) := by
  refine (dats m 0 c).arrAt_eq_of_covers 8 _ (by decide +kernel) fun t _ y => ?_
  have e : ((cfg0.win 8).blk t).view.emb y = (ix2 (at8 (bat (sw t)) (y 0)) (ch (sw t) (y 1)) : S8192x512.Idx) := by
    blk_ext [idx t]
    · exact (at_val t (y 0)).symm
    · exact (ch_val t (y 1)).symm
  rw [e]
  blk_simp
  rw [after0_8, own8]
  exact (congrArg _ (eq_ix2 y)).trans ((ph (holds m c h t) (y 0) (y 1)).trans (rows_at (HH (aX m c) (aY m c) (aWa m c) (aBa m c) (aWx m c) (aBx m c) (aL m c)) _ _ _).symm)

end outs

end Cert.RglruFwdIdeal.Rgf

end
-- ==== Proof.RgfRuns.lean ====
/- The runs of the recurrence's kernel and of its reference, for finite arguments: both end with the same two arrays. -/
module

public import proofs.«01_k».proof.Proof.RgfValue

@[expose] public section

set_option maxRecDepth 16384

noncomputable section

open Idealize.ShloMosaic Idealize.ShloMosaic.TcCoe Idealize.SL.Sem

namespace Cert.RglruFwdRefIdeal.Rgf

open Cert.RglruFwdRefIdeal Cert.RglruFwdRefIdeal.Gen Cert.Lift
open Cert.RglruBwdRefIdeal.Rg (ten row Reals)

theorem reals (x0 x1 : FVec Ideal S4x2048x512 .f32) (x2 : FVec Ideal S8x64x64 .f32) (x3 : FVec Ideal S512 .f32) (x4 : FVec Ideal S8x64x64 .f32)
    (x5 x6 : FVec Ideal S512 .f32) (h : (Cert.Pre_rgf_finite.fn (F := Ideal) x0 x1 x2 x3 x4 x5 x6).1 = (fun _ => 1#1) ∧ (Cert.Pre_rgf_finite.fn (F := Ideal) x0 x1 x2 x3 x4 x5 x6).2.1 = (fun _ => 1#1) ∧ (Cert.Pre_rgf_finite.fn (F := Ideal) x0 x1 x2 x3 x4 x5 x6).2.2.1 = (fun _ => 1#1) ∧ (Cert.Pre_rgf_finite.fn (F := Ideal) x0 x1 x2 x3 x4 x5 x6).2.2.2.1 = (fun _ => 1#1) ∧ (Cert.Pre_rgf_finite.fn (F := Ideal) x0 x1 x2 x3 x4 x5 x6).2.2.2.2.1 = (fun _ => 1#1) ∧ (Cert.Pre_rgf_finite.fn (F := Ideal) x0 x1 x2 x3 x4 x5 x6).2.2.2.2.2.1 = (fun _ => 1#1) ∧ (Cert.Pre_rgf_finite.fn (F := Ideal) x0 x1 x2 x3 x4 x5 x6).2.2.2.2.2.2 = (fun _ => 1#1)) : Reals x0 x1 x2 x3 x4 x5 x6 x0 where
  x := fun b t k => of_finite x0 _ (fun i => by pointwise [winf]) h.1 _
  y := fun b t k => of_finite x1 _ (fun i => by pointwise [winf]) h.2.1 _
  wa := fun b t k => of_finite x2 _ (fun i => by pointwise [winf]) h.2.2.1 _
  ba := fun k => of_finite x3 _ (fun i => by pointwise [winf]) h.2.2.2.1 _
  wx := fun b t k => of_finite x4 _ (fun i => by pointwise [winf]) h.2.2.2.2.1 _
  bx := fun k => of_finite x5 _ (fun i => by pointwise [winf]) h.2.2.2.2.2.1 _
  l := fun k => of_finite x6 _ (fun i => by pointwise [winf]) h.2.2.2.2.2.2 _
  ct := fun b t k => of_finite x0 _ (fun i => by pointwise [winf]) h.1 _

end Cert.RglruFwdRefIdeal.Rgf

namespace Cert.RglruFwdIdeal.Rgf

open Cert.RglruFwdIdeal Cert.RglruFwdIdeal.Gen Cert.RglruFwdRefIdeal.Rgf Cert.Rg Cert.RglruBwdRefIdeal.Rg

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0))) :
    θ_run defs (onTc (τ := τ) (main (F := Ideal))) ⟨m, fun _ => 0, ρ⟩ fun r => ∀ c : Dev nD,
      r.2.mem ((c : Thread nD τ).loc main_v119_0) = rows (YY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_v119_1) = rows (HH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨(hr c).1.trans (final7 m c (h c)),
      (hr c).2.1.trans (final8 m c (h c)),
      (hr c).2.2⟩)
    (Value.run_blocks m ρ)

end Cert.RglruFwdIdeal.Rgf

namespace Cert.RglruFwdRefIdeal.Rgf

open Cert.RglruFwdRefIdeal Cert.RglruFwdRefIdeal.Gen Cert.RglruFwdRefIdeal.Read Cert.RglruFwdRefIdeal.Rgf Cert.Rg Cert.RglruBwdRefIdeal.Rg

theorem run (m : (ℓ : Loc nD τ sig) → Buf (Elt Ideal) ℓ) (ρ : Dev nD → PrngReg)
    (h : ∀ c : Dev nD, Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0))) :
    θ_run defs (onTc (τ := τ) (main (F := Ideal))) ⟨m, fun _ => 0, ρ⟩ fun r => ∀ c : Dev nD,
      r.2.mem ((c : Thread nD τ).loc main_v75) = rows (YY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_v76) = rows (HH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨(hr c).1.trans ((val_main_v75_eq m c).trans (f75 (h c))),
      (hr c).2.1.trans ((val_main_v76_eq m c).trans (f76 (h c))),
      (hr c).2.2⟩)
    (Cert.RglruFwdRefIdeal.Value.run m ρ)

end Cert.RglruFwdRefIdeal.Rgf

end
-- ==== Proof.Products.lean ====
/- The plain products: the arrays their kernels and their references leave. -/
module

public import proofs.«01_k».proof.Proof.Lift
public import proofs.«01_k».proof.Proof.Gen.MmNnIdeal.Value
public import proofs.«01_k».proof.Proof.Gen.MmNnRefIdeal.Run
public import proofs.«01_k».proof.Proof.Gen.MmNnRefIdeal.Read
public import proofs.«01_k».proof.Proof.Gen.MmTnIdeal.Value
public import proofs.«01_k».proof.Proof.Gen.MmTnRefIdeal.Run
public import proofs.«01_k».proof.Proof.Gen.MmTnRefIdeal.Read

@[expose] public section

set_option maxRecDepth 16384

noncomputable section

open Idealize.ShloMosaic Idealize.ShloMosaic.TcCoe Idealize.SL.Sem
open Idealize.ShloMosaic.Pipeline (Dat)

namespace Cert.Mm

/-- A scaled array and the product with a transpose. -/
def back (d : (⟨2, ![8192, 3072]⟩ : Shape).Idx → EReal) (w : (⟨2, ![1024, 3072]⟩ : Shape).Idx → EReal) (z : (⟨2, ![8192, 1024]⟩ : Shape).Idx → EReal) :
    (⟨2, ![8192, 1024]⟩ : Shape).Idx → EReal := fun y =>
  Ideal.ofBits .f32 0x3FB504F3#32 * z y + ∑ k, d (ix2 (y 0) k) * w (ix2 (y 1) k)

/-- The product over the rows of two arrays. -/
def gram (x : (⟨2, ![8192, 1024]⟩ : Shape).Idx → EReal) (d : (⟨2, ![8192, 3072]⟩ : Shape).Idx → EReal) : (⟨2, ![1024, 3072]⟩ : Shape).Idx → EReal := fun y =>
  ∑ r, x (ix2 r (y 0)) * d (ix2 r (y 1))

end Cert.Mm

namespace Cert.MmNnRefIdeal.Mm

open Cert.MmNnRefIdeal Cert.MmNnRefIdeal.Gen Cert.MmNnRefIdeal.Read Cert.Mm

theorem v4 (d : FVec Ideal S8192x3072 .f32) (w : FVec Ideal S1024x3072 .f32) (z : FVec Ideal S8192x1024 .f32) : val_main_v4 (F := Ideal) d w z = back d w z := by
  funext y
  idx_vars y
  pointwise [val_main_v4, val_main_v3, val_main_v2, val_main_v1, val_main_v0, val_main_cst, back]

end Cert.MmNnRefIdeal.Mm

namespace Cert.MmTnRefIdeal.Mm

open Cert.MmTnRefIdeal Cert.MmTnRefIdeal.Gen Cert.MmTnRefIdeal.Read Cert.Mm

theorem v1 (x : FVec Ideal S8192x1024 .f32) (d : FVec Ideal S8192x3072 .f32) : val_main_v1 (F := Ideal) x d = gram x d := by
  funext y
  idx_vars y
  pointwise [val_main_v1, val_main_v0, gram]

end Cert.MmTnRefIdeal.Mm

namespace Cert.MmNnIdeal.Mm

open Cert.MmNnIdeal Cert.MmNnIdeal.Gen Cert.Mm

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- Row `i` of grid point `t`. -/
def row (t : Fin cfg0.N) (i : Fin 1024) : Fin 8192 := ⟨t.val * 1024 + i.val, by have := lt_of_lt_of_eq t.isLt N_0; omega⟩

abbrev aD : FVec Ideal S8192x3072 .f32 := m ((c : Thread nD τ).loc main_arg0)
abbrev aW : FVec Ideal S1024x3072 .f32 := m ((c : Thread nD τ).loc main_arg1)
abbrev aZ : FVec Ideal S8192x1024 .f32 := m ((c : Thread nD τ).loc main_arg2)

theorem blk0 (t : Fin cfg0.N) (i : Fin 1024) (k : Fin 3072) : (show FVec Ideal S1024x3072 .f32 from iblk m c 0 t) (ix2 i k) = aD m c (ix2 (row t i) k) := by
  blk_ext [iblk, V, idx t, row]
theorem blk1 (t : Fin cfg0.N) (k : Fin 3072) (j : Fin 1024) : (show FVec Ideal S3072x1024 .bf16 from iblk m c 1 t) (ix2 k j) = aW m c (ix2 j k) := by
  blk_simp [iblk, idx t]; entry_read; pointwise; blk_ext [idx t]
theorem blk2 (t : Fin cfg0.N) (i j : Fin 1024) : (show FVec Ideal S1024x1024 .f32 from iblk m c 2 t) (ix2 i j) = aZ m c (ix2 (row t i) j) := by
  blk_ext [iblk, V, idx t, row]

theorem pay (d : FVec Ideal S1024x3072 .f32) (w : FVec Ideal S3072x1024 .bf16) (z : FVec Ideal S1024x1024 .f32) (i j : Fin 1024) :
    k0_pay1 (F := Ideal) d w z (ix2 i j) = Ideal.ofBits .f32 0x3FB504F3#32 * z (ix2 i j) + ∑ k, d (ix2 i k) * w (ix2 k j) := by
  pointwise [k0_pay1]
  rw [add_comm]

theorem out3 (t : Fin cfg0.N) (i j : Fin 1024) : out0_3 (F := Ideal) (iblk m c 0 t) (iblk m c 1 t) (iblk m c 2 t) (ix2 i j) = back (aD m c) (aW m c) (aZ m c) (ix2 (row t i) j) := by
  unfold out0_3
  frame_out
  refine (pay _ _ _ i j).trans ?_
  exact congrArg₂ (· + ·) (congrArg₂ (· * ·) rfl (blk2 m c t i j)) (Finset.sum_congr rfl fun k _ => congrArg₂ (· * ·) (blk0 m c t i k) (blk1 m c t k j))

theorem final3 : (dats m 0 c).arrAt 3 cfg0.N = back (aD m c) (aW m c) (aZ m c) := by
  refine (dats m 0 c).arrAt_eq_of_covers 3 _ (by decide +kernel) fun t _ y => ?_
  have e : ((cfg0.win 3).blk t).view.emb y = (ix2 (row t (y 0)) (y 1) : S8192x1024.Idx) := by blk_ext [row, idx t]
  rw [e]
  blk_simp
  rw [after0_3]
  exact (congrArg _ (eq_ix2 y)).trans (out3 m c t (y 0) (y 1))

end Cert.MmNnIdeal.Mm

namespace Cert.MmTnIdeal.Mm

open Cert.MmTnIdeal Cert.MmTnIdeal.Gen Cert.Mm

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- A row of grid point `t`, and one of its columns. -/
def row (s : Fin 8) (i : Fin 1024) : Fin 8192 := ⟨s.val * 1024 + i.val, by omega⟩
def tile (t : Fin cfg0.N) : Fin 8 := ⟨t.val % 8, by omega⟩
def col (t : Fin cfg0.N) (j : Fin 1024) : Fin 3072 := ⟨t.val / 8 * 1024 + j.val, by have := lt_of_lt_of_eq t.isLt N_0; omega⟩

abbrev aX : FVec Ideal S8192x1024 .f32 := m ((c : Thread nD τ).loc main_arg0)
abbrev aD : FVec Ideal S8192x3072 .f32 := m ((c : Thread nD τ).loc main_arg1)

theorem blk0 (t : Fin cfg0.N) (r k : Fin 1024) : (show FVec Ideal S1024x1024 .bf16 from iblk m c 0 t) (ix2 r k) = aX m c (ix2 (row (tile t) r) k) := by
  blk_simp [iblk, idx t]; entry_read; pointwise; blk_ext [idx t, row, tile]
theorem blk1 (t : Fin cfg0.N) (r j : Fin 1024) : (show FVec Ideal S1024x1024 .f32 from iblk m c 1 t) (ix2 r j) = aD m c (ix2 (row (tile t) r) (col t j)) := by
  blk_ext [iblk, V, idx t, row, tile, col]

/-- A grid point's share of the sum. -/
def share (t : Fin cfg0.N) (k j : Fin 1024) : EReal := ∑ r, aX m c (ix2 (row (tile t) r) k) * aD m c (ix2 (row (tile t) r) (col t j))

theorem pay (x : FVec Ideal S1024x1024 .bf16) (d : FVec Ideal S1024x1024 .f32) (k j : Fin 1024) : k0_pay1 (F := Ideal) x d (ix2 k j) = ∑ r, x (ix2 r k) * d (ix2 r j) := by
  pointwise [k0_pay1]
theorem here (t : Fin cfg0.N) (k j : Fin 1024) : k0_pay1 (F := Ideal) (iblk m c 0 t) (iblk m c 1 t) (ix2 k j) = share m c t k j :=
  (pay _ _ k j).trans (Finset.sum_congr rfl fun r _ => congrArg₂ (· * ·) (blk0 m c t r k) (blk1 m c t r j))
theorem p2 (x d a) (y : S1024x1024.Idx) : k0_pay2 (F := Ideal) x d a y = a y + k0_pay1 (F := Ideal) x d y := by pointwise [k0_pay2]

theorem prev (t : Fin cfg0.N) : t.val - 1 < cfg0.N := by have := t.isLt; omega

theorem acc_A (t : Fin cfg0.N) (h0 : t.val % 8 = 0) (k j : Fin 1024) : outsAt0 m c t.val t.isLt (ix2 k j) = share m c t k j := by
  rw [outsAt0_A m c t h0 (by omega)]; frame_out
  exact here m c t k j
theorem acc_B (t : Fin cfg0.N) (h0 : ¬t.val % 8 = 0) (k j : Fin 1024) : outsAt0 m c t.val t.isLt (ix2 k j) = outsAt0 m c (t.val - 1) (prev t) (ix2 k j) + share m c t k j := by
  rw [outsAt0_B m c t h0 (by omega)]; frame_out
  exact (p2 _ _ _ _).trans (congrArg₂ (· + ·) rfl (here m c t k j))

theorem acc (t : Fin cfg0.N) (h7 : t.val % 8 = 7) (k j : Fin 1024) : outsAt0 m c t.val t.isLt (ix2 k j) = gram (aX m c) (aD m c) (ix2 k (col t j)) := by
  rw [Pipeline.eq_sum_fin_of_reset_step_apply_of_flush (fun n h => outsAt0 m c n h) 8 (fun _ => 0) (fun p y => share m c p (y 0) (y 1))
    (fun t h0 y => by rw [zero_add, eq_ix2 y]; exact acc_A m c t h0 _ _)
    (fun t h0 y => by rw [eq_ix2 y]; exact acc_B m c t h0 _ _) t h7, zero_add]
  refine Eq.trans ?_ (Fin.sum_univ_tiles 8 1024 rfl _).symm
  refine Finset.sum_congr rfl fun s _ => Finset.sum_congr rfl fun r _ => congrArg₂ (fun r j => aX m c (ix2 r k) * aD m c (ix2 r j)) (Fin.ext ?_) (Fin.ext ?_)
  · show (8 * (t.val / 8) + s.val) % 8 * 1024 + r.val = s.val * 1024 + r.val; omega
  · show (8 * (t.val / 8) + s.val) / 8 * 1024 + j.val = t.val / 8 * 1024 + j.val; omega

theorem final2 : (dats m 0 c).arrAt 2 cfg0.N = gram (aX m c) (aD m c) := by
  refine (dats m 0 c).arrAt_eq_of_covers 2 _ (by decide +kernel) fun t hf y => ?_
  have e : ((cfg0.win 2).blk t).view.emb y = (ix2 (y 0) (col t (y 1)) : S1024x3072.Idx) := by blk_ext [col, idx t]
  have h7 := (flush0_2 t).mp hf
  rw [e]
  blk_simp
  rw [after0_2]
  exact (congrArg _ (eq_ix2 y)).trans (acc m c t h7 (y 0) (y 1))

end Cert.MmTnIdeal.Mm

end
-- ==== Proof.MmNnRuns.lean ====
/- The runs of the product's kernel and of its reference: both end with the same array. -/
module

public import proofs.«01_k».proof.Proof.Products

@[expose] public section

set_option maxRecDepth 16384

noncomputable section

open Idealize.ShloMosaic Idealize.ShloMosaic.TcCoe Idealize.SL.Sem

namespace Cert.MmNnIdeal.Mm

open Cert.MmNnIdeal Cert.MmNnIdeal.Gen Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = back (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (final3 m c),
      (hr c).2⟩)
    (Value.run_blocks m ρ)

end Cert.MmNnIdeal.Mm

namespace Cert.MmNnRefIdeal.Mm

open Cert.MmNnRefIdeal Cert.MmNnRefIdeal.Gen Cert.MmNnRefIdeal.Read Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = back (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans ((val_main_v4_eq _ _ _).trans (v4 _ _ _)),
      (hr c).2⟩)
    (Cert.MmNnRefIdeal.Value.run m ρ)

end Cert.MmNnRefIdeal.Mm

end
-- ==== Proof.MmTnRuns.lean ====
/- The runs of the kernel of the product over rows and of its reference: both end with the same array. -/
module

public import proofs.«01_k».proof.Proof.Products

@[expose] public section

set_option maxRecDepth 16384

noncomputable section

open Idealize.ShloMosaic Idealize.ShloMosaic.TcCoe Idealize.SL.Sem

namespace Cert.MmTnIdeal.Mm

open Cert.MmTnIdeal Cert.MmTnIdeal.Gen Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans (final2 m c),
      (hr c).2⟩)
    (Value.run_blocks m ρ)

end Cert.MmTnIdeal.Mm

namespace Cert.MmTnRefIdeal.Mm

open Cert.MmTnRefIdeal Cert.MmTnRefIdeal.Gen Cert.MmTnRefIdeal.Read Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r hr c => ⟨(hr c).1.trans ((val_main_v1_eq _ _).trans (v1 _ _)),
      (hr c).2⟩)
    (Cert.MmTnRefIdeal.Value.run m ρ)

end Cert.MmTnRefIdeal.Mm

end
-- ==== Proof.FfnBack.lean ====
/- The gradient of the feed-forward's input: the array its kernel and its reference leave. -/
module

public import proofs.«01_k».proof.Proof.Lift
public import proofs.«01_k».proof.Proof.FfnInValue
public import proofs.«01_k».proof.Proof.Gen.FfnBackIdeal.Value
public import proofs.«01_k».proof.Proof.Gen.FfnBackRefIdeal.Run
public import proofs.«01_k».proof.Proof.Gen.FfnBackRefIdeal.Read

@[expose] public section

set_option maxRecDepth 16384

noncomputable section

open Idealize.ShloMosaic Idealize.ShloMosaic.TcCoe Idealize.SL.Sem
open Idealize.ShloMosaic.Pipeline (Dat)

namespace Cert.Mm

/-- A scaled array and two products with transposes. -/
def backTwo (d e : (⟨2, ![8192, 2816]⟩ : Shape).Idx → EReal) (v w : (⟨2, ![1024, 2816]⟩ : Shape).Idx → EReal) (z : (⟨2, ![8192, 1024]⟩ : Shape).Idx → EReal) :
    (⟨2, ![8192, 1024]⟩ : Shape).Idx → EReal := fun y =>
  Ideal.ofBits .f32 0x3FB504F3#32 * z y + ∑ k, d (ix2 (y 0) k) * v (ix2 (y 1) k) + ∑ k, e (ix2 (y 0) k) * w (ix2 (y 1) k)

end Cert.Mm

namespace Cert.FfnBackRefIdeal.Mm

open Cert.FfnBackRefIdeal Cert.FfnBackRefIdeal.Gen Cert.FfnBackRefIdeal.Read Cert.Mm

theorem v7 (d e : FVec Ideal S8192x2816 .f32) (v w : FVec Ideal S1024x2816 .f32) (z : FVec Ideal S8192x1024 .f32) :
    val_main_v7 (F := Ideal) d e v w z = backTwo d e v w z := by
  funext y
  idx_vars y
  pointwise [val_main_v7, val_main_v6, val_main_v5, val_main_v4, val_main_v3, val_main_v2, val_main_v1, val_main_v0, val_main_cst, backTwo]

end Cert.FfnBackRefIdeal.Mm

namespace Cert.FfnBackIdeal.Mm

open Cert.FfnBackIdeal Cert.FfnBackIdeal.Gen Cert.Mm
open Cert.FfnInBwdIdeal.Fx (slabA slabB slabA_at slabB_at col)

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, 0, 0]
    ∧ win0_3.index t = ![0, 0, 0] ∧ win0_4.index t = ![t.val, 0] ∧ win0_5.index t = ![t.val, 0] :=
  (by decide +kernel : ∀ t : Fin grid0.N, _)

/-- Row `i` of grid point `t`. -/
def row (t : Fin cfg0.N) (i : Fin 512) : Fin 8192 := ⟨t.val * 512 + i.val, by have := lt_of_lt_of_eq t.isLt N_0; omega⟩

abbrev aD : FVec Ideal S8192x2816 .f32 := m ((c : Thread nD τ).loc main_arg0)
abbrev aE : FVec Ideal S8192x2816 .f32 := m ((c : Thread nD τ).loc main_arg1)
abbrev aV : FVec Ideal S1024x2816 .f32 := m ((c : Thread nD τ).loc main_arg2)
abbrev aW : FVec Ideal S1024x2816 .f32 := m ((c : Thread nD τ).loc main_arg3)
abbrev aZ : FVec Ideal S8192x1024 .f32 := m ((c : Thread nD τ).loc main_arg4)

theorem blk0 (t : Fin cfg0.N) (s : Fin 4) (i : Fin 512) (k : Fin 704) :
    (show FVec Ideal S4x512x704 .bf16 from iblk m c 0 t) (ix3 s i k) = aD m c (ix2 (row t i) (col s k)) := by
  blk_simp [iblk, idx t]; entry_read; pointwise; blk_ext [idx t, row, col]
theorem blk1 (t : Fin cfg0.N) (s : Fin 4) (i : Fin 512) (k : Fin 704) :
    (show FVec Ideal S4x512x704 .bf16 from iblk m c 1 t) (ix3 s i k) = aE m c (ix2 (row t i) (col s k)) := by
  blk_simp [iblk, idx t]; entry_read; pointwise; blk_ext [idx t, row, col]
theorem blk2 (t : Fin cfg0.N) (s : Fin 4) (i : Fin 1024) (k : Fin 704) :
    (show FVec Ideal S4x1024x704 .bf16 from iblk m c 2 t) (ix3 s i k) = aV m c (ix2 i (col s k)) := by
  blk_simp [iblk, idx t]; entry_read; pointwise; blk_ext [idx t, col]
theorem blk3 (t : Fin cfg0.N) (s : Fin 4) (i : Fin 1024) (k : Fin 704) :
    (show FVec Ideal S4x1024x704 .bf16 from iblk m c 3 t) (ix3 s i k) = aW m c (ix2 i (col s k)) := by
  blk_simp [iblk, idx t]; entry_read; pointwise; blk_ext [idx t, col]
theorem blk4 (t : Fin cfg0.N) (i : Fin 512) (j : Fin 1024) : (show FVec Ideal S512x1024 .f32 from iblk m c 4 t) (ix2 i j) = aZ m c (ix2 (row t i) j) := by
  blk_ext [iblk, V, idx t, row]

/-- A sum over the columns, slab by slab. -/
theorem four (f : Fin 2816 → EReal) : ∑ k, f k = ∑ k, f (col 0 k) + ∑ k, f (col 1 k) + ∑ k, f (col 2 k) + ∑ k, f (col 3 k) := by
  rw [Fin.sum_univ_tiles 4 704 rfl, Fin.sum_univ_four]; rfl

/-- What a grid point makes from its four slabs of each product's factors and its rows. -/
def made (a b : Fin 4 → FVec Ideal S1x512x704 .bf16) (p q : Fin 4 → FVec Ideal S1x1024x704 .bf16) (z : FVec Ideal S512x1024 .f32) : FVec Ideal S512x1024 .f32 :=
  k0_pay1 (F := Ideal) (k0_pay2 (F := Ideal) z (a 0) (p 0) (b 0) (q 0) (a 1) (p 1) (b 1) (q 1)) (a 2) (p 2) (b 2) (q 2) (a 3) (p 3) (b 3) (q 3)

theorem made_at (a b : Fin 4 → FVec Ideal S1x512x704 .bf16) (p q : Fin 4 → FVec Ideal S1x1024x704 .bf16) (z : FVec Ideal S512x1024 .f32)
    (d e v w : Fin 2816 → EReal) (r : EReal) (i : Fin 512) (j : Fin 1024)
    (h0 : ∀ s k, a s (ix3 0 i k) = d (col s k)) (h1 : ∀ s k, b s (ix3 0 i k) = e (col s k))
    (h2 : ∀ s k, p s (ix3 0 j k) = v (col s k)) (h3 : ∀ s k, q s (ix3 0 j k) = w (col s k)) (h4 : z (ix2 i j) = r) :
    made a b p q z (ix2 i j) = Ideal.ofBits .f32 0x3FB504F3#32 * r + ∑ k, d k * v k + ∑ k, e k * w k := by
  rw [four, four]
  pointwise [made, k0_pay1, k0_pay2]
  simp only [h0, h1, h2, h3, h4, zero_add]
  abel

theorem out5 (t : Fin cfg0.N) (i : Fin 512) (j : Fin 1024) :
    out0_5 (F := Ideal) (iblk m c 0 t) (iblk m c 1 t) (iblk m c 2 t) (iblk m c 3 t) (iblk m c 4 t) (ix2 i j)
      = backTwo (aD m c) (aE m c) (aV m c) (aW m c) (aZ m c) (ix2 (row t i) j) := by
  unfold out0_5
  frame_out
  exact made_at (slabA (iblk m c 0 t)) (slabA (iblk m c 1 t)) (slabB (iblk m c 2 t)) (slabB (iblk m c 3 t)) (iblk m c 4 t)
    (fun k => aD m c (ix2 (row t i) k)) (fun k => aE m c (ix2 (row t i) k)) (fun k => aV m c (ix2 j k)) (fun k => aW m c (ix2 j k)) _ i j
    (fun s k => (slabA_at _ s i k).trans (blk0 m c t s i k)) (fun s k => (slabA_at _ s i k).trans (blk1 m c t s i k))
    (fun s k => (slabB_at _ s j k).trans (blk2 m c t s j k)) (fun s k => (slabB_at _ s j k).trans (blk3 m c t s j k)) (blk4 m c t i j)

theorem final5 : (dats m 0 c).arrAt 5 cfg0.N = backTwo (aD m c) (aE m c) (aV m c) (aW m c) (aZ m c) := by
  refine (dats m 0 c).arrAt_eq_of_covers 5 _ (by decide +kernel) fun t _ y => ?_
  have e : ((cfg0.win 5).blk t).view.emb y = (ix2 (row t (y 0)) (y 1) : S8192x1024.Idx) := by blk_ext [row, idx t]
  rw [e]
  blk_simp
  rw [after0_5]
  exact (congrArg _ (eq_ix2 y)).trans (out5 m c t (y 0) (y 1))

end Cert.FfnBackIdeal.Mm

end
-- ==== Proof.FfnBackRuns.lean ====
/- The runs of the kernel of the feed-forward's input gradient and of its reference: both end with the same array. -/
module

public import proofs.«01_k».proof.Proof.FfnBack

@[expose] public section

set_option maxRecDepth 16384

noncomputable section

open Idealize.ShloMosaic Idealize.ShloMosaic.TcCoe Idealize.SL.Sem

namespace Cert.FfnBackIdeal.Mm

open Cert.FfnBackIdeal Cert.FfnBackIdeal.Gen Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = backTwo (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans (final5 m c),
      (hr c).2⟩)
    (Value.run_blocks m ρ)

end Cert.FfnBackIdeal.Mm

namespace Cert.FfnBackRefIdeal.Mm

open Cert.FfnBackRefIdeal Cert.FfnBackRefIdeal.Gen Cert.FfnBackRefIdeal.Read Cert.Mm

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = backTwo (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hr c => ⟨(hr c).1.trans ((val_main_v7_eq _ _ _ _ _).trans (v7 _ _ _ _ _)),
      (hr c).2⟩)
    (Cert.FfnBackRefIdeal.Value.run m ρ)

end Cert.FfnBackRefIdeal.Mm

end
-- ==== Proof.Step.lean ====
/- The optimiser's step and the sum of the chips' parts: the arrays their kernels and their references leave. -/
module

public import proofs.«01_k».proof.Proof.Lift
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Gen.SumSlotsIdeal.Value
public import proofs.«01_k».proof.Proof.Gen.SumSlotsRefIdeal.Run
public import proofs.«01_k».proof.Proof.Gen.SumSlotsRefIdeal.Read

@[expose] public section

set_option maxRecDepth 16384

noncomputable section

open Idealize.ShloMosaic Idealize.ShloMosaic.TcCoe Idealize.SL.Sem
open Idealize.ShloMosaic.Pipeline (Dat)

namespace Cert.Adam

/-- The averages of the gradient and of its square, and the step, of one weight. -/
def mean (g m : EReal) : EReal := Ideal.ofBits .f32 0x3F666666#32 * m + Ideal.ofBits .f32 0x3DCCCCCD#32 * g
def meanSq (g v : EReal) : EReal := Ideal.ofBits .f32 0x3F7FBE77#32 * v + Ideal.ofBits .f32 0x3A83126F#32 * (g * g)
def step (w g m v : EReal) : EReal :=
  Ideal.ofBits .f32 0xBA83126F#32 * (Ideal.div (Ideal.div (mean g m) (Ideal.ofBits .f32 0x3F26BD02#32))
    (Ideal.sqrt (Ideal.div (meanSq g v) (Ideal.ofBits .f32 0x3C231ACC#32)) + Ideal.ofBits .f32 0x322BCC77#32) + Ideal.ofBits .f32 0x3C23D70A#32 * w)

/-- The packed matrices. -/
abbrev Pack := (⟨2, ![22528, 128]⟩ : Shape).Idx → EReal
def means (g m : Pack) : Pack := fun y => mean (g y) (m y)
def meanSqs (g v : Pack) : Pack := fun y => meanSq (g y) (v y)
def steps (w g m v : Pack) : Pack := fun y => step (w y) (g y) (m y) (v y)

/-- The sum of the four parts. -/
def parts (q : (⟨3, ![4, 11264, 128]⟩ : Shape).Idx → EReal) : (⟨2, ![11264, 128]⟩ : Shape).Idx → EReal := fun y => ∑ s, q (ix3 s (y 0) (y 1))

end Cert.Adam

namespace Cert.AdamWRefIdeal.Ad

open Cert.AdamWRefIdeal Cert.AdamWRefIdeal.Gen Cert.AdamWRefIdeal.Read Cert.Adam

variable (w g m v : FVec Ideal S22528x128 .f32)

theorem v4 : val_main_v4 (F := Ideal) g m = means g m := by
  funext y
  pointwise [val_main_v4, val_main_v3, val_main_v2, val_main_v1, val_main_v0, val_main_cst, val_main_cst_0, means, mean]
theorem v10 : val_main_v10 (F := Ideal) g v = meanSqs g v := by
  funext y
  pointwise [val_main_v10, val_main_v9, val_main_v8, val_main_v7, val_main_v6, val_main_v5, val_main_cst_1, val_main_cst_2, meanSqs, meanSq]
theorem v23 : val_main_v23 (F := Ideal) w g m v = steps w g m v := by
  funext y
  have e := congrFun (v4 g m) y
  have f := congrFun (v10 g v) y
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7, steps, step, e, f]
  rfl

end Cert.AdamWRefIdeal.Ad

namespace Cert.SumSlotsRefIdeal.Ad

open Cert.SumSlotsRefIdeal Cert.SumSlotsRefIdeal.Gen Cert.SumSlotsRefIdeal.Read Cert.Adam

theorem v0 (q : FVec Ideal S4x11264x128 .f32) : val_main_v0 (F := Ideal) q = parts q := by
  funext y
  idx_vars y
  pointwise [val_main_v0, val_main_cst, parts]

end Cert.SumSlotsRefIdeal.Ad

namespace Cert.AdamWIdeal.Ad

open Cert.AdamWIdeal Cert.AdamWIdeal.Gen Cert.Adam

section pays
variable (w g m v : FVec Ideal S1024x128 .f32) (y : S1024x128.Idx)
theorem pay1 : k0_pay1 (F := Ideal) g m y = mean (g y) (m y) := by pointwise [k0_pay1, mean]
theorem pay2 : k0_pay2 (F := Ideal) g v y = meanSq (g y) (v y) := by pointwise [k0_pay2, meanSq]
theorem pay3 : k0_pay3 (F := Ideal) w g m v y = step (w y) (g y) (m y) (v y) := by
  have e := pay1 g m y
  have f := pay2 g v y
  pointwise [k0_pay3, step, e, f]
end pays

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- Row `i` of grid point `t`. -/
def row (t : Fin cfg0.N) (i : Fin 1024) : Fin 22528 := ⟨t.val * 1024 + i.val, by have := lt_of_lt_of_eq t.isLt N_0; omega⟩

abbrev aW : FVec Ideal S22528x128 .f32 := m ((c : Thread nD τ).loc main_arg0)
abbrev aG : FVec Ideal S22528x128 .f32 := m ((c : Thread nD τ).loc main_arg1)
abbrev aM : FVec Ideal S22528x128 .f32 := m ((c : Thread nD τ).loc main_arg2)
abbrev aV : FVec Ideal S22528x128 .f32 := m ((c : Thread nD τ).loc main_arg3)

theorem blk0 (t : Fin cfg0.N) (i : Fin 1024) (k : Fin 128) : (show FVec Ideal S1024x128 .f32 from iblk m c 0 t) (ix2 i k) = aW m c (ix2 (row t i) k) := by
  blk_ext [iblk, V, idx t, row]
theorem blk1 (t : Fin cfg0.N) (i : Fin 1024) (k : Fin 128) : (show FVec Ideal S1024x128 .f32 from iblk m c 1 t) (ix2 i k) = aG m c (ix2 (row t i) k) := by
  blk_ext [iblk, V, idx t, row]
theorem blk2 (t : Fin cfg0.N) (i : Fin 1024) (k : Fin 128) : (show FVec Ideal S1024x128 .f32 from iblk m c 2 t) (ix2 i k) = aM m c (ix2 (row t i) k) := by
  blk_ext [iblk, V, idx t, row]
theorem blk3 (t : Fin cfg0.N) (i : Fin 1024) (k : Fin 128) : (show FVec Ideal S1024x128 .f32 from iblk m c 3 t) (ix2 i k) = aV m c (ix2 (row t i) k) := by
  blk_ext [iblk, V, idx t, row]

theorem out4 (t : Fin cfg0.N) (i : Fin 1024) (k : Fin 128) :
    out0_4 (F := Ideal) (iblk m c 0 t) (iblk m c 1 t) (iblk m c 2 t) (iblk m c 3 t) (ix2 i k) = steps (aW m c) (aG m c) (aM m c) (aV m c) (ix2 (row t i) k) := by
  unfold out0_4
  frame_out
  exact (pay3 _ _ _ _ (ix2 i k)).trans (by show step _ _ _ _ = step _ _ _ _; exact congr (congr (congrArg₂ step (blk0 m c t i k) (blk1 m c t i k)) (blk2 m c t i k)) (blk3 m c t i k))
theorem final4 : (dats m 0 c).arrAt 4 cfg0.N = steps (aW m c) (aG m c) (aM m c) (aV m c) := by
  refine (dats m 0 c).arrAt_eq_of_covers 4 _ (by decide +kernel) fun t _ y => ?_
  have e : ((cfg0.win 4).blk t).view.emb y = (ix2 (row t (y 0)) (y 1) : S22528x128.Idx) := by blk_ext [row, idx t]
  rw [e]
  blk_simp
  rw [after0_4]
  exact (congrArg _ (eq_ix2 y)).trans (out4 m c t (y 0) (y 1))
theorem out5 (t : Fin cfg0.N) (i : Fin 1024) (k : Fin 128) :
    out0_5 (F := Ideal) (iblk m c 0 t) (iblk m c 1 t) (iblk m c 2 t) (iblk m c 3 t) (ix2 i k) = means (aG m c) (aM m c) (ix2 (row t i) k) := by
  unfold out0_5
  frame_out
  exact (pay1 _ _ (ix2 i k)).trans (congrArg₂ mean (blk1 m c t i k) (blk2 m c t i k))
theorem final5 : (dats m 0 c).arrAt 5 cfg0.N = means (aG m c) (aM m c) := by
  refine (dats m 0 c).arrAt_eq_of_covers 5 _ (by decide +kernel) fun t _ y => ?_
  have e : ((cfg0.win 5).blk t).view.emb y = (ix2 (row t (y 0)) (y 1) : S22528x128.Idx) := by blk_ext [row, idx t]
  rw [e]
  blk_simp
  rw [after0_5]
  exact (congrArg _ (eq_ix2 y)).trans (out5 m c t (y 0) (y 1))
theorem out6 (t : Fin cfg0.N) (i : Fin 1024) (k : Fin 128) :
    out0_6 (F := Ideal) (iblk m c 0 t) (iblk m c 1 t) (iblk m c 2 t) (iblk m c 3 t) (ix2 i k) = meanSqs (aG m c) (aV m c) (ix2 (row t i) k) := by
  unfold out0_6
  frame_out
  exact (pay2 _ _ (ix2 i k)).trans (congrArg₂ meanSq (blk1 m c t i k) (blk3 m c t i k))
theorem final6 : (dats m 0 c).arrAt 6 cfg0.N = meanSqs (aG m c) (aV m c) := by
  refine (dats m 0 c).arrAt_eq_of_covers 6 _ (by decide +kernel) fun t _ y => ?_
  have e : ((cfg0.win 6).blk t).view.emb y = (ix2 (row t (y 0)) (y 1) : S22528x128.Idx) := by blk_ext [row, idx t]
  rw [e]
  blk_simp
  rw [after0_6]
  exact (congrArg _ (eq_ix2 y)).trans (out6 m c t (y 0) (y 1))

end Cert.AdamWIdeal.Ad

namespace Cert.SumSlotsIdeal.Ad

open Cert.SumSlotsIdeal Cert.SumSlotsIdeal.Gen Cert.Adam

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, _)

/-- Row `i` of grid point `t`. -/
def row (t : Fin cfg0.N) (i : Fin 256) : Fin 11264 := ⟨t.val * 256 + i.val, by have := lt_of_lt_of_eq t.isLt N_0; omega⟩

abbrev aQ : FVec Ideal S4x11264x128 .f32 := m ((c : Thread nD τ).loc main_arg0)

theorem blk0 (t : Fin cfg0.N) (s : Fin 4) (i : Fin 256) (k : Fin 128) : (show FVec Ideal S4x256x128 .bf16 from iblk m c 0 t) (ix3 s i k) = aQ m c (ix3 s (row t i) k) := by
  blk_simp [iblk, idx t]; entry_read; pointwise; blk_ext [idx t, row]

/-- One part of a block. -/
theorem part (x : FVec Ideal S4x256x128 .bf16) (s : Fin 4) (o : ℕ) (h : o = s.val) (q) (i : Fin 256) (k : Fin 128) :
    x ((Rect.unit (s := S4x256x128) ![o, 0, 0] ![1, 256, 128] q).idx (ix3 0 i k)) = x (ix3 s i k) := by
  subst h
  refine congrArg x (funext fun a => Fin.ext ((Rect.idx_unit_val _ _ _ _ a).trans ?_))
  fin_cases a
  · rfl
  · exact Nat.zero_add _
  · exact Nat.zero_add _

theorem pay (x0 x1 x2 x3 : FVec Ideal S1x256x128 .bf16) (i : Fin 256) (k : Fin 128) :
    k0_pay1 (F := Ideal) x0 x1 x2 x3 (ix2 i k) = x0 (ix3 0 i k) + x1 (ix3 0 i k) + x2 (ix3 0 i k) + x3 (ix3 0 i k) := by
  pointwise [k0_pay1]

theorem out1 (t : Fin cfg0.N) (i : Fin 256) (k : Fin 128) : out0_1 (F := Ideal) (iblk m c 0 t) (ix2 i k) = parts (aQ m c) (ix2 (row t i) k) := by
  unfold out0_1
  frame_out
  refine (pay _ _ _ _ i k).trans (Eq.trans ?_ (Fin.sum_univ_four fun s => aQ m c (ix3 s (row t i) k)).symm)
  exact congrArg₂ (· + ·) (congrArg₂ (· + ·) (congrArg₂ (· + ·) ((part _ 0 0 rfl _ i k).trans (blk0 m c t 0 i k)) ((part _ 1 1 rfl _ i k).trans (blk0 m c t 1 i k)))
    ((part _ 2 2 rfl _ i k).trans (blk0 m c t 2 i k))) ((part _ 3 3 rfl _ i k).trans (blk0 m c t 3 i k))

theorem final1 : (dats m 0 c).arrAt 1 cfg0.N = parts (aQ m c) := by
  refine (dats m 0 c).arrAt_eq_of_covers 1 _ (by decide +kernel) fun t _ y => ?_
  have e : ((cfg0.win 1).blk t).view.emb y = (ix2 (row t (y 0)) (y 1) : S11264x128.Idx) := by blk_ext [row, idx t]
  rw [e]
  blk_simp
  rw [after0_1]
  exact (congrArg _ (eq_ix2 y)).trans (out1 m c t (y 0) (y 1))

end Cert.SumSlotsIdeal.Ad

end
-- ==== Proof.AdamWRuns.lean ====
/- The runs of the optimiser's kernel and of its reference: both end with the same arrays. -/
module

public import proofs.«01_k».proof.Proof.Step

@[expose] public section

set_option maxRecDepth 16384

noncomputable section

open Idealize.ShloMosaic Idealize.ShloMosaic.TcCoe Idealize.SL.Sem

namespace Cert.AdamWIdeal.Ad

open Cert.AdamWIdeal Cert.AdamWIdeal.Gen Cert.Adam

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = steps (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = meanSqs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans (final4 m c),
      (hr c).2.1.trans (final5 m c),
      (hr c).2.2.1.trans (final6 m c),
      (hr c).2.2.2⟩)
    (Value.run_blocks m ρ)

end Cert.AdamWIdeal.Ad

namespace Cert.AdamWRefIdeal.Ad

open Cert.AdamWRefIdeal Cert.AdamWRefIdeal.Gen Cert.AdamWRefIdeal.Read Cert.Adam

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = steps (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = meanSqs (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r hr c => ⟨(hr c).1.trans ((val_main_v23_eq _ _ _ _).trans (v23 _ _ _ _)),
      (hr c).2.1.trans ((val_main_v4_eq _ _).trans (v4 _ _)),
      (hr c).2.2.1.trans ((val_main_v10_eq _ _).trans (v10 _ _)),
      (hr c).2.2.2⟩)
    (Cert.AdamWRefIdeal.Value.run m ρ)

end Cert.AdamWRefIdeal.Ad

end
-- ==== Proof.SumSlotsRuns.lean ====
/- The runs of the sum's kernel and of its reference: both end with the same array. -/
module

public import proofs.«01_k».proof.Proof.Step

@[expose] public section

set_option maxRecDepth 16384

noncomputable section

open Idealize.ShloMosaic Idealize.ShloMosaic.TcCoe Idealize.SL.Sem

namespace Cert.SumSlotsIdeal.Ad

open Cert.SumSlotsIdeal Cert.SumSlotsIdeal.Gen Cert.Adam

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = parts (m ((c : Thread nD τ).loc main_arg0))
      ∧ r.2.mem ((c : Thread nD τ).loc main_arg0) = m ((c : Thread nD τ).loc main_arg0) :=
  (θ_run defs _ _).mono (fun r hr c => ⟨(hr c).1.trans (final1 m c),
      (hr c).2⟩)
    (Value.run_blocks m ρ)

end Cert.SumSlotsIdeal.Ad

namespace Cert.SumSlotsRefIdeal.Ad

open Cert.SumSlotsRefIdeal Cert.SumSlotsRefIdeal.Gen Cert.SumSlotsRefIdeal.Read Cert.Adam

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = parts (m ((c : Thread nD τ).loc main_arg0))
      ∧ r.2.mem ((c : Thread nD τ).loc main_arg0) = m ((c : Thread nD τ).loc main_arg0) :=
  (θ_run defs _ _).mono (fun r hr c => ⟨(hr c).1.trans ((val_main_v0_eq _).trans (v0 _)),
      (hr c).2⟩)
    (Cert.SumSlotsRefIdeal.Value.run m ρ)

end Cert.SumSlotsRefIdeal.Ad

end
-- ==== Proof.lean ====
module

public import proofs.«01_k».proof.Defs
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.Gen.Pre_ln_finite
public import proofs.«01_k».proof.Proof.LnRuns
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.ConvRuns
public import proofs.«01_k».proof.Proof.Gen.ConvActBwd
public import proofs.«01_k».proof.Proof.Gen.ConvActBwd.Skeleton
public import proofs.«01_k».proof.Proof.Gen.ConvActBwd.Launch
public import proofs.«01_k».proof.Proof.Gen.ConvActBwd.Points
public import proofs.«01_k».proof.Proof.Gen.ConvActBwd.Frame
public import proofs.«01_k».proof.Proof.Gen.ConvActBwdIdeal
public import proofs.«01_k».proof.Proof.Gen.ConvActBwdIdeal.Skeleton
public import proofs.«01_k».proof.Proof.Gen.ConvActBwdIdeal.Launch
public import proofs.«01_k».proof.Proof.Gen.ConvActBwdIdeal.Points
public import proofs.«01_k».proof.Proof.Gen.ConvActBwdIdeal.Frame
public import proofs.«01_k».proof.Proof.Gen.ConvActBwdIdeal.Value
public import proofs.«01_k».proof.Proof.Gen.ConvActBwdRefIdeal
public import proofs.«01_k».proof.Proof.Gen.ConvActBwdRefIdeal.Run
public import proofs.«01_k».proof.Proof.Gen.ConvActBwdRefIdeal.Read
public import proofs.«01_k».proof.Proof.Gen.Pre_convact_finite
public import proofs.«01_k».proof.Proof.ConvActRuns
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_loss_finite
public import proofs.«01_k».proof.Proof.LossRuns
public import proofs.«01_k».proof.Proof.Gen.FfnInBwd
public import proofs.«01_k».proof.Proof.Gen.FfnInBwd.Skeleton
public import proofs.«01_k».proof.Proof.Gen.FfnInBwd.Launch
public import proofs.«01_k».proof.Proof.Gen.FfnInBwd.Points
public import proofs.«01_k».proof.Proof.Gen.FfnInBwd.Frame
public import proofs.«01_k».proof.Proof.Gen.FfnInBwdIdeal
public import proofs.«01_k».proof.Proof.Gen.FfnInBwdIdeal.Skeleton
public import proofs.«01_k».proof.Proof.Gen.FfnInBwdIdeal.Launch
public import proofs.«01_k».proof.Proof.Gen.FfnInBwdIdeal.Points
public import proofs.«01_k».proof.Proof.Gen.FfnInBwdIdeal.Frame
public import proofs.«01_k».proof.Proof.Gen.FfnInBwdIdeal.Value
public import proofs.«01_k».proof.Proof.Gen.FfnInBwdRefIdeal
public import proofs.«01_k».proof.Proof.Gen.FfnInBwdRefIdeal.Run
public import proofs.«01_k».proof.Proof.Gen.FfnInBwdRefIdeal.Read
public import proofs.«01_k».proof.Proof.Gen.Pre_ffnx_finite
public import proofs.«01_k».proof.Proof.FfnInRuns
public import proofs.«01_k».proof.Proof.Gen.FfnWBwd
public import proofs.«01_k».proof.Proof.Gen.FfnWBwd.Skeleton
public import proofs.«01_k».proof.Proof.Gen.FfnWBwd.Launch
public import proofs.«01_k».proof.Proof.Gen.FfnWBwd.Points
public import proofs.«01_k».proof.Proof.Gen.FfnWBwd.Frame
public import proofs.«01_k».proof.Proof.Gen.FfnWBwdIdeal
public import proofs.«01_k».proof.Proof.Gen.FfnWBwdIdeal.Skeleton
public import proofs.«01_k».proof.Proof.Gen.FfnWBwdIdeal.Launch
public import proofs.«01_k».proof.Proof.Gen.FfnWBwdIdeal.Points
public import proofs.«01_k».proof.Proof.Gen.FfnWBwdIdeal.Frame
public import proofs.«01_k».proof.Proof.Gen.FfnWBwdIdeal.Value
public import proofs.«01_k».proof.Proof.Gen.FfnWBwdRefIdeal
public import proofs.«01_k».proof.Proof.Gen.FfnWBwdRefIdeal.Run
public import proofs.«01_k».proof.Proof.Gen.FfnWBwdRefIdeal.Read
public import proofs.«01_k».proof.Proof.Gen.Pre_ffnw_finite
public import proofs.«01_k».proof.Proof.FfnWRuns
public import proofs.«01_k».proof.Proof.Gen.PleBwd
public import proofs.«01_k».proof.Proof.Gen.PleBwd.Skeleton
public import proofs.«01_k».proof.Proof.Gen.PleBwd.Launch
public import proofs.«01_k».proof.Proof.Gen.PleBwd.Points
public import proofs.«01_k».proof.Proof.Gen.PleBwd.Frame
public import proofs.«01_k».proof.Proof.Gen.PleBwdIdeal
public import proofs.«01_k».proof.Proof.Gen.PleBwdIdeal.Skeleton
public import proofs.«01_k».proof.Proof.Gen.PleBwdIdeal.Launch
public import proofs.«01_k».proof.Proof.Gen.PleBwdIdeal.Points
public import proofs.«01_k».proof.Proof.Gen.PleBwdIdeal.Frame
public import proofs.«01_k».proof.Proof.Gen.PleBwdIdeal.Value
public import proofs.«01_k».proof.Proof.Gen.PleBwdRefIdeal
public import proofs.«01_k».proof.Proof.Gen.PleBwdRefIdeal.Run
public import proofs.«01_k».proof.Proof.Gen.PleBwdRefIdeal.Read
public import proofs.«01_k».proof.Proof.Gen.Pre_ple_finite
public import proofs.«01_k».proof.Proof.PleRuns
public import proofs.«01_k».proof.Proof.Gen.RglruBwd
public import proofs.«01_k».proof.Proof.Gen.RglruBwd.Skeleton
public import proofs.«01_k».proof.Proof.Gen.RglruBwd.Launch
public import proofs.«01_k».proof.Proof.Gen.RglruBwd.Points
public import proofs.«01_k».proof.Proof.Gen.RglruBwd.Frame
public import proofs.«01_k».proof.Proof.Gen.RglruBwdIdeal
public import proofs.«01_k».proof.Proof.Gen.RglruBwdIdeal.Skeleton
public import proofs.«01_k».proof.Proof.Gen.RglruBwdIdeal.Launch
public import proofs.«01_k».proof.Proof.Gen.RglruBwdIdeal.Points
public import proofs.«01_k».proof.Proof.Gen.RglruBwdIdeal.Frame
public import proofs.«01_k».proof.Proof.Gen.RglruBwdIdeal.Value
public import proofs.«01_k».proof.Proof.Gen.RglruBwdRefIdeal
public import proofs.«01_k».proof.Proof.Gen.RglruBwdRefIdeal.Run
public import proofs.«01_k».proof.Proof.Gen.RglruBwdRefIdeal.Read
public import proofs.«01_k».proof.Proof.Gen.Pre_rglru_finite
public import proofs.«01_k».proof.Proof.RgRuns
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.ConvFwdRuns
public import proofs.«01_k».proof.Proof.Gen.ConvActFwd
public import proofs.«01_k».proof.Proof.Gen.ConvActFwd.Skeleton
public import proofs.«01_k».proof.Proof.Gen.ConvActFwd.Launch
public import proofs.«01_k».proof.Proof.Gen.ConvActFwd.Points
public import proofs.«01_k».proof.Proof.Gen.ConvActFwd.Frame
public import proofs.«01_k».proof.Proof.Gen.ConvActFwdIdeal
public import proofs.«01_k».proof.Proof.Gen.ConvActFwdIdeal.Skeleton
public import proofs.«01_k».proof.Proof.Gen.ConvActFwdIdeal.Launch
public import proofs.«01_k».proof.Proof.Gen.ConvActFwdIdeal.Points
public import proofs.«01_k».proof.Proof.Gen.ConvActFwdIdeal.Frame
public import proofs.«01_k».proof.Proof.Gen.ConvActFwdIdeal.Value
public import proofs.«01_k».proof.Proof.Gen.ConvActFwdRefIdeal
public import proofs.«01_k».proof.Proof.Gen.ConvActFwdRefIdeal.Run
public import proofs.«01_k».proof.Proof.Gen.ConvActFwdRefIdeal.Read
public import proofs.«01_k».proof.Proof.ConvActFwdRuns
public import proofs.«01_k».proof.Proof.Gen.PleFwd
public import proofs.«01_k».proof.Proof.Gen.PleFwd.Skeleton
public import proofs.«01_k».proof.Proof.Gen.PleFwd.Launch
public import proofs.«01_k».proof.Proof.Gen.PleFwd.Points
public import proofs.«01_k».proof.Proof.Gen.PleFwd.Frame
public import proofs.«01_k».proof.Proof.Gen.PleFwdIdeal
public import proofs.«01_k».proof.Proof.Gen.PleFwdIdeal.Skeleton
public import proofs.«01_k».proof.Proof.Gen.PleFwdIdeal.Launch
public import proofs.«01_k».proof.Proof.Gen.PleFwdIdeal.Points
public import proofs.«01_k».proof.Proof.Gen.PleFwdIdeal.Frame
public import proofs.«01_k».proof.Proof.Gen.PleFwdIdeal.Value
public import proofs.«01_k».proof.Proof.Gen.PleFwdRefIdeal
public import proofs.«01_k».proof.Proof.Gen.PleFwdRefIdeal.Run
public import proofs.«01_k».proof.Proof.Gen.PleFwdRefIdeal.Read
public import proofs.«01_k».proof.Proof.PleFwdRuns
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.FfnFwdRuns
public import proofs.«01_k».proof.Proof.Gen.ProjLn
public import proofs.«01_k».proof.Proof.Gen.ProjLn.Skeleton
public import proofs.«01_k».proof.Proof.Gen.ProjLn.Launch
public import proofs.«01_k».proof.Proof.Gen.ProjLn.Points
public import proofs.«01_k».proof.Proof.Gen.ProjLn.Frame
public import proofs.«01_k».proof.Proof.Gen.ProjLnIdeal
public import proofs.«01_k».proof.Proof.Gen.ProjLnIdeal.Skeleton
public import proofs.«01_k».proof.Proof.Gen.ProjLnIdeal.Launch
public import proofs.«01_k».proof.Proof.Gen.ProjLnIdeal.Points
public import proofs.«01_k».proof.Proof.Gen.ProjLnIdeal.Frame
public import proofs.«01_k».proof.Proof.Gen.ProjLnIdeal.Value
public import proofs.«01_k».proof.Proof.Gen.ProjLnRefIdeal
public import proofs.«01_k».proof.Proof.Gen.ProjLnRefIdeal.Run
public import proofs.«01_k».proof.Proof.Gen.ProjLnRefIdeal.Read
public import proofs.«01_k».proof.Proof.ProjLnRuns
public import proofs.«01_k».proof.Proof.Gen.RglruFwd
public import proofs.«01_k».proof.Proof.Gen.RglruFwd.Skeleton
public import proofs.«01_k».proof.Proof.Gen.RglruFwd.Launch
public import proofs.«01_k».proof.Proof.Gen.RglruFwd.Points
public import proofs.«01_k».proof.Proof.Gen.RglruFwd.Frame
public import proofs.«01_k».proof.Proof.Gen.RglruFwdIdeal
public import proofs.«01_k».proof.Proof.Gen.RglruFwdIdeal.Skeleton
public import proofs.«01_k».proof.Proof.Gen.RglruFwdIdeal.Launch
public import proofs.«01_k».proof.Proof.Gen.RglruFwdIdeal.Points
public import proofs.«01_k».proof.Proof.Gen.RglruFwdIdeal.Frame
public import proofs.«01_k».proof.Proof.Gen.RglruFwdIdeal.Value
public import proofs.«01_k».proof.Proof.Gen.RglruFwdRefIdeal
public import proofs.«01_k».proof.Proof.Gen.RglruFwdRefIdeal.Run
public import proofs.«01_k».proof.Proof.Gen.RglruFwdRefIdeal.Read
public import proofs.«01_k».proof.Proof.Gen.Pre_rgf_finite
public import proofs.«01_k».proof.Proof.RgfRuns
public import proofs.«01_k».proof.Proof.Gen.MmNn
public import proofs.«01_k».proof.Proof.Gen.MmNn.Skeleton
public import proofs.«01_k».proof.Proof.Gen.MmNn.Launch
public import proofs.«01_k».proof.Proof.Gen.MmNn.Points
public import proofs.«01_k».proof.Proof.Gen.MmNn.Frame
public import proofs.«01_k».proof.Proof.Gen.MmNnIdeal
public import proofs.«01_k».proof.Proof.Gen.MmNnIdeal.Skeleton
public import proofs.«01_k».proof.Proof.Gen.MmNnIdeal.Launch
public import proofs.«01_k».proof.Proof.Gen.MmNnIdeal.Points
public import proofs.«01_k».proof.Proof.Gen.MmNnIdeal.Frame
public import proofs.«01_k».proof.Proof.Gen.MmNnIdeal.Value
public import proofs.«01_k».proof.Proof.Gen.MmNnRefIdeal
public import proofs.«01_k».proof.Proof.Gen.MmNnRefIdeal.Run
public import proofs.«01_k».proof.Proof.Gen.MmNnRefIdeal.Read
public import proofs.«01_k».proof.Proof.MmNnRuns
public import proofs.«01_k».proof.Proof.Gen.MmTn
public import proofs.«01_k».proof.Proof.Gen.MmTn.Skeleton
public import proofs.«01_k».proof.Proof.Gen.MmTn.Launch
public import proofs.«01_k».proof.Proof.Gen.MmTn.Points
public import proofs.«01_k».proof.Proof.Gen.MmTn.Frame
public import proofs.«01_k».proof.Proof.Gen.MmTnIdeal
public import proofs.«01_k».proof.Proof.Gen.MmTnIdeal.Skeleton
public import proofs.«01_k».proof.Proof.Gen.MmTnIdeal.Launch
public import proofs.«01_k».proof.Proof.Gen.MmTnIdeal.Points
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.Gen.MmTnRefIdeal.Read
public import proofs.«01_k».proof.Proof.MmTnRuns
public import proofs.«01_k».proof.Proof.Gen.FfnBack
public import proofs.«01_k».proof.Proof.Gen.FfnBack.Skeleton
public import proofs.«01_k».proof.Proof.Gen.FfnBack.Launch
public import proofs.«01_k».proof.Proof.Gen.FfnBack.Points
public import proofs.«01_k».proof.Proof.Gen.FfnBack.Frame
public import proofs.«01_k».proof.Proof.Gen.FfnBackIdeal
public import proofs.«01_k».proof.Proof.Gen.FfnBackIdeal.Skeleton
public import proofs.«01_k».proof.Proof.Gen.FfnBackIdeal.Launch
public import proofs.«01_k».proof.Proof.Gen.FfnBackIdeal.Points
public import proofs.«01_k».proof.Proof.Gen.FfnBackIdeal.Frame
public import proofs.«01_k».proof.Proof.Gen.FfnBackIdeal.Value
public import proofs.«01_k».proof.Proof.Gen.FfnBackRefIdeal
public import proofs.«01_k».proof.Proof.Gen.FfnBackRefIdeal.Run
public import proofs.«01_k».proof.Proof.Gen.FfnBackRefIdeal.Read
public import proofs.«01_k».proof.Proof.FfnBackRuns
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.AdamWRuns
public import proofs.«01_k».proof.Proof.Gen.SumSlots
public import proofs.«01_k».proof.Proof.Gen.SumSlots.Skeleton
public import proofs.«01_k».proof.Proof.Gen.SumSlots.Launch
public import proofs.«01_k».proof.Proof.Gen.SumSlots.Points
public import proofs.«01_k».proof.Proof.Gen.SumSlots.Frame
public import proofs.«01_k».proof.Proof.Gen.SumSlotsIdeal
public import proofs.«01_k».proof.Proof.Gen.SumSlotsIdeal.Skeleton
public import proofs.«01_k».proof.Proof.Gen.SumSlotsIdeal.Launch
public import proofs.«01_k».proof.Proof.Gen.SumSlotsIdeal.Points
public import proofs.«01_k».proof.Proof.Gen.SumSlotsIdeal.Frame
public import proofs.«01_k».proof.Proof.Gen.SumSlotsIdeal.Value
public import proofs.«01_k».proof.Proof.Gen.SumSlotsRefIdeal
public import proofs.«01_k».proof.Proof.Gen.SumSlotsRefIdeal.Run
public import proofs.«01_k».proof.Proof.Gen.SumSlotsRefIdeal.Read
public import proofs.«01_k».proof.Proof.SumSlotsRuns
public import Idealize.ShloMosaic.Lib.Claim
public import Idealize.ShloMosaic.Adequacy
public import Idealize.ShloMosaic.Init

@[expose] public section

noncomputable section

namespace Cert.Proof

open Idealize.ShloMosaic Idealize.SL.Sem

/-! ## The gradient of a layer norm -/

theorem frame_LnBwdRef : Cert.quiescent_LnBwdRefIdeal := fun m ρ _ =>
  (θ_run _ _ _).mono (fun _ h => ⟨fun c => (h c).2.2.2.2, sem_eq_zero_of_no_sems rfl _⟩) (Cert.LnBwdRefIdeal.Value.run m ρ)

theorem algebraic_LnBwd : Cert.algebraic_LnBwdIdeal_LnBwdRefIdeal_pre_ln_finite := by
  pair_intro
  · exact Cert.LnBwdIdeal.Ln.run m g (fun c => Cert.LnBwdIdeal.Ln.fin3 _ _ _ _ (hpre c))
  · refine (θ_run _ _ _).mono (fun r h c => ?_) (Cert.LnBwdRefIdeal.Ln.run m' g' fun c => ?_)
    all_goals obtain ⟨h0, h1, h2, h3⟩ := hagree c
    · rw [← h0, ← h1, ← h3]; exact h c
    · rw [h0, h1, h3]; exact Cert.LnBwdIdeal.Ln.fin3 _ _ _ _ (hpre c)

/-! ## The gradient of the depthwise convolution -/

theorem frame_ConvBwdRef : Cert.quiescent_ConvBwdRefIdeal := fun m ρ _ =>
  (θ_run _ _ _).mono (fun _ h => ⟨fun c => (h c).2.2.2, sem_eq_zero_of_no_sems rfl _⟩) (Cert.ConvBwdRefIdeal.Value.run m ρ)

theorem algebraic_ConvBwd : Cert.algebraic_ConvBwdIdeal_ConvBwdRefIdeal := by
  pair_intro
  · exact Cert.ConvBwdIdeal.Cv.run m g
  · refine (θ_run _ _ _).mono (fun r h c => ?_) (Cert.ConvBwdRefIdeal.Cv.run m' g')
    obtain ⟨h0, h1, h2, h3⟩ := hagree c
    rw [← h0, ← h1, ← h3]; exact h c

/-! ## The gradient of the convolution under its activation -/

theorem frame_ConvActBwdRef : Cert.quiescent_ConvActBwdRefIdeal := fun m ρ _ =>
  (θ_run _ _ _).mono (fun _ h => ⟨fun c => (h c).2.2, sem_eq_zero_of_no_sems rfl _⟩) (Cert.ConvActBwdRefIdeal.Value.run m ρ)

theorem algebraic_ConvActBwd : Cert.algebraic_ConvActBwdIdeal_ConvActBwdRefIdeal_pre_convact_finite := by
  pair_intro
  · exact Cert.ConvActBwdIdeal.Cv.run m g
  · refine (θ_run _ _ _).mono (fun r h c => ?_) (Cert.ConvActBwdRefIdeal.Cv.run m' g' fun c => ?_)
    all_goals obtain ⟨h0, h1, h2⟩ := hagree c
    · rw [← h0, ← h1, ← h2]; exact h c
    · rw [h0, h1, h2]; exact Cert.ConvActBwdRefIdeal.Cv.reals _ _ _ (hpre c)

/-! ## The loss and its gradient -/

theorem frame_LossHeadRef : Cert.quiescent_LossHeadRefIdeal := fun m ρ _ =>
  (θ_run _ _ _).mono (fun _ h => ⟨fun c => (h c).2.2, sem_eq_zero_of_no_sems rfl _⟩) (Cert.LossHeadRefIdeal.Value.run m ρ)

theorem algebraic_LossHead : Cert.algebraic_LossHeadIdeal_LossHeadRefIdeal_pre_loss_finite := by
  pair_intro
  · exact Cert.LossHeadIdeal.Ls.run m g fun c => Cert.LossHeadRefIdeal.Ls.reals _ _ (hpre c)
  · refine (θ_run _ _ _).mono (fun r h c => ?_) (Cert.LossHeadRefIdeal.Ls.run m' g' fun c => ?_)
    all_goals obtain ⟨h0, h1⟩ := hagree c
    · rw [← h0, ← h1]; exact h c
    · rw [h0, h1]; exact Cert.LossHeadRefIdeal.Ls.reals _ _ (hpre c)
/-! ## The feed-forward's input gradient, with the layer norm before it -/

theorem frame_FfnInBwdRef : Cert.quiescent_FfnInBwdRefIdeal := fun m ρ _ =>
  (θ_run _ _ _).mono (fun _ h => ⟨fun c => (h c).2.2.2.2, sem_eq_zero_of_no_sems rfl _⟩) (Cert.FfnInBwdRefIdeal.Value.run m ρ)

theorem algebraic_FfnInBwd : Cert.algebraic_FfnInBwdIdeal_FfnInBwdRefIdeal_pre_ffnx_finite := by
  pair_intro
  · exact Cert.FfnInBwdIdeal.Fx.run m g (fun c => Cert.FfnInBwdRefIdeal.Fx.reals _ _ _ _ _ _ _ _ (hpre c))
  · refine (θ_run _ _ _).mono (fun r h c => ?_) (Cert.FfnInBwdRefIdeal.Fx.run m' g' fun c => ?_)
    all_goals obtain ⟨h0, h1, h2, h3, h4, h5, h6, h7⟩ := hagree c
    · rw [← h0, ← h1, ← h3, ← h4, ← h5, ← h6, ← h7]; exact h c
    · rw [h0, h1, h3, h4, h5, h6, h7]; exact Cert.FfnInBwdRefIdeal.Fx.reals _ _ _ _ _ _ _ _ (hpre c)
/-! ## The gated feed-forward's gradients: of its two products and of its three weights -/

theorem frame_FfnWBwdRef : Cert.quiescent_FfnWBwdRefIdeal := fun m ρ _ =>
  (θ_run _ _ _).mono (fun _ h => ⟨fun c => (h c).2.2.2.2.2, sem_eq_zero_of_no_sems rfl _⟩) (Cert.FfnWBwdRefIdeal.Value.run m ρ)

theorem algebraic_FfnWBwd : Cert.algebraic_FfnWBwdIdeal_FfnWBwdRefIdeal_pre_ffnw_finite := by
  pair_intro
  · exact Cert.FfnWBwdIdeal.Fw.run m g (fun c => Cert.FfnWBwdRefIdeal.Fw.reals _ _ _ _ _ (hpre c))
  · refine (θ_run _ _ _).mono (fun r h c => ?_) (Cert.FfnWBwdRefIdeal.Fw.run m' g' fun c => ?_)
    all_goals obtain ⟨h0, h1, h2, h3, h4⟩ := hagree c
    · rw [← h0, ← h1, ← h2, ← h3, ← h4]; exact h c
    · rw [h0, h1, h2, h3, h4]; exact Cert.FfnWBwdRefIdeal.Fw.reals _ _ _ _ _ (hpre c)

/-! ## The gated embedding's gradient, with the layer norm before it -/

theorem frame_PleBwdRef : Cert.quiescent_PleBwdRefIdeal := fun m ρ _ =>
  (θ_run _ _ _).mono (fun _ h => ⟨fun c => (h c).2.2.2.2.2.2.2, sem_eq_zero_of_no_sems rfl _⟩) (Cert.PleBwdRefIdeal.Value.run m ρ)

theorem algebraic_PleBwd : Cert.algebraic_PleBwdIdeal_PleBwdRefIdeal_pre_ple_finite := by
  pair_intro
  · exact Cert.PleBwdIdeal.Pl.run m g (fun c => Cert.PleBwdRefIdeal.Pl.reals _ _ _ _ _ _ _ _ (hpre c))
  · refine (θ_run _ _ _).mono (fun r h c => ?_) (Cert.PleBwdRefIdeal.Pl.run m' g' fun c => ?_)
    all_goals obtain ⟨h0, h1, h2, h3, h4, h5, h6, h7⟩ := hagree c
    · rw [← h0, ← h1, ← h2, ← h3, ← h4, ← h5, ← h6, ← h7]; exact h c
    · rw [h0, h1, h2, h3, h4, h5, h6, h7]; exact Cert.PleBwdRefIdeal.Pl.reals _ _ _ _ _ _ _ _ (hpre c)

/-! ## The gated recurrence's gradient -/

theorem frame_RglruBwdRef : Cert.quiescent_RglruBwdRefIdeal := fun m ρ _ =>
  (θ_run _ _ _).mono (fun _ h => ⟨fun c => (h c).2.2.2.2.2, sem_eq_zero_of_no_sems rfl _⟩) (Cert.RglruBwdRefIdeal.Value.run m ρ)

theorem algebraic_RglruBwd : Cert.algebraic_RglruBwdIdeal_RglruBwdRefIdeal_pre_rglru_finite := by
  pair_intro
  · exact Cert.RglruBwdIdeal.Rg.run m g (fun c => Cert.RglruBwdRefIdeal.Rg.reals _ _ _ _ _ _ _ _ (hpre c))
  · refine (θ_run _ _ _).mono (fun r h c => ?_) (Cert.RglruBwdRefIdeal.Rg.run m' g' fun c => ?_)
    all_goals obtain ⟨h0, h1, h2, h3, h4, h5, h6, h7⟩ := hagree c
    · rw [← h0, ← h1, ← h2, ← h3, ← h4, ← h5, ← h6, ← h7]; exact h c
    · rw [h0, h1, h2, h3, h4, h5, h6, h7]; exact Cert.RglruBwdRefIdeal.Rg.reals _ _ _ _ _ _ _ _ (hpre c)

/-! ## The convolution -/

theorem frame_ConvFwdRef : Cert.quiescent_ConvFwdRefIdeal := fun m ρ _ =>
  (θ_run _ _ _).mono (fun _ h => ⟨fun c => (h c).2, sem_eq_zero_of_no_sems rfl _⟩) (Cert.ConvFwdRefIdeal.Value.run m ρ)

theorem algebraic_ConvFwd : Cert.algebraic_ConvFwdIdeal_ConvFwdRefIdeal := by
  pair_intro
  · exact Cert.ConvFwdIdeal.Cv.run m g
  · refine (θ_run _ _ _).mono (fun r h c => ?_) (Cert.ConvFwdRefIdeal.Cv.run m' g')
    obtain ⟨h0, h1, h2⟩ := hagree c
    rw [← h0, ← h1, ← h2]; exact h c

/-! ## The activated convolution -/

theorem frame_ConvActFwdRef : Cert.quiescent_ConvActFwdRefIdeal := fun m ρ _ =>
  (θ_run _ _ _).mono (fun _ h => ⟨fun c => (h c).2, sem_eq_zero_of_no_sems rfl _⟩) (Cert.ConvActFwdRefIdeal.Value.run m ρ)

theorem algebraic_ConvActFwd : Cert.algebraic_ConvActFwdIdeal_ConvActFwdRefIdeal := by
  pair_intro
  · exact Cert.ConvActFwdIdeal.Cv.run m g
  · refine (θ_run _ _ _).mono (fun r h c => ?_) (Cert.ConvActFwdRefIdeal.Cv.run m' g')
    obtain ⟨h0, h1⟩ := hagree c
    rw [← h0, ← h1]; exact h c

/-! ## The gated embedding -/

theorem frame_PleFwdRef : Cert.quiescent_PleFwdRefIdeal := fun m ρ _ =>
  (θ_run _ _ _).mono (fun _ h => ⟨fun c => (h c).2.2, sem_eq_zero_of_no_sems rfl _⟩) (Cert.PleFwdRefIdeal.Value.run m ρ)

theorem algebraic_PleFwd : Cert.algebraic_PleFwdIdeal_PleFwdRefIdeal := by
  pair_intro
  · exact Cert.PleFwdIdeal.Pl.run m g
  · refine (θ_run _ _ _).mono (fun r h c => ?_) (Cert.PleFwdRefIdeal.Pl.run m' g')
    obtain ⟨h0, h1, h2, h3, h4⟩ := hagree c
    rw [← h0, ← h1, ← h2, ← h3, ← h4]; exact h c

/-! ## The feed-forward -/

theorem frame_FfnFwdRef : Cert.quiescent_FfnFwdRefIdeal := fun m ρ _ =>
  (θ_run _ _ _).mono (fun _ h => ⟨fun c => (h c).2.2.2, sem_eq_zero_of_no_sems rfl _⟩) (Cert.FfnFwdRefIdeal.Value.run m ρ)

theorem algebraic_FfnFwd : Cert.algebraic_FfnFwdIdeal_FfnFwdRefIdeal := by
  pair_intro
  · exact Cert.FfnFwdIdeal.Ff.run m g
  · refine (θ_run _ _ _).mono (fun r h c => ?_) (Cert.FfnFwdRefIdeal.Ff.run m' g')
    obtain ⟨h0, h1, h2, h3, h4, h5⟩ := hagree c
    rw [← h0, ← h1, ← h2, ← h3, ← h4, ← h5]; exact h c

/-! ## The output projection -/

theorem frame_ProjLnRef : Cert.quiescent_ProjLnRefIdeal := fun m ρ _ =>
  (θ_run _ _ _).mono (fun _ h => ⟨fun c => (h c).2.2.2, sem_eq_zero_of_no_sems rfl _⟩) (Cert.ProjLnRefIdeal.Value.run m ρ)

theorem algebraic_ProjLn : Cert.algebraic_ProjLnIdeal_ProjLnRefIdeal := by
  pair_intro
  · exact Cert.ProjLnIdeal.Pj.run m g
  · refine (θ_run _ _ _).mono (fun r h c => ?_) (Cert.ProjLnRefIdeal.Pj.run m' g')
    obtain ⟨h0, h1, h2, h3, h4, h5⟩ := hagree c
    rw [← h0, ← h1, ← h2, ← h3, ← h4, ← h5]; exact h c

/-! ## The gated recurrence -/

theorem frame_RglruFwdRef : Cert.quiescent_RglruFwdRefIdeal := fun m ρ _ =>
  (θ_run _ _ _).mono (fun _ h => ⟨fun c => (h c).2.2, sem_eq_zero_of_no_sems rfl _⟩) (Cert.RglruFwdRefIdeal.Value.run m ρ)

theorem algebraic_RglruFwd : Cert.algebraic_RglruFwdIdeal_RglruFwdRefIdeal_pre_rgf_finite := by
  pair_intro
  · exact Cert.RglruFwdIdeal.Rgf.run m g (fun c => Cert.RglruFwdRefIdeal.Rgf.reals _ _ _ _ _ _ _ (hpre c))
  · refine (θ_run _ _ _).mono (fun r h c => ?_) (Cert.RglruFwdRefIdeal.Rgf.run m' g' fun c => ?_)
    all_goals obtain ⟨h0, h1, h2, h3, h4, h5, h6⟩ := hagree c
    · rw [← h0, ← h1, ← h2, ← h3, ← h4, ← h5, ← h6]; exact h c
    · rw [h0, h1, h2, h3, h4, h5, h6]; exact Cert.RglruFwdRefIdeal.Rgf.reals _ _ _ _ _ _ _ (hpre c)

/-! ## A plain product carried back -/

theorem frame_MmNnRef : Cert.quiescent_MmNnRefIdeal := fun m ρ _ =>
  (θ_run _ _ _).mono (fun _ h => ⟨fun c => (h c).2, sem_eq_zero_of_no_sems rfl _⟩) (Cert.MmNnRefIdeal.Value.run m ρ)

theorem algebraic_MmNn : Cert.algebraic_MmNnIdeal_MmNnRefIdeal := by
  pair_intro
  · exact Cert.MmNnIdeal.Mm.run m g
  · refine (θ_run _ _ _).mono (fun r h c => ?_) (Cert.MmNnRefIdeal.Mm.run m' g')
    obtain ⟨h0, h1, h2⟩ := hagree c
    rw [← h0, ← h1, ← h2]; exact h c

/-! ## A plain product over rows -/

theorem frame_MmTnRef : Cert.quiescent_MmTnRefIdeal := fun m ρ _ =>
  (θ_run _ _ _).mono (fun _ h => ⟨fun c => (h c).2, sem_eq_zero_of_no_sems rfl _⟩) (Cert.MmTnRefIdeal.Value.run m ρ)

theorem algebraic_MmTn : Cert.algebraic_MmTnIdeal_MmTnRefIdeal := by
  pair_intro
  · exact Cert.MmTnIdeal.Mm.run m g
  · refine (θ_run _ _ _).mono (fun r h c => ?_) (Cert.MmTnRefIdeal.Mm.run m' g')
    obtain ⟨h0, h1⟩ := hagree c
    rw [← h0, ← h1]; exact h c

/-! ## The gradient of the feed-forward's input -/

theorem frame_FfnBackRef : Cert.quiescent_FfnBackRefIdeal := fun m ρ _ =>
  (θ_run _ _ _).mono (fun _ h => ⟨fun c => (h c).2, sem_eq_zero_of_no_sems rfl _⟩) (Cert.FfnBackRefIdeal.Value.run m ρ)

theorem algebraic_FfnBack : Cert.algebraic_FfnBackIdeal_FfnBackRefIdeal := by
  pair_intro
  · exact Cert.FfnBackIdeal.Mm.run m g
  · refine (θ_run _ _ _).mono (fun r h c => ?_) (Cert.FfnBackRefIdeal.Mm.run m' g')
    obtain ⟨h0, h1, h2, h3, h4⟩ := hagree c
    rw [← h0, ← h1, ← h2, ← h3, ← h4]; exact h c

/-! ## The optimiser -/

theorem frame_AdamWRef : Cert.quiescent_AdamWRefIdeal := fun m ρ _ =>
  (θ_run _ _ _).mono (fun _ h => ⟨fun c => (h c).2.2.2, sem_eq_zero_of_no_sems rfl _⟩) (Cert.AdamWRefIdeal.Value.run m ρ)

theorem algebraic_AdamW : Cert.algebraic_AdamWIdeal_AdamWRefIdeal := by
  pair_intro
  · exact Cert.AdamWIdeal.Ad.run m g
  · refine (θ_run _ _ _).mono (fun r h c => ?_) (Cert.AdamWRefIdeal.Ad.run m' g')
    obtain ⟨h0, h1, h2, h3⟩ := hagree c
    rw [← h0, ← h1, ← h2, ← h3]; exact h c

/-! ## The sum of the parts -/

theorem frame_SumSlotsRef : Cert.quiescent_SumSlotsRefIdeal := fun m ρ _ =>
  (θ_run _ _ _).mono (fun _ h => ⟨fun c => (h c).2, sem_eq_zero_of_no_sems rfl _⟩) (Cert.SumSlotsRefIdeal.Value.run m ρ)

theorem algebraic_SumSlots : Cert.algebraic_SumSlotsIdeal_SumSlotsRefIdeal := by
  pair_intro
  · exact Cert.SumSlotsIdeal.Ad.run m g
  · refine (θ_run _ _ _).mono (fun r h c => ?_) (Cert.SumSlotsRefIdeal.Ad.run m' g')
    rw [← hagree c]; exact h c

theorem claim : Cert.Claim :=
  ⟨Cert.LnBwd.Gen.facts, Cert.LnBwdIdeal.Gen.facts, Cert.LnBwdRefIdeal.Gen.facts, Cert.ConvBwd.Gen.facts, Cert.ConvBwdIdeal.Gen.facts,
    Cert.ConvBwdRefIdeal.Gen.facts, Cert.ConvActBwd.Gen.facts, Cert.ConvActBwdIdeal.Gen.facts, Cert.ConvActBwdRefIdeal.Gen.facts,
    Cert.LossHead.Gen.facts, Cert.LossHeadIdeal.Gen.facts, Cert.LossHeadRefIdeal.Gen.facts, Cert.FfnInBwd.Gen.facts, Cert.FfnInBwdIdeal.Gen.facts,
    Cert.FfnInBwdRefIdeal.Gen.facts, Cert.FfnWBwd.Gen.facts, Cert.FfnWBwdIdeal.Gen.facts, Cert.FfnWBwdRefIdeal.Gen.facts, Cert.PleBwd.Gen.facts,
    Cert.PleBwdIdeal.Gen.facts, Cert.PleBwdRefIdeal.Gen.facts, Cert.RglruBwd.Gen.facts, Cert.RglruBwdIdeal.Gen.facts,
    Cert.RglruBwdRefIdeal.Gen.facts, Cert.ConvFwd.Gen.facts, Cert.ConvFwdIdeal.Gen.facts, Cert.ConvFwdRefIdeal.Gen.facts, Cert.ConvActFwd.Gen.facts,
    Cert.ConvActFwdIdeal.Gen.facts, Cert.ConvActFwdRefIdeal.Gen.facts, Cert.PleFwd.Gen.facts, Cert.PleFwdIdeal.Gen.facts,
    Cert.PleFwdRefIdeal.Gen.facts, Cert.FfnFwd.Gen.facts, Cert.FfnFwdIdeal.Gen.facts, Cert.FfnFwdRefIdeal.Gen.facts, Cert.ProjLn.Gen.facts,
    Cert.ProjLnIdeal.Gen.facts, Cert.ProjLnRefIdeal.Gen.facts, Cert.RglruFwd.Gen.facts, Cert.RglruFwdIdeal.Gen.facts,
    Cert.RglruFwdRefIdeal.Gen.facts, Cert.MmNn.Gen.facts, Cert.MmNnIdeal.Gen.facts, Cert.MmNnRefIdeal.Gen.facts, Cert.MmTn.Gen.facts,
    Cert.MmTnIdeal.Gen.facts, Cert.MmTnRefIdeal.Gen.facts, Cert.FfnBack.Gen.facts, Cert.FfnBackIdeal.Gen.facts, Cert.FfnBackRefIdeal.Gen.facts,
    Cert.AdamW.Gen.facts, Cert.AdamWIdeal.Gen.facts, Cert.AdamWRefIdeal.Gen.facts, Cert.SumSlots.Gen.facts, Cert.SumSlotsIdeal.Gen.facts,
    Cert.SumSlotsRefIdeal.Gen.facts, Cert.Pre_ln_finite.Gen.facts, Cert.Pre_convact_finite.Gen.facts, Cert.Pre_loss_finite.Gen.facts,
    Cert.Pre_ffnx_finite.Gen.facts, Cert.Pre_ffnw_finite.Gen.facts, Cert.Pre_ple_finite.Gen.facts, Cert.Pre_rglru_finite.Gen.facts,
    Cert.Pre_rgf_finite.Gen.facts, fun m ρ _ => Cert.LnBwd.Gen.frame m ρ, fun m ρ _ => Cert.LnBwdIdeal.Gen.frame m ρ,
    fun m ρ _ => Cert.LnBwdIdeal.Gen.frame m ρ, frame_LnBwdRef, fun m ρ _ => frame_LnBwdRef m ρ trivial, fun m ρ _ => Cert.ConvBwd.Gen.frame m ρ,
    fun m ρ _ => Cert.ConvBwdIdeal.Gen.frame m ρ, frame_ConvBwdRef, fun m ρ _ => Cert.ConvActBwd.Gen.frame m ρ,
    fun m ρ _ => Cert.ConvActBwdIdeal.Gen.frame m ρ, fun m ρ _ => Cert.ConvActBwdIdeal.Gen.frame m ρ, frame_ConvActBwdRef,
    fun m ρ _ => frame_ConvActBwdRef m ρ trivial, fun m ρ _ => Cert.LossHead.Gen.frame m ρ, fun m ρ _ => Cert.LossHeadIdeal.Gen.frame m ρ,
    fun m ρ _ => Cert.LossHeadIdeal.Gen.frame m ρ, frame_LossHeadRef, fun m ρ _ => frame_LossHeadRef m ρ trivial,
    fun m ρ _ => Cert.FfnInBwd.Gen.frame m ρ, fun m ρ _ => Cert.FfnInBwdIdeal.Gen.frame m ρ, fun m ρ _ => Cert.FfnInBwdIdeal.Gen.frame m ρ,
    frame_FfnInBwdRef, fun m ρ _ => frame_FfnInBwdRef m ρ trivial, fun m ρ _ => Cert.FfnWBwd.Gen.frame m ρ,
    fun m ρ _ => Cert.FfnWBwdIdeal.Gen.frame m ρ, fun m ρ _ => Cert.FfnWBwdIdeal.Gen.frame m ρ, frame_FfnWBwdRef,
    fun m ρ _ => frame_FfnWBwdRef m ρ trivial, fun m ρ _ => Cert.PleBwd.Gen.frame m ρ, fun m ρ _ => Cert.PleBwdIdeal.Gen.frame m ρ,
    fun m ρ _ => Cert.PleBwdIdeal.Gen.frame m ρ, frame_PleBwdRef, fun m ρ _ => frame_PleBwdRef m ρ trivial, fun m ρ _ => Cert.RglruBwd.Gen.frame m ρ,
    fun m ρ _ => Cert.RglruBwdIdeal.Gen.frame m ρ, fun m ρ _ => Cert.RglruBwdIdeal.Gen.frame m ρ, frame_RglruBwdRef,
    fun m ρ _ => frame_RglruBwdRef m ρ trivial, fun m ρ _ => Cert.ConvFwd.Gen.frame m ρ, fun m ρ _ => Cert.ConvFwdIdeal.Gen.frame m ρ,
    frame_ConvFwdRef, fun m ρ _ => Cert.ConvActFwd.Gen.frame m ρ, fun m ρ _ => Cert.ConvActFwdIdeal.Gen.frame m ρ, frame_ConvActFwdRef,
    fun m ρ _ => Cert.PleFwd.Gen.frame m ρ, fun m ρ _ => Cert.PleFwdIdeal.Gen.frame m ρ, frame_PleFwdRef, fun m ρ _ => Cert.FfnFwd.Gen.frame m ρ,
    fun m ρ _ => Cert.FfnFwdIdeal.Gen.frame m ρ, frame_FfnFwdRef, fun m ρ _ => Cert.ProjLn.Gen.frame m ρ,
    fun m ρ _ => Cert.ProjLnIdeal.Gen.frame m ρ, frame_ProjLnRef, fun m ρ _ => Cert.RglruFwd.Gen.frame m ρ,
    fun m ρ _ => Cert.RglruFwdIdeal.Gen.frame m ρ, fun m ρ _ => Cert.RglruFwdIdeal.Gen.frame m ρ, frame_RglruFwdRef,
    fun m ρ _ => frame_RglruFwdRef m ρ trivial, fun m ρ _ => Cert.MmNn.Gen.frame m ρ, fun m ρ _ => Cert.MmNnIdeal.Gen.frame m ρ, frame_MmNnRef,
    fun m ρ _ => Cert.MmTn.Gen.frame m ρ, fun m ρ _ => Cert.MmTnIdeal.Gen.frame m ρ, frame_MmTnRef, fun m ρ _ => Cert.FfnBack.Gen.frame m ρ,
    fun m ρ _ => Cert.FfnBackIdeal.Gen.frame m ρ, frame_FfnBackRef, fun m ρ _ => Cert.AdamW.Gen.frame m ρ,
    fun m ρ _ => Cert.AdamWIdeal.Gen.frame m ρ, frame_AdamWRef, fun m ρ _ => Cert.SumSlots.Gen.frame m ρ,
    fun m ρ _ => Cert.SumSlotsIdeal.Gen.frame m ρ, frame_SumSlotsRef, trivial, algebraic_LnBwd, trivial, algebraic_ConvBwd, trivial,
    algebraic_ConvActBwd, trivial, algebraic_LossHead, trivial, algebraic_FfnInBwd, trivial, algebraic_FfnWBwd, trivial, algebraic_PleBwd, trivial,
    algebraic_RglruBwd, trivial, algebraic_ConvFwd, trivial, algebraic_ConvActFwd, trivial, algebraic_PleFwd, trivial, algebraic_FfnFwd, trivial,
    algebraic_ProjLn, trivial, algebraic_RglruFwd, trivial, algebraic_MmNn, trivial, algebraic_MmTn, trivial, algebraic_FfnBack, trivial,
    algebraic_AdamW, trivial, algebraic_SumSlots⟩

end Cert.Proof

end
